-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactIdeal_finite_dact [hPre_finite_dact : Cert.Pre_finite_dact.Facts] (m : (ℓ : Loc Cert.DactIdeal.nD Cert.DactIdeal.τ Cert.DactIdeal.sig) → Buf (Elt Ideal) ℓ) : Prop :=
  ∀ c : Dev Cert.DactIdeal.nD,
    (Cert.Pre_finite_dact.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).1 = (fun _ => 1#1)
    ∧ (Cert.Pre_finite_dact.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).2.1 = (fun _ => 1#1)
    ∧ (Cert.Pre_finite_dact.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).2.2 = (fun _ => 1#1)

def Pre_RefDactIdeal (m : (ℓ : Loc Cert.RefDactIdeal.nD Cert.RefDactIdeal.τ Cert.RefDactIdeal.sig) → Buf (Elt Ideal) ℓ) : Prop :=
  True

def Pre_RefDactIdeal_finite_dact [hPre_finite_dact : Cert.Pre_finite_dact.Facts] (m : (ℓ : Loc Cert.RefDactIdeal.nD Cert.RefDactIdeal.τ Cert.RefDactIdeal.sig) → Buf (Elt Ideal) ℓ) : Prop :=
  ∀ c : Dev Cert.RefDactIdeal.nD,
    (Cert.Pre_finite_dact.fn (F := Ideal) (m ((c.tc : Thread Cert.RefDactIdeal.nD Cert.RefDactIdeal.τ).loc Cert.RefDactIdeal.main_arg0)) (m ((c.tc : Thread Cert.RefDactIdeal.nD Cert.RefDactIdeal.τ).loc Cert.RefDactIdeal.main_arg1)) (m ((c.tc : Thread Cert.RefDactIdeal.nD Cert.RefDactIdeal.τ).loc Cert.RefDactIdeal.main_arg2)) (m ((c.tc : Thread Cert.RefDactIdeal.nD Cert.RefDactIdeal.τ).loc Cert.RefDactIdeal.main_arg3))).1 = (fun _ => 1#1)
    ∧ (Cert.Pre_finite_dact.fn (F := Ideal) (m ((c.tc : Thread Cert.RefDactIdeal.nD Cert.RefDactIdeal.τ).loc Cert.RefDactIdeal.main_arg0)) (m ((c.tc : Thread Cert.RefDactIdeal.nD Cert.RefDactIdeal.τ).loc Cert.RefDactIdeal.main_arg1)) (m ((c.tc : Thread Cert.RefDactIdeal.nD Cert.RefDactIdeal.τ).loc Cert.RefDactIdeal.main_arg2)) (m ((c.tc : Thread Cert.RefDactIdeal.nD Cert.RefDactIdeal.τ).loc Cert.RefDactIdeal.main_arg3))).2.1 = (fun _ => 1#1)
    ∧ (Cert.Pre_finite_dact.fn (F := Ideal) (m ((c.tc : Thread Cert.RefDactIdeal.nD Cert.RefDactIdeal.τ).loc Cert.RefDactIdeal.main_arg0)) (m ((c.tc : Thread Cert.RefDactIdeal.nD Cert.RefDactIdeal.τ).loc Cert.RefDactIdeal.main_arg1)) (m ((c.tc : Thread Cert.RefDactIdeal.nD Cert.RefDactIdeal.τ).loc Cert.RefDactIdeal.main_arg2)) (m ((c.tc : Thread Cert.RefDactIdeal.nD Cert.RefDactIdeal.τ).loc Cert.RefDactIdeal.main_arg3))).2.2 = (fun _ => 1#1)

def Pre_Dwd (m : (ℓ : Loc Cert.Dwd.nD Cert.Dwd.τ Cert.Dwd.sig) → Buf (Elt Bits) ℓ) : Prop :=
  True

def Pre_DwdIdeal (m : (ℓ : Loc Cert.DwdIdeal.nD Cert.DwdIdeal.τ Cert.DwdIdeal.sig) → Buf (Elt Ideal) ℓ) : Prop :=
  True

def Pre_RefDwdIdeal (m : (ℓ : Loc Cert.RefDwdIdeal.nD Cert.RefDwdIdeal.τ Cert.RefDwdIdeal.sig) → Buf (Elt Ideal) ℓ) : Prop :=
  True

def Pre_Dwg (m : (ℓ : Loc Cert.Dwg.nD Cert.Dwg.τ Cert.Dwg.sig) → Buf (Elt Bits) ℓ) : Prop :=
  True

def Pre_DwgIdeal (m : (ℓ : Loc Cert.DwgIdeal.nD Cert.DwgIdeal.τ Cert.DwgIdeal.sig) → Buf (Elt Ideal) ℓ) : Prop :=
  True

def Pre_RefDwgIdeal (m : (ℓ : Loc Cert.RefDwgIdeal.nD Cert.RefDwgIdeal.τ Cert.RefDwgIdeal.sig) → Buf (Elt Ideal) ℓ) : Prop :=
  True

def Pre_Dgrad (m : (ℓ : Loc Cert.Dgrad.nD Cert.Dgrad.τ Cert.Dgrad.sig) → Buf (Elt Bits) ℓ) : Prop :=
  True

def Pre_DgradIdeal (m : (ℓ : Loc Cert.DgradIdeal.nD Cert.DgradIdeal.τ Cert.DgradIdeal.sig) → Buf (Elt Ideal) ℓ) : Prop :=
  True

def Pre_DgradIdeal_finite_dgrad [hPre_finite_dgrad : Cert.Pre_finite_dgrad.Facts] (m : (ℓ : Loc Cert.DgradIdeal.nD Cert.DgradIdeal.τ Cert.DgradIdeal.sig) → Buf (Elt Ideal) ℓ) : Prop :=
  ∀ c : Dev Cert.DgradIdeal.nD,
    (Cert.Pre_finite_dgrad.fn (F := Ideal) (m ((c.tc : Thread Cert.DgradIdeal.nD Cert.DgradIdeal.τ).loc Cert.DgradIdeal.main_arg0)) (m ((c.tc : Thread Cert.DgradIdeal.nD Cert.DgradIdeal.τ).loc Cert.DgradIdeal.main_arg1)) (m ((c.tc : Thread Cert.DgradIdeal.nD Cert.DgradIdeal.τ).loc Cert.DgradIdeal.main_arg2)) (m ((c.tc : Thread Cert.DgradIdeal.nD Cert.DgradIdeal.τ).loc Cert.DgradIdeal.main_arg3)) (m ((c.tc : Thread Cert.DgradIdeal.nD Cert.DgradIdeal.τ).loc Cert.DgradIdeal.main_arg4)) (m ((c.tc : Thread Cert.DgradIdeal.nD Cert.DgradIdeal.τ).loc Cert.DgradIdeal.main_arg5)) (m ((c.tc : Thread Cert.DgradIdeal.nD Cert.DgradIdeal.τ).loc Cert.DgradIdeal.main_arg6)) (m ((c.tc : Thread Cert.DgradIdeal.nD Cert.DgradIdeal.τ).loc Cert.DgradIdeal.main_arg7))).1 = (fun _ => 1#1)
    ∧ (Cert.Pre_finite_dgrad.fn (F := Ideal) (m ((c.tc : Thread Cert.DgradIdeal.nD Cert.DgradIdeal.τ).loc Cert.DgradIdeal.main_arg0)) (m ((c.tc : Thread Cert.DgradIdeal.nD Cert.DgradIdeal.τ).loc Cert.DgradIdeal.main_arg1)) (m ((c.tc : Thread Cert.DgradIdeal.nD Cert.DgradIdeal.τ).loc Cert.DgradIdeal.main_arg2)) (m ((c.tc : Thread Cert.DgradIdeal.nD Cert.DgradIdeal.τ).loc Cert.DgradIdeal.main_arg3)) (m ((c.tc : Thread Cert.DgradIdeal.nD Cert.DgradIdeal.τ).loc Cert.DgradIdeal.main_arg4)) (m ((c.tc : Thread Cert.DgradIdeal.nD Cert.DgradIdeal.τ).loc Cert.DgradIdeal.main_arg5)) (m ((c.tc : Thread Cert.DgradIdeal.nD Cert.DgradIdeal.τ).loc Cert.DgradIdeal.main_arg6)) (m ((c.tc : Thread Cert.DgradIdeal.nD Cert.DgradIdeal.τ).loc Cert.DgradIdeal.main_arg7))).2.1 = (fun _ => 1#1)
    ∧ (Cert.Pre_finite_dgrad.fn (F := Ideal) (m ((c.tc : Thread Cert.DgradIdeal.nD Cert.DgradIdeal.τ).loc Cert.DgradIdeal.main_arg0)) (m ((c.tc : Thread Cert.DgradIdeal.nD Cert.DgradIdeal.τ).loc Cert.DgradIdeal.main_arg1)) (m ((c.tc : Thread Cert.DgradIdeal.nD Cert.DgradIdeal.τ).loc Cert.DgradIdeal.main_arg2)) (m ((c.tc : Thread Cert.DgradIdeal.nD Cert.DgradIdeal.τ).loc Cert.DgradIdeal.main_arg3)) (m ((c.tc : Thread Cert.DgradIdeal.nD Cert.DgradIdeal.τ).loc Cert.DgradIdeal.main_arg4)) (m ((c.tc : Thread Cert.DgradIdeal.nD Cert.DgradIdeal.τ).loc Cert.DgradIdeal.main_arg5)) (m ((c.tc : Thread Cert.DgradIdeal.nD Cert.DgradIdeal.τ).loc Cert.DgradIdeal.main_arg6)) (m ((c.tc : Thread Cert.DgradIdeal.nD Cert.DgradIdeal.τ).loc Cert.DgradIdeal.main_arg7))).2.2.1 = (fun _ => 1#1)
    ∧ (Cert.Pre_finite_dgrad.fn (F := Ideal) (m ((c.tc : Thread Cert.DgradIdeal.nD Cert.DgradIdeal.τ).loc Cert.DgradIdeal.main_arg0)) (m ((c.tc : Thread Cert.DgradIdeal.nD Cert.DgradIdeal.τ).loc Cert.DgradIdeal.main_arg1)) (m ((c.tc : Thread Cert.DgradIdeal.nD Cert.DgradIdeal.τ).loc Cert.DgradIdeal.main_arg2)) (m ((c.tc : Thread Cert.DgradIdeal.nD Cert.DgradIdeal.τ).loc Cert.DgradIdeal.main_arg3)) (m ((c.tc : Thread Cert.DgradIdeal.nD Cert.DgradIdeal.τ).loc Cert.DgradIdeal.main_arg4)) (m ((c.tc : Thread Cert.DgradIdeal.nD Cert.DgradIdeal.τ).loc Cert.DgradIdeal.main_arg5)) (m ((c.tc : Thread Cert.DgradIdeal.nD Cert.DgradIdeal.τ).loc Cert.DgradIdeal.main_arg6)) (m ((c.tc : Thread Cert.DgradIdeal.nD Cert.DgradIdeal.τ).loc Cert.DgradIdeal.main_arg7))).2.2.2.1 = (fun _ => 1#1)
    ∧ (Cert.Pre_finite_dgrad.fn (F := Ideal) (m ((c.tc : Thread Cert.DgradIdeal.nD Cert.DgradIdeal.τ).loc Cert.DgradIdeal.main_arg0)) (m ((c.tc : Thread Cert.DgradIdeal.nD Cert.DgradIdeal.τ).loc Cert.DgradIdeal.main_arg1)) (m ((c.tc : Thread Cert.DgradIdeal.nD Cert.DgradIdeal.τ).loc Cert.DgradIdeal.main_arg2)) (m ((c.tc : Thread Cert.DgradIdeal.nD Cert.DgradIdeal.τ).loc Cert.DgradIdeal.main_arg3)) (m ((c.tc : Thread Cert.DgradIdeal.nD Cert.DgradIdeal.τ).loc Cert.DgradIdeal.main_arg4)) (m ((c.tc : Thread Cert.DgradIdeal.nD Cert.DgradIdeal.τ).loc Cert.DgradIdeal.main_arg5)) (m ((c.tc : Thread Cert.DgradIdeal.nD Cert.DgradIdeal.τ).loc Cert.DgradIdeal.main_arg6)) (m ((c.tc : Thread Cert.DgradIdeal.nD Cert.DgradIdeal.τ).loc Cert.DgradIdeal.main_arg7))).2.2.2.2.1 = (fun _ => 1#1)
    ∧ (Cert.Pre_finite_dgrad.fn (F := Ideal) (m ((c.tc : Thread Cert.DgradIdeal.nD Cert.DgradIdeal.τ).loc Cert.DgradIdeal.main_arg0)) (m ((c.tc : Thread Cert.DgradIdeal.nD Cert.DgradIdeal.τ).loc Cert.DgradIdeal.main_arg1)) (m ((c.tc : Thread Cert.DgradIdeal.nD Cert.DgradIdeal.τ).loc Cert.DgradIdeal.main_arg2)) (m ((c.tc : Thread Cert.DgradIdeal.nD Cert.DgradIdeal.τ).loc Cert.DgradIdeal.main_arg3)) (m ((c.tc : Thread Cert.DgradIdeal.nD Cert.DgradIdeal.τ).loc Cert.DgradIdeal.main_arg4)) (m ((c.tc : Thread Cert.DgradIdeal.nD Cert.DgradIdeal.τ).loc Cert.DgradIdeal.main_arg5)) (m ((c.tc : Thread Cert.DgradIdeal.nD Cert.DgradIdeal.τ).loc Cert.DgradIdeal.main_arg6)) (m ((c.tc : Thread Cert.DgradIdeal.nD Cert.DgradIdeal.τ).loc Cert.DgradIdeal.main_arg7))).2.2.2.2.2.1 = (fun _ => 1#1)
    ∧ (Cert.Pre_finite_dgrad.fn (F := Ideal) (m ((c.tc : Thread Cert.DgradIdeal.nD Cert.DgradIdeal.τ).loc Cert.DgradIdeal.main_arg0)) (m ((c.tc : Thread Cert.DgradIdeal.nD Cert.DgradIdeal.τ).loc Cert.DgradIdeal.main_arg1)) (m ((c.tc : Thread Cert.DgradIdeal.nD Cert.DgradIdeal.τ).loc Cert.DgradIdeal.main_arg2)) (m ((c.tc : Thread Cert.DgradIdeal.nD Cert.DgradIdeal.τ).loc Cert.DgradIdeal.main_arg3)) (m ((c.tc : Thread Cert.DgradIdeal.nD Cert.DgradIdeal.τ).loc Cert.DgradIdeal.main_arg4)) (m ((c.tc : Thread Cert.DgradIdeal.nD Cert.DgradIdeal.τ).loc Cert.DgradIdeal.main_arg5)) (m ((c.tc : Thread Cert.DgradIdeal.nD Cert.DgradIdeal.τ).loc Cert.DgradIdeal.main_arg6)) (m ((c.tc : Thread Cert.DgradIdeal.nD Cert.DgradIdeal.τ).loc Cert.DgradIdeal.main_arg7))).2.2.2.2.2.2 = (fun _ => 1#1)

def Pre_RefDgradIdeal (m : (ℓ : Loc Cert.RefDgradIdeal.nD Cert.RefDgradIdeal.τ Cert.RefDgradIdeal.sig) → Buf (Elt Ideal) ℓ) : Prop :=
  True

def Pre_RefDgradIdeal_finite_dgrad [hPre_finite_dgrad : Cert.Pre_finite_dgrad.Facts] (m : (ℓ : Loc Cert.RefDgradIdeal.nD Cert.RefDgradIdeal.τ Cert.RefDgradIdeal.sig) → Buf (Elt Ideal) ℓ) : Prop :=
  ∀ c : Dev Cert.RefDgradIdeal.nD,
    (Cert.Pre_finite_dgrad.fn (F := Ideal) (m ((c.tc : Thread Cert.RefDgradIdeal.nD Cert.RefDgradIdeal.τ).loc Cert.RefDgradIdeal.main_arg0)) (m ((c.tc : Thread Cert.RefDgradIdeal.nD Cert.RefDgradIdeal.τ).loc Cert.RefDgradIdeal.main_arg1)) (m ((c.tc : Thread Cert.RefDgradIdeal.nD Cert.RefDgradIdeal.τ).loc Cert.RefDgradIdeal.main_arg2)) (m ((c.tc : Thread Cert.RefDgradIdeal.nD Cert.RefDgradIdeal.τ).loc Cert.RefDgradIdeal.main_arg3)) (m ((c.tc : Thread Cert.RefDgradIdeal.nD Cert.RefDgradIdeal.τ).loc Cert.RefDgradIdeal.main_arg4)) (m ((c.tc : Thread Cert.RefDgradIdeal.nD Cert.RefDgradIdeal.τ).loc Cert.RefDgradIdeal.main_arg5)) (m ((c.tc : Thread Cert.RefDgradIdeal.nD Cert.RefDgradIdeal.τ).loc Cert.RefDgradIdeal.main_arg6)) (m ((c.tc : Thread Cert.RefDgradIdeal.nD Cert.RefDgradIdeal.τ).loc Cert.RefDgradIdeal.main_arg7))).1 = (fun _ => 1#1)
    ∧ (Cert.Pre_finite_dgrad.fn (F := Ideal) (m ((c.tc : Thread Cert.RefDgradIdeal.nD Cert.RefDgradIdeal.τ).loc Cert.RefDgradIdeal.main_arg0)) (m ((c.tc : Thread Cert.RefDgradIdeal.nD Cert.RefDgradIdeal.τ).loc Cert.RefDgradIdeal.main_arg1)) (m ((c.tc : Thread Cert.RefDgradIdeal.nD Cert.RefDgradIdeal.τ).loc Cert.RefDgradIdeal.main_arg2)) (m ((c.tc : Thread Cert.RefDgradIdeal.nD Cert.RefDgradIdeal.τ).loc Cert.RefDgradIdeal.main_arg3)) (m ((c.tc : Thread Cert.RefDgradIdeal.nD Cert.RefDgradIdeal.τ).loc Cert.RefDgradIdeal.main_arg4)) (m ((c.tc : Thread Cert.RefDgradIdeal.nD Cert.RefDgradIdeal.τ).loc Cert.RefDgradIdeal.main_arg5)) (m ((c.tc : Thread Cert.RefDgradIdeal.nD Cert.RefDgradIdeal.τ).loc Cert.RefDgradIdeal.main_arg6)) (m ((c.tc : Thread Cert.RefDgradIdeal.nD Cert.RefDgradIdeal.τ).loc Cert.RefDgradIdeal.main_arg7))).2.1 = (fun _ => 1#1)
    ∧ (Cert.Pre_finite_dgrad.fn (F := Ideal) (m ((c.tc : Thread Cert.RefDgradIdeal.nD Cert.RefDgradIdeal.τ).loc Cert.RefDgradIdeal.main_arg0)) (m ((c.tc : Thread Cert.RefDgradIdeal.nD Cert.RefDgradIdeal.τ).loc Cert.RefDgradIdeal.main_arg1)) (m ((c.tc : Thread Cert.RefDgradIdeal.nD Cert.RefDgradIdeal.τ).loc Cert.RefDgradIdeal.main_arg2)) (m ((c.tc : Thread Cert.RefDgradIdeal.nD Cert.RefDgradIdeal.τ).loc Cert.RefDgradIdeal.main_arg3)) (m ((c.tc : Thread Cert.RefDgradIdeal.nD Cert.RefDgradIdeal.τ).loc Cert.RefDgradIdeal.main_arg4)) (m ((c.tc : Thread Cert.RefDgradIdeal.nD Cert.RefDgradIdeal.τ).loc Cert.RefDgradIdeal.main_arg5)) (m ((c.tc : Thread Cert.RefDgradIdeal.nD Cert.RefDgradIdeal.τ).loc Cert.RefDgradIdeal.main_arg6)) (m ((c.tc : Thread Cert.RefDgradIdeal.nD Cert.RefDgradIdeal.τ).loc Cert.RefDgradIdeal.main_arg7))).2.2.1 = (fun _ => 1#1)
    ∧ (Cert.Pre_finite_dgrad.fn (F := Ideal) (m ((c.tc : Thread Cert.RefDgradIdeal.nD Cert.RefDgradIdeal.τ).loc Cert.RefDgradIdeal.main_arg0)) (m ((c.tc : Thread Cert.RefDgradIdeal.nD Cert.RefDgradIdeal.τ).loc Cert.RefDgradIdeal.main_arg1)) (m ((c.tc : Thread Cert.RefDgradIdeal.nD Cert.RefDgradIdeal.τ).loc Cert.RefDgradIdeal.main_arg2)) (m ((c.tc : Thread Cert.RefDgradIdeal.nD Cert.RefDgradIdeal.τ).loc Cert.RefDgradIdeal.main_arg3)) (m ((c.tc : Thread Cert.RefDgradIdeal.nD Cert.RefDgradIdeal.τ).loc Cert.RefDgradIdeal.main_arg4)) (m ((c.tc : Thread Cert.RefDgradIdeal.nD Cert.RefDgradIdeal.τ).loc Cert.RefDgradIdeal.main_arg5)) (m ((c.tc : Thread Cert.RefDgradIdeal.nD Cert.RefDgradIdeal.τ).loc Cert.RefDgradIdeal.main_arg6)) (m ((c.tc : Thread Cert.RefDgradIdeal.nD Cert.RefDgradIdeal.τ).loc Cert.RefDgradIdeal.main_arg7))).2.2.2.1 = (fun _ => 1#1)
    ∧ (Cert.Pre_finite_dgrad.fn (F := Ideal) (m ((c.tc : Thread Cert.RefDgradIdeal.nD Cert.RefDgradIdeal.τ).loc Cert.RefDgradIdeal.main_arg0)) (m ((c.tc : Thread Cert.RefDgradIdeal.nD Cert.RefDgradIdeal.τ).loc Cert.RefDgradIdeal.main_arg1)) (m ((c.tc : Thread Cert.RefDgradIdeal.nD Cert.RefDgradIdeal.τ).loc Cert.RefDgradIdeal.main_arg2)) (m ((c.tc : Thread Cert.RefDgradIdeal.nD Cert.RefDgradIdeal.τ).loc Cert.RefDgradIdeal.main_arg3)) (m ((c.tc : Thread Cert.RefDgradIdeal.nD Cert.RefDgradIdeal.τ).loc Cert.RefDgradIdeal.main_arg4)) (m ((c.tc : Thread Cert.RefDgradIdeal.nD Cert.RefDgradIdeal.τ).loc Cert.RefDgradIdeal.main_arg5)) (m ((c.tc : Thread Cert.RefDgradIdeal.nD Cert.RefDgradIdeal.τ).loc Cert.RefDgradIdeal.main_arg6)) (m ((c.tc : Thread Cert.RefDgradIdeal.nD Cert.RefDgradIdeal.τ).loc Cert.RefDgradIdeal.main_arg7))).2.2.2.2.1 = (fun _ => 1#1)
    ∧ (Cert.Pre_finite_dgrad.fn (F := Ideal) (m ((c.tc : Thread Cert.RefDgradIdeal.nD Cert.RefDgradIdeal.τ).loc Cert.RefDgradIdeal.main_arg0)) (m ((c.tc : Thread Cert.RefDgradIdeal.nD Cert.RefDgradIdeal.τ).loc Cert.RefDgradIdeal.main_arg1)) (m ((c.tc : Thread Cert.RefDgradIdeal.nD Cert.RefDgradIdeal.τ).loc Cert.RefDgradIdeal.main_arg2)) (m ((c.tc : Thread Cert.RefDgradIdeal.nD Cert.RefDgradIdeal.τ).loc Cert.RefDgradIdeal.main_arg3)) (m ((c.tc : Thread Cert.RefDgradIdeal.nD Cert.RefDgradIdeal.τ).loc Cert.RefDgradIdeal.main_arg4)) (m ((c.tc : Thread Cert.RefDgradIdeal.nD Cert.RefDgradIdeal.τ).loc Cert.RefDgradIdeal.main_arg5)) (m ((c.tc : Thread Cert.RefDgradIdeal.nD Cert.RefDgradIdeal.τ).loc Cert.RefDgradIdeal.main_arg6)) (m ((c.tc : Thread Cert.RefDgradIdeal.nD Cert.RefDgradIdeal.τ).loc Cert.RefDgradIdeal.main_arg7))).2.2.2.2.2.1 = (fun _ => 1#1)
    ∧ (Cert.Pre_finite_dgrad.fn (F := Ideal) (m ((c.tc : Thread Cert.RefDgradIdeal.nD Cert.RefDgradIdeal.τ).loc Cert.RefDgradIdeal.main_arg0)) (m ((c.tc : Thread Cert.RefDgradIdeal.nD Cert.RefDgradIdeal.τ).loc Cert.RefDgradIdeal.main_arg1)) (m ((c.tc : Thread Cert.RefDgradIdeal.nD Cert.RefDgradIdeal.τ).loc Cert.RefDgradIdeal.main_arg2)) (m ((c.tc : Thread Cert.RefDgradIdeal.nD Cert.RefDgradIdeal.τ).loc Cert.RefDgradIdeal.main_arg3)) (m ((c.tc : Thread Cert.RefDgradIdeal.nD Cert.RefDgradIdeal.τ).loc Cert.RefDgradIdeal.main_arg4)) (m ((c.tc : Thread Cert.RefDgradIdeal.nD Cert.RefDgradIdeal.τ).loc Cert.RefDgradIdeal.main_arg5)) (m ((c.tc : Thread Cert.RefDgradIdeal.nD Cert.RefDgradIdeal.τ).loc Cert.RefDgradIdeal.main_arg6)) (m ((c.tc : Thread Cert.RefDgradIdeal.nD Cert.RefDgradIdeal.τ).loc Cert.RefDgradIdeal.main_arg7))).2.2.2.2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_RefUpIdeal (m : (ℓ : Loc Cert.RefUpIdeal.nD Cert.RefUpIdeal.τ Cert.RefUpIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_RefDownIdeal (m : (ℓ : Loc Cert.RefDownIdeal.nD Cert.RefDownIdeal.τ Cert.RefDownIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_RefGateIdeal (m : (ℓ : Loc Cert.RefGateIdeal.nD Cert.RefGateIdeal.τ Cert.RefGateIdeal.sig) → Buf (Elt Ideal) ℓ) : Prop :=
  True

def Pre_Mgate (m : (ℓ : Loc Cert.Mgate.nD Cert.Mgate.τ Cert.Mgate.sig) → Buf (Elt Bits) ℓ) : Prop :=
  True

def Pre_MgateIdeal (m : (ℓ : Loc Cert.MgateIdeal.nD Cert.MgateIdeal.τ Cert.MgateIdeal.sig) → Buf (Elt Ideal) ℓ) : Prop :=
  True

def Pre_RefMgateIdeal (m : (ℓ : Loc Cert.RefMgateIdeal.nD Cert.RefMgateIdeal.τ Cert.RefMgateIdeal.sig) → Buf (Elt Ideal) ℓ) : Prop :=
  True

def Pre_Gnorm (m : (ℓ : Loc Cert.Gnorm.nD Cert.Gnorm.τ Cert.Gnorm.sig) → Buf (Elt Bits) ℓ) : Prop :=
  True

def Pre_GnormIdeal (m : (ℓ : Loc Cert.GnormIdeal.nD Cert.GnormIdeal.τ Cert.GnormIdeal.sig) → Buf (Elt Ideal) ℓ) : Prop :=
  True

def Pre_GnormIdeal_finite_gnorm [hPre_finite_gnorm : Cert.Pre_finite_gnorm.Facts] (m : (ℓ : Loc Cert.GnormIdeal.nD Cert.GnormIdeal.τ Cert.GnormIdeal.sig) → Buf (Elt Ideal) ℓ) : Prop :=
  ∀ c : Dev Cert.GnormIdeal.nD,
    (Cert.Pre_finite_gnorm.fn (F := Ideal) (m ((c.tc : Thread Cert.GnormIdeal.nD Cert.GnormIdeal.τ).loc Cert.GnormIdeal.main_arg0)) (m ((c.tc : Thread Cert.GnormIdeal.nD Cert.GnormIdeal.τ).loc Cert.GnormIdeal.main_arg1)) (m ((c.tc : Thread Cert.GnormIdeal.nD Cert.GnormIdeal.τ).loc Cert.GnormIdeal.main_arg2)) (m ((c.tc : Thread Cert.GnormIdeal.nD Cert.GnormIdeal.τ).loc Cert.GnormIdeal.main_arg3))).1 = (fun _ => 1#1)
    ∧ (Cert.Pre_finite_gnorm.fn (F := Ideal) (m ((c.tc : Thread Cert.GnormIdeal.nD Cert.GnormIdeal.τ).loc Cert.GnormIdeal.main_arg0)) (m ((c.tc : Thread Cert.GnormIdeal.nD Cert.GnormIdeal.τ).loc Cert.GnormIdeal.main_arg1)) (m ((c.tc : Thread Cert.GnormIdeal.nD Cert.GnormIdeal.τ).loc Cert.GnormIdeal.main_arg2)) (m ((c.tc : Thread Cert.GnormIdeal.nD Cert.GnormIdeal.τ).loc Cert.GnormIdeal.main_arg3))).2.1 = (fun _ => 1#1)
    ∧ (Cert.Pre_finite_gnorm.fn (F := Ideal) (m ((c.tc : Thread Cert.GnormIdeal.nD Cert.GnormIdeal.τ).loc Cert.GnormIdeal.main_arg0)) (m ((c.tc : Thread Cert.GnormIdeal.nD Cert.GnormIdeal.τ).loc Cert.GnormIdeal.main_arg1)) (m ((c.tc : Thread Cert.GnormIdeal.nD Cert.GnormIdeal.τ).loc Cert.GnormIdeal.main_arg2)) (m ((c.tc : Thread Cert.GnormIdeal.nD Cert.GnormIdeal.τ).loc Cert.GnormIdeal.main_arg3))).2.2.1 = (fun _ => 1#1)
    ∧ (Cert.Pre_finite_gnorm.fn (F := Ideal) (m ((c.tc : Thread Cert.GnormIdeal.nD Cert.GnormIdeal.τ).loc Cert.GnormIdeal.main_arg0)) (m ((c.tc : Thread Cert.GnormIdeal.nD Cert.GnormIdeal.τ).loc Cert.GnormIdeal.main_arg1)) (m ((c.tc : Thread Cert.GnormIdeal.nD Cert.GnormIdeal.τ).loc Cert.GnormIdeal.main_arg2)) (m ((c.tc : Thread Cert.GnormIdeal.nD Cert.GnormIdeal.τ).loc Cert.GnormIdeal.main_arg3))).2.2.2 = (fun _ => 1#1)

def Pre_RefGnormIdeal (m : (ℓ : Loc Cert.RefGnormIdeal.nD Cert.RefGnormIdeal.τ Cert.RefGnormIdeal.sig) → Buf (Elt Ideal) ℓ) : Prop :=
  True

def Pre_RefGnormIdeal_finite_gnorm [hPre_finite_gnorm : Cert.Pre_finite_gnorm.Facts] (m : (ℓ : Loc Cert.RefGnormIdeal.nD Cert.RefGnormIdeal.τ Cert.RefGnormIdeal.sig) → Buf (Elt Ideal) ℓ) : Prop :=
  ∀ c : Dev Cert.RefGnormIdeal.nD,
    (Cert.Pre_finite_gnorm.fn (F := Ideal) (m ((c.tc : Thread Cert.RefGnormIdeal.nD Cert.RefGnormIdeal.τ).loc Cert.RefGnormIdeal.main_arg0)) (m ((c.tc : Thread Cert.RefGnormIdeal.nD Cert.RefGnormIdeal.τ).loc Cert.RefGnormIdeal.main_arg1)) (m ((c.tc : Thread Cert.RefGnormIdeal.nD Cert.RefGnormIdeal.τ).loc Cert.RefGnormIdeal.main_arg2)) (m ((c.tc : Thread Cert.RefGnormIdeal.nD Cert.RefGnormIdeal.τ).loc Cert.RefGnormIdeal.main_arg3))).1 = (fun _ => 1#1)
    ∧ (Cert.Pre_finite_gnorm.fn (F := Ideal) (m ((c.tc : Thread Cert.RefGnormIdeal.nD Cert.RefGnormIdeal.τ).loc Cert.RefGnormIdeal.main_arg0)) (m ((c.tc : Thread Cert.RefGnormIdeal.nD Cert.RefGnormIdeal.τ).loc Cert.RefGnormIdeal.main_arg1)) (m ((c.tc : Thread Cert.RefGnormIdeal.nD Cert.RefGnormIdeal.τ).loc Cert.RefGnormIdeal.main_arg2)) (m ((c.tc : Thread Cert.RefGnormIdeal.nD Cert.RefGnormIdeal.τ).loc Cert.RefGnormIdeal.main_arg3))).2.1 = (fun _ => 1#1)
    ∧ (Cert.Pre_finite_gnorm.fn (F := Ideal) (m ((c.tc : Thread Cert.RefGnormIdeal.nD Cert.RefGnormIdeal.τ).loc Cert.RefGnormIdeal.main_arg0)) (m ((c.tc : Thread Cert.RefGnormIdeal.nD Cert.RefGnormIdeal.τ).loc Cert.RefGnormIdeal.main_arg1)) (m ((c.tc : Thread Cert.RefGnormIdeal.nD Cert.RefGnormIdeal.τ).loc Cert.RefGnormIdeal.main_arg2)) (m ((c.tc : Thread Cert.RefGnormIdeal.nD Cert.RefGnormIdeal.τ).loc Cert.RefGnormIdeal.main_arg3))).2.2.1 = (fun _ => 1#1)
    ∧ (Cert.Pre_finite_gnorm.fn (F := Ideal) (m ((c.tc : Thread Cert.RefGnormIdeal.nD Cert.RefGnormIdeal.τ).loc Cert.RefGnormIdeal.main_arg0)) (m ((c.tc : Thread Cert.RefGnormIdeal.nD Cert.RefGnormIdeal.τ).loc Cert.RefGnormIdeal.main_arg1)) (m ((c.tc : Thread Cert.RefGnormIdeal.nD Cert.RefGnormIdeal.τ).loc Cert.RefGnormIdeal.main_arg2)) (m ((c.tc : Thread Cert.RefGnormIdeal.nD Cert.RefGnormIdeal.τ).loc Cert.RefGnormIdeal.main_arg3))).2.2.2 = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_finite_conv [hPre_finite_conv : Cert.Pre_finite_conv.Facts] (m : (ℓ : Loc Cert.ConvIdeal.nD Cert.ConvIdeal.τ Cert.ConvIdeal.sig) → Buf (Elt Ideal) ℓ) : Prop :=
  ∀ c : Dev Cert.ConvIdeal.nD,
    (Cert.Pre_finite_conv.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))) = (fun _ => 1#1)

def Pre_RefConvIdeal (m : (ℓ : Loc Cert.RefConvIdeal.nD Cert.RefConvIdeal.τ Cert.RefConvIdeal.sig) → Buf (Elt Ideal) ℓ) : Prop :=
  True

def Pre_RefConvIdeal_finite_conv [hPre_finite_conv : Cert.Pre_finite_conv.Facts] (m : (ℓ : Loc Cert.RefConvIdeal.nD Cert.RefConvIdeal.τ Cert.RefConvIdeal.sig) → Buf (Elt Ideal) ℓ) : Prop :=
  ∀ c : Dev Cert.RefConvIdeal.nD,
    (Cert.Pre_finite_conv.fn (F := Ideal) (m ((c.tc : Thread Cert.RefConvIdeal.nD Cert.RefConvIdeal.τ).loc Cert.RefConvIdeal.main_arg0)) (m ((c.tc : Thread Cert.RefConvIdeal.nD Cert.RefConvIdeal.τ).loc Cert.RefConvIdeal.main_arg1)) (m ((c.tc : Thread Cert.RefConvIdeal.nD Cert.RefConvIdeal.τ).loc Cert.RefConvIdeal.main_arg2)) (m ((c.tc : Thread Cert.RefConvIdeal.nD Cert.RefConvIdeal.τ).loc Cert.RefConvIdeal.main_arg3))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_RefProjIdeal (m : (ℓ : Loc Cert.RefProjIdeal.nD Cert.RefProjIdeal.τ Cert.RefProjIdeal.sig) → Buf (Elt Ideal) ℓ) : Prop :=
  True

def Pre_Dycat (m : (ℓ : Loc Cert.Dycat.nD Cert.Dycat.τ Cert.Dycat.sig) → Buf (Elt Bits) ℓ) : Prop :=
  True

def Pre_DycatIdeal (m : (ℓ : Loc Cert.DycatIdeal.nD Cert.DycatIdeal.τ Cert.DycatIdeal.sig) → Buf (Elt Ideal) ℓ) : Prop :=
  True

def Pre_RefDycatIdeal (m : (ℓ : Loc Cert.RefDycatIdeal.nD Cert.RefDycatIdeal.τ Cert.RefDycatIdeal.sig) → Buf (Elt Ideal) ℓ) : Prop :=
  True

def Pre_Mout (m : (ℓ : Loc Cert.Mout.nD Cert.Mout.τ Cert.Mout.sig) → Buf (Elt Bits) ℓ) : Prop :=
  True

def Pre_MoutIdeal (m : (ℓ : Loc Cert.MoutIdeal.nD Cert.MoutIdeal.τ Cert.MoutIdeal.sig) → Buf (Elt Ideal) ℓ) : Prop :=
  True

def Pre_RefMoutIdeal (m : (ℓ : Loc Cert.RefMoutIdeal.nD Cert.RefMoutIdeal.τ Cert.RefMoutIdeal.sig) → Buf (Elt Ideal) ℓ) : Prop :=
  True

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_RefDwoutIdeal (m : (ℓ : Loc Cert.RefDwoutIdeal.nD Cert.RefDwoutIdeal.τ Cert.RefDwoutIdeal.sig) → Buf (Elt Ideal) ℓ) : Prop :=
  True

def Pre_Dwret (m : (ℓ : Loc Cert.Dwret.nD Cert.Dwret.τ Cert.Dwret.sig) → Buf (Elt Bits) ℓ) : Prop :=
  True

def Pre_DwretIdeal (m : (ℓ : Loc Cert.DwretIdeal.nD Cert.DwretIdeal.τ Cert.DwretIdeal.sig) → Buf (Elt Ideal) ℓ) : Prop :=
  True

def Pre_RefDwretIdeal (m : (ℓ : Loc Cert.RefDwretIdeal.nD Cert.RefDwretIdeal.τ Cert.RefDwretIdeal.sig) → Buf (Elt Ideal) ℓ) : Prop :=
  True

def Pre_Dwxbc (m : (ℓ : Loc Cert.Dwxbc.nD Cert.Dwxbc.τ Cert.Dwxbc.sig) → Buf (Elt Bits) ℓ) : Prop :=
  True

def Pre_DwxbcIdeal (m : (ℓ : Loc Cert.DwxbcIdeal.nD Cert.DwxbcIdeal.τ Cert.DwxbcIdeal.sig) → Buf (Elt Ideal) ℓ) : Prop :=
  True

def Pre_RefDwxbcIdeal (m : (ℓ : Loc Cert.RefDwxbcIdeal.nD Cert.RefDwxbcIdeal.τ Cert.RefDwxbcIdeal.sig) → Buf (Elt Ideal) ℓ) : Prop :=
  True

def Pre_Dwb (m : (ℓ : Loc Cert.Dwb.nD Cert.Dwb.τ Cert.Dwb.sig) → Buf (Elt Bits) ℓ) : Prop :=
  True

def Pre_DwbIdeal (m : (ℓ : Loc Cert.DwbIdeal.nD Cert.DwbIdeal.τ Cert.DwbIdeal.sig) → Buf (Elt Ideal) ℓ) : Prop :=
  True

def Pre_RefDwbIdeal (m : (ℓ : Loc Cert.RefDwbIdeal.nD Cert.RefDwbIdeal.τ Cert.RefDwbIdeal.sig) → Buf (Elt Ideal) ℓ) : Prop :=
  True

def Pre_Dwf (m : (ℓ : Loc Cert.Dwf.nD Cert.Dwf.τ Cert.Dwf.sig) → Buf (Elt Bits) ℓ) : Prop :=
  True

def Pre_DwfIdeal (m : (ℓ : Loc Cert.DwfIdeal.nD Cert.DwfIdeal.τ Cert.DwfIdeal.sig) → Buf (Elt Ideal) ℓ) : Prop :=
  True

def Pre_RefDwfIdeal (m : (ℓ : Loc Cert.RefDwfIdeal.nD Cert.RefDwfIdeal.τ Cert.RefDwfIdeal.sig) → Buf (Elt Ideal) ℓ) : Prop :=
  True

def Pre_Mdgrad (m : (ℓ : Loc Cert.Mdgrad.nD Cert.Mdgrad.τ Cert.Mdgrad.sig) → Buf (Elt Bits) ℓ) : Prop :=
  True

def Pre_MdgradIdeal (m : (ℓ : Loc Cert.MdgradIdeal.nD Cert.MdgradIdeal.τ Cert.MdgradIdeal.sig) → Buf (Elt Ideal) ℓ) : Prop :=
  True

def Pre_MdgradIdeal_finite_mdgrad [hPre_finite_mdgrad : Cert.Pre_finite_mdgrad.Facts] (m : (ℓ : Loc Cert.MdgradIdeal.nD Cert.MdgradIdeal.τ Cert.MdgradIdeal.sig) → Buf (Elt Ideal) ℓ) : Prop :=
  ∀ c : Dev Cert.MdgradIdeal.nD,
    (Cert.Pre_finite_mdgrad.fn (F := Ideal) (m ((c.tc : Thread Cert.MdgradIdeal.nD Cert.MdgradIdeal.τ).loc Cert.MdgradIdeal.main_arg0)) (m ((c.tc : Thread Cert.MdgradIdeal.nD Cert.MdgradIdeal.τ).loc Cert.MdgradIdeal.main_arg1)) (m ((c.tc : Thread Cert.MdgradIdeal.nD Cert.MdgradIdeal.τ).loc Cert.MdgradIdeal.main_arg2)) (m ((c.tc : Thread Cert.MdgradIdeal.nD Cert.MdgradIdeal.τ).loc Cert.MdgradIdeal.main_arg3)) (m ((c.tc : Thread Cert.MdgradIdeal.nD Cert.MdgradIdeal.τ).loc Cert.MdgradIdeal.main_arg4)) (m ((c.tc : Thread Cert.MdgradIdeal.nD Cert.MdgradIdeal.τ).loc Cert.MdgradIdeal.main_arg5)) (m ((c.tc : Thread Cert.MdgradIdeal.nD Cert.MdgradIdeal.τ).loc Cert.MdgradIdeal.main_arg6)) (m ((c.tc : Thread Cert.MdgradIdeal.nD Cert.MdgradIdeal.τ).loc Cert.MdgradIdeal.main_arg7)) (m ((c.tc : Thread Cert.MdgradIdeal.nD Cert.MdgradIdeal.τ).loc Cert.MdgradIdeal.main_arg8)) (m ((c.tc : Thread Cert.MdgradIdeal.nD Cert.MdgradIdeal.τ).loc Cert.MdgradIdeal.main_arg9)) (m ((c.tc : Thread Cert.MdgradIdeal.nD Cert.MdgradIdeal.τ).loc Cert.MdgradIdeal.main_arg10)) (m ((c.tc : Thread Cert.MdgradIdeal.nD Cert.MdgradIdeal.τ).loc Cert.MdgradIdeal.main_arg11))).1 = (fun _ => 1#1)
    ∧ (Cert.Pre_finite_mdgrad.fn (F := Ideal) (m ((c.tc : Thread Cert.MdgradIdeal.nD Cert.MdgradIdeal.τ).loc Cert.MdgradIdeal.main_arg0)) (m ((c.tc : Thread Cert.MdgradIdeal.nD Cert.MdgradIdeal.τ).loc Cert.MdgradIdeal.main_arg1)) (m ((c.tc : Thread Cert.MdgradIdeal.nD Cert.MdgradIdeal.τ).loc Cert.MdgradIdeal.main_arg2)) (m ((c.tc : Thread Cert.MdgradIdeal.nD Cert.MdgradIdeal.τ).loc Cert.MdgradIdeal.main_arg3)) (m ((c.tc : Thread Cert.MdgradIdeal.nD Cert.MdgradIdeal.τ).loc Cert.MdgradIdeal.main_arg4)) (m ((c.tc : Thread Cert.MdgradIdeal.nD Cert.MdgradIdeal.τ).loc Cert.MdgradIdeal.main_arg5)) (m ((c.tc : Thread Cert.MdgradIdeal.nD Cert.MdgradIdeal.τ).loc Cert.MdgradIdeal.main_arg6)) (m ((c.tc : Thread Cert.MdgradIdeal.nD Cert.MdgradIdeal.τ).loc Cert.MdgradIdeal.main_arg7)) (m ((c.tc : Thread Cert.MdgradIdeal.nD Cert.MdgradIdeal.τ).loc Cert.MdgradIdeal.main_arg8)) (m ((c.tc : Thread Cert.MdgradIdeal.nD Cert.MdgradIdeal.τ).loc Cert.MdgradIdeal.main_arg9)) (m ((c.tc : Thread Cert.MdgradIdeal.nD Cert.MdgradIdeal.τ).loc Cert.MdgradIdeal.main_arg10)) (m ((c.tc : Thread Cert.MdgradIdeal.nD Cert.MdgradIdeal.τ).loc Cert.MdgradIdeal.main_arg11))).2.1 = (fun _ => 1#1)
    ∧ (Cert.Pre_finite_mdgrad.fn (F := Ideal) (m ((c.tc : Thread Cert.MdgradIdeal.nD Cert.MdgradIdeal.τ).loc Cert.MdgradIdeal.main_arg0)) (m ((c.tc : Thread Cert.MdgradIdeal.nD Cert.MdgradIdeal.τ).loc Cert.MdgradIdeal.main_arg1)) (m ((c.tc : Thread Cert.MdgradIdeal.nD Cert.MdgradIdeal.τ).loc Cert.MdgradIdeal.main_arg2)) (m ((c.tc : Thread Cert.MdgradIdeal.nD Cert.MdgradIdeal.τ).loc Cert.MdgradIdeal.main_arg3)) (m ((c.tc : Thread Cert.MdgradIdeal.nD Cert.MdgradIdeal.τ).loc Cert.MdgradIdeal.main_arg4)) (m ((c.tc : Thread Cert.MdgradIdeal.nD Cert.MdgradIdeal.τ).loc Cert.MdgradIdeal.main_arg5)) (m ((c.tc : Thread Cert.MdgradIdeal.nD Cert.MdgradIdeal.τ).loc Cert.MdgradIdeal.main_arg6)) (m ((c.tc : Thread Cert.MdgradIdeal.nD Cert.MdgradIdeal.τ).loc Cert.MdgradIdeal.main_arg7)) (m ((c.tc : Thread Cert.MdgradIdeal.nD Cert.MdgradIdeal.τ).loc Cert.MdgradIdeal.main_arg8)) (m ((c.tc : Thread Cert.MdgradIdeal.nD Cert.MdgradIdeal.τ).loc Cert.MdgradIdeal.main_arg9)) (m ((c.tc : Thread Cert.MdgradIdeal.nD Cert.MdgradIdeal.τ).loc Cert.MdgradIdeal.main_arg10)) (m ((c.tc : Thread Cert.MdgradIdeal.nD Cert.MdgradIdeal.τ).loc Cert.MdgradIdeal.main_arg11))).2.2.1 = (fun _ => 1#1)
    ∧ (Cert.Pre_finite_mdgrad.fn (F := Ideal) (m ((c.tc : Thread Cert.MdgradIdeal.nD Cert.MdgradIdeal.τ).loc Cert.MdgradIdeal.main_arg0)) (m ((c.tc : Thread Cert.MdgradIdeal.nD Cert.MdgradIdeal.τ).loc Cert.MdgradIdeal.main_arg1)) (m ((c.tc : Thread Cert.MdgradIdeal.nD Cert.MdgradIdeal.τ).loc Cert.MdgradIdeal.main_arg2)) (m ((c.tc : Thread Cert.MdgradIdeal.nD Cert.MdgradIdeal.τ).loc Cert.MdgradIdeal.main_arg3)) (m ((c.tc : Thread Cert.MdgradIdeal.nD Cert.MdgradIdeal.τ).loc Cert.MdgradIdeal.main_arg4)) (m ((c.tc : Thread Cert.MdgradIdeal.nD Cert.MdgradIdeal.τ).loc Cert.MdgradIdeal.main_arg5)) (m ((c.tc : Thread Cert.MdgradIdeal.nD Cert.MdgradIdeal.τ).loc Cert.MdgradIdeal.main_arg6)) (m ((c.tc : Thread Cert.MdgradIdeal.nD Cert.MdgradIdeal.τ).loc Cert.MdgradIdeal.main_arg7)) (m ((c.tc : Thread Cert.MdgradIdeal.nD Cert.MdgradIdeal.τ).loc Cert.MdgradIdeal.main_arg8)) (m ((c.tc : Thread Cert.MdgradIdeal.nD Cert.MdgradIdeal.τ).loc Cert.MdgradIdeal.main_arg9)) (m ((c.tc : Thread Cert.MdgradIdeal.nD Cert.MdgradIdeal.τ).loc Cert.MdgradIdeal.main_arg10)) (m ((c.tc : Thread Cert.MdgradIdeal.nD Cert.MdgradIdeal.τ).loc Cert.MdgradIdeal.main_arg11))).2.2.2.1 = (fun _ => 1#1)
    ∧ (Cert.Pre_finite_mdgrad.fn (F := Ideal) (m ((c.tc : Thread Cert.MdgradIdeal.nD Cert.MdgradIdeal.τ).loc Cert.MdgradIdeal.main_arg0)) (m ((c.tc : Thread Cert.MdgradIdeal.nD Cert.MdgradIdeal.τ).loc Cert.MdgradIdeal.main_arg1)) (m ((c.tc : Thread Cert.MdgradIdeal.nD Cert.MdgradIdeal.τ).loc Cert.MdgradIdeal.main_arg2)) (m ((c.tc : Thread Cert.MdgradIdeal.nD Cert.MdgradIdeal.τ).loc Cert.MdgradIdeal.main_arg3)) (m ((c.tc : Thread Cert.MdgradIdeal.nD Cert.MdgradIdeal.τ).loc Cert.MdgradIdeal.main_arg4)) (m ((c.tc : Thread Cert.MdgradIdeal.nD Cert.MdgradIdeal.τ).loc Cert.MdgradIdeal.main_arg5)) (m ((c.tc : Thread Cert.MdgradIdeal.nD Cert.MdgradIdeal.τ).loc Cert.MdgradIdeal.main_arg6)) (m ((c.tc : Thread Cert.MdgradIdeal.nD Cert.MdgradIdeal.τ).loc Cert.MdgradIdeal.main_arg7)) (m ((c.tc : Thread Cert.MdgradIdeal.nD Cert.MdgradIdeal.τ).loc Cert.MdgradIdeal.main_arg8)) (m ((c.tc : Thread Cert.MdgradIdeal.nD Cert.MdgradIdeal.τ).loc Cert.MdgradIdeal.main_arg9)) (m ((c.tc : Thread Cert.MdgradIdeal.nD Cert.MdgradIdeal.τ).loc Cert.MdgradIdeal.main_arg10)) (m ((c.tc : Thread Cert.MdgradIdeal.nD Cert.MdgradIdeal.τ).loc Cert.MdgradIdeal.main_arg11))).2.2.2.2.1 = (fun _ => 1#1)
    ∧ (Cert.Pre_finite_mdgrad.fn (F := Ideal) (m ((c.tc : Thread Cert.MdgradIdeal.nD Cert.MdgradIdeal.τ).loc Cert.MdgradIdeal.main_arg0)) (m ((c.tc : Thread Cert.MdgradIdeal.nD Cert.MdgradIdeal.τ).loc Cert.MdgradIdeal.main_arg1)) (m ((c.tc : Thread Cert.MdgradIdeal.nD Cert.MdgradIdeal.τ).loc Cert.MdgradIdeal.main_arg2)) (m ((c.tc : Thread Cert.MdgradIdeal.nD Cert.MdgradIdeal.τ).loc Cert.MdgradIdeal.main_arg3)) (m ((c.tc : Thread Cert.MdgradIdeal.nD Cert.MdgradIdeal.τ).loc Cert.MdgradIdeal.main_arg4)) (m ((c.tc : Thread Cert.MdgradIdeal.nD Cert.MdgradIdeal.τ).loc Cert.MdgradIdeal.main_arg5)) (m ((c.tc : Thread Cert.MdgradIdeal.nD Cert.MdgradIdeal.τ).loc Cert.MdgradIdeal.main_arg6)) (m ((c.tc : Thread Cert.MdgradIdeal.nD Cert.MdgradIdeal.τ).loc Cert.MdgradIdeal.main_arg7)) (m ((c.tc : Thread Cert.MdgradIdeal.nD Cert.MdgradIdeal.τ).loc Cert.MdgradIdeal.main_arg8)) (m ((c.tc : Thread Cert.MdgradIdeal.nD Cert.MdgradIdeal.τ).loc Cert.MdgradIdeal.main_arg9)) (m ((c.tc : Thread Cert.MdgradIdeal.nD Cert.MdgradIdeal.τ).loc Cert.MdgradIdeal.main_arg10)) (m ((c.tc : Thread Cert.MdgradIdeal.nD Cert.MdgradIdeal.τ).loc Cert.MdgradIdeal.main_arg11))).2.2.2.2.2.1 = (fun _ => 1#1)
    ∧ (Cert.Pre_finite_mdgrad.fn (F := Ideal) (m ((c.tc : Thread Cert.MdgradIdeal.nD Cert.MdgradIdeal.τ).loc Cert.MdgradIdeal.main_arg0)) (m ((c.tc : Thread Cert.MdgradIdeal.nD Cert.MdgradIdeal.τ).loc Cert.MdgradIdeal.main_arg1)) (m ((c.tc : Thread Cert.MdgradIdeal.nD Cert.MdgradIdeal.τ).loc Cert.MdgradIdeal.main_arg2)) (m ((c.tc : Thread Cert.MdgradIdeal.nD Cert.MdgradIdeal.τ).loc Cert.MdgradIdeal.main_arg3)) (m ((c.tc : Thread Cert.MdgradIdeal.nD Cert.MdgradIdeal.τ).loc Cert.MdgradIdeal.main_arg4)) (m ((c.tc : Thread Cert.MdgradIdeal.nD Cert.MdgradIdeal.τ).loc Cert.MdgradIdeal.main_arg5)) (m ((c.tc : Thread Cert.MdgradIdeal.nD Cert.MdgradIdeal.τ).loc Cert.MdgradIdeal.main_arg6)) (m ((c.tc : Thread Cert.MdgradIdeal.nD Cert.MdgradIdeal.τ).loc Cert.MdgradIdeal.main_arg7)) (m ((c.tc : Thread Cert.MdgradIdeal.nD Cert.MdgradIdeal.τ).loc Cert.MdgradIdeal.main_arg8)) (m ((c.tc : Thread Cert.MdgradIdeal.nD Cert.MdgradIdeal.τ).loc Cert.MdgradIdeal.main_arg9)) (m ((c.tc : Thread Cert.MdgradIdeal.nD Cert.MdgradIdeal.τ).loc Cert.MdgradIdeal.main_arg10)) (m ((c.tc : Thread Cert.MdgradIdeal.nD Cert.MdgradIdeal.τ).loc Cert.MdgradIdeal.main_arg11))).2.2.2.2.2.2.1 = (fun _ => 1#1)
    ∧ (Cert.Pre_finite_mdgrad.fn (F := Ideal) (m ((c.tc : Thread Cert.MdgradIdeal.nD Cert.MdgradIdeal.τ).loc Cert.MdgradIdeal.main_arg0)) (m ((c.tc : Thread Cert.MdgradIdeal.nD Cert.MdgradIdeal.τ).loc Cert.MdgradIdeal.main_arg1)) (m ((c.tc : Thread Cert.MdgradIdeal.nD Cert.MdgradIdeal.τ).loc Cert.MdgradIdeal.main_arg2)) (m ((c.tc : Thread Cert.MdgradIdeal.nD Cert.MdgradIdeal.τ).loc Cert.MdgradIdeal.main_arg3)) (m ((c.tc : Thread Cert.MdgradIdeal.nD Cert.MdgradIdeal.τ).loc Cert.MdgradIdeal.main_arg4)) (m ((c.tc : Thread Cert.MdgradIdeal.nD Cert.MdgradIdeal.τ).loc Cert.MdgradIdeal.main_arg5)) (m ((c.tc : Thread Cert.MdgradIdeal.nD Cert.MdgradIdeal.τ).loc Cert.MdgradIdeal.main_arg6)) (m ((c.tc : Thread Cert.MdgradIdeal.nD Cert.MdgradIdeal.τ).loc Cert.MdgradIdeal.main_arg7)) (m ((c.tc : Thread Cert.MdgradIdeal.nD Cert.MdgradIdeal.τ).loc Cert.MdgradIdeal.main_arg8)) (m ((c.tc : Thread Cert.MdgradIdeal.nD Cert.MdgradIdeal.τ).loc Cert.MdgradIdeal.main_arg9)) (m ((c.tc : Thread Cert.MdgradIdeal.nD Cert.MdgradIdeal.τ).loc Cert.MdgradIdeal.main_arg10)) (m ((c.tc : Thread Cert.MdgradIdeal.nD Cert.MdgradIdeal.τ).loc Cert.MdgradIdeal.main_arg11))).2.2.2.2.2.2.2.1 = (fun _ => 1#1)
    ∧ (Cert.Pre_finite_mdgrad.fn (F := Ideal) (m ((c.tc : Thread Cert.MdgradIdeal.nD Cert.MdgradIdeal.τ).loc Cert.MdgradIdeal.main_arg0)) (m ((c.tc : Thread Cert.MdgradIdeal.nD Cert.MdgradIdeal.τ).loc Cert.MdgradIdeal.main_arg1)) (m ((c.tc : Thread Cert.MdgradIdeal.nD Cert.MdgradIdeal.τ).loc Cert.MdgradIdeal.main_arg2)) (m ((c.tc : Thread Cert.MdgradIdeal.nD Cert.MdgradIdeal.τ).loc Cert.MdgradIdeal.main_arg3)) (m ((c.tc : Thread Cert.MdgradIdeal.nD Cert.MdgradIdeal.τ).loc Cert.MdgradIdeal.main_arg4)) (m ((c.tc : Thread Cert.MdgradIdeal.nD Cert.MdgradIdeal.τ).loc Cert.MdgradIdeal.main_arg5)) (m ((c.tc : Thread Cert.MdgradIdeal.nD Cert.MdgradIdeal.τ).loc Cert.MdgradIdeal.main_arg6)) (m ((c.tc : Thread Cert.MdgradIdeal.nD Cert.MdgradIdeal.τ).loc Cert.MdgradIdeal.main_arg7)) (m ((c.tc : Thread Cert.MdgradIdeal.nD Cert.MdgradIdeal.τ).loc Cert.MdgradIdeal.main_arg8)) (m ((c.tc : Thread Cert.MdgradIdeal.nD Cert.MdgradIdeal.τ).loc Cert.MdgradIdeal.main_arg9)) (m ((c.tc : Thread Cert.MdgradIdeal.nD Cert.MdgradIdeal.τ).loc Cert.MdgradIdeal.main_arg10)) (m ((c.tc : Thread Cert.MdgradIdeal.nD Cert.MdgradIdeal.τ).loc Cert.MdgradIdeal.main_arg11))).2.2.2.2.2.2.2.2.1 = (fun _ => 1#1)
    ∧ (Cert.Pre_finite_mdgrad.fn (F := Ideal) (m ((c.tc : Thread Cert.MdgradIdeal.nD Cert.MdgradIdeal.τ).loc Cert.MdgradIdeal.main_arg0)) (m ((c.tc : Thread Cert.MdgradIdeal.nD Cert.MdgradIdeal.τ).loc Cert.MdgradIdeal.main_arg1)) (m ((c.tc : Thread Cert.MdgradIdeal.nD Cert.MdgradIdeal.τ).loc Cert.MdgradIdeal.main_arg2)) (m ((c.tc : Thread Cert.MdgradIdeal.nD Cert.MdgradIdeal.τ).loc Cert.MdgradIdeal.main_arg3)) (m ((c.tc : Thread Cert.MdgradIdeal.nD Cert.MdgradIdeal.τ).loc Cert.MdgradIdeal.main_arg4)) (m ((c.tc : Thread Cert.MdgradIdeal.nD Cert.MdgradIdeal.τ).loc Cert.MdgradIdeal.main_arg5)) (m ((c.tc : Thread Cert.MdgradIdeal.nD Cert.MdgradIdeal.τ).loc Cert.MdgradIdeal.main_arg6)) (m ((c.tc : Thread Cert.MdgradIdeal.nD Cert.MdgradIdeal.τ).loc Cert.MdgradIdeal.main_arg7)) (m ((c.tc : Thread Cert.MdgradIdeal.nD Cert.MdgradIdeal.τ).loc Cert.MdgradIdeal.main_arg8)) (m ((c.tc : Thread Cert.MdgradIdeal.nD Cert.MdgradIdeal.τ).loc Cert.MdgradIdeal.main_arg9)) (m ((c.tc : Thread Cert.MdgradIdeal.nD Cert.MdgradIdeal.τ).loc Cert.MdgradIdeal.main_arg10)) (m ((c.tc : Thread Cert.MdgradIdeal.nD Cert.MdgradIdeal.τ).loc Cert.MdgradIdeal.main_arg11))).2.2.2.2.2.2.2.2.2.1 = (fun _ => 1#1)
    ∧ (Cert.Pre_finite_mdgrad.fn (F := Ideal) (m ((c.tc : Thread Cert.MdgradIdeal.nD Cert.MdgradIdeal.τ).loc Cert.MdgradIdeal.main_arg0)) (m ((c.tc : Thread Cert.MdgradIdeal.nD Cert.MdgradIdeal.τ).loc Cert.MdgradIdeal.main_arg1)) (m ((c.tc : Thread Cert.MdgradIdeal.nD Cert.MdgradIdeal.τ).loc Cert.MdgradIdeal.main_arg2)) (m ((c.tc : Thread Cert.MdgradIdeal.nD Cert.MdgradIdeal.τ).loc Cert.MdgradIdeal.main_arg3)) (m ((c.tc : Thread Cert.MdgradIdeal.nD Cert.MdgradIdeal.τ).loc Cert.MdgradIdeal.main_arg4)) (m ((c.tc : Thread Cert.MdgradIdeal.nD Cert.MdgradIdeal.τ).loc Cert.MdgradIdeal.main_arg5)) (m ((c.tc : Thread Cert.MdgradIdeal.nD Cert.MdgradIdeal.τ).loc Cert.MdgradIdeal.main_arg6)) (m ((c.tc : Thread Cert.MdgradIdeal.nD Cert.MdgradIdeal.τ).loc Cert.MdgradIdeal.main_arg7)) (m ((c.tc : Thread Cert.MdgradIdeal.nD Cert.MdgradIdeal.τ).loc Cert.MdgradIdeal.main_arg8)) (m ((c.tc : Thread Cert.MdgradIdeal.nD Cert.MdgradIdeal.τ).loc Cert.MdgradIdeal.main_arg9)) (m ((c.tc : Thread Cert.MdgradIdeal.nD Cert.MdgradIdeal.τ).loc Cert.MdgradIdeal.main_arg10)) (m ((c.tc : Thread Cert.MdgradIdeal.nD Cert.MdgradIdeal.τ).loc Cert.MdgradIdeal.main_arg11))).2.2.2.2.2.2.2.2.2.2 = (fun _ => 1#1)

def Pre_RefMdgradIdeal (m : (ℓ : Loc Cert.RefMdgradIdeal.nD Cert.RefMdgradIdeal.τ Cert.RefMdgradIdeal.sig) → Buf (Elt Ideal) ℓ) : Prop :=
  True

def Pre_RefMdgradIdeal_finite_mdgrad [hPre_finite_mdgrad : Cert.Pre_finite_mdgrad.Facts] (m : (ℓ : Loc Cert.RefMdgradIdeal.nD Cert.RefMdgradIdeal.τ Cert.RefMdgradIdeal.sig) → Buf (Elt Ideal) ℓ) : Prop :=
  ∀ c : Dev Cert.RefMdgradIdeal.nD,
    (Cert.Pre_finite_mdgrad.fn (F := Ideal) (m ((c.tc : Thread Cert.RefMdgradIdeal.nD Cert.RefMdgradIdeal.τ).loc Cert.RefMdgradIdeal.main_arg0)) (m ((c.tc : Thread Cert.RefMdgradIdeal.nD Cert.RefMdgradIdeal.τ).loc Cert.RefMdgradIdeal.main_arg1)) (m ((c.tc : Thread Cert.RefMdgradIdeal.nD Cert.RefMdgradIdeal.τ).loc Cert.RefMdgradIdeal.main_arg2)) (m ((c.tc : Thread Cert.RefMdgradIdeal.nD Cert.RefMdgradIdeal.τ).loc Cert.RefMdgradIdeal.main_arg3)) (m ((c.tc : Thread Cert.RefMdgradIdeal.nD Cert.RefMdgradIdeal.τ).loc Cert.RefMdgradIdeal.main_arg4)) (m ((c.tc : Thread Cert.RefMdgradIdeal.nD Cert.RefMdgradIdeal.τ).loc Cert.RefMdgradIdeal.main_arg5)) (m ((c.tc : Thread Cert.RefMdgradIdeal.nD Cert.RefMdgradIdeal.τ).loc Cert.RefMdgradIdeal.main_arg6)) (m ((c.tc : Thread Cert.RefMdgradIdeal.nD Cert.RefMdgradIdeal.τ).loc Cert.RefMdgradIdeal.main_arg7)) (m ((c.tc : Thread Cert.RefMdgradIdeal.nD Cert.RefMdgradIdeal.τ).loc Cert.RefMdgradIdeal.main_arg8)) (m ((c.tc : Thread Cert.RefMdgradIdeal.nD Cert.RefMdgradIdeal.τ).loc Cert.RefMdgradIdeal.main_arg9)) (m ((c.tc : Thread Cert.RefMdgradIdeal.nD Cert.RefMdgradIdeal.τ).loc Cert.RefMdgradIdeal.main_arg10)) (m ((c.tc : Thread Cert.RefMdgradIdeal.nD Cert.RefMdgradIdeal.τ).loc Cert.RefMdgradIdeal.main_arg11))).1 = (fun _ => 1#1)
    ∧ (Cert.Pre_finite_mdgrad.fn (F := Ideal) (m ((c.tc : Thread Cert.RefMdgradIdeal.nD Cert.RefMdgradIdeal.τ).loc Cert.RefMdgradIdeal.main_arg0)) (m ((c.tc : Thread Cert.RefMdgradIdeal.nD Cert.RefMdgradIdeal.τ).loc Cert.RefMdgradIdeal.main_arg1)) (m ((c.tc : Thread Cert.RefMdgradIdeal.nD Cert.RefMdgradIdeal.τ).loc Cert.RefMdgradIdeal.main_arg2)) (m ((c.tc : Thread Cert.RefMdgradIdeal.nD Cert.RefMdgradIdeal.τ).loc Cert.RefMdgradIdeal.main_arg3)) (m ((c.tc : Thread Cert.RefMdgradIdeal.nD Cert.RefMdgradIdeal.τ).loc Cert.RefMdgradIdeal.main_arg4)) (m ((c.tc : Thread Cert.RefMdgradIdeal.nD Cert.RefMdgradIdeal.τ).loc Cert.RefMdgradIdeal.main_arg5)) (m ((c.tc : Thread Cert.RefMdgradIdeal.nD Cert.RefMdgradIdeal.τ).loc Cert.RefMdgradIdeal.main_arg6)) (m ((c.tc : Thread Cert.RefMdgradIdeal.nD Cert.RefMdgradIdeal.τ).loc Cert.RefMdgradIdeal.main_arg7)) (m ((c.tc : Thread Cert.RefMdgradIdeal.nD Cert.RefMdgradIdeal.τ).loc Cert.RefMdgradIdeal.main_arg8)) (m ((c.tc : Thread Cert.RefMdgradIdeal.nD Cert.RefMdgradIdeal.τ).loc Cert.RefMdgradIdeal.main_arg9)) (m ((c.tc : Thread Cert.RefMdgradIdeal.nD Cert.RefMdgradIdeal.τ).loc Cert.RefMdgradIdeal.main_arg10)) (m ((c.tc : Thread Cert.RefMdgradIdeal.nD Cert.RefMdgradIdeal.τ).loc Cert.RefMdgradIdeal.main_arg11))).2.1 = (fun _ => 1#1)
    ∧ (Cert.Pre_finite_mdgrad.fn (F := Ideal) (m ((c.tc : Thread Cert.RefMdgradIdeal.nD Cert.RefMdgradIdeal.τ).loc Cert.RefMdgradIdeal.main_arg0)) (m ((c.tc : Thread Cert.RefMdgradIdeal.nD Cert.RefMdgradIdeal.τ).loc Cert.RefMdgradIdeal.main_arg1)) (m ((c.tc : Thread Cert.RefMdgradIdeal.nD Cert.RefMdgradIdeal.τ).loc Cert.RefMdgradIdeal.main_arg2)) (m ((c.tc : Thread Cert.RefMdgradIdeal.nD Cert.RefMdgradIdeal.τ).loc Cert.RefMdgradIdeal.main_arg3)) (m ((c.tc : Thread Cert.RefMdgradIdeal.nD Cert.RefMdgradIdeal.τ).loc Cert.RefMdgradIdeal.main_arg4)) (m ((c.tc : Thread Cert.RefMdgradIdeal.nD Cert.RefMdgradIdeal.τ).loc Cert.RefMdgradIdeal.main_arg5)) (m ((c.tc : Thread Cert.RefMdgradIdeal.nD Cert.RefMdgradIdeal.τ).loc Cert.RefMdgradIdeal.main_arg6)) (m ((c.tc : Thread Cert.RefMdgradIdeal.nD Cert.RefMdgradIdeal.τ).loc Cert.RefMdgradIdeal.main_arg7)) (m ((c.tc : Thread Cert.RefMdgradIdeal.nD Cert.RefMdgradIdeal.τ).loc Cert.RefMdgradIdeal.main_arg8)) (m ((c.tc : Thread Cert.RefMdgradIdeal.nD Cert.RefMdgradIdeal.τ).loc Cert.RefMdgradIdeal.main_arg9)) (m ((c.tc : Thread Cert.RefMdgradIdeal.nD Cert.RefMdgradIdeal.τ).loc Cert.RefMdgradIdeal.main_arg10)) (m ((c.tc : Thread Cert.RefMdgradIdeal.nD Cert.RefMdgradIdeal.τ).loc Cert.RefMdgradIdeal.main_arg11))).2.2.1 = (fun _ => 1#1)
    ∧ (Cert.Pre_finite_mdgrad.fn (F := Ideal) (m ((c.tc : Thread Cert.RefMdgradIdeal.nD Cert.RefMdgradIdeal.τ).loc Cert.RefMdgradIdeal.main_arg0)) (m ((c.tc : Thread Cert.RefMdgradIdeal.nD Cert.RefMdgradIdeal.τ).loc Cert.RefMdgradIdeal.main_arg1)) (m ((c.tc : Thread Cert.RefMdgradIdeal.nD Cert.RefMdgradIdeal.τ).loc Cert.RefMdgradIdeal.main_arg2)) (m ((c.tc : Thread Cert.RefMdgradIdeal.nD Cert.RefMdgradIdeal.τ).loc Cert.RefMdgradIdeal.main_arg3)) (m ((c.tc : Thread Cert.RefMdgradIdeal.nD Cert.RefMdgradIdeal.τ).loc Cert.RefMdgradIdeal.main_arg4)) (m ((c.tc : Thread Cert.RefMdgradIdeal.nD Cert.RefMdgradIdeal.τ).loc Cert.RefMdgradIdeal.main_arg5)) (m ((c.tc : Thread Cert.RefMdgradIdeal.nD Cert.RefMdgradIdeal.τ).loc Cert.RefMdgradIdeal.main_arg6)) (m ((c.tc : Thread Cert.RefMdgradIdeal.nD Cert.RefMdgradIdeal.τ).loc Cert.RefMdgradIdeal.main_arg7)) (m ((c.tc : Thread Cert.RefMdgradIdeal.nD Cert.RefMdgradIdeal.τ).loc Cert.RefMdgradIdeal.main_arg8)) (m ((c.tc : Thread Cert.RefMdgradIdeal.nD Cert.RefMdgradIdeal.τ).loc Cert.RefMdgradIdeal.main_arg9)) (m ((c.tc : Thread Cert.RefMdgradIdeal.nD Cert.RefMdgradIdeal.τ).loc Cert.RefMdgradIdeal.main_arg10)) (m ((c.tc : Thread Cert.RefMdgradIdeal.nD Cert.RefMdgradIdeal.τ).loc Cert.RefMdgradIdeal.main_arg11))).2.2.2.1 = (fun _ => 1#1)
    ∧ (Cert.Pre_finite_mdgrad.fn (F := Ideal) (m ((c.tc : Thread Cert.RefMdgradIdeal.nD Cert.RefMdgradIdeal.τ).loc Cert.RefMdgradIdeal.main_arg0)) (m ((c.tc : Thread Cert.RefMdgradIdeal.nD Cert.RefMdgradIdeal.τ).loc Cert.RefMdgradIdeal.main_arg1)) (m ((c.tc : Thread Cert.RefMdgradIdeal.nD Cert.RefMdgradIdeal.τ).loc Cert.RefMdgradIdeal.main_arg2)) (m ((c.tc : Thread Cert.RefMdgradIdeal.nD Cert.RefMdgradIdeal.τ).loc Cert.RefMdgradIdeal.main_arg3)) (m ((c.tc : Thread Cert.RefMdgradIdeal.nD Cert.RefMdgradIdeal.τ).loc Cert.RefMdgradIdeal.main_arg4)) (m ((c.tc : Thread Cert.RefMdgradIdeal.nD Cert.RefMdgradIdeal.τ).loc Cert.RefMdgradIdeal.main_arg5)) (m ((c.tc : Thread Cert.RefMdgradIdeal.nD Cert.RefMdgradIdeal.τ).loc Cert.RefMdgradIdeal.main_arg6)) (m ((c.tc : Thread Cert.RefMdgradIdeal.nD Cert.RefMdgradIdeal.τ).loc Cert.RefMdgradIdeal.main_arg7)) (m ((c.tc : Thread Cert.RefMdgradIdeal.nD Cert.RefMdgradIdeal.τ).loc Cert.RefMdgradIdeal.main_arg8)) (m ((c.tc : Thread Cert.RefMdgradIdeal.nD Cert.RefMdgradIdeal.τ).loc Cert.RefMdgradIdeal.main_arg9)) (m ((c.tc : Thread Cert.RefMdgradIdeal.nD Cert.RefMdgradIdeal.τ).loc Cert.RefMdgradIdeal.main_arg10)) (m ((c.tc : Thread Cert.RefMdgradIdeal.nD Cert.RefMdgradIdeal.τ).loc Cert.RefMdgradIdeal.main_arg11))).2.2.2.2.1 = (fun _ => 1#1)
    ∧ (Cert.Pre_finite_mdgrad.fn (F := Ideal) (m ((c.tc : Thread Cert.RefMdgradIdeal.nD Cert.RefMdgradIdeal.τ).loc Cert.RefMdgradIdeal.main_arg0)) (m ((c.tc : Thread Cert.RefMdgradIdeal.nD Cert.RefMdgradIdeal.τ).loc Cert.RefMdgradIdeal.main_arg1)) (m ((c.tc : Thread Cert.RefMdgradIdeal.nD Cert.RefMdgradIdeal.τ).loc Cert.RefMdgradIdeal.main_arg2)) (m ((c.tc : Thread Cert.RefMdgradIdeal.nD Cert.RefMdgradIdeal.τ).loc Cert.RefMdgradIdeal.main_arg3)) (m ((c.tc : Thread Cert.RefMdgradIdeal.nD Cert.RefMdgradIdeal.τ).loc Cert.RefMdgradIdeal.main_arg4)) (m ((c.tc : Thread Cert.RefMdgradIdeal.nD Cert.RefMdgradIdeal.τ).loc Cert.RefMdgradIdeal.main_arg5)) (m ((c.tc : Thread Cert.RefMdgradIdeal.nD Cert.RefMdgradIdeal.τ).loc Cert.RefMdgradIdeal.main_arg6)) (m ((c.tc : Thread Cert.RefMdgradIdeal.nD Cert.RefMdgradIdeal.τ).loc Cert.RefMdgradIdeal.main_arg7)) (m ((c.tc : Thread Cert.RefMdgradIdeal.nD Cert.RefMdgradIdeal.τ).loc Cert.RefMdgradIdeal.main_arg8)) (m ((c.tc : Thread Cert.RefMdgradIdeal.nD Cert.RefMdgradIdeal.τ).loc Cert.RefMdgradIdeal.main_arg9)) (m ((c.tc : Thread Cert.RefMdgradIdeal.nD Cert.RefMdgradIdeal.τ).loc Cert.RefMdgradIdeal.main_arg10)) (m ((c.tc : Thread Cert.RefMdgradIdeal.nD Cert.RefMdgradIdeal.τ).loc Cert.RefMdgradIdeal.main_arg11))).2.2.2.2.2.1 = (fun _ => 1#1)
    ∧ (Cert.Pre_finite_mdgrad.fn (F := Ideal) (m ((c.tc : Thread Cert.RefMdgradIdeal.nD Cert.RefMdgradIdeal.τ).loc Cert.RefMdgradIdeal.main_arg0)) (m ((c.tc : Thread Cert.RefMdgradIdeal.nD Cert.RefMdgradIdeal.τ).loc Cert.RefMdgradIdeal.main_arg1)) (m ((c.tc : Thread Cert.RefMdgradIdeal.nD Cert.RefMdgradIdeal.τ).loc Cert.RefMdgradIdeal.main_arg2)) (m ((c.tc : Thread Cert.RefMdgradIdeal.nD Cert.RefMdgradIdeal.τ).loc Cert.RefMdgradIdeal.main_arg3)) (m ((c.tc : Thread Cert.RefMdgradIdeal.nD Cert.RefMdgradIdeal.τ).loc Cert.RefMdgradIdeal.main_arg4)) (m ((c.tc : Thread Cert.RefMdgradIdeal.nD Cert.RefMdgradIdeal.τ).loc Cert.RefMdgradIdeal.main_arg5)) (m ((c.tc : Thread Cert.RefMdgradIdeal.nD Cert.RefMdgradIdeal.τ).loc Cert.RefMdgradIdeal.main_arg6)) (m ((c.tc : Thread Cert.RefMdgradIdeal.nD Cert.RefMdgradIdeal.τ).loc Cert.RefMdgradIdeal.main_arg7)) (m ((c.tc : Thread Cert.RefMdgradIdeal.nD Cert.RefMdgradIdeal.τ).loc Cert.RefMdgradIdeal.main_arg8)) (m ((c.tc : Thread Cert.RefMdgradIdeal.nD Cert.RefMdgradIdeal.τ).loc Cert.RefMdgradIdeal.main_arg9)) (m ((c.tc : Thread Cert.RefMdgradIdeal.nD Cert.RefMdgradIdeal.τ).loc Cert.RefMdgradIdeal.main_arg10)) (m ((c.tc : Thread Cert.RefMdgradIdeal.nD Cert.RefMdgradIdeal.τ).loc Cert.RefMdgradIdeal.main_arg11))).2.2.2.2.2.2.1 = (fun _ => 1#1)
    ∧ (Cert.Pre_finite_mdgrad.fn (F := Ideal) (m ((c.tc : Thread Cert.RefMdgradIdeal.nD Cert.RefMdgradIdeal.τ).loc Cert.RefMdgradIdeal.main_arg0)) (m ((c.tc : Thread Cert.RefMdgradIdeal.nD Cert.RefMdgradIdeal.τ).loc Cert.RefMdgradIdeal.main_arg1)) (m ((c.tc : Thread Cert.RefMdgradIdeal.nD Cert.RefMdgradIdeal.τ).loc Cert.RefMdgradIdeal.main_arg2)) (m ((c.tc : Thread Cert.RefMdgradIdeal.nD Cert.RefMdgradIdeal.τ).loc Cert.RefMdgradIdeal.main_arg3)) (m ((c.tc : Thread Cert.RefMdgradIdeal.nD Cert.RefMdgradIdeal.τ).loc Cert.RefMdgradIdeal.main_arg4)) (m ((c.tc : Thread Cert.RefMdgradIdeal.nD Cert.RefMdgradIdeal.τ).loc Cert.RefMdgradIdeal.main_arg5)) (m ((c.tc : Thread Cert.RefMdgradIdeal.nD Cert.RefMdgradIdeal.τ).loc Cert.RefMdgradIdeal.main_arg6)) (m ((c.tc : Thread Cert.RefMdgradIdeal.nD Cert.RefMdgradIdeal.τ).loc Cert.RefMdgradIdeal.main_arg7)) (m ((c.tc : Thread Cert.RefMdgradIdeal.nD Cert.RefMdgradIdeal.τ).loc Cert.RefMdgradIdeal.main_arg8)) (m ((c.tc : Thread Cert.RefMdgradIdeal.nD Cert.RefMdgradIdeal.τ).loc Cert.RefMdgradIdeal.main_arg9)) (m ((c.tc : Thread Cert.RefMdgradIdeal.nD Cert.RefMdgradIdeal.τ).loc Cert.RefMdgradIdeal.main_arg10)) (m ((c.tc : Thread Cert.RefMdgradIdeal.nD Cert.RefMdgradIdeal.τ).loc Cert.RefMdgradIdeal.main_arg11))).2.2.2.2.2.2.2.1 = (fun _ => 1#1)
    ∧ (Cert.Pre_finite_mdgrad.fn (F := Ideal) (m ((c.tc : Thread Cert.RefMdgradIdeal.nD Cert.RefMdgradIdeal.τ).loc Cert.RefMdgradIdeal.main_arg0)) (m ((c.tc : Thread Cert.RefMdgradIdeal.nD Cert.RefMdgradIdeal.τ).loc Cert.RefMdgradIdeal.main_arg1)) (m ((c.tc : Thread Cert.RefMdgradIdeal.nD Cert.RefMdgradIdeal.τ).loc Cert.RefMdgradIdeal.main_arg2)) (m ((c.tc : Thread Cert.RefMdgradIdeal.nD Cert.RefMdgradIdeal.τ).loc Cert.RefMdgradIdeal.main_arg3)) (m ((c.tc : Thread Cert.RefMdgradIdeal.nD Cert.RefMdgradIdeal.τ).loc Cert.RefMdgradIdeal.main_arg4)) (m ((c.tc : Thread Cert.RefMdgradIdeal.nD Cert.RefMdgradIdeal.τ).loc Cert.RefMdgradIdeal.main_arg5)) (m ((c.tc : Thread Cert.RefMdgradIdeal.nD Cert.RefMdgradIdeal.τ).loc Cert.RefMdgradIdeal.main_arg6)) (m ((c.tc : Thread Cert.RefMdgradIdeal.nD Cert.RefMdgradIdeal.τ).loc Cert.RefMdgradIdeal.main_arg7)) (m ((c.tc : Thread Cert.RefMdgradIdeal.nD Cert.RefMdgradIdeal.τ).loc Cert.RefMdgradIdeal.main_arg8)) (m ((c.tc : Thread Cert.RefMdgradIdeal.nD Cert.RefMdgradIdeal.τ).loc Cert.RefMdgradIdeal.main_arg9)) (m ((c.tc : Thread Cert.RefMdgradIdeal.nD Cert.RefMdgradIdeal.τ).loc Cert.RefMdgradIdeal.main_arg10)) (m ((c.tc : Thread Cert.RefMdgradIdeal.nD Cert.RefMdgradIdeal.τ).loc Cert.RefMdgradIdeal.main_arg11))).2.2.2.2.2.2.2.2.1 = (fun _ => 1#1)
    ∧ (Cert.Pre_finite_mdgrad.fn (F := Ideal) (m ((c.tc : Thread Cert.RefMdgradIdeal.nD Cert.RefMdgradIdeal.τ).loc Cert.RefMdgradIdeal.main_arg0)) (m ((c.tc : Thread Cert.RefMdgradIdeal.nD Cert.RefMdgradIdeal.τ).loc Cert.RefMdgradIdeal.main_arg1)) (m ((c.tc : Thread Cert.RefMdgradIdeal.nD Cert.RefMdgradIdeal.τ).loc Cert.RefMdgradIdeal.main_arg2)) (m ((c.tc : Thread Cert.RefMdgradIdeal.nD Cert.RefMdgradIdeal.τ).loc Cert.RefMdgradIdeal.main_arg3)) (m ((c.tc : Thread Cert.RefMdgradIdeal.nD Cert.RefMdgradIdeal.τ).loc Cert.RefMdgradIdeal.main_arg4)) (m ((c.tc : Thread Cert.RefMdgradIdeal.nD Cert.RefMdgradIdeal.τ).loc Cert.RefMdgradIdeal.main_arg5)) (m ((c.tc : Thread Cert.RefMdgradIdeal.nD Cert.RefMdgradIdeal.τ).loc Cert.RefMdgradIdeal.main_arg6)) (m ((c.tc : Thread Cert.RefMdgradIdeal.nD Cert.RefMdgradIdeal.τ).loc Cert.RefMdgradIdeal.main_arg7)) (m ((c.tc : Thread Cert.RefMdgradIdeal.nD Cert.RefMdgradIdeal.τ).loc Cert.RefMdgradIdeal.main_arg8)) (m ((c.tc : Thread Cert.RefMdgradIdeal.nD Cert.RefMdgradIdeal.τ).loc Cert.RefMdgradIdeal.main_arg9)) (m ((c.tc : Thread Cert.RefMdgradIdeal.nD Cert.RefMdgradIdeal.τ).loc Cert.RefMdgradIdeal.main_arg10)) (m ((c.tc : Thread Cert.RefMdgradIdeal.nD Cert.RefMdgradIdeal.τ).loc Cert.RefMdgradIdeal.main_arg11))).2.2.2.2.2.2.2.2.2.1 = (fun _ => 1#1)
    ∧ (Cert.Pre_finite_mdgrad.fn (F := Ideal) (m ((c.tc : Thread Cert.RefMdgradIdeal.nD Cert.RefMdgradIdeal.τ).loc Cert.RefMdgradIdeal.main_arg0)) (m ((c.tc : Thread Cert.RefMdgradIdeal.nD Cert.RefMdgradIdeal.τ).loc Cert.RefMdgradIdeal.main_arg1)) (m ((c.tc : Thread Cert.RefMdgradIdeal.nD Cert.RefMdgradIdeal.τ).loc Cert.RefMdgradIdeal.main_arg2)) (m ((c.tc : Thread Cert.RefMdgradIdeal.nD Cert.RefMdgradIdeal.τ).loc Cert.RefMdgradIdeal.main_arg3)) (m ((c.tc : Thread Cert.RefMdgradIdeal.nD Cert.RefMdgradIdeal.τ).loc Cert.RefMdgradIdeal.main_arg4)) (m ((c.tc : Thread Cert.RefMdgradIdeal.nD Cert.RefMdgradIdeal.τ).loc Cert.RefMdgradIdeal.main_arg5)) (m ((c.tc : Thread Cert.RefMdgradIdeal.nD Cert.RefMdgradIdeal.τ).loc Cert.RefMdgradIdeal.main_arg6)) (m ((c.tc : Thread Cert.RefMdgradIdeal.nD Cert.RefMdgradIdeal.τ).loc Cert.RefMdgradIdeal.main_arg7)) (m ((c.tc : Thread Cert.RefMdgradIdeal.nD Cert.RefMdgradIdeal.τ).loc Cert.RefMdgradIdeal.main_arg8)) (m ((c.tc : Thread Cert.RefMdgradIdeal.nD Cert.RefMdgradIdeal.τ).loc Cert.RefMdgradIdeal.main_arg9)) (m ((c.tc : Thread Cert.RefMdgradIdeal.nD Cert.RefMdgradIdeal.τ).loc Cert.RefMdgradIdeal.main_arg10)) (m ((c.tc : Thread Cert.RefMdgradIdeal.nD Cert.RefMdgradIdeal.τ).loc Cert.RefMdgradIdeal.main_arg11))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2)
      ∧ r.2.mem ((c.tc : Thread Cert.Dact.nD Cert.Dact.τ).loc Cert.Dact.main_arg3) = m ((c.tc : Thread Cert.Dact.nD Cert.Dact.τ).loc Cert.Dact.main_arg3))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactIdeal_pre_finite_dact [hDactIdeal : Cert.DactIdeal.Facts] [hPre_finite_dact : Cert.Pre_finite_dact.Facts] : Prop :=
  ∀ (m : (ℓ : Loc Cert.DactIdeal.nD Cert.DactIdeal.τ Cert.DactIdeal.sig) → Buf (Elt Ideal) ℓ) (g : Dev Cert.DactIdeal.nD → PrngReg), Pre_DactIdeal_finite_dact m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_RefDactIdeal [hRefDactIdeal : Cert.RefDactIdeal.Facts] : Prop :=
  ∀ (m : (ℓ : Loc Cert.RefDactIdeal.nD Cert.RefDactIdeal.τ Cert.RefDactIdeal.sig) → Buf (Elt Ideal) ℓ) (g : Dev Cert.RefDactIdeal.nD → PrngReg), Pre_RefDactIdeal m →
    θ_run (Cert.RefDactIdeal.defs (F := Ideal)) (onTc (τ := Cert.RefDactIdeal.τ) (Cert.RefDactIdeal.main (F := Ideal))) ⟨m, fun _ => 0, g⟩ (fun r => (∀ c : Dev Cert.RefDactIdeal.nD,
      r.2.mem ((c.tc : Thread Cert.RefDactIdeal.nD Cert.RefDactIdeal.τ).loc Cert.RefDactIdeal.main_arg0) = m ((c.tc : Thread Cert.RefDactIdeal.nD Cert.RefDactIdeal.τ).loc Cert.RefDactIdeal.main_arg0)
      ∧ r.2.mem ((c.tc : Thread Cert.RefDactIdeal.nD Cert.RefDactIdeal.τ).loc Cert.RefDactIdeal.main_arg1) = m ((c.tc : Thread Cert.RefDactIdeal.nD Cert.RefDactIdeal.τ).loc Cert.RefDactIdeal.main_arg1)
      ∧ r.2.mem ((c.tc : Thread Cert.RefDactIdeal.nD Cert.RefDactIdeal.τ).loc Cert.RefDactIdeal.main_arg2) = m ((c.tc : Thread Cert.RefDactIdeal.nD Cert.RefDactIdeal.τ).loc Cert.RefDactIdeal.main_arg2)
      ∧ r.2.mem ((c.tc : Thread Cert.RefDactIdeal.nD Cert.RefDactIdeal.τ).loc Cert.RefDactIdeal.main_arg3) = m ((c.tc : Thread Cert.RefDactIdeal.nD Cert.RefDactIdeal.τ).loc Cert.RefDactIdeal.main_arg3))
      ∧ r.2.sem = fun _ => 0)

def quiescent_RefDactIdeal_pre_finite_dact [hRefDactIdeal : Cert.RefDactIdeal.Facts] [hPre_finite_dact : Cert.Pre_finite_dact.Facts] : Prop :=
  ∀ (m : (ℓ : Loc Cert.RefDactIdeal.nD Cert.RefDactIdeal.τ Cert.RefDactIdeal.sig) → Buf (Elt Ideal) ℓ) (g : Dev Cert.RefDactIdeal.nD → PrngReg), Pre_RefDactIdeal_finite_dact m →
    θ_run (Cert.RefDactIdeal.defs (F := Ideal)) (onTc (τ := Cert.RefDactIdeal.τ) (Cert.RefDactIdeal.main (F := Ideal))) ⟨m, fun _ => 0, g⟩ (fun r => (∀ c : Dev Cert.RefDactIdeal.nD,
      r.2.mem ((c.tc : Thread Cert.RefDactIdeal.nD Cert.RefDactIdeal.τ).loc Cert.RefDactIdeal.main_arg0) = m ((c.tc : Thread Cert.RefDactIdeal.nD Cert.RefDactIdeal.τ).loc Cert.RefDactIdeal.main_arg0)
      ∧ r.2.mem ((c.tc : Thread Cert.RefDactIdeal.nD Cert.RefDactIdeal.τ).loc Cert.RefDactIdeal.main_arg1) = m ((c.tc : Thread Cert.RefDactIdeal.nD Cert.RefDactIdeal.τ).loc Cert.RefDactIdeal.main_arg1)
      ∧ r.2.mem ((c.tc : Thread Cert.RefDactIdeal.nD Cert.RefDactIdeal.τ).loc Cert.RefDactIdeal.main_arg2) = m ((c.tc : Thread Cert.RefDactIdeal.nD Cert.RefDactIdeal.τ).loc Cert.RefDactIdeal.main_arg2)
      ∧ r.2.mem ((c.tc : Thread Cert.RefDactIdeal.nD Cert.RefDactIdeal.τ).loc Cert.RefDactIdeal.main_arg3) = m ((c.tc : Thread Cert.RefDactIdeal.nD Cert.RefDactIdeal.τ).loc Cert.RefDactIdeal.main_arg3))
      ∧ r.2.sem = fun _ => 0)

def quiescent_Dwd [hDwd : Cert.Dwd.Facts] : Prop :=
  ∀ (m : (ℓ : Loc Cert.Dwd.nD Cert.Dwd.τ Cert.Dwd.sig) → Buf (Elt Bits) ℓ) (g : Dev Cert.Dwd.nD → PrngReg), Pre_Dwd m →
    θ_run (Cert.Dwd.defs (F := Bits)) (onTc (τ := Cert.Dwd.τ) (Cert.Dwd.main (F := Bits))) ⟨m, fun _ => 0, g⟩ (fun r => (∀ c : Dev Cert.Dwd.nD,
      r.2.mem ((c.tc : Thread Cert.Dwd.nD Cert.Dwd.τ).loc Cert.Dwd.main_arg0) = m ((c.tc : Thread Cert.Dwd.nD Cert.Dwd.τ).loc Cert.Dwd.main_arg0)
      ∧ r.2.mem ((c.tc : Thread Cert.Dwd.nD Cert.Dwd.τ).loc Cert.Dwd.main_arg1) = m ((c.tc : Thread Cert.Dwd.nD Cert.Dwd.τ).loc Cert.Dwd.main_arg1))
      ∧ r.2.sem = fun _ => 0)

def quiescent_DwdIdeal [hDwdIdeal : Cert.DwdIdeal.Facts] : Prop :=
  ∀ (m : (ℓ : Loc Cert.DwdIdeal.nD Cert.DwdIdeal.τ Cert.DwdIdeal.sig) → Buf (Elt Ideal) ℓ) (g : Dev Cert.DwdIdeal.nD → PrngReg), Pre_DwdIdeal m →
    θ_run (Cert.DwdIdeal.defs (F := Ideal)) (onTc (τ := Cert.DwdIdeal.τ) (Cert.DwdIdeal.main (F := Ideal))) ⟨m, fun _ => 0, g⟩ (fun r => (∀ c : Dev Cert.DwdIdeal.nD,
      r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
      ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1))
      ∧ r.2.sem = fun _ => 0)

def quiescent_RefDwdIdeal [hRefDwdIdeal : Cert.RefDwdIdeal.Facts] : Prop :=
  ∀ (m : (ℓ : Loc Cert.RefDwdIdeal.nD Cert.RefDwdIdeal.τ Cert.RefDwdIdeal.sig) → Buf (Elt Ideal) ℓ) (g : Dev Cert.RefDwdIdeal.nD → PrngReg), Pre_RefDwdIdeal m →
    θ_run (Cert.RefDwdIdeal.defs (F := Ideal)) (onTc (τ := Cert.RefDwdIdeal.τ) (Cert.RefDwdIdeal.main (F := Ideal))) ⟨m, fun _ => 0, g⟩ (fun r => (∀ c : Dev Cert.RefDwdIdeal.nD,
      r.2.mem ((c.tc : Thread Cert.RefDwdIdeal.nD Cert.RefDwdIdeal.τ).loc Cert.RefDwdIdeal.main_arg0) = m ((c.tc : Thread Cert.RefDwdIdeal.nD Cert.RefDwdIdeal.τ).loc Cert.RefDwdIdeal.main_arg0)
      ∧ r.2.mem ((c.tc : Thread Cert.RefDwdIdeal.nD Cert.RefDwdIdeal.τ).loc Cert.RefDwdIdeal.main_arg1) = m ((c.tc : Thread Cert.RefDwdIdeal.nD Cert.RefDwdIdeal.τ).loc Cert.RefDwdIdeal.main_arg1))
      ∧ r.2.sem = fun _ => 0)

def quiescent_Dwg [hDwg : Cert.Dwg.Facts] : Prop :=
  ∀ (m : (ℓ : Loc Cert.Dwg.nD Cert.Dwg.τ Cert.Dwg.sig) → Buf (Elt Bits) ℓ) (g : Dev Cert.Dwg.nD → PrngReg), Pre_Dwg m →
    θ_run (Cert.Dwg.defs (F := Bits)) (onTc (τ := Cert.Dwg.τ) (Cert.Dwg.main (F := Bits))) ⟨m, fun _ => 0, g⟩ (fun r => (∀ c : Dev Cert.Dwg.nD,
      r.2.mem ((c.tc : Thread Cert.Dwg.nD Cert.Dwg.τ).loc Cert.Dwg.main_arg0) = m ((c.tc : Thread Cert.Dwg.nD Cert.Dwg.τ).loc Cert.Dwg.main_arg0)
      ∧ r.2.mem ((c.tc : Thread Cert.Dwg.nD Cert.Dwg.τ).loc Cert.Dwg.main_arg1) = m ((c.tc : Thread Cert.Dwg.nD Cert.Dwg.τ).loc Cert.Dwg.main_arg1))
      ∧ r.2.sem = fun _ => 0)

def quiescent_DwgIdeal [hDwgIdeal : Cert.DwgIdeal.Facts] : Prop :=
  ∀ (m : (ℓ : Loc Cert.DwgIdeal.nD Cert.DwgIdeal.τ Cert.DwgIdeal.sig) → Buf (Elt Ideal) ℓ) (g : Dev Cert.DwgIdeal.nD → PrngReg), Pre_DwgIdeal m →
    θ_run (Cert.DwgIdeal.defs (F := Ideal)) (onTc (τ := Cert.DwgIdeal.τ) (Cert.DwgIdeal.main (F := Ideal))) ⟨m, fun _ => 0, g⟩ (fun r => (∀ c : Dev Cert.DwgIdeal.nD,
      r.2.mem ((c.tc : Thread Cert.DwgIdeal.nD Cert.DwgIdeal.τ).loc Cert.DwgIdeal.main_arg0) = m ((c.tc : Thread Cert.DwgIdeal.nD Cert.DwgIdeal.τ).loc Cert.DwgIdeal.main_arg0)
      ∧ r.2.mem ((c.tc : Thread Cert.DwgIdeal.nD Cert.DwgIdeal.τ).loc Cert.DwgIdeal.main_arg1) = m ((c.tc : Thread Cert.DwgIdeal.nD Cert.DwgIdeal.τ).loc Cert.DwgIdeal.main_arg1))
      ∧ r.2.sem = fun _ => 0)

def quiescent_RefDwgIdeal [hRefDwgIdeal : Cert.RefDwgIdeal.Facts] : Prop :=
  ∀ (m : (ℓ : Loc Cert.RefDwgIdeal.nD Cert.RefDwgIdeal.τ Cert.RefDwgIdeal.sig) → Buf (Elt Ideal) ℓ) (g : Dev Cert.RefDwgIdeal.nD → PrngReg), Pre_RefDwgIdeal m →
    θ_run (Cert.RefDwgIdeal.defs (F := Ideal)) (onTc (τ := Cert.RefDwgIdeal.τ) (Cert.RefDwgIdeal.main (F := Ideal))) ⟨m, fun _ => 0, g⟩ (fun r => (∀ c : Dev Cert.RefDwgIdeal.nD,
      r.2.mem ((c.tc : Thread Cert.RefDwgIdeal.nD Cert.RefDwgIdeal.τ).loc Cert.RefDwgIdeal.main_arg0) = m ((c.tc : Thread Cert.RefDwgIdeal.nD Cert.RefDwgIdeal.τ).loc Cert.RefDwgIdeal.main_arg0)
      ∧ r.2.mem ((c.tc : Thread Cert.RefDwgIdeal.nD Cert.RefDwgIdeal.τ).loc Cert.RefDwgIdeal.main_arg1) = m ((c.tc : Thread Cert.RefDwgIdeal.nD Cert.RefDwgIdeal.τ).loc Cert.RefDwgIdeal.main_arg1))
      ∧ r.2.sem = fun _ => 0)

def quiescent_Dgrad [hDgrad : Cert.Dgrad.Facts] : Prop :=
  ∀ (m : (ℓ : Loc Cert.Dgrad.nD Cert.Dgrad.τ Cert.Dgrad.sig) → Buf (Elt Bits) ℓ) (g : Dev Cert.Dgrad.nD → PrngReg), Pre_Dgrad m →
    θ_run (Cert.Dgrad.defs (F := Bits)) (onTc (τ := Cert.Dgrad.τ) (Cert.Dgrad.main (F := Bits))) ⟨m, fun _ => 0, g⟩ (fun r => (∀ c : Dev Cert.Dgrad.nD,
      r.2.mem ((c.tc : Thread Cert.Dgrad.nD Cert.Dgrad.τ).loc Cert.Dgrad.main_arg0) = m ((c.tc : Thread Cert.Dgrad.nD Cert.Dgrad.τ).loc Cert.Dgrad.main_arg0)
      ∧ r.2.mem ((c.tc : Thread Cert.Dgrad.nD Cert.Dgrad.τ).loc Cert.Dgrad.main_arg1) = m ((c.tc : Thread Cert.Dgrad.nD Cert.Dgrad.τ).loc Cert.Dgrad.main_arg1)
      ∧ r.2.mem ((c.tc : Thread Cert.Dgrad.nD Cert.Dgrad.τ).loc Cert.Dgrad.main_arg2) = m ((c.tc : Thread Cert.Dgrad.nD Cert.Dgrad.τ).loc Cert.Dgrad.main_arg2)
      ∧ r.2.mem ((c.tc : Thread Cert.Dgrad.nD Cert.Dgrad.τ).loc Cert.Dgrad.main_arg3) = m ((c.tc : Thread Cert.Dgrad.nD Cert.Dgrad.τ).loc Cert.Dgrad.main_arg3)
      ∧ r.2.mem ((c.tc : Thread Cert.Dgrad.nD Cert.Dgrad.τ).loc Cert.Dgrad.main_arg4) = m ((c.tc : Thread Cert.Dgrad.nD Cert.Dgrad.τ).loc Cert.Dgrad.main_arg4)
      ∧ r.2.mem ((c.tc : Thread Cert.Dgrad.nD Cert.Dgrad.τ).loc Cert.Dgrad.main_arg5) = m ((c.tc : Thread Cert.Dgrad.nD Cert.Dgrad.τ).loc Cert.Dgrad.main_arg5)
      ∧ r.2.mem ((c.tc : Thread Cert.Dgrad.nD Cert.Dgrad.τ).loc Cert.Dgrad.main_arg6) = m ((c.tc : Thread Cert.Dgrad.nD Cert.Dgrad.τ).loc Cert.Dgrad.main_arg6)
      ∧ r.2.mem ((c.tc : Thread Cert.Dgrad.nD Cert.Dgrad.τ).loc Cert.Dgrad.main_arg7) = m ((c.tc : Thread Cert.Dgrad.nD Cert.Dgrad.τ).loc Cert.Dgrad.main_arg7))
      ∧ r.2.sem = fun _ => 0)

def quiescent_DgradIdeal [hDgradIdeal : Cert.DgradIdeal.Facts] : Prop :=
  ∀ (m : (ℓ : Loc Cert.DgradIdeal.nD Cert.DgradIdeal.τ Cert.DgradIdeal.sig) → Buf (Elt Ideal) ℓ) (g : Dev Cert.DgradIdeal.nD → PrngReg), Pre_DgradIdeal m →
    θ_run (Cert.DgradIdeal.defs (F := Ideal)) (onTc (τ := Cert.DgradIdeal.τ) (Cert.DgradIdeal.main (F := Ideal))) ⟨m, fun _ => 0, g⟩ (fun r => (∀ c : Dev Cert.DgradIdeal.nD,
      r.2.mem ((c.tc : Thread Cert.DgradIdeal.nD Cert.DgradIdeal.τ).loc Cert.DgradIdeal.main_arg0) = m ((c.tc : Thread Cert.DgradIdeal.nD Cert.DgradIdeal.τ).loc Cert.DgradIdeal.main_arg0)
      ∧ r.2.mem ((c.tc : Thread Cert.DgradIdeal.nD Cert.DgradIdeal.τ).loc Cert.DgradIdeal.main_arg1) = m ((c.tc : Thread Cert.DgradIdeal.nD Cert.DgradIdeal.τ).loc Cert.DgradIdeal.main_arg1)
      ∧ r.2.mem ((c.tc : Thread Cert.DgradIdeal.nD Cert.DgradIdeal.τ).loc Cert.DgradIdeal.main_arg2) = m ((c.tc : Thread Cert.DgradIdeal.nD Cert.DgradIdeal.τ).loc Cert.DgradIdeal.main_arg2)
      ∧ r.2.mem ((c.tc : Thread Cert.DgradIdeal.nD Cert.DgradIdeal.τ).loc Cert.DgradIdeal.main_arg3) = m ((c.tc : Thread Cert.DgradIdeal.nD Cert.DgradIdeal.τ).loc Cert.DgradIdeal.main_arg3)
      ∧ r.2.mem ((c.tc : Thread Cert.DgradIdeal.nD Cert.DgradIdeal.τ).loc Cert.DgradIdeal.main_arg4) = m ((c.tc : Thread Cert.DgradIdeal.nD Cert.DgradIdeal.τ).loc Cert.DgradIdeal.main_arg4)
      ∧ r.2.mem ((c.tc : Thread Cert.DgradIdeal.nD Cert.DgradIdeal.τ).loc Cert.DgradIdeal.main_arg5) = m ((c.tc : Thread Cert.DgradIdeal.nD Cert.DgradIdeal.τ).loc Cert.DgradIdeal.main_arg5)
      ∧ r.2.mem ((c.tc : Thread Cert.DgradIdeal.nD Cert.DgradIdeal.τ).loc Cert.DgradIdeal.main_arg6) = m ((c.tc : Thread Cert.DgradIdeal.nD Cert.DgradIdeal.τ).loc Cert.DgradIdeal.main_arg6)
      ∧ r.2.mem ((c.tc : Thread Cert.DgradIdeal.nD Cert.DgradIdeal.τ).loc Cert.DgradIdeal.main_arg7) = m ((c.tc : Thread Cert.DgradIdeal.nD Cert.DgradIdeal.τ).loc Cert.DgradIdeal.main_arg7))
      ∧ r.2.sem = fun _ => 0)

def quiescent_DgradIdeal_pre_finite_dgrad [hDgradIdeal : Cert.DgradIdeal.Facts] [hPre_finite_dgrad : Cert.Pre_finite_dgrad.Facts] : Prop :=
  ∀ (m : (ℓ : Loc Cert.DgradIdeal.nD Cert.DgradIdeal.τ Cert.DgradIdeal.sig) → Buf (Elt Ideal) ℓ) (g : Dev Cert.DgradIdeal.nD → PrngReg), Pre_DgradIdeal_finite_dgrad m →
    θ_run (Cert.DgradIdeal.defs (F := Ideal)) (onTc (τ := Cert.DgradIdeal.τ) (Cert.DgradIdeal.main (F := Ideal))) ⟨m, fun _ => 0, g⟩ (fun r => (∀ c : Dev Cert.DgradIdeal.nD,
      r.2.mem ((c.tc : Thread Cert.DgradIdeal.nD Cert.DgradIdeal.τ).loc Cert.DgradIdeal.main_arg0) = m ((c.tc : Thread Cert.DgradIdeal.nD Cert.DgradIdeal.τ).loc Cert.DgradIdeal.main_arg0)
      ∧ r.2.mem ((c.tc : Thread Cert.DgradIdeal.nD Cert.DgradIdeal.τ).loc Cert.DgradIdeal.main_arg1) = m ((c.tc : Thread Cert.DgradIdeal.nD Cert.DgradIdeal.τ).loc Cert.DgradIdeal.main_arg1)
      ∧ r.2.mem ((c.tc : Thread Cert.DgradIdeal.nD Cert.DgradIdeal.τ).loc Cert.DgradIdeal.main_arg2) = m ((c.tc : Thread Cert.DgradIdeal.nD Cert.DgradIdeal.τ).loc Cert.DgradIdeal.main_arg2)
      ∧ r.2.mem ((c.tc : Thread Cert.DgradIdeal.nD Cert.DgradIdeal.τ).loc Cert.DgradIdeal.main_arg3) = m ((c.tc : Thread Cert.DgradIdeal.nD Cert.DgradIdeal.τ).loc Cert.DgradIdeal.main_arg3)
      ∧ r.2.mem ((c.tc : Thread Cert.DgradIdeal.nD Cert.DgradIdeal.τ).loc Cert.DgradIdeal.main_arg4) = m ((c.tc : Thread Cert.DgradIdeal.nD Cert.DgradIdeal.τ).loc Cert.DgradIdeal.main_arg4)
      ∧ r.2.mem ((c.tc : Thread Cert.DgradIdeal.nD Cert.DgradIdeal.τ).loc Cert.DgradIdeal.main_arg5) = m ((c.tc : Thread Cert.DgradIdeal.nD Cert.DgradIdeal.τ).loc Cert.DgradIdeal.main_arg5)
      ∧ r.2.mem ((c.tc : Thread Cert.DgradIdeal.nD Cert.DgradIdeal.τ).loc Cert.DgradIdeal.main_arg6) = m ((c.tc : Thread Cert.DgradIdeal.nD Cert.DgradIdeal.τ).loc Cert.DgradIdeal.main_arg6)
      ∧ r.2.mem ((c.tc : Thread Cert.DgradIdeal.nD Cert.DgradIdeal.τ).loc Cert.DgradIdeal.main_arg7) = m ((c.tc : Thread Cert.DgradIdeal.nD Cert.DgradIdeal.τ).loc Cert.DgradIdeal.main_arg7))
      ∧ r.2.sem = fun _ => 0)

def quiescent_RefDgradIdeal [hRefDgradIdeal : Cert.RefDgradIdeal.Facts] : Prop :=
  ∀ (m : (ℓ : Loc Cert.RefDgradIdeal.nD Cert.RefDgradIdeal.τ Cert.RefDgradIdeal.sig) → Buf (Elt Ideal) ℓ) (g : Dev Cert.RefDgradIdeal.nD → PrngReg), Pre_RefDgradIdeal m →
    θ_run (Cert.RefDgradIdeal.defs (F := Ideal)) (onTc (τ := Cert.RefDgradIdeal.τ) (Cert.RefDgradIdeal.main (F := Ideal))) ⟨m, fun _ => 0, g⟩ (fun r => (∀ c : Dev Cert.RefDgradIdeal.nD,
      r.2.mem ((c.tc : Thread Cert.RefDgradIdeal.nD Cert.RefDgradIdeal.τ).loc Cert.RefDgradIdeal.main_arg0) = m ((c.tc : Thread Cert.RefDgradIdeal.nD Cert.RefDgradIdeal.τ).loc Cert.RefDgradIdeal.main_arg0)
      ∧ r.2.mem ((c.tc : Thread Cert.RefDgradIdeal.nD Cert.RefDgradIdeal.τ).loc Cert.RefDgradIdeal.main_arg1) = m ((c.tc : Thread Cert.RefDgradIdeal.nD Cert.RefDgradIdeal.τ).loc Cert.RefDgradIdeal.main_arg1)
      ∧ r.2.mem ((c.tc : Thread Cert.RefDgradIdeal.nD Cert.RefDgradIdeal.τ).loc Cert.RefDgradIdeal.main_arg2) = m ((c.tc : Thread Cert.RefDgradIdeal.nD Cert.RefDgradIdeal.τ).loc Cert.RefDgradIdeal.main_arg2)
      ∧ r.2.mem ((c.tc : Thread Cert.RefDgradIdeal.nD Cert.RefDgradIdeal.τ).loc Cert.RefDgradIdeal.main_arg3) = m ((c.tc : Thread Cert.RefDgradIdeal.nD Cert.RefDgradIdeal.τ).loc Cert.RefDgradIdeal.main_arg3)
      ∧ r.2.mem ((c.tc : Thread Cert.RefDgradIdeal.nD Cert.RefDgradIdeal.τ).loc Cert.RefDgradIdeal.main_arg4) = m ((c.tc : Thread Cert.RefDgradIdeal.nD Cert.RefDgradIdeal.τ).loc Cert.RefDgradIdeal.main_arg4)
      ∧ r.2.mem ((c.tc : Thread Cert.RefDgradIdeal.nD Cert.RefDgradIdeal.τ).loc Cert.RefDgradIdeal.main_arg5) = m ((c.tc : Thread Cert.RefDgradIdeal.nD Cert.RefDgradIdeal.τ).loc Cert.RefDgradIdeal.main_arg5)
      ∧ r.2.mem ((c.tc : Thread Cert.RefDgradIdeal.nD Cert.RefDgradIdeal.τ).loc Cert.RefDgradIdeal.main_arg6) = m ((c.tc : Thread Cert.RefDgradIdeal.nD Cert.RefDgradIdeal.τ).loc Cert.RefDgradIdeal.main_arg6)
      ∧ r.2.mem ((c.tc : Thread Cert.RefDgradIdeal.nD Cert.RefDgradIdeal.τ).loc Cert.RefDgradIdeal.main_arg7) = m ((c.tc : Thread Cert.RefDgradIdeal.nD Cert.RefDgradIdeal.τ).loc Cert.RefDgradIdeal.main_arg7))
      ∧ r.2.sem = fun _ => 0)

def quiescent_RefDgradIdeal_pre_finite_dgrad [hRefDgradIdeal : Cert.RefDgradIdeal.Facts] [hPre_finite_dgrad : Cert.Pre_finite_dgrad.Facts] : Prop :=
  ∀ (m : (ℓ : Loc Cert.RefDgradIdeal.nD Cert.RefDgradIdeal.τ Cert.RefDgradIdeal.sig) → Buf (Elt Ideal) ℓ) (g : Dev Cert.RefDgradIdeal.nD → PrngReg), Pre_RefDgradIdeal_finite_dgrad m →
    θ_run (Cert.RefDgradIdeal.defs (F := Ideal)) (onTc (τ := Cert.RefDgradIdeal.τ) (Cert.RefDgradIdeal.main (F := Ideal))) ⟨m, fun _ => 0, g⟩ (fun r => (∀ c : Dev Cert.RefDgradIdeal.nD,
      r.2.mem ((c.tc : Thread Cert.RefDgradIdeal.nD Cert.RefDgradIdeal.τ).loc Cert.RefDgradIdeal.main_arg0) = m ((c.tc : Thread Cert.RefDgradIdeal.nD Cert.RefDgradIdeal.τ).loc Cert.RefDgradIdeal.main_arg0)
      ∧ r.2.mem ((c.tc : Thread Cert.RefDgradIdeal.nD Cert.RefDgradIdeal.τ).loc Cert.RefDgradIdeal.main_arg1) = m ((c.tc : Thread Cert.RefDgradIdeal.nD Cert.RefDgradIdeal.τ).loc Cert.RefDgradIdeal.main_arg1)
      ∧ r.2.mem ((c.tc : Thread Cert.RefDgradIdeal.nD Cert.RefDgradIdeal.τ).loc Cert.RefDgradIdeal.main_arg2) = m ((c.tc : Thread Cert.RefDgradIdeal.nD Cert.RefDgradIdeal.τ).loc Cert.RefDgradIdeal.main_arg2)
      ∧ r.2.mem ((c.tc : Thread Cert.RefDgradIdeal.nD Cert.RefDgradIdeal.τ).loc Cert.RefDgradIdeal.main_arg3) = m ((c.tc : Thread Cert.RefDgradIdeal.nD Cert.RefDgradIdeal.τ).loc Cert.RefDgradIdeal.main_arg3)
      ∧ r.2.mem ((c.tc : Thread Cert.RefDgradIdeal.nD Cert.RefDgradIdeal.τ).loc Cert.RefDgradIdeal.main_arg4) = m ((c.tc : Thread Cert.RefDgradIdeal.nD Cert.RefDgradIdeal.τ).loc Cert.RefDgradIdeal.main_arg4)
      ∧ r.2.mem ((c.tc : Thread Cert.RefDgradIdeal.nD Cert.RefDgradIdeal.τ).loc Cert.RefDgradIdeal.main_arg5) = m ((c.tc : Thread Cert.RefDgradIdeal.nD Cert.RefDgradIdeal.τ).loc Cert.RefDgradIdeal.main_arg5)
      ∧ r.2.mem ((c.tc : Thread Cert.RefDgradIdeal.nD Cert.RefDgradIdeal.τ).loc Cert.RefDgradIdeal.main_arg6) = m ((c.tc : Thread Cert.RefDgradIdeal.nD Cert.RefDgradIdeal.τ).loc Cert.RefDgradIdeal.main_arg6)
      ∧ r.2.mem ((c.tc : Thread Cert.RefDgradIdeal.nD Cert.RefDgradIdeal.τ).loc Cert.RefDgradIdeal.main_arg7) = m ((c.tc : Thread Cert.RefDgradIdeal.nD Cert.RefDgradIdeal.τ).loc Cert.RefDgradIdeal.main_arg7))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_RefUpIdeal [hRefUpIdeal : Cert.RefUpIdeal.Facts] : Prop :=
  ∀ (m : (ℓ : Loc Cert.RefUpIdeal.nD Cert.RefUpIdeal.τ Cert.RefUpIdeal.sig) → Buf (Elt Ideal) ℓ) (g : Dev Cert.RefUpIdeal.nD → PrngReg), Pre_RefUpIdeal m →
    θ_run (Cert.RefUpIdeal.defs (F := Ideal)) (onTc (τ := Cert.RefUpIdeal.τ) (Cert.RefUpIdeal.main (F := Ideal))) ⟨m, fun _ => 0, g⟩ (fun r => (∀ c : Dev Cert.RefUpIdeal.nD,
      r.2.mem ((c.tc : Thread Cert.RefUpIdeal.nD Cert.RefUpIdeal.τ).loc Cert.RefUpIdeal.main_arg0) = m ((c.tc : Thread Cert.RefUpIdeal.nD Cert.RefUpIdeal.τ).loc Cert.RefUpIdeal.main_arg0)
      ∧ r.2.mem ((c.tc : Thread Cert.RefUpIdeal.nD Cert.RefUpIdeal.τ).loc Cert.RefUpIdeal.main_arg1) = m ((c.tc : Thread Cert.RefUpIdeal.nD Cert.RefUpIdeal.τ).loc Cert.RefUpIdeal.main_arg1)
      ∧ r.2.mem ((c.tc : Thread Cert.RefUpIdeal.nD Cert.RefUpIdeal.τ).loc Cert.RefUpIdeal.main_arg2) = m ((c.tc : Thread Cert.RefUpIdeal.nD Cert.RefUpIdeal.τ).loc Cert.RefUpIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1)
      ∧ r.2.mem ((c.tc : Thread Cert.RefDownIdeal.nD Cert.RefDownIdeal.τ).loc Cert.RefDownIdeal.main_arg2) = m ((c.tc : Thread Cert.RefDownIdeal.nD Cert.RefDownIdeal.τ).loc Cert.RefDownIdeal.main_arg2)
      ∧ r.2.mem ((c.tc : Thread Cert.RefDownIdeal.nD Cert.RefDownIdeal.τ).loc Cert.RefDownIdeal.main_arg3) = m ((c.tc : Thread Cert.RefDownIdeal.nD Cert.RefDownIdeal.τ).loc Cert.RefDownIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_RefGateIdeal [hRefGateIdeal : Cert.RefGateIdeal.Facts] : Prop :=
  ∀ (m : (ℓ : Loc Cert.RefGateIdeal.nD Cert.RefGateIdeal.τ Cert.RefGateIdeal.sig) → Buf (Elt Ideal) ℓ) (g : Dev Cert.RefGateIdeal.nD → PrngReg), Pre_RefGateIdeal m →
    θ_run (Cert.RefGateIdeal.defs (F := Ideal)) (onTc (τ := Cert.RefGateIdeal.τ) (Cert.RefGateIdeal.main (F := Ideal))) ⟨m, fun _ => 0, g⟩ (fun r => (∀ c : Dev Cert.RefGateIdeal.nD,
      r.2.mem ((c.tc : Thread Cert.RefGateIdeal.nD Cert.RefGateIdeal.τ).loc Cert.RefGateIdeal.main_arg0) = m ((c.tc : Thread Cert.RefGateIdeal.nD Cert.RefGateIdeal.τ).loc Cert.RefGateIdeal.main_arg0)
      ∧ r.2.mem ((c.tc : Thread Cert.RefGateIdeal.nD Cert.RefGateIdeal.τ).loc Cert.RefGateIdeal.main_arg1) = m ((c.tc : Thread Cert.RefGateIdeal.nD Cert.RefGateIdeal.τ).loc Cert.RefGateIdeal.main_arg1)
      ∧ r.2.mem ((c.tc : Thread Cert.RefGateIdeal.nD Cert.RefGateIdeal.τ).loc Cert.RefGateIdeal.main_arg2) = m ((c.tc : Thread Cert.RefGateIdeal.nD Cert.RefGateIdeal.τ).loc Cert.RefGateIdeal.main_arg2))
      ∧ r.2.sem = fun _ => 0)

def quiescent_Mgate [hMgate : Cert.Mgate.Facts] : Prop :=
  ∀ (m : (ℓ : Loc Cert.Mgate.nD Cert.Mgate.τ Cert.Mgate.sig) → Buf (Elt Bits) ℓ) (g : Dev Cert.Mgate.nD → PrngReg), Pre_Mgate m →
    θ_run (Cert.Mgate.defs (F := Bits)) (onTc (τ := Cert.Mgate.τ) (Cert.Mgate.main (F := Bits))) ⟨m, fun _ => 0, g⟩ (fun r => (∀ c : Dev Cert.Mgate.nD,
      r.2.mem ((c.tc : Thread Cert.Mgate.nD Cert.Mgate.τ).loc Cert.Mgate.main_arg0) = m ((c.tc : Thread Cert.Mgate.nD Cert.Mgate.τ).loc Cert.Mgate.main_arg0)
      ∧ r.2.mem ((c.tc : Thread Cert.Mgate.nD Cert.Mgate.τ).loc Cert.Mgate.main_arg1) = m ((c.tc : Thread Cert.Mgate.nD Cert.Mgate.τ).loc Cert.Mgate.main_arg1)
      ∧ r.2.mem ((c.tc : Thread Cert.Mgate.nD Cert.Mgate.τ).loc Cert.Mgate.main_arg2) = m ((c.tc : Thread Cert.Mgate.nD Cert.Mgate.τ).loc Cert.Mgate.main_arg2))
      ∧ r.2.sem = fun _ => 0)

def quiescent_MgateIdeal [hMgateIdeal : Cert.MgateIdeal.Facts] : Prop :=
  ∀ (m : (ℓ : Loc Cert.MgateIdeal.nD Cert.MgateIdeal.τ Cert.MgateIdeal.sig) → Buf (Elt Ideal) ℓ) (g : Dev Cert.MgateIdeal.nD → PrngReg), Pre_MgateIdeal m →
    θ_run (Cert.MgateIdeal.defs (F := Ideal)) (onTc (τ := Cert.MgateIdeal.τ) (Cert.MgateIdeal.main (F := Ideal))) ⟨m, fun _ => 0, g⟩ (fun r => (∀ c : Dev Cert.MgateIdeal.nD,
      r.2.mem ((c.tc : Thread Cert.MgateIdeal.nD Cert.MgateIdeal.τ).loc Cert.MgateIdeal.main_arg0) = m ((c.tc : Thread Cert.MgateIdeal.nD Cert.MgateIdeal.τ).loc Cert.MgateIdeal.main_arg0)
      ∧ r.2.mem ((c.tc : Thread Cert.MgateIdeal.nD Cert.MgateIdeal.τ).loc Cert.MgateIdeal.main_arg1) = m ((c.tc : Thread Cert.MgateIdeal.nD Cert.MgateIdeal.τ).loc Cert.MgateIdeal.main_arg1)
      ∧ r.2.mem ((c.tc : Thread Cert.MgateIdeal.nD Cert.MgateIdeal.τ).loc Cert.MgateIdeal.main_arg2) = m ((c.tc : Thread Cert.MgateIdeal.nD Cert.MgateIdeal.τ).loc Cert.MgateIdeal.main_arg2))
      ∧ r.2.sem = fun _ => 0)

def quiescent_RefMgateIdeal [hRefMgateIdeal : Cert.RefMgateIdeal.Facts] : Prop :=
  ∀ (m : (ℓ : Loc Cert.RefMgateIdeal.nD Cert.RefMgateIdeal.τ Cert.RefMgateIdeal.sig) → Buf (Elt Ideal) ℓ) (g : Dev Cert.RefMgateIdeal.nD → PrngReg), Pre_RefMgateIdeal m →
    θ_run (Cert.RefMgateIdeal.defs (F := Ideal)) (onTc (τ := Cert.RefMgateIdeal.τ) (Cert.RefMgateIdeal.main (F := Ideal))) ⟨m, fun _ => 0, g⟩ (fun r => (∀ c : Dev Cert.RefMgateIdeal.nD,
      r.2.mem ((c.tc : Thread Cert.RefMgateIdeal.nD Cert.RefMgateIdeal.τ).loc Cert.RefMgateIdeal.main_arg0) = m ((c.tc : Thread Cert.RefMgateIdeal.nD Cert.RefMgateIdeal.τ).loc Cert.RefMgateIdeal.main_arg0)
      ∧ r.2.mem ((c.tc : Thread Cert.RefMgateIdeal.nD Cert.RefMgateIdeal.τ).loc Cert.RefMgateIdeal.main_arg1) = m ((c.tc : Thread Cert.RefMgateIdeal.nD Cert.RefMgateIdeal.τ).loc Cert.RefMgateIdeal.main_arg1)
      ∧ r.2.mem ((c.tc : Thread Cert.RefMgateIdeal.nD Cert.RefMgateIdeal.τ).loc Cert.RefMgateIdeal.main_arg2) = m ((c.tc : Thread Cert.RefMgateIdeal.nD Cert.RefMgateIdeal.τ).loc Cert.RefMgateIdeal.main_arg2))
      ∧ r.2.sem = fun _ => 0)

def quiescent_Gnorm [hGnorm : Cert.Gnorm.Facts] : Prop :=
  ∀ (m : (ℓ : Loc Cert.Gnorm.nD Cert.Gnorm.τ Cert.Gnorm.sig) → Buf (Elt Bits) ℓ) (g : Dev Cert.Gnorm.nD → PrngReg), Pre_Gnorm m →
    θ_run (Cert.Gnorm.defs (F := Bits)) (onTc (τ := Cert.Gnorm.τ) (Cert.Gnorm.main (F := Bits))) ⟨m, fun _ => 0, g⟩ (fun r => (∀ c : Dev Cert.Gnorm.nD,
      r.2.mem ((c.tc : Thread Cert.Gnorm.nD Cert.Gnorm.τ).loc Cert.Gnorm.main_arg0) = m ((c.tc : Thread Cert.Gnorm.nD Cert.Gnorm.τ).loc Cert.Gnorm.main_arg0)
      ∧ r.2.mem ((c.tc : Thread Cert.Gnorm.nD Cert.Gnorm.τ).loc Cert.Gnorm.main_arg1) = m ((c.tc : Thread Cert.Gnorm.nD Cert.Gnorm.τ).loc Cert.Gnorm.main_arg1)
      ∧ r.2.mem ((c.tc : Thread Cert.Gnorm.nD Cert.Gnorm.τ).loc Cert.Gnorm.main_arg2) = m ((c.tc : Thread Cert.Gnorm.nD Cert.Gnorm.τ).loc Cert.Gnorm.main_arg2)
      ∧ r.2.mem ((c.tc : Thread Cert.Gnorm.nD Cert.Gnorm.τ).loc Cert.Gnorm.main_arg3) = m ((c.tc : Thread Cert.Gnorm.nD Cert.Gnorm.τ).loc Cert.Gnorm.main_arg3))
      ∧ r.2.sem = fun _ => 0)

def quiescent_GnormIdeal [hGnormIdeal : Cert.GnormIdeal.Facts] : Prop :=
  ∀ (m : (ℓ : Loc Cert.GnormIdeal.nD Cert.GnormIdeal.τ Cert.GnormIdeal.sig) → Buf (Elt Ideal) ℓ) (g : Dev Cert.GnormIdeal.nD → PrngReg), Pre_GnormIdeal m →
    θ_run (Cert.GnormIdeal.defs (F := Ideal)) (onTc (τ := Cert.GnormIdeal.τ) (Cert.GnormIdeal.main (F := Ideal))) ⟨m, fun _ => 0, g⟩ (fun r => (∀ c : Dev Cert.GnormIdeal.nD,
      r.2.mem ((c.tc : Thread Cert.GnormIdeal.nD Cert.GnormIdeal.τ).loc Cert.GnormIdeal.main_arg0) = m ((c.tc : Thread Cert.GnormIdeal.nD Cert.GnormIdeal.τ).loc Cert.GnormIdeal.main_arg0)
      ∧ r.2.mem ((c.tc : Thread Cert.GnormIdeal.nD Cert.GnormIdeal.τ).loc Cert.GnormIdeal.main_arg1) = m ((c.tc : Thread Cert.GnormIdeal.nD Cert.GnormIdeal.τ).loc Cert.GnormIdeal.main_arg1)
      ∧ r.2.mem ((c.tc : Thread Cert.GnormIdeal.nD Cert.GnormIdeal.τ).loc Cert.GnormIdeal.main_arg2) = m ((c.tc : Thread Cert.GnormIdeal.nD Cert.GnormIdeal.τ).loc Cert.GnormIdeal.main_arg2)
      ∧ r.2.mem ((c.tc : Thread Cert.GnormIdeal.nD Cert.GnormIdeal.τ).loc Cert.GnormIdeal.main_arg3) = m ((c.tc : Thread Cert.GnormIdeal.nD Cert.GnormIdeal.τ).loc Cert.GnormIdeal.main_arg3))
      ∧ r.2.sem = fun _ => 0)

def quiescent_GnormIdeal_pre_finite_gnorm [hGnormIdeal : Cert.GnormIdeal.Facts] [hPre_finite_gnorm : Cert.Pre_finite_gnorm.Facts] : Prop :=
  ∀ (m : (ℓ : Loc Cert.GnormIdeal.nD Cert.GnormIdeal.τ Cert.GnormIdeal.sig) → Buf (Elt Ideal) ℓ) (g : Dev Cert.GnormIdeal.nD → PrngReg), Pre_GnormIdeal_finite_gnorm m →
    θ_run (Cert.GnormIdeal.defs (F := Ideal)) (onTc (τ := Cert.GnormIdeal.τ) (Cert.GnormIdeal.main (F := Ideal))) ⟨m, fun _ => 0, g⟩ (fun r => (∀ c : Dev Cert.GnormIdeal.nD,
      r.2.mem ((c.tc : Thread Cert.GnormIdeal.nD Cert.GnormIdeal.τ).loc Cert.GnormIdeal.main_arg0) = m ((c.tc : Thread Cert.GnormIdeal.nD Cert.GnormIdeal.τ).loc Cert.GnormIdeal.main_arg0)
      ∧ r.2.mem ((c.tc : Thread Cert.GnormIdeal.nD Cert.GnormIdeal.τ).loc Cert.GnormIdeal.main_arg1) = m ((c.tc : Thread Cert.GnormIdeal.nD Cert.GnormIdeal.τ).loc Cert.GnormIdeal.main_arg1)
      ∧ r.2.mem ((c.tc : Thread Cert.GnormIdeal.nD Cert.GnormIdeal.τ).loc Cert.GnormIdeal.main_arg2) = m ((c.tc : Thread Cert.GnormIdeal.nD Cert.GnormIdeal.τ).loc Cert.GnormIdeal.main_arg2)
      ∧ r.2.mem ((c.tc : Thread Cert.GnormIdeal.nD Cert.GnormIdeal.τ).loc Cert.GnormIdeal.main_arg3) = m ((c.tc : Thread Cert.GnormIdeal.nD Cert.GnormIdeal.τ).loc Cert.GnormIdeal.main_arg3))
      ∧ r.2.sem = fun _ => 0)

def quiescent_RefGnormIdeal [hRefGnormIdeal : Cert.RefGnormIdeal.Facts] : Prop :=
  ∀ (m : (ℓ : Loc Cert.RefGnormIdeal.nD Cert.RefGnormIdeal.τ Cert.RefGnormIdeal.sig) → Buf (Elt Ideal) ℓ) (g : Dev Cert.RefGnormIdeal.nD → PrngReg), Pre_RefGnormIdeal m →
    θ_run (Cert.RefGnormIdeal.defs (F := Ideal)) (onTc (τ := Cert.RefGnormIdeal.τ) (Cert.RefGnormIdeal.main (F := Ideal))) ⟨m, fun _ => 0, g⟩ (fun r => (∀ c : Dev Cert.RefGnormIdeal.nD,
      r.2.mem ((c.tc : Thread Cert.RefGnormIdeal.nD Cert.RefGnormIdeal.τ).loc Cert.RefGnormIdeal.main_arg0) = m ((c.tc : Thread Cert.RefGnormIdeal.nD Cert.RefGnormIdeal.τ).loc Cert.RefGnormIdeal.main_arg0)
      ∧ r.2.mem ((c.tc : Thread Cert.RefGnormIdeal.nD Cert.RefGnormIdeal.τ).loc Cert.RefGnormIdeal.main_arg1) = m ((c.tc : Thread Cert.RefGnormIdeal.nD Cert.RefGnormIdeal.τ).loc Cert.RefGnormIdeal.main_arg1)
      ∧ r.2.mem ((c.tc : Thread Cert.RefGnormIdeal.nD Cert.RefGnormIdeal.τ).loc Cert.RefGnormIdeal.main_arg2) = m ((c.tc : Thread Cert.RefGnormIdeal.nD Cert.RefGnormIdeal.τ).loc Cert.RefGnormIdeal.main_arg2)
      ∧ r.2.mem ((c.tc : Thread Cert.RefGnormIdeal.nD Cert.RefGnormIdeal.τ).loc Cert.RefGnormIdeal.main_arg3) = m ((c.tc : Thread Cert.RefGnormIdeal.nD Cert.RefGnormIdeal.τ).loc Cert.RefGnormIdeal.main_arg3))
      ∧ r.2.sem = fun _ => 0)

def quiescent_RefGnormIdeal_pre_finite_gnorm [hRefGnormIdeal : Cert.RefGnormIdeal.Facts] [hPre_finite_gnorm : Cert.Pre_finite_gnorm.Facts] : Prop :=
  ∀ (m : (ℓ : Loc Cert.RefGnormIdeal.nD Cert.RefGnormIdeal.τ Cert.RefGnormIdeal.sig) → Buf (Elt Ideal) ℓ) (g : Dev Cert.RefGnormIdeal.nD → PrngReg), Pre_RefGnormIdeal_finite_gnorm m →
    θ_run (Cert.RefGnormIdeal.defs (F := Ideal)) (onTc (τ := Cert.RefGnormIdeal.τ) (Cert.RefGnormIdeal.main (F := Ideal))) ⟨m, fun _ => 0, g⟩ (fun r => (∀ c : Dev Cert.RefGnormIdeal.nD,
      r.2.mem ((c.tc : Thread Cert.RefGnormIdeal.nD Cert.RefGnormIdeal.τ).loc Cert.RefGnormIdeal.main_arg0) = m ((c.tc : Thread Cert.RefGnormIdeal.nD Cert.RefGnormIdeal.τ).loc Cert.RefGnormIdeal.main_arg0)
      ∧ r.2.mem ((c.tc : Thread Cert.RefGnormIdeal.nD Cert.RefGnormIdeal.τ).loc Cert.RefGnormIdeal.main_arg1) = m ((c.tc : Thread Cert.RefGnormIdeal.nD Cert.RefGnormIdeal.τ).loc Cert.RefGnormIdeal.main_arg1)
      ∧ r.2.mem ((c.tc : Thread Cert.RefGnormIdeal.nD Cert.RefGnormIdeal.τ).loc Cert.RefGnormIdeal.main_arg2) = m ((c.tc : Thread Cert.RefGnormIdeal.nD Cert.RefGnormIdeal.τ).loc Cert.RefGnormIdeal.main_arg2)
      ∧ r.2.mem ((c.tc : Thread Cert.RefGnormIdeal.nD Cert.RefGnormIdeal.τ).loc Cert.RefGnormIdeal.main_arg3) = m ((c.tc : Thread Cert.RefGnormIdeal.nD Cert.RefGnormIdeal.τ).loc Cert.RefGnormIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvIdeal_pre_finite_conv [hConvIdeal : Cert.ConvIdeal.Facts] [hPre_finite_conv : Cert.Pre_finite_conv.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_finite_conv m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_RefConvIdeal [hRefConvIdeal : Cert.RefConvIdeal.Facts] : Prop :=
  ∀ (m : (ℓ : Loc Cert.RefConvIdeal.nD Cert.RefConvIdeal.τ Cert.RefConvIdeal.sig) → Buf (Elt Ideal) ℓ) (g : Dev Cert.RefConvIdeal.nD → PrngReg), Pre_RefConvIdeal m →
    θ_run (Cert.RefConvIdeal.defs (F := Ideal)) (onTc (τ := Cert.RefConvIdeal.τ) (Cert.RefConvIdeal.main (F := Ideal))) ⟨m, fun _ => 0, g⟩ (fun r => (∀ c : Dev Cert.RefConvIdeal.nD,
      r.2.mem ((c.tc : Thread Cert.RefConvIdeal.nD Cert.RefConvIdeal.τ).loc Cert.RefConvIdeal.main_arg0) = m ((c.tc : Thread Cert.RefConvIdeal.nD Cert.RefConvIdeal.τ).loc Cert.RefConvIdeal.main_arg0)
      ∧ r.2.mem ((c.tc : Thread Cert.RefConvIdeal.nD Cert.RefConvIdeal.τ).loc Cert.RefConvIdeal.main_arg1) = m ((c.tc : Thread Cert.RefConvIdeal.nD Cert.RefConvIdeal.τ).loc Cert.RefConvIdeal.main_arg1)
      ∧ r.2.mem ((c.tc : Thread Cert.RefConvIdeal.nD Cert.RefConvIdeal.τ).loc Cert.RefConvIdeal.main_arg2) = m ((c.tc : Thread Cert.RefConvIdeal.nD Cert.RefConvIdeal.τ).loc Cert.RefConvIdeal.main_arg2)
      ∧ r.2.mem ((c.tc : Thread Cert.RefConvIdeal.nD Cert.RefConvIdeal.τ).loc Cert.RefConvIdeal.main_arg3) = m ((c.tc : Thread Cert.RefConvIdeal.nD Cert.RefConvIdeal.τ).loc Cert.RefConvIdeal.main_arg3))
      ∧ r.2.sem = fun _ => 0)

def quiescent_RefConvIdeal_pre_finite_conv [hRefConvIdeal : Cert.RefConvIdeal.Facts] [hPre_finite_conv : Cert.Pre_finite_conv.Facts] : Prop :=
  ∀ (m : (ℓ : Loc Cert.RefConvIdeal.nD Cert.RefConvIdeal.τ Cert.RefConvIdeal.sig) → Buf (Elt Ideal) ℓ) (g : Dev Cert.RefConvIdeal.nD → PrngReg), Pre_RefConvIdeal_finite_conv m →
    θ_run (Cert.RefConvIdeal.defs (F := Ideal)) (onTc (τ := Cert.RefConvIdeal.τ) (Cert.RefConvIdeal.main (F := Ideal))) ⟨m, fun _ => 0, g⟩ (fun r => (∀ c : Dev Cert.RefConvIdeal.nD,
      r.2.mem ((c.tc : Thread Cert.RefConvIdeal.nD Cert.RefConvIdeal.τ).loc Cert.RefConvIdeal.main_arg0) = m ((c.tc : Thread Cert.RefConvIdeal.nD Cert.RefConvIdeal.τ).loc Cert.RefConvIdeal.main_arg0)
      ∧ r.2.mem ((c.tc : Thread Cert.RefConvIdeal.nD Cert.RefConvIdeal.τ).loc Cert.RefConvIdeal.main_arg1) = m ((c.tc : Thread Cert.RefConvIdeal.nD Cert.RefConvIdeal.τ).loc Cert.RefConvIdeal.main_arg1)
      ∧ r.2.mem ((c.tc : Thread Cert.RefConvIdeal.nD Cert.RefConvIdeal.τ).loc Cert.RefConvIdeal.main_arg2) = m ((c.tc : Thread Cert.RefConvIdeal.nD Cert.RefConvIdeal.τ).loc Cert.RefConvIdeal.main_arg2)
      ∧ r.2.mem ((c.tc : Thread Cert.RefConvIdeal.nD Cert.RefConvIdeal.τ).loc Cert.RefConvIdeal.main_arg3) = m ((c.tc : Thread Cert.RefConvIdeal.nD Cert.RefConvIdeal.τ).loc Cert.RefConvIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_RefProjIdeal [hRefProjIdeal : Cert.RefProjIdeal.Facts] : Prop :=
  ∀ (m : (ℓ : Loc Cert.RefProjIdeal.nD Cert.RefProjIdeal.τ Cert.RefProjIdeal.sig) → Buf (Elt Ideal) ℓ) (g : Dev Cert.RefProjIdeal.nD → PrngReg), Pre_RefProjIdeal m →
    θ_run (Cert.RefProjIdeal.defs (F := Ideal)) (onTc (τ := Cert.RefProjIdeal.τ) (Cert.RefProjIdeal.main (F := Ideal))) ⟨m, fun _ => 0, g⟩ (fun r => (∀ c : Dev Cert.RefProjIdeal.nD,
      r.2.mem ((c.tc : Thread Cert.RefProjIdeal.nD Cert.RefProjIdeal.τ).loc Cert.RefProjIdeal.main_arg0) = m ((c.tc : Thread Cert.RefProjIdeal.nD Cert.RefProjIdeal.τ).loc Cert.RefProjIdeal.main_arg0)
      ∧ r.2.mem ((c.tc : Thread Cert.RefProjIdeal.nD Cert.RefProjIdeal.τ).loc Cert.RefProjIdeal.main_arg1) = m ((c.tc : Thread Cert.RefProjIdeal.nD Cert.RefProjIdeal.τ).loc Cert.RefProjIdeal.main_arg1))
      ∧ r.2.sem = fun _ => 0)

def quiescent_Dycat [hDycat : Cert.Dycat.Facts] : Prop :=
  ∀ (m : (ℓ : Loc Cert.Dycat.nD Cert.Dycat.τ Cert.Dycat.sig) → Buf (Elt Bits) ℓ) (g : Dev Cert.Dycat.nD → PrngReg), Pre_Dycat m →
    θ_run (Cert.Dycat.defs (F := Bits)) (onTc (τ := Cert.Dycat.τ) (Cert.Dycat.main (F := Bits))) ⟨m, fun _ => 0, g⟩ (fun r => (∀ c : Dev Cert.Dycat.nD,
      r.2.mem ((c.tc : Thread Cert.Dycat.nD Cert.Dycat.τ).loc Cert.Dycat.main_arg0) = m ((c.tc : Thread Cert.Dycat.nD Cert.Dycat.τ).loc Cert.Dycat.main_arg0)
      ∧ r.2.mem ((c.tc : Thread Cert.Dycat.nD Cert.Dycat.τ).loc Cert.Dycat.main_arg1) = m ((c.tc : Thread Cert.Dycat.nD Cert.Dycat.τ).loc Cert.Dycat.main_arg1))
      ∧ r.2.sem = fun _ => 0)

def quiescent_DycatIdeal [hDycatIdeal : Cert.DycatIdeal.Facts] : Prop :=
  ∀ (m : (ℓ : Loc Cert.DycatIdeal.nD Cert.DycatIdeal.τ Cert.DycatIdeal.sig) → Buf (Elt Ideal) ℓ) (g : Dev Cert.DycatIdeal.nD → PrngReg), Pre_DycatIdeal m →
    θ_run (Cert.DycatIdeal.defs (F := Ideal)) (onTc (τ := Cert.DycatIdeal.τ) (Cert.DycatIdeal.main (F := Ideal))) ⟨m, fun _ => 0, g⟩ (fun r => (∀ c : Dev Cert.DycatIdeal.nD,
      r.2.mem ((c.tc : Thread Cert.DycatIdeal.nD Cert.DycatIdeal.τ).loc Cert.DycatIdeal.main_arg0) = m ((c.tc : Thread Cert.DycatIdeal.nD Cert.DycatIdeal.τ).loc Cert.DycatIdeal.main_arg0)
      ∧ r.2.mem ((c.tc : Thread Cert.DycatIdeal.nD Cert.DycatIdeal.τ).loc Cert.DycatIdeal.main_arg1) = m ((c.tc : Thread Cert.DycatIdeal.nD Cert.DycatIdeal.τ).loc Cert.DycatIdeal.main_arg1))
      ∧ r.2.sem = fun _ => 0)

def quiescent_RefDycatIdeal [hRefDycatIdeal : Cert.RefDycatIdeal.Facts] : Prop :=
  ∀ (m : (ℓ : Loc Cert.RefDycatIdeal.nD Cert.RefDycatIdeal.τ Cert.RefDycatIdeal.sig) → Buf (Elt Ideal) ℓ) (g : Dev Cert.RefDycatIdeal.nD → PrngReg), Pre_RefDycatIdeal m →
    θ_run (Cert.RefDycatIdeal.defs (F := Ideal)) (onTc (τ := Cert.RefDycatIdeal.τ) (Cert.RefDycatIdeal.main (F := Ideal))) ⟨m, fun _ => 0, g⟩ (fun r => (∀ c : Dev Cert.RefDycatIdeal.nD,
      r.2.mem ((c.tc : Thread Cert.RefDycatIdeal.nD Cert.RefDycatIdeal.τ).loc Cert.RefDycatIdeal.main_arg0) = m ((c.tc : Thread Cert.RefDycatIdeal.nD Cert.RefDycatIdeal.τ).loc Cert.RefDycatIdeal.main_arg0)
      ∧ r.2.mem ((c.tc : Thread Cert.RefDycatIdeal.nD Cert.RefDycatIdeal.τ).loc Cert.RefDycatIdeal.main_arg1) = m ((c.tc : Thread Cert.RefDycatIdeal.nD Cert.RefDycatIdeal.τ).loc Cert.RefDycatIdeal.main_arg1))
      ∧ r.2.sem = fun _ => 0)

def quiescent_Mout [hMout : Cert.Mout.Facts] : Prop :=
  ∀ (m : (ℓ : Loc Cert.Mout.nD Cert.Mout.τ Cert.Mout.sig) → Buf (Elt Bits) ℓ) (g : Dev Cert.Mout.nD → PrngReg), Pre_Mout m →
    θ_run (Cert.Mout.defs (F := Bits)) (onTc (τ := Cert.Mout.τ) (Cert.Mout.main (F := Bits))) ⟨m, fun _ => 0, g⟩ (fun r => (∀ c : Dev Cert.Mout.nD,
      r.2.mem ((c.tc : Thread Cert.Mout.nD Cert.Mout.τ).loc Cert.Mout.main_arg0) = m ((c.tc : Thread Cert.Mout.nD Cert.Mout.τ).loc Cert.Mout.main_arg0)
      ∧ r.2.mem ((c.tc : Thread Cert.Mout.nD Cert.Mout.τ).loc Cert.Mout.main_arg1) = m ((c.tc : Thread Cert.Mout.nD Cert.Mout.τ).loc Cert.Mout.main_arg1)
      ∧ r.2.mem ((c.tc : Thread Cert.Mout.nD Cert.Mout.τ).loc Cert.Mout.main_arg2) = m ((c.tc : Thread Cert.Mout.nD Cert.Mout.τ).loc Cert.Mout.main_arg2)
      ∧ r.2.mem ((c.tc : Thread Cert.Mout.nD Cert.Mout.τ).loc Cert.Mout.main_arg3) = m ((c.tc : Thread Cert.Mout.nD Cert.Mout.τ).loc Cert.Mout.main_arg3))
      ∧ r.2.sem = fun _ => 0)

def quiescent_MoutIdeal [hMoutIdeal : Cert.MoutIdeal.Facts] : Prop :=
  ∀ (m : (ℓ : Loc Cert.MoutIdeal.nD Cert.MoutIdeal.τ Cert.MoutIdeal.sig) → Buf (Elt Ideal) ℓ) (g : Dev Cert.MoutIdeal.nD → PrngReg), Pre_MoutIdeal m →
    θ_run (Cert.MoutIdeal.defs (F := Ideal)) (onTc (τ := Cert.MoutIdeal.τ) (Cert.MoutIdeal.main (F := Ideal))) ⟨m, fun _ => 0, g⟩ (fun r => (∀ c : Dev Cert.MoutIdeal.nD,
      r.2.mem ((c.tc : Thread Cert.MoutIdeal.nD Cert.MoutIdeal.τ).loc Cert.MoutIdeal.main_arg0) = m ((c.tc : Thread Cert.MoutIdeal.nD Cert.MoutIdeal.τ).loc Cert.MoutIdeal.main_arg0)
      ∧ r.2.mem ((c.tc : Thread Cert.MoutIdeal.nD Cert.MoutIdeal.τ).loc Cert.MoutIdeal.main_arg1) = m ((c.tc : Thread Cert.MoutIdeal.nD Cert.MoutIdeal.τ).loc Cert.MoutIdeal.main_arg1)
      ∧ r.2.mem ((c.tc : Thread Cert.MoutIdeal.nD Cert.MoutIdeal.τ).loc Cert.MoutIdeal.main_arg2) = m ((c.tc : Thread Cert.MoutIdeal.nD Cert.MoutIdeal.τ).loc Cert.MoutIdeal.main_arg2)
      ∧ r.2.mem ((c.tc : Thread Cert.MoutIdeal.nD Cert.MoutIdeal.τ).loc Cert.MoutIdeal.main_arg3) = m ((c.tc : Thread Cert.MoutIdeal.nD Cert.MoutIdeal.τ).loc Cert.MoutIdeal.main_arg3))
      ∧ r.2.sem = fun _ => 0)

def quiescent_RefMoutIdeal [hRefMoutIdeal : Cert.RefMoutIdeal.Facts] : Prop :=
  ∀ (m : (ℓ : Loc Cert.RefMoutIdeal.nD Cert.RefMoutIdeal.τ Cert.RefMoutIdeal.sig) → Buf (Elt Ideal) ℓ) (g : Dev Cert.RefMoutIdeal.nD → PrngReg), Pre_RefMoutIdeal m →
    θ_run (Cert.RefMoutIdeal.defs (F := Ideal)) (onTc (τ := Cert.RefMoutIdeal.τ) (Cert.RefMoutIdeal.main (F := Ideal))) ⟨m, fun _ => 0, g⟩ (fun r => (∀ c : Dev Cert.RefMoutIdeal.nD,
      r.2.mem ((c.tc : Thread Cert.RefMoutIdeal.nD Cert.RefMoutIdeal.τ).loc Cert.RefMoutIdeal.main_arg0) = m ((c.tc : Thread Cert.RefMoutIdeal.nD Cert.RefMoutIdeal.τ).loc Cert.RefMoutIdeal.main_arg0)
      ∧ r.2.mem ((c.tc : Thread Cert.RefMoutIdeal.nD Cert.RefMoutIdeal.τ).loc Cert.RefMoutIdeal.main_arg1) = m ((c.tc : Thread Cert.RefMoutIdeal.nD Cert.RefMoutIdeal.τ).loc Cert.RefMoutIdeal.main_arg1)
      ∧ r.2.mem ((c.tc : Thread Cert.RefMoutIdeal.nD Cert.RefMoutIdeal.τ).loc Cert.RefMoutIdeal.main_arg2) = m ((c.tc : Thread Cert.RefMoutIdeal.nD Cert.RefMoutIdeal.τ).loc Cert.RefMoutIdeal.main_arg2)
      ∧ r.2.mem ((c.tc : Thread Cert.RefMoutIdeal.nD Cert.RefMoutIdeal.τ).loc Cert.RefMoutIdeal.main_arg3) = m ((c.tc : Thread Cert.RefMoutIdeal.nD Cert.RefMoutIdeal.τ).loc Cert.RefMoutIdeal.main_arg3))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ r.2.sem = fun _ => 0)

def quiescent_RefDwoutIdeal [hRefDwoutIdeal : Cert.RefDwoutIdeal.Facts] : Prop :=
  ∀ (m : (ℓ : Loc Cert.RefDwoutIdeal.nD Cert.RefDwoutIdeal.τ Cert.RefDwoutIdeal.sig) → Buf (Elt Ideal) ℓ) (g : Dev Cert.RefDwoutIdeal.nD → PrngReg), Pre_RefDwoutIdeal m →
    θ_run (Cert.RefDwoutIdeal.defs (F := Ideal)) (onTc (τ := Cert.RefDwoutIdeal.τ) (Cert.RefDwoutIdeal.main (F := Ideal))) ⟨m, fun _ => 0, g⟩ (fun r => (∀ c : Dev Cert.RefDwoutIdeal.nD,
      r.2.mem ((c.tc : Thread Cert.RefDwoutIdeal.nD Cert.RefDwoutIdeal.τ).loc Cert.RefDwoutIdeal.main_arg0) = m ((c.tc : Thread Cert.RefDwoutIdeal.nD Cert.RefDwoutIdeal.τ).loc Cert.RefDwoutIdeal.main_arg0)
      ∧ r.2.mem ((c.tc : Thread Cert.RefDwoutIdeal.nD Cert.RefDwoutIdeal.τ).loc Cert.RefDwoutIdeal.main_arg1) = m ((c.tc : Thread Cert.RefDwoutIdeal.nD Cert.RefDwoutIdeal.τ).loc Cert.RefDwoutIdeal.main_arg1))
      ∧ r.2.sem = fun _ => 0)

def quiescent_Dwret [hDwret : Cert.Dwret.Facts] : Prop :=
  ∀ (m : (ℓ : Loc Cert.Dwret.nD Cert.Dwret.τ Cert.Dwret.sig) → Buf (Elt Bits) ℓ) (g : Dev Cert.Dwret.nD → PrngReg), Pre_Dwret m →
    θ_run (Cert.Dwret.defs (F := Bits)) (onTc (τ := Cert.Dwret.τ) (Cert.Dwret.main (F := Bits))) ⟨m, fun _ => 0, g⟩ (fun r => (∀ c : Dev Cert.Dwret.nD,
      r.2.mem ((c.tc : Thread Cert.Dwret.nD Cert.Dwret.τ).loc Cert.Dwret.main_arg0) = m ((c.tc : Thread Cert.Dwret.nD Cert.Dwret.τ).loc Cert.Dwret.main_arg0)
      ∧ r.2.mem ((c.tc : Thread Cert.Dwret.nD Cert.Dwret.τ).loc Cert.Dwret.main_arg1) = m ((c.tc : Thread Cert.Dwret.nD Cert.Dwret.τ).loc Cert.Dwret.main_arg1))
      ∧ r.2.sem = fun _ => 0)

def quiescent_DwretIdeal [hDwretIdeal : Cert.DwretIdeal.Facts] : Prop :=
  ∀ (m : (ℓ : Loc Cert.DwretIdeal.nD Cert.DwretIdeal.τ Cert.DwretIdeal.sig) → Buf (Elt Ideal) ℓ) (g : Dev Cert.DwretIdeal.nD → PrngReg), Pre_DwretIdeal m →
    θ_run (Cert.DwretIdeal.defs (F := Ideal)) (onTc (τ := Cert.DwretIdeal.τ) (Cert.DwretIdeal.main (F := Ideal))) ⟨m, fun _ => 0, g⟩ (fun r => (∀ c : Dev Cert.DwretIdeal.nD,
      r.2.mem ((c.tc : Thread Cert.DwretIdeal.nD Cert.DwretIdeal.τ).loc Cert.DwretIdeal.main_arg0) = m ((c.tc : Thread Cert.DwretIdeal.nD Cert.DwretIdeal.τ).loc Cert.DwretIdeal.main_arg0)
      ∧ r.2.mem ((c.tc : Thread Cert.DwretIdeal.nD Cert.DwretIdeal.τ).loc Cert.DwretIdeal.main_arg1) = m ((c.tc : Thread Cert.DwretIdeal.nD Cert.DwretIdeal.τ).loc Cert.DwretIdeal.main_arg1))
      ∧ r.2.sem = fun _ => 0)

def quiescent_RefDwretIdeal [hRefDwretIdeal : Cert.RefDwretIdeal.Facts] : Prop :=
  ∀ (m : (ℓ : Loc Cert.RefDwretIdeal.nD Cert.RefDwretIdeal.τ Cert.RefDwretIdeal.sig) → Buf (Elt Ideal) ℓ) (g : Dev Cert.RefDwretIdeal.nD → PrngReg), Pre_RefDwretIdeal m →
    θ_run (Cert.RefDwretIdeal.defs (F := Ideal)) (onTc (τ := Cert.RefDwretIdeal.τ) (Cert.RefDwretIdeal.main (F := Ideal))) ⟨m, fun _ => 0, g⟩ (fun r => (∀ c : Dev Cert.RefDwretIdeal.nD,
      r.2.mem ((c.tc : Thread Cert.RefDwretIdeal.nD Cert.RefDwretIdeal.τ).loc Cert.RefDwretIdeal.main_arg0) = m ((c.tc : Thread Cert.RefDwretIdeal.nD Cert.RefDwretIdeal.τ).loc Cert.RefDwretIdeal.main_arg0)
      ∧ r.2.mem ((c.tc : Thread Cert.RefDwretIdeal.nD Cert.RefDwretIdeal.τ).loc Cert.RefDwretIdeal.main_arg1) = m ((c.tc : Thread Cert.RefDwretIdeal.nD Cert.RefDwretIdeal.τ).loc Cert.RefDwretIdeal.main_arg1))
      ∧ r.2.sem = fun _ => 0)

def quiescent_Dwxbc [hDwxbc : Cert.Dwxbc.Facts] : Prop :=
  ∀ (m : (ℓ : Loc Cert.Dwxbc.nD Cert.Dwxbc.τ Cert.Dwxbc.sig) → Buf (Elt Bits) ℓ) (g : Dev Cert.Dwxbc.nD → PrngReg), Pre_Dwxbc m →
    θ_run (Cert.Dwxbc.defs (F := Bits)) (onTc (τ := Cert.Dwxbc.τ) (Cert.Dwxbc.main (F := Bits))) ⟨m, fun _ => 0, g⟩ (fun r => (∀ c : Dev Cert.Dwxbc.nD,
      r.2.mem ((c.tc : Thread Cert.Dwxbc.nD Cert.Dwxbc.τ).loc Cert.Dwxbc.main_arg0) = m ((c.tc : Thread Cert.Dwxbc.nD Cert.Dwxbc.τ).loc Cert.Dwxbc.main_arg0)
      ∧ r.2.mem ((c.tc : Thread Cert.Dwxbc.nD Cert.Dwxbc.τ).loc Cert.Dwxbc.main_arg1) = m ((c.tc : Thread Cert.Dwxbc.nD Cert.Dwxbc.τ).loc Cert.Dwxbc.main_arg1))
      ∧ r.2.sem = fun _ => 0)

def quiescent_DwxbcIdeal [hDwxbcIdeal : Cert.DwxbcIdeal.Facts] : Prop :=
  ∀ (m : (ℓ : Loc Cert.DwxbcIdeal.nD Cert.DwxbcIdeal.τ Cert.DwxbcIdeal.sig) → Buf (Elt Ideal) ℓ) (g : Dev Cert.DwxbcIdeal.nD → PrngReg), Pre_DwxbcIdeal m →
    θ_run (Cert.DwxbcIdeal.defs (F := Ideal)) (onTc (τ := Cert.DwxbcIdeal.τ) (Cert.DwxbcIdeal.main (F := Ideal))) ⟨m, fun _ => 0, g⟩ (fun r => (∀ c : Dev Cert.DwxbcIdeal.nD,
      r.2.mem ((c.tc : Thread Cert.DwxbcIdeal.nD Cert.DwxbcIdeal.τ).loc Cert.DwxbcIdeal.main_arg0) = m ((c.tc : Thread Cert.DwxbcIdeal.nD Cert.DwxbcIdeal.τ).loc Cert.DwxbcIdeal.main_arg0)
      ∧ r.2.mem ((c.tc : Thread Cert.DwxbcIdeal.nD Cert.DwxbcIdeal.τ).loc Cert.DwxbcIdeal.main_arg1) = m ((c.tc : Thread Cert.DwxbcIdeal.nD Cert.DwxbcIdeal.τ).loc Cert.DwxbcIdeal.main_arg1))
      ∧ r.2.sem = fun _ => 0)

def quiescent_RefDwxbcIdeal [hRefDwxbcIdeal : Cert.RefDwxbcIdeal.Facts] : Prop :=
  ∀ (m : (ℓ : Loc Cert.RefDwxbcIdeal.nD Cert.RefDwxbcIdeal.τ Cert.RefDwxbcIdeal.sig) → Buf (Elt Ideal) ℓ) (g : Dev Cert.RefDwxbcIdeal.nD → PrngReg), Pre_RefDwxbcIdeal m →
    θ_run (Cert.RefDwxbcIdeal.defs (F := Ideal)) (onTc (τ := Cert.RefDwxbcIdeal.τ) (Cert.RefDwxbcIdeal.main (F := Ideal))) ⟨m, fun _ => 0, g⟩ (fun r => (∀ c : Dev Cert.RefDwxbcIdeal.nD,
      r.2.mem ((c.tc : Thread Cert.RefDwxbcIdeal.nD Cert.RefDwxbcIdeal.τ).loc Cert.RefDwxbcIdeal.main_arg0) = m ((c.tc : Thread Cert.RefDwxbcIdeal.nD Cert.RefDwxbcIdeal.τ).loc Cert.RefDwxbcIdeal.main_arg0)
      ∧ r.2.mem ((c.tc : Thread Cert.RefDwxbcIdeal.nD Cert.RefDwxbcIdeal.τ).loc Cert.RefDwxbcIdeal.main_arg1) = m ((c.tc : Thread Cert.RefDwxbcIdeal.nD Cert.RefDwxbcIdeal.τ).loc Cert.RefDwxbcIdeal.main_arg1))
      ∧ r.2.sem = fun _ => 0)

def quiescent_Dwb [hDwb : Cert.Dwb.Facts] : Prop :=
  ∀ (m : (ℓ : Loc Cert.Dwb.nD Cert.Dwb.τ Cert.Dwb.sig) → Buf (Elt Bits) ℓ) (g : Dev Cert.Dwb.nD → PrngReg), Pre_Dwb m →
    θ_run (Cert.Dwb.defs (F := Bits)) (onTc (τ := Cert.Dwb.τ) (Cert.Dwb.main (F := Bits))) ⟨m, fun _ => 0, g⟩ (fun r => (∀ c : Dev Cert.Dwb.nD,
      r.2.mem ((c.tc : Thread Cert.Dwb.nD Cert.Dwb.τ).loc Cert.Dwb.main_arg0) = m ((c.tc : Thread Cert.Dwb.nD Cert.Dwb.τ).loc Cert.Dwb.main_arg0)
      ∧ r.2.mem ((c.tc : Thread Cert.Dwb.nD Cert.Dwb.τ).loc Cert.Dwb.main_arg1) = m ((c.tc : Thread Cert.Dwb.nD Cert.Dwb.τ).loc Cert.Dwb.main_arg1))
      ∧ r.2.sem = fun _ => 0)

def quiescent_DwbIdeal [hDwbIdeal : Cert.DwbIdeal.Facts] : Prop :=
  ∀ (m : (ℓ : Loc Cert.DwbIdeal.nD Cert.DwbIdeal.τ Cert.DwbIdeal.sig) → Buf (Elt Ideal) ℓ) (g : Dev Cert.DwbIdeal.nD → PrngReg), Pre_DwbIdeal m →
    θ_run (Cert.DwbIdeal.defs (F := Ideal)) (onTc (τ := Cert.DwbIdeal.τ) (Cert.DwbIdeal.main (F := Ideal))) ⟨m, fun _ => 0, g⟩ (fun r => (∀ c : Dev Cert.DwbIdeal.nD,
      r.2.mem ((c.tc : Thread Cert.DwbIdeal.nD Cert.DwbIdeal.τ).loc Cert.DwbIdeal.main_arg0) = m ((c.tc : Thread Cert.DwbIdeal.nD Cert.DwbIdeal.τ).loc Cert.DwbIdeal.main_arg0)
      ∧ r.2.mem ((c.tc : Thread Cert.DwbIdeal.nD Cert.DwbIdeal.τ).loc Cert.DwbIdeal.main_arg1) = m ((c.tc : Thread Cert.DwbIdeal.nD Cert.DwbIdeal.τ).loc Cert.DwbIdeal.main_arg1))
      ∧ r.2.sem = fun _ => 0)

def quiescent_RefDwbIdeal [hRefDwbIdeal : Cert.RefDwbIdeal.Facts] : Prop :=
  ∀ (m : (ℓ : Loc Cert.RefDwbIdeal.nD Cert.RefDwbIdeal.τ Cert.RefDwbIdeal.sig) → Buf (Elt Ideal) ℓ) (g : Dev Cert.RefDwbIdeal.nD → PrngReg), Pre_RefDwbIdeal m →
    θ_run (Cert.RefDwbIdeal.defs (F := Ideal)) (onTc (τ := Cert.RefDwbIdeal.τ) (Cert.RefDwbIdeal.main (F := Ideal))) ⟨m, fun _ => 0, g⟩ (fun r => (∀ c : Dev Cert.RefDwbIdeal.nD,
      r.2.mem ((c.tc : Thread Cert.RefDwbIdeal.nD Cert.RefDwbIdeal.τ).loc Cert.RefDwbIdeal.main_arg0) = m ((c.tc : Thread Cert.RefDwbIdeal.nD Cert.RefDwbIdeal.τ).loc Cert.RefDwbIdeal.main_arg0)
      ∧ r.2.mem ((c.tc : Thread Cert.RefDwbIdeal.nD Cert.RefDwbIdeal.τ).loc Cert.RefDwbIdeal.main_arg1) = m ((c.tc : Thread Cert.RefDwbIdeal.nD Cert.RefDwbIdeal.τ).loc Cert.RefDwbIdeal.main_arg1))
      ∧ r.2.sem = fun _ => 0)

def quiescent_Dwf [hDwf : Cert.Dwf.Facts] : Prop :=
  ∀ (m : (ℓ : Loc Cert.Dwf.nD Cert.Dwf.τ Cert.Dwf.sig) → Buf (Elt Bits) ℓ) (g : Dev Cert.Dwf.nD → PrngReg), Pre_Dwf m →
    θ_run (Cert.Dwf.defs (F := Bits)) (onTc (τ := Cert.Dwf.τ) (Cert.Dwf.main (F := Bits))) ⟨m, fun _ => 0, g⟩ (fun r => (∀ c : Dev Cert.Dwf.nD,
      r.2.mem ((c.tc : Thread Cert.Dwf.nD Cert.Dwf.τ).loc Cert.Dwf.main_arg0) = m ((c.tc : Thread Cert.Dwf.nD Cert.Dwf.τ).loc Cert.Dwf.main_arg0)
      ∧ r.2.mem ((c.tc : Thread Cert.Dwf.nD Cert.Dwf.τ).loc Cert.Dwf.main_arg1) = m ((c.tc : Thread Cert.Dwf.nD Cert.Dwf.τ).loc Cert.Dwf.main_arg1))
      ∧ r.2.sem = fun _ => 0)

def quiescent_DwfIdeal [hDwfIdeal : Cert.DwfIdeal.Facts] : Prop :=
  ∀ (m : (ℓ : Loc Cert.DwfIdeal.nD Cert.DwfIdeal.τ Cert.DwfIdeal.sig) → Buf (Elt Ideal) ℓ) (g : Dev Cert.DwfIdeal.nD → PrngReg), Pre_DwfIdeal m →
    θ_run (Cert.DwfIdeal.defs (F := Ideal)) (onTc (τ := Cert.DwfIdeal.τ) (Cert.DwfIdeal.main (F := Ideal))) ⟨m, fun _ => 0, g⟩ (fun r => (∀ c : Dev Cert.DwfIdeal.nD,
      r.2.mem ((c.tc : Thread Cert.DwfIdeal.nD Cert.DwfIdeal.τ).loc Cert.DwfIdeal.main_arg0) = m ((c.tc : Thread Cert.DwfIdeal.nD Cert.DwfIdeal.τ).loc Cert.DwfIdeal.main_arg0)
      ∧ r.2.mem ((c.tc : Thread Cert.DwfIdeal.nD Cert.DwfIdeal.τ).loc Cert.DwfIdeal.main_arg1) = m ((c.tc : Thread Cert.DwfIdeal.nD Cert.DwfIdeal.τ).loc Cert.DwfIdeal.main_arg1))
      ∧ r.2.sem = fun _ => 0)

def quiescent_RefDwfIdeal [hRefDwfIdeal : Cert.RefDwfIdeal.Facts] : Prop :=
  ∀ (m : (ℓ : Loc Cert.RefDwfIdeal.nD Cert.RefDwfIdeal.τ Cert.RefDwfIdeal.sig) → Buf (Elt Ideal) ℓ) (g : Dev Cert.RefDwfIdeal.nD → PrngReg), Pre_RefDwfIdeal m →
    θ_run (Cert.RefDwfIdeal.defs (F := Ideal)) (onTc (τ := Cert.RefDwfIdeal.τ) (Cert.RefDwfIdeal.main (F := Ideal))) ⟨m, fun _ => 0, g⟩ (fun r => (∀ c : Dev Cert.RefDwfIdeal.nD,
      r.2.mem ((c.tc : Thread Cert.RefDwfIdeal.nD Cert.RefDwfIdeal.τ).loc Cert.RefDwfIdeal.main_arg0) = m ((c.tc : Thread Cert.RefDwfIdeal.nD Cert.RefDwfIdeal.τ).loc Cert.RefDwfIdeal.main_arg0)
      ∧ r.2.mem ((c.tc : Thread Cert.RefDwfIdeal.nD Cert.RefDwfIdeal.τ).loc Cert.RefDwfIdeal.main_arg1) = m ((c.tc : Thread Cert.RefDwfIdeal.nD Cert.RefDwfIdeal.τ).loc Cert.RefDwfIdeal.main_arg1))
      ∧ r.2.sem = fun _ => 0)

def quiescent_Mdgrad [hMdgrad : Cert.Mdgrad.Facts] : Prop :=
  ∀ (m : (ℓ : Loc Cert.Mdgrad.nD Cert.Mdgrad.τ Cert.Mdgrad.sig) → Buf (Elt Bits) ℓ) (g : Dev Cert.Mdgrad.nD → PrngReg), Pre_Mdgrad m →
    θ_run (Cert.Mdgrad.defs (F := Bits)) (onTc (τ := Cert.Mdgrad.τ) (Cert.Mdgrad.main (F := Bits))) ⟨m, fun _ => 0, g⟩ (fun r => (∀ c : Dev Cert.Mdgrad.nD,
      r.2.mem ((c.tc : Thread Cert.Mdgrad.nD Cert.Mdgrad.τ).loc Cert.Mdgrad.main_arg0) = m ((c.tc : Thread Cert.Mdgrad.nD Cert.Mdgrad.τ).loc Cert.Mdgrad.main_arg0)
      ∧ r.2.mem ((c.tc : Thread Cert.Mdgrad.nD Cert.Mdgrad.τ).loc Cert.Mdgrad.main_arg1) = m ((c.tc : Thread Cert.Mdgrad.nD Cert.Mdgrad.τ).loc Cert.Mdgrad.main_arg1)
      ∧ r.2.mem ((c.tc : Thread Cert.Mdgrad.nD Cert.Mdgrad.τ).loc Cert.Mdgrad.main_arg2) = m ((c.tc : Thread Cert.Mdgrad.nD Cert.Mdgrad.τ).loc Cert.Mdgrad.main_arg2)
      ∧ r.2.mem ((c.tc : Thread Cert.Mdgrad.nD Cert.Mdgrad.τ).loc Cert.Mdgrad.main_arg3) = m ((c.tc : Thread Cert.Mdgrad.nD Cert.Mdgrad.τ).loc Cert.Mdgrad.main_arg3)
      ∧ r.2.mem ((c.tc : Thread Cert.Mdgrad.nD Cert.Mdgrad.τ).loc Cert.Mdgrad.main_arg4) = m ((c.tc : Thread Cert.Mdgrad.nD Cert.Mdgrad.τ).loc Cert.Mdgrad.main_arg4)
      ∧ r.2.mem ((c.tc : Thread Cert.Mdgrad.nD Cert.Mdgrad.τ).loc Cert.Mdgrad.main_arg5) = m ((c.tc : Thread Cert.Mdgrad.nD Cert.Mdgrad.τ).loc Cert.Mdgrad.main_arg5)
      ∧ r.2.mem ((c.tc : Thread Cert.Mdgrad.nD Cert.Mdgrad.τ).loc Cert.Mdgrad.main_arg6) = m ((c.tc : Thread Cert.Mdgrad.nD Cert.Mdgrad.τ).loc Cert.Mdgrad.main_arg6)
      ∧ r.2.mem ((c.tc : Thread Cert.Mdgrad.nD Cert.Mdgrad.τ).loc Cert.Mdgrad.main_arg7) = m ((c.tc : Thread Cert.Mdgrad.nD Cert.Mdgrad.τ).loc Cert.Mdgrad.main_arg7)
      ∧ r.2.mem ((c.tc : Thread Cert.Mdgrad.nD Cert.Mdgrad.τ).loc Cert.Mdgrad.main_arg8) = m ((c.tc : Thread Cert.Mdgrad.nD Cert.Mdgrad.τ).loc Cert.Mdgrad.main_arg8)
      ∧ r.2.mem ((c.tc : Thread Cert.Mdgrad.nD Cert.Mdgrad.τ).loc Cert.Mdgrad.main_arg9) = m ((c.tc : Thread Cert.Mdgrad.nD Cert.Mdgrad.τ).loc Cert.Mdgrad.main_arg9)
      ∧ r.2.mem ((c.tc : Thread Cert.Mdgrad.nD Cert.Mdgrad.τ).loc Cert.Mdgrad.main_arg10) = m ((c.tc : Thread Cert.Mdgrad.nD Cert.Mdgrad.τ).loc Cert.Mdgrad.main_arg10)
      ∧ r.2.mem ((c.tc : Thread Cert.Mdgrad.nD Cert.Mdgrad.τ).loc Cert.Mdgrad.main_arg11) = m ((c.tc : Thread Cert.Mdgrad.nD Cert.Mdgrad.τ).loc Cert.Mdgrad.main_arg11))
      ∧ r.2.sem = fun _ => 0)

def quiescent_MdgradIdeal [hMdgradIdeal : Cert.MdgradIdeal.Facts] : Prop :=
  ∀ (m : (ℓ : Loc Cert.MdgradIdeal.nD Cert.MdgradIdeal.τ Cert.MdgradIdeal.sig) → Buf (Elt Ideal) ℓ) (g : Dev Cert.MdgradIdeal.nD → PrngReg), Pre_MdgradIdeal m →
    θ_run (Cert.MdgradIdeal.defs (F := Ideal)) (onTc (τ := Cert.MdgradIdeal.τ) (Cert.MdgradIdeal.main (F := Ideal))) ⟨m, fun _ => 0, g⟩ (fun r => (∀ c : Dev Cert.MdgradIdeal.nD,
      r.2.mem ((c.tc : Thread Cert.MdgradIdeal.nD Cert.MdgradIdeal.τ).loc Cert.MdgradIdeal.main_arg0) = m ((c.tc : Thread Cert.MdgradIdeal.nD Cert.MdgradIdeal.τ).loc Cert.MdgradIdeal.main_arg0)
      ∧ r.2.mem ((c.tc : Thread Cert.MdgradIdeal.nD Cert.MdgradIdeal.τ).loc Cert.MdgradIdeal.main_arg1) = m ((c.tc : Thread Cert.MdgradIdeal.nD Cert.MdgradIdeal.τ).loc Cert.MdgradIdeal.main_arg1)
      ∧ r.2.mem ((c.tc : Thread Cert.MdgradIdeal.nD Cert.MdgradIdeal.τ).loc Cert.MdgradIdeal.main_arg2) = m ((c.tc : Thread Cert.MdgradIdeal.nD Cert.MdgradIdeal.τ).loc Cert.MdgradIdeal.main_arg2)
      ∧ r.2.mem ((c.tc : Thread Cert.MdgradIdeal.nD Cert.MdgradIdeal.τ).loc Cert.MdgradIdeal.main_arg3) = m ((c.tc : Thread Cert.MdgradIdeal.nD Cert.MdgradIdeal.τ).loc Cert.MdgradIdeal.main_arg3)
      ∧ r.2.mem ((c.tc : Thread Cert.MdgradIdeal.nD Cert.MdgradIdeal.τ).loc Cert.MdgradIdeal.main_arg4) = m ((c.tc : Thread Cert.MdgradIdeal.nD Cert.MdgradIdeal.τ).loc Cert.MdgradIdeal.main_arg4)
      ∧ r.2.mem ((c.tc : Thread Cert.MdgradIdeal.nD Cert.MdgradIdeal.τ).loc Cert.MdgradIdeal.main_arg5) = m ((c.tc : Thread Cert.MdgradIdeal.nD Cert.MdgradIdeal.τ).loc Cert.MdgradIdeal.main_arg5)
      ∧ r.2.mem ((c.tc : Thread Cert.MdgradIdeal.nD Cert.MdgradIdeal.τ).loc Cert.MdgradIdeal.main_arg6) = m ((c.tc : Thread Cert.MdgradIdeal.nD Cert.MdgradIdeal.τ).loc Cert.MdgradIdeal.main_arg6)
      ∧ r.2.mem ((c.tc : Thread Cert.MdgradIdeal.nD Cert.MdgradIdeal.τ).loc Cert.MdgradIdeal.main_arg7) = m ((c.tc : Thread Cert.MdgradIdeal.nD Cert.MdgradIdeal.τ).loc Cert.MdgradIdeal.main_arg7)
      ∧ r.2.mem ((c.tc : Thread Cert.MdgradIdeal.nD Cert.MdgradIdeal.τ).loc Cert.MdgradIdeal.main_arg8) = m ((c.tc : Thread Cert.MdgradIdeal.nD Cert.MdgradIdeal.τ).loc Cert.MdgradIdeal.main_arg8)
      ∧ r.2.mem ((c.tc : Thread Cert.MdgradIdeal.nD Cert.MdgradIdeal.τ).loc Cert.MdgradIdeal.main_arg9) = m ((c.tc : Thread Cert.MdgradIdeal.nD Cert.MdgradIdeal.τ).loc Cert.MdgradIdeal.main_arg9)
      ∧ r.2.mem ((c.tc : Thread Cert.MdgradIdeal.nD Cert.MdgradIdeal.τ).loc Cert.MdgradIdeal.main_arg10) = m ((c.tc : Thread Cert.MdgradIdeal.nD Cert.MdgradIdeal.τ).loc Cert.MdgradIdeal.main_arg10)
      ∧ r.2.mem ((c.tc : Thread Cert.MdgradIdeal.nD Cert.MdgradIdeal.τ).loc Cert.MdgradIdeal.main_arg11) = m ((c.tc : Thread Cert.MdgradIdeal.nD Cert.MdgradIdeal.τ).loc Cert.MdgradIdeal.main_arg11))
      ∧ r.2.sem = fun _ => 0)

def quiescent_MdgradIdeal_pre_finite_mdgrad [hMdgradIdeal : Cert.MdgradIdeal.Facts] [hPre_finite_mdgrad : Cert.Pre_finite_mdgrad.Facts] : Prop :=
  ∀ (m : (ℓ : Loc Cert.MdgradIdeal.nD Cert.MdgradIdeal.τ Cert.MdgradIdeal.sig) → Buf (Elt Ideal) ℓ) (g : Dev Cert.MdgradIdeal.nD → PrngReg), Pre_MdgradIdeal_finite_mdgrad m →
    θ_run (Cert.MdgradIdeal.defs (F := Ideal)) (onTc (τ := Cert.MdgradIdeal.τ) (Cert.MdgradIdeal.main (F := Ideal))) ⟨m, fun _ => 0, g⟩ (fun r => (∀ c : Dev Cert.MdgradIdeal.nD,
      r.2.mem ((c.tc : Thread Cert.MdgradIdeal.nD Cert.MdgradIdeal.τ).loc Cert.MdgradIdeal.main_arg0) = m ((c.tc : Thread Cert.MdgradIdeal.nD Cert.MdgradIdeal.τ).loc Cert.MdgradIdeal.main_arg0)
      ∧ r.2.mem ((c.tc : Thread Cert.MdgradIdeal.nD Cert.MdgradIdeal.τ).loc Cert.MdgradIdeal.main_arg1) = m ((c.tc : Thread Cert.MdgradIdeal.nD Cert.MdgradIdeal.τ).loc Cert.MdgradIdeal.main_arg1)
      ∧ r.2.mem ((c.tc : Thread Cert.MdgradIdeal.nD Cert.MdgradIdeal.τ).loc Cert.MdgradIdeal.main_arg2) = m ((c.tc : Thread Cert.MdgradIdeal.nD Cert.MdgradIdeal.τ).loc Cert.MdgradIdeal.main_arg2)
      ∧ r.2.mem ((c.tc : Thread Cert.MdgradIdeal.nD Cert.MdgradIdeal.τ).loc Cert.MdgradIdeal.main_arg3) = m ((c.tc : Thread Cert.MdgradIdeal.nD Cert.MdgradIdeal.τ).loc Cert.MdgradIdeal.main_arg3)
      ∧ r.2.mem ((c.tc : Thread Cert.MdgradIdeal.nD Cert.MdgradIdeal.τ).loc Cert.MdgradIdeal.main_arg4) = m ((c.tc : Thread Cert.MdgradIdeal.nD Cert.MdgradIdeal.τ).loc Cert.MdgradIdeal.main_arg4)
      ∧ r.2.mem ((c.tc : Thread Cert.MdgradIdeal.nD Cert.MdgradIdeal.τ).loc Cert.MdgradIdeal.main_arg5) = m ((c.tc : Thread Cert.MdgradIdeal.nD Cert.MdgradIdeal.τ).loc Cert.MdgradIdeal.main_arg5)
      ∧ r.2.mem ((c.tc : Thread Cert.MdgradIdeal.nD Cert.MdgradIdeal.τ).loc Cert.MdgradIdeal.main_arg6) = m ((c.tc : Thread Cert.MdgradIdeal.nD Cert.MdgradIdeal.τ).loc Cert.MdgradIdeal.main_arg6)
      ∧ r.2.mem ((c.tc : Thread Cert.MdgradIdeal.nD Cert.MdgradIdeal.τ).loc Cert.MdgradIdeal.main_arg7) = m ((c.tc : Thread Cert.MdgradIdeal.nD Cert.MdgradIdeal.τ).loc Cert.MdgradIdeal.main_arg7)
      ∧ r.2.mem ((c.tc : Thread Cert.MdgradIdeal.nD Cert.MdgradIdeal.τ).loc Cert.MdgradIdeal.main_arg8) = m ((c.tc : Thread Cert.MdgradIdeal.nD Cert.MdgradIdeal.τ).loc Cert.MdgradIdeal.main_arg8)
      ∧ r.2.mem ((c.tc : Thread Cert.MdgradIdeal.nD Cert.MdgradIdeal.τ).loc Cert.MdgradIdeal.main_arg9) = m ((c.tc : Thread Cert.MdgradIdeal.nD Cert.MdgradIdeal.τ).loc Cert.MdgradIdeal.main_arg9)
      ∧ r.2.mem ((c.tc : Thread Cert.MdgradIdeal.nD Cert.MdgradIdeal.τ).loc Cert.MdgradIdeal.main_arg10) = m ((c.tc : Thread Cert.MdgradIdeal.nD Cert.MdgradIdeal.τ).loc Cert.MdgradIdeal.main_arg10)
      ∧ r.2.mem ((c.tc : Thread Cert.MdgradIdeal.nD Cert.MdgradIdeal.τ).loc Cert.MdgradIdeal.main_arg11) = m ((c.tc : Thread Cert.MdgradIdeal.nD Cert.MdgradIdeal.τ).loc Cert.MdgradIdeal.main_arg11))
      ∧ r.2.sem = fun _ => 0)

def quiescent_RefMdgradIdeal [hRefMdgradIdeal : Cert.RefMdgradIdeal.Facts] : Prop :=
  ∀ (m : (ℓ : Loc Cert.RefMdgradIdeal.nD Cert.RefMdgradIdeal.τ Cert.RefMdgradIdeal.sig) → Buf (Elt Ideal) ℓ) (g : Dev Cert.RefMdgradIdeal.nD → PrngReg), Pre_RefMdgradIdeal m →
    θ_run (Cert.RefMdgradIdeal.defs (F := Ideal)) (onTc (τ := Cert.RefMdgradIdeal.τ) (Cert.RefMdgradIdeal.main (F := Ideal))) ⟨m, fun _ => 0, g⟩ (fun r => (∀ c : Dev Cert.RefMdgradIdeal.nD,
      r.2.mem ((c.tc : Thread Cert.RefMdgradIdeal.nD Cert.RefMdgradIdeal.τ).loc Cert.RefMdgradIdeal.main_arg0) = m ((c.tc : Thread Cert.RefMdgradIdeal.nD Cert.RefMdgradIdeal.τ).loc Cert.RefMdgradIdeal.main_arg0)
      ∧ r.2.mem ((c.tc : Thread Cert.RefMdgradIdeal.nD Cert.RefMdgradIdeal.τ).loc Cert.RefMdgradIdeal.main_arg1) = m ((c.tc : Thread Cert.RefMdgradIdeal.nD Cert.RefMdgradIdeal.τ).loc Cert.RefMdgradIdeal.main_arg1)
      ∧ r.2.mem ((c.tc : Thread Cert.RefMdgradIdeal.nD Cert.RefMdgradIdeal.τ).loc Cert.RefMdgradIdeal.main_arg2) = m ((c.tc : Thread Cert.RefMdgradIdeal.nD Cert.RefMdgradIdeal.τ).loc Cert.RefMdgradIdeal.main_arg2)
      ∧ r.2.mem ((c.tc : Thread Cert.RefMdgradIdeal.nD Cert.RefMdgradIdeal.τ).loc Cert.RefMdgradIdeal.main_arg3) = m ((c.tc : Thread Cert.RefMdgradIdeal.nD Cert.RefMdgradIdeal.τ).loc Cert.RefMdgradIdeal.main_arg3)
      ∧ r.2.mem ((c.tc : Thread Cert.RefMdgradIdeal.nD Cert.RefMdgradIdeal.τ).loc Cert.RefMdgradIdeal.main_arg4) = m ((c.tc : Thread Cert.RefMdgradIdeal.nD Cert.RefMdgradIdeal.τ).loc Cert.RefMdgradIdeal.main_arg4)
      ∧ r.2.mem ((c.tc : Thread Cert.RefMdgradIdeal.nD Cert.RefMdgradIdeal.τ).loc Cert.RefMdgradIdeal.main_arg5) = m ((c.tc : Thread Cert.RefMdgradIdeal.nD Cert.RefMdgradIdeal.τ).loc Cert.RefMdgradIdeal.main_arg5)
      ∧ r.2.mem ((c.tc : Thread Cert.RefMdgradIdeal.nD Cert.RefMdgradIdeal.τ).loc Cert.RefMdgradIdeal.main_arg6) = m ((c.tc : Thread Cert.RefMdgradIdeal.nD Cert.RefMdgradIdeal.τ).loc Cert.RefMdgradIdeal.main_arg6)
      ∧ r.2.mem ((c.tc : Thread Cert.RefMdgradIdeal.nD Cert.RefMdgradIdeal.τ).loc Cert.RefMdgradIdeal.main_arg7) = m ((c.tc : Thread Cert.RefMdgradIdeal.nD Cert.RefMdgradIdeal.τ).loc Cert.RefMdgradIdeal.main_arg7)
      ∧ r.2.mem ((c.tc : Thread Cert.RefMdgradIdeal.nD Cert.RefMdgradIdeal.τ).loc Cert.RefMdgradIdeal.main_arg8) = m ((c.tc : Thread Cert.RefMdgradIdeal.nD Cert.RefMdgradIdeal.τ).loc Cert.RefMdgradIdeal.main_arg8)
      ∧ r.2.mem ((c.tc : Thread Cert.RefMdgradIdeal.nD Cert.RefMdgradIdeal.τ).loc Cert.RefMdgradIdeal.main_arg9) = m ((c.tc : Thread Cert.RefMdgradIdeal.nD Cert.RefMdgradIdeal.τ).loc Cert.RefMdgradIdeal.main_arg9)
      ∧ r.2.mem ((c.tc : Thread Cert.RefMdgradIdeal.nD Cert.RefMdgradIdeal.τ).loc Cert.RefMdgradIdeal.main_arg10) = m ((c.tc : Thread Cert.RefMdgradIdeal.nD Cert.RefMdgradIdeal.τ).loc Cert.RefMdgradIdeal.main_arg10)
      ∧ r.2.mem ((c.tc : Thread Cert.RefMdgradIdeal.nD Cert.RefMdgradIdeal.τ).loc Cert.RefMdgradIdeal.main_arg11) = m ((c.tc : Thread Cert.RefMdgradIdeal.nD Cert.RefMdgradIdeal.τ).loc Cert.RefMdgradIdeal.main_arg11))
      ∧ r.2.sem = fun _ => 0)

def quiescent_RefMdgradIdeal_pre_finite_mdgrad [hRefMdgradIdeal : Cert.RefMdgradIdeal.Facts] [hPre_finite_mdgrad : Cert.Pre_finite_mdgrad.Facts] : Prop :=
  ∀ (m : (ℓ : Loc Cert.RefMdgradIdeal.nD Cert.RefMdgradIdeal.τ Cert.RefMdgradIdeal.sig) → Buf (Elt Ideal) ℓ) (g : Dev Cert.RefMdgradIdeal.nD → PrngReg), Pre_RefMdgradIdeal_finite_mdgrad m →
    θ_run (Cert.RefMdgradIdeal.defs (F := Ideal)) (onTc (τ := Cert.RefMdgradIdeal.τ) (Cert.RefMdgradIdeal.main (F := Ideal))) ⟨m, fun _ => 0, g⟩ (fun r => (∀ c : Dev Cert.RefMdgradIdeal.nD,
      r.2.mem ((c.tc : Thread Cert.RefMdgradIdeal.nD Cert.RefMdgradIdeal.τ).loc Cert.RefMdgradIdeal.main_arg0) = m ((c.tc : Thread Cert.RefMdgradIdeal.nD Cert.RefMdgradIdeal.τ).loc Cert.RefMdgradIdeal.main_arg0)
      ∧ r.2.mem ((c.tc : Thread Cert.RefMdgradIdeal.nD Cert.RefMdgradIdeal.τ).loc Cert.RefMdgradIdeal.main_arg1) = m ((c.tc : Thread Cert.RefMdgradIdeal.nD Cert.RefMdgradIdeal.τ).loc Cert.RefMdgradIdeal.main_arg1)
      ∧ r.2.mem ((c.tc : Thread Cert.RefMdgradIdeal.nD Cert.RefMdgradIdeal.τ).loc Cert.RefMdgradIdeal.main_arg2) = m ((c.tc : Thread Cert.RefMdgradIdeal.nD Cert.RefMdgradIdeal.τ).loc Cert.RefMdgradIdeal.main_arg2)
      ∧ r.2.mem ((c.tc : Thread Cert.RefMdgradIdeal.nD Cert.RefMdgradIdeal.τ).loc Cert.RefMdgradIdeal.main_arg3) = m ((c.tc : Thread Cert.RefMdgradIdeal.nD Cert.RefMdgradIdeal.τ).loc Cert.RefMdgradIdeal.main_arg3)
      ∧ r.2.mem ((c.tc : Thread Cert.RefMdgradIdeal.nD Cert.RefMdgradIdeal.τ).loc Cert.RefMdgradIdeal.main_arg4) = m ((c.tc : Thread Cert.RefMdgradIdeal.nD Cert.RefMdgradIdeal.τ).loc Cert.RefMdgradIdeal.main_arg4)
      ∧ r.2.mem ((c.tc : Thread Cert.RefMdgradIdeal.nD Cert.RefMdgradIdeal.τ).loc Cert.RefMdgradIdeal.main_arg5) = m ((c.tc : Thread Cert.RefMdgradIdeal.nD Cert.RefMdgradIdeal.τ).loc Cert.RefMdgradIdeal.main_arg5)
      ∧ r.2.mem ((c.tc : Thread Cert.RefMdgradIdeal.nD Cert.RefMdgradIdeal.τ).loc Cert.RefMdgradIdeal.main_arg6) = m ((c.tc : Thread Cert.RefMdgradIdeal.nD Cert.RefMdgradIdeal.τ).loc Cert.RefMdgradIdeal.main_arg6)
      ∧ r.2.mem ((c.tc : Thread Cert.RefMdgradIdeal.nD Cert.RefMdgradIdeal.τ).loc Cert.RefMdgradIdeal.main_arg7) = m ((c.tc : Thread Cert.RefMdgradIdeal.nD Cert.RefMdgradIdeal.τ).loc Cert.RefMdgradIdeal.main_arg7)
      ∧ r.2.mem ((c.tc : Thread Cert.RefMdgradIdeal.nD Cert.RefMdgradIdeal.τ).loc Cert.RefMdgradIdeal.main_arg8) = m ((c.tc : Thread Cert.RefMdgradIdeal.nD Cert.RefMdgradIdeal.τ).loc Cert.RefMdgradIdeal.main_arg8)
      ∧ r.2.mem ((c.tc : Thread Cert.RefMdgradIdeal.nD Cert.RefMdgradIdeal.τ).loc Cert.RefMdgradIdeal.main_arg9) = m ((c.tc : Thread Cert.RefMdgradIdeal.nD Cert.RefMdgradIdeal.τ).loc Cert.RefMdgradIdeal.main_arg9)
      ∧ r.2.mem ((c.tc : Thread Cert.RefMdgradIdeal.nD Cert.RefMdgradIdeal.τ).loc Cert.RefMdgradIdeal.main_arg10) = m ((c.tc : Thread Cert.RefMdgradIdeal.nD Cert.RefMdgradIdeal.τ).loc Cert.RefMdgradIdeal.main_arg10)
      ∧ r.2.mem ((c.tc : Thread Cert.RefMdgradIdeal.nD Cert.RefMdgradIdeal.τ).loc Cert.RefMdgradIdeal.main_arg11) = m ((c.tc : Thread Cert.RefMdgradIdeal.nD Cert.RefMdgradIdeal.τ).loc Cert.RefMdgradIdeal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v278_0)) (v1 : (c : Dev Cert.KernelIdeal.nD) → Buf (Elt Ideal) ((c.tc : Thread Cert.KernelIdeal.nD Cert.KernelIdeal.τ).loc Cert.KernelIdeal.main_v278_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v278_0) = v0 c
          ∧ r.2.mem ((c.tc : Thread Cert.KernelIdeal.nD Cert.KernelIdeal.τ).loc Cert.KernelIdeal.main_v278_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v206) = v0 c
          ∧ r.2.mem ((c.tc : Thread Cert.ReferenceIdeal.nD Cert.ReferenceIdeal.τ).loc Cert.ReferenceIdeal.main_v207) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Dact_DactIdeal : Prop :=
  True

def algebraic_DactIdeal_RefDactIdeal_pre_finite_dact [hDactIdeal : Cert.DactIdeal.Facts] [hRefDactIdeal : Cert.RefDactIdeal.Facts] [hPre_finite_dact : Cert.Pre_finite_dact.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.RefDactIdeal.nD Cert.RefDactIdeal.τ Cert.RefDactIdeal.sig) → Buf (Elt Ideal) ℓ) (g' : Dev Cert.RefDactIdeal.nD → PrngReg), Pre_DactIdeal_finite_dact m →
    (∀ c : Dev Cert.DactIdeal.nD,
      m' ((c.tc : Thread Cert.RefDactIdeal.nD Cert.RefDactIdeal.τ).loc Cert.RefDactIdeal.main_arg0) = m ((c.tc : Thread Cert.DactIdeal.nD Cert.DactIdeal.τ).loc Cert.DactIdeal.main_arg0)
      ∧ m' ((c.tc : Thread Cert.RefDactIdeal.nD Cert.RefDactIdeal.τ).loc Cert.RefDactIdeal.main_arg1) = m ((c.tc : Thread Cert.DactIdeal.nD Cert.DactIdeal.τ).loc Cert.DactIdeal.main_arg1)
      ∧ m' ((c.tc : Thread Cert.RefDactIdeal.nD Cert.RefDactIdeal.τ).loc Cert.RefDactIdeal.main_arg2) = m ((c.tc : Thread Cert.DactIdeal.nD Cert.DactIdeal.τ).loc Cert.DactIdeal.main_arg2)
      ∧ m' ((c.tc : Thread Cert.RefDactIdeal.nD Cert.RefDactIdeal.τ).loc Cert.RefDactIdeal.main_arg3) = m ((c.tc : Thread Cert.DactIdeal.nD Cert.DactIdeal.τ).loc Cert.DactIdeal.main_arg3)) →
    ∃ (v0 : (c : Dev Cert.DactIdeal.nD) → Buf (Elt Ideal) ((c.tc : Thread Cert.DactIdeal.nD Cert.DactIdeal.τ).loc Cert.DactIdeal.main_v0_0)) (v1 : (c : Dev Cert.DactIdeal.nD) → Buf (Elt Ideal) ((c.tc : Thread Cert.DactIdeal.nD Cert.DactIdeal.τ).loc Cert.DactIdeal.main_v0_1)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0_0) = v0 c
          ∧ r.2.mem ((c.tc : Thread Cert.DactIdeal.nD Cert.DactIdeal.τ).loc Cert.DactIdeal.main_v0_1) = v1 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
          ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ θ_run (Cert.RefDactIdeal.defs (F := Ideal)) (onTc (τ := Cert.RefDactIdeal.τ) (Cert.RefDactIdeal.main (F := Ideal))) ⟨m', fun _ => 0, g'⟩ (fun r => ∀ c : Dev Cert.RefDactIdeal.nD,
          r.2.mem ((c.tc : Thread Cert.RefDactIdeal.nD Cert.RefDactIdeal.τ).loc Cert.RefDactIdeal.main_v11) = v0 c
          ∧ r.2.mem ((c.tc : Thread Cert.RefDactIdeal.nD Cert.RefDactIdeal.τ).loc Cert.RefDactIdeal.main_v12) = v1 c
          ∧ r.2.mem ((c.tc : Thread Cert.RefDactIdeal.nD Cert.RefDactIdeal.τ).loc Cert.RefDactIdeal.main_arg0) = m' ((c.tc : Thread Cert.RefDactIdeal.nD Cert.RefDactIdeal.τ).loc Cert.RefDactIdeal.main_arg0)
          ∧ r.2.mem ((c.tc : Thread Cert.RefDactIdeal.nD Cert.RefDactIdeal.τ).loc Cert.RefDactIdeal.main_arg1) = m' ((c.tc : Thread Cert.RefDactIdeal.nD Cert.RefDactIdeal.τ).loc Cert.RefDactIdeal.main_arg1)
          ∧ r.2.mem ((c.tc : Thread Cert.RefDactIdeal.nD Cert.RefDactIdeal.τ).loc Cert.RefDactIdeal.main_arg2) = m' ((c.tc : Thread Cert.RefDactIdeal.nD Cert.RefDactIdeal.τ).loc Cert.RefDactIdeal.main_arg2)
          ∧ r.2.mem ((c.tc : Thread Cert.RefDactIdeal.nD Cert.RefDactIdeal.τ).loc Cert.RefDactIdeal.main_arg3) = m' ((c.tc : Thread Cert.RefDactIdeal.nD Cert.RefDactIdeal.τ).loc Cert.RefDactIdeal.main_arg3))

def preserves_Dwd_DwdIdeal : Prop :=
  True

def algebraic_DwdIdeal_RefDwdIdeal [hDwdIdeal : Cert.DwdIdeal.Facts] [hRefDwdIdeal : Cert.RefDwdIdeal.Facts] : Prop :=
  ∀ (m : (ℓ : Loc Cert.DwdIdeal.nD Cert.DwdIdeal.τ Cert.DwdIdeal.sig) → Buf (Elt Ideal) ℓ) (g : Dev Cert.DwdIdeal.nD → PrngReg)
    (m' : (ℓ : Loc Cert.RefDwdIdeal.nD Cert.RefDwdIdeal.τ Cert.RefDwdIdeal.sig) → Buf (Elt Ideal) ℓ) (g' : Dev Cert.RefDwdIdeal.nD → PrngReg), Pre_DwdIdeal m →
    (∀ c : Dev Cert.DwdIdeal.nD,
      m' ((c.tc : Thread Cert.RefDwdIdeal.nD Cert.RefDwdIdeal.τ).loc Cert.RefDwdIdeal.main_arg0) = m ((c.tc : Thread Cert.DwdIdeal.nD Cert.DwdIdeal.τ).loc Cert.DwdIdeal.main_arg0)
      ∧ m' ((c.tc : Thread Cert.RefDwdIdeal.nD Cert.RefDwdIdeal.τ).loc Cert.RefDwdIdeal.main_arg1) = m ((c.tc : Thread Cert.DwdIdeal.nD Cert.DwdIdeal.τ).loc Cert.DwdIdeal.main_arg1)) →
    ∃ (v0 : (c : Dev Cert.DwdIdeal.nD) → Buf (Elt Ideal) ((c.tc : Thread Cert.DwdIdeal.nD Cert.DwdIdeal.τ).loc Cert.DwdIdeal.main_v0)),
      θ_run (Cert.DwdIdeal.defs (F := Ideal)) (onTc (τ := Cert.DwdIdeal.τ) (Cert.DwdIdeal.main (F := Ideal))) ⟨m, fun _ => 0, g⟩ (fun r => ∀ c : Dev Cert.DwdIdeal.nD,
          r.2.mem ((c.tc : Thread Cert.DwdIdeal.nD Cert.DwdIdeal.τ).loc Cert.DwdIdeal.main_v0) = v0 c
          ∧ r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
          ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1))
      ∧ θ_run (Cert.RefDwdIdeal.defs (F := Ideal)) (onTc (τ := Cert.RefDwdIdeal.τ) (Cert.RefDwdIdeal.main (F := Ideal))) ⟨m', fun _ => 0, g'⟩ (fun r => ∀ c : Dev Cert.RefDwdIdeal.nD,
          r.2.mem ((c.tc : Thread Cert.RefDwdIdeal.nD Cert.RefDwdIdeal.τ).loc Cert.RefDwdIdeal.main_v6) = v0 c
          ∧ r.2.mem ((c.tc : Thread Cert.RefDwdIdeal.nD Cert.RefDwdIdeal.τ).loc Cert.RefDwdIdeal.main_arg0) = m' ((c.tc : Thread Cert.RefDwdIdeal.nD Cert.RefDwdIdeal.τ).loc Cert.RefDwdIdeal.main_arg0)
          ∧ r.2.mem ((c.tc : Thread Cert.RefDwdIdeal.nD Cert.RefDwdIdeal.τ).loc Cert.RefDwdIdeal.main_arg1) = m' ((c.tc : Thread Cert.RefDwdIdeal.nD Cert.RefDwdIdeal.τ).loc Cert.RefDwdIdeal.main_arg1))

def preserves_Dwg_DwgIdeal : Prop :=
  True

def algebraic_DwgIdeal_RefDwgIdeal [hDwgIdeal : Cert.DwgIdeal.Facts] [hRefDwgIdeal : Cert.RefDwgIdeal.Facts] : Prop :=
  ∀ (m : (ℓ : Loc Cert.DwgIdeal.nD Cert.DwgIdeal.τ Cert.DwgIdeal.sig) → Buf (Elt Ideal) ℓ) (g : Dev Cert.DwgIdeal.nD → PrngReg)
    (m' : (ℓ : Loc Cert.RefDwgIdeal.nD Cert.RefDwgIdeal.τ Cert.RefDwgIdeal.sig) → Buf (Elt Ideal) ℓ) (g' : Dev Cert.RefDwgIdeal.nD → PrngReg), Pre_DwgIdeal m →
    (∀ c : Dev Cert.DwgIdeal.nD,
      m' ((c.tc : Thread Cert.RefDwgIdeal.nD Cert.RefDwgIdeal.τ).loc Cert.RefDwgIdeal.main_arg0) = m ((c.tc : Thread Cert.DwgIdeal.nD Cert.DwgIdeal.τ).loc Cert.DwgIdeal.main_arg0)
      ∧ m' ((c.tc : Thread Cert.RefDwgIdeal.nD Cert.RefDwgIdeal.τ).loc Cert.RefDwgIdeal.main_arg1) = m ((c.tc : Thread Cert.DwgIdeal.nD Cert.DwgIdeal.τ).loc Cert.DwgIdeal.main_arg1)) →
    ∃ (v0 : (c : Dev Cert.DwgIdeal.nD) → Buf (Elt Ideal) ((c.tc : Thread Cert.DwgIdeal.nD Cert.DwgIdeal.τ).loc Cert.DwgIdeal.main_v0)),
      θ_run (Cert.DwgIdeal.defs (F := Ideal)) (onTc (τ := Cert.DwgIdeal.τ) (Cert.DwgIdeal.main (F := Ideal))) ⟨m, fun _ => 0, g⟩ (fun r => ∀ c : Dev Cert.DwgIdeal.nD,
          r.2.mem ((c.tc : Thread Cert.DwgIdeal.nD Cert.DwgIdeal.τ).loc Cert.DwgIdeal.main_v0) = v0 c
          ∧ r.2.mem ((c.tc : Thread Cert.DwgIdeal.nD Cert.DwgIdeal.τ).loc Cert.DwgIdeal.main_arg0) = m ((c.tc : Thread Cert.DwgIdeal.nD Cert.DwgIdeal.τ).loc Cert.DwgIdeal.main_arg0)
          ∧ r.2.mem ((c.tc : Thread Cert.DwgIdeal.nD Cert.DwgIdeal.τ).loc Cert.DwgIdeal.main_arg1) = m ((c.tc : Thread Cert.DwgIdeal.nD Cert.DwgIdeal.τ).loc Cert.DwgIdeal.main_arg1))
      ∧ θ_run (Cert.RefDwgIdeal.defs (F := Ideal)) (onTc (τ := Cert.RefDwgIdeal.τ) (Cert.RefDwgIdeal.main (F := Ideal))) ⟨m', fun _ => 0, g'⟩ (fun r => ∀ c : Dev Cert.RefDwgIdeal.nD,
          r.2.mem ((c.tc : Thread Cert.RefDwgIdeal.nD Cert.RefDwgIdeal.τ).loc Cert.RefDwgIdeal.main_v7) = v0 c
          ∧ r.2.mem ((c.tc : Thread Cert.RefDwgIdeal.nD Cert.RefDwgIdeal.τ).loc Cert.RefDwgIdeal.main_arg0) = m' ((c.tc : Thread Cert.RefDwgIdeal.nD Cert.RefDwgIdeal.τ).loc Cert.RefDwgIdeal.main_arg0)
          ∧ r.2.mem ((c.tc : Thread Cert.RefDwgIdeal.nD Cert.RefDwgIdeal.τ).loc Cert.RefDwgIdeal.main_arg1) = m' ((c.tc : Thread Cert.RefDwgIdeal.nD Cert.RefDwgIdeal.τ).loc Cert.RefDwgIdeal.main_arg1))

def preserves_Dgrad_DgradIdeal : Prop :=
  True

def algebraic_DgradIdeal_RefDgradIdeal_pre_finite_dgrad [hDgradIdeal : Cert.DgradIdeal.Facts] [hRefDgradIdeal : Cert.RefDgradIdeal.Facts] [hPre_finite_dgrad : Cert.Pre_finite_dgrad.Facts] : Prop :=
  ∀ (m : (ℓ : Loc Cert.DgradIdeal.nD Cert.DgradIdeal.τ Cert.DgradIdeal.sig) → Buf (Elt Ideal) ℓ) (g : Dev Cert.DgradIdeal.nD → PrngReg)
    (m' : (ℓ : Loc Cert.RefDgradIdeal.nD Cert.RefDgradIdeal.τ Cert.RefDgradIdeal.sig) → Buf (Elt Ideal) ℓ) (g' : Dev Cert.RefDgradIdeal.nD → PrngReg), Pre_DgradIdeal_finite_dgrad m →
    (∀ c : Dev Cert.DgradIdeal.nD,
      m' ((c.tc : Thread Cert.RefDgradIdeal.nD Cert.RefDgradIdeal.τ).loc Cert.RefDgradIdeal.main_arg0) = m ((c.tc : Thread Cert.DgradIdeal.nD Cert.DgradIdeal.τ).loc Cert.DgradIdeal.main_arg0)
      ∧ m' ((c.tc : Thread Cert.RefDgradIdeal.nD Cert.RefDgradIdeal.τ).loc Cert.RefDgradIdeal.main_arg1) = m ((c.tc : Thread Cert.DgradIdeal.nD Cert.DgradIdeal.τ).loc Cert.DgradIdeal.main_arg1)
      ∧ m' ((c.tc : Thread Cert.RefDgradIdeal.nD Cert.RefDgradIdeal.τ).loc Cert.RefDgradIdeal.main_arg2) = m ((c.tc : Thread Cert.DgradIdeal.nD Cert.DgradIdeal.τ).loc Cert.DgradIdeal.main_arg2)
      ∧ m' ((c.tc : Thread Cert.RefDgradIdeal.nD Cert.RefDgradIdeal.τ).loc Cert.RefDgradIdeal.main_arg3) = m ((c.tc : Thread Cert.DgradIdeal.nD Cert.DgradIdeal.τ).loc Cert.DgradIdeal.main_arg3)
      ∧ m' ((c.tc : Thread Cert.RefDgradIdeal.nD Cert.RefDgradIdeal.τ).loc Cert.RefDgradIdeal.main_arg4) = m ((c.tc : Thread Cert.DgradIdeal.nD Cert.DgradIdeal.τ).loc Cert.DgradIdeal.main_arg4)
      ∧ m' ((c.tc : Thread Cert.RefDgradIdeal.nD Cert.RefDgradIdeal.τ).loc Cert.RefDgradIdeal.main_arg5) = m ((c.tc : Thread Cert.DgradIdeal.nD Cert.DgradIdeal.τ).loc Cert.DgradIdeal.main_arg5)
      ∧ m' ((c.tc : Thread Cert.RefDgradIdeal.nD Cert.RefDgradIdeal.τ).loc Cert.RefDgradIdeal.main_arg6) = m ((c.tc : Thread Cert.DgradIdeal.nD Cert.DgradIdeal.τ).loc Cert.DgradIdeal.main_arg6)
      ∧ m' ((c.tc : Thread Cert.RefDgradIdeal.nD Cert.RefDgradIdeal.τ).loc Cert.RefDgradIdeal.main_arg7) = m ((c.tc : Thread Cert.DgradIdeal.nD Cert.DgradIdeal.τ).loc Cert.DgradIdeal.main_arg7)) →
    ∃ (v0 : (c : Dev Cert.DgradIdeal.nD) → Buf (Elt Ideal) ((c.tc : Thread Cert.DgradIdeal.nD Cert.DgradIdeal.τ).loc Cert.DgradIdeal.main_v0_0)) (v1 : (c : Dev Cert.DgradIdeal.nD) → Buf (Elt Ideal) ((c.tc : Thread Cert.DgradIdeal.nD Cert.DgradIdeal.τ).loc Cert.DgradIdeal.main_v0_1)),
      θ_run (Cert.DgradIdeal.defs (F := Ideal)) (onTc (τ := Cert.DgradIdeal.τ) (Cert.DgradIdeal.main (F := Ideal))) ⟨m, fun _ => 0, g⟩ (fun r => ∀ c : Dev Cert.DgradIdeal.nD,
          r.2.mem ((c.tc : Thread Cert.DgradIdeal.nD Cert.DgradIdeal.τ).loc Cert.DgradIdeal.main_v0_0) = v0 c
          ∧ r.2.mem ((c.tc : Thread Cert.DgradIdeal.nD Cert.DgradIdeal.τ).loc Cert.DgradIdeal.main_v0_1) = v1 c
          ∧ r.2.mem ((c.tc : Thread Cert.DgradIdeal.nD Cert.DgradIdeal.τ).loc Cert.DgradIdeal.main_arg0) = m ((c.tc : Thread Cert.DgradIdeal.nD Cert.DgradIdeal.τ).loc Cert.DgradIdeal.main_arg0)
          ∧ r.2.mem ((c.tc : Thread Cert.DgradIdeal.nD Cert.DgradIdeal.τ).loc Cert.DgradIdeal.main_arg1) = m ((c.tc : Thread Cert.DgradIdeal.nD Cert.DgradIdeal.τ).loc Cert.DgradIdeal.main_arg1)
          ∧ r.2.mem ((c.tc : Thread Cert.DgradIdeal.nD Cert.DgradIdeal.τ).loc Cert.DgradIdeal.main_arg2) = m ((c.tc : Thread Cert.DgradIdeal.nD Cert.DgradIdeal.τ).loc Cert.DgradIdeal.main_arg2)
          ∧ r.2.mem ((c.tc : Thread Cert.DgradIdeal.nD Cert.DgradIdeal.τ).loc Cert.DgradIdeal.main_arg3) = m ((c.tc : Thread Cert.DgradIdeal.nD Cert.DgradIdeal.τ).loc Cert.DgradIdeal.main_arg3)
          ∧ r.2.mem ((c.tc : Thread Cert.DgradIdeal.nD Cert.DgradIdeal.τ).loc Cert.DgradIdeal.main_arg4) = m ((c.tc : Thread Cert.DgradIdeal.nD Cert.DgradIdeal.τ).loc Cert.DgradIdeal.main_arg4)
          ∧ r.2.mem ((c.tc : Thread Cert.DgradIdeal.nD Cert.DgradIdeal.τ).loc Cert.DgradIdeal.main_arg5) = m ((c.tc : Thread Cert.DgradIdeal.nD Cert.DgradIdeal.τ).loc Cert.DgradIdeal.main_arg5)
          ∧ r.2.mem ((c.tc : Thread Cert.DgradIdeal.nD Cert.DgradIdeal.τ).loc Cert.DgradIdeal.main_arg6) = m ((c.tc : Thread Cert.DgradIdeal.nD Cert.DgradIdeal.τ).loc Cert.DgradIdeal.main_arg6)
          ∧ r.2.mem ((c.tc : Thread Cert.DgradIdeal.nD Cert.DgradIdeal.τ).loc Cert.DgradIdeal.main_arg7) = m ((c.tc : Thread Cert.DgradIdeal.nD Cert.DgradIdeal.τ).loc Cert.DgradIdeal.main_arg7))
      ∧ θ_run (Cert.RefDgradIdeal.defs (F := Ideal)) (onTc (τ := Cert.RefDgradIdeal.τ) (Cert.RefDgradIdeal.main (F := Ideal))) ⟨m', fun _ => 0, g'⟩ (fun r => ∀ c : Dev Cert.RefDgradIdeal.nD,
          r.2.mem ((c.tc : Thread Cert.RefDgradIdeal.nD Cert.RefDgradIdeal.τ).loc Cert.RefDgradIdeal.main_v59) = v0 c
          ∧ r.2.mem ((c.tc : Thread Cert.RefDgradIdeal.nD Cert.RefDgradIdeal.τ).loc Cert.RefDgradIdeal.main_v61) = v1 c
          ∧ r.2.mem ((c.tc : Thread Cert.RefDgradIdeal.nD Cert.RefDgradIdeal.τ).loc Cert.RefDgradIdeal.main_arg0) = m' ((c.tc : Thread Cert.RefDgradIdeal.nD Cert.RefDgradIdeal.τ).loc Cert.RefDgradIdeal.main_arg0)
          ∧ r.2.mem ((c.tc : Thread Cert.RefDgradIdeal.nD Cert.RefDgradIdeal.τ).loc Cert.RefDgradIdeal.main_arg1) = m' ((c.tc : Thread Cert.RefDgradIdeal.nD Cert.RefDgradIdeal.τ).loc Cert.RefDgradIdeal.main_arg1)
          ∧ r.2.mem ((c.tc : Thread Cert.RefDgradIdeal.nD Cert.RefDgradIdeal.τ).loc Cert.RefDgradIdeal.main_arg2) = m' ((c.tc : Thread Cert.RefDgradIdeal.nD Cert.RefDgradIdeal.τ).loc Cert.RefDgradIdeal.main_arg2)
          ∧ r.2.mem ((c.tc : Thread Cert.RefDgradIdeal.nD Cert.RefDgradIdeal.τ).loc Cert.RefDgradIdeal.main_arg3) = m' ((c.tc : Thread Cert.RefDgradIdeal.nD Cert.RefDgradIdeal.τ).loc Cert.RefDgradIdeal.main_arg3)
          ∧ r.2.mem ((c.tc : Thread Cert.RefDgradIdeal.nD Cert.RefDgradIdeal.τ).loc Cert.RefDgradIdeal.main_arg4) = m' ((c.tc : Thread Cert.RefDgradIdeal.nD Cert.RefDgradIdeal.τ).loc Cert.RefDgradIdeal.main_arg4)
          ∧ r.2.mem ((c.tc : Thread Cert.RefDgradIdeal.nD Cert.RefDgradIdeal.τ).loc Cert.RefDgradIdeal.main_arg5) = m' ((c.tc : Thread Cert.RefDgradIdeal.nD Cert.RefDgradIdeal.τ).loc Cert.RefDgradIdeal.main_arg5)
          ∧ r.2.mem ((c.tc : Thread Cert.RefDgradIdeal.nD Cert.RefDgradIdeal.τ).loc Cert.RefDgradIdeal.main_arg6) = m' ((c.tc : Thread Cert.RefDgradIdeal.nD Cert.RefDgradIdeal.τ).loc Cert.RefDgradIdeal.main_arg6)
          ∧ r.2.mem ((c.tc : Thread Cert.RefDgradIdeal.nD Cert.RefDgradIdeal.τ).loc Cert.RefDgradIdeal.main_arg7) = m' ((c.tc : Thread Cert.RefDgradIdeal.nD Cert.RefDgradIdeal.τ).loc Cert.RefDgradIdeal.main_arg7))

def preserves_Up_UpIdeal : Prop :=
  True

def algebraic_UpIdeal_RefUpIdeal [hUpIdeal : Cert.UpIdeal.Facts] [hRefUpIdeal : Cert.RefUpIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.RefUpIdeal.nD Cert.RefUpIdeal.τ Cert.RefUpIdeal.sig) → Buf (Elt Ideal) ℓ) (g' : Dev Cert.RefUpIdeal.nD → PrngReg), Pre_UpIdeal m →
    (∀ c : Dev Cert.UpIdeal.nD,
      m' ((c.tc : Thread Cert.RefUpIdeal.nD Cert.RefUpIdeal.τ).loc Cert.RefUpIdeal.main_arg0) = m ((c.tc : Thread Cert.UpIdeal.nD Cert.UpIdeal.τ).loc Cert.UpIdeal.main_arg0)
      ∧ m' ((c.tc : Thread Cert.RefUpIdeal.nD Cert.RefUpIdeal.τ).loc Cert.RefUpIdeal.main_arg1) = m ((c.tc : Thread Cert.UpIdeal.nD Cert.UpIdeal.τ).loc Cert.UpIdeal.main_arg1)
      ∧ m' ((c.tc : Thread Cert.RefUpIdeal.nD Cert.RefUpIdeal.τ).loc Cert.RefUpIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.RefUpIdeal.defs (F := Ideal)) (onTc (τ := Cert.RefUpIdeal.τ) (Cert.RefUpIdeal.main (F := Ideal))) ⟨m', fun _ => 0, g'⟩ (fun r => ∀ c : Dev Cert.RefUpIdeal.nD,
          r.2.mem ((c.tc : Thread Cert.RefUpIdeal.nD Cert.RefUpIdeal.τ).loc Cert.RefUpIdeal.main_v7) = v0 c
          ∧ r.2.mem ((c.tc : Thread Cert.RefUpIdeal.nD Cert.RefUpIdeal.τ).loc Cert.RefUpIdeal.main_v8) = v1 c
          ∧ r.2.mem ((c.tc : Thread Cert.RefUpIdeal.nD Cert.RefUpIdeal.τ).loc Cert.RefUpIdeal.main_v11) = v2 c
          ∧ r.2.mem ((c.tc : Thread Cert.RefUpIdeal.nD Cert.RefUpIdeal.τ).loc Cert.RefUpIdeal.main_arg0) = m' ((c.tc : Thread Cert.RefUpIdeal.nD Cert.RefUpIdeal.τ).loc Cert.RefUpIdeal.main_arg0)
          ∧ r.2.mem ((c.tc : Thread Cert.RefUpIdeal.nD Cert.RefUpIdeal.τ).loc Cert.RefUpIdeal.main_arg1) = m' ((c.tc : Thread Cert.RefUpIdeal.nD Cert.RefUpIdeal.τ).loc Cert.RefUpIdeal.main_arg1)
          ∧ r.2.mem ((c.tc : Thread Cert.RefUpIdeal.nD Cert.RefUpIdeal.τ).loc Cert.RefUpIdeal.main_arg2) = m' ((c.tc : Thread Cert.RefUpIdeal.nD Cert.RefUpIdeal.τ).loc Cert.RefUpIdeal.main_arg2))

def preserves_Down_DownIdeal : Prop :=
  True

def algebraic_DownIdeal_RefDownIdeal [hDownIdeal : Cert.DownIdeal.Facts] [hRefDownIdeal : Cert.RefDownIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_DownIdeal m →
    (∀ c : Dev Cert.DownIdeal.nD,
      m' ((c.tc : Thread Cert.RefDownIdeal.nD Cert.RefDownIdeal.τ).loc Cert.RefDownIdeal.main_arg0) = m ((c.tc : Thread Cert.DownIdeal.nD Cert.DownIdeal.τ).loc Cert.DownIdeal.main_arg0)
      ∧ m' ((c.tc : Thread Cert.RefDownIdeal.nD Cert.RefDownIdeal.τ).loc Cert.RefDownIdeal.main_arg1) = m ((c.tc : Thread Cert.DownIdeal.nD Cert.DownIdeal.τ).loc Cert.DownIdeal.main_arg1)
      ∧ m' ((c.tc : Thread Cert.RefDownIdeal.nD Cert.RefDownIdeal.τ).loc Cert.RefDownIdeal.main_arg2) = m ((c.tc : Thread Cert.DownIdeal.nD Cert.DownIdeal.τ).loc Cert.DownIdeal.main_arg2)
      ∧ m' ((c.tc : Thread Cert.RefDownIdeal.nD Cert.RefDownIdeal.τ).loc Cert.RefDownIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v9) = v0 c
          ∧ r.2.mem ((c.tc : Thread Cert.RefDownIdeal.nD Cert.RefDownIdeal.τ).loc Cert.RefDownIdeal.main_v2) = v1 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1)
          ∧ r.2.mem ((c.tc : Thread Cert.RefDownIdeal.nD Cert.RefDownIdeal.τ).loc Cert.RefDownIdeal.main_arg2) = m' ((c.tc : Thread Cert.RefDownIdeal.nD Cert.RefDownIdeal.τ).loc Cert.RefDownIdeal.main_arg2)
          ∧ r.2.mem ((c.tc : Thread Cert.RefDownIdeal.nD Cert.RefDownIdeal.τ).loc Cert.RefDownIdeal.main_arg3) = m' ((c.tc : Thread Cert.RefDownIdeal.nD Cert.RefDownIdeal.τ).loc Cert.RefDownIdeal.main_arg3))

def preserves_Gate_GateIdeal : Prop :=
  True

def algebraic_GateIdeal_RefGateIdeal [hGateIdeal : Cert.GateIdeal.Facts] [hRefGateIdeal : Cert.RefGateIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.RefGateIdeal.nD Cert.RefGateIdeal.τ Cert.RefGateIdeal.sig) → Buf (Elt Ideal) ℓ) (g' : Dev Cert.RefGateIdeal.nD → PrngReg), Pre_GateIdeal m →
    (∀ c : Dev Cert.GateIdeal.nD,
      m' ((c.tc : Thread Cert.RefGateIdeal.nD Cert.RefGateIdeal.τ).loc Cert.RefGateIdeal.main_arg0) = m ((c.tc : Thread Cert.GateIdeal.nD Cert.GateIdeal.τ).loc Cert.GateIdeal.main_arg0)
      ∧ m' ((c.tc : Thread Cert.RefGateIdeal.nD Cert.RefGateIdeal.τ).loc Cert.RefGateIdeal.main_arg1) = m ((c.tc : Thread Cert.GateIdeal.nD Cert.GateIdeal.τ).loc Cert.GateIdeal.main_arg1)
      ∧ m' ((c.tc : Thread Cert.RefGateIdeal.nD Cert.RefGateIdeal.τ).loc Cert.RefGateIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.RefGateIdeal.defs (F := Ideal)) (onTc (τ := Cert.RefGateIdeal.τ) (Cert.RefGateIdeal.main (F := Ideal))) ⟨m', fun _ => 0, g'⟩ (fun r => ∀ c : Dev Cert.RefGateIdeal.nD,
          r.2.mem ((c.tc : Thread Cert.RefGateIdeal.nD Cert.RefGateIdeal.τ).loc Cert.RefGateIdeal.main_v13) = v0 c
          ∧ r.2.mem ((c.tc : Thread Cert.RefGateIdeal.nD Cert.RefGateIdeal.τ).loc Cert.RefGateIdeal.main_v14) = v1 c
          ∧ r.2.mem ((c.tc : Thread Cert.RefGateIdeal.nD Cert.RefGateIdeal.τ).loc Cert.RefGateIdeal.main_arg0) = m' ((c.tc : Thread Cert.RefGateIdeal.nD Cert.RefGateIdeal.τ).loc Cert.RefGateIdeal.main_arg0)
          ∧ r.2.mem ((c.tc : Thread Cert.RefGateIdeal.nD Cert.RefGateIdeal.τ).loc Cert.RefGateIdeal.main_arg1) = m' ((c.tc : Thread Cert.RefGateIdeal.nD Cert.RefGateIdeal.τ).loc Cert.RefGateIdeal.main_arg1)
          ∧ r.2.mem ((c.tc : Thread Cert.RefGateIdeal.nD Cert.RefGateIdeal.τ).loc Cert.RefGateIdeal.main_arg2) = m' ((c.tc : Thread Cert.RefGateIdeal.nD Cert.RefGateIdeal.τ).loc Cert.RefGateIdeal.main_arg2))

def preserves_Mgate_MgateIdeal : Prop :=
  True

def algebraic_MgateIdeal_RefMgateIdeal [hMgateIdeal : Cert.MgateIdeal.Facts] [hRefMgateIdeal : Cert.RefMgateIdeal.Facts] : Prop :=
  ∀ (m : (ℓ : Loc Cert.MgateIdeal.nD Cert.MgateIdeal.τ Cert.MgateIdeal.sig) → Buf (Elt Ideal) ℓ) (g : Dev Cert.MgateIdeal.nD → PrngReg)
    (m' : (ℓ : Loc Cert.RefMgateIdeal.nD Cert.RefMgateIdeal.τ Cert.RefMgateIdeal.sig) → Buf (Elt Ideal) ℓ) (g' : Dev Cert.RefMgateIdeal.nD → PrngReg), Pre_MgateIdeal m →
    (∀ c : Dev Cert.MgateIdeal.nD,
      m' ((c.tc : Thread Cert.RefMgateIdeal.nD Cert.RefMgateIdeal.τ).loc Cert.RefMgateIdeal.main_arg0) = m ((c.tc : Thread Cert.MgateIdeal.nD Cert.MgateIdeal.τ).loc Cert.MgateIdeal.main_arg0)
      ∧ m' ((c.tc : Thread Cert.RefMgateIdeal.nD Cert.RefMgateIdeal.τ).loc Cert.RefMgateIdeal.main_arg1) = m ((c.tc : Thread Cert.MgateIdeal.nD Cert.MgateIdeal.τ).loc Cert.MgateIdeal.main_arg1)
      ∧ m' ((c.tc : Thread Cert.RefMgateIdeal.nD Cert.RefMgateIdeal.τ).loc Cert.RefMgateIdeal.main_arg2) = m ((c.tc : Thread Cert.MgateIdeal.nD Cert.MgateIdeal.τ).loc Cert.MgateIdeal.main_arg2)) →
    ∃ (v0 : (c : Dev Cert.MgateIdeal.nD) → Buf (Elt Ideal) ((c.tc : Thread Cert.MgateIdeal.nD Cert.MgateIdeal.τ).loc Cert.MgateIdeal.main_v0_0)) (v1 : (c : Dev Cert.MgateIdeal.nD) → Buf (Elt Ideal) ((c.tc : Thread Cert.MgateIdeal.nD Cert.MgateIdeal.τ).loc Cert.MgateIdeal.main_v0_1)),
      θ_run (Cert.MgateIdeal.defs (F := Ideal)) (onTc (τ := Cert.MgateIdeal.τ) (Cert.MgateIdeal.main (F := Ideal))) ⟨m, fun _ => 0, g⟩ (fun r => ∀ c : Dev Cert.MgateIdeal.nD,
          r.2.mem ((c.tc : Thread Cert.MgateIdeal.nD Cert.MgateIdeal.τ).loc Cert.MgateIdeal.main_v0_0) = v0 c
          ∧ r.2.mem ((c.tc : Thread Cert.MgateIdeal.nD Cert.MgateIdeal.τ).loc Cert.MgateIdeal.main_v0_1) = v1 c
          ∧ r.2.mem ((c.tc : Thread Cert.MgateIdeal.nD Cert.MgateIdeal.τ).loc Cert.MgateIdeal.main_arg0) = m ((c.tc : Thread Cert.MgateIdeal.nD Cert.MgateIdeal.τ).loc Cert.MgateIdeal.main_arg0)
          ∧ r.2.mem ((c.tc : Thread Cert.MgateIdeal.nD Cert.MgateIdeal.τ).loc Cert.MgateIdeal.main_arg1) = m ((c.tc : Thread Cert.MgateIdeal.nD Cert.MgateIdeal.τ).loc Cert.MgateIdeal.main_arg1)
          ∧ r.2.mem ((c.tc : Thread Cert.MgateIdeal.nD Cert.MgateIdeal.τ).loc Cert.MgateIdeal.main_arg2) = m ((c.tc : Thread Cert.MgateIdeal.nD Cert.MgateIdeal.τ).loc Cert.MgateIdeal.main_arg2))
      ∧ θ_run (Cert.RefMgateIdeal.defs (F := Ideal)) (onTc (τ := Cert.RefMgateIdeal.τ) (Cert.RefMgateIdeal.main (F := Ideal))) ⟨m', fun _ => 0, g'⟩ (fun r => ∀ c : Dev Cert.RefMgateIdeal.nD,
          r.2.mem ((c.tc : Thread Cert.RefMgateIdeal.nD Cert.RefMgateIdeal.τ).loc Cert.RefMgateIdeal.main_v9) = v0 c
          ∧ r.2.mem ((c.tc : Thread Cert.RefMgateIdeal.nD Cert.RefMgateIdeal.τ).loc Cert.RefMgateIdeal.main_v10) = v1 c
          ∧ r.2.mem ((c.tc : Thread Cert.RefMgateIdeal.nD Cert.RefMgateIdeal.τ).loc Cert.RefMgateIdeal.main_arg0) = m' ((c.tc : Thread Cert.RefMgateIdeal.nD Cert.RefMgateIdeal.τ).loc Cert.RefMgateIdeal.main_arg0)
          ∧ r.2.mem ((c.tc : Thread Cert.RefMgateIdeal.nD Cert.RefMgateIdeal.τ).loc Cert.RefMgateIdeal.main_arg1) = m' ((c.tc : Thread Cert.RefMgateIdeal.nD Cert.RefMgateIdeal.τ).loc Cert.RefMgateIdeal.main_arg1)
          ∧ r.2.mem ((c.tc : Thread Cert.RefMgateIdeal.nD Cert.RefMgateIdeal.τ).loc Cert.RefMgateIdeal.main_arg2) = m' ((c.tc : Thread Cert.RefMgateIdeal.nD Cert.RefMgateIdeal.τ).loc Cert.RefMgateIdeal.main_arg2))

def preserves_Gnorm_GnormIdeal : Prop :=
  True

def algebraic_GnormIdeal_RefGnormIdeal_pre_finite_gnorm [hGnormIdeal : Cert.GnormIdeal.Facts] [hRefGnormIdeal : Cert.RefGnormIdeal.Facts] [hPre_finite_gnorm : Cert.Pre_finite_gnorm.Facts] : Prop :=
  ∀ (m : (ℓ : Loc Cert.GnormIdeal.nD Cert.GnormIdeal.τ Cert.GnormIdeal.sig) → Buf (Elt Ideal) ℓ) (g : Dev Cert.GnormIdeal.nD → PrngReg)
    (m' : (ℓ : Loc Cert.RefGnormIdeal.nD Cert.RefGnormIdeal.τ Cert.RefGnormIdeal.sig) → Buf (Elt Ideal) ℓ) (g' : Dev Cert.RefGnormIdeal.nD → PrngReg), Pre_GnormIdeal_finite_gnorm m →
    (∀ c : Dev Cert.GnormIdeal.nD,
      m' ((c.tc : Thread Cert.RefGnormIdeal.nD Cert.RefGnormIdeal.τ).loc Cert.RefGnormIdeal.main_arg0) = m ((c.tc : Thread Cert.GnormIdeal.nD Cert.GnormIdeal.τ).loc Cert.GnormIdeal.main_arg0)
      ∧ m' ((c.tc : Thread Cert.RefGnormIdeal.nD Cert.RefGnormIdeal.τ).loc Cert.RefGnormIdeal.main_arg1) = m ((c.tc : Thread Cert.GnormIdeal.nD Cert.GnormIdeal.τ).loc Cert.GnormIdeal.main_arg1)
      ∧ m' ((c.tc : Thread Cert.RefGnormIdeal.nD Cert.RefGnormIdeal.τ).loc Cert.RefGnormIdeal.main_arg2) = m ((c.tc : Thread Cert.GnormIdeal.nD Cert.GnormIdeal.τ).loc Cert.GnormIdeal.main_arg2)
      ∧ m' ((c.tc : Thread Cert.RefGnormIdeal.nD Cert.RefGnormIdeal.τ).loc Cert.RefGnormIdeal.main_arg3) = m ((c.tc : Thread Cert.GnormIdeal.nD Cert.GnormIdeal.τ).loc Cert.GnormIdeal.main_arg3)) →
    ∃ (v0 : (c : Dev Cert.GnormIdeal.nD) → Buf (Elt Ideal) ((c.tc : Thread Cert.GnormIdeal.nD Cert.GnormIdeal.τ).loc Cert.GnormIdeal.main_v0_0)) (v1 : (c : Dev Cert.GnormIdeal.nD) → Buf (Elt Ideal) ((c.tc : Thread Cert.GnormIdeal.nD Cert.GnormIdeal.τ).loc Cert.GnormIdeal.main_v0_1)) (v2 : (c : Dev Cert.GnormIdeal.nD) → Buf (Elt Ideal) ((c.tc : Thread Cert.GnormIdeal.nD Cert.GnormIdeal.τ).loc Cert.GnormIdeal.main_v0_2)),
      θ_run (Cert.GnormIdeal.defs (F := Ideal)) (onTc (τ := Cert.GnormIdeal.τ) (Cert.GnormIdeal.main (F := Ideal))) ⟨m, fun _ => 0, g⟩ (fun r => ∀ c : Dev Cert.GnormIdeal.nD,
          r.2.mem ((c.tc : Thread Cert.GnormIdeal.nD Cert.GnormIdeal.τ).loc Cert.GnormIdeal.main_v0_0) = v0 c
          ∧ r.2.mem ((c.tc : Thread Cert.GnormIdeal.nD Cert.GnormIdeal.τ).loc Cert.GnormIdeal.main_v0_1) = v1 c
          ∧ r.2.mem ((c.tc : Thread Cert.GnormIdeal.nD Cert.GnormIdeal.τ).loc Cert.GnormIdeal.main_v0_2) = v2 c
          ∧ r.2.mem ((c.tc : Thread Cert.GnormIdeal.nD Cert.GnormIdeal.τ).loc Cert.GnormIdeal.main_arg0) = m ((c.tc : Thread Cert.GnormIdeal.nD Cert.GnormIdeal.τ).loc Cert.GnormIdeal.main_arg0)
          ∧ r.2.mem ((c.tc : Thread Cert.GnormIdeal.nD Cert.GnormIdeal.τ).loc Cert.GnormIdeal.main_arg1) = m ((c.tc : Thread Cert.GnormIdeal.nD Cert.GnormIdeal.τ).loc Cert.GnormIdeal.main_arg1)
          ∧ r.2.mem ((c.tc : Thread Cert.GnormIdeal.nD Cert.GnormIdeal.τ).loc Cert.GnormIdeal.main_arg2) = m ((c.tc : Thread Cert.GnormIdeal.nD Cert.GnormIdeal.τ).loc Cert.GnormIdeal.main_arg2)
          ∧ r.2.mem ((c.tc : Thread Cert.GnormIdeal.nD Cert.GnormIdeal.τ).loc Cert.GnormIdeal.main_arg3) = m ((c.tc : Thread Cert.GnormIdeal.nD Cert.GnormIdeal.τ).loc Cert.GnormIdeal.main_arg3))
      ∧ θ_run (Cert.RefGnormIdeal.defs (F := Ideal)) (onTc (τ := Cert.RefGnormIdeal.τ) (Cert.RefGnormIdeal.main (F := Ideal))) ⟨m', fun _ => 0, g'⟩ (fun r => ∀ c : Dev Cert.RefGnormIdeal.nD,
          r.2.mem ((c.tc : Thread Cert.RefGnormIdeal.nD Cert.RefGnormIdeal.τ).loc Cert.RefGnormIdeal.main_v39) = v0 c
          ∧ r.2.mem ((c.tc : Thread Cert.RefGnormIdeal.nD Cert.RefGnormIdeal.τ).loc Cert.RefGnormIdeal.main_v41) = v1 c
          ∧ r.2.mem ((c.tc : Thread Cert.RefGnormIdeal.nD Cert.RefGnormIdeal.τ).loc Cert.RefGnormIdeal.main_v42) = v2 c
          ∧ r.2.mem ((c.tc : Thread Cert.RefGnormIdeal.nD Cert.RefGnormIdeal.τ).loc Cert.RefGnormIdeal.main_arg0) = m' ((c.tc : Thread Cert.RefGnormIdeal.nD Cert.RefGnormIdeal.τ).loc Cert.RefGnormIdeal.main_arg0)
          ∧ r.2.mem ((c.tc : Thread Cert.RefGnormIdeal.nD Cert.RefGnormIdeal.τ).loc Cert.RefGnormIdeal.main_arg1) = m' ((c.tc : Thread Cert.RefGnormIdeal.nD Cert.RefGnormIdeal.τ).loc Cert.RefGnormIdeal.main_arg1)
          ∧ r.2.mem ((c.tc : Thread Cert.RefGnormIdeal.nD Cert.RefGnormIdeal.τ).loc Cert.RefGnormIdeal.main_arg2) = m' ((c.tc : Thread Cert.RefGnormIdeal.nD Cert.RefGnormIdeal.τ).loc Cert.RefGnormIdeal.main_arg2)
          ∧ r.2.mem ((c.tc : Thread Cert.RefGnormIdeal.nD Cert.RefGnormIdeal.τ).loc Cert.RefGnormIdeal.main_arg3) = m' ((c.tc : Thread Cert.RefGnormIdeal.nD Cert.RefGnormIdeal.τ).loc Cert.RefGnormIdeal.main_arg3))

def preserves_Conv_ConvIdeal : Prop :=
  True

def algebraic_ConvIdeal_RefConvIdeal_pre_finite_conv [hConvIdeal : Cert.ConvIdeal.Facts] [hRefConvIdeal : Cert.RefConvIdeal.Facts] [hPre_finite_conv : Cert.Pre_finite_conv.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.RefConvIdeal.nD Cert.RefConvIdeal.τ Cert.RefConvIdeal.sig) → Buf (Elt Ideal) ℓ) (g' : Dev Cert.RefConvIdeal.nD → PrngReg), Pre_ConvIdeal_finite_conv m →
    (∀ c : Dev Cert.ConvIdeal.nD,
      m' ((c.tc : Thread Cert.RefConvIdeal.nD Cert.RefConvIdeal.τ).loc Cert.RefConvIdeal.main_arg0) = m ((c.tc : Thread Cert.ConvIdeal.nD Cert.ConvIdeal.τ).loc Cert.ConvIdeal.main_arg0)
      ∧ m' ((c.tc : Thread Cert.RefConvIdeal.nD Cert.RefConvIdeal.τ).loc Cert.RefConvIdeal.main_arg1) = m ((c.tc : Thread Cert.ConvIdeal.nD Cert.ConvIdeal.τ).loc Cert.ConvIdeal.main_arg1)
      ∧ m' ((c.tc : Thread Cert.RefConvIdeal.nD Cert.RefConvIdeal.τ).loc Cert.RefConvIdeal.main_arg2) = m ((c.tc : Thread Cert.ConvIdeal.nD Cert.ConvIdeal.τ).loc Cert.ConvIdeal.main_arg2)
      ∧ m' ((c.tc : Thread Cert.RefConvIdeal.nD Cert.RefConvIdeal.τ).loc Cert.RefConvIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.RefConvIdeal.defs (F := Ideal)) (onTc (τ := Cert.RefConvIdeal.τ) (Cert.RefConvIdeal.main (F := Ideal))) ⟨m', fun _ => 0, g'⟩ (fun r => ∀ c : Dev Cert.RefConvIdeal.nD,
          r.2.mem ((c.tc : Thread Cert.RefConvIdeal.nD Cert.RefConvIdeal.τ).loc Cert.RefConvIdeal.main_v76) = v0 c
          ∧ r.2.mem ((c.tc : Thread Cert.RefConvIdeal.nD Cert.RefConvIdeal.τ).loc Cert.RefConvIdeal.main_v78) = v1 c
          ∧ r.2.mem ((c.tc : Thread Cert.RefConvIdeal.nD Cert.RefConvIdeal.τ).loc Cert.RefConvIdeal.main_arg0) = m' ((c.tc : Thread Cert.RefConvIdeal.nD Cert.RefConvIdeal.τ).loc Cert.RefConvIdeal.main_arg0)
          ∧ r.2.mem ((c.tc : Thread Cert.RefConvIdeal.nD Cert.RefConvIdeal.τ).loc Cert.RefConvIdeal.main_arg1) = m' ((c.tc : Thread Cert.RefConvIdeal.nD Cert.RefConvIdeal.τ).loc Cert.RefConvIdeal.main_arg1)
          ∧ r.2.mem ((c.tc : Thread Cert.RefConvIdeal.nD Cert.RefConvIdeal.τ).loc Cert.RefConvIdeal.main_arg2) = m' ((c.tc : Thread Cert.RefConvIdeal.nD Cert.RefConvIdeal.τ).loc Cert.RefConvIdeal.main_arg2)
          ∧ r.2.mem ((c.tc : Thread Cert.RefConvIdeal.nD Cert.RefConvIdeal.τ).loc Cert.RefConvIdeal.main_arg3) = m' ((c.tc : Thread Cert.RefConvIdeal.nD Cert.RefConvIdeal.τ).loc Cert.RefConvIdeal.main_arg3))

def preserves_Proj_ProjIdeal : Prop :=
  True

def algebraic_ProjIdeal_RefProjIdeal [hProjIdeal : Cert.ProjIdeal.Facts] [hRefProjIdeal : Cert.RefProjIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.RefProjIdeal.nD Cert.RefProjIdeal.τ Cert.RefProjIdeal.sig) → Buf (Elt Ideal) ℓ) (g' : Dev Cert.RefProjIdeal.nD → PrngReg), Pre_ProjIdeal m →
    (∀ c : Dev Cert.ProjIdeal.nD,
      m' ((c.tc : Thread Cert.RefProjIdeal.nD Cert.RefProjIdeal.τ).loc Cert.RefProjIdeal.main_arg0) = m ((c.tc : Thread Cert.ProjIdeal.nD Cert.ProjIdeal.τ).loc Cert.ProjIdeal.main_arg0)
      ∧ m' ((c.tc : Thread Cert.RefProjIdeal.nD Cert.RefProjIdeal.τ).loc Cert.RefProjIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.RefProjIdeal.defs (F := Ideal)) (onTc (τ := Cert.RefProjIdeal.τ) (Cert.RefProjIdeal.main (F := Ideal))) ⟨m', fun _ => 0, g'⟩ (fun r => ∀ c : Dev Cert.RefProjIdeal.nD,
          r.2.mem ((c.tc : Thread Cert.RefProjIdeal.nD Cert.RefProjIdeal.τ).loc Cert.RefProjIdeal.main_v3) = v0 c
          ∧ r.2.mem ((c.tc : Thread Cert.RefProjIdeal.nD Cert.RefProjIdeal.τ).loc Cert.RefProjIdeal.main_arg0) = m' ((c.tc : Thread Cert.RefProjIdeal.nD Cert.RefProjIdeal.τ).loc Cert.RefProjIdeal.main_arg0)
          ∧ r.2.mem ((c.tc : Thread Cert.RefProjIdeal.nD Cert.RefProjIdeal.τ).loc Cert.RefProjIdeal.main_arg1) = m' ((c.tc : Thread Cert.RefProjIdeal.nD Cert.RefProjIdeal.τ).loc Cert.RefProjIdeal.main_arg1))

def preserves_Dycat_DycatIdeal : Prop :=
  True

def algebraic_DycatIdeal_RefDycatIdeal [hDycatIdeal : Cert.DycatIdeal.Facts] [hRefDycatIdeal : Cert.RefDycatIdeal.Facts] : Prop :=
  ∀ (m : (ℓ : Loc Cert.DycatIdeal.nD Cert.DycatIdeal.τ Cert.DycatIdeal.sig) → Buf (Elt Ideal) ℓ) (g : Dev Cert.DycatIdeal.nD → PrngReg)
    (m' : (ℓ : Loc Cert.RefDycatIdeal.nD Cert.RefDycatIdeal.τ Cert.RefDycatIdeal.sig) → Buf (Elt Ideal) ℓ) (g' : Dev Cert.RefDycatIdeal.nD → PrngReg), Pre_DycatIdeal m →
    (∀ c : Dev Cert.DycatIdeal.nD,
      m' ((c.tc : Thread Cert.RefDycatIdeal.nD Cert.RefDycatIdeal.τ).loc Cert.RefDycatIdeal.main_arg0) = m ((c.tc : Thread Cert.DycatIdeal.nD Cert.DycatIdeal.τ).loc Cert.DycatIdeal.main_arg0)
      ∧ m' ((c.tc : Thread Cert.RefDycatIdeal.nD Cert.RefDycatIdeal.τ).loc Cert.RefDycatIdeal.main_arg1) = m ((c.tc : Thread Cert.DycatIdeal.nD Cert.DycatIdeal.τ).loc Cert.DycatIdeal.main_arg1)) →
    ∃ (v0 : (c : Dev Cert.DycatIdeal.nD) → Buf (Elt Ideal) ((c.tc : Thread Cert.DycatIdeal.nD Cert.DycatIdeal.τ).loc Cert.DycatIdeal.main_v0)),
      θ_run (Cert.DycatIdeal.defs (F := Ideal)) (onTc (τ := Cert.DycatIdeal.τ) (Cert.DycatIdeal.main (F := Ideal))) ⟨m, fun _ => 0, g⟩ (fun r => ∀ c : Dev Cert.DycatIdeal.nD,
          r.2.mem ((c.tc : Thread Cert.DycatIdeal.nD Cert.DycatIdeal.τ).loc Cert.DycatIdeal.main_v0) = v0 c
          ∧ r.2.mem ((c.tc : Thread Cert.DycatIdeal.nD Cert.DycatIdeal.τ).loc Cert.DycatIdeal.main_arg0) = m ((c.tc : Thread Cert.DycatIdeal.nD Cert.DycatIdeal.τ).loc Cert.DycatIdeal.main_arg0)
          ∧ r.2.mem ((c.tc : Thread Cert.DycatIdeal.nD Cert.DycatIdeal.τ).loc Cert.DycatIdeal.main_arg1) = m ((c.tc : Thread Cert.DycatIdeal.nD Cert.DycatIdeal.τ).loc Cert.DycatIdeal.main_arg1))
      ∧ θ_run (Cert.RefDycatIdeal.defs (F := Ideal)) (onTc (τ := Cert.RefDycatIdeal.τ) (Cert.RefDycatIdeal.main (F := Ideal))) ⟨m', fun _ => 0, g'⟩ (fun r => ∀ c : Dev Cert.RefDycatIdeal.nD,
          r.2.mem ((c.tc : Thread Cert.RefDycatIdeal.nD Cert.RefDycatIdeal.τ).loc Cert.RefDycatIdeal.main_v4) = v0 c
          ∧ r.2.mem ((c.tc : Thread Cert.RefDycatIdeal.nD Cert.RefDycatIdeal.τ).loc Cert.RefDycatIdeal.main_arg0) = m' ((c.tc : Thread Cert.RefDycatIdeal.nD Cert.RefDycatIdeal.τ).loc Cert.RefDycatIdeal.main_arg0)
          ∧ r.2.mem ((c.tc : Thread Cert.RefDycatIdeal.nD Cert.RefDycatIdeal.τ).loc Cert.RefDycatIdeal.main_arg1) = m' ((c.tc : Thread Cert.RefDycatIdeal.nD Cert.RefDycatIdeal.τ).loc Cert.RefDycatIdeal.main_arg1))

def preserves_Mout_MoutIdeal : Prop :=
  True

def algebraic_MoutIdeal_RefMoutIdeal [hMoutIdeal : Cert.MoutIdeal.Facts] [hRefMoutIdeal : Cert.RefMoutIdeal.Facts] : Prop :=
  ∀ (m : (ℓ : Loc Cert.MoutIdeal.nD Cert.MoutIdeal.τ Cert.MoutIdeal.sig) → Buf (Elt Ideal) ℓ) (g : Dev Cert.MoutIdeal.nD → PrngReg)
    (m' : (ℓ : Loc Cert.RefMoutIdeal.nD Cert.RefMoutIdeal.τ Cert.RefMoutIdeal.sig) → Buf (Elt Ideal) ℓ) (g' : Dev Cert.RefMoutIdeal.nD → PrngReg), Pre_MoutIdeal m →
    (∀ c : Dev Cert.MoutIdeal.nD,
      m' ((c.tc : Thread Cert.RefMoutIdeal.nD Cert.RefMoutIdeal.τ).loc Cert.RefMoutIdeal.main_arg0) = m ((c.tc : Thread Cert.MoutIdeal.nD Cert.MoutIdeal.τ).loc Cert.MoutIdeal.main_arg0)
      ∧ m' ((c.tc : Thread Cert.RefMoutIdeal.nD Cert.RefMoutIdeal.τ).loc Cert.RefMoutIdeal.main_arg1) = m ((c.tc : Thread Cert.MoutIdeal.nD Cert.MoutIdeal.τ).loc Cert.MoutIdeal.main_arg1)
      ∧ m' ((c.tc : Thread Cert.RefMoutIdeal.nD Cert.RefMoutIdeal.τ).loc Cert.RefMoutIdeal.main_arg2) = m ((c.tc : Thread Cert.MoutIdeal.nD Cert.MoutIdeal.τ).loc Cert.MoutIdeal.main_arg2)
      ∧ m' ((c.tc : Thread Cert.RefMoutIdeal.nD Cert.RefMoutIdeal.τ).loc Cert.RefMoutIdeal.main_arg3) = m ((c.tc : Thread Cert.MoutIdeal.nD Cert.MoutIdeal.τ).loc Cert.MoutIdeal.main_arg3)) →
    ∃ (v0 : (c : Dev Cert.MoutIdeal.nD) → Buf (Elt Ideal) ((c.tc : Thread Cert.MoutIdeal.nD Cert.MoutIdeal.τ).loc Cert.MoutIdeal.main_v0_0)) (v1 : (c : Dev Cert.MoutIdeal.nD) → Buf (Elt Ideal) ((c.tc : Thread Cert.MoutIdeal.nD Cert.MoutIdeal.τ).loc Cert.MoutIdeal.main_v0_1)),
      θ_run (Cert.MoutIdeal.defs (F := Ideal)) (onTc (τ := Cert.MoutIdeal.τ) (Cert.MoutIdeal.main (F := Ideal))) ⟨m, fun _ => 0, g⟩ (fun r => ∀ c : Dev Cert.MoutIdeal.nD,
          r.2.mem ((c.tc : Thread Cert.MoutIdeal.nD Cert.MoutIdeal.τ).loc Cert.MoutIdeal.main_v0_0) = v0 c
          ∧ r.2.mem ((c.tc : Thread Cert.MoutIdeal.nD Cert.MoutIdeal.τ).loc Cert.MoutIdeal.main_v0_1) = v1 c
          ∧ r.2.mem ((c.tc : Thread Cert.MoutIdeal.nD Cert.MoutIdeal.τ).loc Cert.MoutIdeal.main_arg0) = m ((c.tc : Thread Cert.MoutIdeal.nD Cert.MoutIdeal.τ).loc Cert.MoutIdeal.main_arg0)
          ∧ r.2.mem ((c.tc : Thread Cert.MoutIdeal.nD Cert.MoutIdeal.τ).loc Cert.MoutIdeal.main_arg1) = m ((c.tc : Thread Cert.MoutIdeal.nD Cert.MoutIdeal.τ).loc Cert.MoutIdeal.main_arg1)
          ∧ r.2.mem ((c.tc : Thread Cert.MoutIdeal.nD Cert.MoutIdeal.τ).loc Cert.MoutIdeal.main_arg2) = m ((c.tc : Thread Cert.MoutIdeal.nD Cert.MoutIdeal.τ).loc Cert.MoutIdeal.main_arg2)
          ∧ r.2.mem ((c.tc : Thread Cert.MoutIdeal.nD Cert.MoutIdeal.τ).loc Cert.MoutIdeal.main_arg3) = m ((c.tc : Thread Cert.MoutIdeal.nD Cert.MoutIdeal.τ).loc Cert.MoutIdeal.main_arg3))
      ∧ θ_run (Cert.RefMoutIdeal.defs (F := Ideal)) (onTc (τ := Cert.RefMoutIdeal.τ) (Cert.RefMoutIdeal.main (F := Ideal))) ⟨m', fun _ => 0, g'⟩ (fun r => ∀ c : Dev Cert.RefMoutIdeal.nD,
          r.2.mem ((c.tc : Thread Cert.RefMoutIdeal.nD Cert.RefMoutIdeal.τ).loc Cert.RefMoutIdeal.main_v7) = v0 c
          ∧ r.2.mem ((c.tc : Thread Cert.RefMoutIdeal.nD Cert.RefMoutIdeal.τ).loc Cert.RefMoutIdeal.main_v2) = v1 c
          ∧ r.2.mem ((c.tc : Thread Cert.RefMoutIdeal.nD Cert.RefMoutIdeal.τ).loc Cert.RefMoutIdeal.main_arg0) = m' ((c.tc : Thread Cert.RefMoutIdeal.nD Cert.RefMoutIdeal.τ).loc Cert.RefMoutIdeal.main_arg0)
          ∧ r.2.mem ((c.tc : Thread Cert.RefMoutIdeal.nD Cert.RefMoutIdeal.τ).loc Cert.RefMoutIdeal.main_arg1) = m' ((c.tc : Thread Cert.RefMoutIdeal.nD Cert.RefMoutIdeal.τ).loc Cert.RefMoutIdeal.main_arg1)
          ∧ r.2.mem ((c.tc : Thread Cert.RefMoutIdeal.nD Cert.RefMoutIdeal.τ).loc Cert.RefMoutIdeal.main_arg2) = m' ((c.tc : Thread Cert.RefMoutIdeal.nD Cert.RefMoutIdeal.τ).loc Cert.RefMoutIdeal.main_arg2)
          ∧ r.2.mem ((c.tc : Thread Cert.RefMoutIdeal.nD Cert.RefMoutIdeal.τ).loc Cert.RefMoutIdeal.main_arg3) = m' ((c.tc : Thread Cert.RefMoutIdeal.nD Cert.RefMoutIdeal.τ).loc Cert.RefMoutIdeal.main_arg3))

def preserves_Dwout_DwoutIdeal : Prop :=
  True

def algebraic_DwoutIdeal_RefDwoutIdeal [hDwoutIdeal : Cert.DwoutIdeal.Facts] [hRefDwoutIdeal : Cert.RefDwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.RefDwoutIdeal.nD Cert.RefDwoutIdeal.τ Cert.RefDwoutIdeal.sig) → Buf (Elt Ideal) ℓ) (g' : Dev Cert.RefDwoutIdeal.nD → PrngReg), Pre_DwoutIdeal m →
    (∀ c : Dev Cert.DwoutIdeal.nD,
      m' ((c.tc : Thread Cert.RefDwoutIdeal.nD Cert.RefDwoutIdeal.τ).loc Cert.RefDwoutIdeal.main_arg0) = m ((c.tc : Thread Cert.DwoutIdeal.nD Cert.DwoutIdeal.τ).loc Cert.DwoutIdeal.main_arg0)
      ∧ m' ((c.tc : Thread Cert.RefDwoutIdeal.nD Cert.RefDwoutIdeal.τ).loc Cert.RefDwoutIdeal.main_arg1) = m ((c.tc : Thread Cert.DwoutIdeal.nD Cert.DwoutIdeal.τ).loc Cert.DwoutIdeal.main_arg1)) →
    ∃ (v0 : (c : Dev Cert.DwoutIdeal.nD) → Buf (Elt Ideal) ((c.tc : Thread Cert.DwoutIdeal.nD Cert.DwoutIdeal.τ).loc Cert.DwoutIdeal.main_v0)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v0) = v0 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ θ_run (Cert.RefDwoutIdeal.defs (F := Ideal)) (onTc (τ := Cert.RefDwoutIdeal.τ) (Cert.RefDwoutIdeal.main (F := Ideal))) ⟨m', fun _ => 0, g'⟩ (fun r => ∀ c : Dev Cert.RefDwoutIdeal.nD,
          r.2.mem ((c.tc : Thread Cert.RefDwoutIdeal.nD Cert.RefDwoutIdeal.τ).loc Cert.RefDwoutIdeal.main_v6) = v0 c
          ∧ r.2.mem ((c.tc : Thread Cert.RefDwoutIdeal.nD Cert.RefDwoutIdeal.τ).loc Cert.RefDwoutIdeal.main_arg0) = m' ((c.tc : Thread Cert.RefDwoutIdeal.nD Cert.RefDwoutIdeal.τ).loc Cert.RefDwoutIdeal.main_arg0)
          ∧ r.2.mem ((c.tc : Thread Cert.RefDwoutIdeal.nD Cert.RefDwoutIdeal.τ).loc Cert.RefDwoutIdeal.main_arg1) = m' ((c.tc : Thread Cert.RefDwoutIdeal.nD Cert.RefDwoutIdeal.τ).loc Cert.RefDwoutIdeal.main_arg1))

def preserves_Dwret_DwretIdeal : Prop :=
  True

def algebraic_DwretIdeal_RefDwretIdeal [hDwretIdeal : Cert.DwretIdeal.Facts] [hRefDwretIdeal : Cert.RefDwretIdeal.Facts] : Prop :=
  ∀ (m : (ℓ : Loc Cert.DwretIdeal.nD Cert.DwretIdeal.τ Cert.DwretIdeal.sig) → Buf (Elt Ideal) ℓ) (g : Dev Cert.DwretIdeal.nD → PrngReg)
    (m' : (ℓ : Loc Cert.RefDwretIdeal.nD Cert.RefDwretIdeal.τ Cert.RefDwretIdeal.sig) → Buf (Elt Ideal) ℓ) (g' : Dev Cert.RefDwretIdeal.nD → PrngReg), Pre_DwretIdeal m →
    (∀ c : Dev Cert.DwretIdeal.nD,
      m' ((c.tc : Thread Cert.RefDwretIdeal.nD Cert.RefDwretIdeal.τ).loc Cert.RefDwretIdeal.main_arg0) = m ((c.tc : Thread Cert.DwretIdeal.nD Cert.DwretIdeal.τ).loc Cert.DwretIdeal.main_arg0)
      ∧ m' ((c.tc : Thread Cert.RefDwretIdeal.nD Cert.RefDwretIdeal.τ).loc Cert.RefDwretIdeal.main_arg1) = m ((c.tc : Thread Cert.DwretIdeal.nD Cert.DwretIdeal.τ).loc Cert.DwretIdeal.main_arg1)) →
    ∃ (v0 : (c : Dev Cert.DwretIdeal.nD) → Buf (Elt Ideal) ((c.tc : Thread Cert.DwretIdeal.nD Cert.DwretIdeal.τ).loc Cert.DwretIdeal.main_v0)),
      θ_run (Cert.DwretIdeal.defs (F := Ideal)) (onTc (τ := Cert.DwretIdeal.τ) (Cert.DwretIdeal.main (F := Ideal))) ⟨m, fun _ => 0, g⟩ (fun r => ∀ c : Dev Cert.DwretIdeal.nD,
          r.2.mem ((c.tc : Thread Cert.DwretIdeal.nD Cert.DwretIdeal.τ).loc Cert.DwretIdeal.main_v0) = v0 c
          ∧ r.2.mem ((c.tc : Thread Cert.DwretIdeal.nD Cert.DwretIdeal.τ).loc Cert.DwretIdeal.main_arg0) = m ((c.tc : Thread Cert.DwretIdeal.nD Cert.DwretIdeal.τ).loc Cert.DwretIdeal.main_arg0)
          ∧ r.2.mem ((c.tc : Thread Cert.DwretIdeal.nD Cert.DwretIdeal.τ).loc Cert.DwretIdeal.main_arg1) = m ((c.tc : Thread Cert.DwretIdeal.nD Cert.DwretIdeal.τ).loc Cert.DwretIdeal.main_arg1))
      ∧ θ_run (Cert.RefDwretIdeal.defs (F := Ideal)) (onTc (τ := Cert.RefDwretIdeal.τ) (Cert.RefDwretIdeal.main (F := Ideal))) ⟨m', fun _ => 0, g'⟩ (fun r => ∀ c : Dev Cert.RefDwretIdeal.nD,
          r.2.mem ((c.tc : Thread Cert.RefDwretIdeal.nD Cert.RefDwretIdeal.τ).loc Cert.RefDwretIdeal.main_v7) = v0 c
          ∧ r.2.mem ((c.tc : Thread Cert.RefDwretIdeal.nD Cert.RefDwretIdeal.τ).loc Cert.RefDwretIdeal.main_arg0) = m' ((c.tc : Thread Cert.RefDwretIdeal.nD Cert.RefDwretIdeal.τ).loc Cert.RefDwretIdeal.main_arg0)
          ∧ r.2.mem ((c.tc : Thread Cert.RefDwretIdeal.nD Cert.RefDwretIdeal.τ).loc Cert.RefDwretIdeal.main_arg1) = m' ((c.tc : Thread Cert.RefDwretIdeal.nD Cert.RefDwretIdeal.τ).loc Cert.RefDwretIdeal.main_arg1))

def preserves_Dwxbc_DwxbcIdeal : Prop :=
  True

def algebraic_DwxbcIdeal_RefDwxbcIdeal [hDwxbcIdeal : Cert.DwxbcIdeal.Facts] [hRefDwxbcIdeal : Cert.RefDwxbcIdeal.Facts] : Prop :=
  ∀ (m : (ℓ : Loc Cert.DwxbcIdeal.nD Cert.DwxbcIdeal.τ Cert.DwxbcIdeal.sig) → Buf (Elt Ideal) ℓ) (g : Dev Cert.DwxbcIdeal.nD → PrngReg)
    (m' : (ℓ : Loc Cert.RefDwxbcIdeal.nD Cert.RefDwxbcIdeal.τ Cert.RefDwxbcIdeal.sig) → Buf (Elt Ideal) ℓ) (g' : Dev Cert.RefDwxbcIdeal.nD → PrngReg), Pre_DwxbcIdeal m →
    (∀ c : Dev Cert.DwxbcIdeal.nD,
      m' ((c.tc : Thread Cert.RefDwxbcIdeal.nD Cert.RefDwxbcIdeal.τ).loc Cert.RefDwxbcIdeal.main_arg0) = m ((c.tc : Thread Cert.DwxbcIdeal.nD Cert.DwxbcIdeal.τ).loc Cert.DwxbcIdeal.main_arg0)
      ∧ m' ((c.tc : Thread Cert.RefDwxbcIdeal.nD Cert.RefDwxbcIdeal.τ).loc Cert.RefDwxbcIdeal.main_arg1) = m ((c.tc : Thread Cert.DwxbcIdeal.nD Cert.DwxbcIdeal.τ).loc Cert.DwxbcIdeal.main_arg1)) →
    ∃ (v0 : (c : Dev Cert.DwxbcIdeal.nD) → Buf (Elt Ideal) ((c.tc : Thread Cert.DwxbcIdeal.nD Cert.DwxbcIdeal.τ).loc Cert.DwxbcIdeal.main_v0)),
      θ_run (Cert.DwxbcIdeal.defs (F := Ideal)) (onTc (τ := Cert.DwxbcIdeal.τ) (Cert.DwxbcIdeal.main (F := Ideal))) ⟨m, fun _ => 0, g⟩ (fun r => ∀ c : Dev Cert.DwxbcIdeal.nD,
          r.2.mem ((c.tc : Thread Cert.DwxbcIdeal.nD Cert.DwxbcIdeal.τ).loc Cert.DwxbcIdeal.main_v0) = v0 c
          ∧ r.2.mem ((c.tc : Thread Cert.DwxbcIdeal.nD Cert.DwxbcIdeal.τ).loc Cert.DwxbcIdeal.main_arg0) = m ((c.tc : Thread Cert.DwxbcIdeal.nD Cert.DwxbcIdeal.τ).loc Cert.DwxbcIdeal.main_arg0)
          ∧ r.2.mem ((c.tc : Thread Cert.DwxbcIdeal.nD Cert.DwxbcIdeal.τ).loc Cert.DwxbcIdeal.main_arg1) = m ((c.tc : Thread Cert.DwxbcIdeal.nD Cert.DwxbcIdeal.τ).loc Cert.DwxbcIdeal.main_arg1))
      ∧ θ_run (Cert.RefDwxbcIdeal.defs (F := Ideal)) (onTc (τ := Cert.RefDwxbcIdeal.τ) (Cert.RefDwxbcIdeal.main (F := Ideal))) ⟨m', fun _ => 0, g'⟩ (fun r => ∀ c : Dev Cert.RefDwxbcIdeal.nD,
          r.2.mem ((c.tc : Thread Cert.RefDwxbcIdeal.nD Cert.RefDwxbcIdeal.τ).loc Cert.RefDwxbcIdeal.main_v7) = v0 c
          ∧ r.2.mem ((c.tc : Thread Cert.RefDwxbcIdeal.nD Cert.RefDwxbcIdeal.τ).loc Cert.RefDwxbcIdeal.main_arg0) = m' ((c.tc : Thread Cert.RefDwxbcIdeal.nD Cert.RefDwxbcIdeal.τ).loc Cert.RefDwxbcIdeal.main_arg0)
          ∧ r.2.mem ((c.tc : Thread Cert.RefDwxbcIdeal.nD Cert.RefDwxbcIdeal.τ).loc Cert.RefDwxbcIdeal.main_arg1) = m' ((c.tc : Thread Cert.RefDwxbcIdeal.nD Cert.RefDwxbcIdeal.τ).loc Cert.RefDwxbcIdeal.main_arg1))

def preserves_Dwb_DwbIdeal : Prop :=
  True

def algebraic_DwbIdeal_RefDwbIdeal [hDwbIdeal : Cert.DwbIdeal.Facts] [hRefDwbIdeal : Cert.RefDwbIdeal.Facts] : Prop :=
  ∀ (m : (ℓ : Loc Cert.DwbIdeal.nD Cert.DwbIdeal.τ Cert.DwbIdeal.sig) → Buf (Elt Ideal) ℓ) (g : Dev Cert.DwbIdeal.nD → PrngReg)
    (m' : (ℓ : Loc Cert.RefDwbIdeal.nD Cert.RefDwbIdeal.τ Cert.RefDwbIdeal.sig) → Buf (Elt Ideal) ℓ) (g' : Dev Cert.RefDwbIdeal.nD → PrngReg), Pre_DwbIdeal m →
    (∀ c : Dev Cert.DwbIdeal.nD,
      m' ((c.tc : Thread Cert.RefDwbIdeal.nD Cert.RefDwbIdeal.τ).loc Cert.RefDwbIdeal.main_arg0) = m ((c.tc : Thread Cert.DwbIdeal.nD Cert.DwbIdeal.τ).loc Cert.DwbIdeal.main_arg0)
      ∧ m' ((c.tc : Thread Cert.RefDwbIdeal.nD Cert.RefDwbIdeal.τ).loc Cert.RefDwbIdeal.main_arg1) = m ((c.tc : Thread Cert.DwbIdeal.nD Cert.DwbIdeal.τ).loc Cert.DwbIdeal.main_arg1)) →
    ∃ (v0 : (c : Dev Cert.DwbIdeal.nD) → Buf (Elt Ideal) ((c.tc : Thread Cert.DwbIdeal.nD Cert.DwbIdeal.τ).loc Cert.DwbIdeal.main_v0)),
      θ_run (Cert.DwbIdeal.defs (F := Ideal)) (onTc (τ := Cert.DwbIdeal.τ) (Cert.DwbIdeal.main (F := Ideal))) ⟨m, fun _ => 0, g⟩ (fun r => ∀ c : Dev Cert.DwbIdeal.nD,
          r.2.mem ((c.tc : Thread Cert.DwbIdeal.nD Cert.DwbIdeal.τ).loc Cert.DwbIdeal.main_v0) = v0 c
          ∧ r.2.mem ((c.tc : Thread Cert.DwbIdeal.nD Cert.DwbIdeal.τ).loc Cert.DwbIdeal.main_arg0) = m ((c.tc : Thread Cert.DwbIdeal.nD Cert.DwbIdeal.τ).loc Cert.DwbIdeal.main_arg0)
          ∧ r.2.mem ((c.tc : Thread Cert.DwbIdeal.nD Cert.DwbIdeal.τ).loc Cert.DwbIdeal.main_arg1) = m ((c.tc : Thread Cert.DwbIdeal.nD Cert.DwbIdeal.τ).loc Cert.DwbIdeal.main_arg1))
      ∧ θ_run (Cert.RefDwbIdeal.defs (F := Ideal)) (onTc (τ := Cert.RefDwbIdeal.τ) (Cert.RefDwbIdeal.main (F := Ideal))) ⟨m', fun _ => 0, g'⟩ (fun r => ∀ c : Dev Cert.RefDwbIdeal.nD,
          r.2.mem ((c.tc : Thread Cert.RefDwbIdeal.nD Cert.RefDwbIdeal.τ).loc Cert.RefDwbIdeal.main_v7) = v0 c
          ∧ r.2.mem ((c.tc : Thread Cert.RefDwbIdeal.nD Cert.RefDwbIdeal.τ).loc Cert.RefDwbIdeal.main_arg0) = m' ((c.tc : Thread Cert.RefDwbIdeal.nD Cert.RefDwbIdeal.τ).loc Cert.RefDwbIdeal.main_arg0)
          ∧ r.2.mem ((c.tc : Thread Cert.RefDwbIdeal.nD Cert.RefDwbIdeal.τ).loc Cert.RefDwbIdeal.main_arg1) = m' ((c.tc : Thread Cert.RefDwbIdeal.nD Cert.RefDwbIdeal.τ).loc Cert.RefDwbIdeal.main_arg1))

def preserves_Dwf_DwfIdeal : Prop :=
  True

def algebraic_DwfIdeal_RefDwfIdeal [hDwfIdeal : Cert.DwfIdeal.Facts] [hRefDwfIdeal : Cert.RefDwfIdeal.Facts] : Prop :=
  ∀ (m : (ℓ : Loc Cert.DwfIdeal.nD Cert.DwfIdeal.τ Cert.DwfIdeal.sig) → Buf (Elt Ideal) ℓ) (g : Dev Cert.DwfIdeal.nD → PrngReg)
    (m' : (ℓ : Loc Cert.RefDwfIdeal.nD Cert.RefDwfIdeal.τ Cert.RefDwfIdeal.sig) → Buf (Elt Ideal) ℓ) (g' : Dev Cert.RefDwfIdeal.nD → PrngReg), Pre_DwfIdeal m →
    (∀ c : Dev Cert.DwfIdeal.nD,
      m' ((c.tc : Thread Cert.RefDwfIdeal.nD Cert.RefDwfIdeal.τ).loc Cert.RefDwfIdeal.main_arg0) = m ((c.tc : Thread Cert.DwfIdeal.nD Cert.DwfIdeal.τ).loc Cert.DwfIdeal.main_arg0)
      ∧ m' ((c.tc : Thread Cert.RefDwfIdeal.nD Cert.RefDwfIdeal.τ).loc Cert.RefDwfIdeal.main_arg1) = m ((c.tc : Thread Cert.DwfIdeal.nD Cert.DwfIdeal.τ).loc Cert.DwfIdeal.main_arg1)) →
    ∃ (v0 : (c : Dev Cert.DwfIdeal.nD) → Buf (Elt Ideal) ((c.tc : Thread Cert.DwfIdeal.nD Cert.DwfIdeal.τ).loc Cert.DwfIdeal.main_v0)),
      θ_run (Cert.DwfIdeal.defs (F := Ideal)) (onTc (τ := Cert.DwfIdeal.τ) (Cert.DwfIdeal.main (F := Ideal))) ⟨m, fun _ => 0, g⟩ (fun r => ∀ c : Dev Cert.DwfIdeal.nD,
          r.2.mem ((c.tc : Thread Cert.DwfIdeal.nD Cert.DwfIdeal.τ).loc Cert.DwfIdeal.main_v0) = v0 c
          ∧ r.2.mem ((c.tc : Thread Cert.DwfIdeal.nD Cert.DwfIdeal.τ).loc Cert.DwfIdeal.main_arg0) = m ((c.tc : Thread Cert.DwfIdeal.nD Cert.DwfIdeal.τ).loc Cert.DwfIdeal.main_arg0)
          ∧ r.2.mem ((c.tc : Thread Cert.DwfIdeal.nD Cert.DwfIdeal.τ).loc Cert.DwfIdeal.main_arg1) = m ((c.tc : Thread Cert.DwfIdeal.nD Cert.DwfIdeal.τ).loc Cert.DwfIdeal.main_arg1))
      ∧ θ_run (Cert.RefDwfIdeal.defs (F := Ideal)) (onTc (τ := Cert.RefDwfIdeal.τ) (Cert.RefDwfIdeal.main (F := Ideal))) ⟨m', fun _ => 0, g'⟩ (fun r => ∀ c : Dev Cert.RefDwfIdeal.nD,
          r.2.mem ((c.tc : Thread Cert.RefDwfIdeal.nD Cert.RefDwfIdeal.τ).loc Cert.RefDwfIdeal.main_v6) = v0 c
          ∧ r.2.mem ((c.tc : Thread Cert.RefDwfIdeal.nD Cert.RefDwfIdeal.τ).loc Cert.RefDwfIdeal.main_arg0) = m' ((c.tc : Thread Cert.RefDwfIdeal.nD Cert.RefDwfIdeal.τ).loc Cert.RefDwfIdeal.main_arg0)
          ∧ r.2.mem ((c.tc : Thread Cert.RefDwfIdeal.nD Cert.RefDwfIdeal.τ).loc Cert.RefDwfIdeal.main_arg1) = m' ((c.tc : Thread Cert.RefDwfIdeal.nD Cert.RefDwfIdeal.τ).loc Cert.RefDwfIdeal.main_arg1))

def preserves_Mdgrad_MdgradIdeal : Prop :=
  True

def algebraic_MdgradIdeal_RefMdgradIdeal_pre_finite_mdgrad [hMdgradIdeal : Cert.MdgradIdeal.Facts] [hRefMdgradIdeal : Cert.RefMdgradIdeal.Facts] [hPre_finite_mdgrad : Cert.Pre_finite_mdgrad.Facts] : Prop :=
  ∀ (m : (ℓ : Loc Cert.MdgradIdeal.nD Cert.MdgradIdeal.τ Cert.MdgradIdeal.sig) → Buf (Elt Ideal) ℓ) (g : Dev Cert.MdgradIdeal.nD → PrngReg)
    (m' : (ℓ : Loc Cert.RefMdgradIdeal.nD Cert.RefMdgradIdeal.τ Cert.RefMdgradIdeal.sig) → Buf (Elt Ideal) ℓ) (g' : Dev Cert.RefMdgradIdeal.nD → PrngReg), Pre_MdgradIdeal_finite_mdgrad m →
    (∀ c : Dev Cert.MdgradIdeal.nD,
      m' ((c.tc : Thread Cert.RefMdgradIdeal.nD Cert.RefMdgradIdeal.τ).loc Cert.RefMdgradIdeal.main_arg0) = m ((c.tc : Thread Cert.MdgradIdeal.nD Cert.MdgradIdeal.τ).loc Cert.MdgradIdeal.main_arg0)
      ∧ m' ((c.tc : Thread Cert.RefMdgradIdeal.nD Cert.RefMdgradIdeal.τ).loc Cert.RefMdgradIdeal.main_arg1) = m ((c.tc : Thread Cert.MdgradIdeal.nD Cert.MdgradIdeal.τ).loc Cert.MdgradIdeal.main_arg1)
      ∧ m' ((c.tc : Thread Cert.RefMdgradIdeal.nD Cert.RefMdgradIdeal.τ).loc Cert.RefMdgradIdeal.main_arg2) = m ((c.tc : Thread Cert.MdgradIdeal.nD Cert.MdgradIdeal.τ).loc Cert.MdgradIdeal.main_arg2)
      ∧ m' ((c.tc : Thread Cert.RefMdgradIdeal.nD Cert.RefMdgradIdeal.τ).loc Cert.RefMdgradIdeal.main_arg3) = m ((c.tc : Thread Cert.MdgradIdeal.nD Cert.MdgradIdeal.τ).loc Cert.MdgradIdeal.main_arg3)
      ∧ m' ((c.tc : Thread Cert.RefMdgradIdeal.nD Cert.RefMdgradIdeal.τ).loc Cert.RefMdgradIdeal.main_arg4) = m ((c.tc : Thread Cert.MdgradIdeal.nD Cert.MdgradIdeal.τ).loc Cert.MdgradIdeal.main_arg4)
      ∧ m' ((c.tc : Thread Cert.RefMdgradIdeal.nD Cert.RefMdgradIdeal.τ).loc Cert.RefMdgradIdeal.main_arg5) = m ((c.tc : Thread Cert.MdgradIdeal.nD Cert.MdgradIdeal.τ).loc Cert.MdgradIdeal.main_arg5)
      ∧ m' ((c.tc : Thread Cert.RefMdgradIdeal.nD Cert.RefMdgradIdeal.τ).loc Cert.RefMdgradIdeal.main_arg6) = m ((c.tc : Thread Cert.MdgradIdeal.nD Cert.MdgradIdeal.τ).loc Cert.MdgradIdeal.main_arg6)
      ∧ m' ((c.tc : Thread Cert.RefMdgradIdeal.nD Cert.RefMdgradIdeal.τ).loc Cert.RefMdgradIdeal.main_arg7) = m ((c.tc : Thread Cert.MdgradIdeal.nD Cert.MdgradIdeal.τ).loc Cert.MdgradIdeal.main_arg7)
      ∧ m' ((c.tc : Thread Cert.RefMdgradIdeal.nD Cert.RefMdgradIdeal.τ).loc Cert.RefMdgradIdeal.main_arg8) = m ((c.tc : Thread Cert.MdgradIdeal.nD Cert.MdgradIdeal.τ).loc Cert.MdgradIdeal.main_arg8)
      ∧ m' ((c.tc : Thread Cert.RefMdgradIdeal.nD Cert.RefMdgradIdeal.τ).loc Cert.RefMdgradIdeal.main_arg9) = m ((c.tc : Thread Cert.MdgradIdeal.nD Cert.MdgradIdeal.τ).loc Cert.MdgradIdeal.main_arg9)
      ∧ m' ((c.tc : Thread Cert.RefMdgradIdeal.nD Cert.RefMdgradIdeal.τ).loc Cert.RefMdgradIdeal.main_arg10) = m ((c.tc : Thread Cert.MdgradIdeal.nD Cert.MdgradIdeal.τ).loc Cert.MdgradIdeal.main_arg10)
      ∧ m' ((c.tc : Thread Cert.RefMdgradIdeal.nD Cert.RefMdgradIdeal.τ).loc Cert.RefMdgradIdeal.main_arg11) = m ((c.tc : Thread Cert.MdgradIdeal.nD Cert.MdgradIdeal.τ).loc Cert.MdgradIdeal.main_arg11)) →
    ∃ (v0 : (c : Dev Cert.MdgradIdeal.nD) → Buf (Elt Ideal) ((c.tc : Thread Cert.MdgradIdeal.nD Cert.MdgradIdeal.τ).loc Cert.MdgradIdeal.main_v0_0)) (v1 : (c : Dev Cert.MdgradIdeal.nD) → Buf (Elt Ideal) ((c.tc : Thread Cert.MdgradIdeal.nD Cert.MdgradIdeal.τ).loc Cert.MdgradIdeal.main_v0_1)),
      θ_run (Cert.MdgradIdeal.defs (F := Ideal)) (onTc (τ := Cert.MdgradIdeal.τ) (Cert.MdgradIdeal.main (F := Ideal))) ⟨m, fun _ => 0, g⟩ (fun r => ∀ c : Dev Cert.MdgradIdeal.nD,
          r.2.mem ((c.tc : Thread Cert.MdgradIdeal.nD Cert.MdgradIdeal.τ).loc Cert.MdgradIdeal.main_v0_0) = v0 c
          ∧ r.2.mem ((c.tc : Thread Cert.MdgradIdeal.nD Cert.MdgradIdeal.τ).loc Cert.MdgradIdeal.main_v0_1) = v1 c
          ∧ r.2.mem ((c.tc : Thread Cert.MdgradIdeal.nD Cert.MdgradIdeal.τ).loc Cert.MdgradIdeal.main_arg0) = m ((c.tc : Thread Cert.MdgradIdeal.nD Cert.MdgradIdeal.τ).loc Cert.MdgradIdeal.main_arg0)
          ∧ r.2.mem ((c.tc : Thread Cert.MdgradIdeal.nD Cert.MdgradIdeal.τ).loc Cert.MdgradIdeal.main_arg1) = m ((c.tc : Thread Cert.MdgradIdeal.nD Cert.MdgradIdeal.τ).loc Cert.MdgradIdeal.main_arg1)
          ∧ r.2.mem ((c.tc : Thread Cert.MdgradIdeal.nD Cert.MdgradIdeal.τ).loc Cert.MdgradIdeal.main_arg2) = m ((c.tc : Thread Cert.MdgradIdeal.nD Cert.MdgradIdeal.τ).loc Cert.MdgradIdeal.main_arg2)
          ∧ r.2.mem ((c.tc : Thread Cert.MdgradIdeal.nD Cert.MdgradIdeal.τ).loc Cert.MdgradIdeal.main_arg3) = m ((c.tc : Thread Cert.MdgradIdeal.nD Cert.MdgradIdeal.τ).loc Cert.MdgradIdeal.main_arg3)
          ∧ r.2.mem ((c.tc : Thread Cert.MdgradIdeal.nD Cert.MdgradIdeal.τ).loc Cert.MdgradIdeal.main_arg4) = m ((c.tc : Thread Cert.MdgradIdeal.nD Cert.MdgradIdeal.τ).loc Cert.MdgradIdeal.main_arg4)
          ∧ r.2.mem ((c.tc : Thread Cert.MdgradIdeal.nD Cert.MdgradIdeal.τ).loc Cert.MdgradIdeal.main_arg5) = m ((c.tc : Thread Cert.MdgradIdeal.nD Cert.MdgradIdeal.τ).loc Cert.MdgradIdeal.main_arg5)
          ∧ r.2.mem ((c.tc : Thread Cert.MdgradIdeal.nD Cert.MdgradIdeal.τ).loc Cert.MdgradIdeal.main_arg6) = m ((c.tc : Thread Cert.MdgradIdeal.nD Cert.MdgradIdeal.τ).loc Cert.MdgradIdeal.main_arg6)
          ∧ r.2.mem ((c.tc : Thread Cert.MdgradIdeal.nD Cert.MdgradIdeal.τ).loc Cert.MdgradIdeal.main_arg7) = m ((c.tc : Thread Cert.MdgradIdeal.nD Cert.MdgradIdeal.τ).loc Cert.MdgradIdeal.main_arg7)
          ∧ r.2.mem ((c.tc : Thread Cert.MdgradIdeal.nD Cert.MdgradIdeal.τ).loc Cert.MdgradIdeal.main_arg8) = m ((c.tc : Thread Cert.MdgradIdeal.nD Cert.MdgradIdeal.τ).loc Cert.MdgradIdeal.main_arg8)
          ∧ r.2.mem ((c.tc : Thread Cert.MdgradIdeal.nD Cert.MdgradIdeal.τ).loc Cert.MdgradIdeal.main_arg9) = m ((c.tc : Thread Cert.MdgradIdeal.nD Cert.MdgradIdeal.τ).loc Cert.MdgradIdeal.main_arg9)
          ∧ r.2.mem ((c.tc : Thread Cert.MdgradIdeal.nD Cert.MdgradIdeal.τ).loc Cert.MdgradIdeal.main_arg10) = m ((c.tc : Thread Cert.MdgradIdeal.nD Cert.MdgradIdeal.τ).loc Cert.MdgradIdeal.main_arg10)
          ∧ r.2.mem ((c.tc : Thread Cert.MdgradIdeal.nD Cert.MdgradIdeal.τ).loc Cert.MdgradIdeal.main_arg11) = m ((c.tc : Thread Cert.MdgradIdeal.nD Cert.MdgradIdeal.τ).loc Cert.MdgradIdeal.main_arg11))
      ∧ θ_run (Cert.RefMdgradIdeal.defs (F := Ideal)) (onTc (τ := Cert.RefMdgradIdeal.τ) (Cert.RefMdgradIdeal.main (F := Ideal))) ⟨m', fun _ => 0, g'⟩ (fun r => ∀ c : Dev Cert.RefMdgradIdeal.nD,
          r.2.mem ((c.tc : Thread Cert.RefMdgradIdeal.nD Cert.RefMdgradIdeal.τ).loc Cert.RefMdgradIdeal.main_v58) = v0 c
          ∧ r.2.mem ((c.tc : Thread Cert.RefMdgradIdeal.nD Cert.RefMdgradIdeal.τ).loc Cert.RefMdgradIdeal.main_v60) = v1 c
          ∧ r.2.mem ((c.tc : Thread Cert.RefMdgradIdeal.nD Cert.RefMdgradIdeal.τ).loc Cert.RefMdgradIdeal.main_arg0) = m' ((c.tc : Thread Cert.RefMdgradIdeal.nD Cert.RefMdgradIdeal.τ).loc Cert.RefMdgradIdeal.main_arg0)
          ∧ r.2.mem ((c.tc : Thread Cert.RefMdgradIdeal.nD Cert.RefMdgradIdeal.τ).loc Cert.RefMdgradIdeal.main_arg1) = m' ((c.tc : Thread Cert.RefMdgradIdeal.nD Cert.RefMdgradIdeal.τ).loc Cert.RefMdgradIdeal.main_arg1)
          ∧ r.2.mem ((c.tc : Thread Cert.RefMdgradIdeal.nD Cert.RefMdgradIdeal.τ).loc Cert.RefMdgradIdeal.main_arg2) = m' ((c.tc : Thread Cert.RefMdgradIdeal.nD Cert.RefMdgradIdeal.τ).loc Cert.RefMdgradIdeal.main_arg2)
          ∧ r.2.mem ((c.tc : Thread Cert.RefMdgradIdeal.nD Cert.RefMdgradIdeal.τ).loc Cert.RefMdgradIdeal.main_arg3) = m' ((c.tc : Thread Cert.RefMdgradIdeal.nD Cert.RefMdgradIdeal.τ).loc Cert.RefMdgradIdeal.main_arg3)
          ∧ r.2.mem ((c.tc : Thread Cert.RefMdgradIdeal.nD Cert.RefMdgradIdeal.τ).loc Cert.RefMdgradIdeal.main_arg4) = m' ((c.tc : Thread Cert.RefMdgradIdeal.nD Cert.RefMdgradIdeal.τ).loc Cert.RefMdgradIdeal.main_arg4)
          ∧ r.2.mem ((c.tc : Thread Cert.RefMdgradIdeal.nD Cert.RefMdgradIdeal.τ).loc Cert.RefMdgradIdeal.main_arg5) = m' ((c.tc : Thread Cert.RefMdgradIdeal.nD Cert.RefMdgradIdeal.τ).loc Cert.RefMdgradIdeal.main_arg5)
          ∧ r.2.mem ((c.tc : Thread Cert.RefMdgradIdeal.nD Cert.RefMdgradIdeal.τ).loc Cert.RefMdgradIdeal.main_arg6) = m' ((c.tc : Thread Cert.RefMdgradIdeal.nD Cert.RefMdgradIdeal.τ).loc Cert.RefMdgradIdeal.main_arg6)
          ∧ r.2.mem ((c.tc : Thread Cert.RefMdgradIdeal.nD Cert.RefMdgradIdeal.τ).loc Cert.RefMdgradIdeal.main_arg7) = m' ((c.tc : Thread Cert.RefMdgradIdeal.nD Cert.RefMdgradIdeal.τ).loc Cert.RefMdgradIdeal.main_arg7)
          ∧ r.2.mem ((c.tc : Thread Cert.RefMdgradIdeal.nD Cert.RefMdgradIdeal.τ).loc Cert.RefMdgradIdeal.main_arg8) = m' ((c.tc : Thread Cert.RefMdgradIdeal.nD Cert.RefMdgradIdeal.τ).loc Cert.RefMdgradIdeal.main_arg8)
          ∧ r.2.mem ((c.tc : Thread Cert.RefMdgradIdeal.nD Cert.RefMdgradIdeal.τ).loc Cert.RefMdgradIdeal.main_arg9) = m' ((c.tc : Thread Cert.RefMdgradIdeal.nD Cert.RefMdgradIdeal.τ).loc Cert.RefMdgradIdeal.main_arg9)
          ∧ r.2.mem ((c.tc : Thread Cert.RefMdgradIdeal.nD Cert.RefMdgradIdeal.τ).loc Cert.RefMdgradIdeal.main_arg10) = m' ((c.tc : Thread Cert.RefMdgradIdeal.nD Cert.RefMdgradIdeal.τ).loc Cert.RefMdgradIdeal.main_arg10)
          ∧ r.2.mem ((c.tc : Thread Cert.RefMdgradIdeal.nD Cert.RefMdgradIdeal.τ).loc Cert.RefMdgradIdeal.main_arg11) = m' ((c.tc : Thread Cert.RefMdgradIdeal.nD Cert.RefMdgradIdeal.τ).loc Cert.RefMdgradIdeal.main_arg11))

def Claim : Prop :=
  ∃ (hKernel : Cert.Kernel.Facts) (hKernelIdeal : Cert.KernelIdeal.Facts) (hReferenceIdeal : Cert.ReferenceIdeal.Facts) (hDact : Cert.Dact.Facts) (hDactIdeal : Cert.DactIdeal.Facts) (hRefDactIdeal : Cert.RefDactIdeal.Facts) (hDwd : Cert.Dwd.Facts) (hDwdIdeal : Cert.DwdIdeal.Facts) (hRefDwdIdeal : Cert.RefDwdIdeal.Facts) (hDwg : Cert.Dwg.Facts) (hDwgIdeal : Cert.DwgIdeal.Facts) (hRefDwgIdeal : Cert.RefDwgIdeal.Facts) (hDgrad : Cert.Dgrad.Facts) (hDgradIdeal : Cert.DgradIdeal.Facts) (hRefDgradIdeal : Cert.RefDgradIdeal.Facts) (hUp : Cert.Up.Facts) (hUpIdeal : Cert.UpIdeal.Facts) (hRefUpIdeal : Cert.RefUpIdeal.Facts) (hDown : Cert.Down.Facts) (hDownIdeal : Cert.DownIdeal.Facts) (hRefDownIdeal : Cert.RefDownIdeal.Facts) (hGate : Cert.Gate.Facts) (hGateIdeal : Cert.GateIdeal.Facts) (hRefGateIdeal : Cert.RefGateIdeal.Facts) (hMgate : Cert.Mgate.Facts) (hMgateIdeal : Cert.MgateIdeal.Facts) (hRefMgateIdeal : Cert.RefMgateIdeal.Facts) (hGnorm : Cert.Gnorm.Facts) (hGnormIdeal : Cert.GnormIdeal.Facts) (hRefGnormIdeal : Cert.RefGnormIdeal.Facts) (hConv : Cert.Conv.Facts) (hConvIdeal : Cert.ConvIdeal.Facts) (hRefConvIdeal : Cert.RefConvIdeal.Facts) (hProj : Cert.Proj.Facts) (hProjIdeal : Cert.ProjIdeal.Facts) (hRefProjIdeal : Cert.RefProjIdeal.Facts) (hDycat : Cert.Dycat.Facts) (hDycatIdeal : Cert.DycatIdeal.Facts) (hRefDycatIdeal : Cert.RefDycatIdeal.Facts) (hMout : Cert.Mout.Facts) (hMoutIdeal : Cert.MoutIdeal.Facts) (hRefMoutIdeal : Cert.RefMoutIdeal.Facts) (hDwout : Cert.Dwout.Facts) (hDwoutIdeal : Cert.DwoutIdeal.Facts) (hRefDwoutIdeal : Cert.RefDwoutIdeal.Facts) (hDwret : Cert.Dwret.Facts) (hDwretIdeal : Cert.DwretIdeal.Facts) (hRefDwretIdeal : Cert.RefDwretIdeal.Facts) (hDwxbc : Cert.Dwxbc.Facts) (hDwxbcIdeal : Cert.DwxbcIdeal.Facts) (hRefDwxbcIdeal : Cert.RefDwxbcIdeal.Facts) (hDwb : Cert.Dwb.Facts) (hDwbIdeal : Cert.DwbIdeal.Facts) (hRefDwbIdeal : Cert.RefDwbIdeal.Facts) (hDwf : Cert.Dwf.Facts) (hDwfIdeal : Cert.DwfIdeal.Facts) (hRefDwfIdeal : Cert.RefDwfIdeal.Facts) (hMdgrad : Cert.Mdgrad.Facts) (hMdgradIdeal : Cert.MdgradIdeal.Facts) (hRefMdgradIdeal : Cert.RefMdgradIdeal.Facts) (hPre_finite : Cert.Pre_finite.Facts) (hPre_finite_dact : Cert.Pre_finite_dact.Facts) (hPre_finite_dgrad : Cert.Pre_finite_dgrad.Facts) (hPre_finite_gnorm : Cert.Pre_finite_gnorm.Facts) (hPre_finite_conv : Cert.Pre_finite_conv.Facts) (hPre_finite_mdgrad : Cert.Pre_finite_mdgrad.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dact (hDact := hDact)
    ∧ quiescent_DactIdeal (hDactIdeal := hDactIdeal)
    ∧ quiescent_DactIdeal_pre_finite_dact (hDactIdeal := hDactIdeal) (hPre_finite_dact := hPre_finite_dact)
    ∧ quiescent_RefDactIdeal (hRefDactIdeal := hRefDactIdeal)
    ∧ quiescent_RefDactIdeal_pre_finite_dact (hRefDactIdeal := hRefDactIdeal) (hPre_finite_dact := hPre_finite_dact)
    ∧ quiescent_Dwd (hDwd := hDwd)
    ∧ quiescent_DwdIdeal (hDwdIdeal := hDwdIdeal)
    ∧ quiescent_RefDwdIdeal (hRefDwdIdeal := hRefDwdIdeal)
    ∧ quiescent_Dwg (hDwg := hDwg)
    ∧ quiescent_DwgIdeal (hDwgIdeal := hDwgIdeal)
    ∧ quiescent_RefDwgIdeal (hRefDwgIdeal := hRefDwgIdeal)
    ∧ quiescent_Dgrad (hDgrad := hDgrad)
    ∧ quiescent_DgradIdeal (hDgradIdeal := hDgradIdeal)
    ∧ quiescent_DgradIdeal_pre_finite_dgrad (hDgradIdeal := hDgradIdeal) (hPre_finite_dgrad := hPre_finite_dgrad)
    ∧ quiescent_RefDgradIdeal (hRefDgradIdeal := hRefDgradIdeal)
    ∧ quiescent_RefDgradIdeal_pre_finite_dgrad (hRefDgradIdeal := hRefDgradIdeal) (hPre_finite_dgrad := hPre_finite_dgrad)
    ∧ quiescent_Up (hUp := hUp)
    ∧ quiescent_UpIdeal (hUpIdeal := hUpIdeal)
    ∧ quiescent_RefUpIdeal (hRefUpIdeal := hRefUpIdeal)
    ∧ quiescent_Down (hDown := hDown)
    ∧ quiescent_DownIdeal (hDownIdeal := hDownIdeal)
    ∧ quiescent_RefDownIdeal (hRefDownIdeal := hRefDownIdeal)
    ∧ quiescent_Gate (hGate := hGate)
    ∧ quiescent_GateIdeal (hGateIdeal := hGateIdeal)
    ∧ quiescent_RefGateIdeal (hRefGateIdeal := hRefGateIdeal)
    ∧ quiescent_Mgate (hMgate := hMgate)
    ∧ quiescent_MgateIdeal (hMgateIdeal := hMgateIdeal)
    ∧ quiescent_RefMgateIdeal (hRefMgateIdeal := hRefMgateIdeal)
    ∧ quiescent_Gnorm (hGnorm := hGnorm)
    ∧ quiescent_GnormIdeal (hGnormIdeal := hGnormIdeal)
    ∧ quiescent_GnormIdeal_pre_finite_gnorm (hGnormIdeal := hGnormIdeal) (hPre_finite_gnorm := hPre_finite_gnorm)
    ∧ quiescent_RefGnormIdeal (hRefGnormIdeal := hRefGnormIdeal)
    ∧ quiescent_RefGnormIdeal_pre_finite_gnorm (hRefGnormIdeal := hRefGnormIdeal) (hPre_finite_gnorm := hPre_finite_gnorm)
    ∧ quiescent_Conv (hConv := hConv)
    ∧ quiescent_ConvIdeal (hConvIdeal := hConvIdeal)
    ∧ quiescent_ConvIdeal_pre_finite_conv (hConvIdeal := hConvIdeal) (hPre_finite_conv := hPre_finite_conv)
    ∧ quiescent_RefConvIdeal (hRefConvIdeal := hRefConvIdeal)
    ∧ quiescent_RefConvIdeal_pre_finite_conv (hRefConvIdeal := hRefConvIdeal) (hPre_finite_conv := hPre_finite_conv)
    ∧ quiescent_Proj (hProj := hProj)
    ∧ quiescent_ProjIdeal (hProjIdeal := hProjIdeal)
    ∧ quiescent_RefProjIdeal (hRefProjIdeal := hRefProjIdeal)
    ∧ quiescent_Dycat (hDycat := hDycat)
    ∧ quiescent_DycatIdeal (hDycatIdeal := hDycatIdeal)
    ∧ quiescent_RefDycatIdeal (hRefDycatIdeal := hRefDycatIdeal)
    ∧ quiescent_Mout (hMout := hMout)
    ∧ quiescent_MoutIdeal (hMoutIdeal := hMoutIdeal)
    ∧ quiescent_RefMoutIdeal (hRefMoutIdeal := hRefMoutIdeal)
    ∧ quiescent_Dwout (hDwout := hDwout)
    ∧ quiescent_DwoutIdeal (hDwoutIdeal := hDwoutIdeal)
    ∧ quiescent_RefDwoutIdeal (hRefDwoutIdeal := hRefDwoutIdeal)
    ∧ quiescent_Dwret (hDwret := hDwret)
    ∧ quiescent_DwretIdeal (hDwretIdeal := hDwretIdeal)
    ∧ quiescent_RefDwretIdeal (hRefDwretIdeal := hRefDwretIdeal)
    ∧ quiescent_Dwxbc (hDwxbc := hDwxbc)
    ∧ quiescent_DwxbcIdeal (hDwxbcIdeal := hDwxbcIdeal)
    ∧ quiescent_RefDwxbcIdeal (hRefDwxbcIdeal := hRefDwxbcIdeal)
    ∧ quiescent_Dwb (hDwb := hDwb)
    ∧ quiescent_DwbIdeal (hDwbIdeal := hDwbIdeal)
    ∧ quiescent_RefDwbIdeal (hRefDwbIdeal := hRefDwbIdeal)
    ∧ quiescent_Dwf (hDwf := hDwf)
    ∧ quiescent_DwfIdeal (hDwfIdeal := hDwfIdeal)
    ∧ quiescent_RefDwfIdeal (hRefDwfIdeal := hRefDwfIdeal)
    ∧ quiescent_Mdgrad (hMdgrad := hMdgrad)
    ∧ quiescent_MdgradIdeal (hMdgradIdeal := hMdgradIdeal)
    ∧ quiescent_MdgradIdeal_pre_finite_mdgrad (hMdgradIdeal := hMdgradIdeal) (hPre_finite_mdgrad := hPre_finite_mdgrad)
    ∧ quiescent_RefMdgradIdeal (hRefMdgradIdeal := hRefMdgradIdeal)
    ∧ quiescent_RefMdgradIdeal_pre_finite_mdgrad (hRefMdgradIdeal := hRefMdgradIdeal) (hPre_finite_mdgrad := hPre_finite_mdgrad)
    ∧ preserves_Kernel_KernelIdeal
    ∧ algebraic_KernelIdeal_ReferenceIdeal_pre_finite (hKernelIdeal := hKernelIdeal) (hReferenceIdeal := hReferenceIdeal) (hPre_finite := hPre_finite)
    ∧ preserves_Dact_DactIdeal
    ∧ algebraic_DactIdeal_RefDactIdeal_pre_finite_dact (hDactIdeal := hDactIdeal) (hRefDactIdeal := hRefDactIdeal) (hPre_finite_dact := hPre_finite_dact)
    ∧ preserves_Dwd_DwdIdeal
    ∧ algebraic_DwdIdeal_RefDwdIdeal (hDwdIdeal := hDwdIdeal) (hRefDwdIdeal := hRefDwdIdeal)
    ∧ preserves_Dwg_DwgIdeal
    ∧ algebraic_DwgIdeal_RefDwgIdeal (hDwgIdeal := hDwgIdeal) (hRefDwgIdeal := hRefDwgIdeal)
    ∧ preserves_Dgrad_DgradIdeal
    ∧ algebraic_DgradIdeal_RefDgradIdeal_pre_finite_dgrad (hDgradIdeal := hDgradIdeal) (hRefDgradIdeal := hRefDgradIdeal) (hPre_finite_dgrad := hPre_finite_dgrad)
    ∧ preserves_Up_UpIdeal
    ∧ algebraic_UpIdeal_RefUpIdeal (hUpIdeal := hUpIdeal) (hRefUpIdeal := hRefUpIdeal)
    ∧ preserves_Down_DownIdeal
    ∧ algebraic_DownIdeal_RefDownIdeal (hDownIdeal := hDownIdeal) (hRefDownIdeal := hRefDownIdeal)
    ∧ preserves_Gate_GateIdeal
    ∧ algebraic_GateIdeal_RefGateIdeal (hGateIdeal := hGateIdeal) (hRefGateIdeal := hRefGateIdeal)
    ∧ preserves_Mgate_MgateIdeal
    ∧ algebraic_MgateIdeal_RefMgateIdeal (hMgateIdeal := hMgateIdeal) (hRefMgateIdeal := hRefMgateIdeal)
    ∧ preserves_Gnorm_GnormIdeal
    ∧ algebraic_GnormIdeal_RefGnormIdeal_pre_finite_gnorm (hGnormIdeal := hGnormIdeal) (hRefGnormIdeal := hRefGnormIdeal) (hPre_finite_gnorm := hPre_finite_gnorm)
    ∧ preserves_Conv_ConvIdeal
    ∧ algebraic_ConvIdeal_RefConvIdeal_pre_finite_conv (hConvIdeal := hConvIdeal) (hRefConvIdeal := hRefConvIdeal) (hPre_finite_conv := hPre_finite_conv)
    ∧ preserves_Proj_ProjIdeal
    ∧ algebraic_ProjIdeal_RefProjIdeal (hProjIdeal := hProjIdeal) (hRefProjIdeal := hRefProjIdeal)
    ∧ preserves_Dycat_DycatIdeal
    ∧ algebraic_DycatIdeal_RefDycatIdeal (hDycatIdeal := hDycatIdeal) (hRefDycatIdeal := hRefDycatIdeal)
    ∧ preserves_Mout_MoutIdeal
    ∧ algebraic_MoutIdeal_RefMoutIdeal (hMoutIdeal := hMoutIdeal) (hRefMoutIdeal := hRefMoutIdeal)
    ∧ preserves_Dwout_DwoutIdeal
    ∧ algebraic_DwoutIdeal_RefDwoutIdeal (hDwoutIdeal := hDwoutIdeal) (hRefDwoutIdeal := hRefDwoutIdeal)
    ∧ preserves_Dwret_DwretIdeal
    ∧ algebraic_DwretIdeal_RefDwretIdeal (hDwretIdeal := hDwretIdeal) (hRefDwretIdeal := hRefDwretIdeal)
    ∧ preserves_Dwxbc_DwxbcIdeal
    ∧ algebraic_DwxbcIdeal_RefDwxbcIdeal (hDwxbcIdeal := hDwxbcIdeal) (hRefDwxbcIdeal := hRefDwxbcIdeal)
    ∧ preserves_Dwb_DwbIdeal
    ∧ algebraic_DwbIdeal_RefDwbIdeal (hDwbIdeal := hDwbIdeal) (hRefDwbIdeal := hRefDwbIdeal)
    ∧ preserves_Dwf_DwfIdeal
    ∧ algebraic_DwfIdeal_RefDwfIdeal (hDwfIdeal := hDwfIdeal) (hRefDwfIdeal := hRefDwfIdeal)
    ∧ preserves_Mdgrad_MdgradIdeal
    ∧ algebraic_MdgradIdeal_RefMdgradIdeal_pre_finite_mdgrad (hMdgradIdeal := hMdgradIdeal) (hRefMdgradIdeal := hRefMdgradIdeal) (hPre_finite_mdgrad := hPre_finite_mdgrad)
-- ==== Pre_finite.lean ====
abbrev S8192x5632 : Shape := ⟨2, ![8192, 5632]⟩
abbrev S1x512 : Shape := ⟨2, ![1, 512]⟩
abbrev S8192x1536 : Shape := ⟨2, ![8192, 1536]⟩
abbrev S_ : Shape := ⟨0, ![]⟩

class Facts : Prop where
  bcast_S_S8192x5632 : S_.BroadcastsInDim S8192x5632 (![] : Fin 0 → Fin S8192x5632.rank)
  bcast_S_S1x512 : S_.BroadcastsInDim S1x512 (![] : Fin 0 → Fin S1x512.rank)
  bcast_S_S8192x1536 : S_.BroadcastsInDim S8192x1536 (![] : Fin 0 → Fin S8192x1536.rank)

variable [Facts]

def fn {F : FTy → Type} [FloatOps F] (main_arg0 : FVec F S8192x5632 .f32) (main_arg1 : FVec F S1x512 .f32) (main_arg2 : FVec F S8192x1536 .f32) : IVec S8192x5632 1 × IVec S1x512 1 × IVec S8192x1536 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_v3 : FVec F S1x512 .f32 := Host.absf main_arg1
  let main_cst_0 : FVec F S_ .f32 := constant S_ .f32 0x7F800000#32
  let main_v4 : FVec F S1x512 .f32 := broadcastInDim S1x512 ![] bcast_S_S1x512 main_cst_0
  let main_v5 : IVec S1x512 1 := cmpf .olt main_v3 main_v4
  let main_v6 : FVec F S8192x1536 .f32 := Host.absf main_arg2
  let main_cst_1 : FVec F S_ .f32 := constant S_ .f32 0x7F800000#32
  let main_v7 : FVec F S8192x1536 .f32 := broadcastInDim S8192x1536 ![] bcast_S_S8192x1536 main_cst_1
  let main_v8 : IVec S8192x1536 1 := cmpf .olt main_v6 main_v7
  (main_v2, main_v5, main_v8)
-- ==== Pre_finite_conv.lean ====
abbrev S8192x5632 : Shape := ⟨2, ![8192, 5632]⟩
abbrev S8192x1024 : Shape := ⟨2, ![8192, 1024]⟩
abbrev S4x1024 : Shape := ⟨2, ![4, 1024]⟩
abbrev S_ : Shape := ⟨0, ![]⟩

class Facts : Prop where
  bcast_S_S8192x1024 : S_.BroadcastsInDim S8192x1024 (![] : Fin 0 → Fin S8192x1024.rank)

variable [Facts]

def fn {F : FTy → Type} [FloatOps F] (main_arg0 : FVec F S8192x5632 .f32) (main_arg1 : FVec F S8192x1024 .f32) (main_arg2 : FVec F S8192x1024 .f32) (main_arg3 : FVec F S4x1024 .f32) : IVec S8192x1024 1 :=
  let main_v0 : FVec F S8192x1024 .f32 := Host.absf main_arg2
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  main_v2
-- ==== Pre_finite_dact.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bcast_S_S2816x1024 : S_.BroadcastsInDim S2816x1024 (![] : Fin 0 → Fin S2816x1024.rank)
  bcast_S_S8192x2816 : S_.BroadcastsInDim S8192x2816 (![] : Fin 0 → Fin S8192x2816.rank)

variable [Facts]

def fn {F : FTy → Type} [FloatOps F] (main_arg0 : FVec F S8192x1024 .bf16) (main_arg1 : FVec F S2816x1024 .bf16) (main_arg2 : FVec F S8192x2816 .bf16) (main_arg3 : FVec F S8192x2816 .bf16) : IVec S8192x1024 1 × IVec S2816x1024 1 × IVec S8192x2816 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_v3 : FVec F S2816x1024 .bf16 := Host.absf main_arg1
  let main_cst_0 : FVec F S_ .bf16 := constant S_ .bf16 0x7F80#16
  let main_v4 : FVec F S2816x1024 .bf16 := broadcastInDim S2816x1024 ![] bcast_S_S2816x1024 main_cst_0
  let main_v5 : IVec S2816x1024 1 := cmpf .olt main_v3 main_v4
  let main_v6 : FVec F S8192x2816 .bf16 := Host.absf main_arg3
  let main_cst_1 : FVec F S_ .bf16 := constant S_ .bf16 0x7F80#16
  let main_v7 : FVec F S8192x2816 .bf16 := broadcastInDim S8192x2816 ![] bcast_S_S8192x2816 main_cst_1
  let main_v8 : IVec S8192x2816 1 := cmpf .olt main_v6 main_v7
  (main_v2, main_v5, main_v8)
-- ==== Pre_finite_dgrad.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩

class Facts : Prop where
  bcast_S_S8192x2816 : S_.BroadcastsInDim S8192x2816 (![] : Fin 0 → Fin S8192x2816.rank)
  bcast_S_S2816x1024 : S_.BroadcastsInDim S2816x1024 (![] : Fin 0 → Fin S2816x1024.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn_part1 {F : FTy → Type} [FloatOps F] (main_arg6 : FVec F S1x1024 .f32) (main_v2 : IVec S8192x2816 1) (main_v5 : IVec S8192x2816 1) (main_v8 : IVec S2816x1024 1) (main_v11 : IVec S2816x1024 1) (main_v14 : IVec S8192x1024 1) (main_v17 : IVec S1x1024 1) : IVec S8192x2816 1 × IVec S8192x2816 1 × IVec S2816x1024 1 × IVec S2816x1024 1 × IVec S8192x1024 1 × IVec S1x1024 1 × IVec S1x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  (main_v2, main_v5, main_v8, main_v11, main_v14, main_v17, main_v20)

def fn {F : FTy → Type} [FloatOps F] (main_arg0 : FVec F S8192x2816 .bf16) (main_arg1 : FVec F S8192x2816 .bf16) (main_arg2 : FVec F S2816x1024 .bf16) (main_arg3 : FVec F S2816x1024 .bf16) (main_arg4 : FVec F S8192x1024 .f32) (main_arg5 : FVec F S1x1024 .f32) (main_arg6 : FVec F S1x1024 .f32) (main_arg7 : FVec F S8192x1024 .f32) : IVec S8192x2816 1 × IVec S8192x2816 1 × IVec S2816x1024 1 × IVec S2816x1024 1 × IVec S8192x1024 1 × IVec S1x1024 1 × IVec S1x1024 1 :=
  let main_v0 : FVec F S8192x2816 .bf16 := Host.absf main_arg0
  let main_cst : FVec F S_ .bf16 := constant S_ .bf16 0x7F80#16
  let main_v1 : FVec F S8192x2816 .bf16 := broadcastInDim S8192x2816 ![] bcast_S_S8192x2816 main_cst
  let main_v2 : IVec S8192x2816 1 := cmpf .olt main_v0 main_v1
  let main_v3 : FVec F S8192x2816 .bf16 := Host.absf main_arg1
  let main_cst_0 : FVec F S_ .bf16 := constant S_ .bf16 0x7F80#16
  let main_v4 : FVec F S8192x2816 .bf16 := broadcastInDim S8192x2816 ![] bcast_S_S8192x2816 main_cst_0
  let main_v5 : IVec S8192x2816 1 := cmpf .olt main_v3 main_v4
  let main_v6 : FVec F S2816x1024 .bf16 := Host.absf main_arg2
  let main_cst_1 : FVec F S_ .bf16 := constant S_ .bf16 0x7F80#16
  let main_v7 : FVec F S2816x1024 .bf16 := broadcastInDim S2816x1024 ![] bcast_S_S2816x1024 main_cst_1
  let main_v8 : IVec S2816x1024 1 := cmpf .olt main_v6 main_v7
  let main_v9 : FVec F S2816x1024 .bf16 := Host.absf main_arg3
  let main_cst_2 : FVec F S_ .bf16 := constant S_ .bf16 0x7F80#16
  let main_v10 : FVec F S2816x1024 .bf16 := broadcastInDim S2816x1024 ![] bcast_S_S2816x1024 main_cst_2
  let main_v11 : IVec S2816x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_v2 main_v5 main_v8 main_v11 main_v14 main_v17
-- ==== Pre_finite_gnorm.lean ====
abbrev S8192x512 : Shape := ⟨2, ![8192, 512]⟩
abbrev S8192x5632 : Shape := ⟨2, ![8192, 5632]⟩
abbrev S1x512 : Shape := ⟨2, ![1, 512]⟩
abbrev S8192x1536 : Shape := ⟨2, ![8192, 1536]⟩
abbrev S_ : Shape := ⟨0, ![]⟩

class Facts : Prop where
  bcast_S_S8192x512 : S_.BroadcastsInDim S8192x512 (![] : Fin 0 → Fin S8192x512.rank)
  bcast_S_S8192x5632 : S_.BroadcastsInDim S8192x5632 (![] : Fin 0 → Fin S8192x5632.rank)
  bcast_S_S1x512 : S_.BroadcastsInDim S1x512 (![] : Fin 0 → Fin S1x512.rank)
  bcast_S_S8192x1536 : S_.BroadcastsInDim S8192x1536 (![] : Fin 0 → Fin S8192x1536.rank)

variable [Facts]

def fn {F : FTy → Type} [FloatOps F] (main_arg0 : FVec F S8192x512 .f32) (main_arg1 : FVec F S8192x5632 .f32) (main_arg2 : FVec F S1x512 .f32) (main_arg3 : FVec F S8192x1536 .f32) : IVec S8192x512 1 × IVec S8192x5632 1 × IVec S1x512 1 × IVec S8192x1536 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x5632 .f32 := Host.absf main_arg1
  let main_cst_0 : FVec F S_ .f32 := constant S_ .f32 0x7F800000#32
  let main_v4 : FVec F S8192x5632 .f32 := broadcastInDim S8192x5632 ![] bcast_S_S8192x5632 main_cst_0
  let main_v5 : IVec S8192x5632 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  let main_v9 : FVec F S8192x1536 .f32 := Host.absf main_arg3
  let main_cst_2 : FVec F S_ .f32 := constant S_ .f32 0x7F800000#32
  let main_v10 : FVec F S8192x1536 .f32 := broadcastInDim S8192x1536 ![] bcast_S_S8192x1536 main_cst_2
  let main_v11 : IVec S8192x1536 1 := cmpf .olt main_v9 main_v10
  (main_v2, main_v5, main_v8, main_v11)
-- ==== Pre_finite_mdgrad.lean ====
abbrev S8192x2048 : Shape := ⟨2, ![8192, 2048]⟩
abbrev S8192x512 : Shape := ⟨2, ![8192, 512]⟩
abbrev S8192x1024 : Shape := ⟨2, ![8192, 1024]⟩
abbrev S5632x1024 : Shape := ⟨2, ![5632, 1024]⟩
abbrev S1x1024 : Shape := ⟨2, ![1, 1024]⟩
abbrev S_ : Shape := ⟨0, ![]⟩

class Facts : Prop where
  bcast_S_S8192x2048 : S_.BroadcastsInDim S8192x2048 (![] : Fin 0 → Fin S8192x2048.rank)
  bcast_S_S8192x512 : S_.BroadcastsInDim S8192x512 (![] : Fin 0 → Fin S8192x512.rank)
  bcast_S_S8192x1024 : S_.BroadcastsInDim S8192x1024 (![] : Fin 0 → Fin S8192x1024.rank)
  bcast_S_S5632x1024 : S_.BroadcastsInDim S5632x1024 (![] : Fin 0 → Fin S5632x1024.rank)
  bcast_S_S1x1024 : S_.BroadcastsInDim S1x1024 (![] : Fin 0 → Fin S1x1024.rank)

variable [Facts]

def fn_part1 {F : FTy → Type} [FloatOps F] (main_arg6 : FVec F S8192x512 .bf16) (main_arg7 : FVec F S5632x1024 .bf16) (main_arg8 : FVec F S8192x1024 .f32) (main_arg9 : FVec F S1x1024 .f32) (main_arg10 : FVec F S1x1024 .f32) (main_v2 : IVec S8192x2048 1) (main_v5 : IVec S8192x512 1) (main_v8 : IVec S8192x512 1) (main_v11 : IVec S8192x512 1) (main_v14 : IVec S8192x512 1) (main_v17 : IVec S8192x1024 1) : IVec S8192x2048 1 × IVec S8192x512 1 × IVec S8192x512 1 × IVec S8192x512 1 × IVec S8192x512 1 × IVec S8192x1024 1 × IVec S8192x512 1 × IVec S5632x1024 1 × IVec S8192x1024 1 × IVec S1x1024 1 × IVec S1x1024 1 :=
  let main_v18 : FVec F S8192x512 .bf16 := Host.absf main_arg6
  let main_cst_5 : FVec F S_ .bf16 := constant S_ .bf16 0x7F80#16
  let main_v19 : FVec F S8192x512 .bf16 := broadcastInDim S8192x512 ![] bcast_S_S8192x512 main_cst_5
  let main_v20 : IVec S8192x512 1 := cmpf .olt main_v18 main_v19
  let main_v21 : FVec F S5632x1024 .bf16 := Host.absf main_arg7
  let main_cst_6 : FVec F S_ .bf16 := constant S_ .bf16 0x7F80#16
  let main_v22 : FVec F S5632x1024 .bf16 := broadcastInDim S5632x1024 ![] bcast_S_S5632x1024 main_cst_6
  let main_v23 : IVec S5632x1024 1 := cmpf .olt main_v21 main_v22
  let main_v24 : FVec F S8192x1024 .f32 := Host.absf main_arg8
  let main_cst_7 : FVec F S_ .f32 := constant S_ .f32 0x7F800000#32
  let main_v25 : FVec F S8192x1024 .f32 := broadcastInDim S8192x1024 ![] bcast_S_S8192x1024 main_cst_7
  let main_v26 : IVec S8192x1024 1 := cmpf .olt main_v24 main_v25
  let main_v27 : FVec F S1x1024 .f32 := Host.absf main_arg9
  let main_cst_8 : FVec F S_ .f32 := constant S_ .f32 0x7F800000#32
  let main_v28 : FVec F S1x1024 .f32 := broadcastInDim S1x1024 ![] bcast_S_S1x1024 main_cst_8
  let main_v29 : IVec S1x1024 1 := cmpf .olt main_v27 main_v28
  let main_v30 : FVec F S1x1024 .f32 := Host.absf main_arg10
  let main_cst_9 : FVec F S_ .f32 := constant S_ .f32 0x7F800000#32
  let main_v31 : FVec F S1x1024 .f32 := broadcastInDim S1x1024 ![] bcast_S_S1x1024 main_cst_9
  let main_v32 : IVec S1x1024 1 := cmpf .olt main_v30 main_v31
  (main_v2, main_v5, main_v8, main_v11, main_v14, main_v17, main_v20, main_v23, main_v26, main_v29, main_v32)

def fn {F : FTy → Type} [FloatOps F] (main_arg0 : FVec F S8192x2048 .bf16) (main_arg1 : FVec F S8192x512 .bf16) (main_arg2 : FVec F S8192x512 .f32) (main_arg3 : FVec F S8192x512 .f32) (main_arg4 : FVec F S8192x512 .bf16) (main_arg5 : FVec F S8192x1024 .bf16) (main_arg6 : FVec F S8192x512 .bf16) (main_arg7 : FVec F S5632x1024 .bf16) (main_arg8 : FVec F S8192x1024 .f32) (main_arg9 : FVec F S1x1024 .f32) (main_arg10 : FVec F S1x1024 .f32) (main_arg11 : FVec F S8192x1024 .f32) : IVec S8192x2048 1 × IVec S8192x512 1 × IVec S8192x512 1 × IVec S8192x512 1 × IVec S8192x512 1 × IVec S8192x1024 1 × IVec S8192x512 1 × IVec S5632x1024 1 × IVec S8192x1024 1 × IVec S1x1024 1 × IVec S1x1024 1 :=
  let main_v0 : FVec F S8192x2048 .bf16 := Host.absf main_arg0
  let main_cst : FVec F S_ .bf16 := constant S_ .bf16 0x7F80#16
  let main_v1 : FVec F S8192x2048 .bf16 := broadcastInDim S8192x2048 ![] bcast_S_S8192x2048 main_cst
  let main_v2 : IVec S8192x2048 1 := cmpf .olt main_v0 main_v1
  let main_v3 : FVec F S8192x512 .bf16 := Host.absf main_arg1
  let main_cst_0 : FVec F S_ .bf16 := constant S_ .bf16 0x7F80#16
  let main_v4 : FVec F S8192x512 .bf16 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S8192x512 .bf16 := Host.absf main_arg4
  let main_cst_3 : FVec F S_ .bf16 := constant S_ .bf16 0x7F80#16
  let main_v13 : FVec F S8192x512 .bf16 := broadcastInDim S8192x512 ![] bcast_S_S8192x512 main_cst_3
  let main_v14 : IVec S8192x512 1 := cmpf .olt main_v12 main_v13
  let main_v15 : FVec F S8192x1024 .bf16 := Host.absf main_arg5
  let main_cst_4 : FVec F S_ .bf16 := constant S_ .bf16 0x7F80#16
  let main_v16 : FVec F S8192x1024 .bf16 := broadcastInDim S8192x1024 ![] bcast_S_S8192x1024 main_cst_4
  let main_v17 : IVec S8192x1024 1 := cmpf .olt main_v15 main_v16
  fn_part1 (F := F) main_arg6 main_arg7 main_arg8 main_arg9 main_arg10 main_v2 main_v5 main_v8 main_v11 main_v14 main_v17
-- ==== Kernel.lean ====
abbrev S8192x5632 : Shape := ⟨2, ![8192, 5632]⟩
abbrev S1x512 : Shape := ⟨2, ![1, 512]⟩
abbrev S8192x1536 : Shape := ⟨2, ![8192, 1536]⟩
abbrev S8192x512 : Shape := ⟨2, ![8192, 512]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S8192x4x128 : Shape := ⟨3, ![8192, 4, 128]⟩
abbrev S8192x1x64 : Shape := ⟨3, ![8192, 1, 64]⟩
abbrev S8192x4x64 : Shape := ⟨3, ![8192, 4, 64]⟩
abbrev S4x8192x8192 : Shape := ⟨3, ![4, 8192, 8192]⟩
abbrev S4 : Shape := ⟨1, ![4]⟩
abbrev S4x1x1 : Shape := ⟨3, ![4, 1, 1]⟩
abbrev S1x8192 : Shape := ⟨2, ![1, 8192]⟩
abbrev S8192x8192 : Shape := ⟨2, ![8192, 8192]⟩
abbrev S1x8192x8192 : Shape := ⟨3, ![1, 8192, 8192]⟩
abbrev S4x128x8192 : Shape := ⟨3, ![4, 128, 8192]⟩
abbrev S32 : Shape := ⟨1, ![32]⟩
abbrev S32x1 : Shape := ⟨2, ![32, 1]⟩
abbrev S32x8192 : Shape := ⟨2, ![32, 8192]⟩
abbrev S32x1x8192 : Shape := ⟨3, ![32, 1, 8192]⟩
abbrev S1x4x1 : Shape := ⟨3, ![1, 4, 1]⟩
abbrev S32x4x8192 : Shape := ⟨3, ![32, 4, 8192]⟩
abbrev S32x4x8192x1 : Shape := ⟨4, ![32, 4, 8192, 1]⟩
abbrev S4x8192x128 : Shape := ⟨3, ![4, 8192, 128]⟩
abbrev S1x4x8192x128 : Shape := ⟨4, ![1, 4, 8192, 128]⟩
abbrev S32x4x8192x128 : Shape := ⟨4, ![32, 4, 8192, 128]⟩
abbrev S4x128x32x128 : Shape := ⟨4, ![4, 128, 32, 128]⟩
abbrev S32x4x128x128 : Shape := ⟨4, ![32, 4, 128, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x256x256 : Shape := ⟨3, ![4, 256, 256]⟩
abbrev S4x1 : Shape := ⟨2, ![4, 1]⟩
abbrev S4x256 : Shape := ⟨2, ![4, 256]⟩
abbrev S4x128x128 : Shape := ⟨3, ![4, 128, 128]⟩
abbrev S4x256x1 : Shape := ⟨3, ![4, 256, 1]⟩
abbrev S4x256x128 : Shape := ⟨3, ![4, 256, 128]⟩
abbrev S8192x2048 : Shape := ⟨2, ![8192, 2048]⟩
abbrev S8x512 : Shape := ⟨2, ![8, 512]⟩
abbrev S256x512 : Shape := ⟨2, ![256, 512]⟩
abbrev S256x128 : Shape := ⟨2, ![256, 128]⟩
abbrev S1x4x128x128 : Shape := ⟨4, ![1, 4, 128, 128]⟩
abbrev S256x2048 : Shape := ⟨2, ![256, 2048]⟩
abbrev S1x256x128 : Shape := ⟨3, ![1, 256, 128]⟩
abbrev S1x1x128x128 : Shape := ⟨4, ![1, 1, 128, 128]⟩
abbrev S128x128 : Shape := ⟨2, ![128, 128]⟩
abbrev S1x128x128 : Shape := ⟨3, ![1, 128, 128]⟩
abbrev S1x128 : Shape := ⟨2, ![1, 128]⟩
abbrev S128 : Shape := ⟨1, ![128]⟩

abbrev nBuf : Space → Nat
  | .hbm => 321
  | .vmem => 27
  | .smem => 0
  | _ => 0

abbrev hbmTy0_0 (i : Nat) : BufTy := match i % 128 with
  | 0 => ⟨S8192x5632, .f32⟩
  | 1 => ⟨S1x512, .f32⟩
  | 2 => ⟨S8192x1536, .f32⟩
  | 3 => ⟨S8192x512, .f32⟩
  | 4 => ⟨S8192x512, .f32⟩
  | 5 => ⟨S8192x512, .f32⟩
  | 6 => ⟨S8192x512, .f32⟩
  | 7 => ⟨S64, .f32⟩
  | 8 => ⟨S64, .f32⟩
  | 9 => ⟨S_, .f32⟩
  | 10 => ⟨S64, .f32⟩
  | 11 => ⟨S64, .f32⟩
  | 12 => ⟨S_, .f32⟩
  | 13 => ⟨S64, .f32⟩
  | 14 => ⟨S64, .f32⟩
  | 15 => ⟨S8192, .f32⟩
  | 16 => ⟨S8192x1, .f32⟩
  | 17 => ⟨S1x64, .f32⟩
  | 18 => ⟨S8192x64, .f32⟩
  | 19 => ⟨S8192x64, .f32⟩
  | 20 => ⟨S8192x64, .f32⟩
  | 21 => ⟨S8192x64, .f32⟩
  | 22 => ⟨S8192x64, .f32⟩
  | 23 => ⟨S8192x128, .f32⟩
  | 24 => ⟨S8192x64, .f32⟩
  | 25 => ⟨S8192x128, .f32⟩
  | 26 => ⟨S8192x4x128, .f32⟩
  | 27 => ⟨S64, .f32⟩
  | 28 => ⟨S64, .f32⟩
  | 29 => ⟨S_, .f32⟩
  | 30 => ⟨S64, .f32⟩
  | 31 => ⟨S64, .f32⟩
  | 32 => ⟨S_, .f32⟩
  | 33 => ⟨S64, .f32⟩
  | 34 => ⟨S64, .f32⟩
  | 35 => ⟨S8192, .f32⟩
  | 36 => ⟨S8192x1, .f32⟩
  | 37 => ⟨S1x64, .f32⟩
  | 38 => ⟨S8192x64, .f32⟩
  | 39 => ⟨S8192x64, .f32⟩
  | 40 => ⟨S8192x64, .f32⟩
  | 41 => ⟨S8192x64, .f32⟩
  | 42 => ⟨S8192x1x64, .f32⟩
  | 43 => ⟨S8192x64, .f32⟩
  | 44 => ⟨S8192x1x64, .f32⟩
  | 45 => ⟨S8192x4x64, .f32⟩
  | 46 => ⟨S8192x4x64, .f32⟩
  | 47 => ⟨S8192x4x64, .f32⟩
  | 48 => ⟨S8192x4x64, .f32⟩
  | 49 => ⟨S8192x4x64, .f32⟩
  | 50 => ⟨S8192x4x64, .f32⟩
  | 51 => ⟨S8192x4x64, .f32⟩
  | 52 => ⟨S8192x4x64, .f32⟩
  | 53 => ⟨S8192x4x64, .f32⟩
  | 54 => ⟨S8192x4x64, .f32⟩
  | 55 => ⟨S8192x4x64, .f32⟩
  | 56 => ⟨S8192x4x64, .f32⟩
  | 57 => ⟨S8192x4x128, .f32⟩
  | 58 => ⟨S8192x4x128, .f32⟩
  | 59 => ⟨S64, .f32⟩
  | 60 => ⟨S64, .f32⟩
  | 61 => ⟨S_, .f32⟩
  | 62 => ⟨S64, .f32⟩
  | 63 => ⟨S64, .f32⟩
  | 64 => ⟨S_, .f32⟩
  | 65 => ⟨S64, .f32⟩
  | 66 => ⟨S64, .f32⟩
  | 67 => ⟨S8192, .f32⟩
  | 68 => ⟨S8192x1, .f32⟩
  | 69 => ⟨S1x64, .f32⟩
  | 70 => ⟨S8192x64, .f32⟩
  | 71 => ⟨S8192x64, .f32⟩
  | 72 => ⟨S8192x64, .f32⟩
  | 73 => ⟨S8192x64, .f32⟩
  | 74 => ⟨S8192x1x64, .f32⟩
  | 75 => ⟨S8192x64, .f32⟩
  | 76 => ⟨S8192x1x64, .f32⟩
  | 77 => ⟨S8192x4x64, .f32⟩
  | 78 => ⟨S8192x4x64, .f32⟩
  | 79 => ⟨S8192x4x64, .f32⟩
  | 80 => ⟨S8192x4x64, .f32⟩
  | 81 => ⟨S8192x4x64, .f32⟩
  | 82 => ⟨S8192x4x64, .f32⟩
  | 83 => ⟨S8192x4x64, .f32⟩
  | 84 => ⟨S8192x4x64, .f32⟩
  | 85 => ⟨S8192x4x64, .f32⟩
  | 86 => ⟨S8192x4x64, .f32⟩
  | 87 => ⟨S8192x4x64, .f32⟩
  | 88 => ⟨S8192x4x64, .f32⟩
  | 89 => ⟨S8192x4x128, .f32⟩
  | 90 => ⟨S_, .f32⟩
  | 91 => ⟨S8192x4x128, .f32⟩
  | 92 => ⟨S8192x4x128, .f32⟩
  | 93 => ⟨S8192x4x128, .f32⟩
  | 94 => ⟨S4x8192x8192, .f32⟩
  | 95 => ⟨S4, .f32⟩
  | 96 => ⟨S_, .f32⟩
  | 97 => ⟨S4, .f32⟩
  | 98 => ⟨S4, .f32⟩
  | 99 => ⟨S_, .f32⟩
  | 100 => ⟨S4, .f32⟩
  | 101 => ⟨S4, .f32⟩
  | 102 => ⟨S4, .f32⟩
  | 103 => ⟨S4, .f32⟩
  | 104 => ⟨S8192, .f32⟩
  | 105 => ⟨S8192, .i32⟩
  | 106 => ⟨S_, .i32⟩
  | 107 => ⟨S8192, .i32⟩
  | 108 => ⟨S8192, .i32⟩
  | 109 => ⟨S4x1x1, .f32⟩
  | 110 => ⟨S8192x1, .f32⟩
  | 111 => ⟨S1x8192, .f32⟩
  | 112 => ⟨S8192x8192, .f32⟩
  | 113 => ⟨S8192x8192, .f32⟩
  | 114 => ⟨S8192x8192, .f32⟩
  | 115 => ⟨S8192x8192, .f32⟩
  | 116 => ⟨S1x8192x8192, .f32⟩
  | 117 => ⟨S4x8192x8192, .f32⟩
  | 118 => ⟨S4x8192x8192, .f32⟩
  | 119 => ⟨S4x8192x8192, .f32⟩
  | 120 => ⟨S4x8192x8192, .f32⟩
  | 121 => ⟨S1x8192, .i32⟩
  | 122 => ⟨S8192x1, .i32⟩
  | 123 => ⟨S8192x8192, .i32⟩
  | 124 => ⟨S8192x8192, .i32⟩
  | 125 => ⟨S8192x8192, .i1⟩
  | 126 => ⟨S1x8192x8192, .i1⟩
  | 127 => ⟨S_, .f32⟩
  | _ => ⟨S8192x5632, .f32⟩

abbrev hbmTy0_1 (i : Nat) : BufTy := match i % 128 with
  | 0 => ⟨S_, .f32⟩
  | 1 => ⟨S4x8192x8192, .i1⟩
  | 2 => ⟨S4x8192x8192, .f32⟩
  | 3 => ⟨S4x8192x8192, .f32⟩
  | 4 => ⟨S4x8192x8192, .f32⟩
  | 5 => ⟨S4x128x8192, .f32⟩
  | 6 => ⟨S8192x4x128, .f32⟩
  | 7 => ⟨S8192x512, .f32⟩
  | 8 => ⟨S8192x4x128, .f32⟩
  | 9 => ⟨S64, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S8192, .f32⟩
  | 18 => ⟨S8192x1, .f32⟩
  | 19 => ⟨S1x64, .f32⟩
  | 20 => ⟨S8192x64, .f32⟩
  | 21 => ⟨S8192x64, .f32⟩
  | 22 => ⟨S8192x64, .f32⟩
  | 23 => ⟨S8192x64, .f32⟩
  | 24 => ⟨S8192x1x64, .f32⟩
  | 25 => ⟨S8192x64, .f32⟩
  | 26 => ⟨S8192x1x64, .f32⟩
  | 27 => ⟨S8192x4x64, .f32⟩
  | 28 => ⟨S8192x4x64, .f32⟩
  | 29 => ⟨S8192x4x64, .f32⟩
  | 30 => ⟨S8192x4x64, .f32⟩
  | 31 => ⟨S8192x4x64, .f32⟩
  | 32 => ⟨S8192x4x64, .f32⟩
  | 33 => ⟨S8192x4x64, .f32⟩
  | 34 => ⟨S8192x4x64, .f32⟩
  | 35 => ⟨S8192x4x64, .f32⟩
  | 36 => ⟨S8192x4x64, .f32⟩
  | 37 => ⟨S8192x4x64, .f32⟩
  | 38 => ⟨S8192x4x64, .f32⟩
  | 39 => ⟨S8192x4x128, .f32⟩
  | 40 => ⟨S8192x4x128, .f32⟩
  | 41 => ⟨S64, .f32⟩
  | 42 => ⟨S64, .f32⟩
  | 43 => ⟨S_, .f32⟩
  | 44 => ⟨S64, .f32⟩
  | 45 => ⟨S64, .f32⟩
  | 46 => ⟨S_, .f32⟩
  | 47 => ⟨S64, .f32⟩
  | 48 => ⟨S64, .f32⟩
  | 49 => ⟨S8192, .f32⟩
  | 50 => ⟨S8192x1, .f32⟩
  | 51 => ⟨S1x64, .f32⟩
  | 52 => ⟨S8192x64, .f32⟩
  | 53 => ⟨S8192x64, .f32⟩
  | 54 => ⟨S8192x64, .f32⟩
  | 55 => ⟨S8192x64, .f32⟩
  | 56 => ⟨S8192x1x64, .f32⟩
  | 57 => ⟨S8192x64, .f32⟩
  | 58 => ⟨S8192x1x64, .f32⟩
  | 59 => ⟨S8192x4x64, .f32⟩
  | 60 => ⟨S8192x4x64, .f32⟩
  | 61 => ⟨S8192x4x64, .f32⟩
  | 62 => ⟨S8192x4x64, .f32⟩
  | 63 => ⟨S8192x4x64, .f32⟩
  | 64 => ⟨S8192x4x64, .f32⟩
  | 65 => ⟨S8192x4x64, .f32⟩
  | 66 => ⟨S8192x4x64, .f32⟩
  | 67 => ⟨S8192x4x64, .f32⟩
  | 68 => ⟨S8192x4x64, .f32⟩
  | 69 => ⟨S8192x4x64, .f32⟩
  | 70 => ⟨S8192x4x64, .f32⟩
  | 71 => ⟨S8192x4x128, .f32⟩
  | 72 => ⟨S_, .f32⟩
  | 73 => ⟨S8192x4x128, .f32⟩
  | 74 => ⟨S8192x4x128, .f32⟩
  | 75 => ⟨S8192x4x128, .f32⟩
  | 76 => ⟨S4, .f32⟩
  | 77 => ⟨S_, .f32⟩
  | 78 => ⟨S4, .f32⟩
  | 79 => ⟨S4, .f32⟩
  | 80 => ⟨S_, .f32⟩
  | 81 => ⟨S4, .f32⟩
  | 82 => ⟨S4, .f32⟩
  | 83 => ⟨S4, .f32⟩
  | 84 => ⟨S4, .f32⟩
  | 85 => ⟨S32, .f32⟩
  | 86 => ⟨S_, .f32⟩
  | 87 => ⟨S32, .f32⟩
  | 88 => ⟨S32, .f32⟩
  | 89 => ⟨S32x1, .f32⟩
  | 90 => ⟨S_, .f32⟩
  | 91 => ⟨S32x1, .f32⟩
  | 92 => ⟨S32x1, .f32⟩
  | 93 => ⟨S8192, .f32⟩
  | 94 => ⟨S1x8192, .f32⟩
  | 95 => ⟨S32x8192, .f32⟩
  | 96 => ⟨S32x8192, .f32⟩
  | 97 => ⟨S32x8192, .f32⟩
  | 98 => ⟨S_, .f32⟩
  | 99 => ⟨S32x8192, .f32⟩
  | 100 => ⟨S32x8192, .i1⟩
  | 101 => ⟨S32x1x8192, .i1⟩
  | 102 => ⟨S1x4x1, .f32⟩
  | 103 => ⟨S32x1x8192, .f32⟩
  | 104 => ⟨S32x4x8192, .f32⟩
  | 105 => ⟨S32x4x8192, .f32⟩
  | 106 => ⟨S32x4x8192, .f32⟩
  | 107 => ⟨S32x4x8192, .f32⟩
  | 108 => ⟨S_, .f32⟩
  | 109 => ⟨S_, .f32⟩
  | 110 => ⟨S32x4x8192, .i1⟩
  | 111 => ⟨S32x4x8192, .f32⟩
  | 112 => ⟨S32x4x8192, .f32⟩
  | 113 => ⟨S32x4x8192x1, .f32⟩
  | 114 => ⟨S4x8192x128, .f32⟩
  | 115 => ⟨S1x4x8192x128, .f32⟩
  | 116 => ⟨S32x4x8192x128, .f32⟩
  | 117 => ⟨S32x4x8192x128, .f32⟩
  | 118 => ⟨S32x4x8192x128, .f32⟩
  | 119 => ⟨S4x128x32x128, .f32⟩
  | 120 => ⟨S32x4x128x128, .f32⟩
  | 121 => ⟨S4, .f32⟩
  | 122 => ⟨S_, .f32⟩
  | 123 => ⟨S4, .f32⟩
  | 124 => ⟨S4, .f32⟩
  | 125 => ⟨S_, .f32⟩
  | 126 => ⟨S4, .f32⟩
  | 127 => ⟨S4, .f32⟩
  | _ => ⟨S8192x5632, .f32⟩

abbrev hbmTy0_2 (i : Nat) : BufTy := match i % 128 with
  | 0 => ⟨S4, .f32⟩
  | 1 => ⟨S4, .f32⟩
  | 2 => ⟨S256, .f32⟩
  | 3 => ⟨S256, .i32⟩
  | 4 => ⟨S_, .i32⟩
  | 5 => ⟨S256, .i32⟩
  | 6 => ⟨S256, .i32⟩
  | 7 => ⟨S256x1, .i32⟩
  | 8 => ⟨S1x256, .i32⟩
  | 9 => ⟨S256x256, .i32⟩
  | 10 => ⟨S256x256, .i32⟩
  | 11 => ⟨S256x256, .i1⟩
  | 12 => ⟨S1x256, .i32⟩
  | 13 => ⟨S256x1, .i32⟩
  | 14 => ⟨S256x256, .i32⟩
  | 15 => ⟨S256x256, .i32⟩
  | 16 => ⟨S256x256, .i1⟩
  | 17 => ⟨S256x1, .f32⟩
  | 18 => ⟨S1x256, .f32⟩
  | 19 => ⟨S256x256, .f32⟩
  | 20 => ⟨S256x256, .f32⟩
  | 21 => ⟨S256x256, .f32⟩
  | 22 => ⟨S256x256, .f32⟩
  | 23 => ⟨S256x256, .i1⟩
  | 24 => ⟨S4x1x1, .f32⟩
  | 25 => ⟨S1x256x256, .f32⟩
  | 26 => ⟨S4x256x256, .f32⟩
  | 27 => ⟨S4x256x256, .f32⟩
  | 28 => ⟨S4x256x256, .f32⟩
  | 29 => ⟨S4x256x256, .f32⟩
  | 30 => ⟨S_, .f32⟩
  | 31 => ⟨S_, .f32⟩
  | 32 => ⟨S4x256x256, .i1⟩
  | 33 => ⟨S4x256x256, .f32⟩
  | 34 => ⟨S4x256x256, .f32⟩
  | 35 => ⟨S4x1, .f32⟩
  | 36 => ⟨S_, .f32⟩
  | 37 => ⟨S256, .f32⟩
  | 38 => ⟨S256, .f32⟩
  | 39 => ⟨S1x256, .f32⟩
  | 40 => ⟨S4x256, .f32⟩
  | 41 => ⟨S4x256, .f32⟩
  | 42 => ⟨S4x256, .f32⟩
  | 43 => ⟨S4x256, .f32⟩
  | 44 => ⟨S4x1, .f32⟩
  | 45 => ⟨S_, .f32⟩
  | 46 => ⟨S256, .f32⟩
  | 47 => ⟨S256, .f32⟩
  | 48 => ⟨S1x256, .f32⟩
  | 49 => ⟨S4x256, .f32⟩
  | 50 => ⟨S4x256, .f32⟩
  | 51 => ⟨S4x256, .f32⟩
  | 52 => ⟨S4x256, .f32⟩
  | 53 => ⟨S_, .f32⟩
  | 54 => ⟨S4, .f32⟩
  | 55 => ⟨S4, .f32⟩
  | 56 => ⟨S4, .f32⟩
  | 57 => ⟨S4x1x1, .f32⟩
  | 58 => ⟨S4x128x128, .f32⟩
  | 59 => ⟨S4x256x1, .f32⟩
  | 60 => ⟨S4x256x128, .f32⟩
  | 61 => ⟨S4x256x1, .f32⟩
  | 62 => ⟨S4x256x128, .f32⟩
  | 63 => ⟨S8192x2048, .bf16⟩
  | 64 => ⟨S8x512, .f32⟩
  | _ => ⟨S8192x5632, .f32⟩

abbrev hbmTy (i : Nat) : BufTy := match i / 128 with
  | 0 => hbmTy0_0 i
  | 1 => hbmTy0_1 i
  | 2 => hbmTy0_2 i
  | _ => ⟨S8192x5632, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S4x256x256, .f32⟩
  | .local _ .vmem, ⟨13, _⟩ => ⟨S4x256x128, .f32⟩
  | .local _ .vmem, ⟨14, _⟩ => ⟨S4x256x128, .f32⟩
  | .local _ .vmem, ⟨15, _⟩ => ⟨S4x128x128, .f32⟩
  | .local _ .vmem, ⟨16, _⟩ => ⟨S1x512, .f32⟩
  | .local _ .vmem, ⟨17, _⟩ => ⟨S256x512, .f32⟩
  | .local _ .vmem, ⟨18, _⟩ => ⟨S256x512, .f32⟩
  | .local _ .vmem, ⟨19, _⟩ => ⟨S1x4x128x128, .f32⟩
  | .local _ .vmem, ⟨20, _⟩ => ⟨S1x4x128x128, .f32⟩
  | .local _ .vmem, ⟨21, _⟩ => ⟨S256x512, .f32⟩
  | .local _ .vmem, ⟨22, _⟩ => ⟨S256x512, .f32⟩
  | .local _ .vmem, ⟨23, _⟩ => ⟨S256x2048, .bf16⟩
  | .local _ .vmem, ⟨24, _⟩ => ⟨S256x2048, .bf16⟩
  | .local _ .vmem, ⟨25, _⟩ => ⟨S8x512, .f32⟩
  | .local _ .vmem, ⟨26, _⟩ => ⟨S4x128x128, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_cst_3 : Ref sig .tc := ⟨.hbm, 61, rfl⟩
abbrev main_v54 : Ref sig .tc := ⟨.hbm, 62, rfl⟩
abbrev main_v55 : Ref sig .tc := ⟨.hbm, 63, rfl⟩
abbrev main_cst_4 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_cst_5 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_cst_6 : Ref sig .tc := ⟨.hbm, 96, rfl⟩
abbrev main_v86 : Ref sig .tc := ⟨.hbm, 97, rfl⟩
abbrev main_v87 : Ref sig .tc := ⟨.hbm, 98, rfl⟩
abbrev main_cst_7 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_c : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_cst_8 : Ref sig .tc := ⟨.hbm, 127, rfl⟩
abbrev main_call0_v0 : Ref sig .tc := ⟨.hbm, 128, rfl⟩
abbrev main_call0_v1 : Ref sig .tc := ⟨.hbm, 129, rfl⟩
abbrev main_call0_v2 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_cst_9 : Ref sig .tc := ⟨.hbm, 139, rfl⟩
abbrev main_v122 : Ref sig .tc := ⟨.hbm, 140, rfl⟩
abbrev main_v123 : Ref sig .tc := ⟨.hbm, 141, rfl⟩
abbrev main_cst_10 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_cst_11 : Ref sig .tc := ⟨.hbm, 171, rfl⟩
abbrev main_v152 : Ref sig .tc := ⟨.hbm, 172, rfl⟩
abbrev main_v153 : Ref sig .tc := ⟨.hbm, 173, rfl⟩
abbrev main_cst_12 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_cst_13 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_cst_14 : Ref sig .tc := ⟨.hbm, 205, rfl⟩
abbrev main_v183 : Ref sig .tc := ⟨.hbm, 206, rfl⟩
abbrev main_v184 : Ref sig .tc := ⟨.hbm, 207, rfl⟩
abbrev main_cst_15 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_cst_16 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_cst_17 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_v197 : Ref sig .tc := ⟨.hbm, 223, rfl⟩
abbrev main_v198 : Ref sig .tc := ⟨.hbm, 224, rfl⟩
abbrev main_v199 : Ref sig .tc := ⟨.hbm, 225, rfl⟩
abbrev main_cst_18 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_v204 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_cst_19 : Ref sig .tc := ⟨.hbm, 236, rfl⟩
abbrev main_call1_v0 : Ref sig .tc := ⟨.hbm, 237, rfl⟩
abbrev main_call1_v1 : Ref sig .tc := ⟨.hbm, 238, rfl⟩
abbrev main_call1_v2 : Ref sig .tc := ⟨.hbm, 239, rfl⟩
abbrev main_v209 : Ref sig .tc := ⟨.hbm, 240, rfl⟩
abbrev main_v210 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩
abbrev main_v214 : Ref sig .tc := ⟨.hbm, 245, rfl⟩
abbrev main_v215 : Ref sig .tc := ⟨.hbm, 246, rfl⟩
abbrev main_v216 : Ref sig .tc := ⟨.hbm, 247, rfl⟩
abbrev main_v217 : Ref sig .tc := ⟨.hbm, 248, rfl⟩
abbrev main_v218 : Ref sig .tc := ⟨.hbm, 249, rfl⟩
abbrev main_cst_20 : Ref sig .tc := ⟨.hbm, 250, rfl⟩
abbrev main_v219 : Ref sig .tc := ⟨.hbm, 251, rfl⟩
abbrev main_v220 : Ref sig .tc := ⟨.hbm, 252, rfl⟩
abbrev main_cst_21 : Ref sig .tc := ⟨.hbm, 253, rfl⟩
abbrev main_v221 : Ref sig .tc := ⟨.hbm, 254, rfl⟩
abbrev main_v222 : Ref sig .tc := ⟨.hbm, 255, rfl⟩
abbrev main_v223 : Ref sig .tc := ⟨.hbm, 256, rfl⟩
abbrev main_v224 : Ref sig .tc := ⟨.hbm, 257, rfl⟩
abbrev main_v225 : Ref sig .tc := ⟨.hbm, 258, rfl⟩
abbrev main_v226 : Ref sig .tc := ⟨.hbm, 259, rfl⟩
abbrev main_c_22 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_v231 : Ref sig .tc := ⟨.hbm, 265, rfl⟩
abbrev main_v232 : Ref sig .tc := ⟨.hbm, 266, rfl⟩
abbrev main_v233 : Ref sig .tc := ⟨.hbm, 267, rfl⟩
abbrev main_v234 : Ref sig .tc := ⟨.hbm, 268, rfl⟩
abbrev main_v235 : Ref sig .tc := ⟨.hbm, 269, rfl⟩
abbrev main_v236 : Ref sig .tc := ⟨.hbm, 270, rfl⟩
abbrev main_v237 : Ref sig .tc := ⟨.hbm, 271, rfl⟩
abbrev main_v238 : Ref sig .tc := ⟨.hbm, 272, rfl⟩
abbrev main_v239 : Ref sig .tc := ⟨.hbm, 273, rfl⟩
abbrev main_v240 : Ref sig .tc := ⟨.hbm, 274, rfl⟩
abbrev main_v241 : Ref sig .tc := ⟨.hbm, 275, rfl⟩
abbrev main_v242 : Ref sig .tc := ⟨.hbm, 276, rfl⟩
abbrev main_v243 : Ref sig .tc := ⟨.hbm, 277, rfl⟩
abbrev main_v244 : Ref sig .tc := ⟨.hbm, 278, rfl⟩
abbrev main_v245 : Ref sig .tc := ⟨.hbm, 279, rfl⟩
abbrev main_v246 : Ref sig .tc := ⟨.hbm, 280, rfl⟩
abbrev main_v247 : Ref sig .tc := ⟨.hbm, 281, rfl⟩
abbrev main_v248 : Ref sig .tc := ⟨.hbm, 282, rfl⟩
abbrev main_v249 : Ref sig .tc := ⟨.hbm, 283, rfl⟩
abbrev main_v250 : Ref sig .tc := ⟨.hbm, 284, rfl⟩
abbrev main_v251 : Ref sig .tc := ⟨.hbm, 285, rfl⟩
abbrev main_cst_23 : Ref sig .tc := ⟨.hbm, 286, rfl⟩
abbrev main_call2_v0 : Ref sig .tc := ⟨.hbm, 287, rfl⟩
abbrev main_call2_v1 : Ref sig .tc := ⟨.hbm, 288, rfl⟩
abbrev main_call2_v2 : Ref sig .tc := ⟨.hbm, 289, rfl⟩
abbrev main_v252 : Ref sig .tc := ⟨.hbm, 290, rfl⟩
abbrev main_v253 : Ref sig .tc := ⟨.hbm, 291, rfl⟩
abbrev main_cst_24 : Ref sig .tc := ⟨.hbm, 292, rfl⟩
abbrev main_v254 : Ref sig .tc := ⟨.hbm, 293, rfl⟩
abbrev main_v255 : Ref sig .tc := ⟨.hbm, 294, rfl⟩
abbrev main_v256 : Ref sig .tc := ⟨.hbm, 295, rfl⟩
abbrev main_v257 : Ref sig .tc := ⟨.hbm, 296, rfl⟩
abbrev main_v258 : Ref sig .tc := ⟨.hbm, 297, rfl⟩
abbrev main_v259 : Ref sig .tc := ⟨.hbm, 298, rfl⟩
abbrev main_v260 : Ref sig .tc := ⟨.hbm, 299, rfl⟩
abbrev main_v261 : Ref sig .tc := ⟨.hbm, 300, rfl⟩
abbrev main_cst_25 : Ref sig .tc := ⟨.hbm, 301, rfl⟩
abbrev main_v262 : Ref sig .tc := ⟨.hbm, 302, rfl⟩
abbrev main_v263 : Ref sig .tc := ⟨.hbm, 303, rfl⟩
abbrev main_v264 : Ref sig .tc := ⟨.hbm, 304, rfl⟩
abbrev main_v265 : Ref sig .tc := ⟨.hbm, 305, rfl⟩
abbrev main_v266 : Ref sig .tc := ⟨.hbm, 306, rfl⟩
abbrev main_v267 : Ref sig .tc := ⟨.hbm, 307, rfl⟩
abbrev main_v268 : Ref sig .tc := ⟨.hbm, 308, rfl⟩
abbrev main_cst_26 : Ref sig .tc := ⟨.hbm, 309, rfl⟩
abbrev main_v269 : Ref sig .tc := ⟨.hbm, 310, rfl⟩
abbrev main_v270 : Ref sig .tc := ⟨.hbm, 311, rfl⟩
abbrev main_v271 : Ref sig .tc := ⟨.hbm, 312, rfl⟩
abbrev main_v272 : Ref sig .tc := ⟨.hbm, 313, rfl⟩
abbrev main_v273 : Ref sig .tc := ⟨.hbm, 314, rfl⟩
abbrev main_v274 : Ref sig .tc := ⟨.hbm, 315, rfl⟩
abbrev main_v275 : Ref sig .tc := ⟨.hbm, 316, rfl⟩
abbrev main_v276 : Ref sig .tc := ⟨.hbm, 317, rfl⟩
abbrev main_v277 : Ref sig .tc := ⟨.hbm, 318, rfl⟩
abbrev main_v278_0 : Ref sig .tc := ⟨.hbm, 319, rfl⟩
abbrev main_v278_1 : Ref sig .tc := ⟨.hbm, 320, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S8192x5632 : Shape := ⟨2, ![8192, 5632]⟩
abbrev S1x512 : Shape := ⟨2, ![1, 512]⟩
abbrev S8192x1536 : Shape := ⟨2, ![8192, 1536]⟩
abbrev S8192x512 : Shape := ⟨2, ![8192, 512]⟩
abbrev S8192x4x128 : Shape := ⟨3, ![8192, 4, 128]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S8192x4x64 : Shape := ⟨3, ![8192, 4, 64]⟩
abbrev S4x8192x8192 : Shape := ⟨3, ![4, 8192, 8192]⟩
abbrev S4 : Shape := ⟨1, ![4]⟩
abbrev S4x1x1 : Shape := ⟨3, ![4, 1, 1]⟩
abbrev S1x8192 : Shape := ⟨2, ![1, 8192]⟩
abbrev S8192x8192 : Shape := ⟨2, ![8192, 8192]⟩
abbrev S1x8192x8192 : Shape := ⟨3, ![1, 8192, 8192]⟩
abbrev S4x128x8192 : Shape := ⟨3, ![4, 128, 8192]⟩
abbrev S4x128 : Shape := ⟨2, ![4, 128]⟩
abbrev S8192x4 : Shape := ⟨2, ![8192, 4]⟩
abbrev S8192x4x1 : Shape := ⟨3, ![8192, 4, 1]⟩
abbrev S1x4x128 : Shape := ⟨3, ![1, 4, 128]⟩
abbrev S4x8192x128 : Shape := ⟨3, ![4, 8192, 128]⟩
abbrev S8192x2048 : Shape := ⟨2, ![8192, 2048]⟩
abbrev S8x512 : Shape := ⟨2, ![8, 512]⟩

abbrev nBuf : Space → Nat
  | .hbm => 242
  | .vmem => 0
  | .smem => 0
  | _ => 0

abbrev hbmTy0_0 (i : Nat) : BufTy := match i % 128 with
  | 0 => ⟨S8192x5632, .f32⟩
  | 1 => ⟨S1x512, .f32⟩
  | 2 => ⟨S8192x1536, .f32⟩
  | 3 => ⟨S8192x512, .f32⟩
  | 4 => ⟨S8192x512, .f32⟩
  | 5 => ⟨S8192x512, .f32⟩
  | 6 => ⟨S8192x512, .f32⟩
  | 7 => ⟨S8192x4x128, .f32⟩
  | 8 => ⟨S64, .f32⟩
  | 9 => ⟨S64, .f32⟩
  | 10 => ⟨S_, .f32⟩
  | 11 => ⟨S64, .f32⟩
  | 12 => ⟨S64, .f32⟩
  | 13 => ⟨S_, .f32⟩
  | 14 => ⟨S64, .f32⟩
  | 15 => ⟨S64, .f32⟩
  | 16 => ⟨S8192, .f32⟩
  | 17 => ⟨S8192x1, .f32⟩
  | 18 => ⟨S1x64, .f32⟩
  | 19 => ⟨S8192x64, .f32⟩
  | 20 => ⟨S8192x64, .f32⟩
  | 21 => ⟨S8192x64, .f32⟩
  | 22 => ⟨S8192x64, .f32⟩
  | 23 => ⟨S8192x1x64, .f32⟩
  | 24 => ⟨S8192x64, .f32⟩
  | 25 => ⟨S8192x1x64, .f32⟩
  | 26 => ⟨S8192x4x64, .f32⟩
  | 27 => ⟨S8192x4x64, .f32⟩
  | 28 => ⟨S8192x4x64, .f32⟩
  | 29 => ⟨S8192x4x64, .f32⟩
  | 30 => ⟨S8192x4x64, .f32⟩
  | 31 => ⟨S8192x4x64, .f32⟩
  | 32 => ⟨S8192x4x64, .f32⟩
  | 33 => ⟨S8192x4x64, .f32⟩
  | 34 => ⟨S8192x4x64, .f32⟩
  | 35 => ⟨S8192x4x64, .f32⟩
  | 36 => ⟨S8192x4x64, .f32⟩
  | 37 => ⟨S8192x4x64, .f32⟩
  | 38 => ⟨S8192x4x128, .f32⟩
  | 39 => ⟨S8192x4x128, .f32⟩
  | 40 => ⟨S64, .f32⟩
  | 41 => ⟨S64, .f32⟩
  | 42 => ⟨S_, .f32⟩
  | 43 => ⟨S64, .f32⟩
  | 44 => ⟨S64, .f32⟩
  | 45 => ⟨S_, .f32⟩
  | 46 => ⟨S64, .f32⟩
  | 47 => ⟨S64, .f32⟩
  | 48 => ⟨S8192, .f32⟩
  | 49 => ⟨S8192x1, .f32⟩
  | 50 => ⟨S1x64, .f32⟩
  | 51 => ⟨S8192x64, .f32⟩
  | 52 => ⟨S8192x64, .f32⟩
  | 53 => ⟨S8192x64, .f32⟩
  | 54 => ⟨S8192x64, .f32⟩
  | 55 => ⟨S8192x1x64, .f32⟩
  | 56 => ⟨S8192x64, .f32⟩
  | 57 => ⟨S8192x1x64, .f32⟩
  | 58 => ⟨S8192x4x64, .f32⟩
  | 59 => ⟨S8192x4x64, .f32⟩
  | 60 => ⟨S8192x4x64, .f32⟩
  | 61 => ⟨S8192x4x64, .f32⟩
  | 62 => ⟨S8192x4x64, .f32⟩
  | 63 => ⟨S8192x4x64, .f32⟩
  | 64 => ⟨S8192x4x64, .f32⟩
  | 65 => ⟨S8192x4x64, .f32⟩
  | 66 => ⟨S8192x4x64, .f32⟩
  | 67 => ⟨S8192x4x64, .f32⟩
  | 68 => ⟨S8192x4x64, .f32⟩
  | 69 => ⟨S8192x4x64, .f32⟩
  | 70 => ⟨S8192x4x128, .f32⟩
  | 71 => ⟨S_, .f32⟩
  | 72 => ⟨S8192x4x128, .f32⟩
  | 73 => ⟨S8192x4x128, .f32⟩
  | 74 => ⟨S8192x4x128, .f32⟩
  | 75 => ⟨S4x8192x8192, .f32⟩
  | 76 => ⟨S4, .f32⟩
  | 77 => ⟨S_, .f32⟩
  | 78 => ⟨S4, .f32⟩
  | 79 => ⟨S4, .f32⟩
  | 80 => ⟨S_, .f32⟩
  | 81 => ⟨S4, .f32⟩
  | 82 => ⟨S4, .f32⟩
  | 83 => ⟨S4, .f32⟩
  | 84 => ⟨S4, .f32⟩
  | 85 => ⟨S8192, .f32⟩
  | 86 => ⟨S8192, .i32⟩
  | 87 => ⟨S_, .i32⟩
  | 88 => ⟨S8192, .i32⟩
  | 89 => ⟨S8192, .i32⟩
  | 90 => ⟨S4x1x1, .f32⟩
  | 91 => ⟨S8192x1, .f32⟩
  | 92 => ⟨S1x8192, .f32⟩
  | 93 => ⟨S8192x8192, .f32⟩
  | 94 => ⟨S8192x8192, .f32⟩
  | 95 => ⟨S8192x8192, .f32⟩
  | 96 => ⟨S8192x8192, .f32⟩
  | 97 => ⟨S1x8192x8192, .f32⟩
  | 98 => ⟨S4x8192x8192, .f32⟩
  | 99 => ⟨S4x8192x8192, .f32⟩
  | 100 => ⟨S4x8192x8192, .f32⟩
  | 101 => ⟨S4x8192x8192, .f32⟩
  | 102 => ⟨S1x8192, .i32⟩
  | 103 => ⟨S8192x1, .i32⟩
  | 104 => ⟨S8192x8192, .i32⟩
  | 105 => ⟨S8192x8192, .i32⟩
  | 106 => ⟨S8192x8192, .i1⟩
  | 107 => ⟨S1x8192x8192, .i1⟩
  | 108 => ⟨S_, .f32⟩
  | 109 => ⟨S_, .f32⟩
  | 110 => ⟨S4x8192x8192, .i1⟩
  | 111 => ⟨S4x8192x8192, .f32⟩
  | 112 => ⟨S4x8192x8192, .f32⟩
  | 113 => ⟨S4x8192x8192, .f32⟩
  | 114 => ⟨S4x128x8192, .f32⟩
  | 115 => ⟨S8192x4x128, .f32⟩
  | 116 => ⟨S4x128, .f32⟩
  | 117 => ⟨S8192x4x128, .f32⟩
  | 118 => ⟨S_, .f32⟩
  | 119 => ⟨S8192x4, .f32⟩
  | 120 => ⟨S8192x4x1, .f32⟩
  | 121 => ⟨S_, .f32⟩
  | 122 => ⟨S8192x4x1, .f32⟩
  | 123 => ⟨S8192x4x1, .f32⟩
  | 124 => ⟨S_, .f32⟩
  | 125 => ⟨S8192x4x1, .f32⟩
  | 126 => ⟨S8192x4x1, .f32⟩
  | 127 => ⟨S8192x4x1, .f32⟩
  | _ => ⟨S8192x5632, .f32⟩

abbrev hbmTy0_1 (i : Nat) : BufTy := match i % 128 with
  | 0 => ⟨S8192x4x1, .f32⟩
  | 1 => ⟨S_, .f32⟩
  | 2 => ⟨S8192x4x1, .f32⟩
  | 3 => ⟨S8192x4x1, .f32⟩
  | 4 => ⟨S8192x4x128, .f32⟩
  | 5 => ⟨S8192x4x128, .f32⟩
  | 6 => ⟨S1x4x128, .f32⟩
  | 7 => ⟨S8192x4x128, .f32⟩
  | 8 => ⟨S8192x4x128, .f32⟩
  | 9 => ⟨S8192x512, .f32⟩
  | 10 => ⟨S8192x512, .f32⟩
  | 11 => ⟨S8192x512, .f32⟩
  | 12 => ⟨S_, .f32⟩
  | 13 => ⟨S8192x512, .f32⟩
  | 14 => ⟨S8192x512, .f32⟩
  | 15 => ⟨S_, .f32⟩
  | 16 => ⟨S8192x512, .f32⟩
  | 17 => ⟨S8192x512, .f32⟩
  | 18 => ⟨S_, .f32⟩
  | 19 => ⟨S8192x512, .f32⟩
  | 20 => ⟨S8192x512, .f32⟩
  | 21 => ⟨S8192x512, .f32⟩
  | 22 => ⟨S8192x512, .f32⟩
  | 23 => ⟨S8192x512, .f32⟩
  | 24 => ⟨S8192x512, .f32⟩
  | 25 => ⟨S8192x512, .f32⟩
  | 26 => ⟨S8192x512, .f32⟩
  | 27 => ⟨S8192x512, .f32⟩
  | 28 => ⟨S8192x512, .f32⟩
  | 29 => ⟨S8192x512, .f32⟩
  | 30 => ⟨S8192x512, .f32⟩
  | 31 => ⟨S8192x4x128, .f32⟩
  | 32 => ⟨S8192x4x128, .f32⟩
  | 33 => ⟨S_, .f32⟩
  | 34 => ⟨S4x128, .f32⟩
  | 35 => ⟨S1x4x128, .f32⟩
  | 36 => ⟨S8192x4x128, .f32⟩
  | 37 => ⟨S8192x4x128, .f32⟩
  | 38 => ⟨S_, .f32⟩
  | 39 => ⟨S4x128, .f32⟩
  | 40 => ⟨S8192x4x128, .f32⟩
  | 41 => ⟨S_, .f32⟩
  | 42 => ⟨S8192x4, .f32⟩
  | 43 => ⟨S8192x4x1, .f32⟩
  | 44 => ⟨S8192x4x128, .f32⟩
  | 45 => ⟨S8192x4x128, .f32⟩
  | 46 => ⟨S8192x4x1, .f32⟩
  | 47 => ⟨S_, .f32⟩
  | 48 => ⟨S8192x4x1, .f32⟩
  | 49 => ⟨S8192x4x1, .f32⟩
  | 50 => ⟨S_, .f32⟩
  | 51 => ⟨S8192x4, .f32⟩
  | 52 => ⟨S8192x4x128, .f32⟩
  | 53 => ⟨S8192x4x128, .f32⟩
  | 54 => ⟨S8192x4x128, .f32⟩
  | 55 => ⟨S8192x4x128, .f32⟩
  | 56 => ⟨S8192x4x128, .f32⟩
  | 57 => ⟨S1x512, .f32⟩
  | 58 => ⟨S4x128x8192, .f32⟩
  | 59 => ⟨S4x8192x8192, .f32⟩
  | 60 => ⟨S4x128x8192, .f32⟩
  | 61 => ⟨S8192x4x128, .f32⟩
  | 62 => ⟨S4x8192x8192, .f32⟩
  | 63 => ⟨S4x8192x128, .f32⟩
  | 64 => ⟨S8192x4x128, .f32⟩
  | 65 => ⟨S4x8192x128, .f32⟩
  | 66 => ⟨S8192x4x128, .f32⟩
  | 67 => ⟨S8192x512, .f32⟩
  | 68 => ⟨S_, .f32⟩
  | 69 => ⟨S8192x4x128, .f32⟩
  | 70 => ⟨S8192x4x128, .f32⟩
  | 71 => ⟨S8192x4x64, .f32⟩
  | 72 => ⟨S8192x4x64, .f32⟩
  | 73 => ⟨S8192x4x64, .f32⟩
  | 74 => ⟨S8192x4x64, .f32⟩
  | 75 => ⟨S8192x4x64, .f32⟩
  | 76 => ⟨S8192x4x64, .f32⟩
  | 77 => ⟨S8192x4x64, .f32⟩
  | 78 => ⟨S8192x4x64, .f32⟩
  | 79 => ⟨S8192x4x64, .f32⟩
  | 80 => ⟨S8192x4x64, .f32⟩
  | 81 => ⟨S8192x4x64, .f32⟩
  | 82 => ⟨S8192x4x64, .f32⟩
  | 83 => ⟨S8192x4x64, .f32⟩
  | 84 => ⟨S_, .f32⟩
  | 85 => ⟨S8192x4x128, .f32⟩
  | 86 => ⟨S_, .f32⟩
  | 87 => ⟨S8192x4x128, .f32⟩
  | 88 => ⟨S8192x4x128, .f32⟩
  | 89 => ⟨S8192x512, .f32⟩
  | 90 => ⟨S8192x4x64, .f32⟩
  | 91 => ⟨S8192x4x64, .f32⟩
  | 92 => ⟨S8192x4x64, .f32⟩
  | 93 => ⟨S8192x4x64, .f32⟩
  | 94 => ⟨S8192x4x64, .f32⟩
  | 95 => ⟨S8192x4x64, .f32⟩
  | 96 => ⟨S8192x4x64, .f32⟩
  | 97 => ⟨S8192x4x64, .f32⟩
  | 98 => ⟨S8192x4x64, .f32⟩
  | 99 => ⟨S8192x4x64, .f32⟩
  | 100 => ⟨S8192x4x64, .f32⟩
  | 101 => ⟨S8192x4x64, .f32⟩
  | 102 => ⟨S8192x4x64, .f32⟩
  | 103 => ⟨S_, .f32⟩
  | 104 => ⟨S8192x4x128, .f32⟩
  | 105 => ⟨S_, .f32⟩
  | 106 => ⟨S8192x4x128, .f32⟩
  | 107 => ⟨S8192x4x128, .f32⟩
  | 108 => ⟨S8192x512, .f32⟩
  | 109 => ⟨S8192x2048, .f32⟩
  | 110 => ⟨S8192x2048, .bf16⟩
  | 111 => ⟨S_, .i32⟩
  | 112 => ⟨S_, .f32⟩
  | 113 => ⟨S8x512, .f32⟩
  | _ => ⟨S8192x5632, .f32⟩

abbrev hbmTy (i : Nat) : BufTy := match i / 128 with
  | 0 => hbmTy0_0 i
  | 1 => hbmTy0_1 i
  | _ => ⟨S8192x5632, .f32⟩

abbrev bufTy : (tb : Table) → Fin (tcTables nBuf tb) → BufTy
  | .hbm, ⟨i, _⟩ => hbmTy i
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_1 : Ref sig .tc := ⟨.hbm, 42, rfl⟩
abbrev main_v37 : Ref sig .tc := ⟨.hbm, 43, rfl⟩
abbrev main_v38 : Ref sig .tc := ⟨.hbm, 44, rfl⟩
abbrev main_cst_2 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_cst_3 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_cst_4 : Ref sig .tc := ⟨.hbm, 77, rfl⟩
abbrev main_v69 : Ref sig .tc := ⟨.hbm, 78, rfl⟩
abbrev main_v70 : Ref sig .tc := ⟨.hbm, 79, rfl⟩
abbrev main_cst_5 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_c : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_cst_6 : Ref sig .tc := ⟨.hbm, 108, rfl⟩
abbrev main_call0_v0 : Ref sig .tc := ⟨.hbm, 109, rfl⟩
abbrev main_call0_v1 : Ref sig .tc := ⟨.hbm, 110, rfl⟩
abbrev main_call0_v2 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_cst_7 : Ref sig .tc := ⟨.hbm, 118, rfl⟩
abbrev main_v103 : Ref sig .tc := ⟨.hbm, 119, rfl⟩
abbrev main_v104 : Ref sig .tc := ⟨.hbm, 120, rfl⟩
abbrev main_cst_8 : Ref sig .tc := ⟨.hbm, 121, rfl⟩
abbrev main_v105 : Ref sig .tc := ⟨.hbm, 122, rfl⟩
abbrev main_v106 : Ref sig .tc := ⟨.hbm, 123, rfl⟩
abbrev main_cst_9 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_cst_10 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_cst_11 : Ref sig .tc := ⟨.hbm, 140, rfl⟩
abbrev main_v121 : Ref sig .tc := ⟨.hbm, 141, rfl⟩
abbrev main_v122 : Ref sig .tc := ⟨.hbm, 142, rfl⟩
abbrev main_cst_12 : Ref sig .tc := ⟨.hbm, 143, rfl⟩
abbrev main_v123 : Ref sig .tc := ⟨.hbm, 144, rfl⟩
abbrev main_v124 : Ref sig .tc := ⟨.hbm, 145, rfl⟩
abbrev main_cst_13 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_cst_14 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_cst_15 : Ref sig .tc := ⟨.hbm, 166, rfl⟩
abbrev main_v143 : Ref sig .tc := ⟨.hbm, 167, rfl⟩
abbrev main_v144 : Ref sig .tc := ⟨.hbm, 168, rfl⟩
abbrev main_cst_16 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_cst_17 : Ref sig .tc := ⟨.hbm, 175, rfl⟩
abbrev main_v150 : Ref sig .tc := ⟨.hbm, 176, rfl⟩
abbrev main_v151 : Ref sig .tc := ⟨.hbm, 177, rfl⟩
abbrev main_cst_18 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_cst_19 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_cst_20 : Ref sig .tc := ⟨.hbm, 212, rfl⟩
abbrev main_v184 : Ref sig .tc := ⟨.hbm, 213, rfl⟩
abbrev main_cst_21 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_cst_22 : Ref sig .tc := ⟨.hbm, 231, rfl⟩
abbrev main_v201 : Ref sig .tc := ⟨.hbm, 232, rfl⟩
abbrev main_cst_23 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_c_24 : Ref sig .tc := ⟨.hbm, 239, rfl⟩
abbrev main_call1_v0 : Ref sig .tc := ⟨.hbm, 240, rfl⟩
abbrev main_v207 : Ref sig .tc := ⟨.hbm, 241, rfl⟩

abbrev nD : Nat := 1
abbrev τ : Topo := Topo.v7x

variable {F : FTy → Type} [FloatOps F]
-- ==== Dact.lean ====
abbrev S8192x1024 : Shape := ⟨2, ![8192, 1024]⟩
abbrev S2816x1024 : Shape := ⟨2, ![2816, 1024]⟩
abbrev S8192x2816 : Shape := ⟨2, ![8192, 2816]⟩
abbrev S4096x1024 : Shape := ⟨2, ![4096, 1024]⟩
abbrev S256x1024 : Shape := ⟨2, ![256, 1024]⟩
abbrev S4096x256 : Shape := ⟨2, ![4096, 256]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S4096x1024, .bf16⟩
  | .local _ .vmem, ⟨1, _⟩ => ⟨S4096x1024, .bf16⟩
  | .local _ .vmem, ⟨2, _⟩ => ⟨S256x1024, .bf16⟩
  | .local _ .vmem, ⟨3, _⟩ => ⟨S256x1024, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefDactIdeal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .bf16⟩
  | .hbm, ⟨31, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Dwd.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwdIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dwg.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwgIdeal.lean ====
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x2816, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dgrad.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S8x1024 : Shape := ⟨2, ![8, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 15
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S8x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RefDgradIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S1024 : Shape := ⟨1, ![1024]⟩
abbrev S5x1024 : Shape := ⟨2, ![5, 1024]⟩
abbrev S8x1024 : Shape := ⟨2, ![8, 1024]⟩

abbrev nBuf : Space → Nat
  | .hbm => 83
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S1x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S2816x1024, .f32⟩
  | .hbm, ⟨37, _⟩ => ⟨S1024x2816, .f32⟩
  | .hbm, ⟨38, _⟩ => ⟨S8192x2816, .f32⟩
  | .hbm, ⟨39, _⟩ => ⟨S2816x1024, .f32⟩
  | .hbm, ⟨40, _⟩ => ⟨S1024x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S5x1024, .f32⟩
  | .hbm, ⟨82, _⟩ => ⟨S8x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_11 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== Up.lean ====
abbrev S8192x1024 : Shape := ⟨2, ![8192, 1024]⟩
abbrev S2816x1024 : Shape := ⟨2, ![2816, 1024]⟩
abbrev S8192x2816 : Shape := ⟨2, ![8192, 2816]⟩
abbrev S4096x1024 : Shape := ⟨2, ![4096, 1024]⟩
abbrev S256x1024 : Shape := ⟨2, ![256, 1024]⟩
abbrev S4096x256 : Shape := ⟨2, ![4096, 256]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S4096x1024, .bf16⟩
  | .local _ .vmem, ⟨1, _⟩ => ⟨S4096x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefUpIdeal.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x1024, .f32⟩
  | .hbm, ⟨4, _⟩ => ⟨S2816x1024, .f32⟩
  | .hbm, ⟨5, _⟩ => ⟨S1024x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S8192x2816, .f32⟩
  | .hbm, ⟨10, _⟩ => ⟨S8192x2816, .bf16⟩
  | .hbm, ⟨11, _⟩ => ⟨S8192x2816, .bf16⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefDownIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Gate.lean ====
abbrev S8192x1024 : Shape := ⟨2, ![8192, 1024]⟩
abbrev S1x1024 : Shape := ⟨2, ![1, 1024]⟩
abbrev S8x1024 : Shape := ⟨2, ![8, 1024]⟩
abbrev S512x1024 : Shape := ⟨2, ![512, 1024]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .bf16⟩
  | .hbm, ⟨4, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RefGateIdeal.lean ====
abbrev S8192x1024 : Shape := ⟨2, ![8192, 1024]⟩
abbrev S1x1024 : Shape := ⟨2, ![1, 1024]⟩
abbrev S_ : Shape := ⟨0, ![]⟩
abbrev S1024 : Shape := ⟨1, ![1024]⟩
abbrev S8x1024 : Shape := ⟨2, ![8, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S_, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S8192x1024, .bf16⟩
  | .hbm, ⟨21, _⟩ => ⟨S_, .i32⟩
  | .hbm, ⟨22, _⟩ => ⟨S_, .f32⟩
  | .hbm, ⟨23, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_call0_v0 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Mgate.lean ====
abbrev S8192x1024 : Shape := ⟨2, ![8192, 1024]⟩
abbrev S1x1024 : Shape := ⟨2, ![1, 1024]⟩
abbrev S8x1024 : Shape := ⟨2, ![8, 1024]⟩
abbrev S512x1024 : Shape := ⟨2, ![512, 1024]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .bf16⟩
  | .hbm, ⟨4, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RefMgateIdeal.lean ====
abbrev S8192x1024 : Shape := ⟨2, ![8192, 1024]⟩
abbrev S1x1024 : Shape := ⟨2, ![1, 1024]⟩
abbrev S_ : Shape := ⟨0, ![]⟩
abbrev S1024 : Shape := ⟨1, ![1024]⟩
abbrev S8x1024 : Shape := ⟨2, ![8, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S_, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S8192x1024, .bf16⟩
  | .hbm, ⟨15, _⟩ => ⟨S_, .i32⟩
  | .hbm, ⟨16, _⟩ => ⟨S_, .f32⟩
  | .hbm, ⟨17, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== Gnorm.lean ====
abbrev S8192x512 : Shape := ⟨2, ![8192, 512]⟩
abbrev S8192x5632 : Shape := ⟨2, ![8192, 5632]⟩
abbrev S1x512 : Shape := ⟨2, ![1, 512]⟩
abbrev S8192x1536 : Shape := ⟨2, ![8192, 1536]⟩
abbrev S8x512 : Shape := ⟨2, ![8, 512]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S8192x5632, .f32⟩
  | .hbm, ⟨2, _⟩ => ⟨S1x512, .f32⟩
  | .hbm, ⟨3, _⟩ => ⟨S8192x1536, .f32⟩
  | .hbm, ⟨4, _⟩ => ⟨S8192x512, .f32⟩
  | .hbm, ⟨5, _⟩ => ⟨S8192x512, .bf16⟩
  | .hbm, ⟨6, _⟩ => ⟨S8x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .bf16⟩
  | .local _ .vmem, ⟨10, _⟩ => ⟨S512x512, .bf16⟩
  | .local _ .vmem, ⟨11, _⟩ => ⟨S8x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RefGnormIdeal.lean ====
abbrev S8192x512 : Shape := ⟨2, ![8192, 512]⟩
abbrev S8192x5632 : Shape := ⟨2, ![8192, 5632]⟩
abbrev S1x512 : Shape := ⟨2, ![1, 512]⟩
abbrev S8192x1536 : Shape := ⟨2, ![8192, 1536]⟩
abbrev S_ : Shape := ⟨0, ![]⟩
abbrev S8192 : Shape := ⟨1, ![8192]⟩
abbrev S8192x1 : Shape := ⟨2, ![8192, 1]⟩
abbrev S512 : Shape := ⟨1, ![512]⟩
abbrev S8x512 : Shape := ⟨2, ![8, 512]⟩

abbrev nBuf : Space → Nat
  | .hbm => 72
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x5632, .f32⟩
  | .hbm, ⟨2, _⟩ => ⟨S1x512, .f32⟩
  | .hbm, ⟨3, _⟩ => ⟨S8192x1536, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S_, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S_, .f32⟩
  | .hbm, ⟨41, _⟩ => ⟨S512, .f32⟩
  | .hbm, ⟨42, _⟩ => ⟨S1x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x512, .f32⟩
  | .hbm, ⟨50, _⟩ => ⟨S8192x512, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S8192x512, .f32⟩
  | .hbm, ⟨66, _⟩ => ⟨S8192x512, .f32⟩
  | .hbm, ⟨67, _⟩ => ⟨S8192x512, .f32⟩
  | .hbm, ⟨68, _⟩ => ⟨S8192x512, .bf16⟩
  | .hbm, ⟨69, _⟩ => ⟨S_, .i32⟩
  | .hbm, ⟨70, _⟩ => ⟨S_, .f32⟩
  | .hbm, ⟨71, _⟩ => ⟨S8x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_3 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v40 : Ref sig .tc := ⟨.hbm, 67, rfl⟩
abbrev main_v41 : Ref sig .tc := ⟨.hbm, 68, rfl⟩
abbrev main_c : Ref sig .tc := ⟨.hbm, 69, rfl⟩
abbrev main_call2_v0 : Ref sig .tc := ⟨.hbm, 70, rfl⟩
abbrev main_v42 : Ref sig .tc := ⟨.hbm, 71, rfl⟩

abbrev nD : Nat := 1
abbrev τ : Topo := Topo.v7x

variable {F : FTy → Type} [FloatOps F]
-- ==== Conv.lean ====
abbrev S8192x5632 : Shape := ⟨2, ![8192, 5632]⟩
abbrev S8192x1024 : Shape := ⟨2, ![8192, 1024]⟩
abbrev S4x1024 : Shape := ⟨2, ![4, 1024]⟩
abbrev S8x1024 : Shape := ⟨2, ![8, 1024]⟩
abbrev S8192x128 : Shape := ⟨2, ![8192, 128]⟩
abbrev S4x128 : Shape := ⟨2, ![4, 128]⟩
abbrev S8x128 : Shape := ⟨2, ![8, 128]⟩
abbrev S1x128 : Shape := ⟨2, ![1, 128]⟩
abbrev S128 : Shape := ⟨1, ![128]⟩
abbrev S3x128 : Shape := ⟨2, ![3, 128]⟩

abbrev nBuf : Space → Nat
  | .hbm => 6
  | .vmem => 12
  | .smem => 0
  | _ => 0

abbrev bufTy : (tb : Table) → Fin (tcTables nBuf tb) → BufTy
  | .hbm, ⟨0, _⟩ => ⟨S8192x5632, .f32⟩
  | .hbm, ⟨1, _⟩ => ⟨S8192x1024, .f32⟩
  | .hbm, ⟨2, _⟩ => ⟨S8192x1024, .f32⟩
  | .hbm, ⟨3, _⟩ => ⟨S4x1024, .f32⟩
  | .hbm, ⟨4, _⟩ => ⟨S8192x1024, .bf16⟩
  | .hbm, ⟨5, _⟩ => ⟨S8x1024, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S4x128, .f32⟩
  | .local _ .vmem, ⟨7, _⟩ => ⟨S4x128, .f32⟩
  | .local _ .vmem, ⟨8, _⟩ => ⟨S8192x128, .bf16⟩
  | .local _ .vmem, ⟨9, _⟩ => ⟨S8192x128, .bf16⟩
  | .local _ .vmem, ⟨10, _⟩ => ⟨S8x128, .f32⟩
  | .local _ .vmem, ⟨11, _⟩ => ⟨S8x128, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefConvIdeal.lean ====
abbrev S8192x5632 : Shape := ⟨2, ![8192, 5632]⟩
abbrev S8192x1024 : Shape := ⟨2, ![8192, 1024]⟩
abbrev S4x1024 : Shape := ⟨2, ![4, 1024]⟩
abbrev S_ : Shape := ⟨0, ![]⟩
abbrev S1x1024 : Shape := ⟨2, ![1, 1024]⟩
abbrev S3x1024 : Shape := ⟨2, ![3, 1024]⟩
abbrev S8189x1024 : Shape := ⟨2, ![8189, 1024]⟩
abbrev S2x1024 : Shape := ⟨2, ![2, 1024]⟩
abbrev S8190x1024 : Shape := ⟨2, ![8190, 1024]⟩
abbrev S8191x1024 : Shape := ⟨2, ![8191, 1024]⟩
abbrev S1024 : Shape := ⟨1, ![1024]⟩
abbrev S8x1024 : Shape := ⟨2, ![8, 1024]⟩

abbrev nBuf : Space → Nat
  | .hbm => 119
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x1024, .f32⟩
  | .hbm, ⟨2, _⟩ => ⟨S8192x1024, .f32⟩
  | .hbm, ⟨3, _⟩ => ⟨S4x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S1x1024, .f32⟩
  | .hbm, ⟨24, _⟩ => ⟨S_, .f32⟩
  | .hbm, ⟨25, _⟩ => ⟨S3x1024, .f32⟩
  | .hbm, ⟨26, _⟩ => ⟨S8189x1024, .f32⟩
  | .hbm, ⟨27, _⟩ => ⟨S8192x1024, .f32⟩
  | .hbm, ⟨28, _⟩ => ⟨S_, .f32⟩
  | .hbm, ⟨29, _⟩ => ⟨S3x1024, .f32⟩
  | .hbm, ⟨30, _⟩ => ⟨S_, .f32⟩
  | .hbm, ⟨31, _⟩ => ⟨S2x1024, .f32⟩
  | .hbm, ⟨32, _⟩ => ⟨S8190x1024, .f32⟩
  | .hbm, ⟨33, _⟩ => ⟨S8192x1024, .f32⟩
  | .hbm, ⟨34, _⟩ => ⟨S_, .f32⟩
  | .hbm, ⟨35, _⟩ => ⟨S2x1024, .f32⟩
  | .hbm, ⟨36, _⟩ => ⟨S_, .f32⟩
  | .hbm, ⟨37, _⟩ => ⟨S1x1024, .f32⟩
  | .hbm, ⟨38, _⟩ => ⟨S8191x1024, .f32⟩
  | .hbm, ⟨39, _⟩ => ⟨S8192x1024, .f32⟩
  | .hbm, ⟨40, _⟩ => ⟨S_, .f32⟩
  | .hbm, ⟨41, _⟩ => ⟨S1x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S_, .f32⟩
  | .hbm, ⟨72, _⟩ => ⟨S4x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S_, .f32⟩
  | .hbm, ⟨80, _⟩ => ⟨S4x1024, .f32⟩
  | .hbm, ⟨81, _⟩ => ⟨S4x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S_, .f32⟩
  | .hbm, ⟨89, _⟩ => ⟨S4x1024, .f32⟩
  | .hbm, ⟨90, _⟩ => ⟨S4x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S_, .f32⟩
  | .hbm, ⟨95, _⟩ => ⟨S1024, .f32⟩
  | .hbm, ⟨96, _⟩ => ⟨S1x1024, .f32⟩
  | .hbm, ⟨97, _⟩ => ⟨S_, .f32⟩
  | .hbm, ⟨98, _⟩ => ⟨S4x1024, .f32⟩
  | .hbm, ⟨99, _⟩ => ⟨S4x1024, .f32⟩
  | .hbm, ⟨100, _⟩ => ⟨S1x1024, .f32⟩
  | .hbm, ⟨101, _⟩ => ⟨S8191x1024, .f32⟩
  | .hbm, ⟨102, _⟩ => ⟨S_, .f32⟩
  | .hbm, ⟨103, _⟩ => ⟨S8192x1024, .f32⟩
  | .hbm, ⟨104, _⟩ => ⟨S8192x1024, .f32⟩
  | .hbm, ⟨105, _⟩ => ⟨S2x1024, .f32⟩
  | .hbm, ⟨106, _⟩ => ⟨S8190x1024, .f32⟩
  | .hbm, ⟨107, _⟩ => ⟨S_, .f32⟩
  | .hbm, ⟨108, _⟩ => ⟨S8192x1024, .f32⟩
  | .hbm, ⟨109, _⟩ => ⟨S8192x1024, .f32⟩
  | .hbm, ⟨110, _⟩ => ⟨S3x1024, .f32⟩
  | .hbm, ⟨111, _⟩ => ⟨S8189x1024, .f32⟩
  | .hbm, ⟨112, _⟩ => ⟨S_, .f32⟩
  | .hbm, ⟨113, _⟩ => ⟨S8192x1024, .f32⟩
  | .hbm, ⟨114, _⟩ => ⟨S8192x1024, .f32⟩
  | .hbm, ⟨115, _⟩ => ⟨S8192x1024, .bf16⟩
  | .hbm, ⟨116, _⟩ => ⟨S_, .f32⟩
  | .hbm, ⟨117, _⟩ => ⟨S3x1024, .f32⟩
  | .hbm, ⟨118, _⟩ => ⟨S8x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v1 : Ref sig .tc := ⟨.hbm, 20, rfl⟩
abbrev main_v2 : Ref sig .tc := ⟨.hbm, 21, rfl⟩
abbrev main_cst : Ref sig .tc := ⟨.hbm, 22, rfl⟩
abbrev main_v3 : Ref sig .tc := ⟨.hbm, 23, rfl⟩
abbrev main_cst_0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst_1 : Ref sig .tc := ⟨.hbm, 28, rfl⟩
abbrev main_v7 : Ref sig .tc := ⟨.hbm, 29, rfl⟩
abbrev main_cst_2 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_3 : Ref sig .tc := ⟨.hbm, 34, rfl⟩
abbrev main_v11 : Ref sig .tc := ⟨.hbm, 35, rfl⟩
abbrev main_cst_4 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_5 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_6 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_7 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_v47 : Ref sig .tc := ⟨.hbm, 78, rfl⟩
abbrev main_cst_11 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_12 : Ref sig .tc := ⟨.hbm, 85, rfl⟩
abbrev main_v53 : Ref sig .tc := ⟨.hbm, 86, rfl⟩
abbrev main_v54 : Ref sig .tc := ⟨.hbm, 87, rfl⟩
abbrev main_cst_13 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_14 : Ref sig .tc := ⟨.hbm, 94, rfl⟩
abbrev main_v60 : Ref sig .tc := ⟨.hbm, 95, rfl⟩
abbrev main_v61 : Ref sig .tc := ⟨.hbm, 96, rfl⟩
abbrev main_cst_15 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_16 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_17 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_18 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_19 : Ref sig .tc := ⟨.hbm, 116, rfl⟩
abbrev main_v77 : Ref sig .tc := ⟨.hbm, 117, rfl⟩
abbrev main_v78 : Ref sig .tc := ⟨.hbm, 118, rfl⟩

abbrev nD : Nat := 1
abbrev τ : Topo := Topo.v7x

variable {F : FTy → Type} [FloatOps F]
-- ==== Proj.lean ====
abbrev S8192x1024 : Shape := ⟨2, ![8192, 1024]⟩
abbrev S5632x1024 : Shape := ⟨2, ![5632, 1024]⟩
abbrev S8192x5632 : Shape := ⟨2, ![8192, 5632]⟩
abbrev S4096x1024 : Shape := ⟨2, ![4096, 1024]⟩
abbrev S512x1024 : Shape := ⟨2, ![512, 1024]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x5632, .f32⟩
  | .local _ .vmem, ⟨0, _⟩ => ⟨S4096x1024, .bf16⟩
  | .local _ .vmem, ⟨1, _⟩ => ⟨S4096x1024, .bf16⟩
  | .local _ .vmem, ⟨2, _⟩ => ⟨S512x1024, .bf16⟩
  | .local _ .vmem, ⟨3, _⟩ => ⟨S512x1024, .bf16⟩
  | .local _ .vmem, ⟨4, _⟩ => ⟨S4096x512, .f32⟩
  | .local _ .vmem, ⟨5, _⟩ => ⟨S4096x512, .f32⟩
  | .local _ .vmem, ⟨6, _⟩ => ⟨S4096x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefProjIdeal.lean ====
abbrev S8192x1024 : Shape := ⟨2, ![8192, 1024]⟩
abbrev S5632x1024 : Shape := ⟨2, ![5632, 1024]⟩
abbrev S1024x5632 : Shape := ⟨2, ![1024, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x1024, .f32⟩
  | .hbm, ⟨3, _⟩ => ⟨S5632x1024, .f32⟩
  | .hbm, ⟨4, _⟩ => ⟨S1024x5632, .f32⟩
  | .hbm, ⟨5, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Dycat.lean ====
abbrev S8192x1024 : Shape := ⟨2, ![8192, 1024]⟩
abbrev S1536x1024 : Shape := ⟨2, ![1536, 1024]⟩
abbrev S8192x1536 : Shape := ⟨2, ![8192, 1536]⟩
abbrev S4096x1024 : Shape := ⟨2, ![4096, 1024]⟩
abbrev S512x1024 : Shape := ⟨2, ![512, 1024]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1536x1024, .bf16⟩
  | .hbm, ⟨2, _⟩ => ⟨S8192x1536, .f32⟩
  | .local _ .vmem, ⟨0, _⟩ => ⟨S4096x1024, .bf16⟩
  | .local _ .vmem, ⟨1, _⟩ => ⟨S4096x1024, .bf16⟩
  | .local _ .vmem, ⟨2, _⟩ => ⟨S512x1024, .bf16⟩
  | .local _ .vmem, ⟨3, _⟩ => ⟨S512x1024, .bf16⟩
  | .local _ .vmem, ⟨4, _⟩ => ⟨S4096x512, .f32⟩
  | .local _ .vmem, ⟨5, _⟩ => ⟨S4096x512, .f32⟩
  | .local _ .vmem, ⟨6, _⟩ => ⟨S4096x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDycatIdeal.lean ====
abbrev S8192x1024 : Shape := ⟨2, ![8192, 1024]⟩
abbrev S1536x1024 : Shape := ⟨2, ![1536, 1024]⟩
abbrev S_ : Shape := ⟨0, ![]⟩
abbrev S8192x1536 : Shape := ⟨2, ![8192, 1536]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1536x1024, .bf16⟩
  | .hbm, ⟨2, _⟩ => ⟨S_, .f32⟩
  | .hbm, ⟨3, _⟩ => ⟨S8192x1536, .f32⟩
  | .hbm, ⟨4, _⟩ => ⟨S1536x1024, .f32⟩
  | .hbm, ⟨5, _⟩ => ⟨S8192x1024, .f32⟩
  | .hbm, ⟨6, _⟩ => ⟨S8192x1024, .f32⟩
  | .hbm, ⟨7, _⟩ => ⟨S8192x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Mout.lean ====
abbrev S8192x1536 : Shape := ⟨2, ![8192, 1536]⟩
abbrev S1536x1024 : Shape := ⟨2, ![1536, 1024]⟩
abbrev S8192x1024 : Shape := ⟨2, ![8192, 1024]⟩
abbrev S1x1024 : Shape := ⟨2, ![1, 1024]⟩
abbrev S512x1536 : Shape := ⟨2, ![512, 1536]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1536, .bf16⟩
  | .hbm, ⟨1, _⟩ => ⟨S1536x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .local _ .vmem, ⟨0, _⟩ => ⟨S512x1536, .bf16⟩
  | .local _ .vmem, ⟨1, _⟩ => ⟨S512x1536, .bf16⟩
  | .local _ .vmem, ⟨2, _⟩ => ⟨S1536x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefMoutIdeal.lean ====
abbrev S8192x1536 : Shape := ⟨2, ![8192, 1536]⟩
abbrev S1536x1024 : Shape := ⟨2, ![1536, 1024]⟩
abbrev S8192x1024 : Shape := ⟨2, ![8192, 1024]⟩
abbrev S1x1024 : Shape := ⟨2, ![1, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S1536x1024, .bf16⟩
  | .hbm, ⟨2, _⟩ => ⟨S8192x1024, .f32⟩
  | .hbm, ⟨3, _⟩ => ⟨S1x1024, .f32⟩
  | .hbm, ⟨4, _⟩ => ⟨S8192x1536, .f32⟩
  | .hbm, ⟨5, _⟩ => ⟨S1536x1024, .f32⟩
  | .hbm, ⟨6, _⟩ => ⟨S8192x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Dwout.lean ====
abbrev S8192x1536 : Shape := ⟨2, ![8192, 1536]⟩
abbrev S8192x1024 : Shape := ⟨2, ![8192, 1024]⟩
abbrev S1536x1024 : Shape := ⟨2, ![1536, 1024]⟩
abbrev S2048x1536 : Shape := ⟨2, ![2048, 1536]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S1536x1024, .bf16⟩
  | .local _ .vmem, ⟨0, _⟩ => ⟨S2048x1536, .bf16⟩
  | .local _ .vmem, ⟨1, _⟩ => ⟨S2048x1536, .bf16⟩
  | .local _ .vmem, ⟨2, _⟩ => ⟨S2048x1024, .bf16⟩
  | .local _ .vmem, ⟨3, _⟩ => ⟨S2048x1024, .bf16⟩
  | .local _ .vmem, ⟨4, _⟩ => ⟨S1536x1024, .bf16⟩
  | .local _ .vmem, ⟨5, _⟩ => ⟨S1536x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefDwoutIdeal.lean ====
abbrev S8192x1536 : Shape := ⟨2, ![8192, 1536]⟩
abbrev S8192x1024 : Shape := ⟨2, ![8192, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 10
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S8192x1536, .f32⟩
  | .hbm, ⟨3, _⟩ => ⟨S_, .f32⟩
  | .hbm, ⟨4, _⟩ => ⟨S1536x1024, .f32⟩
  | .hbm, ⟨5, _⟩ => ⟨S8192x1024, .f32⟩
  | .hbm, ⟨6, _⟩ => ⟨S8192x1024, .f32⟩
  | .hbm, ⟨7, _⟩ => ⟨S1024x1536, .f32⟩
  | .hbm, ⟨8, _⟩ => ⟨S1536x1024, .f32⟩
  | .hbm, ⟨9, _⟩ => ⟨S1536x1024, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dwret.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwretIdeal.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDwretIdeal.lean ====
abbrev S8192x2048 : Shape := ⟨2, ![8192, 2048]⟩
abbrev S8192x1024 : Shape := ⟨2, ![8192, 1024]⟩
abbrev S_ : Shape := ⟨0, ![]⟩
abbrev S1024x2048 : Shape := ⟨2, ![1024, 2048]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S2048x1024, .f32⟩
  | .hbm, ⟨10, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dwxbc.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwxbcIdeal.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefDwxbcIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dwb.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwbIdeal.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefDwbIdeal.lean ====
abbrev S8192x512 : Shape := ⟨2, ![8192, 512]⟩
abbrev S8192x1024 : Shape := ⟨2, ![8192, 1024]⟩
abbrev S_ : Shape := ⟨0, ![]⟩
abbrev S1024x512 : Shape := ⟨2, ![1024, 512]⟩
abbrev S512x1024 : Shape := ⟨2, ![512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x512, .f32⟩
  | .hbm, ⟨5, _⟩ => ⟨S8192x512, .f32⟩
  | .hbm, ⟨6, _⟩ => ⟨S8192x512, .f32⟩
  | .hbm, ⟨7, _⟩ => ⟨S512x1024, .f32⟩
  | .hbm, ⟨8, _⟩ => ⟨S1024x512, .f32⟩
  | .hbm, ⟨9, _⟩ => ⟨S512x1024, .f32⟩
  | .hbm, ⟨10, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dwf.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S512x1024, .bf16⟩
  | .local _ .vmem, ⟨0, _⟩ => ⟨S2048x512, .f32⟩
  | .local _ .vmem, ⟨1, _⟩ => ⟨S2048x512, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefDwfIdeal.lean ====
abbrev S8192x512 : Shape := ⟨2, ![8192, 512]⟩
abbrev S8192x1024 : Shape := ⟨2, ![8192, 1024]⟩
abbrev S_ : Shape := ⟨0, ![]⟩
abbrev S1024x512 : Shape := ⟨2, ![1024, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x512, .f32⟩
  | .hbm, ⟨5, _⟩ => ⟨S8192x512, .f32⟩
  | .hbm, ⟨6, _⟩ => ⟨S512x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Mdgrad.lean ====
abbrev S8192x2048 : Shape := ⟨2, ![8192, 2048]⟩
abbrev S8192x512 : Shape := ⟨2, ![8192, 512]⟩
abbrev S8192x1024 : Shape := ⟨2, ![8192, 1024]⟩
abbrev S5632x1024 : Shape := ⟨2, ![5632, 1024]⟩
abbrev S1x1024 : Shape := ⟨2, ![1, 1024]⟩
abbrev S8x1024 : Shape := ⟨2, ![8, 1024]⟩
abbrev S512x2048 : Shape := ⟨2, ![512, 2048]⟩
abbrev S512x512 : Shape := ⟨2, ![512, 512]⟩
abbrev S512x1024 : Shape := ⟨2, ![512, 1024]⟩
abbrev S2048x1024 : Shape := ⟨2, ![2048, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 24
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S8192x512, .f32⟩
  | .hbm, ⟨3, _⟩ => ⟨S8192x512, .f32⟩
  | .hbm, ⟨4, _⟩ => ⟨S8192x512, .bf16⟩
  | .hbm, ⟨5, _⟩ => ⟨S8192x1024, .bf16⟩
  | .hbm, ⟨6, _⟩ => ⟨S8192x512, .bf16⟩
  | .hbm, ⟨7, _⟩ => ⟨S5632x1024, .bf16⟩
  | .hbm, ⟨8, _⟩ => ⟨S8192x1024, .f32⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8x1024, .f32⟩
  | .local _ .vmem, ⟨0, _⟩ => ⟨S512x2048, .bf16⟩
  | .local _ .vmem, ⟨1, _⟩ => ⟨S512x2048, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x512, .bf16⟩
  | .local _ .vmem, ⟨13, _⟩ => ⟨S512x512, .bf16⟩
  | .local _ .vmem, ⟨14, _⟩ => ⟨S5632x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S8x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S5632x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== RefMdgradIdeal.lean ====
abbrev S8192x2048 : Shape := ⟨2, ![8192, 2048]⟩
abbrev S8192x512 : Shape := ⟨2, ![8192, 512]⟩
abbrev S8192x1024 : Shape := ⟨2, ![8192, 1024]⟩
abbrev S5632x1024 : Shape := ⟨2, ![5632, 1024]⟩
abbrev S1x1024 : Shape := ⟨2, ![1, 1024]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S1024 : Shape := ⟨1, ![1024]⟩
abbrev S5x1024 : Shape := ⟨2, ![5, 1024]⟩
abbrev S8x1024 : Shape := ⟨2, ![8, 1024]⟩

abbrev nBuf : Space → Nat
  | .hbm => 86
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S8192x512, .f32⟩
  | .hbm, ⟨3, _⟩ => ⟨S8192x512, .f32⟩
  | .hbm, ⟨4, _⟩ => ⟨S8192x512, .bf16⟩
  | .hbm, ⟨5, _⟩ => ⟨S8192x1024, .bf16⟩
  | .hbm, ⟨6, _⟩ => ⟨S8192x512, .bf16⟩
  | .hbm, ⟨7, _⟩ => ⟨S5632x1024, .bf16⟩
  | .hbm, ⟨8, _⟩ => ⟨S8192x1024, .f32⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S8192x2048, .f32⟩
  | .hbm, ⟨13, _⟩ => ⟨S8192x512, .f32⟩
  | .hbm, ⟨14, _⟩ => ⟨S8192x512, .f32⟩
  | .hbm, ⟨15, _⟩ => ⟨S8192x1024, .f32⟩
  | .hbm, ⟨16, _⟩ => ⟨S8192x512, .f32⟩
  | .hbm, ⟨17, _⟩ => ⟨S8192x5632, .f32⟩
  | .hbm, ⟨18, _⟩ => ⟨S_, .f32⟩
  | .hbm, ⟨19, _⟩ => ⟨S1x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S5632x1024, .f32⟩
  | .hbm, ⟨47, _⟩ => ⟨S1024x5632, .f32⟩
  | .hbm, ⟨48, _⟩ => ⟨S8192x5632, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S5x1024, .f32⟩
  | .hbm, ⟨85, _⟩ => ⟨S8x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]
-- ==== Proof.Stores.lean ====
/- An element of a buffer written one rectangle at a time, read off the newest store that covers it. -/
module

public import Idealize.ShloMosaic.Lib.Pipeline.ValueKit

@[expose] public section

noncomputable section

namespace Cert.Ret

open Idealize.ShloMosaic Idealize.ShloMosaic.TcCoe Idealize.SL.Sem

theorem canon_hit {s : Shape} {e : EltTy} {off size : Fin s.rank → ℕ} (inb : ∀ a, off a + size a ≤ s.size a)
    (w : (Rect.unit off size inb).shape.Idx → Elt Ideal e) (L : List (View.Piece (Elt Ideal) s e)) (y : s.Idx) (x : (Rect.unit off size inb).shape.Idx)
    (hx : ∀ a, (y a).val = off a + (x a).val) :
    View.canon ((⟨Rect.unit off size inb, w⟩ : View.Piece (Elt Ideal) s e) :: L) y = w x := by
  have hy : (Rect.unit off size inb).emb x = y := funext fun a => Fin.ext (by
    show off a + 1 * (x a).val = (y a).val
    rw [hx a, Nat.one_mul])
  rw [← hy]
  exact View.canon_cons_emb (Rect.unit off size inb) w L x

theorem canon_miss {s : Shape} {e : EltTy} {off size : Fin s.rank → ℕ} (inb : ∀ a, off a + size a ≤ s.size a)
    (w : (Rect.unit off size inb).shape.Idx → Elt Ideal e) (L : List (View.Piece (Elt Ideal) s e)) (y : s.Idx) (a : Fin s.rank)
    (ha : (y a).val < off a ∨ off a + size a ≤ (y a).val) :
    View.canon ((⟨Rect.unit off size inb, w⟩ : View.Piece (Elt Ideal) s e) :: L) y = View.canon L y := by
  refine View.canon_cons_of_not_mem (⟨Rect.unit off size inb, w⟩ : View.Piece (Elt Ideal) s e) L ?_
  rw [Rect.mem_set_unit]
  intro hall
  have := hall a
  omega

end Cert.Ret

end
-- ==== Proof.Reals.lean ====
/- The retention's backward pass over the real numbers, one head: its quantities as functions of token and lane
   numbers, and the two ways of summing it — over all tokens at once, or inside a block of 256 tokens plus what the
   running sums over the later and the earlier blocks carry — proved equal. -/
module

public import Mathlib.Analysis.SpecialFunctions.Exp
public import Mathlib.Analysis.SpecialFunctions.Pow.Real
public import Mathlib.Analysis.SpecialFunctions.Trigonometric.Basic
public import Mathlib.Analysis.SpecialFunctions.Log.Basic
public import Mathlib.Algebra.BigOperators.Fin

@[expose] public section

noncomputable section

namespace Cert.Ret

/-! ## The constants -/

/-- The angle of token `s` in rotary pair `j`. -/
def ang (s j : ℕ) : ℝ := (s : ℝ) * Real.rpow 10000 (-(j : ℝ) * (1 / 64))

/-- The logarithm of head `h`'s decay per token. -/
def lg (h : ℕ) : ℝ := Real.log (1 + -Real.rpow 2 (-5 - (h : ℝ)))

/-- The float word nearest to `1/√128`. -/
def sc : ℝ := 11863283 / 2 ^ 27

/-- The float word nearest to `1e-6`. -/
def eps : ℝ := 8796093 / 2 ^ 43

theorem eps_pos : 0 < eps := by unfold eps; positivity

/-! ## The quantities -/

/-- Rotary embedding of the rows of `x`. -/
def rot (x : ℕ → ℕ → ℝ) (s d : ℕ) : ℝ :=
  if d < 64 then x s d * Real.cos (ang s d) - x s (d + 64) * Real.sin (ang s d)
  else x s (d - 64) * Real.sin (ang s (d - 64)) + x s d * Real.cos (ang s (d - 64))

/-- The transposed rotation. -/
def rotT (x : ℕ → ℕ → ℝ) (s d : ℕ) : ℝ :=
  if d < 64 then x s d * Real.cos (ang s d) + x s (d + 64) * Real.sin (ang s d)
  else x s d * Real.cos (ang s (d - 64)) - x s (d - 64) * Real.sin (ang s (d - 64))

/-- The weight of key token `s` for query token `t`. -/
def dec (h t s : ℕ) : ℝ := if s / 64 ≤ t / 64 then Real.exp (lg h * |(t : ℝ) - s|) else 0

/-- The logistic function. -/
def lgi (x : ℝ) : ℝ := 1 / (1 + Real.exp (-x))

section
variable (p dy : ℕ → ℕ → ℝ) (gn : ℕ → ℝ) (h : ℕ)

/-- Rotated queries. -/
def Q (t d : ℕ) : ℝ := rot (fun s d => p s (128 * h + d)) t d
/-- Rotated and scaled keys. -/
def K (s d : ℕ) : ℝ := rot (fun s d => p s (512 + 128 * h + d)) s d * sc
/-- Values. -/
def Vv (s e : ℕ) : ℝ := p s (1024 + 128 * h + e)
/-- The gate's argument. -/
def gt (t e : ℕ) : ℝ := p t (1536 + 128 * h + e)
/-- The scores of a query against a key. -/
def sco (t s : ℕ) : ℝ := ∑ d : Fin 128, Q p h t d * K p h s d
/-- The retention before its norm. -/
def Y (t e : ℕ) : ℝ := ∑ s : Fin 8192, Vv p h s e * (sco p h t s * dec h t s)
/-- The mean square of a row, plus epsilon. -/
def ms (t : ℕ) : ℝ := (∑ e : Fin 128, Y p h t e * Y p h t e) * (1 / 128) + eps
/-- One over the root of it. -/
def rr (t : ℕ) : ℝ := (Real.sqrt (ms p h t))⁻¹
/-- The normed row. -/
def yhat (t e : ℕ) : ℝ := Y p h t e * rr p h t
/-- The cotangent of the normed row times its gain. -/
def dyn (t e : ℕ) : ℝ := dy t (128 * h + e) * (gt p h t e * lgi (gt p h t e))
/-- The cotangent of the normed row. -/
def dyhat (t e : ℕ) : ℝ := dyn p dy h t e * gn (128 * h + e)
/-- The cotangent of the retention before its norm. -/
def dY (t e : ℕ) : ℝ :=
  rr p h t * (dyhat p dy gn h t e - yhat p h t e * ((∑ e' : Fin 128, dyhat p dy gn h t e' * yhat p h t e') * (1 / 128)))

/-- The cotangent of the weighted scores. -/
def DS (t s : ℕ) : ℝ := (∑ e : Fin 128, dY p dy gn h t e * Vv p h s e) * dec h t s
/-- The cotangent of the rotated queries. -/
def DQ (t d : ℕ) : ℝ := ∑ s : Fin 8192, DS p dy gn h t s * K p h s d
/-- The cotangent of the rotated keys. -/
def DK (s d : ℕ) : ℝ := (∑ t : Fin 8192, DS p dy gn h t s * Q p h t d) * sc
/-- The cotangent of the values. -/
def DV (s e : ℕ) : ℝ := ∑ t : Fin 8192, dY p dy gn h t e * (sco p h t s * dec h t s)
/-- The cotangent of the gate's argument. -/
def DG (t e : ℕ) : ℝ :=
  dy t (128 * h + e) * (yhat p h t e * gn (128 * h + e)) * (lgi (gt p h t e) * (1 + gt p h t e * (1 - lgi (gt p h t e))))
/-- The cotangent of the gain. -/
def DN (e : ℕ) : ℝ := ∑ t : Fin 8192, dyn p dy h t e * yhat p h t e
end

/-! ## The norm's backward pass, in the form the derivative of `y · (mean y² + ε)^(-1/2)` takes -/

theorem ms_pos (p : ℕ → ℕ → ℝ) (h t : ℕ) : 0 < ms p h t := by
  unfold ms
  have h1 : 0 ≤ ∑ e : Fin 128, Y p h t e * Y p h t e := Finset.sum_nonneg fun e _ => mul_self_nonneg _
  have h2 := eps_pos
  positivity

theorem rr_sq (p : ℕ → ℕ → ℝ) (h t : ℕ) : rr p h t * rr p h t * ms p h t = 1 := by
  have hm := ms_pos p h t
  have hs : Real.sqrt (ms p h t) * Real.sqrt (ms p h t) = ms p h t := Real.mul_self_sqrt hm.le
  have hne : Real.sqrt (ms p h t) ≠ 0 := (Real.sqrt_pos.mpr hm).ne'
  unfold rr
  calc _ = (Real.sqrt (ms p h t))⁻¹ * (Real.sqrt (ms p h t))⁻¹ * (Real.sqrt (ms p h t) * Real.sqrt (ms p h t)) := by rw [hs]
    _ = 1 := by field_simp

theorem norm_back (p dy : ℕ → ℕ → ℝ) (gn : ℕ → ℝ) (h t e : ℕ) :
    dyhat p dy gn h t e * rr p h t
      + Y p h t e * ((∑ e' : Fin 128, Y p h t e' * dyhat p dy gn h t e') * (-(1 / 2) * (rr p h t * (1 / ms p h t))) * (1 / 128))
      + ((∑ e' : Fin 128, Y p h t e' * dyhat p dy gn h t e') * (-(1 / 2) * (rr p h t * (1 / ms p h t))) * (1 / 128)) * Y p h t e
    = dY p dy gn h t e := by
  have hm := ms_pos p h t
  have hr : 1 / ms p h t = rr p h t * rr p h t := by
    rw [div_eq_iff hm.ne', rr_sq]
  have hs : ∑ e' : Fin 128, dyhat p dy gn h t e' * yhat p h t e' = rr p h t * ∑ e' : Fin 128, Y p h t e' * dyhat p dy gn h t e' := by
    rw [Finset.mul_sum]
    exact Finset.sum_congr rfl fun _ _ => by unfold yhat; ring
  unfold dY
  rw [hs, hr]
  unfold yhat
  ring

/-! ## Splitting a sum over the tokens at a block -/

/-- The tokens of block `b`, and the others. -/
theorem sum_block (b : ℕ) (hb : b < 32) (f : ℕ → ℝ) :
    ∑ t : Fin 8192, (if (t : ℕ) / 256 = b then f t else 0) = ∑ i : Fin 256, f (256 * b + i) := by
  rw [← Finset.sum_filter]
  refine (Finset.sum_bij' (fun (i : Fin 256) _ => (⟨256 * b + i, by omega⟩ : Fin 8192))
    (fun t _ => (⟨t % 256, by omega⟩ : Fin 256)) ?_ ?_ ?_ ?_ ?_).symm
  · intro i _; simp only [Finset.mem_filter, Finset.mem_univ, true_and]; omega
  · intro t _; exact Finset.mem_univ _
  · intro i _; ext; simp only; omega
  · intro t ht
    simp only [Finset.mem_filter, Finset.mem_univ, true_and] at ht
    ext; simp only; omega
  · intro i _; rfl

/-- The decay inside a block of 256 tokens, of row `i` and column `j`. -/
def dm (h i j : ℕ) : ℝ := if i / 64 = j / 64 ∨ j / 64 < i / 64 then Real.exp (lg h * |(i : ℝ) - j|) else 0

/-- What the blocks from `a` on weigh token `t` with in the sum they carry. -/
def wG (h a t : ℕ) : ℝ := if 256 * a ≤ t then Real.exp (lg h * ((t : ℝ) - 256 * a + 1)) else 0

/-- What the state at the start of block `b` weighs token `s` with. -/
def wS (h b s : ℕ) : ℝ := if 0 ≤ (b : ℝ) * 256 - 1 - s then Real.exp (lg h * ((b : ℝ) * 256 - 1 - s)) else 0

theorem wS_of_lt (h b s : ℕ) (hs : s < 256 * b) : wS h b s = Real.exp (lg h * ((b : ℝ) * 256 - 1 - s)) := by
  unfold wS
  rw [if_pos]
  have : (s : ℝ) + 1 ≤ 256 * b := by exact_mod_cast hs
  linarith

theorem wS_of_le (h b s : ℕ) (hs : 256 * b ≤ s) : wS h b s = 0 := by
  unfold wS
  rw [if_neg]
  have : (256 : ℝ) * b ≤ s := by exact_mod_cast hs
  intro h0
  linarith

theorem dec_in (h b i j : ℕ) : dec h (256 * b + i) (256 * b + j) = dm h i j := by
  unfold dec dm
  have e : (((256 * b + i : ℕ) : ℝ) - ((256 * b + j : ℕ) : ℝ)) = (i : ℝ) - j := by push_cast; ring
  rw [e]
  by_cases hc : j / 64 ≤ i / 64
  · rw [if_pos (by omega), if_pos (by omega)]
  · rw [if_neg (by omega), if_neg (by omega)]

/-- A column of the decay: inside the key's block, and over the later blocks. -/
theorem dec_col (h b t i : ℕ) (hi : i < 256) :
    dec h t (256 * b + i) = (if t / 256 = b then dm h (t - 256 * b) i else 0) + Real.exp (lg h * (255 - (i : ℝ))) * wG h (b + 1) t := by
  by_cases h1 : t / 256 = b
  · rw [if_pos h1]
    have ht : t = 256 * b + (t - 256 * b) := by omega
    have hw : wG h (b + 1) t = 0 := by unfold wG; rw [if_neg (by omega)]
    rw [hw, mul_zero, add_zero]
    conv_lhs => rw [ht]
    exact dec_in h b _ i
  · rw [if_neg h1, zero_add]
    by_cases h2 : t < 256 * b
    · unfold dec wG
      rw [if_neg (by omega), if_neg (by omega), mul_zero]
    · have h3 : 256 * (b + 1) ≤ t := by omega
      unfold dec wG
      rw [if_pos (by omega), if_pos h3, ← Real.exp_add]
      have h4 : ((256 * b + i : ℕ) : ℝ) ≤ t := by exact_mod_cast (by omega : 256 * b + i ≤ t)
      rw [abs_of_nonneg (by linarith)]
      congr 1
      push_cast
      ring

/-- A row of the decay: inside the query's block, and over the earlier blocks. -/
theorem dec_row (h b s i : ℕ) (hi : i < 256) :
    dec h (256 * b + i) s = (if s / 256 = b then dm h i (s - 256 * b) else 0) + Real.exp (lg h * ((i : ℝ) + 1)) * wS h b s := by
  by_cases h1 : s / 256 = b
  · rw [if_pos h1]
    have ht : s = 256 * b + (s - 256 * b) := by omega
    rw [wS_of_le h b s (by omega), mul_zero, add_zero]
    conv_lhs => rw [ht]
    exact dec_in h b i _
  · rw [if_neg h1, zero_add]
    by_cases h2 : s < 256 * b
    · unfold dec
      rw [if_pos (by omega), wS_of_lt h b s h2, ← Real.exp_add]
      have h4 : (s : ℝ) ≤ ((256 * b + i : ℕ) : ℝ) := by exact_mod_cast (by omega : s ≤ 256 * b + i)
      rw [abs_of_nonneg (by linarith)]
      congr 1
      push_cast
      ring
    · unfold dec
      rw [if_neg (by omega), wS_of_le h b s (by omega), mul_zero]

theorem sum_dec_col (h b i : ℕ) (hb : b < 32) (hi : i < 256) (f : ℕ → ℝ) :
    ∑ t : Fin 8192, f t * dec h t (256 * b + i)
      = ∑ j : Fin 256, f (256 * b + j) * dm h j i + Real.exp (lg h * (255 - (i : ℝ))) * ∑ t : Fin 8192, f t * wG h (b + 1) t := by
  have := sum_block b hb (fun t => f t * dm h (t - 256 * b) i)
  simp only [Nat.add_sub_cancel_left] at this
  rw [← this, Finset.mul_sum, ← Finset.sum_add_distrib]
  refine Finset.sum_congr rfl fun t _ => ?_
  rw [dec_col h b t i hi]
  by_cases h1 : (t : ℕ) / 256 = b
  · rw [if_pos h1, if_pos h1]; ring
  · rw [if_neg h1, if_neg h1]; ring

theorem sum_dec_row (h b i : ℕ) (hb : b < 32) (hi : i < 256) (f : ℕ → ℝ) :
    ∑ s : Fin 8192, f s * dec h (256 * b + i) s
      = ∑ j : Fin 256, f (256 * b + j) * dm h i j + Real.exp (lg h * ((i : ℝ) + 1)) * ∑ s : Fin 8192, f s * wS h b s := by
  have := sum_block b hb (fun s => f s * dm h i (s - 256 * b))
  simp only [Nat.add_sub_cancel_left] at this
  rw [← this, Finset.mul_sum, ← Finset.sum_add_distrib]
  refine Finset.sum_congr rfl fun s _ => ?_
  rw [dec_row h b s i hi]
  by_cases h1 : (s : ℕ) / 256 = b
  · rw [if_pos h1, if_pos h1]; ring
  · rw [if_neg h1, if_neg h1]; ring

/-! ## The blockwise forms -/

section
variable (p dy : ℕ → ℕ → ℝ) (gn : ℕ → ℝ) (h : ℕ)

/-- The sum that the blocks from `a` on carry to the earlier ones. -/
def Gs (a d e : ℕ) : ℝ := ∑ t : Fin 8192, wG h a t * (Q p h t d * dY p dy gn h t e)
/-- The state at the start of block `b`. -/
def St (b d e : ℕ) : ℝ := ∑ s : Fin 8192, Vv p h s e * (wS h b s * K p h s d)

theorem Gs_last (d e : ℕ) : Gs p dy gn h 32 d e = 0 := by
  unfold Gs
  refine Finset.sum_eq_zero fun t _ => ?_
  have : wG h 32 t = 0 := by unfold wG; rw [if_neg (by omega)]
  rw [this, zero_mul]

theorem wG_step (a t : ℕ) :
    wG h a t = Real.exp (lg h * 256) * wG h (a + 1) t + if t / 256 = a then Real.exp (lg h * (((t - 256 * a : ℕ) : ℝ) + 1)) else 0 := by
  unfold wG
  by_cases h1 : t / 256 = a
  · rw [if_pos (by omega), if_neg (by omega), if_pos h1, mul_zero, zero_add, Nat.cast_sub (by omega)]
    push_cast
    rfl
  · by_cases h2 : t < 256 * a
    · rw [if_neg (by omega), if_neg (by omega), if_neg h1, mul_zero, zero_add]
    · rw [if_pos (by omega), if_pos (by omega), if_neg h1, add_zero, ← Real.exp_add]
      congr 1
      push_cast
      ring

theorem Gs_step (a : ℕ) (ha : a < 32) (d e : ℕ) :
    Real.exp (lg h * 256) * Gs p dy gn h (a + 1) d e
      + ∑ i : Fin 256, (Q p h (256 * a + i) d * Real.exp (lg h * ((i : ℝ) + 1))) * dY p dy gn h (256 * a + i) e
    = Gs p dy gn h a d e := by
  have := sum_block a ha (fun t => (Q p h t d * Real.exp (lg h * (((t - 256 * a : ℕ) : ℝ) + 1))) * dY p dy gn h t e)
  simp only [Nat.add_sub_cancel_left] at this
  rw [← this]
  unfold Gs
  rw [Finset.mul_sum, ← Finset.sum_add_distrib]
  refine Finset.sum_congr rfl fun t _ => ?_
  rw [wG_step h a t]
  by_cases h1 : (t : ℕ) / 256 = a
  · rw [if_pos h1, if_pos h1]; ring
  · rw [if_neg h1, if_neg h1]; ring

theorem DV_block (b i e : ℕ) (hb : b < 32) (hi : i < 256) :
    ∑ j : Fin 256, (sco p h (256 * b + j) (256 * b + i) * dm h j i) * dY p dy gn h (256 * b + j) e
      + ∑ d : Fin 128, (K p h (256 * b + i) d * Real.exp (lg h * (255 - (i : ℝ)))) * Gs p dy gn h (b + 1) d e
    = DV p dy gn h (256 * b + i) e := by
  have hd : DV p dy gn h (256 * b + i) e
      = ∑ t : Fin 8192, (sco p h t (256 * b + i) * dY p dy gn h t e) * dec h t (256 * b + i) :=
    Finset.sum_congr rfl fun t _ => by ring
  rw [hd, sum_dec_col h b i hb hi (fun t => sco p h t (256 * b + i) * dY p dy gn h t e)]
  refine congrArg₂ (· + ·) ?_ ?_
  · exact Finset.sum_congr rfl fun t _ => by ring
  · unfold Gs sco
    simp only [Finset.mul_sum, Finset.sum_mul]
    rw [Finset.sum_comm]
    exact Finset.sum_congr rfl fun _ _ => Finset.sum_congr rfl fun _ _ => by ring

theorem DQ_block (b i d : ℕ) (hb : b < 32) (hi : i < 256) :
    ∑ j : Fin 256, ((∑ e : Fin 128, dY p dy gn h (256 * b + i) e * Vv p h (256 * b + j) e) * dm h i j) * K p h (256 * b + j) d
      + Real.exp (lg h * ((i : ℝ) + 1)) * ∑ e : Fin 128, dY p dy gn h (256 * b + i) e * St p h b d e
    = DQ p dy gn h (256 * b + i) d := by
  have hd : DQ p dy gn h (256 * b + i) d
      = ∑ s : Fin 8192, ((∑ e : Fin 128, dY p dy gn h (256 * b + i) e * Vv p h s e) * K p h s d) * dec h (256 * b + i) s :=
    Finset.sum_congr rfl fun s _ => by unfold DS; ring
  rw [hd, sum_dec_row h b i hb hi (fun s => (∑ e : Fin 128, dY p dy gn h (256 * b + i) e * Vv p h s e) * K p h s d)]
  refine congrArg₂ (· + ·) ?_ ?_
  · exact Finset.sum_congr rfl fun t _ => by ring
  · refine congrArg₂ (· * ·) rfl ?_
    unfold St
    simp only [Finset.mul_sum, Finset.sum_mul]
    rw [Finset.sum_comm]
    exact Finset.sum_congr rfl fun _ _ => Finset.sum_congr rfl fun _ _ => by ring

theorem DK_block (b i d : ℕ) (hb : b < 32) (hi : i < 256) :
    (∑ j : Fin 256, ((∑ e : Fin 128, dY p dy gn h (256 * b + j) e * Vv p h (256 * b + i) e) * dm h j i) * Q p h (256 * b + j) d
      + Real.exp (lg h * (255 - (i : ℝ))) * ∑ e : Fin 128, Vv p h (256 * b + i) e * Gs p dy gn h (b + 1) d e) * sc
    = DK p dy gn h (256 * b + i) d := by
  unfold DK
  refine congrArg (· * sc) ?_
  have hd : ∑ t : Fin 8192, DS p dy gn h t (256 * b + i) * Q p h t d
      = ∑ t : Fin 8192, ((∑ e : Fin 128, dY p dy gn h t e * Vv p h (256 * b + i) e) * Q p h t d) * dec h t (256 * b + i) :=
    Finset.sum_congr rfl fun s _ => by unfold DS; ring
  rw [hd, sum_dec_col h b i hb hi (fun t => (∑ e : Fin 128, dY p dy gn h t e * Vv p h (256 * b + i) e) * Q p h t d)]
  refine congrArg₂ (· + ·) ?_ ?_
  · exact Finset.sum_congr rfl fun t _ => by ring
  · refine congrArg₂ (· * ·) rfl ?_
    unfold Gs
    simp only [Finset.mul_sum, Finset.sum_mul]
    rw [Finset.sum_comm]
    exact Finset.sum_congr rfl fun _ _ => Finset.sum_congr rfl fun _ _ => by ring

end

/-- The gradient of the projected rows: columns of q, of k, of v and of the gate, a head having 128 of each. -/
def outD (p dy : ℕ → ℕ → ℝ) (gn : ℕ → ℝ) (t j : ℕ) : ℝ :=
  if j < 512 then rotT (DQ p dy gn (j / 128)) t (j % 128)
  else if j < 1024 then rotT (DK p dy gn ((j - 512) / 128)) t ((j - 512) % 128)
  else if j < 1536 then DV p dy gn ((j - 1024) / 128) t ((j - 1024) % 128)
  else DG p dy gn ((j - 1536) / 128) t ((j - 1536) % 128)

/-- The gradient of the normalisation's scale, in row 0. -/
def outN (p dy : ℕ → ℕ → ℝ) (a j : ℕ) : ℝ := if a < 1 then DN p dy (j / 128) (j % 128) else 0

end Cert.Ret
-- ==== Proof.Coe.lean ====
/- Reading the programs' operations at finite arguments: each literal as its real number, each operation on reals as the
   real operation, inside the extended reals. -/
module

public import proofs.«01_k».proof.Proof.Reals
public import Idealize.ShloMosaic.Lib.Pipeline.ValueKit
public import Idealize.ShloMosaic.Lib.Pointwise
public import Idealize.ShloMosaic.Lib.WordCmp

@[expose] public section

noncomputable section

namespace Cert.Ret

open Idealize.ShloMosaic Idealize.ShloMosaic.TcCoe Idealize.SL.Sem

/-! ## Literals -/

theorem lit_64 : Ideal.ofBits .f32 0x42800000#32 = ((64 : ℝ) : EReal) := by
  simp [Ideal.ofBits, Ideal.ieee, -EReal.coe_mul]; norm_num
theorem lit_10000 : Ideal.ofBits .f32 0x461C4000#32 = ((10000 : ℝ) : EReal) := by
  simp [Ideal.ofBits, Ideal.ieee, -EReal.coe_mul]; norm_num
theorem lit_2 : Ideal.ofBits .f32 0x40000000#32 = ((2 : ℝ) : EReal) := by
  simp [Ideal.ofBits, Ideal.ieee, -EReal.coe_mul]; norm_num
theorem lit_m5 : Ideal.ofBits .f32 0xC0A00000#32 = ((-5 : ℝ) : EReal) := by
  simp [Ideal.ofBits, Ideal.ieee, -EReal.coe_mul]; norm_num
theorem lit_128 : Ideal.ofBits .f32 0x43000000#32 = ((128 : ℝ) : EReal) := by
  simp [Ideal.ofBits, Ideal.ieee, -EReal.coe_mul]; norm_num
theorem lit_255 : Ideal.ofBits .f32 0x437F0000#32 = ((255 : ℝ) : EReal) := by
  simp [Ideal.ofBits, Ideal.ieee, -EReal.coe_mul]; norm_num
theorem lit_256 : Ideal.ofBits .f32 0x43800000#32 = ((256 : ℝ) : EReal) := by
  simp [Ideal.ofBits, Ideal.ieee, -EReal.coe_mul]; norm_num
theorem lit_mhalf : Ideal.ofBits .f32 0xBF000000#32 = ((-(1 / 2) : ℝ) : EReal) := by
  simp [Ideal.ofBits, Ideal.ieee, -EReal.coe_mul]; norm_num
theorem lit_1 : Ideal.ofBits .f32 0x3F800000#32 = ((1 : ℝ) : EReal) := by
  simp [Ideal.ofBits, Ideal.ieee, -EReal.coe_mul]; norm_num
theorem lit_0 : Ideal.ofBits .f32 0x00000000#32 = ((0 : ℝ) : EReal) := by
  simp [Ideal.ofBits, Ideal.ieee, -EReal.coe_mul]
theorem lit_sc : Ideal.ofBits .f32 0x3DB504F3#32 = (sc : EReal) := by
  simp [Ideal.ofBits, Ideal.ieee, -EReal.coe_mul, sc]; norm_num
theorem lit_eps : Ideal.ofBits .f32 0x358637BD#32 = (eps : EReal) := by
  simp [Ideal.ofBits, Ideal.ieee, -EReal.coe_mul, eps]; norm_num

/-- A counting index as a float. -/
theorem sit (n : ℕ) (h : n < 8192) : FloatOps.sitofp (F := Ideal) FTy.f32 (BitVec.ofNat 32 n) = ((n : ℝ) : EReal) := by
  show (((BitVec.ofNat 32 n).toInt : ℝ) : EReal) = _
  have : (BitVec.ofNat 32 n).toInt = (n : ℤ) := by
    rw [BitVec.toInt_eq_toNat_cond, BitVec.toNat_ofNat, Nat.mod_eq_of_lt (by omega), if_pos (by omega)]
  rw [this]
  simp

/-! ## Operations on reals -/

theorem coe_fsum {n : ℕ} (f : Fin n → ℝ) : ∑ i, ((f i : ℝ) : EReal) = ((∑ i, f i : ℝ) : EReal) := by
  induction n with
  | zero => simp
  | succ n ih => rw [Fin.sum_univ_succ, Fin.sum_univ_succ, ih, EReal.coe_add]

theorem div_r (x y : ℝ) (h : y ≠ 0) : Ideal.div (x : EReal) (y : EReal) = ((x * (1 / y) : ℝ) : EReal) := by
  rw [Ideal.div_coe h, EReal.coe_mul]

theorem rsqrt_r (x : ℝ) (h : 0 < x) : Ideal.rsqrt (x : EReal) = (((Real.sqrt x)⁻¹ : ℝ) : EReal) := by
  rw [Ideal.rsqrt_coe, if_neg (not_lt.mpr h.le), if_neg h.ne']

theorem lgi_r (x : ℝ) : Ideal.div ((1 : ℝ) : EReal) (((1 : ℝ) : EReal) + Ideal.exp (-(x : EReal))) = ((lgi x : ℝ) : EReal) := by
  rw [← EReal.coe_neg, Ideal.exp_coe, ← EReal.coe_add, div_r _ _ (by positivity)]
  unfold lgi
  rw [one_mul]

/-- The angle, as the programs compute it. -/
theorem ang_r (s j : ℕ) (hs : s < 8192) (hj : j < 64) :
    FloatOps.sitofp (F := Ideal) FTy.f32 (BitVec.ofNat 32 s)
      * Ideal.pow (Ideal.ofBits .f32 0x461C4000#32)
        (Ideal.div (-FloatOps.sitofp (F := Ideal) FTy.f32 (BitVec.ofNat 32 j)) (Ideal.ofBits .f32 0x42800000#32))
    = ((ang s j : ℝ) : EReal) := by
  rw [sit s hs, sit j (by omega), lit_10000, lit_64, ← EReal.coe_neg, div_r _ _ (by norm_num), Ideal.pow_coe_coe, ← EReal.coe_mul]
  rfl

theorem lg_arg_pos (h : ℕ) : 0 < 1 + -Real.rpow 2 (-5 - (h : ℝ)) := by
  have : Real.rpow 2 (-5 - (h : ℝ)) < 1 :=
    Real.rpow_lt_one_of_one_lt_of_neg (by norm_num) (by have := Nat.cast_nonneg (α := ℝ) h; linarith)
  linarith

/-- The decay's logarithm, as the programs compute it. -/
theorem lg_r (h : ℕ) (hh : h < 4) :
    Ideal.log1p (-Ideal.pow (Ideal.ofBits .f32 0x40000000#32)
      (Ideal.ofBits .f32 0xC0A00000#32 - FloatOps.sitofp (F := Ideal) FTy.f32 (BitVec.ofNat 32 h)))
    = ((lg h : ℝ) : EReal) := by
  rw [sit h (by omega), lit_2, lit_m5, ← EReal.coe_sub, Ideal.pow_coe_coe, ← EReal.coe_neg]
  unfold Ideal.log1p
  rw [show (1 : EReal) = ((1 : ℝ) : EReal) from rfl, ← EReal.coe_add, Ideal.log_coe, if_neg (not_le.mpr (lg_arg_pos h))]
  rfl

theorem abs_r (x : ℝ) : FloatOps.absf (F := Ideal) (φ := .f32) (x : EReal) = ((|x| : ℝ) : EReal) := by
  show max (x : EReal) (-(x : EReal)) = _
  rw [← EReal.coe_neg, abs_eq_max_neg]
  exact (EReal.coe_strictMono.monotone.map_max).symm

/-- The chunk number of a token. -/
theorem div64 (n : ℕ) (h : n < 8192) : IntOp.divsi .host (BitVec.ofNat 32 n) 64#32 = BitVec.ofNat 32 (n / 64) := by
  unfold IntOp.divsi
  have hm : (BitVec.ofNat 32 n).msb = false := by
    rw [BitVec.msb_eq_decide, BitVec.toNat_ofNat, Nat.mod_eq_of_lt (by omega)]
    simp; omega
  rw [if_neg (by unfold IntOp.SDivCorner; simp), BitVec.sdiv_eq, hm]
  apply BitVec.eq_of_toNat_eq
  show ((BitVec.ofNat 32 n) / 64#32).toNat = _
  rw [BitVec.toNat_udiv, BitVec.toNat_ofNat, BitVec.toNat_ofNat, BitVec.toNat_ofNat, Nat.mod_eq_of_lt (by omega),
    Nat.mod_eq_of_lt (by omega), Nat.mod_eq_of_lt (by omega)]

/-- A choice on a decided bit. -/
theorem select_dec {α : Type} (q : Prop) [Decidable q] (a b : α) : Scalar.select (BitVec.ofBool (decide q)) a b = if q then a else b := by
  unfold Scalar.select
  by_cases h : q <;> simp [h]

theorem coe_ite (q : Prop) [Decidable q] (a b : ℝ) : (if q then (a : EReal) else (b : EReal)) = ((if q then a else b : ℝ) : EReal) := by
  by_cases h : q <;> simp [h]

end Cert.Ret
-- ==== Proof.HostKeep.lean ====
module

public import proofs.«01_k».proof.Proof.Gen.KernelIdeal.Value
public import proofs.«01_k».proof.Proof.Coe

@[expose] public section

set_option maxRecDepth 16384

noncomputable section

namespace Cert.Ret

open Idealize.ShloMosaic Idealize.ShloMosaic.TcCoe Idealize.SL.Sem
open Cert.KernelIdeal Cert.KernelIdeal.Gen

variable (σ : Valuation τ sig (Elt Ideal)) (p dy : ℕ → ℕ → ℝ) (gn : ℕ → ℝ)

/-- The kernel's buffers after the host operations' first parts. -/
def E1 (σ : Valuation τ sig (Elt Ideal)) : Valuation τ sig (Elt Ideal) := StableHlo.after hostOps0 σ
def E2 (σ : Valuation τ sig (Elt Ideal)) : Valuation τ sig (Elt Ideal) := StableHlo.after hostOps0_1 (E1 σ)
def E3 (σ : Valuation τ sig (Elt Ideal)) : Valuation τ sig (Elt Ideal) := StableHlo.after hostOps0_2 (E2 σ)
def E4 (σ : Valuation τ sig (Elt Ideal)) : Valuation τ sig (Elt Ideal) := StableHlo.after hostOps0_3 (E3 σ)
def E5 (σ : Valuation τ sig (Elt Ideal)) : Valuation τ sig (Elt Ideal) := StableHlo.after hostOps0_4 (E4 σ)
def E6 (σ : Valuation τ sig (Elt Ideal)) : Valuation τ sig (Elt Ideal) := StableHlo.after hostOps0_5 (E5 σ)
def E7 (σ : Valuation τ sig (Elt Ideal)) : Valuation τ sig (Elt Ideal) := StableHlo.after hostOps0_6 (E6 σ)

theorem k2_v18 : E2 σ (Proc.tc.devRef main_v18) = E1 σ (Proc.tc.devRef main_v18) := by
  unfold E2; after_results_simp
theorem k3_v18 : E3 σ (Proc.tc.devRef main_v18) = E2 σ (Proc.tc.devRef main_v18) := by
  unfold E3; after_results_simp
theorem k4_v18 : E4 σ (Proc.tc.devRef main_v18) = E3 σ (Proc.tc.devRef main_v18) := by
  unfold E4; after_results_simp
theorem k5_v18 : E5 σ (Proc.tc.devRef main_v18) = E4 σ (Proc.tc.devRef main_v18) := by
  unfold E5; after_results_simp
theorem k6_v18 : E6 σ (Proc.tc.devRef main_v18) = E5 σ (Proc.tc.devRef main_v18) := by
  unfold E6; after_results_simp
theorem k7_v18 : E7 σ (Proc.tc.devRef main_v18) = E6 σ (Proc.tc.devRef main_v18) := by
  unfold E7; after_results_simp
theorem k2_v20 : E2 σ (Proc.tc.devRef main_v20) = E1 σ (Proc.tc.devRef main_v20) := by
  unfold E2; after_results_simp
theorem k3_v20 : E3 σ (Proc.tc.devRef main_v20) = E2 σ (Proc.tc.devRef main_v20) := by
  unfold E3; after_results_simp
theorem k4_v20 : E4 σ (Proc.tc.devRef main_v20) = E3 σ (Proc.tc.devRef main_v20) := by
  unfold E4; after_results_simp
theorem k5_v20 : E5 σ (Proc.tc.devRef main_v20) = E4 σ (Proc.tc.devRef main_v20) := by
  unfold E5; after_results_simp
theorem k6_v20 : E6 σ (Proc.tc.devRef main_v20) = E5 σ (Proc.tc.devRef main_v20) := by
  unfold E6; after_results_simp
theorem k7_v20 : E7 σ (Proc.tc.devRef main_v20) = E6 σ (Proc.tc.devRef main_v20) := by
  unfold E7; after_results_simp
theorem k4_v118 : E4 σ (Proc.tc.devRef main_v118) = E3 σ (Proc.tc.devRef main_v118) := by
  unfold E4; after_results_simp
theorem k5_v118 : E5 σ (Proc.tc.devRef main_v118) = E4 σ (Proc.tc.devRef main_v118) := by
  unfold E5; after_results_simp
theorem k6_v118 : E6 σ (Proc.tc.devRef main_v118) = E5 σ (Proc.tc.devRef main_v118) := by
  unfold E6; after_results_simp
theorem k7_v118 : E7 σ (Proc.tc.devRef main_v118) = E6 σ (Proc.tc.devRef main_v118) := by
  unfold E7; after_results_simp
theorem k6_v217 : E6 σ (Proc.tc.devRef main_v217) = E5 σ (Proc.tc.devRef main_v217) := by
  unfold E6; after_results_simp
theorem k7_v217 : E7 σ (Proc.tc.devRef main_v217) = E6 σ (Proc.tc.devRef main_v217) := by
  unfold E7; after_results_simp
theorem k7_v252 : E7 σ (Proc.tc.devRef main_v252) = E6 σ (Proc.tc.devRef main_v252) := by
  unfold E7; after_results_simp
theorem k1_arg0 : E1 σ (Proc.tc.devRef main_arg0) = σ (Proc.tc.devRef main_arg0) := by
  unfold E1; after_results_simp
theorem k2_arg0 : E2 σ (Proc.tc.devRef main_arg0) = E1 σ (Proc.tc.devRef main_arg0) := by
  unfold E2; after_results_simp
theorem k3_arg0 : E3 σ (Proc.tc.devRef main_arg0) = E2 σ (Proc.tc.devRef main_arg0) := by
  unfold E3; after_results_simp
theorem k4_arg0 : E4 σ (Proc.tc.devRef main_arg0) = E3 σ (Proc.tc.devRef main_arg0) := by
  unfold E4; after_results_simp
theorem k5_arg0 : E5 σ (Proc.tc.devRef main_arg0) = E4 σ (Proc.tc.devRef main_arg0) := by
  unfold E5; after_results_simp
theorem k6_arg0 : E6 σ (Proc.tc.devRef main_arg0) = E5 σ (Proc.tc.devRef main_arg0) := by
  unfold E6; after_results_simp
theorem k7_arg0 : E7 σ (Proc.tc.devRef main_arg0) = E6 σ (Proc.tc.devRef main_arg0) := by
  unfold E7; after_results_simp
theorem k1_arg1 : E1 σ (Proc.tc.devRef main_arg1) = σ (Proc.tc.devRef main_arg1) := by
  unfold E1; after_results_simp
theorem k2_arg1 : E2 σ (Proc.tc.devRef main_arg1) = E1 σ (Proc.tc.devRef main_arg1) := by
  unfold E2; after_results_simp
theorem k3_arg1 : E3 σ (Proc.tc.devRef main_arg1) = E2 σ (Proc.tc.devRef main_arg1) := by
  unfold E3; after_results_simp
theorem k4_arg1 : E4 σ (Proc.tc.devRef main_arg1) = E3 σ (Proc.tc.devRef main_arg1) := by
  unfold E4; after_results_simp
theorem k5_arg1 : E5 σ (Proc.tc.devRef main_arg1) = E4 σ (Proc.tc.devRef main_arg1) := by
  unfold E5; after_results_simp
theorem k6_arg1 : E6 σ (Proc.tc.devRef main_arg1) = E5 σ (Proc.tc.devRef main_arg1) := by
  unfold E6; after_results_simp
theorem k7_arg1 : E7 σ (Proc.tc.devRef main_arg1) = E6 σ (Proc.tc.devRef main_arg1) := by
  unfold E7; after_results_simp
theorem k1_arg2 : E1 σ (Proc.tc.devRef main_arg2) = σ (Proc.tc.devRef main_arg2) := by
  unfold E1; after_results_simp
theorem k2_arg2 : E2 σ (Proc.tc.devRef main_arg2) = E1 σ (Proc.tc.devRef main_arg2) := by
  unfold E2; after_results_simp
theorem k3_arg2 : E3 σ (Proc.tc.devRef main_arg2) = E2 σ (Proc.tc.devRef main_arg2) := by
  unfold E3; after_results_simp
theorem k4_arg2 : E4 σ (Proc.tc.devRef main_arg2) = E3 σ (Proc.tc.devRef main_arg2) := by
  unfold E4; after_results_simp
theorem k5_arg2 : E5 σ (Proc.tc.devRef main_arg2) = E4 σ (Proc.tc.devRef main_arg2) := by
  unfold E5; after_results_simp
theorem k6_arg2 : E6 σ (Proc.tc.devRef main_arg2) = E5 σ (Proc.tc.devRef main_arg2) := by
  unfold E6; after_results_simp
theorem k7_arg2 : E7 σ (Proc.tc.devRef main_arg2) = E6 σ (Proc.tc.devRef main_arg2) := by
  unfold E7; after_results_simp
theorem k2_v2 : E2 σ (Proc.tc.devRef main_v2) = E1 σ (Proc.tc.devRef main_v2) := by
  unfold E2; after_results_simp
theorem k2_v1 : E2 σ (Proc.tc.devRef main_v1) = E1 σ (Proc.tc.devRef main_v1) := by
  unfold E2; after_results_simp
theorem k2_v83 : E2 σ (Proc.tc.devRef main_v83) = E1 σ (Proc.tc.devRef main_v83) := by
  unfold E2; after_results_simp
theorem k2_v84 : E2 σ (Proc.tc.devRef main_v84) = E1 σ (Proc.tc.devRef main_v84) := by
  unfold E2; after_results_simp
theorem k4_v181 : E4 σ (Proc.tc.devRef main_v181) = E3 σ (Proc.tc.devRef main_v181) := by
  unfold E4; after_results_simp
theorem k4_v180 : E4 σ (Proc.tc.devRef main_v180) = E3 σ (Proc.tc.devRef main_v180) := by
  unfold E4; after_results_simp
theorem k6_v224 : E6 σ (Proc.tc.devRef main_v224) = E5 σ (Proc.tc.devRef main_v224) := by
  unfold E6; after_results_simp
theorem k6_v225 : E6 σ (Proc.tc.devRef main_v225) = E5 σ (Proc.tc.devRef main_v225) := by
  unfold E6; after_results_simp

/-- The three arguments hold real numbers. -/
structure KArgs (σ : Valuation τ sig (Elt Ideal)) (p dy : ℕ → ℕ → ℝ) (gn : ℕ → ℝ) : Prop where
  arg0 : ∀ (s : Fin 8192) (j : Fin 5632), σ (Proc.tc.devRef main_arg0) (ix2 s j) = ((p s j : ℝ) : EReal)
  arg1 : ∀ (j : Fin 512), σ (Proc.tc.devRef main_arg1) (ix2 0 j) = ((gn j : ℝ) : EReal)
  arg2 : ∀ (s : Fin 8192) (j : Fin 1536), σ (Proc.tc.devRef main_arg2) (ix2 s j) = ((dy s j : ℝ) : EReal)

end Cert.Ret
-- ==== Proof.HostRot.lean ====
/- The rotated rows that the kernel's host operations make. -/
module

public import proofs.«01_k».proof.Proof.HostKeep

@[expose] public section

set_option maxRecDepth 16384

noncomputable section

namespace Cert.Ret

open Idealize.ShloMosaic Idealize.ShloMosaic.TcCoe Idealize.SL.Sem
open Cert.KernelIdeal Cert.KernelIdeal.Gen

variable {σ : Valuation τ sig (Elt Ideal)} {p dy : ℕ → ℕ → ℝ} {gn : ℕ → ℝ}

/-- A row rotated by halves. -/
theorem rot_r (x : ℕ → ℕ → ℝ) (t d : ℕ) {a : d < 64 → EReal} {b : ¬ d < 64 → EReal}
    (ha : ∀ h, a h = ((x t d * Real.cos (ang t d) - x t (d + 64) * Real.sin (ang t d) : ℝ) : EReal))
    (hb : ∀ h, b h = ((x t (d - 64) * Real.sin (ang t (d - 64)) + x t d * Real.cos (ang t (d - 64)) : ℝ) : EReal)) :
    (if h : d < 64 then a h else b h) = ((rot x t d : ℝ) : EReal) := by
  unfold rot
  by_cases hd : d < 64
  · rw [dif_pos hd, if_pos hd, ha]
  · rw [dif_neg hd, if_neg hd, hb]

section
variable (A : KArgs σ p dy gn)
include A
theorem g_v50 (s : Fin 8192) (h : Fin 4) (d : Fin 128) : (show FVec Ideal S8192x4x128 .f32 from StableHlo.after hostOps0 σ (Proc.tc.devRef main_v50)) (ix3 s h d) = ((Q p h s d : ℝ) : EReal) := by
  after_results_simp
  pointwise
  unfold Q
  refine rot_r (fun s d => p s (128 * h + d)) s d (fun hd => ?_) (fun hd => ?_)
  · have e1 : (h : ℕ) * 128 + (d : ℕ) = 128 * h + d := by omega
    have e2 : (h : ℕ) * 128 + (64 + (d : ℕ)) = 128 * h + (d + 64) := by omega
    refine (congrArg₂ (fun a b : EReal => a - b) (congrArg₂ (fun a b : EReal => a * b) (A.arg0 _ _) (congrArg Ideal.cos (ang_r s d s.isLt hd))) (congrArg₂ (fun a b : EReal => a * b) (A.arg0 _ _) (congrArg Ideal.sin (ang_r s d s.isLt hd)))).trans ?_
    dsimp only
    rw [Ideal.cos_coe, Ideal.sin_coe, e1, e2]
    rfl
  · have e1 : (h : ℕ) * 128 + ((d : ℕ) - 64) = 128 * h + (d - 64) := by omega
    have e2 : (h : ℕ) * 128 + (64 + ((d : ℕ) - 64)) = 128 * h + d := by omega
    have hd' : (d : ℕ) - 64 < 64 := by have := d.isLt; omega
    refine (congrArg₂ (fun a b : EReal => a + b) (congrArg₂ (fun a b : EReal => a * b) (A.arg0 _ _) (congrArg Ideal.sin (ang_r s (d - 64) s.isLt hd'))) (congrArg₂ (fun a b : EReal => a * b) (A.arg0 _ _) (congrArg Ideal.cos (ang_r s (d - 64) s.isLt hd')))).trans ?_
    dsimp only
    rw [Ideal.cos_coe, Ideal.sin_coe, e1, e2]
    rfl

end

section
variable (A : KArgs σ p dy gn)
include A
theorem g_v82 (s : Fin 8192) (h : Fin 4) (d : Fin 128) : (show FVec Ideal S8192x4x128 .f32 from StableHlo.after hostOps0 σ (Proc.tc.devRef main_v82)) (ix3 s h d) = ((K p h s d : ℝ) : EReal) := by
  after_results_simp
  pointwise
  after_results_simp
  pointwise
  unfold K
  refine (congrArg₂ (fun a b : EReal => a * b) ?_ lit_sc).trans (EReal.coe_mul _ _).symm
  refine rot_r (fun s d => p s (512 + 128 * h + d)) s d (fun hd => ?_) (fun hd => ?_)
  · have e1 : 512 + ((h : ℕ) * 128 + (d : ℕ)) = 512 + 128 * h + d := by omega
    have e2 : 512 + ((h : ℕ) * 128 + (64 + (d : ℕ))) = 512 + 128 * h + (d + 64) := by omega
    refine (congrArg₂ (fun a b : EReal => a - b) (congrArg₂ (fun a b : EReal => a * b) (A.arg0 _ _) (congrArg Ideal.cos (ang_r s d s.isLt hd))) (congrArg₂ (fun a b : EReal => a * b) (A.arg0 _ _) (congrArg Ideal.sin (ang_r s d s.isLt hd)))).trans ?_
    dsimp only
    rw [Ideal.cos_coe, Ideal.sin_coe, e1, e2]
    rfl
  · have e1 : 512 + ((h : ℕ) * 128 + ((d : ℕ) - 64)) = 512 + 128 * h + (d - 64) := by omega
    have e2 : 512 + ((h : ℕ) * 128 + (64 + ((d : ℕ) - 64))) = 512 + 128 * h + d := by omega
    have hd' : (d : ℕ) - 64 < 64 := by have := d.isLt; omega
    refine (congrArg₂ (fun a b : EReal => a + b) (congrArg₂ (fun a b : EReal => a * b) (A.arg0 _ _) (congrArg Ideal.sin (ang_r s (d - 64) s.isLt hd'))) (congrArg₂ (fun a b : EReal => a * b) (A.arg0 _ _) (congrArg Ideal.cos (ang_r s (d - 64) s.isLt hd')))).trans ?_
    dsimp only
    rw [Ideal.cos_coe, Ideal.sin_coe, e1, e2]
    rfl

end

section
variable (B : ∀ (s : Fin 8192) (j : Fin 512), σ (Proc.tc.devRef main_v1) (ix2 s j) = ((p s (512 + j) : ℝ) : EReal))
include B
theorem g_v180 (s : Fin 8192) (h : Fin 4) (d : Fin 128) : (show FVec Ideal S8192x4x128 .f32 from StableHlo.after hostOps0_2 σ (Proc.tc.devRef main_v180)) (ix3 s h d) = ((K p h s d : ℝ) : EReal) := by
  after_results_simp
  pointwise
  after_results_simp
  pointwise
  unfold K
  refine (congrArg₂ (fun a b : EReal => a * b) ?_ lit_sc).trans (EReal.coe_mul _ _).symm
  refine rot_r (fun s d => p s (512 + 128 * h + d)) s d (fun hd => ?_) (fun hd => ?_)
  · have e1 : 512 + ((h : ℕ) * 128 + (d : ℕ)) = 512 + 128 * h + d := by omega
    have e2 : 512 + ((h : ℕ) * 128 + (64 + (d : ℕ))) = 512 + 128 * h + (d + 64) := by omega
    refine (congrArg₂ (fun a b : EReal => a - b) (congrArg₂ (fun a b : EReal => a * b) (B _ _) (congrArg Ideal.cos (ang_r s d s.isLt hd))) (congrArg₂ (fun a b : EReal => a * b) (B _ _) (congrArg Ideal.sin (ang_r s d s.isLt hd)))).trans ?_
    dsimp only
    rw [Ideal.cos_coe, Ideal.sin_coe, e1, e2]
    rfl
  · have e1 : 512 + ((h : ℕ) * 128 + ((d : ℕ) - 64)) = 512 + 128 * h + (d - 64) := by omega
    have e2 : 512 + ((h : ℕ) * 128 + (64 + ((d : ℕ) - 64))) = 512 + 128 * h + d := by omega
    have hd' : (d : ℕ) - 64 < 64 := by have := d.isLt; omega
    refine (congrArg₂ (fun a b : EReal => a + b) (congrArg₂ (fun a b : EReal => a * b) (B _ _) (congrArg Ideal.sin (ang_r s (d - 64) s.isLt hd'))) (congrArg₂ (fun a b : EReal => a * b) (B _ _) (congrArg Ideal.cos (ang_r s (d - 64) s.isLt hd')))).trans ?_
    dsimp only
    rw [Ideal.cos_coe, Ideal.sin_coe, e1, e2]
    rfl

end
section
variable (B : ∀ (s : Fin 8192) (j : Fin 512), σ (Proc.tc.devRef main_v2) (ix2 s j) = ((p s (1024 + j) : ℝ) : EReal))
include B
theorem g_v181 (s : Fin 8192) (h : Fin 4) (d : Fin 128) : (show FVec Ideal S8192x4x128 .f32 from StableHlo.after hostOps0_2 σ (Proc.tc.devRef main_v181)) (ix3 s h d) = ((Vv p h s d : ℝ) : EReal) := by
  after_results_simp
  pointwise
  rw [B]
  unfold Vv
  congr 2; simp only; omega
end

end Cert.Ret
-- ==== Proof.HostAt.lean ====
/- The arrays that the kernel's windows read, as real numbers. -/
module

public import proofs.«01_k».proof.Proof.HostRot

@[expose] public section

set_option maxRecDepth 16384

noncomputable section

namespace Cert.Ret

open Idealize.ShloMosaic Idealize.ShloMosaic.TcCoe Idealize.SL.Sem
open Cert.KernelIdeal Cert.KernelIdeal.Gen

variable {σ : Valuation τ sig (Elt Ideal)} {p dy : ℕ → ℕ → ℝ} {gn : ℕ → ℝ}

/-- The table of cosines. -/
theorem e_cos (s : Fin 8192) (d : Fin 128) : (show FVec Ideal S8192x128 .f32 from E7 σ (Proc.tc.devRef main_v18)) (ix2 s d)
    = ((if (d : ℕ) < 64 then Real.cos (ang s d) else Real.cos (ang s (d - 64)) : ℝ) : EReal) := by
  rw [k7_v18, k6_v18, k5_v18, k4_v18, k3_v18, k2_v18]
  unfold E1
  after_results_simp
  pointwise
  by_cases hd : (d : ℕ) < 64
  · rw [dif_pos hd, if_pos hd, ang_r _ _ s.isLt hd, Ideal.cos_coe]
  · rw [dif_neg hd, if_neg hd, ang_r _ _ s.isLt (by omega), Ideal.cos_coe]

/-- The table of sines, its first half negated. -/
theorem e_sin (s : Fin 8192) (d : Fin 128) : (show FVec Ideal S8192x128 .f32 from E7 σ (Proc.tc.devRef main_v20)) (ix2 s d)
    = ((if (d : ℕ) < 64 then -Real.sin (ang s d) else Real.sin (ang s (d - 64)) : ℝ) : EReal) := by
  rw [k7_v20, k6_v20, k5_v20, k4_v20, k3_v20, k2_v20]
  unfold E1
  after_results_simp
  pointwise
  by_cases hd : (d : ℕ) < 64
  · rw [dif_pos hd, if_pos hd, ang_r _ _ s.isLt hd, Ideal.sin_coe, EReal.coe_neg]
  · rw [dif_neg hd, if_neg hd, ang_r _ _ s.isLt (by omega), Ideal.sin_coe]

section
variable (A : KArgs σ p dy gn)
include A

theorem e1_v50 (s : Fin 8192) (h : Fin 4) (d : Fin 128) : (show FVec Ideal S8192x4x128 .f32 from E1 σ (Proc.tc.devRef main_v50)) (ix3 s h d) = ((Q p h s d : ℝ) : EReal) := g_v50 A s h d

theorem e1_v82 (s : Fin 8192) (h : Fin 4) (d : Fin 128) : (show FVec Ideal S8192x4x128 .f32 from E1 σ (Proc.tc.devRef main_v82)) (ix3 s h d) = ((K p h s d : ℝ) : EReal) := g_v82 A s h d

theorem e1_v83 (s : Fin 8192) (h : Fin 4) (d : Fin 128) : (show FVec Ideal S8192x4x128 .f32 from E1 σ (Proc.tc.devRef main_v83)) (ix3 s h d) = ((Vv p h s d : ℝ) : EReal) := by
  unfold E1
  after_results_simp
  pointwise
  rw [A.arg0]
  unfold Vv
  congr 2; simp only; omega

theorem e1_v84 (h : Fin 4) (t s : Fin 8192) : (show FVec Ideal S4x8192x8192 .f32 from E1 σ (Proc.tc.devRef main_v84)) (ix3 h t s) = ((sco p h t s : ℝ) : EReal) := by
  have e : (show FVec Ideal S4x8192x8192 .f32 from E1 σ (Proc.tc.devRef main_v84)) = Host.dotGeneral (F := Ideal) (φ₁ := .f32) (φ₂ := .f32) dot_S8192x4x128_S8192x4x128_S4x8192x8192_2_2_0_0_1_1 none
      (E1 σ (Proc.tc.devRef main_v50)) (E1 σ (Proc.tc.devRef main_v82)) := by
    unfold E1
    after_results_simp
  rw [e]
  pointwise
  refine (Finset.sum_congr rfl fun d _ => congrArg₂ (· * ·) (e1_v50 A t h d) (e1_v82 A s h d)).trans ?_
  simp only [← EReal.coe_mul, coe_fsum]
  rfl

theorem e1_v1 (s : Fin 8192) (j : Fin 512) : (show FVec Ideal S8192x512 .f32 from E1 σ (Proc.tc.devRef main_v1)) (ix2 s j) = ((p s (512 + j) : ℝ) : EReal) := by
  unfold E1
  after_results_simp
  pointwise
  rw [A.arg0]

theorem e1_v2 (s : Fin 8192) (j : Fin 512) : (show FVec Ideal S8192x512 .f32 from E1 σ (Proc.tc.devRef main_v2)) (ix2 s j) = ((p s (1024 + j) : ℝ) : EReal) := by
  unfold E1
  after_results_simp
  pointwise
  rw [A.arg0]
end

theorem e2_v114 (h : Fin 4) (t s : Fin 8192) : (show FVec Ideal S4x8192x8192 .f32 from E2 σ (Proc.tc.devRef main_v114)) (ix3 h t s) = ((dec h t s : ℝ) : EReal) := by
  have h1 : (show IVec S1x8192x8192 1 from E1 σ (Proc.tc.devRef main_v113)) (ix3 0 t s) = BitVec.ofBool (decide ((s : ℕ) / 64 ≤ (t : ℕ) / 64)) := by
    unfold E1
    after_results_simp
    pointwise
    rw [div64 _ t.isLt, div64 _ s.isLt, WordCmp.cmpi_sle_ofNat (by omega) (by omega)]
  have h2 : (show FVec Ideal S4x8192x8192 .f32 from E1 σ (Proc.tc.devRef main_v107)) (ix3 h t s) = ((Real.exp (lg h * |(t : ℝ) - s|) : ℝ) : EReal) := by
    unfold E1
    after_results_simp
    pointwise
    rw [lg_r _ h.isLt, sit _ t.isLt, sit _ s.isLt, ← EReal.coe_sub, abs_r, ← EReal.coe_mul, Ideal.exp_coe]
  have h3 : (show FVec Ideal S_ .f32 from E1 σ (Proc.tc.devRef main_cst_8)) ix0 = ((0 : ℝ) : EReal) := by
    unfold E1
    after_results_simp
    rw [← lit_0]; rfl
  have h4 : (show FVec Ideal S4x8192x8192 .f32 from E2 σ (Proc.tc.devRef main_v114)) (ix3 h t s)
      = Scalar.select ((show IVec S1x8192x8192 1 from E1 σ (Proc.tc.devRef main_v113)) (ix3 0 t s))
        ((show FVec Ideal S4x8192x8192 .f32 from E1 σ (Proc.tc.devRef main_v107)) (ix3 h t s)) ((show FVec Ideal S_ .f32 from E1 σ (Proc.tc.devRef main_cst_8)) ix0) := by
    unfold E2
    simp only [hostOps0_1, StableHlo.TRef.unary, StableHlo.TRef.ternary, StableHlo.TRef.toBuf, StableHlo.TRef.ofBuf, cast_eq]
    after_results_simp
    pointwise
    rfl
  rw [h4, h1, h2, h3, select_dec, coe_ite]
  rfl

section
variable (A : KArgs σ p dy gn)
include A

/-- The retention before its norm. -/
theorem e_ypre (s : Fin 8192) (j : Fin 512) : (show FVec Ideal S8192x512 .f32 from E7 σ (Proc.tc.devRef main_v118)) (ix2 s j)
    = ((Y p (j / 128) s (j % 128) : ℝ) : EReal) := by
  rw [k7_v118, k6_v118, k5_v118, k4_v118]
  unfold E3
  after_results_simp
  pointwise
  rw [k2_v83, k2_v84]
  refine (Finset.sum_congr rfl fun x _ => congrArg₂ (· * ·) (e1_v83 A x _ _) (congrArg₂ (· * ·) (e1_v84 A _ s x) (e2_v114 _ s x))).trans ?_
  simp only [← EReal.coe_mul, coe_fsum]
  rfl

theorem e3_v180 (s : Fin 8192) (h : Fin 4) (d : Fin 128) : (show FVec Ideal S8192x4x128 .f32 from E3 σ (Proc.tc.devRef main_v180)) (ix3 s h d) = ((K p h s d : ℝ) : EReal) := g_v180 (fun s j => by rw [k2_v1]; exact e1_v1 A s j) s h d

theorem e3_v181 (s : Fin 8192) (h : Fin 4) (d : Fin 128) : (show FVec Ideal S8192x4x128 .f32 from E3 σ (Proc.tc.devRef main_v181)) (ix3 s h d) = ((Vv p h s d : ℝ) : EReal) := g_v181 (fun s j => by rw [k2_v2]; exact e1_v2 A s j) s h d

end

theorem e4_v209 (b : Fin 32) (h : Fin 4) (s : Fin 8192) : (show FVec Ideal S32x4x8192 .f32 from E4 σ (Proc.tc.devRef main_v209)) (ix3 b h s) = ((wS h b s : ℝ) : EReal) := by
  have h1 : (show IVec S32x1x8192 1 from E3 σ (Proc.tc.devRef main_v202)) (ix3 b 0 s) = BitVec.ofBool (decide ((0 : ℝ) ≤ (b : ℝ) * 256 - 1 - s)) := by
    unfold E3
    after_results_simp
    pointwise
    rw [sit _ (by omega), sit _ s.isLt, lit_256, show (1 : EReal) = ((1 : ℝ) : EReal) from rfl, ← EReal.coe_mul, ← EReal.coe_sub, ← EReal.coe_sub]
    simp only [EReal.coe_nonneg]
  have h2 : (show FVec Ideal S32x4x8192 .f32 from E3 σ (Proc.tc.devRef main_v208)) (ix3 b h s) = ((Real.exp (lg h * ((b : ℝ) * 256 - 1 - s)) : ℝ) : EReal) := by
    unfold E3
    after_results_simp
    pointwise
    rw [lg_r _ h.isLt, sit _ (by omega), sit _ s.isLt, lit_256, show (1 : EReal) = ((1 : ℝ) : EReal) from rfl, ← EReal.coe_mul, ← EReal.coe_sub, ← EReal.coe_sub,
      ← EReal.coe_mul, Ideal.exp_coe]
  have h3 : (show FVec Ideal S_ .f32 from E3 σ (Proc.tc.devRef main_cst_19)) ix0 = ((0 : ℝ) : EReal) := by
    unfold E3
    after_results_simp
    rw [← lit_0]; rfl
  have h4 : (show FVec Ideal S32x4x8192 .f32 from E4 σ (Proc.tc.devRef main_v209)) (ix3 b h s)
      = Scalar.select ((show IVec S32x1x8192 1 from E3 σ (Proc.tc.devRef main_v202)) (ix3 b 0 s))
        ((show FVec Ideal S32x4x8192 .f32 from E3 σ (Proc.tc.devRef main_v208)) (ix3 b h s)) ((show FVec Ideal S_ .f32 from E3 σ (Proc.tc.devRef main_cst_19)) ix0) := by
    unfold E4
    simp only [hostOps0_3, StableHlo.TRef.unary, StableHlo.TRef.ternary, StableHlo.TRef.toBuf, StableHlo.TRef.ofBuf, cast_eq]
    after_results_simp
    pointwise
    rfl
  rw [h4, h1, h2, h3, select_dec, coe_ite]
  rfl

/-- The state that every block starts from. -/
theorem e_states (A : KArgs σ p dy gn) (b : Fin 32) (h : Fin 4) (d e : Fin 128) :
    (show FVec Ideal S32x4x128x128 .f32 from E7 σ (Proc.tc.devRef main_v217)) (ix4 b h d e) = ((St p h b d e : ℝ) : EReal) := by
  rw [k7_v217, k6_v217]
  unfold E5
  after_results_simp
  pointwise
  rw [k4_v181, k4_v180]
  refine (Finset.sum_congr rfl fun x _ => congrArg₂ (· * ·) (e3_v181 A x _ _) (congrArg₂ (· * ·) (e4_v209 b h x) (e3_v180 A x h d))).trans ?_
  simp only [← EReal.coe_mul, coe_fsum]
  rfl

/-- The decays inside a block. -/
theorem e_dm (h : Fin 4) (i j : Fin 256) : (show FVec Ideal S4x256x256 .f32 from E7 σ (Proc.tc.devRef main_v252)) (ix3 h i j) = ((dm h i j : ℝ) : EReal) := by
  have h1 : (show IVec S256x256 1 from E5 σ (Proc.tc.devRef main_v245)) (ix2 i j) = BitVec.ofBool (decide ((i : ℕ) / 64 = (j : ℕ) / 64 ∨ (j : ℕ) / 64 < (i : ℕ) / 64)) := by
    unfold E5
    after_results_simp
    pointwise
    rw [div64 _ (by omega), div64 _ (by omega), WordCmp.cmpi_slt_ofNat (by omega) (by omega), WordCmp.cmpi_eq_ofNat (by omega) (by omega)]
    by_cases q1 : (i : ℕ) / 64 = (j : ℕ) / 64 <;> by_cases q2 : (j : ℕ) / 64 < (i : ℕ) / 64 <;> simp [q1, q2, IntOp.ori]
  have h2 : (show FVec Ideal S4x256x256 .f32 from E5 σ (Proc.tc.devRef main_v251)) (ix3 h i j) = ((Real.exp (lg h * |(i : ℝ) - j|) : ℝ) : EReal) := by
    unfold E5
    after_results_simp
    pointwise
    rw [lg_r _ h.isLt, sit _ (by omega), sit _ (by omega), ← EReal.coe_sub, abs_r, ← EReal.coe_mul, Ideal.exp_coe]
  have h3 : (show FVec Ideal S_ .f32 from E5 σ (Proc.tc.devRef main_cst_23)) ix0 = ((0 : ℝ) : EReal) := by
    unfold E5
    after_results_simp
    rw [← lit_0]; rfl
  have h4 : (show FVec Ideal S4x256x256 .f32 from E6 σ (Proc.tc.devRef main_v252)) (ix3 h i j)
      = Scalar.select ((show IVec S256x256 1 from E5 σ (Proc.tc.devRef main_v245)) (ix2 i j))
        ((show FVec Ideal S4x256x256 .f32 from E5 σ (Proc.tc.devRef main_v251)) (ix3 h i j)) ((show FVec Ideal S_ .f32 from E5 σ (Proc.tc.devRef main_cst_23)) ix0) := by
    unfold E6
    simp only [hostOps0_5, StableHlo.TRef.unary, StableHlo.TRef.ternary, StableHlo.TRef.toBuf, StableHlo.TRef.ofBuf, cast_eq]
    after_results_simp
    pointwise
    rfl
  rw [k7_v252, h4, h1, h2, h3, select_dec, coe_ite]
  rfl

theorem e6_v224 (h : Fin 4) : (show FVec Ideal S4 .f32 from E6 σ (Proc.tc.devRef main_v224)) (ix1 h) = ((lg h : ℝ) : EReal) := by
  rw [k6_v224]
  unfold E5
  after_results_simp
  pointwise
  rw [lg_r _ h.isLt]

theorem e6_v225 (i : Fin 256) : (show FVec Ideal S256 .f32 from E6 σ (Proc.tc.devRef main_v225)) (ix1 i) = ((i : ℝ) : EReal) := by
  rw [k6_v225]
  unfold E5
  after_results_simp
  pointwise
  rw [sit _ (by omega)]

/-- The decay over a block. -/
theorem e_cd (h : Fin 4) (i j : Fin 128) : (show FVec Ideal S4x128x128 .f32 from E7 σ (Proc.tc.devRef main_v273)) (ix3 h i j) = ((Real.exp (lg h * 256) : ℝ) : EReal) := by
  have B := fun h => e6_v224 (σ := σ) h
  unfold E7
  after_results_simp
  pointwise
  rw [show E6 σ (Proc.tc.devRef main_v224) (ix1 h) = _ from B h, lit_256, ← EReal.coe_mul, Ideal.exp_coe]

/-- The decay from the block's start. -/
theorem e_qd (h : Fin 4) (i : Fin 256) (j : Fin 128) : (show FVec Ideal S4x256x128 .f32 from E7 σ (Proc.tc.devRef main_v275)) (ix3 h i j)
    = ((Real.exp (lg h * ((i : ℝ) + 1)) : ℝ) : EReal) := by
  unfold E7
  after_results_simp
  pointwise
  rw [show E6 σ (Proc.tc.devRef main_v224) (ix1 h) = _ from e6_v224 h, show E6 σ (Proc.tc.devRef main_v225) (ix1 i) = _ from e6_v225 i,
    show (1 : EReal) = ((1 : ℝ) : EReal) from rfl, ← EReal.coe_add, ← EReal.coe_mul, Ideal.exp_coe]

/-- The decay to the block's end. -/
theorem e_kd (h : Fin 4) (i : Fin 256) (j : Fin 128) : (show FVec Ideal S4x256x128 .f32 from E7 σ (Proc.tc.devRef main_v277)) (ix3 h i j)
    = ((Real.exp (lg h * (255 - (i : ℝ))) : ℝ) : EReal) := by
  unfold E7
  after_results_simp
  pointwise
  rw [show E6 σ (Proc.tc.devRef main_v224) (ix1 h) = _ from e6_v224 h, show E6 σ (Proc.tc.devRef main_v225) (ix1 i) = _ from e6_v225 i,
    lit_255, ← EReal.coe_sub, ← EReal.coe_mul, Ideal.exp_coe]

section
variable (A : KArgs σ p dy gn)
include A
theorem e_arg0 (s : Fin 8192) (j : Fin 5632) : E7 σ (Proc.tc.devRef main_arg0) (ix2 s j) = ((p s j : ℝ) : EReal) := by
  rw [k7_arg0, k6_arg0, k5_arg0, k4_arg0, k3_arg0, k2_arg0, k1_arg0, A.arg0]
theorem e_arg1 (j : Fin 512) : E7 σ (Proc.tc.devRef main_arg1) (ix2 0 j) = ((gn j : ℝ) : EReal) := by
  rw [k7_arg1, k6_arg1, k5_arg1, k4_arg1, k3_arg1, k2_arg1, k1_arg1, A.arg1]
theorem e_arg2 (s : Fin 8192) (j : Fin 1536) : E7 σ (Proc.tc.devRef main_arg2) (ix2 s j) = ((dy s j : ℝ) : EReal) := by
  rw [k7_arg2, k6_arg2, k5_arg2, k4_arg2, k3_arg2, k2_arg2, k1_arg2, A.arg2]
end

/-- What the kernel's windows read. -/
theorem V_E7 (m : (ℓ : Loc nD τ sig) → Buf (Elt Ideal) ℓ) (c : Dev nD) (b) : V m c b = E7 (fun b => m (c, b)) (Proc.tc.devRef b) := by
  show StableHlo.after _ _ _ = _
  simp only [List.flatten_cons, List.flatten_nil, List.append_nil, StableHlo.after_append]
  rfl

end Cert.Ret
-- ==== Proof.Head.lean ====
/- One head of one block of the kernel's body: what it stores, as functions of the values it loads, and their entries when
   those are real. The four heads of the body are this one function at four slices. -/
module

public import proofs.«01_k».proof.Proof.Gen.KernelIdeal.Skeleton
public import proofs.«01_k».proof.Proof.Coe
public import Idealize.ShloMosaic.Lib.Pipeline.ValueKit
public import Idealize.ShloMosaic.Lib.Pointwise

@[expose] public section

set_option maxRecDepth 16384

noncomputable section

namespace Cert.Ret

open Idealize.ShloMosaic Idealize.ShloMosaic.TcCoe Idealize.SL.Sem
open Cert.KernelIdeal Cert.KernelIdeal.Gen

/-- The values one head loads. -/
structure HV where
  cs : Vec Ideal S256x128 .f32
  sn : Vec Ideal S256x128 .f32
  q : Vec Ideal S256x128 .f32
  k : Vec Ideal S256x128 .f32
  v : Vec Ideal S256x128 .f32
  g : Vec Ideal S256x128 .f32
  y : Vec Ideal S256x128 .f32
  dy : Vec Ideal S256x128 .f32
  qd : Vec Ideal S1x256x128 .f32
  kd : Vec Ideal S1x256x128 .f32
  dm : Vec Ideal S1x256x256 .f32
  sp : Vec Ideal S1x1x128x128 .f32
  gs : Vec Ideal S1x128x128 .f32
  cd : Vec Ideal S1x128x128 .f32
  gn : Vec Ideal S1x128 .f32

namespace HV
variable (H : HV)

/-- The rotated queries. -/
def vQ := k0_pay8 H.cs H.sn H.q
/-- The rotated, scaled keys. -/
def vK := k0_pay9 H.cs H.sn H.k
/-- The cotangent of the retention before its norm. -/
def vY := k0_pay26 H.gn (k0_pay19 H.y) (k0_pay20 H.y) (k0_pay22 H.g H.dy)
/-- The stored gradient of the queries. -/
def oq := k0_pay35 (k0_pay6 H.cs) (k0_pay7 H.sn) (k0_pay32 H.vK (k0_pay10 H.v) (k0_pay11 H.qd) (k0_pay13 H.dm) (k0_pay14 H.sp) H.gn (k0_pay19 H.y) (k0_pay20 H.y) (k0_pay22 H.g H.dy))
/-- The stored gradient of the keys. -/
def ok := k0_pay36 (k0_pay6 H.cs) (k0_pay7 H.sn) (k0_pay33 H.vQ (k0_pay10 H.v) (k0_pay12 H.kd) (k0_pay13 H.dm) (k0_pay16 H.gs) H.gn (k0_pay19 H.y) (k0_pay20 H.y) (k0_pay22 H.g H.dy))
/-- The stored gradient of the values. -/
def ov := k0_pay31 H.vQ H.vK (k0_pay12 H.kd) (k0_pay13 H.dm) (k0_pay16 H.gs) H.gn (k0_pay19 H.y) (k0_pay20 H.y) (k0_pay22 H.g H.dy)
/-- The stored gradient of the gate's argument. -/
def og := k0_pay21 H.g H.y H.gn H.dy
/-- What the head leaves in the running sum over later blocks. -/
def ogs := k0_pay34 (k0_pay15 H.gs) H.vY (k0_pay29 H.vQ (k0_pay11 H.qd)) H.cd
/-- What the head adds to the gain's gradient. -/
def ost (s : Vec Ideal S1x128 .f32) := k0_pay25 (k0_pay23 s) (k0_pay24 H.g H.y H.dy)

/-- The loaded values are the reals of head `h` in block `b`. -/
structure At (p dy : ℕ → ℕ → ℝ) (gn : ℕ → ℝ) (h b : ℕ) : Prop where
  hcs (i : Fin 256) (d : Fin 128) : H.cs (ix2 i d) = ((if (d : ℕ) < 64 then Real.cos (ang (256 * b + i) d) else Real.cos (ang (256 * b + i) (d - 64)) : ℝ) : EReal)
  hsn (i : Fin 256) (d : Fin 128) : H.sn (ix2 i d) = ((if (d : ℕ) < 64 then -Real.sin (ang (256 * b + i) d) else Real.sin (ang (256 * b + i) (d - 64)) : ℝ) : EReal)
  hq (i : Fin 256) (d : Fin 128) : H.q (ix2 i d) = ((p (256 * b + i) (128 * h + d) : ℝ) : EReal)
  hk (i : Fin 256) (d : Fin 128) : H.k (ix2 i d) = ((p (256 * b + i) (512 + 128 * h + d) : ℝ) : EReal)
  hv (i : Fin 256) (d : Fin 128) : H.v (ix2 i d) = ((Vv p h (256 * b + i) d : ℝ) : EReal)
  hg (i : Fin 256) (d : Fin 128) : H.g (ix2 i d) = ((gt p h (256 * b + i) d : ℝ) : EReal)
  hy (i : Fin 256) (d : Fin 128) : H.y (ix2 i d) = ((Y p h (256 * b + i) d : ℝ) : EReal)
  hdy (i : Fin 256) (d : Fin 128) : H.dy (ix2 i d) = ((dy (256 * b + i) (128 * h + d) : ℝ) : EReal)
  hqd (i : Fin 256) (d : Fin 128) : H.qd (ix3 0 i d) = ((Real.exp (lg h * ((i : ℝ) + 1)) : ℝ) : EReal)
  hkd (i : Fin 256) (d : Fin 128) : H.kd (ix3 0 i d) = ((Real.exp (lg h * (255 - (i : ℝ))) : ℝ) : EReal)
  hdm (i j : Fin 256) : H.dm (ix3 0 i j) = ((Cert.Ret.dm h i j : ℝ) : EReal)
  hsp (d e : Fin 128) : H.sp (ix4 0 0 d e) = ((St p h b d e : ℝ) : EReal)
  hgs (d e : Fin 128) : H.gs (ix3 0 d e) = ((Gs p dy gn h (b + 1) d e : ℝ) : EReal)
  hcd (d e : Fin 128) : H.cd (ix3 0 d e) = ((Real.exp (lg h * 256) : ℝ) : EReal)
  hgn (d : Fin 128) : H.gn (ix2 0 d) = ((gn (128 * h + d) : ℝ) : EReal)

end HV

/-! ## The rotations -/

theorem rot_at (x : ℕ → ℕ → ℝ) (s d : ℕ) (hd : d < 128) :
    x s d * (if d < 64 then Real.cos (ang s d) else Real.cos (ang s (d - 64)))
      + x s ((d + 128 - 64) % 128) * (if d < 64 then -Real.sin (ang s d) else Real.sin (ang s (d - 64))) = rot x s d := by
  unfold rot
  by_cases h : d < 64
  · rw [if_pos h, if_pos h, if_pos h, show (d + 128 - 64) % 128 = d + 64 by omega]; ring
  · rw [if_neg h, if_neg h, if_neg h, show (d + 128 - 64) % 128 = d - 64 by omega]; ring

theorem rotT_at (x : ℕ → ℕ → ℝ) (s d : ℕ) (hd : d < 128) :
    x s d * (if d < 64 then Real.cos (ang s d) else Real.cos (ang s (d - 64)))
      + x s ((d + 128 - 64) % 128) * (if (d + 128 - 64) % 128 < 64 then -Real.sin (ang s ((d + 128 - 64) % 128)) else Real.sin (ang s ((d + 128 - 64) % 128 - 64)))
    = rotT x s d := by
  unfold rotT
  by_cases h : d < 64
  · rw [if_pos h, if_pos h, show (d + 128 - 64) % 128 = d + 64 by omega, if_neg (by omega), Nat.add_sub_cancel]
  · rw [if_neg h, if_neg h, show (d + 128 - 64) % 128 = d - 64 by omega, if_pos (by omega)]; ring

/-! ## The entries -/

section
variable {H : HV} {p dy : ℕ → ℕ → ℝ} {gn : ℕ → ℝ} {h b : ℕ} (A : H.At p dy gn h b)
include A

theorem vQ_at (i : Fin 256) (d : Fin 128) : H.vQ (ix2 i d) = ((Q p h (256 * b + i) d : ℝ) : EReal) := by
  unfold HV.vQ k0_pay8 k0_pay6 k0_pay7
  pointwise
  simp only [A.hcs, A.hsn, A.hq, ← EReal.coe_mul, ← EReal.coe_add]
  exact congrArg _ (rot_at (fun s d => p s (128 * h + d)) _ _ d.isLt)

theorem vK_at (i : Fin 256) (d : Fin 128) : H.vK (ix2 i d) = ((K p h (256 * b + i) d : ℝ) : EReal) := by
  unfold HV.vK k0_pay9 k0_pay6 k0_pay7
  pointwise
  simp only [A.hcs, A.hsn, A.hk, lit_sc, ← EReal.coe_mul, ← EReal.coe_add]
  exact congrArg (fun x : ℝ => ((x * sc : ℝ) : EReal)) (rot_at (fun s d => p s (512 + 128 * h + d)) _ _ d.isLt)

theorem r_at (i : Fin 256) : k0_pay19 H.y (ix2 i 0) = ((rr p h (256 * b + i) : ℝ) : EReal) := by
  unfold k0_pay19 k0_pay18
  pointwise
  simp only [A.hy, lit_128, lit_eps, ← EReal.coe_mul, coe_fsum]
  rw [div_r _ _ (by norm_num), ← EReal.coe_add]
  exact rsqrt_r _ (ms_pos p h _)

theorem yh_at (i : Fin 256) (d : Fin 128) : k0_pay20 H.y (ix2 i d) = ((yhat p h (256 * b + i) d : ℝ) : EReal) := by
  unfold k0_pay20
  have := r_at A i
  generalize hr : k0_pay19 H.y = r at this ⊢
  unfold k0_pay18
  pointwise
  rw [A.hy, this, ← EReal.coe_mul]
  rfl

theorem lgi_at (i : Fin 256) (d : Fin 128) : k0_pay17 H.g (ix2 i d) = ((lgi (gt p h (256 * b + i) d) : ℝ) : EReal) := by
  unfold k0_pay17
  pointwise
  rw [A.hg]
  exact lgi_r _

theorem dn_at (i : Fin 256) (d : Fin 128) : k0_pay22 H.g H.dy (ix2 i d) = ((dyn p dy h (256 * b + i) d : ℝ) : EReal) := by
  unfold k0_pay22
  have := lgi_at A i d
  generalize hr : k0_pay17 H.g = r at this ⊢
  pointwise
  rw [A.hdy, A.hg, this, ← EReal.coe_mul, ← EReal.coe_mul]
  rfl

theorem og_at (i : Fin 256) (d : Fin 128) : H.og (ix2 i d) = ((DG p dy gn h (256 * b + i) d : ℝ) : EReal) := by
  unfold HV.og k0_pay21
  have h1 := lgi_at A i d
  have h2 := yh_at A i d
  generalize k0_pay17 H.g = r at h1 ⊢
  generalize k0_pay20 H.y = r' at h2 ⊢
  pointwise
  simp only [A.hdy, A.hg, A.hgn, h1, h2, lit_1, ← EReal.coe_mul, ← EReal.coe_sub, ← EReal.coe_add]
  rfl

theorem st_at (s : Vec Ideal S1x128 .f32) (d : Fin 128) (x : ℝ) (hs : s (ix2 0 d) = (x : EReal)) :
    H.ost s (ix2 0 d) = ((x + ∑ i : Fin 256, dyn p dy h (256 * b + i) d * yhat p h (256 * b + i) d : ℝ) : EReal) := by
  unfold HV.ost k0_pay25 k0_pay23 k0_pay24
  have h1 := fun i => dn_at A i d
  have h2 := fun i => yh_at A i d
  generalize k0_pay22 H.g H.dy = r at h1 ⊢
  generalize k0_pay20 H.y = r' at h2 ⊢
  pointwise
  simp only [hs, h1, h2, ← EReal.coe_mul, coe_fsum, ← EReal.coe_add]

theorem vY_at (i : Fin 256) (d : Fin 128) : H.vY (ix2 i d) = ((dY p dy gn h (256 * b + i) d : ℝ) : EReal) := by
  unfold HV.vY k0_pay26
  have h1 := fun d => dn_at A i d
  have h2 := fun d => yh_at A i d
  have h3 := r_at A i
  generalize k0_pay22 H.g H.dy = r1 at h1 ⊢
  generalize k0_pay20 H.y = r2 at h2 ⊢
  generalize k0_pay19 H.y = r3 at h3 ⊢
  pointwise
  simp only [A.hgn, h1, h2, h3, lit_128, ← EReal.coe_mul, coe_fsum]
  rw [div_r _ _ (by norm_num), ← EReal.coe_mul, ← EReal.coe_sub, ← EReal.coe_mul]
  rfl

theorem da_at (i j : Fin 256) : k0_pay30 (k0_pay10 H.v) (k0_pay13 H.dm) H.gn (k0_pay19 H.y) (k0_pay20 H.y) (k0_pay22 H.g H.dy) (ix2 i j)
    = (((∑ e : Fin 128, dY p dy gn h (256 * b + i) e * Vv p h (256 * b + j) e) * dm h i j : ℝ) : EReal) := by
  unfold k0_pay30
  have h1 := fun d => vY_at A i d
  unfold HV.vY at h1
  generalize k0_pay26 H.gn (k0_pay19 H.y) (k0_pay20 H.y) (k0_pay22 H.g H.dy) = r1 at h1 ⊢
  unfold k0_pay10 k0_pay13
  pointwise
  simp only [h1, A.hv, A.hdm, ← EReal.coe_mul, coe_fsum]

theorem ov_at (i : Fin 256) (d : Fin 128) (hb : b < 32) : H.ov (ix2 i d) = ((DV p dy gn h (256 * b + i) d : ℝ) : EReal) := by
  unfold HV.ov k0_pay31
  have h1 := fun i => vY_at A i d
  unfold HV.vY at h1
  have h2 := vQ_at A
  have h3 := vK_at A
  generalize k0_pay26 H.gn (k0_pay19 H.y) (k0_pay20 H.y) (k0_pay22 H.g H.dy) = r1 at h1 ⊢
  generalize H.vQ = r2 at h2 ⊢
  generalize H.vK = r3 at h3 ⊢
  unfold k0_pay27 k0_pay28 k0_pay12 k0_pay13 k0_pay16 k0_pay15
  pointwise
  simp only [h1, h2, h3, A.hkd, A.hdm, A.hgs, ← EReal.coe_mul, coe_fsum, ← EReal.coe_add]
  exact congrArg _ (DV_block p dy gn h b i d hb i.isLt)

theorem dq_at (i : Fin 256) (d : Fin 128) (hb : b < 32) :
    k0_pay32 H.vK (k0_pay10 H.v) (k0_pay11 H.qd) (k0_pay13 H.dm) (k0_pay14 H.sp) H.gn (k0_pay19 H.y) (k0_pay20 H.y) (k0_pay22 H.g H.dy) (ix2 i d)
    = ((DQ p dy gn h (256 * b + i) d : ℝ) : EReal) := by
  unfold k0_pay32
  have h1 := fun d => vY_at A i d
  unfold HV.vY at h1
  have h2 := da_at A
  have h3 := vK_at A
  generalize k0_pay26 H.gn (k0_pay19 H.y) (k0_pay20 H.y) (k0_pay22 H.g H.dy) = r1 at h1 ⊢
  generalize k0_pay30 (k0_pay10 H.v) (k0_pay13 H.dm) H.gn (k0_pay19 H.y) (k0_pay20 H.y) (k0_pay22 H.g H.dy) = r2 at h2 ⊢
  generalize H.vK = r3 at h3 ⊢
  unfold k0_pay28 k0_pay11 k0_pay14
  pointwise
  simp only [h1, h2, h3, A.hqd, A.hsp, ← EReal.coe_mul, coe_fsum, ← EReal.coe_add]
  exact congrArg _ (DQ_block p dy gn h b i d hb i.isLt)

theorem dk_at (i : Fin 256) (d : Fin 128) (hb : b < 32) :
    ∃ x : ℝ, k0_pay33 H.vQ (k0_pay10 H.v) (k0_pay12 H.kd) (k0_pay13 H.dm) (k0_pay16 H.gs) H.gn (k0_pay19 H.y) (k0_pay20 H.y) (k0_pay22 H.g H.dy) (ix2 i d)
      = (x : EReal) ∧ x * sc = DK p dy gn h (256 * b + i) d := by
  unfold k0_pay33
  have h2 := da_at A
  have h3 := vQ_at A
  generalize k0_pay30 (k0_pay10 H.v) (k0_pay13 H.dm) H.gn (k0_pay19 H.y) (k0_pay20 H.y) (k0_pay22 H.g H.dy) = r2 at h2 ⊢
  generalize H.vQ = r3 at h3 ⊢
  refine ⟨_, ?_, DK_block p dy gn h b i d hb i.isLt⟩
  unfold k0_pay27 k0_pay10 k0_pay12 k0_pay16 k0_pay15
  pointwise
  simp only [h2, h3, A.hkd, A.hv, A.hgs, ← EReal.coe_mul, coe_fsum, ← EReal.coe_add]

theorem oq_at (i : Fin 256) (d : Fin 128) (hb : b < 32) : H.oq (ix2 i d) = ((rotT (DQ p dy gn h) (256 * b + i) d : ℝ) : EReal) := by
  unfold HV.oq k0_pay35
  have h1 := fun d => dq_at A i d hb
  generalize k0_pay32 H.vK (k0_pay10 H.v) (k0_pay11 H.qd) (k0_pay13 H.dm) (k0_pay14 H.sp) H.gn (k0_pay19 H.y) (k0_pay20 H.y) (k0_pay22 H.g H.dy) = r at h1 ⊢
  unfold k0_pay6 k0_pay7
  pointwise
  simp only [h1, A.hcs, A.hsn, ← EReal.coe_mul, ← EReal.coe_add]
  exact congrArg _ (rotT_at (DQ p dy gn h) _ _ d.isLt)

theorem ok_at (i : Fin 256) (d : Fin 128) (hb : b < 32) : H.ok (ix2 i d) = ((rotT (DK p dy gn h) (256 * b + i) d : ℝ) : EReal) := by
  unfold HV.ok k0_pay36
  have h1 : ∀ d : Fin 128, k0_pay33 H.vQ (k0_pay10 H.v) (k0_pay12 H.kd) (k0_pay13 H.dm) (k0_pay16 H.gs) H.gn (k0_pay19 H.y) (k0_pay20 H.y) (k0_pay22 H.g H.dy) (ix2 i d)
      * (sc : EReal) = ((DK p dy gn h (256 * b + i) d : ℝ) : EReal) := fun d => by
    obtain ⟨x, hx, hx'⟩ := dk_at A i d hb
    rw [hx, ← EReal.coe_mul, hx']
  generalize k0_pay33 H.vQ (k0_pay10 H.v) (k0_pay12 H.kd) (k0_pay13 H.dm) (k0_pay16 H.gs) H.gn (k0_pay19 H.y) (k0_pay20 H.y) (k0_pay22 H.g H.dy) = r at h1 ⊢
  unfold k0_pay6 k0_pay7
  pointwise
  simp only [lit_sc, h1, A.hcs, A.hsn, ← EReal.coe_mul, ← EReal.coe_add]
  exact congrArg _ (rotT_at (DK p dy gn h) _ _ d.isLt)

theorem ogs_at (d e : Fin 128) (hb : b < 32) : H.ogs (ix3 0 d e) = ((Gs p dy gn h b d e : ℝ) : EReal) := by
  unfold HV.ogs k0_pay34
  have h1 := fun i => vY_at A i e
  have h2 := fun i => vQ_at A i d
  generalize H.vY = r1 at h1 ⊢
  generalize H.vQ = r2 at h2 ⊢
  unfold k0_pay15 k0_pay29 k0_pay11
  pointwise
  simp only [h1, h2, A.hcd, A.hgs, A.hqd, ← EReal.coe_mul, coe_fsum, ← EReal.coe_add]
  exact congrArg _ (Gs_step p dy gn h b hb d e)
end

end Cert.Ret
-- ==== Proof.Blocks.lean ====
/- The kernel's blocks of its windows' arrays, and slices of them, at coordinates. Grid point `t` handles block `31 - t`. -/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Ret

open Idealize.ShloMosaic Idealize.ShloMosaic.TcCoe Idealize.SL.Sem
open Cert.KernelIdeal Cert.KernelIdeal.Gen

variable (m : (ℓ : Loc nD τ sig) → Buf (Elt Ideal) ℓ)

theorem idx : ∀ t : Fin cfg0.N, win0_0.index t = ![31 - t.val, 0] ∧ win0_1.index t = ![31 - t.val, 1] ∧ win0_2.index t = ![31 - t.val, 2]
    ∧ win0_3.index t = ![31 - t.val, 3] ∧ win0_4.index t = ![31 - t.val, 0] ∧ win0_5.index t = ![31 - t.val, 0]
    ∧ win0_6.index t = ![0, 0, 0] ∧ win0_7.index t = ![0, 0, 0] ∧ win0_8.index t = ![0, 0, 0] ∧ win0_9.index t = ![0, 0, 0]
    ∧ win0_10.index t = ![0, 0] ∧ win0_11.index t = ![31 - t.val, 0] ∧ win0_12.index t = ![31 - t.val, 0, 0, 0] ∧ win0_13.index t = ![31 - t.val, 0]
    ∧ win0_14.index t = ![31 - t.val, 0] ∧ win0_15.index t = ![0, 0] :=
  (by decide +kernel : ∀ t : Fin grid0.N, _)

/-! ## Blocks of the arrays -/

theorem b_q (c : Dev nD) (t : Fin cfg0.N) (i : Fin 256) (j : Fin 512) :
    iblk m c 0 t (ix2 i j) = V m c main_arg0 (ix2 ⟨256 * (31 - t.val) + i, by omega⟩ ⟨0 + j, by omega⟩) := by
  blk_ext [iblk, idx t]

theorem b_k (c : Dev nD) (t : Fin cfg0.N) (i : Fin 256) (j : Fin 512) :
    iblk m c 1 t (ix2 i j) = V m c main_arg0 (ix2 ⟨256 * (31 - t.val) + i, by omega⟩ ⟨512 + j, by omega⟩) := by
  blk_ext [iblk, idx t]

theorem b_v (c : Dev nD) (t : Fin cfg0.N) (i : Fin 256) (j : Fin 512) :
    iblk m c 2 t (ix2 i j) = V m c main_arg0 (ix2 ⟨256 * (31 - t.val) + i, by omega⟩ ⟨1024 + j, by omega⟩) := by
  blk_ext [iblk, idx t]

theorem b_g (c : Dev nD) (t : Fin cfg0.N) (i : Fin 256) (j : Fin 512) :
    iblk m c 3 t (ix2 i j) = V m c main_arg0 (ix2 ⟨256 * (31 - t.val) + i, by omega⟩ ⟨1536 + j, by omega⟩) := by
  blk_ext [iblk, idx t]

theorem b_cs (c : Dev nD) (t : Fin cfg0.N) (i : Fin 256) (j : Fin 128) :
    iblk m c 4 t (ix2 i j) = V m c main_v18 (ix2 ⟨256 * (31 - t.val) + i, by omega⟩ j) := by
  blk_ext [iblk, idx t]

theorem b_sn (c : Dev nD) (t : Fin cfg0.N) (i : Fin 256) (j : Fin 128) :
    iblk m c 5 t (ix2 i j) = V m c main_v20 (ix2 ⟨256 * (31 - t.val) + i, by omega⟩ j) := by
  blk_ext [iblk, idx t]

theorem b_dm (c : Dev nD) (t : Fin cfg0.N) (k : Fin 4) (i j : Fin 256) :
    iblk m c 6 t (ix3 k i j) = V m c main_v252 (ix3 k i j) := by
  blk_ext [iblk, idx t]

theorem b_qd (c : Dev nD) (t : Fin cfg0.N) (k : Fin 4) (i : Fin 256) (j : Fin 128) :
    iblk m c 7 t (ix3 k i j) = V m c main_v275 (ix3 k i j) := by
  blk_ext [iblk, idx t]

theorem b_kd (c : Dev nD) (t : Fin cfg0.N) (k : Fin 4) (i : Fin 256) (j : Fin 128) :
    iblk m c 8 t (ix3 k i j) = V m c main_v277 (ix3 k i j) := by
  blk_ext [iblk, idx t]

theorem b_cd (c : Dev nD) (t : Fin cfg0.N) (k : Fin 4) (i j : Fin 128) :
    iblk m c 9 t (ix3 k i j) = V m c main_v273 (ix3 k i j) := by
  blk_ext [iblk, idx t]

theorem b_gn (c : Dev nD) (t : Fin cfg0.N) (j : Fin 512) :
    iblk m c 10 t (ix2 0 j) = V m c main_arg1 (ix2 0 j) := by
  blk_ext [iblk, idx t]

theorem b_y (c : Dev nD) (t : Fin cfg0.N) (i : Fin 256) (j : Fin 512) :
    iblk m c 11 t (ix2 i j) = V m c main_v118 (ix2 ⟨256 * (31 - t.val) + i, by omega⟩ j) := by
  blk_ext [iblk, idx t]

theorem b_sp (c : Dev nD) (t : Fin cfg0.N) (k : Fin 4) (i j : Fin 128) :
    iblk m c 12 t (ix4 0 k i j) = V m c main_v217 (ix4 ⟨31 - t.val, by omega⟩ k i j) := by
  blk_ext [iblk, idx t]

theorem b_dy (c : Dev nD) (t : Fin cfg0.N) (i : Fin 256) (j : Fin 512) :
    iblk m c 13 t (ix2 i j) = V m c main_arg2 (ix2 ⟨256 * (31 - t.val) + i, by omega⟩ ⟨j, by omega⟩) := by
  blk_ext [iblk, idx t]

end Cert.Ret
-- ==== Proof.Loads.lean ====
/- What one head of the kernel's body loads at a grid point, and that these are the reals the head's lemmas want. -/
module

public import proofs.«01_k».proof.Proof.HostAt
public import proofs.«01_k».proof.Proof.Head
public import proofs.«01_k».proof.Proof.Blocks
public import Idealize.ShloMosaic.Lib.Pipeline.ValueKit
public import Idealize.ShloMosaic.Lib.Pointwise

@[expose] public section

set_option maxRecDepth 16384

noncomputable section

namespace Cert.Ret

open Idealize.ShloMosaic Idealize.ShloMosaic.TcCoe Idealize.SL.Sem
open Cert.KernelIdeal Cert.KernelIdeal.Gen

/-! ## Loads of slices -/

section
variable {e : EltTy}
theorem ld_cols (X : Vec Ideal S256x512 e) (o : ℕ) (inb) (i : Fin 256) (d : Fin 128) (h : o + 128 ≤ 512) :
    View.ld X (Rect.unit ![0, o] ![256, 128] inb) (ix2 i d) = X (ix2 i ⟨o + d, by omega⟩) := by
  unfold View.ld; blk_ext <;> (show _ + 1 * _ = _) <;> simp
theorem ld_row (X : Vec Ideal S1x512 e) (o : ℕ) (inb) (d : Fin 128) (h : o + 128 ≤ 512) :
    View.ld X (Rect.unit ![0, o] ![1, 128] inb) (ix2 0 d) = X (ix2 0 ⟨o + d, by omega⟩) := by
  unfold View.ld; blk_ext <;> (show _ + 1 * _ = _) <;> simp
theorem ld_stat (X : Vec Ideal S8x512 e) (o : ℕ) (inb) (d : Fin 128) (h : o + 128 ≤ 512) :
    View.ld X (Rect.unit ![0, o] ![1, 128] inb) (ix2 0 d) = X (ix2 0 ⟨o + d, by omega⟩) := by
  unfold View.ld; blk_ext <;> (show _ + 1 * _ = _) <;> simp
theorem ld_dec (X : Vec Ideal S4x256x128 e) (k : Fin 4) (inb) (i : Fin 256) (d : Fin 128) :
    View.ld X (Rect.unit ![(k : ℕ), 0, 0] ![1, 256, 128] inb) (ix3 0 i d) = X (ix3 k i d) := by
  unfold View.ld; blk_ext <;> (show _ + 1 * _ = _) <;> simp
theorem ld_dm (X : Vec Ideal S4x256x256 e) (k : Fin 4) (inb) (i d : Fin 256) :
    View.ld X (Rect.unit ![(k : ℕ), 0, 0] ![1, 256, 256] inb) (ix3 0 i d) = X (ix3 k i d) := by
  unfold View.ld; blk_ext <;> (show _ + 1 * _ = _) <;> simp
theorem ld_sq (X : Vec Ideal S4x128x128 e) (k : Fin 4) (inb) (i d : Fin 128) :
    View.ld X (Rect.unit ![(k : ℕ), 0, 0] ![1, 128, 128] inb) (ix3 0 i d) = X (ix3 k i d) := by
  unfold View.ld; blk_ext <;> (show _ + 1 * _ = _) <;> simp
theorem ld_sp (X : Vec Ideal S1x4x128x128 e) (k : Fin 4) (inb) (i d : Fin 128) :
    View.ld X (Rect.unit ![0, (k : ℕ), 0, 0] ![1, 1, 128, 128] inb) (ix4 0 0 i d) = X (ix4 0 k i d) := by
  unfold View.ld; blk_ext <;> (show _ + 1 * _ = _) <;> simp
end

/-! ## What a head loads -/

theorem inb_cols (k : Fin 4) : ∀ a : Fin S256x512.rank, ![0, 128 * (k : ℕ)] a + ![256, 128] a ≤ S256x512.size a := by
  intro a; fin_cases a
  · exact le_refl 256
  · show 128 * (k : ℕ) + 128 ≤ 512; omega
theorem inb_row (k : Fin 4) : ∀ a : Fin S1x512.rank, ![0, 128 * (k : ℕ)] a + ![1, 128] a ≤ S1x512.size a := by
  intro a; fin_cases a
  · exact le_refl 1
  · show 128 * (k : ℕ) + 128 ≤ 512; omega
theorem inb_stat (k : Fin 4) : ∀ a : Fin S8x512.rank, ![0, 128 * (k : ℕ)] a + ![1, 128] a ≤ S8x512.size a := by
  intro a; fin_cases a
  · show 1 ≤ 8; omega
  · show 128 * (k : ℕ) + 128 ≤ 512; omega
theorem inb_dec (k : Fin 4) : ∀ a : Fin S4x256x128.rank, ![(k : ℕ), 0, 0] a + ![1, 256, 128] a ≤ S4x256x128.size a := by
  intro a; fin_cases a
  · show (k : ℕ) + 1 ≤ 4; omega
  · exact le_refl 256
  · exact le_refl 128
theorem inb_dm (k : Fin 4) : ∀ a : Fin S4x256x256.rank, ![(k : ℕ), 0, 0] a + ![1, 256, 256] a ≤ S4x256x256.size a := by
  intro a; fin_cases a
  · show (k : ℕ) + 1 ≤ 4; omega
  · exact le_refl 256
  · exact le_refl 256
theorem inb_sq (k : Fin 4) : ∀ a : Fin S4x128x128.rank, ![(k : ℕ), 0, 0] a + ![1, 128, 128] a ≤ S4x128x128.size a := by
  intro a; fin_cases a
  · show (k : ℕ) + 1 ≤ 4; omega
  · exact le_refl 128
  · exact le_refl 128
theorem inb_sp (k : Fin 4) : ∀ a : Fin S1x4x128x128.rank, ![0, (k : ℕ), 0, 0] a + ![1, 1, 128, 128] a ≤ S1x4x128x128.size a := by
  intro a; fin_cases a
  · exact le_refl 1
  · show (k : ℕ) + 1 ≤ 4; omega
  · exact le_refl 128
  · exact le_refl 128

variable (m : (ℓ : Loc nD τ sig) → Buf (Elt Ideal) ℓ)

/-- Head `k` at point `t`, over the running sum `acc`. -/
def hv (c : Dev nD) (t : Fin cfg0.N) (acc : Vec Ideal S4x128x128 .f32) (k : Fin 4) : HV where
  cs := iblk m c 4 t
  sn := iblk m c 5 t
  q := View.ld (iblk m c 0 t) (Rect.unit ![0, 128 * (k : ℕ)] ![256, 128] (inb_cols k))
  k := View.ld (iblk m c 1 t) (Rect.unit ![0, 128 * (k : ℕ)] ![256, 128] (inb_cols k))
  v := View.ld (iblk m c 2 t) (Rect.unit ![0, 128 * (k : ℕ)] ![256, 128] (inb_cols k))
  g := View.ld (iblk m c 3 t) (Rect.unit ![0, 128 * (k : ℕ)] ![256, 128] (inb_cols k))
  y := View.ld (iblk m c 11 t) (Rect.unit ![0, 128 * (k : ℕ)] ![256, 128] (inb_cols k))
  dy := View.ld (iblk m c 13 t) (Rect.unit ![0, 128 * (k : ℕ)] ![256, 128] (inb_cols k))
  qd := View.ld (iblk m c 7 t) (Rect.unit ![(k : ℕ), 0, 0] ![1, 256, 128] (inb_dec k))
  kd := View.ld (iblk m c 8 t) (Rect.unit ![(k : ℕ), 0, 0] ![1, 256, 128] (inb_dec k))
  dm := View.ld (iblk m c 6 t) (Rect.unit ![(k : ℕ), 0, 0] ![1, 256, 256] (inb_dm k))
  sp := View.ld (iblk m c 12 t) (Rect.unit ![0, (k : ℕ), 0, 0] ![1, 1, 128, 128] (inb_sp k))
  gs := View.ld acc (Rect.unit ![(k : ℕ), 0, 0] ![1, 128, 128] (inb_sq k))
  cd := View.ld (iblk m c 9 t) (Rect.unit ![(k : ℕ), 0, 0] ![1, 128, 128] (inb_sq k))
  gn := View.ld (iblk m c 10 t) (Rect.unit ![0, 128 * (k : ℕ)] ![1, 128] (inb_row k))

/-- The device's arguments are real. -/
abbrev MArgs (c : Dev nD) (p dy : ℕ → ℕ → ℝ) (gn : ℕ → ℝ) : Prop := KArgs (fun b => m (c, b)) p dy gn

variable {m} {c : Dev nD} {p dy : ℕ → ℕ → ℝ} {gn : ℕ → ℝ}

theorem l_cs (t : Fin cfg0.N) (i : Fin 256) (d : Fin 128) : iblk m c 4 t (ix2 i d) = ((if (d : ℕ) < 64 then Real.cos (ang (256 * (31 - t.val) + i) d) else Real.cos (ang (256 * (31 - t.val) + i) (d - 64)) : ℝ) : EReal) := by
  refine (b_cs m c t i d).trans ?_
  refine (congrFun (V_E7 m c main_v18) _).trans ?_
  refine (e_cos ⟨_, _⟩ d).trans ?_
  rfl

theorem l_sn (t : Fin cfg0.N) (i : Fin 256) (d : Fin 128) : iblk m c 5 t (ix2 i d) = ((if (d : ℕ) < 64 then -Real.sin (ang (256 * (31 - t.val) + i) d) else Real.sin (ang (256 * (31 - t.val) + i) (d - 64)) : ℝ) : EReal) := by
  refine (b_sn m c t i d).trans ?_
  refine (congrFun (V_E7 m c main_v20) _).trans ?_
  refine (e_sin ⟨_, _⟩ d).trans ?_
  rfl

theorem l_q (A : MArgs m c p dy gn) (t : Fin cfg0.N) (k : Fin 4) (i : Fin 256) (d : Fin 128) : View.ld (iblk m c 0 t) (Rect.unit ![0, 128 * (k : ℕ)] ![256, 128] (inb_cols k)) (ix2 i d) = ((p (256 * (31 - t.val) + i) (128 * k + d) : ℝ) : EReal) := by
  refine (ld_cols _ _ _ i d (by omega)).trans ?_
  refine (b_q m c t _ _).trans ?_
  refine (congrFun (V_E7 m c main_arg0) _).trans ?_
  refine (e_arg0 A _ _).trans ?_
  dsimp only
  rw [Nat.zero_add]

theorem l_k (A : MArgs m c p dy gn) (t : Fin cfg0.N) (k : Fin 4) (i : Fin 256) (d : Fin 128) : View.ld (iblk m c 1 t) (Rect.unit ![0, 128 * (k : ℕ)] ![256, 128] (inb_cols k)) (ix2 i d) = ((p (256 * (31 - t.val) + i) (512 + 128 * k + d) : ℝ) : EReal) := by
  refine (ld_cols _ _ _ i d (by omega)).trans ?_
  refine (b_k m c t _ _).trans ?_
  refine (congrFun (V_E7 m c main_arg0) _).trans ?_
  refine (e_arg0 A _ _).trans ?_
  dsimp only
  rw [Nat.add_assoc]

theorem l_v (A : MArgs m c p dy gn) (t : Fin cfg0.N) (k : Fin 4) (i : Fin 256) (d : Fin 128) : View.ld (iblk m c 2 t) (Rect.unit ![0, 128 * (k : ℕ)] ![256, 128] (inb_cols k)) (ix2 i d) = ((Vv p k (256 * (31 - t.val) + i) d : ℝ) : EReal) := by
  refine (ld_cols _ _ _ i d (by omega)).trans ?_
  refine (b_v m c t _ _).trans ?_
  refine (congrFun (V_E7 m c main_arg0) _).trans ?_
  refine (e_arg0 A _ _).trans ?_
  unfold Vv
  dsimp only
  rw [Nat.add_assoc]

theorem l_g (A : MArgs m c p dy gn) (t : Fin cfg0.N) (k : Fin 4) (i : Fin 256) (d : Fin 128) : View.ld (iblk m c 3 t) (Rect.unit ![0, 128 * (k : ℕ)] ![256, 128] (inb_cols k)) (ix2 i d) = ((gt p k (256 * (31 - t.val) + i) d : ℝ) : EReal) := by
  refine (ld_cols _ _ _ i d (by omega)).trans ?_
  refine (b_g m c t _ _).trans ?_
  refine (congrFun (V_E7 m c main_arg0) _).trans ?_
  refine (e_arg0 A _ _).trans ?_
  unfold gt
  dsimp only
  rw [Nat.add_assoc]

theorem l_y (A : MArgs m c p dy gn) (t : Fin cfg0.N) (k : Fin 4) (i : Fin 256) (d : Fin 128) : View.ld (iblk m c 11 t) (Rect.unit ![0, 128 * (k : ℕ)] ![256, 128] (inb_cols k)) (ix2 i d) = ((Y p k (256 * (31 - t.val) + i) d : ℝ) : EReal) := by
  refine (ld_cols _ _ _ i d (by omega)).trans ?_
  refine (b_y m c t _ _).trans ?_
  refine (congrFun (V_E7 m c main_v118) _).trans ?_
  refine (e_ypre A _ _).trans ?_
  dsimp only
  rw [show (128 * (k : ℕ) + d) / 128 = k by omega, show (128 * (k : ℕ) + d) % 128 = d by omega]

theorem l_dy (A : MArgs m c p dy gn) (t : Fin cfg0.N) (k : Fin 4) (i : Fin 256) (d : Fin 128) : View.ld (iblk m c 13 t) (Rect.unit ![0, 128 * (k : ℕ)] ![256, 128] (inb_cols k)) (ix2 i d) = ((dy (256 * (31 - t.val) + i) (128 * k + d) : ℝ) : EReal) := by
  refine (ld_cols _ _ _ i d (by omega)).trans ?_
  refine (b_dy m c t _ _).trans ?_
  refine (congrFun (V_E7 m c main_arg2) _).trans ?_
  refine (e_arg2 A _ _).trans ?_
  rfl

theorem l_qd (t : Fin cfg0.N) (k : Fin 4) (i : Fin 256) (d : Fin 128) : View.ld (iblk m c 7 t) (Rect.unit ![(k : ℕ), 0, 0] ![1, 256, 128] (inb_dec k)) (ix3 0 i d) = ((Real.exp (lg k * ((i : ℝ) + 1)) : ℝ) : EReal) := by
  refine (ld_dec _ k _ i d).trans ?_
  refine (b_qd m c t _ _ _).trans ?_
  refine (congrFun (V_E7 m c main_v275) _).trans ?_
  refine (e_qd k i d).trans ?_
  rfl

theorem l_kd (t : Fin cfg0.N) (k : Fin 4) (i : Fin 256) (d : Fin 128) : View.ld (iblk m c 8 t) (Rect.unit ![(k : ℕ), 0, 0] ![1, 256, 128] (inb_dec k)) (ix3 0 i d) = ((Real.exp (lg k * (255 - (i : ℝ))) : ℝ) : EReal) := by
  refine (ld_dec _ k _ i d).trans ?_
  refine (b_kd m c t _ _ _).trans ?_
  refine (congrFun (V_E7 m c main_v277) _).trans ?_
  refine (e_kd k i d).trans ?_
  rfl

theorem l_dm (t : Fin cfg0.N) (k : Fin 4) (i j : Fin 256) : View.ld (iblk m c 6 t) (Rect.unit ![(k : ℕ), 0, 0] ![1, 256, 256] (inb_dm k)) (ix3 0 i j) = ((dm k i j : ℝ) : EReal) := by
  refine (ld_dm _ k _ i j).trans ?_
  refine (b_dm m c t _ _ _).trans ?_
  refine (congrFun (V_E7 m c main_v252) _).trans ?_
  refine (e_dm k i j).trans ?_
  rfl

theorem l_sp (A : MArgs m c p dy gn) (t : Fin cfg0.N) (k : Fin 4) (d e : Fin 128) : View.ld (iblk m c 12 t) (Rect.unit ![0, (k : ℕ), 0, 0] ![1, 1, 128, 128] (inb_sp k)) (ix4 0 0 d e) = ((St p k (31 - t.val) d e : ℝ) : EReal) := by
  refine (ld_sp _ k _ d e).trans ?_
  refine (b_sp m c t _ _ _).trans ?_
  refine (congrFun (V_E7 m c main_v217) _).trans ?_
  refine (e_states A ⟨_, _⟩ k d e).trans ?_
  rfl

theorem l_cd (t : Fin cfg0.N) (k : Fin 4) (d e : Fin 128) : View.ld (iblk m c 9 t) (Rect.unit ![(k : ℕ), 0, 0] ![1, 128, 128] (inb_sq k)) (ix3 0 d e) = ((Real.exp (lg k * 256) : ℝ) : EReal) := by
  refine (ld_sq _ k _ d e).trans ?_
  refine (b_cd m c t _ _ _).trans ?_
  refine (congrFun (V_E7 m c main_v273) _).trans ?_
  refine (e_cd k d e).trans ?_
  rfl

theorem l_gn (A : MArgs m c p dy gn) (t : Fin cfg0.N) (k : Fin 4) (d : Fin 128) : View.ld (iblk m c 10 t) (Rect.unit ![0, 128 * (k : ℕ)] ![1, 128] (inb_row k)) (ix2 0 d) = ((gn (128 * k + d) : ℝ) : EReal) := by
  refine (ld_row _ _ _ d (by omega)).trans ?_
  refine (b_gn m c t _).trans ?_
  refine (congrFun (V_E7 m c main_arg1) _).trans ?_
  refine (e_arg1 A _).trans ?_
  rfl

/-- The loads of head `k` at point `t` are those of block `31 - t`. -/
theorem hv_at (A : MArgs m c p dy gn) (t : Fin cfg0.N) (acc : Vec Ideal S4x128x128 .f32) (k : Fin 4)
    (hacc : ∀ d e : Fin 128, acc (ix3 k d e) = ((Gs p dy gn k (31 - t.val + 1) d e : ℝ) : EReal)) :
    (hv m c t acc k).At p dy gn k (31 - t.val) := by
  constructor
  · intro i d
    unfold hv
    dsimp only
    exact l_cs (m := m) (c := c) t i d
  · intro i d
    unfold hv
    dsimp only
    exact l_sn (m := m) (c := c) t i d
  · intro i d
    unfold hv
    dsimp only
    exact l_q A t k i d
  · intro i d
    unfold hv
    dsimp only
    exact l_k A t k i d
  · intro i d
    unfold hv
    dsimp only
    exact l_v A t k i d
  · intro i d
    unfold hv
    dsimp only
    exact l_g A t k i d
  · intro i d
    unfold hv
    dsimp only
    exact l_y A t k i d
  · intro i d
    unfold hv
    dsimp only
    exact l_dy A t k i d
  · intro i d
    unfold hv
    dsimp only
    exact l_qd (m := m) (c := c) t k i d
  · intro i d
    unfold hv
    dsimp only
    exact l_kd (m := m) (c := c) t k i d
  · intro i j
    unfold hv
    dsimp only
    exact l_dm (m := m) (c := c) t k i j
  · intro d e
    unfold hv
    dsimp only
    exact l_sp A t k d e
  · intro d e
    unfold hv
    dsimp only
    exact (ld_sq acc k (inb_sq k) d e).trans (hacc d e)
  · intro d e
    unfold hv
    dsimp only
    exact l_cd (m := m) (c := c) t k d e
  · intro d
    unfold hv
    dsimp only
    exact l_gn A t k d

end Cert.Ret
-- ==== Proof.Points.lean ====
module

public import proofs.«01_k».proof.Proof.Stores
public import proofs.«01_k».proof.Proof.Gen.KernelIdeal.Value
public import proofs.«01_k».proof.Proof.Loads
public import Idealize.ShloMosaic.Lib.Pipeline.ValueKit
public import Idealize.ShloMosaic.Lib.Pointwise
public import Idealize.ShloMosaic.Lib.WritesUnit
public import Idealize.ShloMosaic.Lib.Pipeline.ReadBack

@[expose] public section

set_option maxRecDepth 16384

noncomputable section

namespace Cert.Ret

open Idealize.ShloMosaic Idealize.ShloMosaic.TcCoe Idealize.SL.Sem
open Cert.KernelIdeal Cert.KernelIdeal.Gen

variable {m : (ℓ : Loc nD τ sig) → Buf (Elt Ideal) ℓ} {c : Dev nD} {p dy : ℕ → ℕ → ℝ} {gn : ℕ → ℝ}

theorem ex2 {n0 n1 : ℕ} (x : (Shape.mk 2 ![n0, n1]).Idx) : ∃ i d, x = ix2 i d :=
  ⟨x 0, x 1, by funext a; fin_cases a <;> rfl⟩

theorem ex3 {n0 n1 n2 : ℕ} (x : (Shape.mk 3 ![n0, n1, n2]).Idx) : ∃ i d e, x = ix3 i d e :=
  ⟨x 0, x 1, x 2, by funext a; fin_cases a <;> rfl⟩

section
variable (A : MArgs m c p dy gn) (t : Fin cfg0.N) (acc : Vec Ideal S4x128x128 .f32) (k : Fin 4)
  (hacc : ∀ d e : Fin 128, acc (ix3 k d e) = ((Gs p dy gn k (31 - t.val + 1) d e : ℝ) : EReal))
  (x : S256x128.Idx) (y0 y1 : ℕ) (kn : ℕ) (hk : (k : ℕ) = kn) (h0 : y0 = (x 0 : Fin 256).val)
include A hacc hk h0

theorem pt_q (h1 : y1 = 128 * kn + (x 1 : Fin 128).val) :
    (hv m c t acc k).oq x = ((outD p dy gn (256 * (31 - t.val) + y0) y1 : ℝ) : EReal) := by
  obtain ⟨i, d, hx⟩ := ex2 x
  subst hx
  subst h0 h1 hk
  refine (oq_at (hv_at A t acc k hacc) i d (by omega)).trans ?_
  have hk4 := k.isLt
  have hd : (d : ℕ) < 128 := d.isLt
  show _ = ((outD p dy gn (256 * (31 - t.val) + i) (128 * k + d) : ℝ) : EReal)
  unfold outD
  rw [if_pos (by omega), show (128 * (k : ℕ) + d) / 128 = k by omega, show (128 * (k : ℕ) + d) % 128 = d by omega]

theorem pt_k (h1 : y1 = 512 + 128 * kn + (x 1 : Fin 128).val) :
    (hv m c t acc k).ok x = ((outD p dy gn (256 * (31 - t.val) + y0) y1 : ℝ) : EReal) := by
  obtain ⟨i, d, hx⟩ := ex2 x
  subst hx
  subst h0 h1 hk
  refine (ok_at (hv_at A t acc k hacc) i d (by omega)).trans ?_
  have hk4 := k.isLt
  have hd : (d : ℕ) < 128 := d.isLt
  show _ = ((outD p dy gn (256 * (31 - t.val) + i) (512 + 128 * k + d) : ℝ) : EReal)
  unfold outD
  rw [if_neg (by omega), if_pos (by omega), show (512 + 128 * (k : ℕ) + d - 512) / 128 = k by omega, show (512 + 128 * (k : ℕ) + d - 512) % 128 = d by omega]

theorem pt_v (h1 : y1 = 1024 + 128 * kn + (x 1 : Fin 128).val) :
    (hv m c t acc k).ov x = ((outD p dy gn (256 * (31 - t.val) + y0) y1 : ℝ) : EReal) := by
  obtain ⟨i, d, hx⟩ := ex2 x
  subst hx
  subst h0 h1 hk
  refine (ov_at (hv_at A t acc k hacc) i d (by omega)).trans ?_
  have hk4 := k.isLt
  have hd : (d : ℕ) < 128 := d.isLt
  show _ = ((outD p dy gn (256 * (31 - t.val) + i) (1024 + 128 * k + d) : ℝ) : EReal)
  unfold outD
  rw [if_neg (by omega), if_neg (by omega), if_pos (by omega), show (1024 + 128 * (k : ℕ) + d - 1024) / 128 = k by omega, show (1024 + 128 * (k : ℕ) + d - 1024) % 128 = d by omega]

theorem pt_g (h1 : y1 = 1536 + 128 * kn + (x 1 : Fin 128).val) :
    (hv m c t acc k).og x = ((outD p dy gn (256 * (31 - t.val) + y0) y1 : ℝ) : EReal) := by
  obtain ⟨i, d, hx⟩ := ex2 x
  subst hx
  subst h0 h1 hk
  refine (og_at (hv_at A t acc k hacc) i d).trans ?_
  have hk4 := k.isLt
  have hd : (d : ℕ) < 128 := d.isLt
  show _ = ((outD p dy gn (256 * (31 - t.val) + i) (1536 + 128 * k + d) : ℝ) : EReal)
  unfold outD
  rw [if_neg (by omega), if_neg (by omega), if_neg (by omega), show (1536 + 128 * (k : ℕ) + d - 1536) / 128 = k by omega, show (1536 + 128 * (k : ℕ) + d - 1536) % 128 = d by omega]
end

theorem pt_gs (A : MArgs m c p dy gn) (t : Fin cfg0.N) (acc : Vec Ideal S4x128x128 .f32) (k : Fin 4)
    (hacc : ∀ d e : Fin 128, acc (ix3 k d e) = ((Gs p dy gn k (31 - t.val + 1) d e : ℝ) : EReal))
    (x : S1x128x128.Idx) (y0 y1 y2 : ℕ) (h0 : y0 = (k : ℕ) + (x 0 : Fin 1).val) (h1 : y1 = (x 1 : Fin 128).val) (h2 : y2 = (x 2 : Fin 128).val) :
    (hv m c t acc k).ogs x = ((Gs p dy gn y0 (31 - t.val) y1 y2 : ℝ) : EReal) := by
  obtain ⟨z, d, e, hx⟩ := ex3 x
  subst hx
  have hz : z = 0 := Subsingleton.elim _ _
  subst hz
  subst h0 h1 h2
  exact ogs_at (hv_at A t acc k hacc) d e (by omega)

/-- What block `b` adds to the gain's gradient at column `j`. -/
def blkN (p dy : ℕ → ℕ → ℝ) (b j : ℕ) : ℝ := ∑ i : Fin 256, dyn p dy (j / 128) (256 * b + i) (j % 128) * yhat p (j / 128) (256 * b + i) (j % 128)

theorem pt_st (A : MArgs m c p dy gn) (t : Fin cfg0.N) (acc : Vec Ideal S4x128x128 .f32) (k : Fin 4)
    (hacc : ∀ d e : Fin 128, acc (ix3 k d e) = ((Gs p dy gn k (31 - t.val + 1) d e : ℝ) : EReal))
    (s : Vec Ideal S8x512 .f32) (X : ℕ → ℝ) (hs : ∀ j : Fin 512, s (ix2 0 j) = ((X j : ℝ) : EReal)) (j : ℕ) (d : Fin 128) (hj : j = 128 * (k : ℕ) + d) :
    (hv m c t acc k).ost (View.ld s (Rect.unit ![0, 128 * (k : ℕ)] ![1, 128] (inb_stat k))) (ix2 0 d)
      = ((X j + blkN p dy (31 - t.val) j : ℝ) : EReal) := by
  have hk4 := k.isLt
  have hd : (d : ℕ) < 128 := d.isLt
  refine (st_at (hv_at A t acc k hacc) _ d (X j) ?_).trans ?_
  · refine (ld_stat s _ _ d (by omega)).trans ((hs _).trans ?_)
    rw [hj]
  · unfold blkN
    rw [show j / 128 = k by omega, show j % 128 = d by omega]

set_option maxHeartbeats 1600000 in
/-- The gradients' block at the first point. -/
theorem pts14_A (A : MArgs m c p dy gn) (t : Fin cfg0.N) (hA : t.val % 32 = 0)
    (z : Vec Ideal S4x128x128 .f32) (hz : z = k0_pay4 (F := Ideal))
    (hacc : ∀ (k : Fin 4) (d e : Fin 128), z (ix3 k d e) = ((Gs p dy gn k (31 - t.val + 1) d e : ℝ) : EReal))
    (y : S256x2048.Idx) :
    (outsAt0 m c t.val t.isLt).1 y = ((outD p dy gn (256 * (31 - t.val) + (y 0 : Fin 256).val) (y 1 : Fin 2048).val : ℝ) : EReal) := by
  rw [outsAt0_A m c t hA]
  frame_open
  simp (disch := decide) only [↓View.readCov_skip, ↓View.readCov_fill]
  frame_out
  canon_tiles x h
  case piece0 =>
    refine Eq.trans (b := (hv m c t z 3).ok x) ?_ (pt_k A t z 3 (hacc 3) x _ _ 3 rfl h0 (h1.trans (by omega)))
    subst hz
    unfold HV.ok HV.vQ hv
    dsimp only
    rfl
  case piece1 =>
    refine Eq.trans (b := (hv m c t z 3).oq x) ?_ (pt_q A t z 3 (hacc 3) x _ _ 3 rfl h0 (h1.trans (by omega)))
    unfold HV.oq HV.vK hv
    dsimp only
    rfl
  case piece2 =>
    refine Eq.trans (b := (hv m c t z 3).ov x) ?_ (pt_v A t z 3 (hacc 3) x _ _ 3 rfl h0 (h1.trans (by omega)))
    subst hz
    unfold HV.ov HV.vQ HV.vK hv
    dsimp only
    rfl
  case piece3 =>
    refine Eq.trans (b := (hv m c t z 3).og x) ?_ (pt_g A t z 3 (hacc 3) x _ _ 3 rfl h0 (h1.trans (by omega)))
    unfold HV.og hv
    dsimp only
    rfl
  case piece4 =>
    refine Eq.trans (b := (hv m c t z 2).ok x) ?_ (pt_k A t z 2 (hacc 2) x _ _ 2 rfl h0 (h1.trans (by omega)))
    subst hz
    unfold HV.ok HV.vQ hv
    dsimp only
    rfl
  case piece5 =>
    refine Eq.trans (b := (hv m c t z 2).oq x) ?_ (pt_q A t z 2 (hacc 2) x _ _ 2 rfl h0 (h1.trans (by omega)))
    unfold HV.oq HV.vK hv
    dsimp only
    rfl
  case piece6 =>
    refine Eq.trans (b := (hv m c t z 2).ov x) ?_ (pt_v A t z 2 (hacc 2) x _ _ 2 rfl h0 (h1.trans (by omega)))
    subst hz
    unfold HV.ov HV.vQ HV.vK hv
    dsimp only
    rfl
  case piece7 =>
    refine Eq.trans (b := (hv m c t z 2).og x) ?_ (pt_g A t z 2 (hacc 2) x _ _ 2 rfl h0 (h1.trans (by omega)))
    unfold HV.og hv
    dsimp only
    rfl
  case piece8 =>
    refine Eq.trans (b := (hv m c t z 1).ok x) ?_ (pt_k A t z 1 (hacc 1) x _ _ 1 rfl h0 (h1.trans (by omega)))
    subst hz
    unfold HV.ok HV.vQ hv
    dsimp only
    rfl
  case piece9 =>
    refine Eq.trans (b := (hv m c t z 1).oq x) ?_ (pt_q A t z 1 (hacc 1) x _ _ 1 rfl h0 (h1.trans (by omega)))
    unfold HV.oq HV.vK hv
    dsimp only
    rfl
  case piece10 =>
    refine Eq.trans (b := (hv m c t z 1).ov x) ?_ (pt_v A t z 1 (hacc 1) x _ _ 1 rfl h0 (h1.trans (by omega)))
    subst hz
    unfold HV.ov HV.vQ HV.vK hv
    dsimp only
    rfl
  case piece11 =>
    refine Eq.trans (b := (hv m c t z 1).og x) ?_ (pt_g A t z 1 (hacc 1) x _ _ 1 rfl h0 (h1.trans (by omega)))
    unfold HV.og hv
    dsimp only
    rfl
  case piece12 =>
    refine Eq.trans (b := (hv m c t z 0).ok x) ?_ (pt_k A t z 0 (hacc 0) x _ _ 0 rfl h0 (h1.trans (by omega)))
    subst hz
    unfold HV.ok HV.vQ hv
    dsimp only
    rfl
  case piece13 =>
    refine Eq.trans (b := (hv m c t z 0).oq x) ?_ (pt_q A t z 0 (hacc 0) x _ _ 0 rfl h0 (h1.trans (by omega)))
    unfold HV.oq HV.vK hv
    dsimp only
    rfl
  case piece14 =>
    refine Eq.trans (b := (hv m c t z 0).ov x) ?_ (pt_v A t z 0 (hacc 0) x _ _ 0 rfl h0 (h1.trans (by omega)))
    subst hz
    unfold HV.ov HV.vQ HV.vK hv
    dsimp only
    rfl
  case piece15 =>
    refine Eq.trans (b := (hv m c t z 0).og x) ?_ (pt_g A t z 0 (hacc 0) x _ _ 0 rfl h0 (h1.trans (by omega)))
    unfold HV.og hv
    dsimp only
    rfl

set_option maxHeartbeats 1600000 in
/-- The gradients' block at a later point. -/
theorem pts14_B (A : MArgs m c p dy gn) (t : Fin cfg0.N) (hB : ¬ t.val % 32 = 0)
    (hacc : ∀ (k : Fin 4) (d e : Fin 128), (outsAt0 m c (t.val - 1) (lt_of_le_of_lt (Nat.sub_le _ _) t.isLt)).2.2 (ix3 k d e) = ((Gs p dy gn k (31 - t.val + 1) d e : ℝ) : EReal))
    (y : S256x2048.Idx) :
    (outsAt0 m c t.val t.isLt).1 y = ((outD p dy gn (256 * (31 - t.val) + (y 0 : Fin 256).val) (y 1 : Fin 2048).val : ℝ) : EReal) := by
  rw [outsAt0_B m c t hB]
  frame_out
  canon_tiles x h
  case piece0 =>
    refine Eq.trans (b := (hv m c t (outsAt0 m c (t.val - 1) (lt_of_le_of_lt (Nat.sub_le _ _) t.isLt)).2.2 3).ok x) ?_ (pt_k A t (outsAt0 m c (t.val - 1) (lt_of_le_of_lt (Nat.sub_le _ _) t.isLt)).2.2 3 (hacc 3) x _ _ 3 rfl h0 (h1.trans (by omega)))
    simp only [read_unread_whole]
    unfold HV.ok HV.vQ hv
    dsimp only
    rfl
  case piece1 =>
    refine Eq.trans (b := (hv m c t (outsAt0 m c (t.val - 1) (lt_of_le_of_lt (Nat.sub_le _ _) t.isLt)).2.2 3).oq x) ?_ (pt_q A t (outsAt0 m c (t.val - 1) (lt_of_le_of_lt (Nat.sub_le _ _) t.isLt)).2.2 3 (hacc 3) x _ _ 3 rfl h0 (h1.trans (by omega)))
    unfold HV.oq HV.vK hv
    dsimp only
    rfl
  case piece2 =>
    refine Eq.trans (b := (hv m c t (outsAt0 m c (t.val - 1) (lt_of_le_of_lt (Nat.sub_le _ _) t.isLt)).2.2 3).ov x) ?_ (pt_v A t (outsAt0 m c (t.val - 1) (lt_of_le_of_lt (Nat.sub_le _ _) t.isLt)).2.2 3 (hacc 3) x _ _ 3 rfl h0 (h1.trans (by omega)))
    simp only [read_unread_whole]
    unfold HV.ov HV.vQ HV.vK hv
    dsimp only
    rfl
  case piece3 =>
    refine Eq.trans (b := (hv m c t (outsAt0 m c (t.val - 1) (lt_of_le_of_lt (Nat.sub_le _ _) t.isLt)).2.2 3).og x) ?_ (pt_g A t (outsAt0 m c (t.val - 1) (lt_of_le_of_lt (Nat.sub_le _ _) t.isLt)).2.2 3 (hacc 3) x _ _ 3 rfl h0 (h1.trans (by omega)))
    unfold HV.og hv
    dsimp only
    rfl
  case piece4 =>
    refine Eq.trans (b := (hv m c t (outsAt0 m c (t.val - 1) (lt_of_le_of_lt (Nat.sub_le _ _) t.isLt)).2.2 2).ok x) ?_ (pt_k A t (outsAt0 m c (t.val - 1) (lt_of_le_of_lt (Nat.sub_le _ _) t.isLt)).2.2 2 (hacc 2) x _ _ 2 rfl h0 (h1.trans (by omega)))
    simp only [read_unread_whole]
    unfold HV.ok HV.vQ hv
    dsimp only
    rfl
  case piece5 =>
    refine Eq.trans (b := (hv m c t (outsAt0 m c (t.val - 1) (lt_of_le_of_lt (Nat.sub_le _ _) t.isLt)).2.2 2).oq x) ?_ (pt_q A t (outsAt0 m c (t.val - 1) (lt_of_le_of_lt (Nat.sub_le _ _) t.isLt)).2.2 2 (hacc 2) x _ _ 2 rfl h0 (h1.trans (by omega)))
    unfold HV.oq HV.vK hv
    dsimp only
    rfl
  case piece6 =>
    refine Eq.trans (b := (hv m c t (outsAt0 m c (t.val - 1) (lt_of_le_of_lt (Nat.sub_le _ _) t.isLt)).2.2 2).ov x) ?_ (pt_v A t (outsAt0 m c (t.val - 1) (lt_of_le_of_lt (Nat.sub_le _ _) t.isLt)).2.2 2 (hacc 2) x _ _ 2 rfl h0 (h1.trans (by omega)))
    simp only [read_unread_whole]
    unfold HV.ov HV.vQ HV.vK hv
    dsimp only
    rfl
  case piece7 =>
    refine Eq.trans (b := (hv m c t (outsAt0 m c (t.val - 1) (lt_of_le_of_lt (Nat.sub_le _ _) t.isLt)).2.2 2).og x) ?_ (pt_g A t (outsAt0 m c (t.val - 1) (lt_of_le_of_lt (Nat.sub_le _ _) t.isLt)).2.2 2 (hacc 2) x _ _ 2 rfl h0 (h1.trans (by omega)))
    unfold HV.og hv
    dsimp only
    rfl
  case piece8 =>
    refine Eq.trans (b := (hv m c t (outsAt0 m c (t.val - 1) (lt_of_le_of_lt (Nat.sub_le _ _) t.isLt)).2.2 1).ok x) ?_ (pt_k A t (outsAt0 m c (t.val - 1) (lt_of_le_of_lt (Nat.sub_le _ _) t.isLt)).2.2 1 (hacc 1) x _ _ 1 rfl h0 (h1.trans (by omega)))
    simp only [read_unread_whole]
    unfold HV.ok HV.vQ hv
    dsimp only
    rfl
  case piece9 =>
    refine Eq.trans (b := (hv m c t (outsAt0 m c (t.val - 1) (lt_of_le_of_lt (Nat.sub_le _ _) t.isLt)).2.2 1).oq x) ?_ (pt_q A t (outsAt0 m c (t.val - 1) (lt_of_le_of_lt (Nat.sub_le _ _) t.isLt)).2.2 1 (hacc 1) x _ _ 1 rfl h0 (h1.trans (by omega)))
    unfold HV.oq HV.vK hv
    dsimp only
    rfl
  case piece10 =>
    refine Eq.trans (b := (hv m c t (outsAt0 m c (t.val - 1) (lt_of_le_of_lt (Nat.sub_le _ _) t.isLt)).2.2 1).ov x) ?_ (pt_v A t (outsAt0 m c (t.val - 1) (lt_of_le_of_lt (Nat.sub_le _ _) t.isLt)).2.2 1 (hacc 1) x _ _ 1 rfl h0 (h1.trans (by omega)))
    simp only [read_unread_whole]
    unfold HV.ov HV.vQ HV.vK hv
    dsimp only
    rfl
  case piece11 =>
    refine Eq.trans (b := (hv m c t (outsAt0 m c (t.val - 1) (lt_of_le_of_lt (Nat.sub_le _ _) t.isLt)).2.2 1).og x) ?_ (pt_g A t (outsAt0 m c (t.val - 1) (lt_of_le_of_lt (Nat.sub_le _ _) t.isLt)).2.2 1 (hacc 1) x _ _ 1 rfl h0 (h1.trans (by omega)))
    unfold HV.og hv
    dsimp only
    rfl
  case piece12 =>
    refine Eq.trans (b := (hv m c t (outsAt0 m c (t.val - 1) (lt_of_le_of_lt (Nat.sub_le _ _) t.isLt)).2.2 0).ok x) ?_ (pt_k A t (outsAt0 m c (t.val - 1) (lt_of_le_of_lt (Nat.sub_le _ _) t.isLt)).2.2 0 (hacc 0) x _ _ 0 rfl h0 (h1.trans (by omega)))
    simp only [read_unread_whole]
    unfold HV.ok HV.vQ hv
    dsimp only
    rfl
  case piece13 =>
    refine Eq.trans (b := (hv m c t (outsAt0 m c (t.val - 1) (lt_of_le_of_lt (Nat.sub_le _ _) t.isLt)).2.2 0).oq x) ?_ (pt_q A t (outsAt0 m c (t.val - 1) (lt_of_le_of_lt (Nat.sub_le _ _) t.isLt)).2.2 0 (hacc 0) x _ _ 0 rfl h0 (h1.trans (by omega)))
    unfold HV.oq HV.vK hv
    dsimp only
    rfl
  case piece14 =>
    refine Eq.trans (b := (hv m c t (outsAt0 m c (t.val - 1) (lt_of_le_of_lt (Nat.sub_le _ _) t.isLt)).2.2 0).ov x) ?_ (pt_v A t (outsAt0 m c (t.val - 1) (lt_of_le_of_lt (Nat.sub_le _ _) t.isLt)).2.2 0 (hacc 0) x _ _ 0 rfl h0 (h1.trans (by omega)))
    simp only [read_unread_whole]
    unfold HV.ov HV.vQ HV.vK hv
    dsimp only
    rfl
  case piece15 =>
    refine Eq.trans (b := (hv m c t (outsAt0 m c (t.val - 1) (lt_of_le_of_lt (Nat.sub_le _ _) t.isLt)).2.2 0).og x) ?_ (pt_g A t (outsAt0 m c (t.val - 1) (lt_of_le_of_lt (Nat.sub_le _ _) t.isLt)).2.2 0 (hacc 0) x _ _ 0 rfl h0 (h1.trans (by omega)))
    unfold HV.og hv
    dsimp only
    rfl

set_option maxHeartbeats 1600000 in
/-- The running sum after the first point. -/
theorem gs_A (A : MArgs m c p dy gn) (t : Fin cfg0.N) (hA : t.val % 32 = 0)
    (z : Vec Ideal S4x128x128 .f32) (hz : z = k0_pay4 (F := Ideal))
    (hacc : ∀ (k : Fin 4) (d e : Fin 128), z (ix3 k d e) = ((Gs p dy gn k (31 - t.val + 1) d e : ℝ) : EReal))
    (y : S4x128x128.Idx) :
    (outsAt0 m c t.val t.isLt).2.2 y = ((Gs p dy gn (y 0 : Fin 4).val (31 - t.val) (y 1 : Fin 128).val (y 2 : Fin 128).val : ℝ) : EReal) := by
  rw [outsAt0_A m c t hA]
  frame_open
  simp (disch := decide) only [↓View.readCov_skip, ↓View.readCov_fill]
  frame_out
  have hy : (y 0 : Fin 4).val = 0 ∨ (y 0 : Fin 4).val = 1 ∨ (y 0 : Fin 4).val = 2 ∨ (y 0 : Fin 4).val = 3 := by
    have : (y 0 : Fin 4).val < 4 := (y 0 : Fin 4).isLt
    omega
  rcases hy with hy | hy | hy | hy
  · refine (canon_miss _ _ _ y (0 : Fin 3) (Or.inl (lt_of_eq_of_lt hy (by decide : 0 < 3)))).trans ?_
    refine (canon_miss _ _ _ y (0 : Fin 3) (Or.inl (lt_of_eq_of_lt hy (by decide : 0 < 2)))).trans ?_
    refine (canon_miss _ _ _ y (0 : Fin 3) (Or.inl (lt_of_eq_of_lt hy (by decide : 0 < 1)))).trans ?_
    refine (canon_hit _ _ _ y (ix3 0 (y 1) (y 2)) (Fin.forall_fin_succ.mpr ⟨hy, Fin.forall_fin_two.mpr ⟨(Nat.zero_add _).symm, (Nat.zero_add _).symm⟩⟩)).trans ?_
    refine Eq.trans (b := (hv m c t z 0).ogs (ix3 0 (y 1) (y 2))) ?_ (pt_gs A t z 0 (hacc 0) (ix3 0 (y 1) (y 2)) _ _ _ hy rfl rfl)
    subst hz
    unfold HV.ogs HV.vQ HV.vY hv
    dsimp only
    rfl
  · refine (canon_miss _ _ _ y (0 : Fin 3) (Or.inl (lt_of_eq_of_lt hy (by decide : 1 < 3)))).trans ?_
    refine (canon_miss _ _ _ y (0 : Fin 3) (Or.inl (lt_of_eq_of_lt hy (by decide : 1 < 2)))).trans ?_
    refine (canon_hit _ _ _ y (ix3 0 (y 1) (y 2)) (Fin.forall_fin_succ.mpr ⟨hy, Fin.forall_fin_two.mpr ⟨(Nat.zero_add _).symm, (Nat.zero_add _).symm⟩⟩)).trans ?_
    refine Eq.trans (b := (hv m c t z 1).ogs (ix3 0 (y 1) (y 2))) ?_ (pt_gs A t z 1 (hacc 1) (ix3 0 (y 1) (y 2)) _ _ _ hy rfl rfl)
    subst hz
    unfold HV.ogs HV.vQ HV.vY hv
    dsimp only
    rfl
  · refine (canon_miss _ _ _ y (0 : Fin 3) (Or.inl (lt_of_eq_of_lt hy (by decide : 2 < 3)))).trans ?_
    refine (canon_hit _ _ _ y (ix3 0 (y 1) (y 2)) (Fin.forall_fin_succ.mpr ⟨hy, Fin.forall_fin_two.mpr ⟨(Nat.zero_add _).symm, (Nat.zero_add _).symm⟩⟩)).trans ?_
    refine Eq.trans (b := (hv m c t z 2).ogs (ix3 0 (y 1) (y 2))) ?_ (pt_gs A t z 2 (hacc 2) (ix3 0 (y 1) (y 2)) _ _ _ hy rfl rfl)
    subst hz
    unfold HV.ogs HV.vQ HV.vY hv
    dsimp only
    rfl
  · refine (canon_hit _ _ _ y (ix3 0 (y 1) (y 2)) (Fin.forall_fin_succ.mpr ⟨hy, Fin.forall_fin_two.mpr ⟨(Nat.zero_add _).symm, (Nat.zero_add _).symm⟩⟩)).trans ?_
    refine Eq.trans (b := (hv m c t z 3).ogs (ix3 0 (y 1) (y 2))) ?_ (pt_gs A t z 3 (hacc 3) (ix3 0 (y 1) (y 2)) _ _ _ hy rfl rfl)
    subst hz
    unfold HV.ogs HV.vQ HV.vY hv
    dsimp only
    rfl

set_option maxHeartbeats 1600000 in
/-- The running sum after a later point. -/
theorem gs_B (A : MArgs m c p dy gn) (t : Fin cfg0.N) (hB : ¬ t.val % 32 = 0)
    (hacc : ∀ (k : Fin 4) (d e : Fin 128), (outsAt0 m c (t.val - 1) (lt_of_le_of_lt (Nat.sub_le _ _) t.isLt)).2.2 (ix3 k d e) = ((Gs p dy gn k (31 - t.val + 1) d e : ℝ) : EReal))
    (y : S4x128x128.Idx) :
    (outsAt0 m c t.val t.isLt).2.2 y = ((Gs p dy gn (y 0 : Fin 4).val (31 - t.val) (y 1 : Fin 128).val (y 2 : Fin 128).val : ℝ) : EReal) := by
  rw [outsAt0_B m c t hB]
  frame_out
  canon_tiles x h
  case piece0 =>
    refine Eq.trans (b := (hv m c t (outsAt0 m c (t.val - 1) (lt_of_le_of_lt (Nat.sub_le _ _) t.isLt)).2.2 3).ogs x) ?_ (pt_gs A t _ 3 (hacc 3) x _ _ _ (h0.trans (by show _ = 3 + _; omega)) h1 h2)
    simp only [read_unread_whole]
    unfold HV.ogs HV.vQ HV.vY hv
    dsimp only
    rfl
  case piece1 =>
    refine Eq.trans (b := (hv m c t (outsAt0 m c (t.val - 1) (lt_of_le_of_lt (Nat.sub_le _ _) t.isLt)).2.2 2).ogs x) ?_ (pt_gs A t _ 2 (hacc 2) x _ _ _ (h0.trans (by show _ = 2 + _; omega)) h1 h2)
    simp only [read_unread_whole]
    unfold HV.ogs HV.vQ HV.vY hv
    dsimp only
    rfl
  case piece2 =>
    refine Eq.trans (b := (hv m c t (outsAt0 m c (t.val - 1) (lt_of_le_of_lt (Nat.sub_le _ _) t.isLt)).2.2 1).ogs x) ?_ (pt_gs A t _ 1 (hacc 1) x _ _ _ (h0.trans (by show _ = 1 + _; omega)) h1 h2)
    simp only [read_unread_whole]
    unfold HV.ogs HV.vQ HV.vY hv
    dsimp only
    rfl
  case piece3 =>
    refine Eq.trans (b := (hv m c t (outsAt0 m c (t.val - 1) (lt_of_le_of_lt (Nat.sub_le _ _) t.isLt)).2.2 0).ogs x) ?_ (pt_gs A t _ 0 (hacc 0) x _ _ _ (h0.trans (by show _ = 0 + _; omega)) h1 h2)
    simp only [read_unread_whole]
    unfold HV.ogs HV.vQ HV.vY hv
    dsimp only
    rfl

set_option maxHeartbeats 1600000 in
/-- The running gain gradient after the first point. -/
theorem st_A (A : MArgs m c p dy gn) (t : Fin cfg0.N) (hA : t.val % 32 = 0) (z : Vec Ideal S4x128x128 .f32) (hz : z = k0_pay4 (F := Ideal))
    (hacc : ∀ (k : Fin 4) (d e : Fin 128), z (ix3 k d e) = ((Gs p dy gn k (31 - t.val + 1) d e : ℝ) : EReal))
    (s : Vec Ideal S8x512 .f32) (hsz : s = k0_pay5 (F := Ideal))
    (X : ℕ → ℝ) (hs : ∀ (a : Fin 8) (j : Fin 512), s (ix2 a j) = ((if (a : ℕ) < 1 then X j else 0 : ℝ) : EReal))
    (a : Fin 8) (j : Fin 512) :
    (outsAt0 m c t.val t.isLt).2.1 (ix2 a j) = ((if (a : ℕ) < 1 then X j + blkN p dy (31 - t.val) j else 0 : ℝ) : EReal) := by
  rw [outsAt0_A m c t hA]
  frame_open
  simp (disch := decide) only [↓View.readCov_skip, ↓View.readCov_fill]
  frame_out
  have hs0 : ∀ j : Fin 512, s (ix2 0 j) = ((X j : ℝ) : EReal) := fun j => (hs 0 j).trans (by rw [if_pos (by decide)])
  by_cases ha : (a : ℕ) < 1
  · have ha0 : a = 0 := Fin.ext (by show (a : ℕ) = 0; omega)
    subst ha0
    rw [if_pos (by decide)]
    have hj := j.isLt
    rcases (by omega : (j : ℕ) < 128 ∨ (128 ≤ (j : ℕ) ∧ (j : ℕ) < 256) ∨ (256 ≤ (j : ℕ) ∧ (j : ℕ) < 384) ∨ 384 ≤ (j : ℕ)) with h | h | h | h
    · refine (canon_miss _ _ _ _ (1 : Fin 2) (Or.inl (show (j : ℕ) < 384 by omega))).trans ?_
      refine (canon_miss _ _ _ _ (1 : Fin 2) (Or.inl (show (j : ℕ) < 256 by omega))).trans ?_
      refine (canon_miss _ _ _ _ (1 : Fin 2) (Or.inl (show (j : ℕ) < 128 by omega))).trans ?_
      refine (canon_hit _ _ _ _ (ix2 0 ⟨(j : ℕ) - 0, by omega⟩) ?_).trans ?_
      · intro a
        fin_cases a
        · rfl
        · exact (show (j : ℕ) = 0 + ((j : ℕ) - 0) by omega)
      refine Eq.trans (b := (hv m c t z 0).ost (View.ld s (Rect.unit ![0, 128 * ((0 : Fin 4) : ℕ)] ![1, 128] (inb_stat 0))) (ix2 0 ⟨(j : ℕ) - 0, by omega⟩)) ?_ (pt_st A t z 0 (hacc 0) s X hs0 j ⟨(j : ℕ) - 0, by omega⟩ (show (j : ℕ) = 128 * 0 + ((j : ℕ) - 0) by omega))
      subst hz hsz
      unfold HV.ost hv
      dsimp only
      rfl
    · refine (canon_miss _ _ _ _ (1 : Fin 2) (Or.inl (show (j : ℕ) < 384 by omega))).trans ?_
      refine (canon_miss _ _ _ _ (1 : Fin 2) (Or.inl (show (j : ℕ) < 256 by omega))).trans ?_
      refine (canon_hit _ _ _ _ (ix2 0 ⟨(j : ℕ) - 128, by omega⟩) ?_).trans ?_
      · intro a
        fin_cases a
        · rfl
        · exact (show (j : ℕ) = 128 + ((j : ℕ) - 128) by omega)
      refine Eq.trans (b := (hv m c t z 1).ost (View.ld s (Rect.unit ![0, 128 * ((1 : Fin 4) : ℕ)] ![1, 128] (inb_stat 1))) (ix2 0 ⟨(j : ℕ) - 128, by omega⟩)) ?_ (pt_st A t z 1 (hacc 1) s X hs0 j ⟨(j : ℕ) - 128, by omega⟩ (show (j : ℕ) = 128 * 1 + ((j : ℕ) - 128) by omega))
      subst hz hsz
      unfold HV.ost hv
      dsimp only
      rfl
    · refine (canon_miss _ _ _ _ (1 : Fin 2) (Or.inl (show (j : ℕ) < 384 by omega))).trans ?_
      refine (canon_hit _ _ _ _ (ix2 0 ⟨(j : ℕ) - 256, by omega⟩) ?_).trans ?_
      · intro a
        fin_cases a
        · rfl
        · exact (show (j : ℕ) = 256 + ((j : ℕ) - 256) by omega)
      refine Eq.trans (b := (hv m c t z 2).ost (View.ld s (Rect.unit ![0, 128 * ((2 : Fin 4) : ℕ)] ![1, 128] (inb_stat 2))) (ix2 0 ⟨(j : ℕ) - 256, by omega⟩)) ?_ (pt_st A t z 2 (hacc 2) s X hs0 j ⟨(j : ℕ) - 256, by omega⟩ (show (j : ℕ) = 128 * 2 + ((j : ℕ) - 256) by omega))
      subst hz hsz
      unfold HV.ost hv
      dsimp only
      rfl
    · refine (canon_hit _ _ _ _ (ix2 0 ⟨(j : ℕ) - 384, by omega⟩) ?_).trans ?_
      · intro a
        fin_cases a
        · rfl
        · exact (show (j : ℕ) = 384 + ((j : ℕ) - 384) by omega)
      refine Eq.trans (b := (hv m c t z 3).ost (View.ld s (Rect.unit ![0, 128 * ((3 : Fin 4) : ℕ)] ![1, 128] (inb_stat 3))) (ix2 0 ⟨(j : ℕ) - 384, by omega⟩)) ?_ (pt_st A t z 3 (hacc 3) s X hs0 j ⟨(j : ℕ) - 384, by omega⟩ (show (j : ℕ) = 128 * 3 + ((j : ℕ) - 384) by omega))
      subst hz hsz
      unfold HV.ost hv
      dsimp only
      rfl
  · rw [if_neg ha]
    refine (canon_miss _ _ _ _ (0 : Fin 2) (Or.inr (show 0 + 1 ≤ (a : ℕ) by omega))).trans ?_
    refine (canon_miss _ _ _ _ (0 : Fin 2) (Or.inr (show 0 + 1 ≤ (a : ℕ) by omega))).trans ?_
    refine (canon_miss _ _ _ _ (0 : Fin 2) (Or.inr (show 0 + 1 ≤ (a : ℕ) by omega))).trans ?_
    refine (canon_miss _ _ _ _ (0 : Fin 2) (Or.inr (show 0 + 1 ≤ (a : ℕ) by omega))).trans ?_
    subst hsz
    refine (canon_hit _ _ _ _ (ix2 a j) (Fin.forall_fin_two.mpr ⟨(Nat.zero_add _).symm, (Nat.zero_add _).symm⟩)).trans ?_
    exact (hs a j).trans (by rw [if_neg ha])

set_option maxHeartbeats 1600000 in
/-- The running gain gradient after a later point. -/
theorem st_B (A : MArgs m c p dy gn) (t : Fin cfg0.N) (hB : ¬ t.val % 32 = 0)
    (hacc : ∀ (k : Fin 4) (d e : Fin 128), (outsAt0 m c (t.val - 1) (lt_of_le_of_lt (Nat.sub_le _ _) t.isLt)).2.2 (ix3 k d e) = ((Gs p dy gn k (31 - t.val + 1) d e : ℝ) : EReal))
    (X : ℕ → ℝ) (hs : ∀ (a : Fin 8) (j : Fin 512), (outsAt0 m c (t.val - 1) (lt_of_le_of_lt (Nat.sub_le _ _) t.isLt)).2.1 (ix2 a j) = ((if (a : ℕ) < 1 then X j else 0 : ℝ) : EReal))
    (a : Fin 8) (j : Fin 512) :
    (outsAt0 m c t.val t.isLt).2.1 (ix2 a j) = ((if (a : ℕ) < 1 then X j + blkN p dy (31 - t.val) j else 0 : ℝ) : EReal) := by
  rw [outsAt0_B m c t hB]
  frame_out
  have hs0 : ∀ j : Fin 512, (outsAt0 m c (t.val - 1) (lt_of_le_of_lt (Nat.sub_le _ _) t.isLt)).2.1 (ix2 0 j) = ((X j : ℝ) : EReal) := fun j => (hs 0 j).trans (by rw [if_pos (by decide)])
  by_cases ha : (a : ℕ) < 1
  · have ha0 : a = 0 := Fin.ext (by show (a : ℕ) = 0; omega)
    subst ha0
    rw [if_pos (by decide)]
    have hj := j.isLt
    rcases (by omega : (j : ℕ) < 128 ∨ (128 ≤ (j : ℕ) ∧ (j : ℕ) < 256) ∨ (256 ≤ (j : ℕ) ∧ (j : ℕ) < 384) ∨ 384 ≤ (j : ℕ)) with h | h | h | h
    · refine (View.read_writes_cons_unit_of_not_mem _ _ _ _ _ _ rfl (1 : Fin 2) (Or.inl (show (j : ℕ) < 384 by omega))).trans ?_
      refine (View.read_writes_cons_unit_of_not_mem _ _ _ _ _ _ rfl (1 : Fin 2) (Or.inl (show (j : ℕ) < 256 by omega))).trans ?_
      refine (View.read_writes_cons_unit_of_not_mem _ _ _ _ _ _ rfl (1 : Fin 2) (Or.inl (show (j : ℕ) < 128 by omega))).trans ?_
      refine (View.read_writes_cons_unit_of_mem _ _ _ _ _ _ (ix2 0 ⟨(j : ℕ) - 0, by omega⟩) rfl ?_).trans ?_
      · intro a
        fin_cases a
        · rfl
        · exact (show (j : ℕ) = 0 + ((j : ℕ) - 0) by omega)
      refine Eq.trans (b := (hv m c t (outsAt0 m c (t.val - 1) (lt_of_le_of_lt (Nat.sub_le _ _) t.isLt)).2.2 0).ost (View.ld (outsAt0 m c (t.val - 1) (lt_of_le_of_lt (Nat.sub_le _ _) t.isLt)).2.1 (Rect.unit ![0, 128 * ((0 : Fin 4) : ℕ)] ![1, 128] (inb_stat 0))) (ix2 0 ⟨(j : ℕ) - 0, by omega⟩)) ?_ (pt_st A t (outsAt0 m c (t.val - 1) (lt_of_le_of_lt (Nat.sub_le _ _) t.isLt)).2.2 0 (hacc 0) (outsAt0 m c (t.val - 1) (lt_of_le_of_lt (Nat.sub_le _ _) t.isLt)).2.1 X hs0 j ⟨(j : ℕ) - 0, by omega⟩ (show (j : ℕ) = 128 * 0 + ((j : ℕ) - 0) by omega))
      unfold HV.ost hv
      dsimp only
      rfl
    · refine (View.read_writes_cons_unit_of_not_mem _ _ _ _ _ _ rfl (1 : Fin 2) (Or.inl (show (j : ℕ) < 384 by omega))).trans ?_
      refine (View.read_writes_cons_unit_of_not_mem _ _ _ _ _ _ rfl (1 : Fin 2) (Or.inl (show (j : ℕ) < 256 by omega))).trans ?_
      refine (View.read_writes_cons_unit_of_mem _ _ _ _ _ _ (ix2 0 ⟨(j : ℕ) - 128, by omega⟩) rfl ?_).trans ?_
      · intro a
        fin_cases a
        · rfl
        · exact (show (j : ℕ) = 128 + ((j : ℕ) - 128) by omega)
      refine Eq.trans (b := (hv m c t (outsAt0 m c (t.val - 1) (lt_of_le_of_lt (Nat.sub_le _ _) t.isLt)).2.2 1).ost (View.ld (outsAt0 m c (t.val - 1) (lt_of_le_of_lt (Nat.sub_le _ _) t.isLt)).2.1 (Rect.unit ![0, 128 * ((1 : Fin 4) : ℕ)] ![1, 128] (inb_stat 1))) (ix2 0 ⟨(j : ℕ) - 128, by omega⟩)) ?_ (pt_st A t (outsAt0 m c (t.val - 1) (lt_of_le_of_lt (Nat.sub_le _ _) t.isLt)).2.2 1 (hacc 1) (outsAt0 m c (t.val - 1) (lt_of_le_of_lt (Nat.sub_le _ _) t.isLt)).2.1 X hs0 j ⟨(j : ℕ) - 128, by omega⟩ (show (j : ℕ) = 128 * 1 + ((j : ℕ) - 128) by omega))
      unfold HV.ost hv
      dsimp only
      rfl
    · refine (View.read_writes_cons_unit_of_not_mem _ _ _ _ _ _ rfl (1 : Fin 2) (Or.inl (show (j : ℕ) < 384 by omega))).trans ?_
      refine (View.read_writes_cons_unit_of_mem _ _ _ _ _ _ (ix2 0 ⟨(j : ℕ) - 256, by omega⟩) rfl ?_).trans ?_
      · intro a
        fin_cases a
        · rfl
        · exact (show (j : ℕ) = 256 + ((j : ℕ) - 256) by omega)
      refine Eq.trans (b := (hv m c t (outsAt0 m c (t.val - 1) (lt_of_le_of_lt (Nat.sub_le _ _) t.isLt)).2.2 2).ost (View.ld (outsAt0 m c (t.val - 1) (lt_of_le_of_lt (Nat.sub_le _ _) t.isLt)).2.1 (Rect.unit ![0, 128 * ((2 : Fin 4) : ℕ)] ![1, 128] (inb_stat 2))) (ix2 0 ⟨(j : ℕ) - 256, by omega⟩)) ?_ (pt_st A t (outsAt0 m c (t.val - 1) (lt_of_le_of_lt (Nat.sub_le _ _) t.isLt)).2.2 2 (hacc 2) (outsAt0 m c (t.val - 1) (lt_of_le_of_lt (Nat.sub_le _ _) t.isLt)).2.1 X hs0 j ⟨(j : ℕ) - 256, by omega⟩ (show (j : ℕ) = 128 * 2 + ((j : ℕ) - 256) by omega))
      unfold HV.ost hv
      dsimp only
      rfl
    · refine (View.read_writes_cons_unit_of_mem _ _ _ _ _ _ (ix2 0 ⟨(j : ℕ) - 384, by omega⟩) rfl ?_).trans ?_
      · intro a
        fin_cases a
        · rfl
        · exact (show (j : ℕ) = 384 + ((j : ℕ) - 384) by omega)
      refine Eq.trans (b := (hv m c t (outsAt0 m c (t.val - 1) (lt_of_le_of_lt (Nat.sub_le _ _) t.isLt)).2.2 3).ost (View.ld (outsAt0 m c (t.val - 1) (lt_of_le_of_lt (Nat.sub_le _ _) t.isLt)).2.1 (Rect.unit ![0, 128 * ((3 : Fin 4) : ℕ)] ![1, 128] (inb_stat 3))) (ix2 0 ⟨(j : ℕ) - 384, by omega⟩)) ?_ (pt_st A t (outsAt0 m c (t.val - 1) (lt_of_le_of_lt (Nat.sub_le _ _) t.isLt)).2.2 3 (hacc 3) (outsAt0 m c (t.val - 1) (lt_of_le_of_lt (Nat.sub_le _ _) t.isLt)).2.1 X hs0 j ⟨(j : ℕ) - 384, by omega⟩ (show (j : ℕ) = 128 * 3 + ((j : ℕ) - 384) by omega))
      unfold HV.ost hv
      dsimp only
      rfl
  · rw [if_neg ha]
    refine (View.read_writes_cons_unit_of_not_mem _ _ _ _ _ _ rfl (0 : Fin 2) (Or.inr (show 0 + 1 ≤ (a : ℕ) by omega))).trans ?_
    refine (View.read_writes_cons_unit_of_not_mem _ _ _ _ _ _ rfl (0 : Fin 2) (Or.inr (show 0 + 1 ≤ (a : ℕ) by omega))).trans ?_
    refine (View.read_writes_cons_unit_of_not_mem _ _ _ _ _ _ rfl (0 : Fin 2) (Or.inr (show 0 + 1 ≤ (a : ℕ) by omega))).trans ?_
    refine (View.read_writes_cons_unit_of_not_mem _ _ _ _ _ _ rfl (0 : Fin 2) (Or.inr (show 0 + 1 ≤ (a : ℕ) by omega))).trans ?_
    refine Eq.trans ?_ ((hs a j).trans (by rw [if_neg ha]))
    rw [View.writes_nil]
    exact congrFun (Memref.IsWhole.read_unread _ _) _

end Cert.Ret
-- ==== Proof.Result.lean ====
module

public import proofs.«01_k».proof.Proof.Gen.KernelIdeal.Value
public import proofs.«01_k».proof.Proof.Points
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Ret

open Idealize.ShloMosaic Idealize.ShloMosaic.TcCoe Idealize.SL.Sem
open Cert.KernelIdeal Cert.KernelIdeal.Gen

variable {m : (ℓ : Loc nD τ sig) → Buf (Elt Ideal) ℓ} {c : Dev nD} {p dy : ℕ → ℕ → ℝ} {gn : ℕ → ℝ}

/-- The running sum before the first point is zero. -/
theorem z4 (A : MArgs m c p dy gn) (k : Fin 4) (d e : Fin 128) : (show Vec Ideal S4x128x128 .f32 from k0_pay4 (F := Ideal)) (ix3 k d e) = ((Gs p dy gn k (31 - 0 + 1) d e : ℝ) : EReal) := by
  rw [show 31 - 0 + 1 = 32 from rfl, Gs_last]
  exact lit_0

theorem gs_all (A : MArgs m c p dy gn) : ∀ (n : ℕ) (h : n < cfg0.N) (k : Fin 4) (d e : Fin 128),
    (outsAt0 m c n h).2.2 (ix3 k d e) = ((Gs p dy gn k (31 - n) d e : ℝ) : EReal)
  | 0, h, k, d, e => gs_A A ⟨0, h⟩ rfl _ rfl (fun k d e => z4 A k d e) (ix3 k d e)
  | n + 1, h, k, d, e => by
    have hn : n + 1 < 32 := h
    refine gs_B A ⟨n + 1, h⟩ (show ¬ (n + 1) % 32 = 0 by omega) (fun k d e => ?_) (ix3 k d e)
    refine (gs_all A n _ k d e).trans ?_
    rw [show 31 - n = 31 - (n + 1) + 1 by omega]

/-- The gain's gradient over the last `n + 1` blocks. -/
def accN (p dy : ℕ → ℕ → ℝ) (n j : ℕ) : ℝ := ∑ b ∈ Finset.range (n + 1), blkN p dy (31 - b) j

theorem st_all (A : MArgs m c p dy gn) : ∀ (n : ℕ) (h : n < cfg0.N) (a : Fin 8) (j : Fin 512),
    (outsAt0 m c n h).2.1 (ix2 a j) = ((if (a : ℕ) < 1 then accN p dy n j else 0 : ℝ) : EReal)
  | 0, h, a, j => by
    refine (st_A A ⟨0, h⟩ rfl _ rfl (fun k d e => z4 A k d e) _ rfl (fun _ => 0) (fun a j => ?_) a j).trans ?_
    · rw [ite_self]; exact lit_0
    · unfold accN
      rw [Finset.sum_range_one, zero_add]
  | n + 1, h, a, j => by
    have hn : n + 1 < 32 := h
    refine (st_B A ⟨n + 1, h⟩ (show ¬ (n + 1) % 32 = 0 by omega) (fun k d e => ?_) (accN p dy n) (fun a j => st_all A n _ a j) a j).trans ?_
    · refine (gs_all A n _ k d e).trans ?_
      rw [show 31 - n = 31 - (n + 1) + 1 by omega]
    · unfold accN
      rw [Finset.sum_range_succ _ (n + 1)]

/-- The gradients' block at a point. -/
theorem out14_at (A : MArgs m c p dy gn) (t : Fin cfg0.N) (y : S256x2048.Idx) :
    (outsAt0 m c t.val t.isLt).1 y = ((outD p dy gn (256 * (31 - t.val) + (y 0 : Fin 256).val) (y 1 : Fin 2048).val : ℝ) : EReal) := by
  have ht : t.val < 32 := t.isLt
  by_cases h : t.val % 32 = 0
  · have h0 : t.val = 0 := by omega
    refine pts14_A A t h _ rfl (fun k d e => ?_) y
    rw [h0]
    exact z4 A k d e
  · refine pts14_B A t h (fun k d e => ?_) y
    refine (gs_all A (t.val - 1) _ k d e).trans ?_
    rw [show 31 - (t.val - 1) = 31 - t.val + 1 by omega]

theorem sum_blocks (f : ℕ → ℝ) : ∀ n : ℕ, ∑ b ∈ Finset.range n, ∑ i ∈ Finset.range 256, f (256 * b + i) = ∑ t ∈ Finset.range (256 * n), f t
  | 0 => rfl
  | n + 1 => by rw [Finset.sum_range_succ, sum_blocks f n, Nat.mul_succ, Finset.sum_range_add]

/-- All blocks together give the gain's gradient. -/
theorem accN_all (j : ℕ) : accN p dy 31 j = DN p dy (j / 128) (j % 128) := by
  unfold accN blkN DN
  rw [Fin.sum_univ_eq_sum_range (fun t => dyn p dy (j / 128) t (j % 128) * yhat p (j / 128) t (j % 128)) 8192]
  rw [← sum_blocks (fun t => dyn p dy (j / 128) t (j % 128) * yhat p (j / 128) t (j % 128)) 32]
  rw [← Finset.sum_range_reflect _ 32]
  refine Finset.sum_congr rfl fun b hb => ?_
  rw [show 31 - (32 - 1 - b) = b by have := Finset.mem_range.mp hb; omega]
  exact Fin.sum_univ_eq_sum_range (fun i => dyn p dy (j / 128) (256 * b + i) (j % 128) * yhat p (j / 128) (256 * b + i) (j % 128)) 256
theorem fin14 (A : MArgs m c p dy gn) :
    (dats m 0 c).arrAt 14 cfg0.N = (fun i : S8192x2048.Idx => ((outD p dy gn (i 0 : Fin 8192).val (i 1 : Fin 2048).val : ℝ) : EReal)) := by
  refine (dats m 0 c).arrAt_eq_of_covers 14 _ (by decide +kernel) fun t hf y => ?_
  blk_simp
  rw [after0_14]
  refine (out14_at A t y).trans ?_
  obtain ⟨-, -, -, -, -, -, -, -, -, -, -, -, -, -, e, -⟩ := idx t
  rw [show win0_14.index t 0 = 31 - t.val from congrFun e 0, show win0_14.index t 1 = 0 from congrFun e 1, Nat.zero_mul, Nat.zero_add,
    Nat.mul_comm (31 - t.val) 256]

theorem fin15 (A : MArgs m c p dy gn) :
    (dats m 0 c).arrAt 15 cfg0.N = (fun i : S8x512.Idx => ((outN p dy (i 0 : Fin 8).val (i 1 : Fin 512).val : ℝ) : EReal)) := by
  refine (dats m 0 c).arrAt_eq_of_covers 15 _ (by decide +kernel) fun t hf y => ?_
  have h31 := (flush0_15 t).mp hf
  blk_simp
  rw [after0_15]
  have ht : t.val = 31 := by have : t.val < 32 := t.isLt; omega
  obtain ⟨-, -, -, -, -, -, -, -, -, -, -, -, -, -, -, e⟩ := idx t
  rw [show win0_15.index t 0 = 0 from congrFun e 0, show win0_15.index t 1 = 0 from congrFun e 1, Nat.zero_mul, Nat.zero_add, Nat.zero_add]
  obtain ⟨a, j, hy⟩ := ex2 (show S8x512.Idx from y)
  refine (congrArg _ hy).trans ((st_all A t.val t.isLt a j).trans ?_)
  have h0 : ((y 0 : Fin 8) : ℕ) = a := congrArg (fun y : S8x512.Idx => ((y 0 : Fin 8) : ℕ)) hy
  have h1 : ((y 1 : Fin 512) : ℕ) = j := congrArg (fun y : S8x512.Idx => ((y 1 : Fin 512) : ℕ)) hy
  unfold outN
  rw [ht, accN_all]
  exact congrArg _ (by rw [← h0, ← h1])

end Cert.Ret
-- ==== Proof.RefAt.lean ====
module

public import proofs.«01_k».proof.Proof.Gen.ReferenceIdeal.Run
public import proofs.«01_k».proof.Proof.Coe

@[expose] public section

set_option maxRecDepth 16384

noncomputable section

namespace Cert.Ret

open Idealize.ShloMosaic Idealize.ShloMosaic.TcCoe Idealize.SL.Sem
open Cert.ReferenceIdeal Cert.ReferenceIdeal.Value

/-- The three arguments hold real numbers. -/
structure Args (V0 : Valuation τ sig (Elt Ideal)) (p dy : ℕ → ℕ → ℝ) (gn : ℕ → ℝ) : Prop where
  arg0 : ∀ (s : Fin 8192) (j : Fin 5632), V0 (Proc.tc.devRef main_arg0) (ix2 s j) = ((p s j : ℝ) : EReal)
  arg1 : ∀ (j : Fin 512), V0 (Proc.tc.devRef main_arg1) (ix2 0 j) = ((gn j : ℝ) : EReal)
  arg2 : ∀ (s : Fin 8192) (j : Fin 1536), V0 (Proc.tc.devRef main_arg2) (ix2 s j) = ((dy s j : ℝ) : EReal)

variable {V0 : Valuation τ sig (Elt Ideal)} {p dy : ℕ → ℕ → ℝ} {gn : ℕ → ℝ} (A : Args V0 p dy gn)
include A

theorem r33 (s : Fin 8192) (h : Fin 4) (d : Fin 128) : res_main_v33 V0 (ix3 s h d) = ((Q p h s d : ℝ) : EReal) := by
  pointwise [res_main_v33, res_main_v22, res_main_v21, res_main_v20, res_main_v18, res_main_v16, res_main_v4]
  unfold Q rot
  by_cases hd : (d : ℕ) < 64
  · rw [dif_pos hd, if_pos hd, ang_r _ _ s.isLt hd, A.arg0, A.arg0, Ideal.cos_coe, Ideal.sin_coe, ← EReal.coe_mul, ← EReal.coe_mul, ← EReal.coe_sub]
    congr 6 <;> (simp only; omega)
  · rw [dif_neg hd, if_neg hd, ang_r _ _ s.isLt (by omega), A.arg0, A.arg0, Ideal.cos_coe, Ideal.sin_coe, ← EReal.coe_mul, ← EReal.coe_mul, ← EReal.coe_add]
    congr 6 <;> (simp only; omega)

theorem r65 (s : Fin 8192) (h : Fin 4) (d : Fin 128) : res_main_v65 V0 (ix3 s h d) = ((K p h s d : ℝ) : EReal) := by
  pointwise [res_main_v65, res_main_v51, res_main_v52, res_main_v50, res_main_v48, res_main_v46, res_main_v34]
  unfold K rot
  rw [lit_sc, EReal.coe_mul]
  refine congrArg (· * (sc : EReal)) ?_
  by_cases hd : (d : ℕ) < 64
  · rw [dif_pos hd, if_pos hd, ang_r _ _ s.isLt hd, A.arg0, A.arg0, Ideal.cos_coe, Ideal.sin_coe, ← EReal.coe_mul, ← EReal.coe_mul, ← EReal.coe_sub]
    congr 6 <;> (simp only; omega)
  · rw [dif_neg hd, if_neg hd, ang_r _ _ s.isLt (by omega), A.arg0, A.arg0, Ideal.cos_coe, Ideal.sin_coe, ← EReal.coe_mul, ← EReal.coe_mul, ← EReal.coe_add]
    congr 6 <;> (simp only; omega)

theorem r66 (s : Fin 8192) (h : Fin 4) (d : Fin 128) : res_main_v66 V0 (ix3 s h d) = ((Vv p h s d : ℝ) : EReal) := by
  pointwise [res_main_v66]
  rw [A.arg0]
  unfold Vv
  congr 2; simp only; omega

omit A in
theorem r97 (h : Fin 4) (t s : Fin 8192) : res_main_v97 V0 (ix3 h t s) = ((dec h t s : ℝ) : EReal) := by
  pointwise [res_main_v97, res_main_v78, res_main_v75]
  rw [div64 _ t.isLt, div64 _ s.isLt, Idealize.ShloMosaic.WordCmp.cmpi_sle_ofNat (by omega) (by omega), select_dec, lg_r _ h.isLt, sit _ t.isLt, sit _ s.isLt,
    ← EReal.coe_sub, abs_r, ← EReal.coe_mul, Ideal.exp_coe]
  have hz : id (constant (F := Ideal) S_ FTy.f32 0#32) ix0 = ((0 : ℝ) : EReal) := by rw [← lit_0]; rfl
  rw [hz, coe_ite]
  rfl

theorem r98 (h : Fin 4) (t s : Fin 8192) : res_main_v98 V0 (ix3 h t s) = ((sco p h t s * dec h t s : ℝ) : EReal) := by
  pointwise [res_main_v98]
  simp only [r33 A, r65 A, r97, ← EReal.coe_mul, coe_fsum]
  rfl

theorem r100 (t : Fin 8192) (h : Fin 4) (e : Fin 128) : res_main_v100 V0 (ix3 t h e) = ((Y p h t e : ℝ) : EReal) := by
  pointwise [res_main_v100]
  simp only [r98 A, r66 A, ← EReal.coe_mul, coe_fsum]
  rfl

theorem r108 (t : Fin 8192) (h : Fin 4) : res_main_v108 V0 (ix3 t h 0) = ((ms p h t : ℝ) : EReal) := by
  pointwise [res_main_v108]
  rw [lit_128, lit_eps]
  simp only [r100 A, ← EReal.coe_mul, coe_fsum]
  rw [div_r _ _ (by norm_num), ← EReal.coe_add]
  rfl

theorem r109 (t : Fin 8192) (h : Fin 4) : Ideal.rsqrt (res_main_v108 V0 (ix3 t h 0)) = ((rr p h t : ℝ) : EReal) := by
  rw [r108 A, rsqrt_r _ (ms_pos p h t)]
  rfl

theorem r114 (t : Fin 8192) (h : Fin 4) (e : Fin 128) : res_main_v114 V0 (ix3 t h e) = ((yhat p h t e : ℝ) : EReal) := by
  pointwise [res_main_v114, res_main_v109]
  rw [r109 A, r100 A, ← EReal.coe_mul]
  rfl

theorem r124 (t : Fin 8192) (h : Fin 4) (e : Fin 128) (j : Fin 512) (hj : (j : ℕ) = 128 * h + e) :
    res_main_v124 V0 (ix2 t j) = ((lgi (gt p h t e) : ℝ) : EReal) := by
  pointwise [res_main_v124, res_main_v3]
  rw [A.arg0, show (1 : EReal) = ((1 : ℝ) : EReal) from rfl, lgi_r]
  unfold gt
  congr 3; simp only; omega

theorem r128 (t : Fin 8192) (h : Fin 4) (e : Fin 128) (j : Fin 512) (hj : (j : ℕ) = 128 * h + e) :
    res_main_v128 V0 (ix2 t j) = ((gt p h t e * lgi (gt p h t e) : ℝ) : EReal) := by
  pointwise [res_main_v128, res_main_v3]
  rw [r124 A t h e j hj, A.arg0, EReal.coe_mul]
  unfold gt
  refine congrArg₂ (· * ·) ?_ rfl
  congr 2; simp only; omega

theorem r137 (t : Fin 8192) (h : Fin 4) (e : Fin 128) : res_main_v137 V0 (ix3 t h e) = ((dyn p dy h t e : ℝ) : EReal) := by
  pointwise [res_main_v137, res_main_v130]
  rw [r128 A t h e _ (by simp only; omega), A.arg2, ← EReal.coe_mul]
  unfold dyn
  congr 3; simp only; omega

theorem r142 (t : Fin 8192) (h : Fin 4) (e : Fin 128) : res_main_v142 V0 (ix3 t h e) = ((dyhat p dy gn h t e : ℝ) : EReal) := by
  pointwise [res_main_v142, res_main_v115]
  rw [r137 A t h e, A.arg1, ← EReal.coe_mul]
  unfold dyhat
  congr 3; simp only; omega

theorem r153 (t : Fin 8192) (h : Fin 4) (e : Fin 128) : res_main_v153 V0 (ix3 t h e)
    = (((∑ e' : Fin 128, Y p h t e' * dyhat p dy gn h t e') * (-(1 / 2) * (rr p h t * (1 / ms p h t))) * (1 / 128) : ℝ) : EReal) := by
  pointwise [res_main_v153, res_main_v109]
  rw [lit_128, lit_mhalf]
  rw [Fin.sum_univ_one]
  rw [show res_main_v108 V0 (ix3 t h (0 : Fin 1)) = ((ms p h t : ℝ) : EReal) from r108 A t h, rsqrt_r _ (ms_pos p h t),
    div_r _ _ (ms_pos p h t).ne']
  simp only [r100 A, r142 A, ← EReal.coe_mul, coe_fsum]
  rw [div_r _ _ (by norm_num)]
  rfl

theorem r159 (t : Fin 8192) (h : Fin 4) (e : Fin 128) : res_main_v159 V0 (ix3 h e t) = ((dY p dy gn h t e : ℝ) : EReal) := by
  pointwise [res_main_v159, res_main_v109]
  rw [r109 A, r142 A, r153 A, r100 A, ← norm_back]
  simp only [← EReal.coe_mul, ← EReal.coe_add]

theorem r163 (t s : Fin 8192) (h : Fin 4) : res_main_v163 V0 (ix3 h t s) = ((DS p dy gn h t s : ℝ) : EReal) := by
  pointwise [res_main_v163]
  simp only [r159 A, r66 A, r97, ← EReal.coe_mul, coe_fsum]
  rfl

theorem r167 (t : Fin 8192) (h : Fin 4) (d : Fin 128) : res_main_v167 V0 (ix3 t h d) = ((DQ p dy gn h t d : ℝ) : EReal) := by
  pointwise [res_main_v167]
  simp only [r163 A, r65 A, ← EReal.coe_mul, coe_fsum]
  rfl

theorem r170 (t : Fin 8192) (h : Fin 4) (d : Fin 128) : res_main_v170 V0 (ix3 t h d) = ((DK p dy gn h t d : ℝ) : EReal) := by
  pointwise [res_main_v170]
  simp only [r163 A, r33 A, ← EReal.coe_mul, coe_fsum, lit_sc]
  rfl

theorem r131 (t : Fin 8192) (h : Fin 4) (e : Fin 128) (j : Fin 512) (hj : (j : ℕ) = 128 * h + e) : res_main_v131 V0 (ix2 t j)
    = ((yhat p h t e * gn (128 * h + e) * dy t (128 * h + e) : ℝ) : EReal) := by
  pointwise [res_main_v131, res_main_v130, res_main_v118, res_main_v115]
  have e1 : (⟨(j : ℕ) / 128, by omega⟩ : Fin 4) = h := by ext; simp only; omega
  have e2 : (⟨(j : ℕ) % 128, by omega⟩ : Fin 128) = e := by ext; simp only; omega
  rw [e1, e2, r114 A, A.arg1, A.arg2, ← EReal.coe_mul, ← EReal.coe_mul]
  simp only [hj]

end Cert.Ret
-- ==== Proof.RefOut.lean ====
module

public import proofs.«01_k».proof.Proof.Gen.ReferenceIdeal.Run
public import proofs.«01_k».proof.Proof.RefAt

@[expose] public section

set_option maxRecDepth 16384

noncomputable section

namespace Cert.Ret

open Idealize.ShloMosaic Idealize.ShloMosaic.TcCoe Idealize.SL.Sem
open Cert.ReferenceIdeal Cert.ReferenceIdeal.Value Cert.ReferenceIdeal.Gen

variable {V0 : Valuation τ sig (Elt Ideal)} {p dy : ℕ → ℕ → ℝ} {gn : ℕ → ℝ} (A : Args V0 p dy gn)
include A

omit A in
theorem rotT_r (x : ℕ → ℕ → ℝ) (t d : ℕ) {P Q : Prop} [Decidable P] [Decidable Q] (hP : P ↔ 64 ≤ d) (hQ : Q ↔ d < 64)
    {a : P → EReal} {b : Q → EReal}
    (ha : ∀ h, a h = ((x t d * Real.cos (ang t (d - 64)) + -(x t (d - 64)) * Real.sin (ang t (d - 64)) : ℝ) : EReal))
    (hb : ∀ h, b h = ((x t (d + 64) * Real.sin (ang t d) + x t d * Real.cos (ang t d) : ℝ) : EReal)) :
    (if h : P then a h else 0) + (if h : Q then b h else 0) = ((rotT x t d : ℝ) : EReal) := by
  unfold rotT
  by_cases hd : d < 64
  · rw [dif_neg (by rw [hP]; omega), dif_pos (hQ.mpr hd), hb, zero_add, if_pos hd]
    congr 1; ring
  · rw [dif_pos (by rw [hP]; omega), dif_neg (by rw [hQ]; omega), ha, add_zero, if_neg hd]
    congr 1; ring

omit A in
theorem r18 (t : Fin 8192) (d : Fin 64) : res_main_v18 V0 (ix3 t 0 d) = ((Real.cos (ang t d) : ℝ) : EReal) := by
  pointwise [res_main_v18, res_main_v16]
  rw [ang_r _ _ t.isLt d.isLt, Ideal.cos_coe]

omit A in
theorem r20 (t : Fin 8192) (d : Fin 64) : res_main_v20 V0 (ix3 t 0 d) = ((Real.sin (ang t d) : ℝ) : EReal) := by
  pointwise [res_main_v20, res_main_v16]
  rw [ang_r _ _ t.isLt d.isLt, Ideal.sin_coe]

omit A in
theorem r48 (t : Fin 8192) (d : Fin 64) : res_main_v48 V0 (ix3 t 0 d) = ((Real.cos (ang t d) : ℝ) : EReal) := by
  pointwise [res_main_v48, res_main_v46]
  rw [ang_r _ _ t.isLt d.isLt, Ideal.cos_coe]

omit A in
theorem r50 (t : Fin 8192) (d : Fin 64) : res_main_v50 V0 (ix3 t 0 d) = ((Real.sin (ang t d) : ℝ) : EReal) := by
  pointwise [res_main_v50, res_main_v46]
  rw [ang_r _ _ t.isLt d.isLt, Ideal.sin_coe]

/-- The transposed rotation of a head's rows, laid out as columns. -/
def unrot (X : FVec Ideal S8192x4x128 .f32) (c s : FVec Ideal S8192x1x64 .f32) : FVec Ideal S8192x512 .f32 :=
  shapeCast _ (addf (F := Ideal) (s := S8192x4x128) (φ := .f32)
    (pad S8192x4x128 ![0, 0, 64] ![0, 0, 0] ![0, 0, 0]
      (addf (F := Ideal) (s := S8192x4x64) (φ := .f32)
        (mulf (F := Ideal) (s := S8192x4x64) (φ := .f32) (extractStridedSlice S8192x4x64 ![0, 0, 64] X slices_S8192x4x128_S8192x4x64_0_0_64)
          (broadcastInDim S8192x4x64 ![0, 1, 2] bcast_S8192x1x64_S8192x4x64_0_1_2 c))
        (mulf (F := Ideal) (s := S8192x4x64) (φ := .f32) (Host.negf (F := Ideal) (s := S8192x4x64) (φ := .f32) (extractStridedSlice S8192x4x64 ![0, 0, 0] X slices_S8192x4x128_S8192x4x64_0_0_0))
          (broadcastInDim S8192x4x64 ![0, 1, 2] bcast_S8192x1x64_S8192x4x64_0_1_2 s)))
      (constant (F := Ideal) S_ .f32 0x00000000#32) pads_S8192x4x64_S8192x4x128_000_000_6400 h_S_)
    (pad S8192x4x128 ![0, 0, 0] ![0, 0, 64] ![0, 0, 0]
      (addf (F := Ideal) (s := S8192x4x64) (φ := .f32)
        (mulf (F := Ideal) (s := S8192x4x64) (φ := .f32) (extractStridedSlice S8192x4x64 ![0, 0, 64] X slices_S8192x4x128_S8192x4x64_0_0_64)
          (broadcastInDim S8192x4x64 ![0, 1, 2] bcast_S8192x1x64_S8192x4x64_0_1_2 s))
        (mulf (F := Ideal) (s := S8192x4x64) (φ := .f32) (extractStridedSlice S8192x4x64 ![0, 0, 0] X slices_S8192x4x128_S8192x4x64_0_0_0)
          (broadcastInDim S8192x4x64 ![0, 1, 2] bcast_S8192x1x64_S8192x4x64_0_1_2 c)))
      (constant (F := Ideal) S_ .f32 0x00000000#32) pads_S8192x4x64_S8192x4x128_000_000_0640 h_S_)) shapeCasts_S8192x4x128_S8192x512

omit A in
theorem unrot_at (X : FVec Ideal S8192x4x128 .f32) (c s : FVec Ideal S8192x1x64 .f32) (x : ℕ → ℕ → ℕ → ℝ)
    (hX : ∀ (t : Fin 8192) (h : Fin 4) (d : Fin 128), X (ix3 t h d) = ((x h t d : ℝ) : EReal))
    (hc : ∀ (t : Fin 8192) (d : Fin 64), c (ix3 t 0 d) = ((Real.cos (ang t d) : ℝ) : EReal))
    (hs : ∀ (t : Fin 8192) (d : Fin 64), s (ix3 t 0 d) = ((Real.sin (ang t d) : ℝ) : EReal)) (t : Fin 8192) (j : Fin 512) :
    unrot X c s (ix2 t j) = ((rotT (x (j / 128)) t (j % 128) : ℝ) : EReal) := by
  pointwise [unrot]
  have hj := j.isLt
  refine rotT_r (x (j / 128)) t (j % 128) (by omega) (by omega) (fun h => ?_) (fun h => ?_)
  · have h64 : 64 ≤ (j : ℕ) % 128 := h.2.1
    simp only [hX, hc, hs, ← EReal.coe_neg, ← EReal.coe_mul, ← EReal.coe_add]
    rw [show 64 + ((j : ℕ) % 128 - 64) = (j : ℕ) % 128 by omega]
  · simp only [hX, hc, hs, ← EReal.coe_mul, ← EReal.coe_add]
    rw [Nat.add_comm 64 ((j : ℕ) % 128)]

/-- The columns of the values' gradient. -/
def rdv (V0 : Valuation τ sig (Elt Ideal)) : FVec Ideal S8192x512 .f32 :=
  shapeCast _ (transpose S8192x4x128 [2, 0, 1] (Host.dotGeneral (F := Ideal) (φ₁ := .f32) (φ₂ := .f32) dot_S4x128x8192_S4x8192x8192_S4x128x8192_2_1_1_2_0_0 none (res_main_v159 V0) (res_main_v98 V0)) transposes_S4x128x8192_S8192x4x128_2_0_1) shapeCasts_S8192x4x128_S8192x512

theorem rdv_at (t : Fin 8192) (j : Fin 512) : rdv V0 (ix2 t j) = ((DV p dy gn (j / 128) t (j % 128) : ℝ) : EReal) := by
  pointwise [rdv]
  simp only [r159 A, r98 A, ← EReal.coe_mul, coe_fsum]
  rfl

/-- The columns of the gate's gradient. -/
def rdg (V0 : Valuation τ sig (Elt Ideal)) : FVec Ideal S8192x512 .f32 :=
  addf (mulf (res_main_v131 V0) (res_main_v124 V0)) (mulf (mulf (res_main_v3 V0) (res_main_v131 V0)) (mulf (res_main_v124 V0) (subf (broadcastInDim S8192x512 ![] bcast_S_S8192x512 (constant S_ .f32 0x3F800000#32)) (res_main_v124 V0))))

theorem rdg_at (t : Fin 8192) (j : Fin 512) : rdg V0 (ix2 t j) = ((DG p dy gn (j / 128) t (j % 128) : ℝ) : EReal) := by
  pointwise [rdg, res_main_v3]
  have hj := j.isLt
  have e1 := r131 A t ⟨(j : ℕ) / 128, by omega⟩ ⟨(j : ℕ) % 128, by omega⟩ j (by simp only; omega)
  have e2 := r124 A t ⟨(j : ℕ) / 128, by omega⟩ ⟨(j : ℕ) % 128, by omega⟩ j (by simp only; omega)
  rw [e1, e2, A.arg0, show (1 : EReal) = ((1 : ℝ) : EReal) from rfl]
  simp only [← EReal.coe_mul, ← EReal.coe_sub, ← EReal.coe_add]
  rw [show 1536 + (j : ℕ) = 1536 + 128 * ((j : ℕ) / 128) + (j : ℕ) % 128 by omega]
  unfold DG
  rw [show p t (1536 + 128 * ((j : ℕ) / 128) + (j : ℕ) % 128) = gt p ((j : ℕ) / 128) t ((j : ℕ) % 128) from rfl]
  congr 1; ring

omit A in
theorem cat_at (a b c d : FVec Ideal S8192x512 .f32) (t : Fin 8192) (j : Fin 2048) :
    (truncf .bf16 ((concatenate S8192x2048 1 [⟨S8192x512, a⟩, ⟨S8192x512, b⟩, ⟨S8192x512, c⟩, ⟨S8192x512, d⟩]
      concatenates_S8192x512_S8192x512_S8192x512_S8192x512_S8192x2048_d1 : FVec Ideal S8192x2048 .f32)) bitsLt_bf16_f32) (ix2 t j)
      = if h : (j : ℕ) < 512 then a (ix2 t ⟨j, h⟩) else if h : (j : ℕ) - 512 < 512 then b (ix2 t ⟨(j : ℕ) - 512, h⟩)
        else if h : (j : ℕ) - 512 - 512 < 512 then c (ix2 t ⟨(j : ℕ) - 512 - 512, h⟩) else d (ix2 t ⟨(j : ℕ) - 512 - 512 - 512, by omega⟩) := by
  pointwise

/-- The reference's first result. -/
theorem o206 (t : Fin 8192) (j : Fin 2048) :
    (show FVec Ideal S8192x2048 .bf16 from val4 V0 (Proc.devRef .tc main_v206)) (ix2 t j) = ((outD p dy gn t j : ℝ) : EReal) := by
  rw [val4_main_v206]
  refine (cat_at (unrot (res_main_v167 V0) (res_main_v18 V0) (res_main_v20 V0)) (unrot (res_main_v170 V0) (res_main_v48 V0) (res_main_v50 V0))
    (rdv V0) (rdg V0) t j).trans ?_
  unfold outD
  by_cases h1 : (j : ℕ) < 512
  · rw [dif_pos h1, if_pos h1, unrot_at _ _ _ _ (fun t h d => r167 A t h d) r18 r20]
  rw [dif_neg h1, if_neg h1]
  by_cases h2 : (j : ℕ) - 512 < 512
  · rw [dif_pos h2, if_pos (by omega), unrot_at _ _ _ _ (fun t h d => r170 A t h d) r48 r50]
  rw [dif_neg h2, if_neg (by omega)]
  by_cases h3 : (j : ℕ) - 512 - 512 < 512
  · rw [dif_pos h3, if_pos (by omega), rdv_at A]
    dsimp only
    rw [Nat.sub_sub]
  · rw [dif_neg h3, if_neg (by omega), rdg_at A]
    dsimp only
    rw [Nat.sub_sub, Nat.sub_sub]

/-- The reference's second result. -/
theorem o207 (a : Fin 8) (j : Fin 512) :
    (show FVec Ideal S8x512 .f32 from val4 V0 (Proc.devRef .tc main_v207)) (ix2 a j) = ((outN p dy a j : ℝ) : EReal) := by
  rw [val4_main_v207]
  pointwise
  unfold outN
  by_cases h : (a : ℕ) < 1
  · rw [dif_pos h, if_pos h, Fin.sum_univ_one]
    simp only [r114 A, r137 A, ← EReal.coe_mul, coe_fsum]
    unfold DN
    refine congrArg _ (Finset.sum_congr rfl fun x _ => mul_comm _ _)
  · rw [dif_neg h, if_neg h]
    show ((_ : ℝ) : EReal) = _
    simp

end Cert.Ret
-- ==== Proof.Finite.lean ====
/- What a finiteness precondition says of an array's entries, and the real arithmetic it opens inside the extended reals. -/
module

public import proofs.«01_k».proof.Proof.Coe

@[expose] public section

noncomputable section

namespace Cert.Ret

open Idealize.ShloMosaic Idealize.ShloMosaic.TcCoe Idealize.SL.Sem

/-- A value below infinity in absolute value is a real. -/
theorem real_of_lt_top (x t : EReal) (ht : t = ⊤) (h : Ideal.cmp .olt (max x (-x)) t = 1#1) : x = ((x.toReal : ℝ) : EReal) := by
  rw [ht] at h
  have hl : max x (-x) < ⊤ := by
    by_contra hn
    simp [Ideal.cmp, hn] at h
  have h1 : x ≠ ⊤ := fun e => by rw [e] at hl; simp at hl
  have h2 : x ≠ ⊥ := fun e => by rw [e] at hl; simp at hl
  exact (EReal.coe_toReal h1 h2).symm

theorem real_of_lt (x : EReal) (h : Ideal.cmp .olt (max x (-x)) (Ideal.ofBits .f32 0x7F800000#32) = 1#1) : x = ((x.toReal : ℝ) : EReal) :=
  real_of_lt_top x _ (by simp [Ideal.ofBits, Ideal.ieee]) h

theorem real_of_lt16 (x : EReal) (h : Ideal.cmp .olt (max x (-x)) (Ideal.ofBits .bf16 0x7F80#16) = 1#1) : x = ((x.toReal : ℝ) : EReal) :=
  real_of_lt_top x _ (by simp [Ideal.ofBits, Ideal.ieee]) h

/-- An extended real that is a real. -/
def IsReal (x : EReal) : Prop := ∃ r : ℝ, x = (r : EReal)

theorem isReal_of_lt (x : EReal) (h : Ideal.cmp .olt (max x (-x)) (Ideal.ofBits .f32 0x7F800000#32) = 1#1) : IsReal x := ⟨_, real_of_lt x h⟩

theorem isReal_of_lt16 (x : EReal) (h : Ideal.cmp .olt (max x (-x)) (Ideal.ofBits .bf16 0x7F80#16) = 1#1) : IsReal x := ⟨_, real_of_lt16 x h⟩

theorem IsReal.add {x y : EReal} : IsReal x → IsReal y → IsReal (x + y)
  | ⟨r, hr⟩, ⟨s, hs⟩ => ⟨r + s, by rw [hr, hs, EReal.coe_add]⟩

theorem IsReal.mul {x y : EReal} : IsReal x → IsReal y → IsReal (x * y)
  | ⟨r, hr⟩, ⟨s, hs⟩ => ⟨r * s, by rw [hr, hs, EReal.coe_mul]⟩

theorem IsReal.sum {n : ℕ} {f : Fin n → EReal} (h : ∀ i, IsReal (f i)) : IsReal (∑ i, f i) := by
  choose g hg using h
  exact ⟨∑ i, g i, by rw [← coe_fsum]; exact Finset.sum_congr rfl fun i _ => hg i⟩

end Cert.Ret

end
-- ==== Proof.Final.lean ====
module

public import proofs.«01_k».proof.Defs
public import proofs.«01_k».proof.Proof.Gen.Pre_finite
public import proofs.«01_k».proof.Proof.Result
public import proofs.«01_k».proof.Proof.RefOut
public import proofs.«01_k».proof.Proof.Finite
public import Idealize.ShloMosaic.Lib.Claim

@[expose] public section

set_option maxRecDepth 16384

noncomputable section

namespace Cert.Ret

open Idealize.ShloMosaic Idealize.ShloMosaic.TcCoe Idealize.SL.Sem

/-- The entries of an array, as a function of two numbers. -/
def ent {a b : ℕ} (X : (Shape.mk 2 ![a, b]).Idx → EReal) (s j : ℕ) : ℝ :=
  if h : s < a ∧ j < b then (X (ix2 ⟨s, h.1⟩ ⟨j, h.2⟩)).toReal else 0

theorem ent_at {a b : ℕ} (X : (Shape.mk 2 ![a, b]).Idx → EReal) (s : Fin a) (j : Fin b)
    (h : Ideal.cmp .olt (max (X (ix2 s j)) (-(X (ix2 s j)))) (Ideal.ofBits .f32 0x7F800000#32) = 1#1) :
    X (ix2 s j) = ((ent X s j : ℝ) : EReal) := by
  unfold ent
  rw [dif_pos ⟨s.isLt, j.isLt⟩]
  exact real_of_lt _ h

section
open Cert.KernelIdeal

variable (m : (ℓ : Loc nD τ sig) → Buf (Elt Ideal) ℓ) (c : Dev nD)

/-- The device's arguments as real functions. -/
def P0 : ℕ → ℕ → ℝ := ent (a := 8192) (b := 5632) (m ((c.tc : Thread nD τ).loc main_arg0))
def G0 : ℕ → ℝ := ent (a := 1) (b := 512) (m ((c.tc : Thread nD τ).loc main_arg1)) 0
def D0 : ℕ → ℕ → ℝ := ent (a := 8192) (b := 1536) (m ((c.tc : Thread nD τ).loc main_arg2))

theorem margs (h : Cert.Pre_KernelIdeal_finite m) : MArgs m c (P0 m c) (D0 m c) (G0 m c) where
  arg0 s j := ent_at (a := 8192) (b := 5632) (m ((c.tc : Thread nD τ).loc main_arg0)) s j (congrFun (h c).1 (ix2 s j))
  arg1 j := ent_at (a := 1) (b := 512) (m ((c.tc : Thread nD τ).loc main_arg1)) 0 j (congrFun (h c).2.1 (ix2 0 j))
  arg2 s j := ent_at (a := 8192) (b := 1536) (m ((c.tc : Thread nD τ).loc main_arg2)) s j (congrFun (h c).2.2 (ix2 s j))
end

theorem algebraic : Cert.algebraic_KernelIdeal_ReferenceIdeal_pre_finite := by
  intro m g m' g' hpre hagree
  refine ⟨fun c => fun i : Cert.KernelIdeal.S8192x2048.Idx => ((outD (P0 m c) (D0 m c) (G0 m c) (i 0 : Fin 8192).val (i 1 : Fin 2048).val : ℝ) : EReal),
    fun c => fun i : Cert.KernelIdeal.S8x512.Idx => ((outN (P0 m c) (D0 m c) (i 0 : Fin 8).val (i 1 : Fin 512).val : ℝ) : EReal), ?_, ?_⟩
  · refine (θ_run _ _ _).mono (fun r h c => ?_) (Cert.KernelIdeal.Value.run_blocks m g)
    exact ⟨(h c).1.trans (fin14 (margs m c hpre)), (h c).2.1.trans (fin15 (margs m c hpre)), (h c).2.2⟩
  · refine (θ_run _ _ _).mono (fun r h c => ?_) (Cert.ReferenceIdeal.Value.run m' g')
    have hc := hagree c
    have hk := margs m c hpre
    have A : Args (Idealize.ShloMosaic.StableHlo.launchContents m' c) (P0 m c) (D0 m c) (G0 m c) := by
      constructor
      · intro s j
        exact (congrFun (Idealize.ShloMosaic.StableHlo.launchContents_devRef m' c Cert.ReferenceIdeal.main_arg0) (ix2 s j)).trans ((congrFun hc.1 (ix2 s j)).trans (hk.arg0 s j))
      · intro j
        exact (congrFun (Idealize.ShloMosaic.StableHlo.launchContents_devRef m' c Cert.ReferenceIdeal.main_arg1) (ix2 0 j)).trans ((congrFun hc.2.1 (ix2 0 j)).trans (hk.arg1 j))
      · intro s j
        exact (congrFun (Idealize.ShloMosaic.StableHlo.launchContents_devRef m' c Cert.ReferenceIdeal.main_arg2) (ix2 s j)).trans ((congrFun hc.2.2 (ix2 s j)).trans (hk.arg2 s j))
    refine ⟨(h c).1.trans ?_, (h c).2.1.trans ?_, (h c).2.2⟩
    · refine (Cert.ReferenceIdeal.Value.val4_main_v206 (Idealize.ShloMosaic.StableHlo.launchContents m' c)).symm.trans ?_
      funext i
      obtain ⟨t, j, rfl⟩ := ex2 (show Cert.ReferenceIdeal.S8192x2048.Idx from i)
      exact o206 A t j
    · refine (Cert.ReferenceIdeal.Value.val4_main_v207 (Idealize.ShloMosaic.StableHlo.launchContents m' c)).symm.trans ?_
      funext i
      obtain ⟨t, j, rfl⟩ := ex2 (show Cert.ReferenceIdeal.S8x512.Idx from i)
      exact o207 A t j

end Cert.Ret

end
-- ==== Proof.DactValue.lean ====
module

public import proofs.«01_k».proof.Defs
public import proofs.«01_k».proof.Proof.Gen.DactIdeal.Value
public import proofs.«01_k».proof.Proof.Gen.RefDactIdeal.Run
public import Idealize.ShloMosaic.Lib.Pipeline.ValueKit
public import Idealize.ShloMosaic.Lib.Pointwise
public import Idealize.ShloMosaic.Lib.Pipeline.ReadBack
public import Idealize.ShloMosaic.Lib.Claim
public import proofs.«01_k».proof.Proof.Finite
public import proofs.«01_k».proof.Proof.Gen.Pre_finite_dact

@[expose] public section

set_option maxRecDepth 16384

noncomputable section

/-! The backward pass of the gated activation: the gradients of the two branches of the FFN. -/

namespace Cert.DactCall

open Idealize.ShloMosaic Idealize.ShloMosaic.TcCoe Idealize.SL.Sem

section Reference

open Cert.RefDactIdeal Cert.RefDactIdeal.Gen

def refDa (a0 : FVec Ideal S8192x1024 .bf16) (a1 : FVec Ideal S2816x1024 .bf16) (a2 : FVec Ideal S8192x2816 .bf16) (a3 : FVec Ideal S8192x2816 .bf16) : FVec Ideal S8192x2816 .bf16 :=
  truncf .bf16 (addf (mulf (mulf (Host.dotGeneral dot_S8192x1024_S2816x1024_S8192x2816_1_1_0_0_n_n none (extf .f32 a0 bitsLt_bf16_f32) (extf .f32 a1 bitsLt_bf16_f32)) (extf .f32 a3 bitsLt_bf16_f32)) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extf .f32 a2 bitsLt_bf16_f32)))))) (mulf (mulf (extf .f32 a2 bitsLt_bf16_f32) (mulf (Host.dotGeneral dot_S8192x1024_S2816x1024_S8192x2816_1_1_0_0_n_n none (extf .f32 a0 bitsLt_bf16_f32) (extf .f32 a1 bitsLt_bf16_f32)) (extf .f32 a3 bitsLt_bf16_f32))) (mulf (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extf .f32 a2 bitsLt_bf16_f32))))) (subf (broadcastInDim S8192x2816 ![] bcast_S_S8192x2816 (constant S_ .f32 0x3F800000#32)) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extf .f32 a2 bitsLt_bf16_f32))))))))) bitsLt_bf16_f32

def refDb (a0 : FVec Ideal S8192x1024 .bf16) (a1 : FVec Ideal S2816x1024 .bf16) (a2 : FVec Ideal S8192x2816 .bf16) (a3 : FVec Ideal S8192x2816 .bf16) : FVec Ideal S8192x2816 .bf16 :=
  truncf .bf16 (mulf (mulf (extf .f32 a2 bitsLt_bf16_f32) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extf .f32 a2 bitsLt_bf16_f32)))))) (Host.dotGeneral dot_S8192x1024_S2816x1024_S8192x2816_1_1_0_0_n_n none (extf .f32 a0 bitsLt_bf16_f32) (extf .f32 a1 bitsLt_bf16_f32))) bitsLt_bf16_f32

end Reference

open Cert.DactIdeal Cert.DactIdeal.Gen

variable (m : (ℓ : Loc nD τ sig) → Buf (Elt Ideal) ℓ)

/-- The two ways the gate's derivative is grouped agree when what they multiply is a real, whatever the gate's argument. -/
theorem regroup_da (x a : EReal) (hx : Cert.Ret.IsReal x) :
    x * (Ideal.logistic a * (1 + a * (1 - Ideal.logistic a)))
      = x * Ideal.logistic a + a * x * (Ideal.logistic a * (1 - Ideal.logistic a)) := by
  obtain ⟨x, rfl⟩ := hx
  induction a using EReal.rec with
  | bot => simp
  | top =>
    have h : (1 : EReal) - 1 = 0 := EReal.sub_self (EReal.coe_ne_top 1) (EReal.coe_ne_bot 1)
    simp [h]
  | coe a =>
    rw [Ideal.logistic_coe]
    norm_cast
    ring

theorem regroup_db (d a : EReal) : d * a * Ideal.logistic a = a * Ideal.logistic a * d := by
  rw [mul_assoc, mul_comm]

/-- The block index of every window at every point. -/
theorem idx : ∀ t : Fin cfg0.N, win0_0.index t = ![t.val / 11, 0]
    ∧ win0_1.index t = ![t.val % 11, 0]
    ∧ win0_2.index t = ![t.val / 11, t.val % 11]
    ∧ win0_3.index t = ![t.val / 11, t.val % 11]
    ∧ win0_4.index t = ![t.val / 11, t.val % 11]
    ∧ win0_5.index t = ![t.val / 11, t.val % 11] :=
  (by decide +kernel : ∀ t : Fin grid0.N, _)

theorem point_5 (c : Dev nD) (t : Fin cfg0.N) (y) :
    out0_5 (iblk m c 0 t) (iblk m c 1 t) (iblk m c 2 t) (iblk m c 3 t) y = refDb (m ((c : Thread nD τ).loc main_arg0)) (m ((c : Thread nD τ).loc main_arg1)) (m ((c : Thread nD τ).loc main_arg2)) (m ((c : Thread nD τ).loc main_arg3)) (((cfg0.win 5).blk t).view.emb y) := by
  frame_out
  pointwise [k0_pay4, k0_pay1, k0_pay2, k0_pay3, refDb]
  refine Eq.trans ?_ (regroup_db _ _)
  simp only [Ideal.logistic]
  blk_point [iblk, V, idx t]

theorem final_5 (c : Dev nD) : (dats m 0 c).arrAt 5 (cfgs 0).N = refDb (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  exact point_5 m c t y

/-- What the precondition says of the device's arguments. -/
def Finite (c : Dev nD) : Prop :=
  (∀ i, Cert.Ret.IsReal (m ((c : Thread nD τ).loc main_arg0) i)) ∧ (∀ i, Cert.Ret.IsReal (m ((c : Thread nD τ).loc main_arg1) i))
    ∧ ∀ i, Cert.Ret.IsReal (m ((c : Thread nD τ).loc main_arg3) i)

theorem finite (h : Cert.Pre_DactIdeal_finite_dact m) (c : Dev nD) : Finite m c :=
  ⟨fun i => Cert.Ret.isReal_of_lt16 _ (congrFun (h c).1 i), fun i => Cert.Ret.isReal_of_lt16 _ (congrFun (h c).2.1 i),
    fun i => Cert.Ret.isReal_of_lt16 _ (congrFun (h c).2.2 i)⟩

theorem point_4 (c : Dev nD) (h : Finite m c) (t : Fin cfg0.N) (y) :
    out0_4 (iblk m c 0 t) (iblk m c 1 t) (iblk m c 2 t) (iblk m c 3 t) y = refDa (m ((c : Thread nD τ).loc main_arg0)) (m ((c : Thread nD τ).loc main_arg1)) (m ((c : Thread nD τ).loc main_arg2)) (m ((c : Thread nD τ).loc main_arg3)) (((cfg0.win 4).blk t).view.emb y) := by
  frame_out
  pointwise [k0_pay5, k0_pay1, k0_pay2, k0_pay3, refDa]
  refine Eq.trans ?_ (regroup_da _ _ (((Cert.Ret.IsReal.sum fun k => (h.1 _).mul (h.2.1 _))).mul (h.2.2 _)))
  simp only [Ideal.logistic]
  blk_point [iblk, V, idx t]

theorem final_4 (c : Dev nD) (h : Finite m c) : (dats m 0 c).arrAt 4 (cfgs 0).N = refDa (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  exact point_4 m c h t y

/-- The call computes what the reference computes. -/
theorem algebraic : Cert.algebraic_DactIdeal_RefDactIdeal_pre_finite_dact := by
  intro m g m' g' hpre hagree
  refine ⟨fun c => refDa (m ((c : Thread nD τ).loc main_arg0)) (m ((c : Thread nD τ).loc main_arg1)) (m ((c : Thread nD τ).loc main_arg2)) (m ((c : Thread nD τ).loc main_arg3)), fun c => refDb (m ((c : Thread nD τ).loc main_arg0)) (m ((c : Thread nD τ).loc main_arg1)) (m ((c : Thread nD τ).loc main_arg2)) (m ((c : Thread nD τ).loc main_arg3)), ?_, ?_⟩
  · refine (θ_run _ _ _).mono (fun r h c => ?_) (Cert.DactIdeal.Value.run_blocks m g)
    exact ⟨(h c).1.trans (final_4 m c (finite m hpre c)), (h c).2.1.trans (final_5 m c), (h c).2.2⟩
  · refine (θ_run _ _ _).mono (fun r h c => ?_) (Cert.RefDactIdeal.Value.run m' g')
    obtain ⟨e0, e1, e2, e3⟩ := hagree c
    refine ⟨(h c).1.trans ?_, (h c).2.1.trans ?_, (h c).2.2⟩
    · have k := congr (congr (congr (congrArg refDa e0) e1) e2) e3
      exact k
    · have k := congr (congr (congr (congrArg refDb e0) e1) e2) e3
      exact k

end Cert.DactCall

end
-- ==== Proof.DwdValue.lean ====
module

public import proofs.«01_k».proof.Defs
public import proofs.«01_k».proof.Proof.Gen.DwdIdeal.Value
public import proofs.«01_k».proof.Proof.Gen.RefDwdIdeal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

/-! A weight gradient of the gated FFN: the product of the activations and the output gradient, summed over the tokens. -/

namespace Cert.DwdCall

open Idealize.ShloMosaic Idealize.ShloMosaic.TcCoe Idealize.SL.Sem

section Reference

open Cert.RefDwdIdeal Cert.RefDwdIdeal.Gen

def refW (a0 : FVec Ideal S8192x2816 .bf16) (a1 : FVec Ideal S8192x1024 .bf16) : FVec Ideal S2816x1024 .bf16 :=
  truncf .bf16 (transpose S2816x1024 [1, 0] (Host.dotGeneral dot_S8192x1024_S8192x2816_S1024x2816_0_0_1_1_n_n none (extf .f32 a1 bitsLt_bf16_f32) (extf .f32 a0 bitsLt_bf16_f32)) transposes_S1024x2816_S2816x1024_1_0) bitsLt_bf16_f32

end Reference

open Cert.DwdIdeal Cert.DwdIdeal.Gen

variable (m : (ℓ : Loc nD τ sig) → Buf (Elt Ideal) ℓ)

/-- The block index of every window at every point. -/
theorem idx : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- One step's product. -/
theorem pay1_at (x0 : Vec Ideal S2048x1408 .bf16) (x1 : Vec Ideal S2048x1024 .bf16) (j : S1408x1024.Idx) :
    k0_pay1 (F := Ideal) x0 x1 j = ∑ k : Fin 2048, x0 (ix2 k (j 0)) * x1 (ix2 k (j 1)) := by
  pointwise [k0_pay1]

theorem pay2_at (x0 : Vec Ideal S2048x1408 .bf16) (x1 : Vec Ideal S2048x1024 .bf16) (j : S1408x1024.Idx) :
    k0_pay2 (F := Ideal) x0 x1 j = 0 + ∑ k : Fin 2048, x0 (ix2 k (j 0)) * x1 (ix2 k (j 1)) := by
  pointwise [k0_pay2, k0_pay1]

theorem pay3_at (x0 : Vec Ideal S2048x1408 .bf16) (x1 : Vec Ideal S2048x1024 .bf16) (a : Vec Ideal S1408x1024 .f32) (j : S1408x1024.Idx) :
    k0_pay3 (F := Ideal) x0 x1 a j = a j + ∑ k : Fin 2048, x0 (ix2 k (j 0)) * x1 (ix2 k (j 1)) := by
  pointwise [k0_pay3, k0_pay1]

/-- The reference contracts all the rows at once. -/
theorem ref_at (a0 : FVec Ideal Cert.RefDwdIdeal.S8192x2816 .bf16) (a1 : FVec Ideal Cert.RefDwdIdeal.S8192x1024 .bf16) (j : Cert.RefDwdIdeal.S2816x1024.Idx) :
    refW a0 a1 j = ∑ k : Fin 8192, a0 (ix2 k (j 0)) * a1 (ix2 k (j 1)) := by
  pointwise [refW]
  exact Finset.sum_congr rfl fun k _ => mul_comm _ _

/-- What the last point of a run stores is what it leaves in the scratch. -/
theorem stored (c : Dev nD) (t : Fin cfg0.N) (h3 : t.val % 4 = 3) (y : S1408x1024.Idx) :
    (outsAt0 m c t.val t.isLt).1 y = (outsAt0 m c t.val t.isLt).2 y := by
  rw [outsAt0_C m c t (by omega) (by omega) h3]
  frame_out
  pointwise [k0_pay4]

theorem final (c : Dev nD) : (dats m 0 c).arrAt 2 (cfgs 0).N = refW (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, stored m c t h3, Pipeline.eq_sum_fin_of_reset_step_apply_of_flush (fun n h => (outsAt0 m c n h).2) 4 (fun _ => 0) _
    (fun t h j => by rw [outsAt0_A m c t h (by omega) (by omega)]; frame_out; rw [pay2_at])
    (fun t h j => by
      by_cases h3 : t.val % 4 = 3
      · rw [outsAt0_C m c t h (by omega) h3]; frame_out; simp only [read_unread_whole]; rw [pay3_at]
      · rw [outsAt0_B m c t h (by omega) h3]; frame_out; simp only [read_unread_whole]; rw [pay3_at])
    t h3 _, zero_add, ref_at]
  refine Fin.sum_mul_add_congr fun s k hl => ?_
  blk_point [iblk, V, idx ⟨_, Pipeline.run_point_lt_of_flush t h3 s⟩, idx t]

/-- The call computes what the reference computes. -/
theorem algebraic : Cert.algebraic_DwdIdeal_RefDwdIdeal := by
  intro m g m' g' _ hagree
  refine ⟨fun c => refW (m ((c : Thread nD τ).loc main_arg0)) (m ((c : Thread nD τ).loc main_arg1)), ?_, ?_⟩
  · refine (θ_run _ _ _).mono (fun r h c => ?_) (Cert.DwdIdeal.Value.run_blocks m g)
    exact ⟨(h c).1.trans (final m c), (h c).2⟩
  · refine (θ_run _ _ _).mono (fun r h c => ?_) (Cert.RefDwdIdeal.Value.run m' g')
    obtain ⟨e0, e1⟩ := hagree c
    refine ⟨(h c).1.trans ?_, (h c).2⟩
    · have k := congr (congrArg refW e0) e1
      exact k

end Cert.DwdCall

end
-- ==== Proof.DwgValue.lean ====
module

public import proofs.«01_k».proof.Defs
public import proofs.«01_k».proof.Proof.Gen.DwgIdeal.Value
public import proofs.«01_k».proof.Proof.Gen.RefDwgIdeal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

/-! A weight gradient of the gated FFN: the product of the activations and the output gradient, summed over the tokens. -/

namespace Cert.DwgCall

open Idealize.ShloMosaic Idealize.ShloMosaic.TcCoe Idealize.SL.Sem

section Reference

open Cert.RefDwgIdeal Cert.RefDwgIdeal.Gen

def refW (a0 : FVec Ideal S8192x2816 .bf16) (a1 : FVec Ideal S8192x1024 .bf16) : FVec Ideal S2816x1024 .bf16 :=
  truncf .bf16 (transpose S2816x1024 [1, 0] (transpose S1024x2816 [1, 0] (Host.dotGeneral dot_S8192x2816_S8192x1024_S2816x1024_0_0_1_1_n_n none (extf .f32 a0 bitsLt_bf16_f32) (extf .f32 a1 bitsLt_bf16_f32)) transposes_S2816x1024_S1024x2816_1_0) transposes_S1024x2816_S2816x1024_1_0) bitsLt_bf16_f32

end Reference

open Cert.DwgIdeal Cert.DwgIdeal.Gen

variable (m : (ℓ : Loc nD τ sig) → Buf (Elt Ideal) ℓ)

/-- The block index of every window at every point. -/
theorem idx : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- One step's product. -/
theorem pay1_at (x0 : Vec Ideal S2048x1408 .bf16) (x1 : Vec Ideal S2048x1024 .bf16) (j : S1408x1024.Idx) :
    k0_pay1 (F := Ideal) x0 x1 j = ∑ k : Fin 2048, x0 (ix2 k (j 0)) * x1 (ix2 k (j 1)) := by
  pointwise [k0_pay1]

theorem pay2_at (x0 : Vec Ideal S2048x1408 .bf16) (x1 : Vec Ideal S2048x1024 .bf16) (j : S1408x1024.Idx) :
    k0_pay2 (F := Ideal) x0 x1 j = 0 + ∑ k : Fin 2048, x0 (ix2 k (j 0)) * x1 (ix2 k (j 1)) := by
  pointwise [k0_pay2, k0_pay1]

theorem pay3_at (x0 : Vec Ideal S2048x1408 .bf16) (x1 : Vec Ideal S2048x1024 .bf16) (a : Vec Ideal S1408x1024 .f32) (j : S1408x1024.Idx) :
    k0_pay3 (F := Ideal) x0 x1 a j = a j + ∑ k : Fin 2048, x0 (ix2 k (j 0)) * x1 (ix2 k (j 1)) := by
  pointwise [k0_pay3, k0_pay1]

/-- The reference contracts all the rows at once. -/
theorem ref_at (a0 : FVec Ideal Cert.RefDwgIdeal.S8192x2816 .bf16) (a1 : FVec Ideal Cert.RefDwgIdeal.S8192x1024 .bf16) (j : Cert.RefDwgIdeal.S2816x1024.Idx) :
    refW a0 a1 j = ∑ k : Fin 8192, a0 (ix2 k (j 0)) * a1 (ix2 k (j 1)) := by
  pointwise [refW]

/-- What the last point of a run stores is what it leaves in the scratch. -/
theorem stored (c : Dev nD) (t : Fin cfg0.N) (h3 : t.val % 4 = 3) (y : S1408x1024.Idx) :
    (outsAt0 m c t.val t.isLt).1 y = (outsAt0 m c t.val t.isLt).2 y := by
  rw [outsAt0_C m c t (by omega) (by omega) h3]
  frame_out
  pointwise [k0_pay4]

theorem final (c : Dev nD) : (dats m 0 c).arrAt 2 (cfgs 0).N = refW (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, stored m c t h3, Pipeline.eq_sum_fin_of_reset_step_apply_of_flush (fun n h => (outsAt0 m c n h).2) 4 (fun _ => 0) _
    (fun t h j => by rw [outsAt0_A m c t h (by omega) (by omega)]; frame_out; rw [pay2_at])
    (fun t h j => by
      by_cases h3 : t.val % 4 = 3
      · rw [outsAt0_C m c t h (by omega) h3]; frame_out; simp only [read_unread_whole]; rw [pay3_at]
      · rw [outsAt0_B m c t h (by omega) h3]; frame_out; simp only [read_unread_whole]; rw [pay3_at])
    t h3 _, zero_add, ref_at]
  refine Fin.sum_mul_add_congr fun s k hl => ?_
  blk_point [iblk, V, idx ⟨_, Pipeline.run_point_lt_of_flush t h3 s⟩, idx t]

/-- The call computes what the reference computes. -/
theorem algebraic : Cert.algebraic_DwgIdeal_RefDwgIdeal := by
  intro m g m' g' _ hagree
  refine ⟨fun c => refW (m ((c : Thread nD τ).loc main_arg0)) (m ((c : Thread nD τ).loc main_arg1)), ?_, ?_⟩
  · refine (θ_run _ _ _).mono (fun r h c => ?_) (Cert.DwgIdeal.Value.run_blocks m g)
    exact ⟨(h c).1.trans (final m c), (h c).2⟩
  · refine (θ_run _ _ _).mono (fun r h c => ?_) (Cert.RefDwgIdeal.Value.run m' g')
    obtain ⟨e0, e1⟩ := hagree c
    refine ⟨(h c).1.trans ?_, (h c).2⟩
    · have k := congr (congrArg refW e0) e1
      exact k

end Cert.DwgCall

end
-- ==== Proof.DgradValue.lean ====
module

public import proofs.«01_k».proof.Defs
public import proofs.«01_k».proof.Proof.Gen.DgradIdeal.Value
public import proofs.«01_k».proof.Proof.Gen.RefDgradIdeal.Run
public import Idealize.ShloMosaic.Lib.Pipeline.ValueKit
public import Idealize.ShloMosaic.Lib.Pointwise
public import Idealize.ShloMosaic.Lib.Pipeline.ReadBack
public import Idealize.ShloMosaic.Lib.Claim
public import Idealize.ShloMosaic.Lib.WritesUnit
public import proofs.«01_k».proof.Proof.Stores
public import proofs.«01_k».proof.Proof.Finite
public import proofs.«01_k».proof.Proof.Gen.Pre_finite_dgrad

@[expose] public section

set_option maxRecDepth 16384

noncomputable section

/-! The backward pass of the FFN's input: the products with the two branches' weights, the normalisation's gradient, and the
    sums over the tokens that make the gradients of the gain, the shift and the scale. -/

namespace Cert.DgradCall

open Idealize.ShloMosaic Idealize.ShloMosaic.TcCoe Idealize.SL.Sem

section Reference

open Cert.RefDgradIdeal Cert.RefDgradIdeal.Gen

def refDh (a0 : FVec Ideal S8192x2816 .bf16) (a1 : FVec Ideal S8192x2816 .bf16) (a2 : FVec Ideal S2816x1024 .bf16) (a3 : FVec Ideal S2816x1024 .bf16) (a4 : FVec Ideal S8192x1024 .f32) (a5 : FVec Ideal S1x1024 .f32) (a6 : FVec Ideal S1x1024 .f32) (a7 : FVec Ideal S8192x1024 .f32) : FVec Ideal S8192x1024 .f32 :=
  addf a7 (addf (addf (mulf (mulf (mulf (addf (Host.dotGeneral dot_S8192x2816_S1024x2816_S8192x1024_1_1_0_0_n_n none (extf .f32 a1 bitsLt_bf16_f32) (transpose S1024x2816 [1, 0] (extf .f32 a3 bitsLt_bf16_f32) transposes_S2816x1024_S1024x2816_1_0)) (Host.dotGeneral dot_S8192x2816_S1024x2816_S8192x1024_1_1_0_0_n_n none (extf .f32 a0 bitsLt_bf16_f32) (transpose S1024x2816 [1, 0] (extf .f32 a2 bitsLt_bf16_f32) transposes_S2816x1024_S1024x2816_1_0))) (broadcastInDim S8192x1024 ![0, 1] bcast_S1x1024_S8192x1024_0_1 (addf (broadcastInDim S1x1024 ![] bcast_S_S1x1024 (constant S_ .f32 0x3F800000#32)) a6))) (broadcastInDim S8192x1024 ![0, 1] bcast_S1x1024_S8192x1024_0_1 a5)) (broadcastInDim S8192x1024 ![0, 1] bcast_S8192x1_S8192x1024_0_1 (Host.rsqrt (addf (Host.divf (broadcastInDim S8192x1 ![0] bcast_S8192_S8192x1_0 (Host.reduceAdd (mulf a4 a4) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (mulf a4 (broadcastInDim S8192x1024 ![0] bcast_S8192_S8192x1024_0 (Host.reduceAdd (Host.divf (mulf (shapeCast _ (Host.reduceAdd (mulf a4 (mulf (mulf (addf (Host.dotGeneral dot_S8192x2816_S1024x2816_S8192x1024_1_1_0_0_n_n none (extf .f32 a1 bitsLt_bf16_f32) (transpose S1024x2816 [1, 0] (extf .f32 a3 bitsLt_bf16_f32) transposes_S2816x1024_S1024x2816_1_0)) (Host.dotGeneral dot_S8192x2816_S1024x2816_S8192x1024_1_1_0_0_n_n none (extf .f32 a0 bitsLt_bf16_f32) (transpose S1024x2816 [1, 0] (extf .f32 a2 bitsLt_bf16_f32) transposes_S2816x1024_S1024x2816_1_0))) (broadcastInDim S8192x1024 ![0, 1] bcast_S1x1024_S8192x1024_0_1 (addf (broadcastInDim S1x1024 ![] bcast_S_S1x1024 (constant S_ .f32 0x3F800000#32)) a6))) (broadcastInDim S8192x1024 ![0, 1] bcast_S1x1024_S8192x1024_0_1 a5))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf a4 a4) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf a4 a4) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf a4 (mulf (mulf (addf (Host.dotGeneral dot_S8192x2816_S1024x2816_S8192x1024_1_1_0_0_n_n none (extf .f32 a1 bitsLt_bf16_f32) (transpose S1024x2816 [1, 0] (extf .f32 a3 bitsLt_bf16_f32) transposes_S2816x1024_S1024x2816_1_0)) (Host.dotGeneral dot_S8192x2816_S1024x2816_S8192x1024_1_1_0_0_n_n none (extf .f32 a0 bitsLt_bf16_f32) (transpose S1024x2816 [1, 0] (extf .f32 a2 bitsLt_bf16_f32) transposes_S2816x1024_S1024x2816_1_0))) (broadcastInDim S8192x1024 ![0, 1] bcast_S1x1024_S8192x1024_0_1 (addf (broadcastInDim S1x1024 ![] bcast_S_S1x1024 (constant S_ .f32 0x3F800000#32)) a6))) (broadcastInDim S8192x1024 ![0, 1] bcast_S1x1024_S8192x1024_0_1 a5))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf a4 a4) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf a4 a4) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) a4))

def refStats (a0 : FVec Ideal S8192x2816 .bf16) (a1 : FVec Ideal S8192x2816 .bf16) (a2 : FVec Ideal S2816x1024 .bf16) (a3 : FVec Ideal S2816x1024 .bf16) (a4 : FVec Ideal S8192x1024 .f32) (a5 : FVec Ideal S1x1024 .f32) (a6 : FVec Ideal S1x1024 .f32) (a7 : FVec Ideal S8192x1024 .f32) : FVec Ideal S8x1024 .f32 :=
  (concatenate S8x1024 0 [⟨S1x1024, ((shapeCast _ (Host.reduceAdd (mulf (mulf a4 (broadcastInDim S8192x1024 ![0, 1] bcast_S8192x1_S8192x1024_0_1 (Host.rsqrt (addf (Host.divf (broadcastInDim S8192x1 ![0] bcast_S8192_S8192x1_0 (Host.reduceAdd (mulf a4 a4) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (mulf (addf (Host.dotGeneral dot_S8192x2816_S1024x2816_S8192x1024_1_1_0_0_n_n none (extf .f32 a1 bitsLt_bf16_f32) (transpose S1024x2816 [1, 0] (extf .f32 a3 bitsLt_bf16_f32) transposes_S2816x1024_S1024x2816_1_0)) (Host.dotGeneral dot_S8192x2816_S1024x2816_S8192x1024_1_1_0_0_n_n none (extf .f32 a0 bitsLt_bf16_f32) (transpose S1024x2816 [1, 0] (extf .f32 a2 bitsLt_bf16_f32) transposes_S2816x1024_S1024x2816_1_0))) (broadcastInDim S8192x1024 ![0, 1] bcast_S1x1024_S8192x1024_0_1 (addf (broadcastInDim S1x1024 ![] bcast_S_S1x1024 (constant S_ .f32 0x3F800000#32)) a6)))) (constant S_ .f32 0x00000000#32) reducesTo_S8192x1024_S1024_d0 h_S_) shapeCasts_S1024_S1x1024) : FVec Ideal S1x1024 .f32)⟩, ⟨S1x1024, ((shapeCast _ (Host.reduceAdd (addf (Host.dotGeneral dot_S8192x2816_S1024x2816_S8192x1024_1_1_0_0_n_n none (extf .f32 a1 bitsLt_bf16_f32) (transpose S1024x2816 [1, 0] (extf .f32 a3 bitsLt_bf16_f32) transposes_S2816x1024_S1024x2816_1_0)) (Host.dotGeneral dot_S8192x2816_S1024x2816_S8192x1024_1_1_0_0_n_n none (extf .f32 a0 bitsLt_bf16_f32) (transpose S1024x2816 [1, 0] (extf .f32 a2 bitsLt_bf16_f32) transposes_S2816x1024_S1024x2816_1_0))) (constant S_ .f32 0x00000000#32) reducesTo_S8192x1024_S1024_d0 h_S_) shapeCasts_S1024_S1x1024) : FVec Ideal S1x1024 .f32)⟩, ⟨S1x1024, ((shapeCast _ (Host.reduceAdd (mulf (mulf (mulf a4 (broadcastInDim S8192x1024 ![0, 1] bcast_S8192x1_S8192x1024_0_1 (Host.rsqrt (addf (Host.divf (broadcastInDim S8192x1 ![0] bcast_S8192_S8192x1_0 (Host.reduceAdd (mulf a4 a4) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 a5)) (addf (Host.dotGeneral dot_S8192x2816_S1024x2816_S8192x1024_1_1_0_0_n_n none (extf .f32 a1 bitsLt_bf16_f32) (transpose S1024x2816 [1, 0] (extf .f32 a3 bitsLt_bf16_f32) transposes_S2816x1024_S1024x2816_1_0)) (Host.dotGeneral dot_S8192x2816_S1024x2816_S8192x1024_1_1_0_0_n_n none (extf .f32 a0 bitsLt_bf16_f32) (transpose S1024x2816 [1, 0] (extf .f32 a2 bitsLt_bf16_f32) transposes_S2816x1024_S1024x2816_1_0)))) (constant S_ .f32 0x00000000#32) reducesTo_S8192x1024_S1024_d0 h_S_) shapeCasts_S1024_S1x1024) : FVec Ideal S1x1024 .f32)⟩, ⟨S5x1024, ((broadcastInDim S5x1024 ![] bcast_S_S5x1024 (constant S_ .f32 0x00000000#32)) : FVec Ideal S5x1024 .f32)⟩] concatenates_S1x1024_S1x1024_S1x1024_S5x1024_S8x1024_d0 : FVec Ideal S8x1024 .f32)

end Reference

open Cert.DgradIdeal Cert.DgradIdeal.Gen

variable (m : (ℓ : Loc nD τ sig) → Buf (Elt Ideal) ℓ)

/-- The block index of every window at every point. -/
theorem idx : ∀ t : Fin cfg0.N, win0_0.index t = ![t.val, 0]
    ∧ win0_1.index t = ![t.val, 0]
    ∧ win0_2.index t = ![0, 0]
    ∧ win0_3.index t = ![0, 0]
    ∧ win0_4.index t = ![t.val, 0]
    ∧ win0_5.index t = ![0, 0]
    ∧ win0_6.index t = ![0, 0]
    ∧ win0_7.index t = ![t.val, 0]
    ∧ win0_8.index t = ![t.val, 0]
    ∧ win0_9.index t = ![0, 0] :=
  (by decide +kernel : ∀ t : Fin grid0.N, _)

open Cert.Ret in
theorem lit_1024 : Ideal.ofBits .f32 0x44800000#32 = ((1024 : ℝ) : EReal) := by
  simp [Ideal.ofBits, Ideal.ieee, -EReal.coe_mul]; norm_num

open Cert.Ret in
/-- The gradient of the normalisation, as the call groups it and as differentiating its forward lines groups it. -/
theorem norm_dh (h P Q s g : Fin 1024 → EReal) (hh : ∀ x, IsReal (h x)) (hP : ∀ x, IsReal (P x)) (hQ : ∀ x, IsReal (Q x))
    (hs : ∀ x, IsReal (s x)) (hg : ∀ x, IsReal (g x)) (j : Fin 1024) :
    Ideal.rsqrt (Ideal.div (∑ x, h x * h x) (Ideal.ofBits .f32 0x44800000#32) + Ideal.ofBits .f32 0x358637BD#32)
        * ((P j + Q j) * (1 + s j) * g j
          - h j * Ideal.rsqrt (Ideal.div (∑ x, h x * h x) (Ideal.ofBits .f32 0x44800000#32) + Ideal.ofBits .f32 0x358637BD#32)
            * Ideal.div (∑ x, (P x + Q x) * (1 + s x) * g x
                * (h x * Ideal.rsqrt (Ideal.div (∑ x, h x * h x) (Ideal.ofBits .f32 0x44800000#32) + Ideal.ofBits .f32 0x358637BD#32)))
              (Ideal.ofBits .f32 0x44800000#32))
      = (Q j + P j) * (1 + s j) * g j
          * Ideal.rsqrt (Ideal.div (∑ x, h x * h x) (Ideal.ofBits .f32 0x44800000#32) + Ideal.ofBits .f32 0x358637BD#32)
        + h j * ∑ _y : Fin 1, Ideal.div ((∑ x, h x * ((Q x + P x) * (1 + s x) * g x))
            * (Ideal.ofBits .f32 0xBF000000#32
              * Ideal.div (Ideal.rsqrt (Ideal.div (∑ x, h x * h x) (Ideal.ofBits .f32 0x44800000#32) + Ideal.ofBits .f32 0x358637BD#32))
                (Ideal.div (∑ x, h x * h x) (Ideal.ofBits .f32 0x44800000#32) + Ideal.ofBits .f32 0x358637BD#32)))
          (Ideal.ofBits .f32 0x44800000#32)
        + (∑ _y : Fin 1, Ideal.div ((∑ x, h x * ((Q x + P x) * (1 + s x) * g x))
            * (Ideal.ofBits .f32 0xBF000000#32
              * Ideal.div (Ideal.rsqrt (Ideal.div (∑ x, h x * h x) (Ideal.ofBits .f32 0x44800000#32) + Ideal.ofBits .f32 0x358637BD#32))
                (Ideal.div (∑ x, h x * h x) (Ideal.ofBits .f32 0x44800000#32) + Ideal.ofBits .f32 0x358637BD#32)))
          (Ideal.ofBits .f32 0x44800000#32)) * h j := by
  choose h' eh using hh
  choose P' eP using hP
  choose Q' eQ using hQ
  choose s' es using hs
  choose g' eg using hg
  have hv : (0 : ℝ) < (∑ x, h' x * h' x) * (1 / 1024) + eps :=
    add_pos_of_nonneg_of_pos (mul_nonneg (Finset.sum_nonneg fun x _ => mul_self_nonneg _) (by norm_num)) eps_pos
  have ev : Ideal.div (∑ x, h x * h x) (Ideal.ofBits .f32 0x44800000#32) + Ideal.ofBits .f32 0x358637BD#32
      = (((∑ x, h' x * h' x) * (1 / 1024) + eps : ℝ) : EReal) := by
    simp only [eh, ← EReal.coe_mul, coe_fsum]
    rw [lit_1024, div_r _ _ (by norm_num), lit_eps, ← EReal.coe_add]
  rw [ev]
  generalize hve : (∑ x, h' x * h' x) * (1 / 1024) + eps = v at hv
  have e1 : (1 : EReal) = ((1 : ℝ) : EReal) := rfl
  simp only [eh, eP, eQ, es, eg, rsqrt_r _ hv, lit_1024, lit_mhalf, Finset.univ_unique, Finset.sum_singleton, e1, ← EReal.coe_mul, ← EReal.coe_add, coe_fsum,
    div_r _ _ hv.ne', div_r _ _ (by norm_num : (1024 : ℝ) ≠ 0), ← EReal.coe_sub]
  congr 1
  have hr : (Real.sqrt v)⁻¹ * (Real.sqrt v)⁻¹ = 1 / v := by
    rw [← mul_inv, Real.mul_self_sqrt hv.le, one_div]
  generalize (Real.sqrt v)⁻¹ = r at hr
  have hS : ∑ x, (P' x + Q' x) * (1 + s' x) * g' x * (h' x * r) = r * ∑ x, h' x * ((Q' x + P' x) * (1 + s' x) * g' x) := by
    rw [Finset.mul_sum]
    exact Finset.sum_congr rfl fun x _ => by ring
  rw [hS, ← hr]
  ring

theorem refDh_at (a0 : FVec Ideal Cert.RefDgradIdeal.S8192x2816 .bf16) (a1 : FVec Ideal Cert.RefDgradIdeal.S8192x2816 .bf16) (a2 : FVec Ideal Cert.RefDgradIdeal.S2816x1024 .bf16) (a3 : FVec Ideal Cert.RefDgradIdeal.S2816x1024 .bf16) (a4 : FVec Ideal Cert.RefDgradIdeal.S8192x1024 .f32) (a5 : FVec Ideal Cert.RefDgradIdeal.S1x1024 .f32) (a6 : FVec Ideal Cert.RefDgradIdeal.S1x1024 .f32) (a7 : FVec Ideal Cert.RefDgradIdeal.S8192x1024 .f32) (h0 : ∀ i, Cert.Ret.IsReal (a0 i)) (h1 : ∀ i, Cert.Ret.IsReal (a1 i)) (h2 : ∀ i, Cert.Ret.IsReal (a2 i)) (h3 : ∀ i, Cert.Ret.IsReal (a3 i))
    (h4 : ∀ i, Cert.Ret.IsReal (a4 i)) (h5 : ∀ i, Cert.Ret.IsReal (a5 i)) (h6 : ∀ i, Cert.Ret.IsReal (a6 i)) (y : Cert.RefDgradIdeal.S8192x1024.Idx) :
    refDh a0 a1 a2 a3 a4 a5 a6 a7 y = a7 y + Ideal.rsqrt (Ideal.div (∑ k, a4 (ix2 (y 0) k) * a4 (ix2 (y 0) k)) (Ideal.ofBits .f32 0x44800000#32) + Ideal.ofBits .f32 0x358637BD#32)
      * ((∑ k, a0 (ix2 (y 0) k) * a2 (ix2 k (y 1)) + ∑ k, a1 (ix2 (y 0) k) * a3 (ix2 k (y 1))) * (1 + a6 (ix2 0 (y 1))) * a5 (ix2 0 (y 1))
        - a4 y * Ideal.rsqrt (Ideal.div (∑ k, a4 (ix2 (y 0) k) * a4 (ix2 (y 0) k)) (Ideal.ofBits .f32 0x44800000#32) + Ideal.ofBits .f32 0x358637BD#32)
          * Ideal.div (∑ x, (∑ k, a0 (ix2 (y 0) k) * a2 (ix2 k (x)) + ∑ k, a1 (ix2 (y 0) k) * a3 (ix2 k (x))) * (1 + a6 (ix2 0 x)) * a5 (ix2 0 x) * (a4 (ix2 (y 0) x) * Ideal.rsqrt (Ideal.div (∑ k, a4 (ix2 (y 0) k) * a4 (ix2 (y 0) k)) (Ideal.ofBits .f32 0x44800000#32) + Ideal.ofBits .f32 0x358637BD#32))) (Ideal.ofBits .f32 0x44800000#32)) := by
  obtain ⟨i, j, rfl⟩ : ∃ i j, y = ix2 i j := ⟨y 0, y 1, (ix2_eta y).symm⟩
  pointwise [refDh]
  exact congrArg (a7 (ix2 i j) + ·) (norm_dh (fun x => a4 (ix2 i x)) (fun x => ∑ k, a0 (ix2 i k) * a2 (ix2 k x)) (fun x => ∑ k, a1 (ix2 i k) * a3 (ix2 k x))
    (fun x => a6 (ix2 0 x)) (fun x => a5 (ix2 0 x)) (fun x => h4 _) (fun x => Cert.Ret.IsReal.sum fun k => (h0 _).mul (h2 _))
    (fun x => Cert.Ret.IsReal.sum fun k => (h1 _).mul (h3 _)) (fun x => h6 _) (fun x => h5 _) j).symm

/-- What the precondition says of the device's arguments. -/
structure Finite (c : Dev nD) : Prop where
  h0 : ∀ i, Cert.Ret.IsReal (m ((c : Thread nD τ).loc main_arg0) i)
  h1 : ∀ i, Cert.Ret.IsReal (m ((c : Thread nD τ).loc main_arg1) i)
  h2 : ∀ i, Cert.Ret.IsReal (m ((c : Thread nD τ).loc main_arg2) i)
  h3 : ∀ i, Cert.Ret.IsReal (m ((c : Thread nD τ).loc main_arg3) i)
  h4 : ∀ i, Cert.Ret.IsReal (m ((c : Thread nD τ).loc main_arg4) i)
  h5 : ∀ i, Cert.Ret.IsReal (m ((c : Thread nD τ).loc main_arg5) i)
  h6 : ∀ i, Cert.Ret.IsReal (m ((c : Thread nD τ).loc main_arg6) i)

theorem finite (h : Cert.Pre_DgradIdeal_finite_dgrad m) (c : Dev nD) : Finite m c :=
  ⟨fun i => Cert.Ret.isReal_of_lt16 _ (congrFun (h c).1 i),
    fun i => Cert.Ret.isReal_of_lt16 _ (congrFun (h c).2.1 i),
    fun i => Cert.Ret.isReal_of_lt16 _ (congrFun (h c).2.2.1 i),
    fun i => Cert.Ret.isReal_of_lt16 _ (congrFun (h c).2.2.2.1 i),
    fun i => Cert.Ret.isReal_of_lt _ (congrFun (h c).2.2.2.2.1 i),
    fun i => Cert.Ret.isReal_of_lt _ (congrFun (h c).2.2.2.2.2.1 i),
    fun i => Cert.Ret.isReal_of_lt _ (congrFun (h c).2.2.2.2.2.2 i)⟩

theorem point_8_A (c : Dev nD) (h : Finite m c) (t : Fin cfg0.N) (h0 : t.val % 16 = 0) (y) :
    (outsAt0 m c t.val t.isLt).1 y = refDh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 8).blk t).view.emb y) := by
  rw [outsAt0_A m c t h0, refDh_at _ _ _ _ _ _ _ _ h.h0 h.h1 h.h2 h.h3 h.h4 h.h5 h.h6]
  frame_out
  pointwise [k0_pay1, k0_pay3, k0_pay4, k0_pay5, k0_pay6, k0_pay7, k0_pay8, k0_pay9, k0_pay10]
  blk_point [iblk, V, idx t]

theorem point_8_B (c : Dev nD) (h : Finite m c) (t : Fin cfg0.N) (h0 : ¬ t.val % 16 = 0) (y) :
    (outsAt0 m c t.val t.isLt).1 y = refDh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 8).blk t).view.emb y) := by
  rw [outsAt0_B m c t h0, refDh_at _ _ _ _ _ _ _ _ h.h0 h.h1 h.h2 h.h3 h.h4 h.h5 h.h6]
  frame_out
  pointwise [k0_pay1, k0_pay3, k0_pay4, k0_pay5, k0_pay6, k0_pay7, k0_pay8, k0_pay9, k0_pay10]
  blk_point [iblk, V, idx t]

theorem final_8 (c : Dev nD) (h : Finite m c) : (dats m 0 c).arrAt 8 (cfgs 0).N = refDh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  by_cases h0 : t.val % 16 = 0
  · exact point_8_A m c h t h0 y
  · exact point_8_B m c h t h0 y

/-! ## The sums over the tokens -/

/-- What one block of tokens adds to the sums. -/
def inc (x0 x1 : Vec Ideal S512x2816 .bf16) (x2 x3 : Vec Ideal S2816x1024 .bf16) (x4 : Vec Ideal S512x1024 .f32) (x5 x6 : Vec Ideal S1x1024 .f32) (y : S8x1024.Idx) : EReal :=
  if (y 0).val = 0 then ∑ r : Fin 512, (∑ k, x0 (ix2 r k) * x2 (ix2 k (y 1)) + ∑ k, x1 (ix2 r k) * x3 (ix2 k (y 1))) * (1 + x6 (ix2 0 (y 1))) * (x4 (ix2 r (y 1)) * Ideal.rsqrt (Ideal.div (∑ k, x4 (ix2 r k) * x4 (ix2 r k)) (Ideal.ofBits .f32 0x44800000#32) + Ideal.ofBits .f32 0x358637BD#32))
  else if (y 0).val = 1 then ∑ r : Fin 512, (∑ k, x0 (ix2 r k) * x2 (ix2 k (y 1)) + ∑ k, x1 (ix2 r k) * x3 (ix2 k (y 1)))
  else if (y 0).val = 2 then ∑ r : Fin 512, (∑ k, x0 (ix2 r k) * x2 (ix2 k (y 1)) + ∑ k, x1 (ix2 r k) * x3 (ix2 k (y 1))) * (x4 (ix2 r (y 1)) * Ideal.rsqrt (Ideal.div (∑ k, x4 (ix2 r k) * x4 (ix2 r k)) (Ideal.ofBits .f32 0x44800000#32) + Ideal.ofBits .f32 0x358637BD#32) * x5 (ix2 0 (y 1)))
  else 0

theorem pay3_at (x0 x1 : Vec Ideal S512x2816 .bf16) (x2 x3 : Vec Ideal S2816x1024 .bf16) (x4 : Vec Ideal S512x1024 .f32) (x5 x6 : Vec Ideal S1x1024 .f32) (v : Vec Ideal S1x1024 .f32) (y : S1x1024.Idx) :
    k0_pay3 (F := Ideal) (k0_pay8 x4) (k0_pay9 x0 x2 x1 x3 x6) v y = v y + ∑ r : Fin 512, (∑ k, x0 (ix2 r k) * x2 (ix2 k (y 1)) + ∑ k, x1 (ix2 r k) * x3 (ix2 k (y 1))) * (1 + x6 (ix2 0 (y 1))) * (x4 (ix2 r (y 1)) * Ideal.rsqrt (Ideal.div (∑ k, x4 (ix2 r k) * x4 (ix2 r k)) (Ideal.ofBits .f32 0x44800000#32) + Ideal.ofBits .f32 0x358637BD#32)) := by
  pointwise [k0_pay3, k0_pay8, k0_pay9, k0_pay6, k0_pay7]

theorem pay4_at (x0 x1 : Vec Ideal S512x2816 .bf16) (x2 x3 : Vec Ideal S2816x1024 .bf16) (x4 : Vec Ideal S512x1024 .f32) (x5 x6 : Vec Ideal S1x1024 .f32) (v : Vec Ideal S1x1024 .f32) (y : S1x1024.Idx) :
    k0_pay4 (F := Ideal) (k0_pay6 x0 x2 x1 x3) v y = v y + ∑ r : Fin 512, (∑ k, x0 (ix2 r k) * x2 (ix2 k (y 1)) + ∑ k, x1 (ix2 r k) * x3 (ix2 k (y 1))) := by
  pointwise [k0_pay4, k0_pay6]

theorem pay5_at (x0 x1 : Vec Ideal S512x2816 .bf16) (x2 x3 : Vec Ideal S2816x1024 .bf16) (x4 : Vec Ideal S512x1024 .f32) (x5 x6 : Vec Ideal S1x1024 .f32) (v : Vec Ideal S1x1024 .f32) (y : S1x1024.Idx) :
    k0_pay5 (F := Ideal) (k0_pay6 x0 x2 x1 x3) x5 (k0_pay8 x4) v y = v y + ∑ r : Fin 512, (∑ k, x0 (ix2 r k) * x2 (ix2 k (y 1)) + ∑ k, x1 (ix2 r k) * x3 (ix2 k (y 1))) * (x4 (ix2 r (y 1)) * Ideal.rsqrt (Ideal.div (∑ k, x4 (ix2 r k) * x4 (ix2 r k)) (Ideal.ofBits .f32 0x44800000#32) + Ideal.ofBits .f32 0x358637BD#32) * x5 (ix2 0 (y 1))) := by
  pointwise [k0_pay5, k0_pay8, k0_pay6, k0_pay7]

theorem refStats_0 (a0 : FVec Ideal Cert.RefDgradIdeal.S8192x2816 .bf16) (a1 : FVec Ideal Cert.RefDgradIdeal.S8192x2816 .bf16) (a2 : FVec Ideal Cert.RefDgradIdeal.S2816x1024 .bf16) (a3 : FVec Ideal Cert.RefDgradIdeal.S2816x1024 .bf16) (a4 : FVec Ideal Cert.RefDgradIdeal.S8192x1024 .f32) (a5 : FVec Ideal Cert.RefDgradIdeal.S1x1024 .f32) (a6 : FVec Ideal Cert.RefDgradIdeal.S1x1024 .f32) (a7 : FVec Ideal Cert.RefDgradIdeal.S8192x1024 .f32) (j : Fin 1024) :
    refStats a0 a1 a2 a3 a4 a5 a6 a7 (ix2 0 j) = ∑ r : Fin 8192, (∑ k, a0 (ix2 r k) * a2 (ix2 k (j)) + ∑ k, a1 (ix2 r k) * a3 (ix2 k (j))) * (1 + a6 (ix2 0 (j))) * (a4 (ix2 r (j)) * Ideal.rsqrt (Ideal.div (∑ k, a4 (ix2 r k) * a4 (ix2 r k)) (Ideal.ofBits .f32 0x44800000#32) + Ideal.ofBits .f32 0x358637BD#32)) := by
  pointwise [refStats]
  refine Finset.sum_congr rfl fun r _ => ?_
  rw [mul_comm, add_comm (∑ k, a1 (ix2 r k) * a3 (ix2 k j))]

theorem refStats_1 (a0 : FVec Ideal Cert.RefDgradIdeal.S8192x2816 .bf16) (a1 : FVec Ideal Cert.RefDgradIdeal.S8192x2816 .bf16) (a2 : FVec Ideal Cert.RefDgradIdeal.S2816x1024 .bf16) (a3 : FVec Ideal Cert.RefDgradIdeal.S2816x1024 .bf16) (a4 : FVec Ideal Cert.RefDgradIdeal.S8192x1024 .f32) (a5 : FVec Ideal Cert.RefDgradIdeal.S1x1024 .f32) (a6 : FVec Ideal Cert.RefDgradIdeal.S1x1024 .f32) (a7 : FVec Ideal Cert.RefDgradIdeal.S8192x1024 .f32) (j : Fin 1024) :
    refStats a0 a1 a2 a3 a4 a5 a6 a7 (ix2 1 j) = ∑ r : Fin 8192, (∑ k, a0 (ix2 r k) * a2 (ix2 k (j)) + ∑ k, a1 (ix2 r k) * a3 (ix2 k (j))) := by
  pointwise [refStats]
  refine Finset.sum_congr rfl fun r _ => ?_
  rw [add_comm]

theorem refStats_2 (a0 : FVec Ideal Cert.RefDgradIdeal.S8192x2816 .bf16) (a1 : FVec Ideal Cert.RefDgradIdeal.S8192x2816 .bf16) (a2 : FVec Ideal Cert.RefDgradIdeal.S2816x1024 .bf16) (a3 : FVec Ideal Cert.RefDgradIdeal.S2816x1024 .bf16) (a4 : FVec Ideal Cert.RefDgradIdeal.S8192x1024 .f32) (a5 : FVec Ideal Cert.RefDgradIdeal.S1x1024 .f32) (a6 : FVec Ideal Cert.RefDgradIdeal.S1x1024 .f32) (a7 : FVec Ideal Cert.RefDgradIdeal.S8192x1024 .f32) (j : Fin 1024) :
    refStats a0 a1 a2 a3 a4 a5 a6 a7 (ix2 2 j) = ∑ r : Fin 8192, (∑ k, a0 (ix2 r k) * a2 (ix2 k (j)) + ∑ k, a1 (ix2 r k) * a3 (ix2 k (j))) * (a4 (ix2 r (j)) * Ideal.rsqrt (Ideal.div (∑ k, a4 (ix2 r k) * a4 (ix2 r k)) (Ideal.ofBits .f32 0x44800000#32) + Ideal.ofBits .f32 0x358637BD#32) * a5 (ix2 0 (j))) := by
  pointwise [refStats]
  refine Finset.sum_congr rfl fun r _ => ?_
  rw [mul_comm, add_comm (∑ k, a1 (ix2 r k) * a3 (ix2 k j))]

theorem refStats_rest (a0 : FVec Ideal Cert.RefDgradIdeal.S8192x2816 .bf16) (a1 : FVec Ideal Cert.RefDgradIdeal.S8192x2816 .bf16) (a2 : FVec Ideal Cert.RefDgradIdeal.S2816x1024 .bf16) (a3 : FVec Ideal Cert.RefDgradIdeal.S2816x1024 .bf16) (a4 : FVec Ideal Cert.RefDgradIdeal.S8192x1024 .f32) (a5 : FVec Ideal Cert.RefDgradIdeal.S1x1024 .f32) (a6 : FVec Ideal Cert.RefDgradIdeal.S1x1024 .f32) (a7 : FVec Ideal Cert.RefDgradIdeal.S8192x1024 .f32) (i : Fin 8) (j : Fin 1024) (h0 : ¬ i.val = 0) (h1 : ¬ i.val = 1) (h2 : ¬ i.val = 2) :
    refStats a0 a1 a2 a3 a4 a5 a6 a7 (ix2 i j) = 0 := by
  pointwise [refStats]
  rw [dif_neg (by omega), dif_neg (by omega), dif_neg (by omega)]

theorem ld_row (p : Vec Ideal S8x1024 .f32) (n : Fin 8) (inb) (y : S8x1024.Idx) (h : (y 0).val = n.val) :
    View.ld p (Rect.unit (s := S8x1024) ![n.val, 0] ![1, 1024] inb) (ix2 0 (y 1)) = p y := by
  refine congrArg p (funext fun a => Fin.ext ?_)
  revert a
  exact Fin.forall_fin_two.mpr ⟨h.symm, (Nat.zero_add _).trans (Nat.one_mul _)⟩

theorem point_9_A (c : Dev nD) (t : Fin cfg0.N) (hA : t.val % 16 = 0) (y : S8x1024.Idx) :
    (outsAt0 m c t.val t.isLt).2 y = 0 + inc (iblk m c 0 t) (iblk m c 1 t) (iblk m c 2 t) (iblk m c 3 t) (iblk m c 4 t) (iblk m c 5 t) (iblk m c 6 t) y := by
  rw [outsAt0_A m c t hA]
  frame_out
  simp (disch := decide) only [↓View.readCov_skip, ↓View.readCov_fill]
  by_cases h0 : (y 0).val = 0
  · refine (Cert.Ret.canon_miss _ _ _ y (0 : Fin 2) (Or.inl (lt_of_eq_of_lt h0 (by decide : 0 < 2)))).trans ?_
    refine (Cert.Ret.canon_miss _ _ _ y (0 : Fin 2) (Or.inl (lt_of_eq_of_lt h0 (by decide : 0 < 1)))).trans ?_
    refine (Cert.Ret.canon_hit _ _ _ y (ix2 0 (y 1)) (Fin.forall_fin_two.mpr ⟨h0, (Nat.zero_add _).symm⟩)).trans ?_
    refine (pay3_at _ _ _ _ _ (iblk m c 5 t) _ _ _).trans ?_
    unfold inc
    rw [if_pos h0]
    refine congrArg₂ (· + ·) ?_ rfl
    pointwise [View.ld, k0_pay2]
  by_cases h1 : (y 0).val = 1
  · refine (Cert.Ret.canon_miss _ _ _ y (0 : Fin 2) (Or.inl (lt_of_eq_of_lt h1 (by decide : 1 < 2)))).trans ?_
    refine (Cert.Ret.canon_hit _ _ _ y (ix2 0 (y 1)) (Fin.forall_fin_two.mpr ⟨h1, (Nat.zero_add _).symm⟩)).trans ?_
    refine (pay4_at _ _ _ _ (iblk m c 4 t) (iblk m c 5 t) (iblk m c 6 t) _ _).trans ?_
    unfold inc
    rw [if_neg (by omega : ¬ (y 0).val = 0), if_pos h1]
    refine congrArg₂ (· + ·) ?_ rfl
    pointwise [View.ld, k0_pay2]
  by_cases h2 : (y 0).val = 2
  · refine (Cert.Ret.canon_hit _ _ _ y (ix2 0 (y 1)) (Fin.forall_fin_two.mpr ⟨h2, (Nat.zero_add _).symm⟩)).trans ?_
    refine (pay5_at _ _ _ _ _ _ (iblk m c 6 t) _ _).trans ?_
    unfold inc
    rw [if_neg (by omega : ¬ (y 0).val = 0), if_neg (by omega : ¬ (y 0).val = 1), if_pos h2]
    refine congrArg₂ (· + ·) ?_ rfl
    pointwise [View.ld, k0_pay2]
  refine (Cert.Ret.canon_miss _ _ _ y (0 : Fin 2) (Or.inr (by show 2 + 1 ≤ _; omega))).trans ?_
  refine (Cert.Ret.canon_miss _ _ _ y (0 : Fin 2) (Or.inr (by show 1 + 1 ≤ _; omega))).trans ?_
  refine (Cert.Ret.canon_miss _ _ _ y (0 : Fin 2) (Or.inr (by show 0 + 1 ≤ _; omega))).trans ?_
  refine (Cert.Ret.canon_hit _ _ _ y y (Fin.forall_fin_two.mpr ⟨(Nat.zero_add _).symm, (Nat.zero_add _).symm⟩)).trans ?_
  unfold inc
  rw [if_neg h0, if_neg h1, if_neg h2]
  pointwise [k0_pay2]

/-- A buffer whose first three rows were stored one at a time, at an element. -/
theorem read_rows {κ : Kind} {sp : Space} (v : View sig κ sp S8x1024 .f32) (f : v.ty.Contents (Elt Ideal)) (i0 i1 i2) (w0 w1 w2 : S1x1024.Idx → EReal) (y : S8x1024.Idx) :
    v.read (Elt Ideal) (v.writes (Elt Ideal) f [⟨Rect.unit (s := S8x1024) ![2, 0] ![1, 1024] i2, w2⟩, ⟨Rect.unit (s := S8x1024) ![1, 0] ![1, 1024] i1, w1⟩, ⟨Rect.unit (s := S8x1024) ![0, 0] ![1, 1024] i0, w0⟩]) y
      = if (y 0).val = 0 then w0 (ix2 0 (y 1)) else if (y 0).val = 1 then w1 (ix2 0 (y 1)) else if (y 0).val = 2 then w2 (ix2 0 (y 1)) else v.read (Elt Ideal) f y := by
  by_cases h0 : (y 0).val = 0
  · rw [if_pos h0]
    refine (View.read_writes_cons_rows_of_not_mem (o := 2) (W := 1) _ _ _ _ _ y rfl rfl (by omega)).trans ?_
    refine (View.read_writes_cons_rows_of_not_mem (o := 1) (W := 1) _ _ _ _ _ y rfl rfl (by omega)).trans ?_
    exact View.read_writes_cons_rows_of_mem (o := 0) _ _ _ _ _ y (ix2 0 (y 1)) rfl h0 rfl
  rw [if_neg h0]
  by_cases h1 : (y 0).val = 1
  · rw [if_pos h1]
    refine (View.read_writes_cons_rows_of_not_mem (o := 2) (W := 1) _ _ _ _ _ y rfl rfl (by omega)).trans ?_
    exact View.read_writes_cons_rows_of_mem (o := 1) _ _ _ _ _ y (ix2 0 (y 1)) rfl h1 rfl
  rw [if_neg h1]
  by_cases h2 : (y 0).val = 2
  · rw [if_pos h2]
    exact View.read_writes_cons_rows_of_mem (o := 2) _ _ _ _ _ y (ix2 0 (y 1)) rfl h2 rfl
  rw [if_neg h2]
  refine (View.read_writes_cons_rows_of_not_mem (o := 2) (W := 1) _ _ _ _ _ y rfl rfl (by omega)).trans ?_
  refine (View.read_writes_cons_rows_of_not_mem (o := 1) (W := 1) _ _ _ _ _ y rfl rfl (by omega)).trans ?_
  refine (View.read_writes_cons_rows_of_not_mem (o := 0) (W := 1) _ _ _ _ _ y rfl rfl (by omega)).trans ?_
  rw [View.writes_nil]

theorem point_9_B (c : Dev nD) (t : Fin cfg0.N) (hB : ¬ t.val % 16 = 0) (y : S8x1024.Idx) :
    (outsAt0 m c t.val t.isLt).2 y = (outsAt0 m c (t.val - 1) (lt_of_le_of_lt (Nat.sub_le _ _) t.isLt)).2 y + inc (iblk m c 0 t) (iblk m c 1 t) (iblk m c 2 t) (iblk m c 3 t) (iblk m c 4 t) (iblk m c 5 t) (iblk m c 6 t) y := by
  rw [outsAt0_B m c t hB]
  frame_out
  generalize (outsAt0 m c (t.val - 1) _).2 = p
  refine (read_rows _ _ _ _ _ _ _ _ y).trans ?_
  unfold inc
  by_cases h0 : (y 0).val = 0
  · rw [if_pos h0, if_pos h0]
    exact (pay3_at _ _ _ _ _ (iblk m c 5 t) _ _ _).trans (congrArg₂ (· + ·) (ld_row p 0 _ y h0) rfl)
  rw [if_neg h0, if_neg h0]
  by_cases h1 : (y 0).val = 1
  · rw [if_pos h1, if_pos h1]
    exact (pay4_at _ _ _ _ (iblk m c 4 t) (iblk m c 5 t) (iblk m c 6 t) _ _).trans (congrArg₂ (· + ·) (ld_row p 1 _ y h1) rfl)
  rw [if_neg h1, if_neg h1]
  by_cases h2 : (y 0).val = 2
  · rw [if_pos h2, if_pos h2]
    exact (pay5_at _ _ _ _ _ _ (iblk m c 6 t) _ _).trans (congrArg₂ (· + ·) (ld_row p 2 _ y h2) rfl)
  rw [if_neg h2, if_neg h2, add_zero]
  exact congrFun (Memref.IsWhole.read_unread _ p) y

theorem sum_inc (c : Dev nD) (j : S8x1024.Idx) :
    ∑ p : Fin 16, inc (iblk m c 0 ⟨p.val, lt_of_lt_of_eq p.isLt N_0.symm⟩) (iblk m c 1 ⟨p.val, lt_of_lt_of_eq p.isLt N_0.symm⟩) (iblk m c 2 ⟨p.val, lt_of_lt_of_eq p.isLt N_0.symm⟩) (iblk m c 3 ⟨p.val, lt_of_lt_of_eq p.isLt N_0.symm⟩) (iblk m c 4 ⟨p.val, lt_of_lt_of_eq p.isLt N_0.symm⟩) (iblk m c 5 ⟨p.val, lt_of_lt_of_eq p.isLt N_0.symm⟩) (iblk m c 6 ⟨p.val, lt_of_lt_of_eq p.isLt N_0.symm⟩) j = refStats (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) j := by
  obtain ⟨i, k, rfl⟩ : ∃ i k, j = ix2 i k := ⟨j 0, j 1, (ix2_eta j).symm⟩
  unfold inc
  by_cases h0 : i = 0
  · subst h0
    rw [refStats_0]
    refine Eq.trans (Finset.sum_congr rfl fun p _ => if_pos rfl) ?_
    refine Fin.sum_mul_add_congr fun s k hl => ?_
    blk_point [iblk, V, idx ⟨s.val, lt_of_lt_of_eq s.isLt N_0.symm⟩]
  by_cases h1 : i = 1
  · subst h1
    rw [refStats_1]
    refine Eq.trans (Finset.sum_congr rfl fun p _ => (if_neg (by show ¬ (_ : ℕ) = _; exact of_decide_eq_true rfl)).trans (if_pos rfl)) ?_
    refine Fin.sum_mul_add_congr fun s k hl => ?_
    blk_point [iblk, V, idx ⟨s.val, lt_of_lt_of_eq s.isLt N_0.symm⟩]
  by_cases h2 : i = 2
  · subst h2
    rw [refStats_2]
    refine Eq.trans (Finset.sum_congr rfl fun p _ => (if_neg (by show ¬ (_ : ℕ) = _; exact of_decide_eq_true rfl)).trans ((if_neg (by show ¬ (_ : ℕ) = _; exact of_decide_eq_true rfl)).trans (if_pos rfl))) ?_
    refine Fin.sum_mul_add_congr fun s k hl => ?_
    blk_point [iblk, V, idx ⟨s.val, lt_of_lt_of_eq s.isLt N_0.symm⟩]
  have g0 : ¬ i.val = 0 := fun h => h0 (Fin.ext h)
  have g1 : ¬ i.val = 1 := fun h => h1 (Fin.ext h)
  have g2 : ¬ i.val = 2 := fun h => h2 (Fin.ext h)
  rw [refStats_rest _ _ _ _ _ _ _ _ i k g0 g1 g2]
  exact Finset.sum_eq_zero fun p _ => (if_neg g0).trans ((if_neg g1).trans (if_neg g2))

theorem final_9 (c : Dev nD) : (dats m 0 c).arrAt 9 (cfgs 0).N = refStats (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 9 t0_15 (by decide +kernel) _ fun j => ?_
  blk_simp
  rw [after0_9, Pipeline.eq_sum_fin_of_reset_step_apply_last (fun n h => (outsAt0 m c n h).2) 16 (fun _ => 0) _
    (fun t h j => point_9_A m c t h j) (fun t h j => point_9_B m c t h j) (le_of_eq N_0) t0_15 rfl j, zero_add]
  exact sum_inc m c j

/-- The call computes what the reference computes. -/
theorem algebraic : Cert.algebraic_DgradIdeal_RefDgradIdeal_pre_finite_dgrad := by
  intro m g m' g' hpre hagree
  refine ⟨fun c => refDh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)), fun c => refStats (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)), ?_, ?_⟩
  · refine (θ_run _ _ _).mono (fun r h c => ?_) (Cert.DgradIdeal.Value.run_blocks m g)
    exact ⟨(h c).1.trans (final_8 m c (finite m hpre c)), (h c).2.1.trans (final_9 m c), (h c).2.2⟩
  · refine (θ_run _ _ _).mono (fun r h c => ?_) (Cert.RefDgradIdeal.Value.run m' g')
    obtain ⟨e0, e1, e2, e3, e4, e5, e6, e7⟩ := hagree c
    refine ⟨(h c).1.trans ?_, (h c).2.1.trans ?_, (h c).2.2⟩
    · have k := congr (congr (congr (congr (congr (congr (congr (congrArg refDh e0) e1) e2) e3) e4) e5) e6) e7
      exact k
    · have k := congr (congr (congr (congr (congr (congr (congr (congrArg refStats e0) e1) e2) e3) e4) e5) e6) e7
      exact k

end Cert.DgradCall
end
-- ==== Proof.UpValue.lean ====
module

public import proofs.«01_k».proof.Defs
public import proofs.«01_k».proof.Proof.Gen.UpIdeal.Value
public import proofs.«01_k».proof.Proof.Gen.RefUpIdeal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

/-! The first half of the gated FFN: both products of the hidden state and their gated activation. -/

namespace Cert.UpCall

open Idealize.ShloMosaic Idealize.ShloMosaic.TcCoe Idealize.SL.Sem

section Reference

open Cert.RefUpIdeal Cert.RefUpIdeal.Gen

def refA (a0 : FVec Ideal S8192x1024 .bf16) (a1 : FVec Ideal S2816x1024 .bf16) (a2 : FVec Ideal S2816x1024 .bf16) : FVec Ideal S8192x2816 .bf16 :=
  truncf .bf16 (Host.dotGeneral dot_S8192x1024_S1024x2816_S8192x2816_1_0_0_1_n_n none (extf .f32 a0 bitsLt_bf16_f32) (transpose S1024x2816 [1, 0] (extf .f32 a1 bitsLt_bf16_f32) transposes_S2816x1024_S1024x2816_1_0)) bitsLt_bf16_f32

def refB (a0 : FVec Ideal S8192x1024 .bf16) (a1 : FVec Ideal S2816x1024 .bf16) (a2 : FVec Ideal S2816x1024 .bf16) : FVec Ideal S8192x2816 .bf16 :=
  truncf .bf16 (Host.dotGeneral dot_S8192x1024_S1024x2816_S8192x2816_1_0_0_1_n_n none (extf .f32 a0 bitsLt_bf16_f32) (transpose S1024x2816 [1, 0] (extf .f32 a2 bitsLt_bf16_f32) transposes_S2816x1024_S1024x2816_1_0)) bitsLt_bf16_f32

def refAct (a0 : FVec Ideal S8192x1024 .bf16) (a1 : FVec Ideal S2816x1024 .bf16) (a2 : FVec Ideal S2816x1024 .bf16) : FVec Ideal S8192x2816 .bf16 :=
  truncf .bf16 (mulf (mulf (Host.dotGeneral dot_S8192x1024_S1024x2816_S8192x2816_1_0_0_1_n_n none (extf .f32 a0 bitsLt_bf16_f32) (transpose S1024x2816 [1, 0] (extf .f32 a1 bitsLt_bf16_f32) transposes_S2816x1024_S1024x2816_1_0)) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (Host.dotGeneral dot_S8192x1024_S1024x2816_S8192x2816_1_0_0_1_n_n none (extf .f32 a0 bitsLt_bf16_f32) (transpose S1024x2816 [1, 0] (extf .f32 a1 bitsLt_bf16_f32) transposes_S2816x1024_S1024x2816_1_0))))))) (Host.dotGeneral dot_S8192x1024_S1024x2816_S8192x2816_1_0_0_1_n_n none (extf .f32 a0 bitsLt_bf16_f32) (transpose S1024x2816 [1, 0] (extf .f32 a2 bitsLt_bf16_f32) transposes_S2816x1024_S1024x2816_1_0))) bitsLt_bf16_f32

end Reference

open Cert.UpIdeal Cert.UpIdeal.Gen

variable (m : (ℓ : Loc nD τ sig) → Buf (Elt Ideal) ℓ)

/-- The block index of every window at every point. -/
theorem idx : ∀ t : Fin cfg0.N, win0_0.index t = ![t.val / 11, 0]
    ∧ win0_1.index t = ![t.val % 11, 0]
    ∧ win0_2.index t = ![t.val % 11, 0]
    ∧ win0_3.index t = ![t.val / 11, t.val % 11]
    ∧ win0_4.index t = ![t.val / 11, t.val % 11]
    ∧ win0_5.index t = ![t.val / 11, t.val % 11] :=
  (by decide +kernel : ∀ t : Fin grid0.N, _)

theorem point_3 (c : Dev nD) (t : Fin cfg0.N) (y) :
    out0_3 (iblk m c 0 t) (iblk m c 1 t) (iblk m c 2 t) y = refA (m ((c : Thread nD τ).loc main_arg0)) (m ((c : Thread nD τ).loc main_arg1)) (m ((c : Thread nD τ).loc main_arg2)) (((cfg0.win 3).blk t).view.emb y) := by
  frame_out
  pointwise [k0_pay3, k0_pay1, refA]
  blk_point [iblk, V, idx t]

theorem final_3 (c : Dev nD) : (dats m 0 c).arrAt 3 (cfgs 0).N = refA (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  exact point_3 m c t y

theorem point_4 (c : Dev nD) (t : Fin cfg0.N) (y) :
    out0_4 (iblk m c 0 t) (iblk m c 1 t) (iblk m c 2 t) y = refB (m ((c : Thread nD τ).loc main_arg0)) (m ((c : Thread nD τ).loc main_arg1)) (m ((c : Thread nD τ).loc main_arg2)) (((cfg0.win 4).blk t).view.emb y) := by
  frame_out
  pointwise [k0_pay4, k0_pay2, refB]
  blk_point [iblk, V, idx t]

theorem final_4 (c : Dev nD) : (dats m 0 c).arrAt 4 (cfgs 0).N = refB (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  exact point_4 m c t y

theorem point_5 (c : Dev nD) (t : Fin cfg0.N) (y) :
    out0_5 (iblk m c 0 t) (iblk m c 1 t) (iblk m c 2 t) y = refAct (m ((c : Thread nD τ).loc main_arg0)) (m ((c : Thread nD τ).loc main_arg1)) (m ((c : Thread nD τ).loc main_arg2)) (((cfg0.win 5).blk t).view.emb y) := by
  frame_out
  pointwise [k0_pay5, k0_pay1, k0_pay2, refAct]
  simp only [Ideal.logistic]
  blk_point [iblk, V, idx t]

theorem final_5 (c : Dev nD) : (dats m 0 c).arrAt 5 (cfgs 0).N = refAct (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  exact point_5 m c t y

/-- The call computes what the reference computes. -/
theorem algebraic : Cert.algebraic_UpIdeal_RefUpIdeal := by
  intro m g m' g' _ hagree
  refine ⟨fun c => refA (m ((c : Thread nD τ).loc main_arg0)) (m ((c : Thread nD τ).loc main_arg1)) (m ((c : Thread nD τ).loc main_arg2)), fun c => refB (m ((c : Thread nD τ).loc main_arg0)) (m ((c : Thread nD τ).loc main_arg1)) (m ((c : Thread nD τ).loc main_arg2)), fun c => refAct (m ((c : Thread nD τ).loc main_arg0)) (m ((c : Thread nD τ).loc main_arg1)) (m ((c : Thread nD τ).loc main_arg2)), ?_, ?_⟩
  · refine (θ_run _ _ _).mono (fun r h c => ?_) (Cert.UpIdeal.Value.run_blocks m g)
    exact ⟨(h c).1.trans (final_3 m c), (h c).2.1.trans (final_4 m c), (h c).2.2.1.trans (final_5 m c), (h c).2.2.2⟩
  · refine (θ_run _ _ _).mono (fun r h c => ?_) (Cert.RefUpIdeal.Value.run m' g')
    obtain ⟨e0, e1, e2⟩ := hagree c
    refine ⟨(h c).1.trans ?_, (h c).2.1.trans ?_, (h c).2.2.1.trans ?_, (h c).2.2.2⟩
    · have k := congr (congr (congrArg refA e0) e1) e2
      exact k
    · have k := congr (congr (congrArg refB e0) e1) e2
      exact k
    · have k := congr (congr (congrArg refAct e0) e1) e2
      exact k

end Cert.UpCall

end
-- ==== Proof.DownValue.lean ====
module

public import proofs.«01_k».proof.Defs
public import proofs.«01_k».proof.Proof.Gen.DownIdeal.Value
public import proofs.«01_k».proof.Proof.Gen.RefDownIdeal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

/-! The second half of the gated FFN: the product back to the hidden width, gated and added to the stream. -/

namespace Cert.DownCall

open Idealize.ShloMosaic Idealize.ShloMosaic.TcCoe Idealize.SL.Sem

section Reference

open Cert.RefDownIdeal Cert.RefDownIdeal.Gen

def refH (a0 : FVec Ideal S8192x2816 .bf16) (a1 : FVec Ideal S2816x1024 .bf16) (a2 : FVec Ideal S8192x1024 .f32) (a3 : FVec Ideal S1x1024 .f32) : FVec Ideal S8192x1024 .f32 :=
  addf a2 (mulf (broadcastInDim S8192x1024 ![0, 1] bcast_S1x1024_S8192x1024_0_1 (mulf (broadcastInDim S1x1024 ![] bcast_S_S1x1024 (constant S_ .f32 0x3F000000#32)) (addf (broadcastInDim S1x1024 ![] bcast_S_S1x1024 (constant S_ .f32 0x3F800000#32)) a3))) (Host.dotGeneral dot_S8192x2816_S2816x1024_S8192x1024_1_0_0_1_n_n none (extf .f32 a0 bitsLt_bf16_f32) (extf .f32 a1 bitsLt_bf16_f32)))

def refO (a0 : FVec Ideal S8192x2816 .bf16) (a1 : FVec Ideal S2816x1024 .bf16) (a2 : FVec Ideal S8192x1024 .f32) (a3 : FVec Ideal S1x1024 .f32) : FVec Ideal S8192x1024 .f32 :=
  Host.dotGeneral dot_S8192x2816_S2816x1024_S8192x1024_1_0_0_1_n_n none (extf .f32 a0 bitsLt_bf16_f32) (extf .f32 a1 bitsLt_bf16_f32)

end Reference

open Cert.DownIdeal Cert.DownIdeal.Gen

variable (m : (ℓ : Loc nD τ sig) → Buf (Elt Ideal) ℓ)

/-- The block index of every window at every point. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0] :=
  (by decide +kernel : ∀ t : Fin grid0.N, _)

theorem point_4 (c : Dev nD) (t : Fin cfg0.N) (y) :
    out0_4 (iblk m c 0 t) (iblk m c 1 t) (iblk m c 2 t) (iblk m c 3 t) y = refH (m ((c : Thread nD τ).loc main_arg0)) (m ((c : Thread nD τ).loc main_arg1)) (m ((c : Thread nD τ).loc main_arg2)) (m ((c : Thread nD τ).loc main_arg3)) (((cfg0.win 4).blk t).view.emb y) := by
  frame_out
  pointwise [k0_pay2, k0_pay1, refH]
  blk_point [iblk, V, idx t]

theorem final_4 (c : Dev nD) : (dats m 0 c).arrAt 4 (cfgs 0).N = refH (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  exact point_4 m c t y

theorem point_5 (c : Dev nD) (t : Fin cfg0.N) (y) :
    out0_5 (iblk m c 0 t) (iblk m c 1 t) (iblk m c 2 t) (iblk m c 3 t) y = refO (m ((c : Thread nD τ).loc main_arg0)) (m ((c : Thread nD τ).loc main_arg1)) (m ((c : Thread nD τ).loc main_arg2)) (m ((c : Thread nD τ).loc main_arg3)) (((cfg0.win 5).blk t).view.emb y) := by
  frame_out
  pointwise [k0_pay1, refO]
  blk_point [iblk, V, idx t]

theorem final_5 (c : Dev nD) : (dats m 0 c).arrAt 5 (cfgs 0).N = refO (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  exact point_5 m c t y

/-- The call computes what the reference computes. -/
theorem algebraic : Cert.algebraic_DownIdeal_RefDownIdeal := by
  intro m g m' g' _ hagree
  refine ⟨fun c => refH (m ((c : Thread nD τ).loc main_arg0)) (m ((c : Thread nD τ).loc main_arg1)) (m ((c : Thread nD τ).loc main_arg2)) (m ((c : Thread nD τ).loc main_arg3)), fun c => refO (m ((c : Thread nD τ).loc main_arg0)) (m ((c : Thread nD τ).loc main_arg1)) (m ((c : Thread nD τ).loc main_arg2)) (m ((c : Thread nD τ).loc main_arg3)), ?_, ?_⟩
  · refine (θ_run _ _ _).mono (fun r h c => ?_) (Cert.DownIdeal.Value.run_blocks m g)
    exact ⟨(h c).1.trans (final_4 m c), (h c).2.1.trans (final_5 m c), (h c).2.2⟩
  · refine (θ_run _ _ _).mono (fun r h c => ?_) (Cert.RefDownIdeal.Value.run m' g')
    obtain ⟨e0, e1, e2, e3⟩ := hagree c
    refine ⟨(h c).1.trans ?_, (h c).2.1.trans ?_, (h c).2.2⟩
    · have k := congr (congr (congr (congrArg refH e0) e1) e2) e3
      exact k
    · have k := congr (congr (congr (congrArg refO e0) e1) e2) e3
      exact k

end Cert.DownCall

end
-- ==== Proof.GateValue.lean ====
module

public import proofs.«01_k».proof.Defs
public import proofs.«01_k».proof.Proof.Gen.GateIdeal.Value
public import proofs.«01_k».proof.Proof.Gen.RefGateIdeal.Run
public import Idealize.ShloMosaic.Lib.Pipeline.ValueKit
public import Idealize.ShloMosaic.Lib.Pointwise
public import Idealize.ShloMosaic.Lib.Pipeline.ReadBack
public import Idealize.ShloMosaic.Lib.Claim
public import Idealize.ShloMosaic.Lib.WritesUnit
public import proofs.«01_k».proof.Proof.Stores
public import proofs.«01_k».proof.Proof.Coe

@[expose] public section

set_option maxRecDepth 16384

noncomputable section

/-! The backward pass of the gate that the FFN's output passes: the gradient of what is gated, and of the gate as a sum over the tokens. -/

namespace Cert.GateCall

open Idealize.ShloMosaic Idealize.ShloMosaic.TcCoe Idealize.SL.Sem

section Reference

open Cert.RefGateIdeal Cert.RefGateIdeal.Gen

def refDo (a0 : FVec Ideal S8192x1024 .f32) (a1 : FVec Ideal S8192x1024 .f32) (a2 : FVec Ideal S1x1024 .f32) : FVec Ideal S8192x1024 .bf16 :=
  truncf .bf16 (mulf (broadcastInDim S8192x1024 ![0, 1] bcast_S1x1024_S8192x1024_0_1 (mulf (broadcastInDim S1x1024 ![] bcast_S_S1x1024 (constant S_ .f32 0x3F000000#32)) (addf (broadcastInDim S1x1024 ![] bcast_S_S1x1024 (constant S_ .f32 0x3F800000#32)) a2))) a0) bitsLt_bf16_f32

def refStats (a0 : FVec Ideal S8192x1024 .f32) (a1 : FVec Ideal S8192x1024 .f32) (a2 : FVec Ideal S1x1024 .f32) : FVec Ideal S8x1024 .f32 :=
  pad S8x1024 ![0, 0] ![7, 0] ![0, 0] (mulf (broadcastInDim S1x1024 ![] bcast_S_S1x1024 (constant S_ .f32 0x3F000000#32)) (shapeCast _ (Host.reduceAdd (mulf a0 a1) (constant S_ .f32 0x00000000#32) reducesTo_S8192x1024_S1024_d0 h_S_) shapeCasts_S1024_S1x1024)) (sitofp .f32 (constantI S_ 32 0#32)) pads_S1x1024_S8x1024_070_000 h_S_

end Reference

open Cert.GateIdeal Cert.GateIdeal.Gen

variable (m : (ℓ : Loc nD τ sig) → Buf (Elt Ideal) ℓ)

/-- The block index of every window at every point. -/
theorem idx : ∀ t : Fin cfg0.N, win0_0.index t = ![t.val, 0]
    ∧ win0_1.index t = ![t.val, 0]
    ∧ win0_2.index t = ![0, 0]
    ∧ win0_3.index t = ![t.val, 0]
    ∧ win0_4.index t = ![0, 0] :=
  (by decide +kernel : ∀ t : Fin grid0.N, _)

/-- The factor is a nonnegative real, so it distributes over a sum of any extended reals. -/
theorem half_sum (f : Fin 16 → EReal) :
    ∑ p, Ideal.ofBits .f32 0x3F000000#32 * f p = Ideal.ofBits .f32 0x3F000000#32 * ∑ p, f p := by
  have e : Ideal.ofBits .f32 0x3F000000#32 = ((1 / 2 : ℝ) : EReal) := by
    simp [Ideal.ofBits, Ideal.ieee, -EReal.coe_mul]; norm_num
  rw [e]
  have hn : (0 : EReal) ≤ ((1 / 2 : ℝ) : EReal) := EReal.coe_nonneg.mpr (by norm_num)
  exact (map_sum (⟨⟨fun x => ((1 / 2 : ℝ) : EReal) * x, mul_zero _⟩,
    fun x y => EReal.left_distrib_of_nonneg_of_ne_top hn (EReal.coe_ne_top _) x y⟩ : EReal →+ EReal) f Finset.univ).symm

theorem point_3_A (c : Dev nD) (t : Fin cfg0.N) (h0 : t.val % 16 = 0) (y) :
    (outsAt0 m c t.val t.isLt).1 y = refDo (m ((c : Thread nD τ).loc main_arg0)) (m ((c : Thread nD τ).loc main_arg1)) (m ((c : Thread nD τ).loc main_arg2)) (((cfg0.win 3).blk t).view.emb y) := by
  rw [outsAt0_A m c t h0]
  frame_out
  pointwise [k0_pay1, refDo]
  refine Eq.trans ?_ (mul_comm _ _)
  blk_point [iblk, V, idx t]

theorem point_3_B (c : Dev nD) (t : Fin cfg0.N) (h0 : ¬ t.val % 16 = 0) (y) :
    (outsAt0 m c t.val t.isLt).1 y = refDo (m ((c : Thread nD τ).loc main_arg0)) (m ((c : Thread nD τ).loc main_arg1)) (m ((c : Thread nD τ).loc main_arg2)) (((cfg0.win 3).blk t).view.emb y) := by
  rw [outsAt0_B m c t h0]
  frame_out
  pointwise [k0_pay1, refDo]
  refine Eq.trans ?_ (mul_comm _ _)
  blk_point [iblk, V, idx t]

theorem final_3 (c : Dev nD) : (dats m 0 c).arrAt 3 (cfgs 0).N = refDo (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  by_cases h0 : t.val % 16 = 0
  · exact point_3_A m c t h0 y
  · exact point_3_B m c t h0 y

/-! ## The sum over the tokens -/

/-- What one block of tokens adds to the sum. -/
def inc (x0 x1 : Vec Ideal S512x1024 .f32) (y : S8x1024.Idx) : EReal :=
  if (y 0).val = 0 then Ideal.ofBits .f32 0x3F000000#32 * ∑ r : Fin 512, x0 (ix2 r (y 1)) * x1 (ix2 r (y 1)) else 0

theorem pay3_at (x0 x1 : Vec Ideal S512x1024 .f32) (v : Vec Ideal S1x1024 .f32) (y : S1x1024.Idx) :
    k0_pay3 (F := Ideal) x0 v x1 y = v y + Ideal.ofBits .f32 0x3F000000#32 * ∑ r : Fin 512, x0 (ix2 r (y 1)) * x1 (ix2 r (y 1)) := by
  pointwise [k0_pay3]

theorem refStats_0 (a0 a1 : FVec Ideal Cert.RefGateIdeal.S8192x1024 .f32) (a2 : FVec Ideal Cert.RefGateIdeal.S1x1024 .f32) (j : Fin 1024) :
    refStats a0 a1 a2 (ix2 0 j) = Ideal.ofBits .f32 0x3F000000#32 * ∑ r : Fin 8192, a0 (ix2 r j) * a1 (ix2 r j) := by
  pointwise [refStats]

theorem refStats_rest (a0 a1 : FVec Ideal Cert.RefGateIdeal.S8192x1024 .f32) (a2 : FVec Ideal Cert.RefGateIdeal.S1x1024 .f32) (i : Fin 8) (j : Fin 1024) (h0 : ¬ i.val = 0) :
    refStats a0 a1 a2 (ix2 i j) = 0 := by
  pointwise [refStats]
  rw [dif_neg (by omega)]
  exact (Cert.Ret.sit 0 (by norm_num)).trans (congrArg _ Nat.cast_zero)

theorem ld_row (p : Vec Ideal S8x1024 .f32) (n : Fin 8) (inb) (y : S8x1024.Idx) (h : (y 0).val = n.val) :
    View.ld p (Rect.unit (s := S8x1024) ![n.val, 0] ![1, 1024] inb) (ix2 0 (y 1)) = p y := by
  refine congrArg p (funext fun a => Fin.ext ?_)
  revert a
  exact Fin.forall_fin_two.mpr ⟨h.symm, (Nat.zero_add _).trans (Nat.one_mul _)⟩

theorem point_4_A (c : Dev nD) (t : Fin cfg0.N) (hA : t.val % 16 = 0) (y : S8x1024.Idx) :
    (outsAt0 m c t.val t.isLt).2 y = 0 + inc (iblk m c 0 t) (iblk m c 1 t) y := by
  rw [outsAt0_A m c t hA]
  frame_out
  simp (disch := decide) only [↓View.readCov_skip, ↓View.readCov_fill]
  by_cases h0 : (y 0).val = 0
  · refine (Cert.Ret.canon_hit _ _ _ y (ix2 0 (y 1)) (Fin.forall_fin_two.mpr ⟨h0, (Nat.zero_add _).symm⟩)).trans ?_
    refine (pay3_at _ _ _ _).trans ?_
    unfold inc
    rw [if_pos h0]
    refine congrArg₂ (· + ·) ?_ rfl
    pointwise [View.ld, k0_pay2]
  refine (Cert.Ret.canon_miss _ _ _ y (0 : Fin 2) (Or.inr (by show 0 + 1 ≤ _; omega))).trans ?_
  refine (Cert.Ret.canon_hit _ _ _ y y (Fin.forall_fin_two.mpr ⟨(Nat.zero_add _).symm, (Nat.zero_add _).symm⟩)).trans ?_
  unfold inc
  rw [if_neg h0]
  pointwise [k0_pay2]

/-- A buffer whose first row was stored, at an element. -/
theorem read_rows {κ : Kind} {sp : Space} (v : View sig κ sp S8x1024 .f32) (f : v.ty.Contents (Elt Ideal)) (i0) (w0 : S1x1024.Idx → EReal) (y : S8x1024.Idx) :
    v.read (Elt Ideal) (v.writes (Elt Ideal) f [⟨Rect.unit (s := S8x1024) ![0, 0] ![1, 1024] i0, w0⟩]) y
      = if (y 0).val = 0 then w0 (ix2 0 (y 1)) else v.read (Elt Ideal) f y := by
  by_cases h0 : (y 0).val = 0
  · rw [if_pos h0]
    exact View.read_writes_cons_rows_of_mem (o := 0) _ _ _ _ _ y (ix2 0 (y 1)) rfl h0 rfl
  rw [if_neg h0]
  refine (View.read_writes_cons_rows_of_not_mem (o := 0) (W := 1) _ _ _ _ _ y rfl rfl (by omega)).trans ?_
  rw [View.writes_nil]

theorem point_4_B (c : Dev nD) (t : Fin cfg0.N) (hB : ¬ t.val % 16 = 0) (y : S8x1024.Idx) :
    (outsAt0 m c t.val t.isLt).2 y = (outsAt0 m c (t.val - 1) (lt_of_le_of_lt (Nat.sub_le _ _) t.isLt)).2 y + inc (iblk m c 0 t) (iblk m c 1 t) y := by
  rw [outsAt0_B m c t hB]
  frame_out
  generalize (outsAt0 m c (t.val - 1) _).2 = p
  refine (read_rows _ _ _ _ y).trans ?_
  unfold inc
  by_cases h0 : (y 0).val = 0
  · rw [if_pos h0, if_pos h0]
    exact (pay3_at _ _ _ _).trans (congrArg₂ (· + ·) (ld_row p 0 _ y h0) rfl)
  rw [if_neg h0, if_neg h0, add_zero]
  exact congrFun (Memref.IsWhole.read_unread _ p) y

theorem sum_inc (c : Dev nD) (j : S8x1024.Idx) :
    ∑ p : Fin 16, inc (iblk m c 0 ⟨p.val, lt_of_lt_of_eq p.isLt N_0.symm⟩) (iblk m c 1 ⟨p.val, lt_of_lt_of_eq p.isLt N_0.symm⟩) j = refStats (m ((c : Thread nD τ).loc main_arg0)) (m ((c : Thread nD τ).loc main_arg1)) (m ((c : Thread nD τ).loc main_arg2)) j := by
  obtain ⟨i, k, rfl⟩ : ∃ i k, j = ix2 i k := ⟨j 0, j 1, (ix2_eta j).symm⟩
  unfold inc
  by_cases h0 : i = 0
  · subst h0
    rw [refStats_0]
    refine Eq.trans (Finset.sum_congr rfl fun p _ => if_pos rfl) ?_
    refine (half_sum _).trans (congrArg (_ * ·) ?_)
    refine Fin.sum_mul_add_congr fun s k hl => ?_
    blk_point [iblk, V, idx ⟨s.val, lt_of_lt_of_eq s.isLt N_0.symm⟩]
  have g0 : ¬ i.val = 0 := fun h => h0 (Fin.ext h)
  rw [refStats_rest _ _ _ i k g0]
  exact Finset.sum_eq_zero fun p _ => if_neg g0

theorem final_4 (c : Dev nD) : (dats m 0 c).arrAt 4 (cfgs 0).N = refStats (m ((c : Thread nD τ).loc main_arg0)) (m ((c : Thread nD τ).loc main_arg1)) (m ((c : Thread nD τ).loc main_arg2)) := by
  refine (dats m 0 c).arrAt_eq_of_after_last 4 t0_15 (by decide +kernel) _ fun j => ?_
  blk_simp
  rw [after0_4, Pipeline.eq_sum_fin_of_reset_step_apply_last (fun n h => (outsAt0 m c n h).2) 16 (fun _ => 0) _
    (fun t h j => point_4_A m c t h j) (fun t h j => point_4_B m c t h j) (le_of_eq N_0) t0_15 rfl j, zero_add]
  exact sum_inc m c j

/-- The call computes what the reference computes. -/
theorem algebraic : Cert.algebraic_GateIdeal_RefGateIdeal := by
  intro m g m' g' _ hagree
  refine ⟨fun c => refDo (m ((c : Thread nD τ).loc main_arg0)) (m ((c : Thread nD τ).loc main_arg1)) (m ((c : Thread nD τ).loc main_arg2)), fun c => refStats (m ((c : Thread nD τ).loc main_arg0)) (m ((c : Thread nD τ).loc main_arg1)) (m ((c : Thread nD τ).loc main_arg2)), ?_, ?_⟩
  · refine (θ_run _ _ _).mono (fun r h c => ?_) (Cert.GateIdeal.Value.run_blocks m g)
    exact ⟨(h c).1.trans (final_3 m c), (h c).2.1.trans (final_4 m c), (h c).2.2⟩
  · refine (θ_run _ _ _).mono (fun r h c => ?_) (Cert.RefGateIdeal.Value.run m' g')
    obtain ⟨e0, e1, e2⟩ := hagree c
    refine ⟨(h c).1.trans ?_, (h c).2.1.trans ?_, (h c).2.2⟩
    · have k := congr (congr (congrArg refDo e0) e1) e2
      exact k
    · have k := congr (congr (congrArg refStats e0) e1) e2
      exact k

end Cert.GateCall

end
-- ==== Proof.MgateValue.lean ====
module

public import proofs.«01_k».proof.Defs
public import proofs.«01_k».proof.Proof.Gen.MgateIdeal.Value
public import proofs.«01_k».proof.Proof.Gen.RefMgateIdeal.Run
public import Idealize.ShloMosaic.Lib.Pipeline.ValueKit
public import Idealize.ShloMosaic.Lib.Pointwise
public import Idealize.ShloMosaic.Lib.Pipeline.ReadBack
public import Idealize.ShloMosaic.Lib.Claim
public import Idealize.ShloMosaic.Lib.WritesUnit
public import proofs.«01_k».proof.Proof.Stores
public import proofs.«01_k».proof.Proof.Coe

@[expose] public section

set_option maxRecDepth 16384

noncomputable section

/-! The backward pass of the gate that the mixer's output passes: the gradient of what is gated, and of the gate as a sum over the tokens. -/

namespace Cert.MgateCall

open Idealize.ShloMosaic Idealize.ShloMosaic.TcCoe Idealize.SL.Sem

section Reference

open Cert.RefMgateIdeal Cert.RefMgateIdeal.Gen

def refDo (a0 : FVec Ideal S8192x1024 .f32) (a1 : FVec Ideal S8192x1024 .f32) (a2 : FVec Ideal S1x1024 .f32) : FVec Ideal S8192x1024 .bf16 :=
  truncf .bf16 (mulf (broadcastInDim S8192x1024 ![0, 1] bcast_S1x1024_S8192x1024_0_1 (addf (broadcastInDim S1x1024 ![] bcast_S_S1x1024 (constant S_ .f32 0x3F800000#32)) a2)) a0) bitsLt_bf16_f32

def refStats (a0 : FVec Ideal S8192x1024 .f32) (a1 : FVec Ideal S8192x1024 .f32) (a2 : FVec Ideal S1x1024 .f32) : FVec Ideal S8x1024 .f32 :=
  pad S8x1024 ![0, 0] ![7, 0] ![0, 0] (shapeCast _ (Host.reduceAdd (mulf a0 a1) (constant S_ .f32 0x00000000#32) reducesTo_S8192x1024_S1024_d0 h_S_) shapeCasts_S1024_S1x1024) (sitofp .f32 (constantI S_ 32 0#32)) pads_S1x1024_S8x1024_070_000 h_S_

end Reference

open Cert.MgateIdeal Cert.MgateIdeal.Gen

variable (m : (ℓ : Loc nD τ sig) → Buf (Elt Ideal) ℓ)

/-- The block index of every window at every point. -/
theorem idx : ∀ t : Fin cfg0.N, win0_0.index t = ![t.val, 0]
    ∧ win0_1.index t = ![t.val, 0]
    ∧ win0_2.index t = ![0, 0]
    ∧ win0_3.index t = ![t.val, 0]
    ∧ win0_4.index t = ![0, 0] :=
  (by decide +kernel : ∀ t : Fin grid0.N, _)

theorem point_3_A (c : Dev nD) (t : Fin cfg0.N) (h0 : t.val % 16 = 0) (y) :
    (outsAt0 m c t.val t.isLt).1 y = refDo (m ((c : Thread nD τ).loc main_arg0)) (m ((c : Thread nD τ).loc main_arg1)) (m ((c : Thread nD τ).loc main_arg2)) (((cfg0.win 3).blk t).view.emb y) := by
  rw [outsAt0_A m c t h0]
  frame_out
  pointwise [k0_pay1, refDo]
  refine Eq.trans ?_ (mul_comm _ _)
  blk_point [iblk, V, idx t]

theorem point_3_B (c : Dev nD) (t : Fin cfg0.N) (h0 : ¬ t.val % 16 = 0) (y) :
    (outsAt0 m c t.val t.isLt).1 y = refDo (m ((c : Thread nD τ).loc main_arg0)) (m ((c : Thread nD τ).loc main_arg1)) (m ((c : Thread nD τ).loc main_arg2)) (((cfg0.win 3).blk t).view.emb y) := by
  rw [outsAt0_B m c t h0]
  frame_out
  pointwise [k0_pay1, refDo]
  refine Eq.trans ?_ (mul_comm _ _)
  blk_point [iblk, V, idx t]

theorem final_3 (c : Dev nD) : (dats m 0 c).arrAt 3 (cfgs 0).N = refDo (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  by_cases h0 : t.val % 16 = 0
  · exact point_3_A m c t h0 y
  · exact point_3_B m c t h0 y

/-! ## The sum over the tokens -/

/-- What one block of tokens adds to the sum. -/
def inc (x0 x1 : Vec Ideal S512x1024 .f32) (y : S8x1024.Idx) : EReal :=
  if (y 0).val = 0 then ∑ r : Fin 512, x0 (ix2 r (y 1)) * x1 (ix2 r (y 1)) else 0

theorem pay3_at (x0 x1 : Vec Ideal S512x1024 .f32) (v : Vec Ideal S1x1024 .f32) (y : S1x1024.Idx) :
    k0_pay3 (F := Ideal) x0 v x1 y = v y + ∑ r : Fin 512, x0 (ix2 r (y 1)) * x1 (ix2 r (y 1)) := by
  pointwise [k0_pay3]

theorem refStats_0 (a0 a1 : FVec Ideal Cert.RefMgateIdeal.S8192x1024 .f32) (a2 : FVec Ideal Cert.RefMgateIdeal.S1x1024 .f32) (j : Fin 1024) :
    refStats a0 a1 a2 (ix2 0 j) = ∑ r : Fin 8192, a0 (ix2 r j) * a1 (ix2 r j) := by
  pointwise [refStats]

theorem refStats_rest (a0 a1 : FVec Ideal Cert.RefMgateIdeal.S8192x1024 .f32) (a2 : FVec Ideal Cert.RefMgateIdeal.S1x1024 .f32) (i : Fin 8) (j : Fin 1024) (h0 : ¬ i.val = 0) :
    refStats a0 a1 a2 (ix2 i j) = 0 := by
  pointwise [refStats]
  rw [dif_neg (by omega)]
  exact (Cert.Ret.sit 0 (by norm_num)).trans (congrArg _ Nat.cast_zero)

theorem ld_row (p : Vec Ideal S8x1024 .f32) (n : Fin 8) (inb) (y : S8x1024.Idx) (h : (y 0).val = n.val) :
    View.ld p (Rect.unit (s := S8x1024) ![n.val, 0] ![1, 1024] inb) (ix2 0 (y 1)) = p y := by
  refine congrArg p (funext fun a => Fin.ext ?_)
  revert a
  exact Fin.forall_fin_two.mpr ⟨h.symm, (Nat.zero_add _).trans (Nat.one_mul _)⟩

theorem point_4_A (c : Dev nD) (t : Fin cfg0.N) (hA : t.val % 16 = 0) (y : S8x1024.Idx) :
    (outsAt0 m c t.val t.isLt).2 y = 0 + inc (iblk m c 0 t) (iblk m c 1 t) y := by
  rw [outsAt0_A m c t hA]
  frame_out
  simp (disch := decide) only [↓View.readCov_skip, ↓View.readCov_fill]
  by_cases h0 : (y 0).val = 0
  · refine (Cert.Ret.canon_hit _ _ _ y (ix2 0 (y 1)) (Fin.forall_fin_two.mpr ⟨h0, (Nat.zero_add _).symm⟩)).trans ?_
    refine (pay3_at _ _ _ _).trans ?_
    unfold inc
    rw [if_pos h0]
    refine congrArg₂ (· + ·) ?_ rfl
    pointwise [View.ld, k0_pay2]
  refine (Cert.Ret.canon_miss _ _ _ y (0 : Fin 2) (Or.inr (by show 0 + 1 ≤ _; omega))).trans ?_
  refine (Cert.Ret.canon_hit _ _ _ y y (Fin.forall_fin_two.mpr ⟨(Nat.zero_add _).symm, (Nat.zero_add _).symm⟩)).trans ?_
  unfold inc
  rw [if_neg h0]
  pointwise [k0_pay2]

/-- A buffer whose first row was stored, at an element. -/
theorem read_rows {κ : Kind} {sp : Space} (v : View sig κ sp S8x1024 .f32) (f : v.ty.Contents (Elt Ideal)) (i0) (w0 : S1x1024.Idx → EReal) (y : S8x1024.Idx) :
    v.read (Elt Ideal) (v.writes (Elt Ideal) f [⟨Rect.unit (s := S8x1024) ![0, 0] ![1, 1024] i0, w0⟩]) y
      = if (y 0).val = 0 then w0 (ix2 0 (y 1)) else v.read (Elt Ideal) f y := by
  by_cases h0 : (y 0).val = 0
  · rw [if_pos h0]
    exact View.read_writes_cons_rows_of_mem (o := 0) _ _ _ _ _ y (ix2 0 (y 1)) rfl h0 rfl
  rw [if_neg h0]
  refine (View.read_writes_cons_rows_of_not_mem (o := 0) (W := 1) _ _ _ _ _ y rfl rfl (by omega)).trans ?_
  rw [View.writes_nil]

theorem point_4_B (c : Dev nD) (t : Fin cfg0.N) (hB : ¬ t.val % 16 = 0) (y : S8x1024.Idx) :
    (outsAt0 m c t.val t.isLt).2 y = (outsAt0 m c (t.val - 1) (lt_of_le_of_lt (Nat.sub_le _ _) t.isLt)).2 y + inc (iblk m c 0 t) (iblk m c 1 t) y := by
  rw [outsAt0_B m c t hB]
  frame_out
  generalize (outsAt0 m c (t.val - 1) _).2 = p
  refine (read_rows _ _ _ _ y).trans ?_
  unfold inc
  by_cases h0 : (y 0).val = 0
  · rw [if_pos h0, if_pos h0]
    exact (pay3_at _ _ _ _).trans (congrArg₂ (· + ·) (ld_row p 0 _ y h0) rfl)
  rw [if_neg h0, if_neg h0, add_zero]
  exact congrFun (Memref.IsWhole.read_unread _ p) y

theorem sum_inc (c : Dev nD) (j : S8x1024.Idx) :
    ∑ p : Fin 16, inc (iblk m c 0 ⟨p.val, lt_of_lt_of_eq p.isLt N_0.symm⟩) (iblk m c 1 ⟨p.val, lt_of_lt_of_eq p.isLt N_0.symm⟩) j = refStats (m ((c : Thread nD τ).loc main_arg0)) (m ((c : Thread nD τ).loc main_arg1)) (m ((c : Thread nD τ).loc main_arg2)) j := by
  obtain ⟨i, k, rfl⟩ : ∃ i k, j = ix2 i k := ⟨j 0, j 1, (ix2_eta j).symm⟩
  unfold inc
  by_cases h0 : i = 0
  · subst h0
    rw [refStats_0]
    refine Eq.trans (Finset.sum_congr rfl fun p _ => if_pos rfl) ?_
    refine Fin.sum_mul_add_congr fun s k hl => ?_
    blk_point [iblk, V, idx ⟨s.val, lt_of_lt_of_eq s.isLt N_0.symm⟩]
  have g0 : ¬ i.val = 0 := fun h => h0 (Fin.ext h)
  rw [refStats_rest _ _ _ i k g0]
  exact Finset.sum_eq_zero fun p _ => if_neg g0

theorem final_4 (c : Dev nD) : (dats m 0 c).arrAt 4 (cfgs 0).N = refStats (m ((c : Thread nD τ).loc main_arg0)) (m ((c : Thread nD τ).loc main_arg1)) (m ((c : Thread nD τ).loc main_arg2)) := by
  refine (dats m 0 c).arrAt_eq_of_after_last 4 t0_15 (by decide +kernel) _ fun j => ?_
  blk_simp
  rw [after0_4, Pipeline.eq_sum_fin_of_reset_step_apply_last (fun n h => (outsAt0 m c n h).2) 16 (fun _ => 0) _
    (fun t h j => point_4_A m c t h j) (fun t h j => point_4_B m c t h j) (le_of_eq N_0) t0_15 rfl j, zero_add]
  exact sum_inc m c j

/-- The call computes what the reference computes. -/
theorem algebraic : Cert.algebraic_MgateIdeal_RefMgateIdeal := by
  intro m g m' g' _ hagree
  refine ⟨fun c => refDo (m ((c : Thread nD τ).loc main_arg0)) (m ((c : Thread nD τ).loc main_arg1)) (m ((c : Thread nD τ).loc main_arg2)), fun c => refStats (m ((c : Thread nD τ).loc main_arg0)) (m ((c : Thread nD τ).loc main_arg1)) (m ((c : Thread nD τ).loc main_arg2)), ?_, ?_⟩
  · refine (θ_run _ _ _).mono (fun r h c => ?_) (Cert.MgateIdeal.Value.run_blocks m g)
    exact ⟨(h c).1.trans (final_3 m c), (h c).2.1.trans (final_4 m c), (h c).2.2⟩
  · refine (θ_run _ _ _).mono (fun r h c => ?_) (Cert.RefMgateIdeal.Value.run m' g')
    obtain ⟨e0, e1, e2⟩ := hagree c
    refine ⟨(h c).1.trans ?_, (h c).2.1.trans ?_, (h c).2.2⟩
    · have k := congr (congr (congrArg refDo e0) e1) e2
      exact k
    · have k := congr (congr (congrArg refStats e0) e1) e2
      exact k

end Cert.MgateCall

end
-- ==== Proof.GnormValue.lean ====
module

public import proofs.«01_k».proof.Defs
public import proofs.«01_k».proof.Proof.Gen.GnormIdeal.Value
public import proofs.«01_k».proof.Proof.Gen.RefGnormIdeal.Run
public import Idealize.ShloMosaic.Lib.Pipeline.ValueKit
public import Idealize.ShloMosaic.Lib.Pointwise
public import Idealize.ShloMosaic.Lib.Pipeline.ReadBack
public import Idealize.ShloMosaic.Lib.Claim
public import Idealize.ShloMosaic.Lib.WritesUnit
public import proofs.«01_k».proof.Proof.Stores
public import proofs.«01_k».proof.Proof.Coe
public import proofs.«01_k».proof.Proof.Finite
public import proofs.«01_k».proof.Proof.DactValue
public import proofs.«01_k».proof.Proof.Gen.Pre_finite_gnorm

@[expose] public section

set_option maxRecDepth 16384

noncomputable section

/-! The backward pass of the state-space branch's gated norm: the gradients of the branch's output and of its gate, and the
    sum over the tokens that makes the gradient of the gain. -/

namespace Cert.GnormCall

open Idealize.ShloMosaic Idealize.ShloMosaic.TcCoe Idealize.SL.Sem

section Reference

open Cert.RefGnormIdeal Cert.RefGnormIdeal.Gen

/-- The logistic of the gate's input. -/
def refSig (a1 : FVec Ideal S8192x5632 .f32) : FVec Ideal S8192x512 .f32 :=
  (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 3584] a1 slices_S8192x5632_S8192x512_0_3584)))))

/-- The gated value the norm is taken of. -/
def refV (a0 : FVec Ideal S8192x512 .f32) (a1 : FVec Ideal S8192x5632 .f32) : FVec Ideal S8192x512 .f32 :=
  (mulf a0 (mulf (extractStridedSlice S8192x512 ![0, 3584] a1 slices_S8192x5632_S8192x512_0_3584) (refSig a1)))

/-- The gradient at the gated value. -/
def refDv (a0 : FVec Ideal S8192x512 .f32) (a1 : FVec Ideal S8192x5632 .f32) (a2 : FVec Ideal S1x512 .f32) (a3 : FVec Ideal S8192x1536 .f32) : FVec Ideal S8192x512 .f32 :=
  (addf (addf (mulf (mulf (extractStridedSlice S8192x512 ![0, 1024] a3 slices_S8192x1536_S8192x512_0_1024) (broadcastInDim S8192x512 ![0, 1] bcast_S1x512_S8192x512_0_1 a2)) (broadcastInDim S8192x512 ![0, 1] bcast_S8192x1_S8192x512_0_1 (Host.rsqrt (addf (Host.divf (broadcastInDim S8192x1 ![0] bcast_S8192_S8192x1_0 (Host.reduceAdd (mulf (refV a0 a1) (refV a0 a1)) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32)))))) (mulf (refV a0 a1) (broadcastInDim S8192x512 ![0] bcast_S8192_S8192x512_0 (Host.reduceAdd (Host.divf (mulf (shapeCast _ (Host.reduceAdd (mulf (refV a0 a1) (mulf (extractStridedSlice S8192x512 ![0, 1024] a3 slices_S8192x1536_S8192x512_0_1024) (broadcastInDim S8192x512 ![0, 1] bcast_S1x512_S8192x512_0_1 a2))) (constant S_ .f32 0x00000000#32) reducesTo_S8192x512_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf (refV a0 a1) (refV a0 a1)) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32)))) (addf (Host.divf (broadcastInDim S8192x1 ![0] bcast_S8192_S8192x1_0 (Host.reduceAdd (mulf (refV a0 a1) (refV a0 a1)) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32)))))) (broadcastInDim S8192x1 ![] bcast_S_S8192x1 (constant S_ .f32 0x44000000#32))) (constant S_ .f32 0x00000000#32) reducesTo_S8192x1_S8192_d1 h_S_)))) (mulf (broadcastInDim S8192x512 ![0] bcast_S8192_S8192x512_0 (Host.reduceAdd (Host.divf (mulf (shapeCast _ (Host.reduceAdd (mulf (refV a0 a1) (mulf (extractStridedSlice S8192x512 ![0, 1024] a3 slices_S8192x1536_S8192x512_0_1024) (broadcastInDim S8192x512 ![0, 1] bcast_S1x512_S8192x512_0_1 a2))) (constant S_ .f32 0x00000000#32) reducesTo_S8192x512_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf (refV a0 a1) (refV a0 a1)) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32)))) (addf (Host.divf (broadcastInDim S8192x1 ![0] bcast_S8192_S8192x1_0 (Host.reduceAdd (mulf (refV a0 a1) (refV a0 a1)) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32)))))) (broadcastInDim S8192x1 ![] bcast_S_S8192x1 (constant S_ .f32 0x44000000#32))) (constant S_ .f32 0x00000000#32) reducesTo_S8192x1_S8192_d1 h_S_)) (refV a0 a1)))

def refDy (a0 : FVec Ideal S8192x512 .f32) (a1 : FVec Ideal S8192x5632 .f32) (a2 : FVec Ideal S1x512 .f32) (a3 : FVec Ideal S8192x1536 .f32) : FVec Ideal S8192x512 .f32 :=
  mulf (refDv a0 a1 a2 a3) (mulf (extractStridedSlice S8192x512 ![0, 3584] a1 slices_S8192x5632_S8192x512_0_3584) (refSig a1))

def refDz (a0 : FVec Ideal S8192x512 .f32) (a1 : FVec Ideal S8192x5632 .f32) (a2 : FVec Ideal S1x512 .f32) (a3 : FVec Ideal S8192x1536 .f32) : FVec Ideal S8192x512 .bf16 :=
  truncf .bf16 (addf (mulf (mulf a0 (refDv a0 a1 a2 a3)) (refSig a1)) (mulf (mulf (extractStridedSlice S8192x512 ![0, 3584] a1 slices_S8192x5632_S8192x512_0_3584) (mulf a0 (refDv a0 a1 a2 a3))) (mulf (refSig a1) (subf (broadcastInDim S8192x512 ![] bcast_S_S8192x512 (constant S_ .f32 0x3F800000#32)) (refSig a1))))) bitsLt_bf16_f32

def refStats (a0 : FVec Ideal S8192x512 .f32) (a1 : FVec Ideal S8192x5632 .f32) (a2 : FVec Ideal S1x512 .f32) (a3 : FVec Ideal S8192x1536 .f32) : FVec Ideal S8x512 .f32 :=
  pad S8x512 ![0, 0] ![7, 0] ![0, 0] (shapeCast _ (Host.reduceAdd (mulf (mulf (refV a0 a1) (broadcastInDim S8192x512 ![0, 1] bcast_S8192x1_S8192x512_0_1 (Host.rsqrt (addf (Host.divf (broadcastInDim S8192x1 ![0] bcast_S8192_S8192x1_0 (Host.reduceAdd (mulf (refV a0 a1) (refV a0 a1)) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32)))))) (extractStridedSlice S8192x512 ![0, 1024] a3 slices_S8192x1536_S8192x512_0_1024)) (constant S_ .f32 0x00000000#32) reducesTo_S8192x512_S512_d0 h_S_) shapeCasts_S512_S1x512) (sitofp .f32 (constantI S_ 32 0#32)) pads_S1x512_S8x512_070_000 h_S_

end Reference

open Cert.GnormIdeal Cert.GnormIdeal.Gen

variable (m : (ℓ : Loc nD τ sig) → Buf (Elt Ideal) ℓ)

/-- The block index of every window at every point. -/
theorem idx : ∀ t : Fin cfg0.N, win0_0.index t = ![t.val, 0]
    ∧ win0_1.index t = ![t.val, 7]
    ∧ win0_2.index t = ![0, 0]
    ∧ win0_3.index t = ![t.val, 2]
    ∧ win0_4.index t = ![t.val, 0]
    ∧ win0_5.index t = ![t.val, 0]
    ∧ win0_6.index t = ![0, 0] :=
  (by decide +kernel : ∀ t : Fin grid0.N, _)

open Cert.Ret in
theorem lit_512 : Ideal.ofBits .f32 0x44000000#32 = ((512 : ℝ) : EReal) := by
  simp [Ideal.ofBits, Ideal.ieee, -EReal.coe_mul]; norm_num

open Cert.Ret in
/-- The gradient of the norm, as the call groups it and as differentiating its forward lines groups it. -/
theorem norm_dv (h d : Fin 512 → EReal) (hh : ∀ x, IsReal (h x)) (hd : ∀ x, IsReal (d x)) (j : Fin 512) :
    Ideal.rsqrt (Ideal.div (∑ k, h k * h k) (Ideal.ofBits .f32 0x44000000#32) + Ideal.ofBits .f32 0x358637BD#32) * (d j - h j * Ideal.rsqrt (Ideal.div (∑ k, h k * h k) (Ideal.ofBits .f32 0x44000000#32) + Ideal.ofBits .f32 0x358637BD#32) * Ideal.div (∑ x, d x * (h x * Ideal.rsqrt (Ideal.div (∑ k, h k * h k) (Ideal.ofBits .f32 0x44000000#32) + Ideal.ofBits .f32 0x358637BD#32))) (Ideal.ofBits .f32 0x44000000#32))
      = d j * Ideal.rsqrt (Ideal.div (∑ k, h k * h k) (Ideal.ofBits .f32 0x44000000#32) + Ideal.ofBits .f32 0x358637BD#32) + h j * (∑ _y : Fin 1, Ideal.div ((∑ x, h x * d x) * (Ideal.ofBits .f32 0xBF000000#32 * Ideal.div (Ideal.rsqrt (Ideal.div (∑ k, h k * h k) (Ideal.ofBits .f32 0x44000000#32) + Ideal.ofBits .f32 0x358637BD#32)) (Ideal.div (∑ k, h k * h k) (Ideal.ofBits .f32 0x44000000#32) + Ideal.ofBits .f32 0x358637BD#32))) (Ideal.ofBits .f32 0x44000000#32)) + (∑ _y : Fin 1, Ideal.div ((∑ x, h x * d x) * (Ideal.ofBits .f32 0xBF000000#32 * Ideal.div (Ideal.rsqrt (Ideal.div (∑ k, h k * h k) (Ideal.ofBits .f32 0x44000000#32) + Ideal.ofBits .f32 0x358637BD#32)) (Ideal.div (∑ k, h k * h k) (Ideal.ofBits .f32 0x44000000#32) + Ideal.ofBits .f32 0x358637BD#32))) (Ideal.ofBits .f32 0x44000000#32)) * h j := by
  choose h' eh using hh
  choose d' ed using hd
  have hv : (0 : ℝ) < (∑ x, h' x * h' x) * (1 / 512) + eps :=
    add_pos_of_nonneg_of_pos (mul_nonneg (Finset.sum_nonneg fun x _ => mul_self_nonneg _) (by norm_num)) eps_pos
  have ev : Ideal.div (∑ x, h x * h x) (Ideal.ofBits .f32 0x44000000#32) + Ideal.ofBits .f32 0x358637BD#32
      = (((∑ x, h' x * h' x) * (1 / 512) + eps : ℝ) : EReal) := by
    simp only [eh, ← EReal.coe_mul, coe_fsum]
    rw [lit_512, div_r _ _ (by norm_num), lit_eps, ← EReal.coe_add]
  rw [ev]
  generalize hve : (∑ x, h' x * h' x) * (1 / 512) + eps = v at hv
  simp only [eh, ed, rsqrt_r _ hv, lit_512, lit_mhalf, Finset.univ_unique, Finset.sum_singleton, ← EReal.coe_mul, ← EReal.coe_add, coe_fsum,
    div_r _ _ hv.ne', div_r _ _ (by norm_num : (512 : ℝ) ≠ 0), ← EReal.coe_sub]
  congr 1
  have hr : (Real.sqrt v)⁻¹ * (Real.sqrt v)⁻¹ = 1 / v := by
    rw [← mul_inv, Real.mul_self_sqrt hv.le, one_div]
  generalize (Real.sqrt v)⁻¹ = r at hr
  have hS : ∑ x, d' x * (h' x * r) = r * ∑ x, h' x * d' x := by
    rw [Finset.mul_sum]
    exact Finset.sum_congr rfl fun x _ => by ring
  rw [hS, ← hr]
  ring

open Cert.Ret in
theorem norm_real (h d : Fin 512 → EReal) (hh : ∀ x, IsReal (h x)) (hd : ∀ x, IsReal (d x)) (j : Fin 512) :
    IsReal (Ideal.rsqrt (Ideal.div (∑ k, h k * h k) (Ideal.ofBits .f32 0x44000000#32) + Ideal.ofBits .f32 0x358637BD#32) * (d j - h j * Ideal.rsqrt (Ideal.div (∑ k, h k * h k) (Ideal.ofBits .f32 0x44000000#32) + Ideal.ofBits .f32 0x358637BD#32) * Ideal.div (∑ x, d x * (h x * Ideal.rsqrt (Ideal.div (∑ k, h k * h k) (Ideal.ofBits .f32 0x44000000#32) + Ideal.ofBits .f32 0x358637BD#32))) (Ideal.ofBits .f32 0x44000000#32))) := by
  choose h' eh using hh
  choose d' ed using hd
  have hv : (0 : ℝ) < (∑ x, h' x * h' x) * (1 / 512) + eps :=
    add_pos_of_nonneg_of_pos (mul_nonneg (Finset.sum_nonneg fun x _ => mul_self_nonneg _) (by norm_num)) eps_pos
  have ev : Ideal.div (∑ x, h x * h x) (Ideal.ofBits .f32 0x44000000#32) + Ideal.ofBits .f32 0x358637BD#32
      = (((∑ x, h' x * h' x) * (1 / 512) + eps : ℝ) : EReal) := by
    simp only [eh, ← EReal.coe_mul, coe_fsum]
    rw [lit_512, div_r _ _ (by norm_num), lit_eps, ← EReal.coe_add]
  rw [ev]
  generalize hve : (∑ x, h' x * h' x) * (1 / 512) + eps = v at hv
  simp only [eh, ed, rsqrt_r _ hv, lit_512, lit_mhalf, Finset.univ_unique, Finset.sum_singleton, ← EReal.coe_mul, ← EReal.coe_add, coe_fsum,
    div_r _ _ hv.ne', div_r _ _ (by norm_num : (512 : ℝ) ≠ 0), ← EReal.coe_sub]
  exact ⟨_, rfl⟩

theorem sig_real (z : EReal) (h : Cert.Ret.IsReal z) : Cert.Ret.IsReal (Ideal.logistic z) := by
  obtain ⟨z, rfl⟩ := h
  rw [Ideal.logistic_coe]
  exact ⟨_, rfl⟩

theorem refSig_at (a1 : FVec Ideal Cert.RefGnormIdeal.S8192x5632 .f32) (i : Fin 8192) (j : Fin 512) :
    refSig a1 (ix2 i j) = Ideal.logistic (a1 (ix2 i ⟨3584 + j.val, by omega⟩)) := by
  pointwise [refSig]
  rfl

theorem refV_at (a0 : FVec Ideal Cert.RefGnormIdeal.S8192x512 .f32) (a1 : FVec Ideal Cert.RefGnormIdeal.S8192x5632 .f32) (i : Fin 8192) (j : Fin 512) :
    refV a0 a1 (ix2 i j) = a0 (ix2 i j) * (a1 (ix2 i ⟨3584 + j.val, by omega⟩) * Ideal.logistic (a1 (ix2 i ⟨3584 + j.val, by omega⟩))) := by
  pointwise [refV]
  rw [refSig_at]

theorem refDv_at (a0 : FVec Ideal Cert.RefGnormIdeal.S8192x512 .f32) (a1 : FVec Ideal Cert.RefGnormIdeal.S8192x5632 .f32) (a2 : FVec Ideal Cert.RefGnormIdeal.S1x512 .f32) (a3 : FVec Ideal Cert.RefGnormIdeal.S8192x1536 .f32) (hv : ∀ i, Cert.Ret.IsReal (refV a0 a1 i)) (h2 : ∀ i, Cert.Ret.IsReal (a2 i)) (h3 : ∀ i, Cert.Ret.IsReal (a3 i)) (i : Fin 8192) (j : Fin 512) :
    refDv a0 a1 a2 a3 (ix2 i j) = Ideal.rsqrt (Ideal.div (∑ k, refV a0 a1 (ix2 i k) * refV a0 a1 (ix2 i k)) (Ideal.ofBits .f32 0x44000000#32) + Ideal.ofBits .f32 0x358637BD#32) * ((a3 (ix2 i ⟨1024 + j.val, by omega⟩) * a2 (ix2 0 j)) - refV a0 a1 (ix2 i j) * Ideal.rsqrt (Ideal.div (∑ k, refV a0 a1 (ix2 i k) * refV a0 a1 (ix2 i k)) (Ideal.ofBits .f32 0x44000000#32) + Ideal.ofBits .f32 0x358637BD#32) * Ideal.div (∑ x, (a3 (ix2 i ⟨1024 + x.val, by omega⟩) * a2 (ix2 0 x)) * (refV a0 a1 (ix2 i x) * Ideal.rsqrt (Ideal.div (∑ k, refV a0 a1 (ix2 i k) * refV a0 a1 (ix2 i k)) (Ideal.ofBits .f32 0x44000000#32) + Ideal.ofBits .f32 0x358637BD#32))) (Ideal.ofBits .f32 0x44000000#32)) := by
  pointwise [refDv]
  exact (norm_dv (fun x => refV a0 a1 (ix2 i x)) (fun x => a3 (ix2 i ⟨1024 + x.val, by omega⟩) * a2 (ix2 0 x)) (fun x => hv _) (fun x => (h3 _).mul (h2 _)) j).symm

theorem refDv_real (a0 : FVec Ideal Cert.RefGnormIdeal.S8192x512 .f32) (a1 : FVec Ideal Cert.RefGnormIdeal.S8192x5632 .f32) (a2 : FVec Ideal Cert.RefGnormIdeal.S1x512 .f32) (a3 : FVec Ideal Cert.RefGnormIdeal.S8192x1536 .f32) (hv : ∀ i, Cert.Ret.IsReal (refV a0 a1 i)) (h2 : ∀ i, Cert.Ret.IsReal (a2 i)) (h3 : ∀ i, Cert.Ret.IsReal (a3 i)) (i : Fin 8192) (j : Fin 512) : Cert.Ret.IsReal (refDv a0 a1 a2 a3 (ix2 i j)) := by
  rw [refDv_at _ _ _ _ hv h2 h3]
  exact norm_real (fun x => refV a0 a1 (ix2 i x)) (fun x => a3 (ix2 i ⟨1024 + x.val, by omega⟩) * a2 (ix2 0 x)) (fun x => hv _) (fun x => (h3 _).mul (h2 _)) j

theorem refDy_at (a0 : FVec Ideal Cert.RefGnormIdeal.S8192x512 .f32) (a1 : FVec Ideal Cert.RefGnormIdeal.S8192x5632 .f32) (a2 : FVec Ideal Cert.RefGnormIdeal.S1x512 .f32) (a3 : FVec Ideal Cert.RefGnormIdeal.S8192x1536 .f32) (i : Fin 8192) (j : Fin 512) :
    refDy a0 a1 a2 a3 (ix2 i j) = refDv a0 a1 a2 a3 (ix2 i j) * (a1 (ix2 i ⟨3584 + j.val, by omega⟩) * Ideal.logistic (a1 (ix2 i ⟨3584 + j.val, by omega⟩))) := by
  pointwise [refDy]
  rw [refSig_at]

theorem refDz_at (a0 : FVec Ideal Cert.RefGnormIdeal.S8192x512 .f32) (a1 : FVec Ideal Cert.RefGnormIdeal.S8192x5632 .f32) (a2 : FVec Ideal Cert.RefGnormIdeal.S1x512 .f32) (a3 : FVec Ideal Cert.RefGnormIdeal.S8192x1536 .f32) (h0 : ∀ i, Cert.Ret.IsReal (a0 i)) (hv : ∀ i, Cert.Ret.IsReal (refV a0 a1 i)) (h2 : ∀ i, Cert.Ret.IsReal (a2 i)) (h3 : ∀ i, Cert.Ret.IsReal (a3 i)) (i : Fin 8192) (j : Fin 512) :
    refDz a0 a1 a2 a3 (ix2 i j) = refDv a0 a1 a2 a3 (ix2 i j) * a0 (ix2 i j) * (Ideal.logistic (a1 (ix2 i ⟨3584 + j.val, by omega⟩)) * (1 + a1 (ix2 i ⟨3584 + j.val, by omega⟩) * (1 - Ideal.logistic (a1 (ix2 i ⟨3584 + j.val, by omega⟩))))) := by
  pointwise [refDz]
  rw [refSig_at, mul_comm (refDv a0 a1 a2 a3 (ix2 i j))]
  exact (Cert.DactCall.regroup_da _ _ ((h0 _).mul (refDv_real a0 a1 a2 a3 hv h2 h3 i j))).symm

theorem pay6_at (z y : Vec Ideal S512x512 .f32) (r j : Fin 512) :
    k0_pay6 z y (ix2 r j) = y (ix2 r j) * (z (ix2 r j) * Ideal.logistic (z (ix2 r j))) := by
  pointwise [k0_pay6, k0_pay5, k0_pay4]

theorem pay1_at (z y u : Vec Ideal S512x512 .f32) (hu : k0_pay6 z y = u) (x3 : Vec Ideal S512x512 .f32) (x2 : Vec Ideal S1x512 .f32) (r j : Fin 512) :
    k0_pay1 (k0_pay7 z y) (k0_pay11 z y x3 x2) (ix2 r j) = Ideal.rsqrt (Ideal.div (∑ k, u (ix2 r k) * u (ix2 r k)) (Ideal.ofBits .f32 0x44000000#32) + Ideal.ofBits .f32 0x358637BD#32) * ((x3 (ix2 r j) * x2 (ix2 0 j)) - u (ix2 r j) * Ideal.rsqrt (Ideal.div (∑ k, u (ix2 r k) * u (ix2 r k)) (Ideal.ofBits .f32 0x44000000#32) + Ideal.ofBits .f32 0x358637BD#32) * Ideal.div (∑ x, (x3 (ix2 r x) * x2 (ix2 0 x)) * (u (ix2 r x) * Ideal.rsqrt (Ideal.div (∑ k, u (ix2 r k) * u (ix2 r k)) (Ideal.ofBits .f32 0x44000000#32) + Ideal.ofBits .f32 0x358637BD#32))) (Ideal.ofBits .f32 0x44000000#32)) := by
  subst hu
  pointwise [k0_pay1, k0_pay7, k0_pay11, k0_pay8]

theorem pay2_at (z : Vec Ideal S512x512 .f32) (v12 : FVec Ideal S512x1 .f32) (v36 : FVec Ideal S512x512 .f32) (r j : Fin 512) :
    k0_pay2 (k0_pay5 z) v12 v36 (ix2 r j) = k0_pay1 v12 v36 (ix2 r j) * (z (ix2 r j) * Ideal.logistic (z (ix2 r j))) := by
  pointwise [k0_pay2, k0_pay5, k0_pay4]

theorem pay3_at (z y : Vec Ideal S512x512 .f32) (v12 : FVec Ideal S512x1 .f32) (v36 : FVec Ideal S512x512 .f32) (r j : Fin 512) :
    k0_pay3 z y (k0_pay4 z) v12 v36 (ix2 r j)
      = k0_pay1 v12 v36 (ix2 r j) * y (ix2 r j) * (Ideal.logistic (z (ix2 r j)) * (1 + z (ix2 r j) * (1 - Ideal.logistic (z (ix2 r j))))) := by
  pointwise [k0_pay3, k0_pay4]

/-- What the precondition says of the device's arguments. -/
structure Finite (c : Dev nD) : Prop where
  h0 : ∀ i, Cert.Ret.IsReal (m ((c : Thread nD τ).loc main_arg0) i)
  h1 : ∀ i, Cert.Ret.IsReal (m ((c : Thread nD τ).loc main_arg1) i)
  h2 : ∀ i, Cert.Ret.IsReal (m ((c : Thread nD τ).loc main_arg2) i)
  h3 : ∀ i, Cert.Ret.IsReal (m ((c : Thread nD τ).loc main_arg3) i)

theorem finite (h : Cert.Pre_GnormIdeal_finite_gnorm m) (c : Dev nD) : Finite m c :=
  ⟨fun i => Cert.Ret.isReal_of_lt _ (congrFun (h c).1 i),
    fun i => Cert.Ret.isReal_of_lt _ (congrFun (h c).2.1 i),
    fun i => Cert.Ret.isReal_of_lt _ (congrFun (h c).2.2.1 i),
    fun i => Cert.Ret.isReal_of_lt _ (congrFun (h c).2.2.2 i)⟩

theorem refV_real (c : Dev nD) (h : Finite m c) (y) : Cert.Ret.IsReal (refV (m ((c : Thread nD τ).loc main_arg0)) (m ((c : Thread nD τ).loc main_arg1)) y) := by
  obtain ⟨i, j, rfl⟩ : ∃ i j, y = ix2 i j := ⟨y 0, y 1, (ix2_eta y).symm⟩
  rw [refV_at]
  exact (h.h0 _).mul ((h.h1 _).mul (sig_real _ (h.h1 _)))

/-- The gated value of one block of tokens, as the call computes it. -/
def gv (c : Dev nD) (t : Fin cfg0.N) : FVec Ideal S512x512 .f32 := k0_pay6 (iblk m c 1 t) (iblk m c 0 t)

theorem row_lt (t : Fin cfg0.N) (r : Fin 512) : t.val * 512 + r.val < 8192 := by
  have h := lt_of_lt_of_eq t.isLt N_0
  omega

theorem gv_at (c : Dev nD) (t : Fin cfg0.N) (r j : Fin 512) :
    gv m c t (ix2 r j) = refV (m ((c : Thread nD τ).loc main_arg0)) (m ((c : Thread nD τ).loc main_arg1)) (ix2 ⟨t.val * 512 + r.val, row_lt t r⟩ j) := by
  rw [refV_at]
  refine (pay6_at _ _ r j).trans ?_
  blk_point [iblk, V, idx t]

theorem dv_at (c : Dev nD) (h : Finite m c) (t : Fin cfg0.N) (r j : Fin 512) :
    k0_pay1 (k0_pay7 (iblk m c 1 t) (iblk m c 0 t)) (k0_pay11 (iblk m c 1 t) (iblk m c 0 t) (iblk m c 3 t) (iblk m c 2 t)) (ix2 r j)
      = refDv (m ((c : Thread nD τ).loc main_arg0)) (m ((c : Thread nD τ).loc main_arg1)) (m ((c : Thread nD τ).loc main_arg2)) (m ((c : Thread nD τ).loc main_arg3)) (ix2 ⟨t.val * 512 + r.val, row_lt t r⟩ j) := by
  rw [refDv_at _ _ _ _ (refV_real m c h) h.h2 h.h3]
  refine (pay1_at _ _ (gv m c t) rfl _ _ r j).trans ?_
  simp only [gv_at]
  blk_point [iblk, V, idx t]

theorem emb_4 (t : Fin cfg0.N) (r j : Fin 512) : ((cfg0.win 4).blk t).view.emb (ix2 r j) = ix2 ⟨t.val * 512 + r.val, row_lt t r⟩ j := by
  blk_point [idx t]

theorem emb_5 (t : Fin cfg0.N) (r j : Fin 512) : ((cfg0.win 5).blk t).view.emb (ix2 r j) = ix2 ⟨t.val * 512 + r.val, row_lt t r⟩ j := by
  blk_point [idx t]

theorem point_4_A (c : Dev nD) (h : Finite m c) (t : Fin cfg0.N) (h0 : t.val % 16 = 0) (y) :
    (outsAt0 m c t.val t.isLt).1 y = refDy (m ((c : Thread nD τ).loc main_arg0)) (m ((c : Thread nD τ).loc main_arg1)) (m ((c : Thread nD τ).loc main_arg2)) (m ((c : Thread nD τ).loc main_arg3)) (((cfg0.win 4).blk t).view.emb y) := by
  obtain ⟨r, j, rfl⟩ : ∃ r j, y = ix2 r j := ⟨y 0, y 1, (ix2_eta y).symm⟩
  rw [outsAt0_A m c t h0, emb_4, refDy_at]
  frame_out
  refine (pay2_at _ _ _ r j).trans ?_
  rw [dv_at m c h]
  blk_point [iblk, V, idx t]

theorem point_4_B (c : Dev nD) (h : Finite m c) (t : Fin cfg0.N) (h0 : ¬ t.val % 16 = 0) (y) :
    (outsAt0 m c t.val t.isLt).1 y = refDy (m ((c : Thread nD τ).loc main_arg0)) (m ((c : Thread nD τ).loc main_arg1)) (m ((c : Thread nD τ).loc main_arg2)) (m ((c : Thread nD τ).loc main_arg3)) (((cfg0.win 4).blk t).view.emb y) := by
  obtain ⟨r, j, rfl⟩ : ∃ r j, y = ix2 r j := ⟨y 0, y 1, (ix2_eta y).symm⟩
  rw [outsAt0_B m c t h0, emb_4, refDy_at]
  frame_out
  refine (pay2_at _ _ _ r j).trans ?_
  rw [dv_at m c h]
  blk_point [iblk, V, idx t]

theorem final_4 (c : Dev nD) (h : Finite m c) : (dats m 0 c).arrAt 4 (cfgs 0).N = refDy (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  by_cases h0 : t.val % 16 = 0
  · exact point_4_A m c h t h0 y
  · exact point_4_B m c h t h0 y

theorem point_5_A (c : Dev nD) (h : Finite m c) (t : Fin cfg0.N) (h0 : t.val % 16 = 0) (y) :
    (outsAt0 m c t.val t.isLt).2.1 y = refDz (m ((c : Thread nD τ).loc main_arg0)) (m ((c : Thread nD τ).loc main_arg1)) (m ((c : Thread nD τ).loc main_arg2)) (m ((c : Thread nD τ).loc main_arg3)) (((cfg0.win 5).blk t).view.emb y) := by
  obtain ⟨r, j, rfl⟩ : ∃ r j, y = ix2 r j := ⟨y 0, y 1, (ix2_eta y).symm⟩
  rw [outsAt0_A m c t h0, emb_5, refDz_at _ _ _ _ h.h0 (refV_real m c h) h.h2 h.h3]
  frame_out
  refine (pay3_at _ _ _ _ r j).trans ?_
  rw [dv_at m c h]
  blk_point [iblk, V, idx t]

theorem point_5_B (c : Dev nD) (h : Finite m c) (t : Fin cfg0.N) (h0 : ¬ t.val % 16 = 0) (y) :
    (outsAt0 m c t.val t.isLt).2.1 y = refDz (m ((c : Thread nD τ).loc main_arg0)) (m ((c : Thread nD τ).loc main_arg1)) (m ((c : Thread nD τ).loc main_arg2)) (m ((c : Thread nD τ).loc main_arg3)) (((cfg0.win 5).blk t).view.emb y) := by
  obtain ⟨r, j, rfl⟩ : ∃ r j, y = ix2 r j := ⟨y 0, y 1, (ix2_eta y).symm⟩
  rw [outsAt0_B m c t h0, emb_5, refDz_at _ _ _ _ h.h0 (refV_real m c h) h.h2 h.h3]
  frame_out
  refine (pay3_at _ _ _ _ r j).trans ?_
  rw [dv_at m c h]
  blk_point [iblk, V, idx t]

theorem final_5 (c : Dev nD) (h : Finite m c) : (dats m 0 c).arrAt 5 (cfgs 0).N = refDz (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  by_cases h0 : t.val % 16 = 0
  · exact point_5_A m c h t h0 y
  · exact point_5_B m c h t h0 y

/-! ## The sum over the tokens -/

/-- What one block of tokens adds to the sum. -/
def inc (u x3 : Vec Ideal S512x512 .f32) (y : S8x512.Idx) : EReal :=
  if (y 0).val = 0 then ∑ r : Fin 512, x3 (ix2 r (y 1)) * (u (ix2 r (y 1)) * Ideal.rsqrt (Ideal.div (∑ k, u (ix2 r k) * u (ix2 r k)) (Ideal.ofBits .f32 0x44000000#32) + Ideal.ofBits .f32 0x358637BD#32)) else 0

theorem pay10_at (z y u : Vec Ideal S512x512 .f32) (hu : k0_pay6 z y = u) (x3 : Vec Ideal S512x512 .f32) (v : Vec Ideal S1x512 .f32) (y' : S1x512.Idx) :
    k0_pay10 (F := Ideal) z y x3 v y' = v y' + ∑ r : Fin 512, x3 (ix2 r (y' 1)) * (u (ix2 r (y' 1)) * Ideal.rsqrt (Ideal.div (∑ k, u (ix2 r k) * u (ix2 r k)) (Ideal.ofBits .f32 0x44000000#32) + Ideal.ofBits .f32 0x358637BD#32)) := by
  subst hu
  pointwise [k0_pay10, k0_pay8, k0_pay7]

theorem refStats_0 (a0 : FVec Ideal Cert.RefGnormIdeal.S8192x512 .f32) (a1 : FVec Ideal Cert.RefGnormIdeal.S8192x5632 .f32) (a2 : FVec Ideal Cert.RefGnormIdeal.S1x512 .f32) (a3 : FVec Ideal Cert.RefGnormIdeal.S8192x1536 .f32) (j : Fin 512) :
    refStats a0 a1 a2 a3 (ix2 0 j) = ∑ r : Fin 8192, a3 (ix2 r ⟨1024 + j.val, by omega⟩) * (refV a0 a1 (ix2 r j) * Ideal.rsqrt (Ideal.div (∑ k, refV a0 a1 (ix2 r k) * refV a0 a1 (ix2 r k)) (Ideal.ofBits .f32 0x44000000#32) + Ideal.ofBits .f32 0x358637BD#32)) := by
  pointwise [refStats]
  exact Finset.sum_congr rfl fun r _ => mul_comm _ _

theorem refStats_rest (a0 : FVec Ideal Cert.RefGnormIdeal.S8192x512 .f32) (a1 : FVec Ideal Cert.RefGnormIdeal.S8192x5632 .f32) (a2 : FVec Ideal Cert.RefGnormIdeal.S1x512 .f32) (a3 : FVec Ideal Cert.RefGnormIdeal.S8192x1536 .f32) (i : Fin 8) (j : Fin 512) (h0 : ¬ i.val = 0) :
    refStats a0 a1 a2 a3 (ix2 i j) = 0 := by
  pointwise [refStats]
  rw [dif_neg (by omega)]
  exact (Cert.Ret.sit 0 (by norm_num)).trans (congrArg _ Nat.cast_zero)

theorem ld_row (p : Vec Ideal S8x512 .f32) (n : Fin 8) (inb) (y : S8x512.Idx) (h : (y 0).val = n.val) :
    View.ld p (Rect.unit (s := S8x512) ![n.val, 0] ![1, 512] inb) (ix2 0 (y 1)) = p y := by
  refine congrArg p (funext fun a => Fin.ext ?_)
  revert a
  exact Fin.forall_fin_two.mpr ⟨h.symm, (Nat.zero_add _).trans (Nat.one_mul _)⟩

theorem point_6_A (c : Dev nD) (t : Fin cfg0.N) (hA : t.val % 16 = 0) (y : S8x512.Idx) :
    (outsAt0 m c t.val t.isLt).2.2 y = 0 + inc (gv m c t) (iblk m c 3 t) y := by
  rw [outsAt0_A m c t hA]
  frame_out
  simp (disch := decide) only [↓View.readCov_skip, ↓View.readCov_fill]
  by_cases h0 : (y 0).val = 0
  · refine (Cert.Ret.canon_hit _ _ _ y (ix2 0 (y 1)) (Fin.forall_fin_two.mpr ⟨h0, (Nat.zero_add _).symm⟩)).trans ?_
    refine (pay10_at _ _ (gv m c t) rfl _ _ _).trans ?_
    unfold inc
    rw [if_pos h0]
    refine congrArg₂ (· + ·) ?_ rfl
    pointwise [View.ld, k0_pay9]
  refine (Cert.Ret.canon_miss _ _ _ y (0 : Fin 2) (Or.inr (by show 0 + 1 ≤ _; omega))).trans ?_
  refine (Cert.Ret.canon_hit _ _ _ y y (Fin.forall_fin_two.mpr ⟨(Nat.zero_add _).symm, (Nat.zero_add _).symm⟩)).trans ?_
  unfold inc
  rw [if_neg h0]
  pointwise [k0_pay9]

/-- A buffer whose first row was stored, at an element. -/
theorem read_rows {κ : Kind} {sp : Space} (v : View sig κ sp S8x512 .f32) (f : v.ty.Contents (Elt Ideal)) (i0) (w0 : S1x512.Idx → EReal) (y : S8x512.Idx) :
    v.read (Elt Ideal) (v.writes (Elt Ideal) f [⟨Rect.unit (s := S8x512) ![0, 0] ![1, 512] i0, w0⟩]) y
      = if (y 0).val = 0 then w0 (ix2 0 (y 1)) else v.read (Elt Ideal) f y := by
  by_cases h0 : (y 0).val = 0
  · rw [if_pos h0]
    exact View.read_writes_cons_rows_of_mem (o := 0) _ _ _ _ _ y (ix2 0 (y 1)) rfl h0 rfl
  rw [if_neg h0]
  refine (View.read_writes_cons_rows_of_not_mem (o := 0) (W := 1) _ _ _ _ _ y rfl rfl (by omega)).trans ?_
  rw [View.writes_nil]

theorem point_6_B (c : Dev nD) (t : Fin cfg0.N) (hB : ¬ t.val % 16 = 0) (y : S8x512.Idx) :
    (outsAt0 m c t.val t.isLt).2.2 y = (outsAt0 m c (t.val - 1) (lt_of_le_of_lt (Nat.sub_le _ _) t.isLt)).2.2 y + inc (gv m c t) (iblk m c 3 t) y := by
  rw [outsAt0_B m c t hB]
  frame_out
  generalize (outsAt0 m c (t.val - 1) _).2.2 = p
  refine (read_rows _ _ _ _ y).trans ?_
  unfold inc
  by_cases h0 : (y 0).val = 0
  · rw [if_pos h0, if_pos h0]
    exact (pay10_at _ _ (gv m c t) rfl _ _ _).trans (congrArg₂ (· + ·) (ld_row p 0 _ y h0) rfl)
  rw [if_neg h0, if_neg h0, add_zero]
  exact congrFun (Memref.IsWhole.read_unread _ p) y

theorem sum_inc (c : Dev nD) (j : S8x512.Idx) :
    ∑ p : Fin 16, inc (gv m c ⟨p.val, lt_of_lt_of_eq p.isLt N_0.symm⟩) (iblk m c 3 ⟨p.val, lt_of_lt_of_eq p.isLt N_0.symm⟩) j = refStats (m ((c : Thread nD τ).loc main_arg0)) (m ((c : Thread nD τ).loc main_arg1)) (m ((c : Thread nD τ).loc main_arg2)) (m ((c : Thread nD τ).loc main_arg3)) j := by
  obtain ⟨i, q, rfl⟩ : ∃ i q, j = ix2 i q := ⟨j 0, j 1, (ix2_eta j).symm⟩
  unfold inc
  by_cases h0 : i = 0
  · subst h0
    rw [refStats_0]
    refine Eq.trans (Finset.sum_congr rfl fun p _ => if_pos rfl) ?_
    refine Fin.sum_mul_add_congr fun s k hl => ?_
    refine congrArg₂ (fun a b : EReal => a * b) ?_ (congrArg₂ (fun a b : EReal => a * b) (gv_at m c ⟨s.val, lt_of_lt_of_eq s.isLt N_0.symm⟩ k q)
      (congrArg (fun x : EReal => Ideal.rsqrt (Ideal.div x _ + _)) (Finset.sum_congr rfl fun x _ => congrArg₂ (fun a b : EReal => a * b) (gv_at m c ⟨s.val, lt_of_lt_of_eq s.isLt N_0.symm⟩ k x) (gv_at m c ⟨s.val, lt_of_lt_of_eq s.isLt N_0.symm⟩ k x))))
    blk_point [iblk, V, idx ⟨s.val, lt_of_lt_of_eq s.isLt N_0.symm⟩]
  have g0 : ¬ i.val = 0 := fun h => h0 (Fin.ext h)
  rw [refStats_rest _ _ _ _ i q g0]
  exact Finset.sum_eq_zero fun p _ => if_neg g0

theorem final_6 (c : Dev nD) : (dats m 0 c).arrAt 6 (cfgs 0).N = refStats (m ((c : Thread nD τ).loc main_arg0)) (m ((c : Thread nD τ).loc main_arg1)) (m ((c : Thread nD τ).loc main_arg2)) (m ((c : Thread nD τ).loc main_arg3)) := by
  refine (dats m 0 c).arrAt_eq_of_after_last 6 t0_15 (by decide +kernel) _ fun j => ?_
  blk_simp
  rw [after0_6, Pipeline.eq_sum_fin_of_reset_step_apply_last (fun n h => (outsAt0 m c n h).2.2) 16 (fun _ => 0) _
    (fun t h j => point_6_A m c t h j) (fun t h j => point_6_B m c t h j) (le_of_eq N_0) t0_15 rfl j, zero_add]
  exact sum_inc m c j

/-- The call computes what the reference computes. -/
theorem algebraic : Cert.algebraic_GnormIdeal_RefGnormIdeal_pre_finite_gnorm := by
  intro m g m' g' hpre hagree
  refine ⟨fun c => refDy (m ((c : Thread nD τ).loc main_arg0)) (m ((c : Thread nD τ).loc main_arg1)) (m ((c : Thread nD τ).loc main_arg2)) (m ((c : Thread nD τ).loc main_arg3)), fun c => refDz (m ((c : Thread nD τ).loc main_arg0)) (m ((c : Thread nD τ).loc main_arg1)) (m ((c : Thread nD τ).loc main_arg2)) (m ((c : Thread nD τ).loc main_arg3)), fun c => refStats (m ((c : Thread nD τ).loc main_arg0)) (m ((c : Thread nD τ).loc main_arg1)) (m ((c : Thread nD τ).loc main_arg2)) (m ((c : Thread nD τ).loc main_arg3)), ?_, ?_⟩
  · refine (θ_run _ _ _).mono (fun r h c => ?_) (Cert.GnormIdeal.Value.run_blocks m g)
    exact ⟨(h c).1.trans (final_4 m c (finite m hpre c)), (h c).2.1.trans (final_5 m c (finite m hpre c)), (h c).2.2.1.trans (final_6 m c), (h c).2.2.2⟩
  · refine (θ_run _ _ _).mono (fun r h c => ?_) (Cert.RefGnormIdeal.Value.run m' g')
    obtain ⟨e0, e1, e2, e3⟩ := hagree c
    refine ⟨(h c).1.trans ?_, (h c).2.1.trans ?_, (h c).2.2.1.trans ?_, (h c).2.2.2⟩
    · have k := congr (congr (congr (congrArg refDy e0) e1) e2) e3
      exact k
    · have k := congr (congr (congr (congrArg refDz e0) e1) e2) e3
      exact k
    · have k := congr (congr (congr (congrArg refStats e0) e1) e2) e3
      exact k

end Cert.GnormCall

end
-- ==== Proof.ConvValue.lean ====
module

public import proofs.«01_k».proof.Defs
public import proofs.«01_k».proof.Proof.Gen.ConvIdeal.Value
public import proofs.«01_k».proof.Proof.Gen.RefConvIdeal.Run
public import Idealize.ShloMosaic.Lib.Pipeline.ValueKit
public import Idealize.ShloMosaic.Lib.Pointwise
public import Idealize.ShloMosaic.Lib.Pipeline.ReadBack
public import Idealize.ShloMosaic.Lib.Claim
public import proofs.«01_k».proof.Proof.Stores
public import proofs.«01_k».proof.Proof.Finite
public import proofs.«01_k».proof.Proof.DactValue
public import proofs.«01_k».proof.Proof.Gen.Pre_finite_conv

@[expose] public section

set_option maxRecDepth 16384

noncomputable section

/-! The backward pass of the state-space branch's causal convolution and its activation: the gradient of the convolution's
    input, and the sums over the tokens that make the gradients of the taps and of the bias. -/

namespace Cert.ConvCall

open Idealize.ShloMosaic Idealize.ShloMosaic.TcCoe Idealize.SL.Sem

section Reference

open Cert.RefConvIdeal Cert.RefConvIdeal.Gen

/-- The gradient at the convolution's output. -/
def refDpre (a1 : FVec Ideal S8192x1024 .f32) (a2 : FVec Ideal S8192x1024 .f32) : FVec Ideal S8192x1024 .f32 :=
  (addf (mulf a2 (Host.divf (broadcastInDim S8192x1024 ![] bcast_S_S8192x1024 (constant S_ .f32 0x3F800000#32)) (addf (broadcastInDim S8192x1024 ![] bcast_S_S8192x1024 (constant S_ .f32 0x3F800000#32)) (Host.exp (Host.negf a1))))) (mulf (mulf a1 a2) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf a1)))) (subf (broadcastInDim S8192x1024 ![] bcast_S_S8192x1024 (constant S_ .f32 0x3F800000#32)) (Host.divf (broadcastInDim S8192x1024 ![] bcast_S_S8192x1024 (constant S_ .f32 0x3F800000#32)) (addf (broadcastInDim S8192x1024 ![] bcast_S_S8192x1024 (constant S_ .f32 0x3F800000#32)) (Host.exp (Host.negf a1))))))))

def refDx (a0 : FVec Ideal S8192x5632 .f32) (a1 : FVec Ideal S8192x1024 .f32) (a2 : FVec Ideal S8192x1024 .f32) (a3 : FVec Ideal S4x1024 .f32) : FVec Ideal S8192x1024 .bf16 :=
  truncf .bf16 (addf (addf (addf (mulf (broadcastInDim S8192x1024 ![0, 1] bcast_S1x1024_S8192x1024_0_1 (extractStridedSlice S1x1024 ![3, 0] a3 slices_S4x1024_S1x1024_3_0)) (refDpre a1 a2)) (pad S8192x1024 ![0, 0] ![1, 0] ![0, 0] (extractStridedSlice S8191x1024 ![1, 0] (mulf (broadcastInDim S8192x1024 ![0, 1] bcast_S1x1024_S8192x1024_0_1 (extractStridedSlice S1x1024 ![2, 0] a3 slices_S4x1024_S1x1024_2_0)) (refDpre a1 a2)) slices_S8192x1024_S8191x1024_1_0) (constant S_ .f32 0x00000000#32) pads_S8191x1024_S8192x1024_010_000 h_S_)) (pad S8192x1024 ![0, 0] ![2, 0] ![0, 0] (extractStridedSlice S8190x1024 ![2, 0] (mulf (broadcastInDim S8192x1024 ![0, 1] bcast_S1x1024_S8192x1024_0_1 (extractStridedSlice S1x1024 ![1, 0] a3 slices_S4x1024_S1x1024_1_0)) (refDpre a1 a2)) slices_S8192x1024_S8190x1024_2_0) (constant S_ .f32 0x00000000#32) pads_S8190x1024_S8192x1024_020_000 h_S_)) (pad S8192x1024 ![0, 0] ![3, 0] ![0, 0] (extractStridedSlice S8189x1024 ![3, 0] (mulf (broadcastInDim S8192x1024 ![0, 1] bcast_S1x1024_S8192x1024_0_1 (extractStridedSlice S1x1024 ![0, 0] a3 slices_S4x1024_S1x1024_0_0)) (refDpre a1 a2)) slices_S8192x1024_S8189x1024_3_0) (constant S_ .f32 0x00000000#32) pads_S8189x1024_S8192x1024_030_000 h_S_)) bitsLt_bf16_f32

def refStats (a0 : FVec Ideal S8192x5632 .f32) (a1 : FVec Ideal S8192x1024 .f32) (a2 : FVec Ideal S8192x1024 .f32) (a3 : FVec Ideal S4x1024 .f32) : FVec Ideal S8x1024 .f32 :=
  (concatenate S8x1024 0 [⟨S4x1024, ((addf (addf (addf (pad S4x1024 ![3, 0] ![0, 0] ![0, 0] (shapeCast _ (Host.reduceAdd (mulf (refDpre a1 a2) (extractStridedSlice S8192x1024 ![0, 4096] a0 slices_S8192x5632_S8192x1024_0_4096)) (constant S_ .f32 0x00000000#32) reducesTo_S8192x1024_S1024_d0 h_S_) shapeCasts_S1024_S1x1024) (constant S_ .f32 0x00000000#32) pads_S1x1024_S4x1024_300_000 h_S_) (pad S4x1024 ![2, 0] ![1, 0] ![0, 0] (shapeCast _ (Host.reduceAdd (mulf (refDpre a1 a2) (concatenate S8192x1024 0 [⟨S1x1024, (broadcastInDim S1x1024 ![] bcast_S_S1x1024 (constant S_ .f32 0x00000000#32))⟩, ⟨S8191x1024, (extractStridedSlice S8191x1024 ![0, 0] (extractStridedSlice S8192x1024 ![0, 4096] a0 slices_S8192x5632_S8192x1024_0_4096) slices_S8192x1024_S8191x1024_0_0)⟩] concatenates_S1x1024_S8191x1024_S8192x1024_d0)) (constant S_ .f32 0x00000000#32) reducesTo_S8192x1024_S1024_d0 h_S_) shapeCasts_S1024_S1x1024) (constant S_ .f32 0x00000000#32) pads_S1x1024_S4x1024_210_000 h_S_)) (pad S4x1024 ![1, 0] ![2, 0] ![0, 0] (shapeCast _ (Host.reduceAdd (mulf (refDpre a1 a2) (concatenate S8192x1024 0 [⟨S2x1024, (broadcastInDim S2x1024 ![] bcast_S_S2x1024 (constant S_ .f32 0x00000000#32))⟩, ⟨S8190x1024, (extractStridedSlice S8190x1024 ![0, 0] (extractStridedSlice S8192x1024 ![0, 4096] a0 slices_S8192x5632_S8192x1024_0_4096) slices_S8192x1024_S8190x1024_0_0)⟩] concatenates_S2x1024_S8190x1024_S8192x1024_d0)) (constant S_ .f32 0x00000000#32) reducesTo_S8192x1024_S1024_d0 h_S_) shapeCasts_S1024_S1x1024) (constant S_ .f32 0x00000000#32) pads_S1x1024_S4x1024_120_000 h_S_)) (pad S4x1024 ![0, 0] ![3, 0] ![0, 0] (shapeCast _ (Host.reduceAdd (mulf (refDpre a1 a2) (concatenate S8192x1024 0 [⟨S3x1024, (broadcastInDim S3x1024 ![] bcast_S_S3x1024 (constant S_ .f32 0x00000000#32))⟩, ⟨S8189x1024, (extractStridedSlice S8189x1024 ![0, 0] (extractStridedSlice S8192x1024 ![0, 4096] a0 slices_S8192x5632_S8192x1024_0_4096) slices_S8192x1024_S8189x1024_0_0)⟩] concatenates_S3x1024_S8189x1024_S8192x1024_d0)) (constant S_ .f32 0x00000000#32) reducesTo_S8192x1024_S1024_d0 h_S_) shapeCasts_S1024_S1x1024) (constant S_ .f32 0x00000000#32) pads_S1x1024_S4x1024_030_000 h_S_)) : FVec Ideal S4x1024 .f32)⟩, ⟨S1x1024, ((shapeCast _ (Host.reduceAdd (refDpre a1 a2) (constant S_ .f32 0x00000000#32) reducesTo_S8192x1024_S1024_d0 h_S_) shapeCasts_S1024_S1x1024) : FVec Ideal S1x1024 .f32)⟩, ⟨S3x1024, ((broadcastInDim S3x1024 ![] bcast_S_S3x1024 (constant S_ .f32 0x00000000#32)) : FVec Ideal S3x1024 .f32)⟩] concatenates_S4x1024_S1x1024_S3x1024_S8x1024_d0 : FVec Ideal S8x1024 .f32)

end Reference

open Cert.ConvIdeal Cert.ConvIdeal.Gen

variable (m : (ℓ : Loc nD τ sig) → Buf (Elt Ideal) ℓ)

/-- The block index of every window at every point. -/
theorem idx : ∀ t : Fin cfg0.N, win0_0.index t = ![0, 32 + t.val]
    ∧ win0_1.index t = ![0, t.val]
    ∧ win0_2.index t = ![0, t.val]
    ∧ win0_3.index t = ![0, t.val]
    ∧ win0_4.index t = ![0, t.val]
    ∧ win0_5.index t = ![0, t.val] :=
  (by decide +kernel : ∀ t : Fin grid0.N, _)

theorem refDpre_at (a1 a2 : FVec Ideal Cert.RefConvIdeal.S8192x1024 .f32) (h2 : ∀ i, Cert.Ret.IsReal (a2 i)) (i : Fin 8192) (j : Fin 1024) :
    refDpre a1 a2 (ix2 i j) = a2 (ix2 i j) * (Ideal.logistic (a1 (ix2 i j)) * (1 + a1 (ix2 i j) * (1 - Ideal.logistic (a1 (ix2 i j))))) := by
  pointwise [refDpre]
  exact (Cert.DactCall.regroup_da _ _ (h2 _)).symm

theorem pay4_at (p d : Vec Ideal S8192x128 .f32) (i : Fin 8192) (j : Fin 128) :
    k0_pay4 p d (ix2 i j) = d (ix2 i j) * (Ideal.logistic (p (ix2 i j)) * (1 + p (ix2 i j) * (1 - Ideal.logistic (p (ix2 i j))))) := by
  pointwise [k0_pay4]

/-- What a row takes from the row `d` places on, nothing where there is none. -/
def later (K d : ℕ) (hK : d + K = 8192) (f : Fin 8192 → EReal) (i : Fin 8192) : EReal :=
  if h : i.val < K then f ⟨d + i.val, by omega⟩ else 0

/-- A sum over the rows from the `d`-th on, each with the row `d` places before it. -/
def shifted (K d : ℕ) (hK : d + K = 8192) (f g : Fin 8192 → EReal) : EReal :=
  ∑ x : Fin d, f ⟨x.val, by omega⟩ * 0 + ∑ x : Fin K, f ⟨d + x.val, by omega⟩ * g ⟨x.val, by omega⟩

theorem later_rot (K d : ℕ) (hd : 0 < d) (hK : d + K = 8192) (f : Fin 8192 → EReal) (i : Fin 8192) (hm : (i.val + 8192 - K) % 8192 < 8192) :
    Scalar.select (IntOp.cmpi .slt (BitVec.ofNat 32 i.val) (BitVec.ofNat 32 K)) (f ⟨(i.val + 8192 - K) % 8192, hm⟩) 0 = later K d hK f i := by
  rw [WordCmp.cmpi_slt_ofNat (by omega) (by omega), Cert.Ret.select_dec]
  unfold later
  by_cases h : i.val < K
  · rw [if_pos h, dif_pos h]
    exact congrArg f (Fin.ext (by show (i.val + 8192 - K) % 8192 = d + i.val; omega))
  · rw [if_neg h, dif_neg h]

theorem shifted_rot (K d : ℕ) (hd : d < 8192) (hK : d + K = 8192) (f g : Fin 8192 → EReal) (hm : ∀ x : Fin 8192, (x.val + 8192 - d) % 8192 < 8192) :
    ∑ x : Fin 8192, Scalar.select (IntOp.cmpi .sge (BitVec.ofNat 32 x.val) (BitVec.ofNat 32 d)) (f x * g ⟨(x.val + 8192 - d) % 8192, hm x⟩) 0 = shifted K d hK f g := by
  rw [← (finCongr hK).sum_comp, Fin.sum_univ_add]
  unfold shifted
  refine congrArg₂ (· + ·) (Finset.sum_congr rfl fun x _ => ?_) (Finset.sum_congr rfl fun x _ => ?_)
  · have hx : ((finCongr hK) (Fin.castAdd K x)).val = x.val := rfl
    rw [WordCmp.cmpi_sge_ofNat (by omega) (by omega), Cert.Ret.select_dec, if_neg (by omega), mul_zero]
  · have hx : ((finCongr hK) (Fin.natAdd d x)).val = d + x.val := rfl
    rw [WordCmp.cmpi_sge_ofNat (by omega) (by omega), Cert.Ret.select_dec, if_pos (by omega)]
    refine congrArg₂ (fun a b : EReal => a * b) (congrArg f (Fin.ext hx)) (congrArg g (Fin.ext ?_))
    show (((finCongr hK) (Fin.natAdd d x)).val + 8192 - d) % 8192 = x.val
    omega

theorem later_congr (K d : ℕ) (hK : d + K = 8192) (f g : Fin 8192 → EReal) (h : ∀ r, f r = g r) (i : Fin 8192) : later K d hK f i = later K d hK g i := by
  rw [funext h]

theorem shifted_congr (K d : ℕ) (hK : d + K = 8192) (f g f' g' : Fin 8192 → EReal) (h : ∀ r, f r = f' r) (h' : ∀ r, g r = g' r) :
    shifted K d hK f g = shifted K d hK f' g' := by
  rw [funext h, funext h']

theorem refDx_at (a0 : FVec Ideal Cert.RefConvIdeal.S8192x5632 .f32) (a1 a2 : FVec Ideal Cert.RefConvIdeal.S8192x1024 .f32) (a3 : FVec Ideal Cert.RefConvIdeal.S4x1024 .f32) (i : Fin 8192) (j : Fin 1024) :
    refDx a0 a1 a2 a3 (ix2 i j) = a3 (ix2 3 j) * refDpre a1 a2 (ix2 i j) + later 8191 1 rfl (fun r => a3 (ix2 2 j) * refDpre a1 a2 (ix2 r j)) i
      + later 8190 2 rfl (fun r => a3 (ix2 1 j) * refDpre a1 a2 (ix2 r j)) i + later 8189 3 rfl (fun r => a3 (ix2 0 j) * refDpre a1 a2 (ix2 r j)) i := by
  pointwise [refDx]
  rfl

theorem refStats_0 (a0 : FVec Ideal Cert.RefConvIdeal.S8192x5632 .f32) (a1 a2 : FVec Ideal Cert.RefConvIdeal.S8192x1024 .f32) (a3 : FVec Ideal Cert.RefConvIdeal.S4x1024 .f32) (j : Fin 1024) :
    refStats a0 a1 a2 a3 (ix2 0 j) = shifted 8189 3 rfl (fun r => refDpre a1 a2 (ix2 r j)) (fun r => a0 (ix2 r ⟨4096 + j.val, by omega⟩)) := by
  pointwise [refStats]
  rfl

theorem refStats_1 (a0 : FVec Ideal Cert.RefConvIdeal.S8192x5632 .f32) (a1 a2 : FVec Ideal Cert.RefConvIdeal.S8192x1024 .f32) (a3 : FVec Ideal Cert.RefConvIdeal.S4x1024 .f32) (j : Fin 1024) :
    refStats a0 a1 a2 a3 (ix2 1 j) = shifted 8190 2 rfl (fun r => refDpre a1 a2 (ix2 r j)) (fun r => a0 (ix2 r ⟨4096 + j.val, by omega⟩)) := by
  pointwise [refStats]
  rfl

theorem refStats_2 (a0 : FVec Ideal Cert.RefConvIdeal.S8192x5632 .f32) (a1 a2 : FVec Ideal Cert.RefConvIdeal.S8192x1024 .f32) (a3 : FVec Ideal Cert.RefConvIdeal.S4x1024 .f32) (j : Fin 1024) :
    refStats a0 a1 a2 a3 (ix2 2 j) = shifted 8191 1 rfl (fun r => refDpre a1 a2 (ix2 r j)) (fun r => a0 (ix2 r ⟨4096 + j.val, by omega⟩)) := by
  pointwise [refStats]
  rfl

theorem refStats_3 (a0 : FVec Ideal Cert.RefConvIdeal.S8192x5632 .f32) (a1 a2 : FVec Ideal Cert.RefConvIdeal.S8192x1024 .f32) (a3 : FVec Ideal Cert.RefConvIdeal.S4x1024 .f32) (j : Fin 1024) :
    refStats a0 a1 a2 a3 (ix2 3 j) = ∑ r : Fin 8192, refDpre a1 a2 (ix2 r j) * a0 (ix2 r ⟨4096 + j.val, by omega⟩) := by
  pointwise [refStats]

theorem refStats_4 (a0 : FVec Ideal Cert.RefConvIdeal.S8192x5632 .f32) (a1 a2 : FVec Ideal Cert.RefConvIdeal.S8192x1024 .f32) (a3 : FVec Ideal Cert.RefConvIdeal.S4x1024 .f32) (j : Fin 1024) :
    refStats a0 a1 a2 a3 (ix2 4 j) = ∑ r : Fin 8192, refDpre a1 a2 (ix2 r j) := by
  pointwise [refStats]

theorem refStats_rest (a0 : FVec Ideal Cert.RefConvIdeal.S8192x5632 .f32) (a1 a2 : FVec Ideal Cert.RefConvIdeal.S8192x1024 .f32) (a3 : FVec Ideal Cert.RefConvIdeal.S4x1024 .f32) (i : Fin 8) (j : Fin 1024) (hi : 5 ≤ i.val) :
    refStats a0 a1 a2 a3 (ix2 i j) = 0 := by
  obtain rfl | rfl | rfl : i = 5 ∨ i = 6 ∨ i = 7 := by omega
  · pointwise [refStats]
  · pointwise [refStats]
  · pointwise [refStats]

set_option maxRecDepth 200000 in
theorem out_at (p d : Vec Ideal S8192x128 .f32) (w3 w2 w1 w0 : Vec Ideal S1x128 .f32) (u : FVec Ideal S8192x128 .f32) (hu : k0_pay4 p d = u) (i : Fin 8192) (j : Fin 128) :
    k0_pay3 (k0_pay9 (iota .tc S8192x128 32 [0] iota_S8192x128_d0_w32) (k0_pay4 p d) (k0_pay6 p d w3 w2) w1 w0) (ix2 i j)
      = w3 (ix2 0 j) * u (ix2 i j) + later 8191 1 rfl (fun r => w2 (ix2 0 j) * u (ix2 r j)) i
      + later 8190 2 rfl (fun r => w1 (ix2 0 j) * u (ix2 r j)) i + later 8189 3 rfl (fun r => w0 (ix2 0 j) * u (ix2 r j)) i := by
  subst hu
  pointwise [k0_pay3, k0_pay9, k0_pay6]
  exact congrArg₂ (fun a b : EReal => a + b) (congrArg₂ (fun a b : EReal => a + b) (congrArg₂ (fun a b : EReal => a + b) rfl
      (later_rot 8191 1 (by norm_num) rfl (fun r => w2 (ix2 0 j) * k0_pay4 p d (ix2 r j)) i _))
    (later_rot 8190 2 (by norm_num) rfl (fun r => w1 (ix2 0 j) * k0_pay4 p d (ix2 r j)) i _))
    (later_rot 8189 3 (by norm_num) rfl (fun r => w0 (ix2 0 j) * k0_pay4 p d (ix2 r j)) i _)

theorem pay10_at (x u : Vec Ideal S8192x128 .f32) (j : Fin 128) :
    k0_pay10 x (iota .tc S8192x128 32 [0] iota_S8192x128_d0_w32) u (ix2 0 j) = shifted 8189 3 rfl (fun r => u (ix2 r j)) (fun r => x (ix2 r j)) := by
  pointwise [k0_pay10]
  exact shifted_rot 8189 3 (by norm_num) rfl (fun r => u (ix2 r j)) (fun r => x (ix2 r j)) _

theorem pay8_at (x u : Vec Ideal S8192x128 .f32) (j : Fin 128) :
    k0_pay8 x (iota .tc S8192x128 32 [0] iota_S8192x128_d0_w32) u (ix2 0 j) = shifted 8190 2 rfl (fun r => u (ix2 r j)) (fun r => x (ix2 r j)) := by
  pointwise [k0_pay8]
  exact shifted_rot 8190 2 (by norm_num) rfl (fun r => u (ix2 r j)) (fun r => x (ix2 r j)) _

theorem pay7_at (x p d : Vec Ideal S8192x128 .f32) (u : FVec Ideal S8192x128 .f32) (hu : k0_pay4 p d = u) (j : Fin 128) :
    k0_pay7 x p d (ix2 0 j) = shifted 8191 1 rfl (fun r => u (ix2 r j)) (fun r => x (ix2 r j)) := by
  subst hu
  pointwise [k0_pay7]
  exact shifted_rot 8191 1 (by norm_num) rfl (fun r => k0_pay4 p d (ix2 r j)) (fun r => x (ix2 r j)) _

theorem pay5_at (x p d : Vec Ideal S8192x128 .f32) (u : FVec Ideal S8192x128 .f32) (hu : k0_pay4 p d = u) (j : Fin 128) :
    k0_pay5 x p d (ix2 0 j) = ∑ r : Fin 8192, u (ix2 r j) * x (ix2 r j) := by
  subst hu
  pointwise [k0_pay5]

theorem pay1_at (u : FVec Ideal S8192x128 .f32) (j : Fin 128) : k0_pay1 u (ix2 0 j) = ∑ r : Fin 8192, u (ix2 r j) := by
  pointwise [k0_pay1]

theorem col_lt (t : Fin cfg0.N) (q : Fin 128) : t.val * 128 + q.val < 1024 := by
  have h := lt_of_lt_of_eq t.isLt N_0
  omega

theorem emb_4 (t : Fin cfg0.N) (i : Fin 8192) (q : Fin 128) : ((cfg0.win 4).blk t).view.emb (ix2 i q) = ix2 i ⟨t.val * 128 + q.val, col_lt t q⟩ := by
  blk_point [idx t]

theorem emb_5 (t : Fin cfg0.N) (i : Fin 8) (q : Fin 128) : ((cfg0.win 5).blk t).view.emb (ix2 i q) = ix2 i ⟨t.val * 128 + q.val, col_lt t q⟩ := by
  blk_point [idx t]

/-- What the precondition says of the device's arguments. -/
def Finite (c : Dev nD) : Prop := ∀ i, Cert.Ret.IsReal ((m ((c : Thread nD τ).loc main_arg2)) i)

theorem finite (h : Cert.Pre_ConvIdeal_finite_conv m) (c : Dev nD) : Finite m c :=
  fun i => Cert.Ret.isReal_of_lt _ (congrFun (h c) i)

/-- The gradient at the convolution's output, in one block of channels, as the call computes it. -/
def dp (c : Dev nD) (t : Fin cfg0.N) : FVec Ideal S8192x128 .f32 := k0_pay4 (iblk m c 1 t) (iblk m c 2 t)

theorem dp_at (c : Dev nD) (h : Finite m c) (t : Fin cfg0.N) (i : Fin 8192) (q : Fin 128) :
    dp m c t (ix2 i q) = refDpre (m ((c : Thread nD τ).loc main_arg1)) (m ((c : Thread nD τ).loc main_arg2)) (ix2 i ⟨t.val * 128 + q.val, col_lt t q⟩) := by
  rw [refDpre_at _ _ h]
  refine (pay4_at _ _ i q).trans ?_
  blk_point [iblk, V, idx t]

theorem x_at (c : Dev nD) (t : Fin cfg0.N) (i : Fin 8192) (q : Fin 128) :
    (iblk m c 0 t : Vec Ideal S8192x128 .f32) (ix2 i q) = (m ((c : Thread nD τ).loc main_arg0)) (ix2 i ⟨4096 + (⟨t.val * 128 + q.val, col_lt t q⟩ : Fin 1024).val, by have := col_lt t q; show 4096 + (t.val * 128 + q.val) < 5632; omega⟩) := by
  blk_point [iblk, V, idx t]

theorem tap_at (c : Dev nD) (t : Fin cfg0.N) (n : Fin 4) (inb : ∀ a, (![n.val, 0] : Fin 2 → ℕ) a + (![1, 128] : Fin 2 → ℕ) a ≤ S4x128.size a) (q : Fin 128) (v : EReal)
    (hv : (m ((c : Thread nD τ).loc main_arg3)) (ix2 n ⟨t.val * 128 + q.val, col_lt t q⟩) = v) :
    View.ld (iblk m c 3 t) (Rect.unit (s := S4x128) ![n.val, 0] ![1, 128] inb) (ix2 0 q) = v := by
  subst hv
  have e : (Rect.unit (s := S4x128) ![n.val, 0] ![1, 128] inb).emb (ix2 0 q) = ix2 n q :=
    funext fun a => Fin.ext (by
      match a with
      | 0 => exact (show n.val + 1 * 0 = n.val by omega)
      | 1 => exact (show 0 + 1 * q.val = q.val by omega))
  refine Eq.trans (congrArg (iblk m c 3 t : Vec Ideal S4x128 .f32) e) ?_
  blk_point [iblk, V, idx t]

theorem point_4 (c : Dev nD) (h : Finite m c) (t : Fin cfg0.N) (y) :
    (outsAt0 m c t).1 y = refDx (m ((c : Thread nD τ).loc main_arg0)) (m ((c : Thread nD τ).loc main_arg1)) (m ((c : Thread nD τ).loc main_arg2)) (m ((c : Thread nD τ).loc main_arg3)) (((cfg0.win 4).blk t).view.emb y) := by
  obtain ⟨i, q, rfl⟩ : ∃ i q, y = ix2 i q := ⟨y 0, y 1, (ix2_eta y).symm⟩
  rw [emb_4, refDx_at]
  unfold outsAt0
  frame_out
  refine (out_at _ _ _ _ _ _ (dp m c t) rfl i q).trans ?_
  refine congrArg₂ (fun a b : EReal => a + b) (congrArg₂ (fun a b : EReal => a + b) (congrArg₂ (fun a b : EReal => a + b)
      (congrArg₂ (fun a b : EReal => a * b) ?_ (dp_at m c h t i q))
      (later_congr _ _ _ _ _ (fun r => congrArg₂ (fun a b : EReal => a * b) ?_ (dp_at m c h t r q)) i))
    (later_congr _ _ _ _ _ (fun r => congrArg₂ (fun a b : EReal => a * b) ?_ (dp_at m c h t r q)) i))
    (later_congr _ _ _ _ _ (fun r => congrArg₂ (fun a b : EReal => a * b) ?_ (dp_at m c h t r q)) i)
  · exact tap_at m c t 3 _ q _ rfl
  · exact tap_at m c t 2 _ q _ rfl
  · exact tap_at m c t 1 _ q _ rfl
  · exact tap_at m c t 0 _ q _ rfl

theorem point_5 (c : Dev nD) (h : Finite m c) (t : Fin cfg0.N) (y) :
    (outsAt0 m c t).2 y = refStats (m ((c : Thread nD τ).loc main_arg0)) (m ((c : Thread nD τ).loc main_arg1)) (m ((c : Thread nD τ).loc main_arg2)) (m ((c : Thread nD τ).loc main_arg3)) (((cfg0.win 5).blk t).view.emb y) := by
  obtain ⟨i, q, rfl⟩ : ∃ i q, y = ix2 i q := ⟨y 0, y 1, (ix2_eta y).symm⟩
  rw [emb_5]
  unfold outsAt0
  frame_out
  by_cases h5 : 5 ≤ i.val
  · rw [refStats_rest _ _ _ _ _ _ h5]
    refine (Cert.Ret.canon_hit _ _ _ (ix2 i q) (ix2 ⟨i.val - 5, by omega⟩ q) (Fin.forall_fin_two.mpr ⟨by show i.val = 5 + (i.val - 5); omega, (Nat.zero_add _).symm⟩)).trans ?_
    pointwise [k0_pay2]
  obtain rfl | rfl | rfl | rfl | rfl : i = 0 ∨ i = 1 ∨ i = 2 ∨ i = 3 ∨ i = 4 := by omega
  · rw [refStats_0]
    refine (Cert.Ret.canon_miss _ _ _ _ (0 : Fin 2) (Or.inl (by show 0 < 5; norm_num))).trans ?_
    refine (Cert.Ret.canon_miss _ _ _ _ (0 : Fin 2) (Or.inl (by show 0 < 4; norm_num))).trans ?_
    refine (Cert.Ret.canon_hit _ _ _ _ (ix2 0 q) (Fin.forall_fin_two.mpr ⟨by show 0 = 0 + 0; rfl, (Nat.zero_add _).symm⟩)).trans ?_
    exact (pay10_at _ _ q).trans (shifted_congr _ _ _ _ _ _ _ (fun r => dp_at m c h t r q) fun r => x_at m c t r q)
  · rw [refStats_1]
    refine (Cert.Ret.canon_miss _ _ _ _ (0 : Fin 2) (Or.inl (by show 1 < 5; norm_num))).trans ?_
    refine (Cert.Ret.canon_miss _ _ _ _ (0 : Fin 2) (Or.inl (by show 1 < 4; norm_num))).trans ?_
    refine (Cert.Ret.canon_miss _ _ _ _ (0 : Fin 2) (Or.inr (by show 0 + 1 ≤ 1; norm_num))).trans ?_
    refine (Cert.Ret.canon_hit _ _ _ _ (ix2 0 q) (Fin.forall_fin_two.mpr ⟨by show 1 = 1 + 0; rfl, (Nat.zero_add _).symm⟩)).trans ?_
    exact (pay8_at _ _ q).trans (shifted_congr _ _ _ _ _ _ _ (fun r => dp_at m c h t r q) fun r => x_at m c t r q)
  · rw [refStats_2]
    refine (Cert.Ret.canon_miss _ _ _ _ (0 : Fin 2) (Or.inl (by show 2 < 5; norm_num))).trans ?_
    refine (Cert.Ret.canon_miss _ _ _ _ (0 : Fin 2) (Or.inl (by show 2 < 4; norm_num))).trans ?_
    refine (Cert.Ret.canon_miss _ _ _ _ (0 : Fin 2) (Or.inr (by show 0 + 1 ≤ 2; norm_num))).trans ?_
    refine (Cert.Ret.canon_miss _ _ _ _ (0 : Fin 2) (Or.inr (by show 1 + 1 ≤ 2; norm_num))).trans ?_
    refine (Cert.Ret.canon_hit _ _ _ _ (ix2 0 q) (Fin.forall_fin_two.mpr ⟨by show 2 = 2 + 0; rfl, (Nat.zero_add _).symm⟩)).trans ?_
    exact (pay7_at _ _ _ _ rfl q).trans (shifted_congr _ _ _ _ _ _ _ (fun r => dp_at m c h t r q) fun r => x_at m c t r q)
  · rw [refStats_3]
    refine (Cert.Ret.canon_miss _ _ _ _ (0 : Fin 2) (Or.inl (by show 3 < 5; norm_num))).trans ?_
    refine (Cert.Ret.canon_miss _ _ _ _ (0 : Fin 2) (Or.inl (by show 3 < 4; norm_num))).trans ?_
    refine (Cert.Ret.canon_miss _ _ _ _ (0 : Fin 2) (Or.inr (by show 0 + 1 ≤ 3; norm_num))).trans ?_
    refine (Cert.Ret.canon_miss _ _ _ _ (0 : Fin 2) (Or.inr (by show 1 + 1 ≤ 3; norm_num))).trans ?_
    refine (Cert.Ret.canon_miss _ _ _ _ (0 : Fin 2) (Or.inr (by show 2 + 1 ≤ 3; norm_num))).trans ?_
    refine (Cert.Ret.canon_hit _ _ _ _ (ix2 0 q) (Fin.forall_fin_two.mpr ⟨by show 3 = 3 + 0; rfl, (Nat.zero_add _).symm⟩)).trans ?_
    exact (pay5_at _ _ _ _ rfl q).trans (Finset.sum_congr rfl fun r _ => congrArg₂ (fun a b : EReal => a * b) (dp_at m c h t r q) (x_at m c t r q))
  · rw [refStats_4]
    refine (Cert.Ret.canon_miss _ _ _ _ (0 : Fin 2) (Or.inl (by show 4 < 5; norm_num))).trans ?_
    refine (Cert.Ret.canon_hit _ _ _ _ (ix2 0 q) (Fin.forall_fin_two.mpr ⟨by show 4 = 4 + 0; rfl, (Nat.zero_add _).symm⟩)).trans ?_
    exact (pay1_at _ q).trans (Finset.sum_congr rfl fun r _ => dp_at m c h t r q)

theorem final_4 (c : Dev nD) (h : Finite m c) : (dats m 0 c).arrAt 4 (cfgs 0).N = refDx (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  exact point_4 m c h t y

theorem final_5 (c : Dev nD) (h : Finite m c) : (dats m 0 c).arrAt 5 (cfgs 0).N = refStats (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  exact point_5 m c h t y

/-- The call computes what the reference computes. -/
theorem algebraic : Cert.algebraic_ConvIdeal_RefConvIdeal_pre_finite_conv := by
  intro m g m' g' hpre hagree
  refine ⟨fun c => refDx (m ((c : Thread nD τ).loc main_arg0)) (m ((c : Thread nD τ).loc main_arg1)) (m ((c : Thread nD τ).loc main_arg2)) (m ((c : Thread nD τ).loc main_arg3)), fun c => refStats (m ((c : Thread nD τ).loc main_arg0)) (m ((c : Thread nD τ).loc main_arg1)) (m ((c : Thread nD τ).loc main_arg2)) (m ((c : Thread nD τ).loc main_arg3)), ?_, ?_⟩
  · refine (θ_run _ _ _).mono (fun r h c => ?_) (Cert.ConvIdeal.Value.run_blocks m g)
    exact ⟨(h c).1.trans (final_4 m c (finite m hpre c)), (h c).2.1.trans (final_5 m c (finite m hpre c)), (h c).2.2⟩
  · refine (θ_run _ _ _).mono (fun r h c => ?_) (Cert.RefConvIdeal.Value.run m' g')
    obtain ⟨e0, e1, e2, e3⟩ := hagree c
    refine ⟨(h c).1.trans ?_, (h c).2.1.trans ?_, (h c).2.2⟩
    · have k := congr (congr (congr (congrArg refDx e0) e1) e2) e3
      exact k
    · have k := congr (congr (congr (congrArg refStats e0) e1) e2) e3
      exact k

end Cert.ConvCall

end
-- ==== Proof.ProjValue.lean ====
module

public import proofs.«01_k».proof.Defs
public import proofs.«01_k».proof.Proof.Gen.ProjIdeal.Value
public import proofs.«01_k».proof.Proof.Gen.RefProjIdeal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

/-! The mixer's projection into its branches. -/

namespace Cert.ProjCall

open Idealize.ShloMosaic Idealize.ShloMosaic.TcCoe Idealize.SL.Sem

section Reference

open Cert.RefProjIdeal Cert.RefProjIdeal.Gen

def refW (a0 : FVec Ideal S8192x1024 .bf16) (a1 : FVec Ideal S5632x1024 .bf16) : FVec Ideal S8192x5632 .f32 :=
  Host.dotGeneral dot_S8192x1024_S1024x5632_S8192x5632_1_0_0_1_n_n none (extf .f32 a0 bitsLt_bf16_f32) (transpose S1024x5632 [1, 0] (extf .f32 a1 bitsLt_bf16_f32) transposes_S5632x1024_S1024x5632_1_0)

end Reference

open Cert.ProjIdeal Cert.ProjIdeal.Gen

variable (m : (ℓ : Loc nD τ sig) → Buf (Elt Ideal) ℓ)

/-- The block index of every window at every point. -/
theorem idx : ∀ t : Fin cfg0.N, win0_0.index t = ![t.val / 11, 0]
    ∧ win0_1.index t = ![t.val % 11, 0]
    ∧ win0_2.index t = ![t.val / 11, t.val % 11] :=
  (by decide +kernel : ∀ t : Fin grid0.N, _)

theorem final (c : Dev nD) : (dats m 0 c).arrAt 2 (cfgs 0).N = refW (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, k0_pay2, k0_pay3, refW]
  blk_point [iblk, V, idx t]

/-- The call computes what the reference computes. -/
theorem algebraic : Cert.algebraic_ProjIdeal_RefProjIdeal := by
  intro m g m' g' _ hagree
  refine ⟨fun c => refW (m ((c : Thread nD τ).loc main_arg0)) (m ((c : Thread nD τ).loc main_arg1)), ?_, ?_⟩
  · refine (θ_run _ _ _).mono (fun r h c => ?_) (Cert.ProjIdeal.Value.run_blocks m g)
    exact ⟨(h c).1.trans (final m c), (h c).2⟩
  · refine (θ_run _ _ _).mono (fun r h c => ?_) (Cert.RefProjIdeal.Value.run m' g')
    obtain ⟨e0, e1⟩ := hagree c
    refine ⟨(h c).1.trans ?_, (h c).2⟩
    · have k := congr (congrArg refW e0) e1
      exact k

end Cert.ProjCall

end
-- ==== Proof.DycatValue.lean ====
module

public import proofs.«01_k».proof.Defs
public import proofs.«01_k».proof.Proof.Gen.DycatIdeal.Value
public import proofs.«01_k».proof.Proof.Gen.RefDycatIdeal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

/-! The gradient of the joined branches: the product with the output weight. -/

namespace Cert.DycatCall

open Idealize.ShloMosaic Idealize.ShloMosaic.TcCoe Idealize.SL.Sem

section Reference

open Cert.RefDycatIdeal Cert.RefDycatIdeal.Gen

def refW (a0 : FVec Ideal S8192x1024 .bf16) (a1 : FVec Ideal S1536x1024 .bf16) : FVec Ideal S8192x1536 .f32 :=
  Host.dotGeneral dot_S8192x1024_S1536x1024_S8192x1536_1_1_0_0_n_n none (extf .f32 a0 bitsLt_bf16_f32) (extf .f32 a1 bitsLt_bf16_f32)

end Reference

open Cert.DycatIdeal Cert.DycatIdeal.Gen

variable (m : (ℓ : Loc nD τ sig) → Buf (Elt Ideal) ℓ)

/-- The block index of every window at every point. -/
theorem idx : ∀ t : Fin cfg0.N, win0_0.index t = ![t.val / 3, 0]
    ∧ win0_1.index t = ![t.val % 3, 0]
    ∧ win0_2.index t = ![t.val / 3, t.val % 3] :=
  (by decide +kernel : ∀ t : Fin grid0.N, _)

theorem final (c : Dev nD) : (dats m 0 c).arrAt 2 (cfgs 0).N = refW (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, k0_pay2, k0_pay3, refW]
  blk_point [iblk, V, idx t]

/-- The call computes what the reference computes. -/
theorem algebraic : Cert.algebraic_DycatIdeal_RefDycatIdeal := by
  intro m g m' g' _ hagree
  refine ⟨fun c => refW (m ((c : Thread nD τ).loc main_arg0)) (m ((c : Thread nD τ).loc main_arg1)), ?_, ?_⟩
  · refine (θ_run _ _ _).mono (fun r h c => ?_) (Cert.DycatIdeal.Value.run_blocks m g)
    exact ⟨(h c).1.trans (final m c), (h c).2⟩
  · refine (θ_run _ _ _).mono (fun r h c => ?_) (Cert.RefDycatIdeal.Value.run m' g')
    obtain ⟨e0, e1⟩ := hagree c
    refine ⟨(h c).1.trans ?_, (h c).2⟩
    · have k := congr (congrArg refW e0) e1
      exact k

end Cert.DycatCall

end
-- ==== Proof.MoutValue.lean ====
module

public import proofs.«01_k».proof.Defs
public import proofs.«01_k».proof.Proof.Gen.MoutIdeal.Value
public import proofs.«01_k».proof.Proof.Gen.RefMoutIdeal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

/-! The mixer's output: the product of the joined branches, gated and added to the stream. -/

namespace Cert.MoutCall

open Idealize.ShloMosaic Idealize.ShloMosaic.TcCoe Idealize.SL.Sem

section Reference

open Cert.RefMoutIdeal Cert.RefMoutIdeal.Gen

def refH (a0 : FVec Ideal S8192x1536 .bf16) (a1 : FVec Ideal S1536x1024 .bf16) (a2 : FVec Ideal S8192x1024 .f32) (a3 : FVec Ideal S1x1024 .f32) : FVec Ideal S8192x1024 .f32 :=
  addf a2 (mulf (broadcastInDim S8192x1024 ![0, 1] bcast_S1x1024_S8192x1024_0_1 (addf (broadcastInDim S1x1024 ![] bcast_S_S1x1024 (constant S_ .f32 0x3F800000#32)) a3)) (Host.dotGeneral dot_S8192x1536_S1536x1024_S8192x1024_1_0_0_1_n_n none (extf .f32 a0 bitsLt_bf16_f32) (extf .f32 a1 bitsLt_bf16_f32)))

def refO (a0 : FVec Ideal S8192x1536 .bf16) (a1 : FVec Ideal S1536x1024 .bf16) (a2 : FVec Ideal S8192x1024 .f32) (a3 : FVec Ideal S1x1024 .f32) : FVec Ideal S8192x1024 .f32 :=
  Host.dotGeneral dot_S8192x1536_S1536x1024_S8192x1024_1_0_0_1_n_n none (extf .f32 a0 bitsLt_bf16_f32) (extf .f32 a1 bitsLt_bf16_f32)

end Reference

open Cert.MoutIdeal Cert.MoutIdeal.Gen

variable (m : (ℓ : Loc nD τ sig) → Buf (Elt Ideal) ℓ)

/-- The block index of every window at every point. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0] :=
  (by decide +kernel : ∀ t : Fin grid0.N, _)

theorem point_4 (c : Dev nD) (t : Fin cfg0.N) (y) :
    out0_4 (iblk m c 0 t) (iblk m c 1 t) (iblk m c 2 t) (iblk m c 3 t) y = refH (m ((c : Thread nD τ).loc main_arg0)) (m ((c : Thread nD τ).loc main_arg1)) (m ((c : Thread nD τ).loc main_arg2)) (m ((c : Thread nD τ).loc main_arg3)) (((cfg0.win 4).blk t).view.emb y) := by
  frame_out
  pointwise [k0_pay2, k0_pay1, refH]
  blk_point [iblk, V, idx t]

theorem final_4 (c : Dev nD) : (dats m 0 c).arrAt 4 (cfgs 0).N = refH (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  exact point_4 m c t y

theorem point_5 (c : Dev nD) (t : Fin cfg0.N) (y) :
    out0_5 (iblk m c 0 t) (iblk m c 1 t) (iblk m c 2 t) (iblk m c 3 t) y = refO (m ((c : Thread nD τ).loc main_arg0)) (m ((c : Thread nD τ).loc main_arg1)) (m ((c : Thread nD τ).loc main_arg2)) (m ((c : Thread nD τ).loc main_arg3)) (((cfg0.win 5).blk t).view.emb y) := by
  frame_out
  pointwise [k0_pay1, refO]
  blk_point [iblk, V, idx t]

theorem final_5 (c : Dev nD) : (dats m 0 c).arrAt 5 (cfgs 0).N = refO (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  exact point_5 m c t y

/-- The call computes what the reference computes. -/
theorem algebraic : Cert.algebraic_MoutIdeal_RefMoutIdeal := by
  intro m g m' g' _ hagree
  refine ⟨fun c => refH (m ((c : Thread nD τ).loc main_arg0)) (m ((c : Thread nD τ).loc main_arg1)) (m ((c : Thread nD τ).loc main_arg2)) (m ((c : Thread nD τ).loc main_arg3)), fun c => refO (m ((c : Thread nD τ).loc main_arg0)) (m ((c : Thread nD τ).loc main_arg1)) (m ((c : Thread nD τ).loc main_arg2)) (m ((c : Thread nD τ).loc main_arg3)), ?_, ?_⟩
  · refine (θ_run _ _ _).mono (fun r h c => ?_) (Cert.MoutIdeal.Value.run_blocks m g)
    exact ⟨(h c).1.trans (final_4 m c), (h c).2.1.trans (final_5 m c), (h c).2.2⟩
  · refine (θ_run _ _ _).mono (fun r h c => ?_) (Cert.RefMoutIdeal.Value.run m' g')
    obtain ⟨e0, e1, e2, e3⟩ := hagree c
    refine ⟨(h c).1.trans ?_, (h c).2.1.trans ?_, (h c).2.2⟩
    · have k := congr (congr (congr (congrArg refH e0) e1) e2) e3
      exact k
    · have k := congr (congr (congr (congrArg refO e0) e1) e2) e3
      exact k

end Cert.MoutCall

end
-- ==== Proof.DwoutValue.lean ====
module

public import proofs.«01_k».proof.Defs
public import proofs.«01_k».proof.Proof.Gen.DwoutIdeal.Value
public import proofs.«01_k».proof.Proof.Gen.RefDwoutIdeal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

/-! A weight gradient of the mixer: the product of the layer's input and the output gradient, summed over the tokens. -/

namespace Cert.DwoutCall

open Idealize.ShloMosaic Idealize.ShloMosaic.TcCoe Idealize.SL.Sem

section Reference

open Cert.RefDwoutIdeal Cert.RefDwoutIdeal.Gen

def refW (a0 : FVec Ideal S8192x1536 .bf16) (a1 : FVec Ideal S8192x1024 .bf16) : FVec Ideal S1536x1024 .bf16 :=
  truncf .bf16 (transpose S1536x1024 [1, 0] (Host.dotGeneral dot_S8192x1024_S8192x1536_S1024x1536_0_0_1_1_n_n none (extf .f32 a1 bitsLt_bf16_f32) (extf .f32 a0 bitsLt_bf16_f32)) transposes_S1024x1536_S1536x1024_1_0) bitsLt_bf16_f32

end Reference

open Cert.DwoutIdeal Cert.DwoutIdeal.Gen

variable (m : (ℓ : Loc nD τ sig) → Buf (Elt Ideal) ℓ)

/-- The block index of every window at every point. -/
theorem idx : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- One step's product. -/
theorem pay1_at (x0 : Vec Ideal S2048x1536 .bf16) (x1 : Vec Ideal S2048x1024 .bf16) (j : S1536x1024.Idx) :
    k0_pay1 (F := Ideal) x0 x1 j = ∑ k : Fin 2048, x0 (ix2 k (j 0)) * x1 (ix2 k (j 1)) := by
  pointwise [k0_pay1]

theorem pay2_at (x0 : Vec Ideal S2048x1536 .bf16) (x1 : Vec Ideal S2048x1024 .bf16) (j : S1536x1024.Idx) :
    k0_pay2 (F := Ideal) x0 x1 j = 0 + ∑ k : Fin 2048, x0 (ix2 k (j 0)) * x1 (ix2 k (j 1)) := by
  pointwise [k0_pay2, k0_pay1]

theorem pay3_at (x0 : Vec Ideal S2048x1536 .bf16) (x1 : Vec Ideal S2048x1024 .bf16) (a : Vec Ideal S1536x1024 .f32) (j : S1536x1024.Idx) :
    k0_pay3 (F := Ideal) x0 x1 a j = a j + ∑ k : Fin 2048, x0 (ix2 k (j 0)) * x1 (ix2 k (j 1)) := by
  pointwise [k0_pay3, k0_pay1]

/-- The reference contracts all the rows at once. -/
theorem ref_at (a0 : FVec Ideal Cert.RefDwoutIdeal.S8192x1536 .bf16) (a1 : FVec Ideal Cert.RefDwoutIdeal.S8192x1024 .bf16) (j : Cert.RefDwoutIdeal.S1536x1024.Idx) :
    refW a0 a1 j = ∑ k : Fin 8192, a0 (ix2 k (j 0)) * a1 (ix2 k (j 1)) := by
  pointwise [refW]
  exact Finset.sum_congr rfl fun k _ => mul_comm _ _

/-- What the last point of a run stores is what it leaves in the scratch. -/
theorem stored (c : Dev nD) (t : Fin cfg0.N) (h3 : t.val % 4 = 3) (y : S1536x1024.Idx) :
    (outsAt0 m c t.val t.isLt).1 y = (outsAt0 m c t.val t.isLt).2 y := by
  rw [outsAt0_C m c t (by omega) (by omega) h3]
  frame_out
  pointwise [k0_pay4]

theorem final (c : Dev nD) : (dats m 0 c).arrAt 2 (cfgs 0).N = refW (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, stored m c t h3, Pipeline.eq_sum_fin_of_reset_step_apply_of_flush (fun n h => (outsAt0 m c n h).2) 4 (fun _ => 0) _
    (fun t h j => by have ht := lt_of_lt_of_eq t.isLt N_0; rw [outsAt0_A m c t h (by omega) (by omega)]; frame_out; rw [pay2_at])
    (fun t h j => by
      by_cases h3 : t.val % 4 = 3
      · rw [outsAt0_C m c t h (by omega) h3]; frame_out; simp only [read_unread_whole]; rw [pay3_at]
      · rw [outsAt0_B m c t h (by omega) h3]; frame_out; simp only [read_unread_whole]; rw [pay3_at])
    t h3 _, zero_add, ref_at]
  refine Fin.sum_mul_add_congr fun s k hl => ?_
  blk_point [iblk, V, idx ⟨_, Pipeline.run_point_lt_of_flush t h3 s⟩, idx t]

/-- The call computes what the reference computes. -/
theorem algebraic : Cert.algebraic_DwoutIdeal_RefDwoutIdeal := by
  intro m g m' g' _ hagree
  refine ⟨fun c => refW (m ((c : Thread nD τ).loc main_arg0)) (m ((c : Thread nD τ).loc main_arg1)), ?_, ?_⟩
  · refine (θ_run _ _ _).mono (fun r h c => ?_) (Cert.DwoutIdeal.Value.run_blocks m g)
    exact ⟨(h c).1.trans (final m c), (h c).2⟩
  · refine (θ_run _ _ _).mono (fun r h c => ?_) (Cert.RefDwoutIdeal.Value.run m' g')
    obtain ⟨e0, e1⟩ := hagree c
    refine ⟨(h c).1.trans ?_, (h c).2⟩
    · have k := congr (congrArg refW e0) e1
      exact k

end Cert.DwoutCall

end
-- ==== Proof.DwretValue.lean ====
module

public import proofs.«01_k».proof.Defs
public import proofs.«01_k».proof.Proof.Gen.DwretIdeal.Value
public import proofs.«01_k».proof.Proof.Gen.RefDwretIdeal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

/-! A weight gradient of the mixer: the product of the layer's input and the output gradient, summed over the tokens. -/

namespace Cert.DwretCall

open Idealize.ShloMosaic Idealize.ShloMosaic.TcCoe Idealize.SL.Sem

section Reference

open Cert.RefDwretIdeal Cert.RefDwretIdeal.Gen

def refW (a0 : FVec Ideal S8192x2048 .bf16) (a1 : FVec Ideal S8192x1024 .bf16) : FVec Ideal S2048x1024 .bf16 :=
  truncf .bf16 (transpose S2048x1024 [1, 0] (transpose S1024x2048 [1, 0] (Host.dotGeneral dot_S8192x2048_S8192x1024_S2048x1024_0_0_1_1_n_n none (extf .f32 a0 bitsLt_bf16_f32) (extf .f32 a1 bitsLt_bf16_f32)) transposes_S2048x1024_S1024x2048_1_0) transposes_S1024x2048_S2048x1024_1_0) bitsLt_bf16_f32

end Reference

open Cert.DwretIdeal Cert.DwretIdeal.Gen

variable (m : (ℓ : Loc nD τ sig) → Buf (Elt Ideal) ℓ)

/-- The block index of every window at every point. -/
theorem idx : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- One step's product. -/
theorem pay1_at (x0 : Vec Ideal S2048x1024 .bf16) (x1 : Vec Ideal S2048x1024 .bf16) (j : S1024x1024.Idx) :
    k0_pay1 (F := Ideal) x0 x1 j = ∑ k : Fin 2048, x0 (ix2 k (j 0)) * x1 (ix2 k (j 1)) := by
  pointwise [k0_pay1]

theorem pay2_at (x0 : Vec Ideal S2048x1024 .bf16) (x1 : Vec Ideal S2048x1024 .bf16) (j : S1024x1024.Idx) :
    k0_pay2 (F := Ideal) x0 x1 j = 0 + ∑ k : Fin 2048, x0 (ix2 k (j 0)) * x1 (ix2 k (j 1)) := by
  pointwise [k0_pay2, k0_pay1]

theorem pay3_at (x0 : Vec Ideal S2048x1024 .bf16) (x1 : Vec Ideal S2048x1024 .bf16) (a : Vec Ideal S1024x1024 .f32) (j : S1024x1024.Idx) :
    k0_pay3 (F := Ideal) x0 x1 a j = a j + ∑ k : Fin 2048, x0 (ix2 k (j 0)) * x1 (ix2 k (j 1)) := by
  pointwise [k0_pay3, k0_pay1]

/-- The reference contracts all the rows at once. -/
theorem ref_at (a0 : FVec Ideal Cert.RefDwretIdeal.S8192x2048 .bf16) (a1 : FVec Ideal Cert.RefDwretIdeal.S8192x1024 .bf16) (j : Cert.RefDwretIdeal.S2048x1024.Idx) :
    refW a0 a1 j = ∑ k : Fin 8192, a0 (ix2 k (j 0)) * a1 (ix2 k (j 1)) := by
  pointwise [refW]

/-- What the last point of a run stores is what it leaves in the scratch. -/
theorem stored (c : Dev nD) (t : Fin cfg0.N) (h3 : t.val % 4 = 3) (y : S1024x1024.Idx) :
    (outsAt0 m c t.val t.isLt).1 y = (outsAt0 m c t.val t.isLt).2 y := by
  rw [outsAt0_C m c t (by omega) (by omega) h3]
  frame_out
  pointwise [k0_pay4]

theorem final (c : Dev nD) : (dats m 0 c).arrAt 2 (cfgs 0).N = refW (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, stored m c t h3, Pipeline.eq_sum_fin_of_reset_step_apply_of_flush (fun n h => (outsAt0 m c n h).2) 4 (fun _ => 0) _
    (fun t h j => by rw [outsAt0_A m c t h (by omega) (by omega)]; frame_out; rw [pay2_at])
    (fun t h j => by
      by_cases h3 : t.val % 4 = 3
      · rw [outsAt0_C m c t h (by omega) h3]; frame_out; simp only [read_unread_whole]; rw [pay3_at]
      · rw [outsAt0_B m c t h (by omega) h3]; frame_out; simp only [read_unread_whole]; rw [pay3_at])
    t h3 _, zero_add, ref_at]
  refine Fin.sum_mul_add_congr fun s k hl => ?_
  blk_point [iblk, V, idx ⟨_, Pipeline.run_point_lt_of_flush t h3 s⟩, idx t]

/-- The call computes what the reference computes. -/
theorem algebraic : Cert.algebraic_DwretIdeal_RefDwretIdeal := by
  intro m g m' g' _ hagree
  refine ⟨fun c => refW (m ((c : Thread nD τ).loc main_arg0)) (m ((c : Thread nD τ).loc main_arg1)), ?_, ?_⟩
  · refine (θ_run _ _ _).mono (fun r h c => ?_) (Cert.DwretIdeal.Value.run_blocks m g)
    exact ⟨(h c).1.trans (final m c), (h c).2⟩
  · refine (θ_run _ _ _).mono (fun r h c => ?_) (Cert.RefDwretIdeal.Value.run m' g')
    obtain ⟨e0, e1⟩ := hagree c
    refine ⟨(h c).1.trans ?_, (h c).2⟩
    · have k := congr (congrArg refW e0) e1
      exact k

end Cert.DwretCall

end
-- ==== Proof.DwxbcValue.lean ====
module

public import proofs.«01_k».proof.Defs
public import proofs.«01_k».proof.Proof.Gen.DwxbcIdeal.Value
public import proofs.«01_k».proof.Proof.Gen.RefDwxbcIdeal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

/-! A weight gradient of the mixer: the product of the layer's input and the output gradient, summed over the tokens. -/

namespace Cert.DwxbcCall

open Idealize.ShloMosaic Idealize.ShloMosaic.TcCoe Idealize.SL.Sem

section Reference

open Cert.RefDwxbcIdeal Cert.RefDwxbcIdeal.Gen

def refW (a0 : FVec Ideal S8192x1024 .bf16) (a1 : FVec Ideal S8192x1024 .bf16) : FVec Ideal S1024x1024 .bf16 :=
  truncf .bf16 (transpose S1024x1024 [1, 0] (transpose S1024x1024 [1, 0] (Host.dotGeneral dot_S8192x1024_S8192x1024_S1024x1024_0_0_1_1_n_n none (extf .f32 a0 bitsLt_bf16_f32) (extf .f32 a1 bitsLt_bf16_f32)) transposes_S1024x1024_S1024x1024_1_0) transposes_S1024x1024_S1024x1024_1_0) bitsLt_bf16_f32

end Reference

open Cert.DwxbcIdeal Cert.DwxbcIdeal.Gen

variable (m : (ℓ : Loc nD τ sig) → Buf (Elt Ideal) ℓ)

/-- The block index of every window at every point. -/
theorem idx : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- One step's product. -/
theorem pay1_at (x0 : Vec Ideal S2048x1024 .bf16) (x1 : Vec Ideal S2048x1024 .bf16) (j : S1024x1024.Idx) :
    k0_pay1 (F := Ideal) x0 x1 j = ∑ k : Fin 2048, x0 (ix2 k (j 0)) * x1 (ix2 k (j 1)) := by
  pointwise [k0_pay1]

theorem pay2_at (x0 : Vec Ideal S2048x1024 .bf16) (x1 : Vec Ideal S2048x1024 .bf16) (j : S1024x1024.Idx) :
    k0_pay2 (F := Ideal) x0 x1 j = 0 + ∑ k : Fin 2048, x0 (ix2 k (j 0)) * x1 (ix2 k (j 1)) := by
  pointwise [k0_pay2, k0_pay1]

theorem pay3_at (x0 : Vec Ideal S2048x1024 .bf16) (x1 : Vec Ideal S2048x1024 .bf16) (a : Vec Ideal S1024x1024 .f32) (j : S1024x1024.Idx) :
    k0_pay3 (F := Ideal) x0 x1 a j = a j + ∑ k : Fin 2048, x0 (ix2 k (j 0)) * x1 (ix2 k (j 1)) := by
  pointwise [k0_pay3, k0_pay1]

/-- The reference contracts all the rows at once. -/
theorem ref_at (a0 : FVec Ideal Cert.RefDwxbcIdeal.S8192x1024 .bf16) (a1 : FVec Ideal Cert.RefDwxbcIdeal.S8192x1024 .bf16) (j : Cert.RefDwxbcIdeal.S1024x1024.Idx) :
    refW a0 a1 j = ∑ k : Fin 8192, a0 (ix2 k (j 0)) * a1 (ix2 k (j 1)) := by
  pointwise [refW]

/-- What the last point of a run stores is what it leaves in the scratch. -/
theorem stored (c : Dev nD) (t : Fin cfg0.N) (h3 : t.val % 4 = 3) (y : S1024x1024.Idx) :
    (outsAt0 m c t.val t.isLt).1 y = (outsAt0 m c t.val t.isLt).2 y := by
  rw [outsAt0_C m c t (by omega) (by omega) h3]
  frame_out
  pointwise [k0_pay4]

theorem final (c : Dev nD) : (dats m 0 c).arrAt 2 (cfgs 0).N = refW (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, stored m c t h3, Pipeline.eq_sum_fin_of_reset_step_apply_of_flush (fun n h => (outsAt0 m c n h).2) 4 (fun _ => 0) _
    (fun t h j => by have ht := lt_of_lt_of_eq t.isLt N_0; rw [outsAt0_A m c t h (by omega) (by omega)]; frame_out; rw [pay2_at])
    (fun t h j => by
      by_cases h3 : t.val % 4 = 3
      · rw [outsAt0_C m c t h (by omega) h3]; frame_out; simp only [read_unread_whole]; rw [pay3_at]
      · rw [outsAt0_B m c t h (by omega) h3]; frame_out; simp only [read_unread_whole]; rw [pay3_at])
    t h3 _, zero_add, ref_at]
  refine Fin.sum_mul_add_congr fun s k hl => ?_
  blk_point [iblk, V, idx ⟨_, Pipeline.run_point_lt_of_flush t h3 s⟩, idx t]

/-- The call computes what the reference computes. -/
theorem algebraic : Cert.algebraic_DwxbcIdeal_RefDwxbcIdeal := by
  intro m g m' g' _ hagree
  refine ⟨fun c => refW (m ((c : Thread nD τ).loc main_arg0)) (m ((c : Thread nD τ).loc main_arg1)), ?_, ?_⟩
  · refine (θ_run _ _ _).mono (fun r h c => ?_) (Cert.DwxbcIdeal.Value.run_blocks m g)
    exact ⟨(h c).1.trans (final m c), (h c).2⟩
  · refine (θ_run _ _ _).mono (fun r h c => ?_) (Cert.RefDwxbcIdeal.Value.run m' g')
    obtain ⟨e0, e1⟩ := hagree c
    refine ⟨(h c).1.trans ?_, (h c).2⟩
    · have k := congr (congrArg refW e0) e1
      exact k

end Cert.DwxbcCall

end
-- ==== Proof.DwbValue.lean ====
module

public import proofs.«01_k».proof.Defs
public import proofs.«01_k».proof.Proof.Gen.DwbIdeal.Value
public import proofs.«01_k».proof.Proof.Gen.RefDwbIdeal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

/-! A weight gradient of the mixer: the product of the layer's input and the output gradient, summed over the tokens. -/

namespace Cert.DwbCall

open Idealize.ShloMosaic Idealize.ShloMosaic.TcCoe Idealize.SL.Sem

section Reference

open Cert.RefDwbIdeal Cert.RefDwbIdeal.Gen

def refW (a0 : FVec Ideal S8192x512 .bf16) (a1 : FVec Ideal S8192x1024 .bf16) : FVec Ideal S512x1024 .bf16 :=
  truncf .bf16 (transpose S512x1024 [1, 0] (transpose S1024x512 [1, 0] (Host.dotGeneral dot_S8192x512_S8192x1024_S512x1024_0_0_1_1_n_n none (extf .f32 a0 bitsLt_bf16_f32) (extf .f32 a1 bitsLt_bf16_f32)) transposes_S512x1024_S1024x512_1_0) transposes_S1024x512_S512x1024_1_0) bitsLt_bf16_f32

end Reference

open Cert.DwbIdeal Cert.DwbIdeal.Gen

variable (m : (ℓ : Loc nD τ sig) → Buf (Elt Ideal) ℓ)

/-- The block index of every window at every point. -/
theorem idx : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- One step's product. -/
theorem pay1_at (x0 : Vec Ideal S2048x512 .bf16) (x1 : Vec Ideal S2048x1024 .bf16) (j : S512x1024.Idx) :
    k0_pay1 (F := Ideal) x0 x1 j = ∑ k : Fin 2048, x0 (ix2 k (j 0)) * x1 (ix2 k (j 1)) := by
  pointwise [k0_pay1]

theorem pay2_at (x0 : Vec Ideal S2048x512 .bf16) (x1 : Vec Ideal S2048x1024 .bf16) (j : S512x1024.Idx) :
    k0_pay2 (F := Ideal) x0 x1 j = 0 + ∑ k : Fin 2048, x0 (ix2 k (j 0)) * x1 (ix2 k (j 1)) := by
  pointwise [k0_pay2, k0_pay1]

theorem pay3_at (x0 : Vec Ideal S2048x512 .bf16) (x1 : Vec Ideal S2048x1024 .bf16) (a : Vec Ideal S512x1024 .f32) (j : S512x1024.Idx) :
    k0_pay3 (F := Ideal) x0 x1 a j = a j + ∑ k : Fin 2048, x0 (ix2 k (j 0)) * x1 (ix2 k (j 1)) := by
  pointwise [k0_pay3, k0_pay1]

/-- The reference contracts all the rows at once. -/
theorem ref_at (a0 : FVec Ideal Cert.RefDwbIdeal.S8192x512 .bf16) (a1 : FVec Ideal Cert.RefDwbIdeal.S8192x1024 .bf16) (j : Cert.RefDwbIdeal.S512x1024.Idx) :
    refW a0 a1 j = ∑ k : Fin 8192, a0 (ix2 k (j 0)) * a1 (ix2 k (j 1)) := by
  pointwise [refW]

/-- What the last point of a run stores is what it leaves in the scratch. -/
theorem stored (c : Dev nD) (t : Fin cfg0.N) (h3 : t.val % 4 = 3) (y : S512x1024.Idx) :
    (outsAt0 m c t.val t.isLt).1 y = (outsAt0 m c t.val t.isLt).2 y := by
  rw [outsAt0_C m c t (by omega) (by omega) h3]
  frame_out
  pointwise [k0_pay4]

theorem final (c : Dev nD) : (dats m 0 c).arrAt 2 (cfgs 0).N = refW (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, stored m c t h3, Pipeline.eq_sum_fin_of_reset_step_apply_of_flush (fun n h => (outsAt0 m c n h).2) 4 (fun _ => 0) _
    (fun t h j => by have ht := lt_of_lt_of_eq t.isLt N_0; rw [outsAt0_A m c t h (by omega) (by omega)]; frame_out; rw [pay2_at])
    (fun t h j => by
      by_cases h3 : t.val % 4 = 3
      · rw [outsAt0_C m c t h (by omega) h3]; frame_out; simp only [read_unread_whole]; rw [pay3_at]
      · rw [outsAt0_B m c t h (by omega) h3]; frame_out; simp only [read_unread_whole]; rw [pay3_at])
    t h3 _, zero_add, ref_at]
  refine Fin.sum_mul_add_congr fun s k hl => ?_
  blk_point [iblk, V, idx ⟨_, Pipeline.run_point_lt_of_flush t h3 s⟩, idx t]

/-- The call computes what the reference computes. -/
theorem algebraic : Cert.algebraic_DwbIdeal_RefDwbIdeal := by
  intro m g m' g' _ hagree
  refine ⟨fun c => refW (m ((c : Thread nD τ).loc main_arg0)) (m ((c : Thread nD τ).loc main_arg1)), ?_, ?_⟩
  · refine (θ_run _ _ _).mono (fun r h c => ?_) (Cert.DwbIdeal.Value.run_blocks m g)
    exact ⟨(h c).1.trans (final m c), (h c).2⟩
  · refine (θ_run _ _ _).mono (fun r h c => ?_) (Cert.RefDwbIdeal.Value.run m' g')
    obtain ⟨e0, e1⟩ := hagree c
    refine ⟨(h c).1.trans ?_, (h c).2⟩
    · have k := congr (congrArg refW e0) e1
      exact k

end Cert.DwbCall

end
-- ==== Proof.DwfValue.lean ====
module

public import proofs.«01_k».proof.Defs
public import proofs.«01_k».proof.Proof.Gen.DwfIdeal.Value
public import proofs.«01_k».proof.Proof.Gen.RefDwfIdeal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

/-! A weight gradient of the mixer: the product of the layer's input and the output gradient, summed over the tokens. -/

namespace Cert.DwfCall

open Idealize.ShloMosaic Idealize.ShloMosaic.TcCoe Idealize.SL.Sem

section Reference

open Cert.RefDwfIdeal Cert.RefDwfIdeal.Gen

def refW (a0 : FVec Ideal S8192x512 .f32) (a1 : FVec Ideal S8192x1024 .bf16) : FVec Ideal S512x1024 .bf16 :=
  truncf .bf16 (transpose S512x1024 [1, 0] (transpose S1024x512 [1, 0] (Host.dotGeneral dot_S8192x512_S8192x1024_S512x1024_0_0_1_1_n_n none a0 (extf .f32 a1 bitsLt_bf16_f32)) transposes_S512x1024_S1024x512_1_0) transposes_S1024x512_S512x1024_1_0) bitsLt_bf16_f32

end Reference

open Cert.DwfIdeal Cert.DwfIdeal.Gen

variable (m : (ℓ : Loc nD τ sig) → Buf (Elt Ideal) ℓ)

/-- The block index of every window at every point. -/
theorem idx : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- One step's product. -/
theorem pay1_at (x0 : Vec Ideal S2048x512 .f32) (x1 : Vec Ideal S2048x1024 .bf16) (j : S512x1024.Idx) :
    k0_pay1 (F := Ideal) x0 x1 j = ∑ k : Fin 2048, x0 (ix2 k (j 0)) * x1 (ix2 k (j 1)) := by
  pointwise [k0_pay1]

theorem pay2_at (x0 : Vec Ideal S2048x512 .f32) (x1 : Vec Ideal S2048x1024 .bf16) (j : S512x1024.Idx) :
    k0_pay2 (F := Ideal) x0 x1 j = 0 + ∑ k : Fin 2048, x0 (ix2 k (j 0)) * x1 (ix2 k (j 1)) := by
  pointwise [k0_pay2, k0_pay1]

theorem pay3_at (x0 : Vec Ideal S2048x512 .f32) (x1 : Vec Ideal S2048x1024 .bf16) (a : Vec Ideal S512x1024 .f32) (j : S512x1024.Idx) :
    k0_pay3 (F := Ideal) x0 x1 a j = a j + ∑ k : Fin 2048, x0 (ix2 k (j 0)) * x1 (ix2 k (j 1)) := by
  pointwise [k0_pay3, k0_pay1]

/-- The reference contracts all the rows at once. -/
theorem ref_at (a0 : FVec Ideal Cert.RefDwfIdeal.S8192x512 .f32) (a1 : FVec Ideal Cert.RefDwfIdeal.S8192x1024 .bf16) (j : Cert.RefDwfIdeal.S512x1024.Idx) :
    refW a0 a1 j = ∑ k : Fin 8192, a0 (ix2 k (j 0)) * a1 (ix2 k (j 1)) := by
  pointwise [refW]

/-- What the last point of a run stores is what it leaves in the scratch. -/
theorem stored (c : Dev nD) (t : Fin cfg0.N) (h3 : t.val % 4 = 3) (y : S512x1024.Idx) :
    (outsAt0 m c t.val t.isLt).1 y = (outsAt0 m c t.val t.isLt).2 y := by
  rw [outsAt0_C m c t (by omega) (by omega) h3]
  frame_out
  pointwise [k0_pay4]

theorem final (c : Dev nD) : (dats m 0 c).arrAt 2 (cfgs 0).N = refW (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, stored m c t h3, Pipeline.eq_sum_fin_of_reset_step_apply_of_flush (fun n h => (outsAt0 m c n h).2) 4 (fun _ => 0) _
    (fun t h j => by have ht := lt_of_lt_of_eq t.isLt N_0; rw [outsAt0_A m c t h (by omega) (by omega)]; frame_out; rw [pay2_at])
    (fun t h j => by
      by_cases h3 : t.val % 4 = 3
      · rw [outsAt0_C m c t h (by omega) h3]; frame_out; simp only [read_unread_whole]; rw [pay3_at]
      · rw [outsAt0_B m c t h (by omega) h3]; frame_out; simp only [read_unread_whole]; rw [pay3_at])
    t h3 _, zero_add, ref_at]
  refine Fin.sum_mul_add_congr fun s k hl => ?_
  blk_point [iblk, V, idx ⟨_, Pipeline.run_point_lt_of_flush t h3 s⟩, idx t]

/-- The call computes what the reference computes. -/
theorem algebraic : Cert.algebraic_DwfIdeal_RefDwfIdeal := by
  intro m g m' g' _ hagree
  refine ⟨fun c => refW (m ((c : Thread nD τ).loc main_arg0)) (m ((c : Thread nD τ).loc main_arg1)), ?_, ?_⟩
  · refine (θ_run _ _ _).mono (fun r h c => ?_) (Cert.DwfIdeal.Value.run_blocks m g)
    exact ⟨(h c).1.trans (final m c), (h c).2⟩
  · refine (θ_run _ _ _).mono (fun r h c => ?_) (Cert.RefDwfIdeal.Value.run m' g')
    obtain ⟨e0, e1⟩ := hagree c
    refine ⟨(h c).1.trans ?_, (h c).2⟩
    · have k := congr (congrArg refW e0) e1
      exact k

end Cert.DwfCall

end
-- ==== Proof.MdgradValue.lean ====
module

public import proofs.«01_k».proof.Defs
public import proofs.«01_k».proof.Proof.Gen.MdgradIdeal.Value
public import proofs.«01_k».proof.Proof.Gen.RefMdgradIdeal.Run
public import Idealize.ShloMosaic.Lib.Pipeline.ValueKit
public import Idealize.ShloMosaic.Lib.Pointwise
public import Idealize.ShloMosaic.Lib.Pipeline.ReadBack
public import Idealize.ShloMosaic.Lib.Claim
public import Idealize.ShloMosaic.Lib.WritesUnit
public import proofs.«01_k».proof.Proof.Stores
public import proofs.«01_k».proof.Proof.Finite
public import proofs.«01_k».proof.Proof.DgradValue
public import proofs.«01_k».proof.Proof.Gen.Pre_finite_mdgrad

@[expose] public section

set_option maxRecDepth 16384

noncomputable section

/-! The backward pass of the mixer's input: the products of the branches' gradients with the projection's weight, the
    normalisation's gradient, and the sums over the tokens that make the gradients of the gain, the shift and the scale. -/

namespace Cert.MdgradCall

open Idealize.ShloMosaic Idealize.ShloMosaic.TcCoe Idealize.SL.Sem

section Reference

open Cert.RefMdgradIdeal Cert.RefMdgradIdeal.Gen

/-- The gradient at the normalised stream: the joined gradient of the branches, times the weight. -/
def refDu (a0 : FVec Ideal S8192x2048 .bf16) (a1 : FVec Ideal S8192x512 .bf16) (a2 : FVec Ideal S8192x512 .f32) (a3 : FVec Ideal S8192x512 .f32) (a4 : FVec Ideal S8192x512 .bf16) (a5 : FVec Ideal S8192x1024 .bf16) (a6 : FVec Ideal S8192x512 .bf16) (a7 : FVec Ideal S5632x1024 .bf16) : FVec Ideal S8192x1024 .f32 :=
  Host.dotGeneral dot_S8192x5632_S1024x5632_S8192x1024_1_1_0_0_n_n none ((concatenate S8192x5632 1 [⟨S8192x2048, ((extf .f32 a0 bitsLt_bf16_f32) : FVec Ideal S8192x2048 .f32)⟩, ⟨S8192x512, ((extf .f32 a1 bitsLt_bf16_f32) : FVec Ideal S8192x512 .f32)⟩, ⟨S8192x512, (a2 : FVec Ideal S8192x512 .f32)⟩, ⟨S8192x512, (a3 : FVec Ideal S8192x512 .f32)⟩, ⟨S8192x512, ((extf .f32 a4 bitsLt_bf16_f32) : FVec Ideal S8192x512 .f32)⟩, ⟨S8192x1024, ((extf .f32 a5 bitsLt_bf16_f32) : FVec Ideal S8192x1024 .f32)⟩, ⟨S8192x512, ((extf .f32 a6 bitsLt_bf16_f32) : FVec Ideal S8192x512 .f32)⟩] concatenates_S8192x2048_S8192x512_S8192x512_S8192x512_S8192x512_S8192x1024_S8192x512_S8192x5632_d1 : FVec Ideal S8192x5632 .f32)) (transpose S1024x5632 [1, 0] (extf .f32 a7 bitsLt_bf16_f32) transposes_S5632x1024_S1024x5632_1_0)

def refDh (a0 : FVec Ideal S8192x2048 .bf16) (a1 : FVec Ideal S8192x512 .bf16) (a2 : FVec Ideal S8192x512 .f32) (a3 : FVec Ideal S8192x512 .f32) (a4 : FVec Ideal S8192x512 .bf16) (a5 : FVec Ideal S8192x1024 .bf16) (a6 : FVec Ideal S8192x512 .bf16) (a7 : FVec Ideal S5632x1024 .bf16) (a8 : FVec Ideal S8192x1024 .f32) (a9 : FVec Ideal S1x1024 .f32) (a10 : FVec Ideal S1x1024 .f32) (a11 : FVec Ideal S8192x1024 .f32) : FVec Ideal S8192x1024 .f32 :=
  addf a11 (addf (addf (mulf (mulf (mulf (refDu a0 a1 a2 a3 a4 a5 a6 a7) (broadcastInDim S8192x1024 ![0, 1] bcast_S1x1024_S8192x1024_0_1 (addf (broadcastInDim S1x1024 ![] bcast_S_S1x1024 (constant S_ .f32 0x3F800000#32)) a10))) (broadcastInDim S8192x1024 ![0, 1] bcast_S1x1024_S8192x1024_0_1 a9)) (broadcastInDim S8192x1024 ![0, 1] bcast_S8192x1_S8192x1024_0_1 (Host.rsqrt (addf (Host.divf (broadcastInDim S8192x1 ![0] bcast_S8192_S8192x1_0 (Host.reduceAdd (mulf a8 a8) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (mulf a8 (broadcastInDim S8192x1024 ![0] bcast_S8192_S8192x1024_0 (Host.reduceAdd (Host.divf (mulf (shapeCast _ (Host.reduceAdd (mulf a8 (mulf (mulf (refDu a0 a1 a2 a3 a4 a5 a6 a7) (broadcastInDim S8192x1024 ![0, 1] bcast_S1x1024_S8192x1024_0_1 (addf (broadcastInDim S1x1024 ![] bcast_S_S1x1024 (constant S_ .f32 0x3F800000#32)) a10))) (broadcastInDim S8192x1024 ![0, 1] bcast_S1x1024_S8192x1024_0_1 a9))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf a8 a8) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf a8 a8) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf a8 (mulf (mulf (refDu a0 a1 a2 a3 a4 a5 a6 a7) (broadcastInDim S8192x1024 ![0, 1] bcast_S1x1024_S8192x1024_0_1 (addf (broadcastInDim S1x1024 ![] bcast_S_S1x1024 (constant S_ .f32 0x3F800000#32)) a10))) (broadcastInDim S8192x1024 ![0, 1] bcast_S1x1024_S8192x1024_0_1 a9))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf a8 a8) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf a8 a8) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) a8))

def refStats (a0 : FVec Ideal S8192x2048 .bf16) (a1 : FVec Ideal S8192x512 .bf16) (a2 : FVec Ideal S8192x512 .f32) (a3 : FVec Ideal S8192x512 .f32) (a4 : FVec Ideal S8192x512 .bf16) (a5 : FVec Ideal S8192x1024 .bf16) (a6 : FVec Ideal S8192x512 .bf16) (a7 : FVec Ideal S5632x1024 .bf16) (a8 : FVec Ideal S8192x1024 .f32) (a9 : FVec Ideal S1x1024 .f32) (a10 : FVec Ideal S1x1024 .f32) (a11 : FVec Ideal S8192x1024 .f32) : FVec Ideal S8x1024 .f32 :=
  (concatenate S8x1024 0 [⟨S1x1024, ((shapeCast _ (Host.reduceAdd (mulf (mulf a8 (broadcastInDim S8192x1024 ![0, 1] bcast_S8192x1_S8192x1024_0_1 (Host.rsqrt (addf (Host.divf (broadcastInDim S8192x1 ![0] bcast_S8192_S8192x1_0 (Host.reduceAdd (mulf a8 a8) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (mulf (refDu a0 a1 a2 a3 a4 a5 a6 a7) (broadcastInDim S8192x1024 ![0, 1] bcast_S1x1024_S8192x1024_0_1 (addf (broadcastInDim S1x1024 ![] bcast_S_S1x1024 (constant S_ .f32 0x3F800000#32)) a10)))) (constant S_ .f32 0x00000000#32) reducesTo_S8192x1024_S1024_d0 h_S_) shapeCasts_S1024_S1x1024) : FVec Ideal S1x1024 .f32)⟩, ⟨S1x1024, ((shapeCast _ (Host.reduceAdd (refDu a0 a1 a2 a3 a4 a5 a6 a7) (constant S_ .f32 0x00000000#32) reducesTo_S8192x1024_S1024_d0 h_S_) shapeCasts_S1024_S1x1024) : FVec Ideal S1x1024 .f32)⟩, ⟨S1x1024, ((shapeCast _ (Host.reduceAdd (mulf (mulf (mulf a8 (broadcastInDim S8192x1024 ![0, 1] bcast_S8192x1_S8192x1024_0_1 (Host.rsqrt (addf (Host.divf (broadcastInDim S8192x1 ![0] bcast_S8192_S8192x1_0 (Host.reduceAdd (mulf a8 a8) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 a9)) (refDu a0 a1 a2 a3 a4 a5 a6 a7)) (constant S_ .f32 0x00000000#32) reducesTo_S8192x1024_S1024_d0 h_S_) shapeCasts_S1024_S1x1024) : FVec Ideal S1x1024 .f32)⟩, ⟨S5x1024, ((broadcastInDim S5x1024 ![] bcast_S_S5x1024 (constant S_ .f32 0x00000000#32)) : FVec Ideal S5x1024 .f32)⟩] concatenates_S1x1024_S1x1024_S1x1024_S5x1024_S8x1024_d0 : FVec Ideal S8x1024 .f32)

end Reference

open Cert.MdgradIdeal Cert.MdgradIdeal.Gen

variable (m : (ℓ : Loc nD τ sig) → Buf (Elt Ideal) ℓ)

/-- The block index of every window at every point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![0, 0]
    ∧ win0_8.index t = ![t.val, 0]
    ∧ win0_9.index t = ![0, 0]
    ∧ win0_10.index t = ![0, 0]
    ∧ win0_11.index t = ![t.val, 0]
    ∧ win0_12.index t = ![t.val, 0]
    ∧ win0_13.index t = ![0, 0] :=
  (by decide +kernel : ∀ t : Fin grid0.N, _)

/-- A sum over the first part and over the rest. -/
theorem sum_split {N : ℕ} (a b : ℕ) (h : N = a + b) (f : Fin N → EReal) :
    ∑ k, f k = ∑ k : Fin a, f ⟨k.val, by omega⟩ + ∑ k : Fin b, f ⟨a + k.val, by omega⟩ := by
  subst h
  exact Fin.sum_univ_add f

theorem refDu_at (a0 : FVec Ideal Cert.RefMdgradIdeal.S8192x2048 .bf16) (a1 : FVec Ideal Cert.RefMdgradIdeal.S8192x512 .bf16) (a2 : FVec Ideal Cert.RefMdgradIdeal.S8192x512 .f32) (a3 : FVec Ideal Cert.RefMdgradIdeal.S8192x512 .f32) (a4 : FVec Ideal Cert.RefMdgradIdeal.S8192x512 .bf16) (a5 : FVec Ideal Cert.RefMdgradIdeal.S8192x1024 .bf16) (a6 : FVec Ideal Cert.RefMdgradIdeal.S8192x512 .bf16) (a7 : FVec Ideal Cert.RefMdgradIdeal.S5632x1024 .bf16) (y : Cert.RefMdgradIdeal.S8192x1024.Idx) :
    refDu a0 a1 a2 a3 a4 a5 a6 a7 y = ∑ k : Fin 2048, a0 (ix2 (y 0) k) * a7 (ix2 ⟨k.val, by omega⟩ (y 1)) + ∑ k : Fin 512, a1 (ix2 (y 0) k) * a7 (ix2 ⟨2048 + k.val, by omega⟩ (y 1)) + ∑ k : Fin 512, a2 (ix2 (y 0) k) * a7 (ix2 ⟨2560 + k.val, by omega⟩ (y 1)) + ∑ k : Fin 512, a3 (ix2 (y 0) k) * a7 (ix2 ⟨3072 + k.val, by omega⟩ (y 1)) + ∑ k : Fin 512, a4 (ix2 (y 0) k) * a7 (ix2 ⟨3584 + k.val, by omega⟩ (y 1)) + ∑ k : Fin 1024, a5 (ix2 (y 0) k) * a7 (ix2 ⟨4096 + k.val, by omega⟩ (y 1)) + ∑ k : Fin 512, a6 (ix2 (y 0) k) * a7 (ix2 ⟨5120 + k.val, by omega⟩ (y 1)) := by
  obtain ⟨i, j, rfl⟩ : ∃ i j, y = ix2 i j := ⟨y 0, y 1, (ix2_eta y).symm⟩
  pointwise [refDu]
  refine (sum_split 5120 512 rfl _).trans (congrArg₂ (· + ·) ?_ (Finset.sum_congr rfl fun k _ => ?_))
  rotate_left
  · have hk := k.isLt
    dsimp only
    rw [dif_neg (by omega), dif_neg (by omega), dif_neg (by omega), dif_neg (by omega), dif_neg (by omega), dif_neg (by omega)]
    refine congrArg₂ (· * ·) (congrArg _ (congrArg _ (Fin.ext ?_))) rfl
    dsimp only
    omega
  refine (sum_split 4096 1024 rfl _).trans (congrArg₂ (· + ·) ?_ (Finset.sum_congr rfl fun k _ => ?_))
  rotate_left
  · have hk := k.isLt
    dsimp only
    rw [dif_neg (by omega), dif_neg (by omega), dif_neg (by omega), dif_neg (by omega), dif_neg (by omega), dif_pos (by omega)]
    refine congrArg₂ (· * ·) (congrArg _ (congrArg _ (Fin.ext ?_))) rfl
    dsimp only
    omega
  refine (sum_split 3584 512 rfl _).trans (congrArg₂ (· + ·) ?_ (Finset.sum_congr rfl fun k _ => ?_))
  rotate_left
  · have hk := k.isLt
    dsimp only
    rw [dif_neg (by omega), dif_neg (by omega), dif_neg (by omega), dif_neg (by omega), dif_pos (by omega)]
    refine congrArg₂ (· * ·) (congrArg _ (congrArg _ (Fin.ext ?_))) rfl
    dsimp only
    omega
  refine (sum_split 3072 512 rfl _).trans (congrArg₂ (· + ·) ?_ (Finset.sum_congr rfl fun k _ => ?_))
  rotate_left
  · have hk := k.isLt
    dsimp only
    rw [dif_neg (by omega), dif_neg (by omega), dif_neg (by omega), dif_pos (by omega)]
    refine congrArg₂ (· * ·) (congrArg _ (congrArg _ (Fin.ext ?_))) rfl
    dsimp only
    omega
  refine (sum_split 2560 512 rfl _).trans (congrArg₂ (· + ·) ?_ (Finset.sum_congr rfl fun k _ => ?_))
  rotate_left
  · have hk := k.isLt
    dsimp only
    rw [dif_neg (by omega), dif_neg (by omega), dif_pos (by omega)]
    refine congrArg₂ (· * ·) (congrArg _ (congrArg _ (Fin.ext ?_))) rfl
    dsimp only
    omega
  refine (sum_split 2048 512 rfl _).trans (congrArg₂ (· + ·) ?_ (Finset.sum_congr rfl fun k _ => ?_))
  rotate_left
  · have hk := k.isLt
    dsimp only
    rw [dif_neg (by omega), dif_pos (by omega)]
    refine congrArg₂ (· * ·) (congrArg _ (congrArg _ (Fin.ext ?_))) rfl
    dsimp only
    omega
  refine Finset.sum_congr rfl fun k _ => ?_
  have hk := k.isLt
  dsimp only
  rw [dif_pos (by omega)]

theorem refDh_at (a0 : FVec Ideal Cert.RefMdgradIdeal.S8192x2048 .bf16) (a1 : FVec Ideal Cert.RefMdgradIdeal.S8192x512 .bf16) (a2 : FVec Ideal Cert.RefMdgradIdeal.S8192x512 .f32) (a3 : FVec Ideal Cert.RefMdgradIdeal.S8192x512 .f32) (a4 : FVec Ideal Cert.RefMdgradIdeal.S8192x512 .bf16) (a5 : FVec Ideal Cert.RefMdgradIdeal.S8192x1024 .bf16) (a6 : FVec Ideal Cert.RefMdgradIdeal.S8192x512 .bf16) (a7 : FVec Ideal Cert.RefMdgradIdeal.S5632x1024 .bf16) (a8 : FVec Ideal Cert.RefMdgradIdeal.S8192x1024 .f32) (a9 : FVec Ideal Cert.RefMdgradIdeal.S1x1024 .f32) (a10 : FVec Ideal Cert.RefMdgradIdeal.S1x1024 .f32) (a11 : FVec Ideal Cert.RefMdgradIdeal.S8192x1024 .f32)  (hu : ∀ i, Cert.Ret.IsReal (refDu a0 a1 a2 a3 a4 a5 a6 a7 i))
    (h8 : ∀ i, Cert.Ret.IsReal (a8 i)) (h9 : ∀ i, Cert.Ret.IsReal (a9 i)) (h10 : ∀ i, Cert.Ret.IsReal (a10 i)) (y : Cert.RefMdgradIdeal.S8192x1024.Idx) :
    refDh a0 a1 a2 a3 a4 a5 a6 a7 a8 a9 a10 a11 y = a11 y + Ideal.rsqrt (Ideal.div (∑ k, a8 (ix2 (y 0) k) * a8 (ix2 (y 0) k)) (Ideal.ofBits .f32 0x44800000#32) + Ideal.ofBits .f32 0x358637BD#32)
      * (refDu a0 a1 a2 a3 a4 a5 a6 a7 y * (1 + a10 (ix2 0 (y 1))) * a9 (ix2 0 (y 1)) - a8 y * Ideal.rsqrt (Ideal.div (∑ k, a8 (ix2 (y 0) k) * a8 (ix2 (y 0) k)) (Ideal.ofBits .f32 0x44800000#32) + Ideal.ofBits .f32 0x358637BD#32)
          * Ideal.div (∑ x, refDu a0 a1 a2 a3 a4 a5 a6 a7 (ix2 (y 0) x) * (1 + a10 (ix2 0 x)) * a9 (ix2 0 x) * (a8 (ix2 (y 0) x) * Ideal.rsqrt (Ideal.div (∑ k, a8 (ix2 (y 0) k) * a8 (ix2 (y 0) k)) (Ideal.ofBits .f32 0x44800000#32) + Ideal.ofBits .f32 0x358637BD#32))) (Ideal.ofBits .f32 0x44800000#32)) := by
  obtain ⟨i, j, rfl⟩ : ∃ i j, y = ix2 i j := ⟨y 0, y 1, (ix2_eta y).symm⟩
  pointwise [refDh]
  have k := (Cert.DgradCall.norm_dh (fun x => a8 (ix2 i x)) (fun x => refDu a0 a1 a2 a3 a4 a5 a6 a7 (ix2 i x)) (fun _ => 0)
    (fun x => a10 (ix2 0 x)) (fun x => a9 (ix2 0 x)) (fun x => h8 _) (fun x => hu _)
    (fun x => ⟨0, rfl⟩) (fun x => h10 _) (fun x => h9 _) j).symm
  simp only [zero_add, add_zero] at k
  exact congrArg (a11 (ix2 i j) + ·) k

/-- The gradient at the normalised stream of one block of tokens, as the call sums it. -/
def du (c : Dev nD) (t : Fin cfg0.N) : FVec Ideal S512x1024 .f32 :=
  k0_pay5 (k0_pay4 (iblk m c 0 t) (View.ld (iblk m c 7 t) (Rect.unit (s := S5632x1024) ![0, 0] S2048x1024.size inb_S5632x1024_S2048x1024_0_0)) (iblk m c 1 t) (View.ld (iblk m c 7 t) (Rect.unit (s := S5632x1024) ![2048, 0] S512x1024.size inb_S5632x1024_S512x1024_2048_0)) (iblk m c 2 t) (View.ld (iblk m c 7 t) (Rect.unit (s := S5632x1024) ![2560, 0] S512x1024.size inb_S5632x1024_S512x1024_2560_0)) (iblk m c 3 t) (View.ld (iblk m c 7 t) (Rect.unit (s := S5632x1024) ![3072, 0] S512x1024.size inb_S5632x1024_S512x1024_3072_0)) (iblk m c 4 t) (View.ld (iblk m c 7 t) (Rect.unit (s := S5632x1024) ![3584, 0] S512x1024.size inb_S5632x1024_S512x1024_3584_0)) (iblk m c 5 t) (View.ld (iblk m c 7 t) (Rect.unit (s := S5632x1024) ![4096, 0] S1024x1024.size inb_S5632x1024_S1024x1024_4096_0))) (iblk m c 6 t) (View.ld (iblk m c 7 t) (Rect.unit (s := S5632x1024) ![5120, 0] S512x1024.size inb_S5632x1024_S512x1024_5120_0))

theorem row_lt (t : Fin cfg0.N) (r : Fin 512) : t.val * 512 + r.val < 8192 := by
  have h := lt_of_lt_of_eq t.isLt N_0
  omega

theorem emb_12 (t : Fin cfg0.N) (r : Fin 512) (j : Fin 1024) : ((cfg0.win 12).blk t).view.emb (ix2 r j) = ix2 ⟨t.val * 512 + r.val, row_lt t r⟩ j := by
  blk_point [idx t]

theorem du_at (c : Dev nD) (t : Fin cfg0.N) (r : Fin 512) (j : Fin 1024) :
    du m c t (ix2 r j) = refDu (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 ⟨t.val * 512 + r.val, row_lt t r⟩ j) := by
  rw [refDu_at]
  unfold du
  pointwise [k0_pay5, k0_pay4]
  blk_point [iblk, V, idx t, View.ld]

theorem pay9_at (v24 : FVec Ideal S512x1024 .f32) (v25 : Vec Ideal S512x512 .bf16) (v26 : Vec Ideal S512x1024 .bf16) (u : FVec Ideal S512x1024 .f32)
    (hu : k0_pay5 v24 v25 v26 = u) (x8 : Vec Ideal S512x1024 .f32) (x9 x10 : Vec Ideal S1x1024 .f32) (x11 : Vec Ideal S512x1024 .f32) (r : Fin 512) (j : Fin 1024) :
    k0_pay9 v24 v25 v26 x8 x9 x10 x11 (ix2 r j) = x11 (ix2 r j) + Ideal.rsqrt (Ideal.div (∑ k, x8 (ix2 r k) * x8 (ix2 r k)) (Ideal.ofBits .f32 0x44800000#32) + Ideal.ofBits .f32 0x358637BD#32)
      * (u (ix2 r j) * (1 + x10 (ix2 0 j)) * x9 (ix2 0 j) - x8 (ix2 r j) * Ideal.rsqrt (Ideal.div (∑ k, x8 (ix2 r k) * x8 (ix2 r k)) (Ideal.ofBits .f32 0x44800000#32) + Ideal.ofBits .f32 0x358637BD#32)
          * Ideal.div (∑ x, u (ix2 r x) * (1 + x10 (ix2 0 x)) * x9 (ix2 0 x) * (x8 (ix2 r x) * Ideal.rsqrt (Ideal.div (∑ k, x8 (ix2 r k) * x8 (ix2 r k)) (Ideal.ofBits .f32 0x44800000#32) + Ideal.ofBits .f32 0x358637BD#32))) (Ideal.ofBits .f32 0x44800000#32)) := by
  subst hu
  pointwise [k0_pay9, k0_pay8, k0_pay7, k0_pay6]

/-- What the precondition says of the device's arguments. -/
structure Finite (c : Dev nD) : Prop where
  h0 : ∀ i, Cert.Ret.IsReal (m ((c : Thread nD τ).loc main_arg0) i)
  h1 : ∀ i, Cert.Ret.IsReal (m ((c : Thread nD τ).loc main_arg1) i)
  h2 : ∀ i, Cert.Ret.IsReal (m ((c : Thread nD τ).loc main_arg2) i)
  h3 : ∀ i, Cert.Ret.IsReal (m ((c : Thread nD τ).loc main_arg3) i)
  h4 : ∀ i, Cert.Ret.IsReal (m ((c : Thread nD τ).loc main_arg4) i)
  h5 : ∀ i, Cert.Ret.IsReal (m ((c : Thread nD τ).loc main_arg5) i)
  h6 : ∀ i, Cert.Ret.IsReal (m ((c : Thread nD τ).loc main_arg6) i)
  h7 : ∀ i, Cert.Ret.IsReal (m ((c : Thread nD τ).loc main_arg7) i)
  h8 : ∀ i, Cert.Ret.IsReal (m ((c : Thread nD τ).loc main_arg8) i)
  h9 : ∀ i, Cert.Ret.IsReal (m ((c : Thread nD τ).loc main_arg9) i)
  h10 : ∀ i, Cert.Ret.IsReal (m ((c : Thread nD τ).loc main_arg10) i)

theorem finite (h : Cert.Pre_MdgradIdeal_finite_mdgrad m) (c : Dev nD) : Finite m c :=
  ⟨fun i => Cert.Ret.isReal_of_lt16 _ (congrFun (h c).1 i),
    fun i => Cert.Ret.isReal_of_lt16 _ (congrFun (h c).2.1 i),
    fun i => Cert.Ret.isReal_of_lt _ (congrFun (h c).2.2.1 i),
    fun i => Cert.Ret.isReal_of_lt _ (congrFun (h c).2.2.2.1 i),
    fun i => Cert.Ret.isReal_of_lt16 _ (congrFun (h c).2.2.2.2.1 i),
    fun i => Cert.Ret.isReal_of_lt16 _ (congrFun (h c).2.2.2.2.2.1 i),
    fun i => Cert.Ret.isReal_of_lt16 _ (congrFun (h c).2.2.2.2.2.2.1 i),
    fun i => Cert.Ret.isReal_of_lt16 _ (congrFun (h c).2.2.2.2.2.2.2.1 i),
    fun i => Cert.Ret.isReal_of_lt _ (congrFun (h c).2.2.2.2.2.2.2.2.1 i),
    fun i => Cert.Ret.isReal_of_lt _ (congrFun (h c).2.2.2.2.2.2.2.2.2.1 i),
    fun i => Cert.Ret.isReal_of_lt _ (congrFun (h c).2.2.2.2.2.2.2.2.2.2 i)⟩

theorem refDu_real (c : Dev nD) (h : Finite m c) (y) : Cert.Ret.IsReal (refDu (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) y) := by
  rw [refDu_at]
  exact (((((((Cert.Ret.IsReal.sum fun k => (h.h0 _).mul (h.h7 _)).add (Cert.Ret.IsReal.sum fun k => (h.h1 _).mul (h.h7 _))).add (Cert.Ret.IsReal.sum fun k => (h.h2 _).mul (h.h7 _))).add (Cert.Ret.IsReal.sum fun k => (h.h3 _).mul (h.h7 _))).add (Cert.Ret.IsReal.sum fun k => (h.h4 _).mul (h.h7 _))).add (Cert.Ret.IsReal.sum fun k => (h.h5 _).mul (h.h7 _))).add (Cert.Ret.IsReal.sum fun k => (h.h6 _).mul (h.h7 _)))

theorem point_12_A (c : Dev nD) (h : Finite m c) (t : Fin cfg0.N) (h0 : t.val % 16 = 0) (y) :
    (outsAt0 m c t.val t.isLt).1 y = refDh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (((cfg0.win 12).blk t).view.emb y) := by
  obtain ⟨r, j, rfl⟩ : ∃ r j, y = ix2 r j := ⟨y 0, y 1, (ix2_eta y).symm⟩
  rw [outsAt0_A m c t h0, emb_12, refDh_at _ _ _ _ _ _ _ _ _ _ _ _ (refDu_real m c h) h.h8 h.h9 h.h10]
  frame_out
  refine (pay9_at _ _ _ (du m c t) rfl _ _ _ _ r j).trans ?_
  simp only [du_at]
  blk_point [iblk, V, idx t]

theorem point_12_B (c : Dev nD) (h : Finite m c) (t : Fin cfg0.N) (h0 : ¬ t.val % 16 = 0) (y) :
    (outsAt0 m c t.val t.isLt).1 y = refDh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (((cfg0.win 12).blk t).view.emb y) := by
  obtain ⟨r, j, rfl⟩ : ∃ r j, y = ix2 r j := ⟨y 0, y 1, (ix2_eta y).symm⟩
  rw [outsAt0_B m c t h0, emb_12, refDh_at _ _ _ _ _ _ _ _ _ _ _ _ (refDu_real m c h) h.h8 h.h9 h.h10]
  frame_out
  refine (pay9_at _ _ _ (du m c t) rfl _ _ _ _ r j).trans ?_
  simp only [du_at]
  blk_point [iblk, V, idx t]

theorem final_12 (c : Dev nD) (h : Finite m c) : (dats m 0 c).arrAt 12 (cfgs 0).N = refDh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 12 _ (by decide +kernel) fun t hf y => ?_
  blk_simp
  rw [after0_12]
  by_cases h0 : t.val % 16 = 0
  · exact point_12_A m c h t h0 y
  · exact point_12_B m c h t h0 y

/-! ## The sums over the tokens -/

/-- What one block of tokens adds to the sums. -/
def inc (u x8 : Vec Ideal S512x1024 .f32) (x9 x10 : Vec Ideal S1x1024 .f32) (y : S8x1024.Idx) : EReal :=
  if (y 0).val = 0 then ∑ r : Fin 512, u (ix2 r (y 1)) * (1 + x10 (ix2 0 (y 1))) * (x8 (ix2 r (y 1)) * Ideal.rsqrt (Ideal.div (∑ k, x8 (ix2 r k) * x8 (ix2 r k)) (Ideal.ofBits .f32 0x44800000#32) + Ideal.ofBits .f32 0x358637BD#32))
  else if (y 0).val = 1 then ∑ r : Fin 512, u (ix2 r (y 1))
  else if (y 0).val = 2 then ∑ r : Fin 512, u (ix2 r (y 1)) * (x8 (ix2 r (y 1)) * Ideal.rsqrt (Ideal.div (∑ k, x8 (ix2 r k) * x8 (ix2 r k)) (Ideal.ofBits .f32 0x44800000#32) + Ideal.ofBits .f32 0x358637BD#32) * x9 (ix2 0 (y 1)))
  else 0

theorem pay1_at (v24 : FVec Ideal S512x1024 .f32) (v25 : Vec Ideal S512x512 .bf16) (v26 : Vec Ideal S512x1024 .bf16) (u x8 : Vec Ideal S512x1024 .f32) (x9 x10 : Vec Ideal S1x1024 .f32) (hu : k0_pay5 v24 v25 v26 = u) (v : Vec Ideal S1x1024 .f32) (y : S1x1024.Idx) :
    k0_pay1 (F := Ideal) (k0_pay7 x8) (k0_pay8 v24 v25 v26 x10) v y = v y + ∑ r : Fin 512, u (ix2 r (y 1)) * (1 + x10 (ix2 0 (y 1))) * (x8 (ix2 r (y 1)) * Ideal.rsqrt (Ideal.div (∑ k, x8 (ix2 r k) * x8 (ix2 r k)) (Ideal.ofBits .f32 0x44800000#32) + Ideal.ofBits .f32 0x358637BD#32)) := by
  subst hu
  pointwise [k0_pay1, k0_pay7, k0_pay8, k0_pay6]

theorem pay2_at (u : FVec Ideal S512x1024 .f32) (v : Vec Ideal S1x1024 .f32) (y : S1x1024.Idx) :
    k0_pay2 (F := Ideal) u v y = v y + ∑ r : Fin 512, u (ix2 r (y 1)) := by
  pointwise [k0_pay2]

theorem pay3_at (u x8 : Vec Ideal S512x1024 .f32) (x9 x10 : Vec Ideal S1x1024 .f32) (v : Vec Ideal S1x1024 .f32) (y : S1x1024.Idx) :
    k0_pay3 (F := Ideal) u x9 (k0_pay7 x8) v y = v y + ∑ r : Fin 512, u (ix2 r (y 1)) * (x8 (ix2 r (y 1)) * Ideal.rsqrt (Ideal.div (∑ k, x8 (ix2 r k) * x8 (ix2 r k)) (Ideal.ofBits .f32 0x44800000#32) + Ideal.ofBits .f32 0x358637BD#32) * x9 (ix2 0 (y 1))) := by
  pointwise [k0_pay3, k0_pay7, k0_pay6]

theorem refStats_0 (a0 : FVec Ideal Cert.RefMdgradIdeal.S8192x2048 .bf16) (a1 : FVec Ideal Cert.RefMdgradIdeal.S8192x512 .bf16) (a2 : FVec Ideal Cert.RefMdgradIdeal.S8192x512 .f32) (a3 : FVec Ideal Cert.RefMdgradIdeal.S8192x512 .f32) (a4 : FVec Ideal Cert.RefMdgradIdeal.S8192x512 .bf16) (a5 : FVec Ideal Cert.RefMdgradIdeal.S8192x1024 .bf16) (a6 : FVec Ideal Cert.RefMdgradIdeal.S8192x512 .bf16) (a7 : FVec Ideal Cert.RefMdgradIdeal.S5632x1024 .bf16) (a8 : FVec Ideal Cert.RefMdgradIdeal.S8192x1024 .f32) (a9 : FVec Ideal Cert.RefMdgradIdeal.S1x1024 .f32) (a10 : FVec Ideal Cert.RefMdgradIdeal.S1x1024 .f32) (a11 : FVec Ideal Cert.RefMdgradIdeal.S8192x1024 .f32) (j : Fin 1024) :
    refStats a0 a1 a2 a3 a4 a5 a6 a7 a8 a9 a10 a11 (ix2 0 j) = ∑ r : Fin 8192, refDu a0 a1 a2 a3 a4 a5 a6 a7 (ix2 r j) * (1 + a10 (ix2 0 j)) * (a8 (ix2 r j) * Ideal.rsqrt (Ideal.div (∑ k, a8 (ix2 r k) * a8 (ix2 r k)) (Ideal.ofBits .f32 0x44800000#32) + Ideal.ofBits .f32 0x358637BD#32)) := by
  pointwise [refStats]
  refine Finset.sum_congr rfl fun r _ => ?_
  rw [mul_comm]

theorem refStats_1 (a0 : FVec Ideal Cert.RefMdgradIdeal.S8192x2048 .bf16) (a1 : FVec Ideal Cert.RefMdgradIdeal.S8192x512 .bf16) (a2 : FVec Ideal Cert.RefMdgradIdeal.S8192x512 .f32) (a3 : FVec Ideal Cert.RefMdgradIdeal.S8192x512 .f32) (a4 : FVec Ideal Cert.RefMdgradIdeal.S8192x512 .bf16) (a5 : FVec Ideal Cert.RefMdgradIdeal.S8192x1024 .bf16) (a6 : FVec Ideal Cert.RefMdgradIdeal.S8192x512 .bf16) (a7 : FVec Ideal Cert.RefMdgradIdeal.S5632x1024 .bf16) (a8 : FVec Ideal Cert.RefMdgradIdeal.S8192x1024 .f32) (a9 : FVec Ideal Cert.RefMdgradIdeal.S1x1024 .f32) (a10 : FVec Ideal Cert.RefMdgradIdeal.S1x1024 .f32) (a11 : FVec Ideal Cert.RefMdgradIdeal.S8192x1024 .f32) (j : Fin 1024) :
    refStats a0 a1 a2 a3 a4 a5 a6 a7 a8 a9 a10 a11 (ix2 1 j) = ∑ r : Fin 8192, refDu a0 a1 a2 a3 a4 a5 a6 a7 (ix2 r j) := by
  pointwise [refStats]

theorem refStats_2 (a0 : FVec Ideal Cert.RefMdgradIdeal.S8192x2048 .bf16) (a1 : FVec Ideal Cert.RefMdgradIdeal.S8192x512 .bf16) (a2 : FVec Ideal Cert.RefMdgradIdeal.S8192x512 .f32) (a3 : FVec Ideal Cert.RefMdgradIdeal.S8192x512 .f32) (a4 : FVec Ideal Cert.RefMdgradIdeal.S8192x512 .bf16) (a5 : FVec Ideal Cert.RefMdgradIdeal.S8192x1024 .bf16) (a6 : FVec Ideal Cert.RefMdgradIdeal.S8192x512 .bf16) (a7 : FVec Ideal Cert.RefMdgradIdeal.S5632x1024 .bf16) (a8 : FVec Ideal Cert.RefMdgradIdeal.S8192x1024 .f32) (a9 : FVec Ideal Cert.RefMdgradIdeal.S1x1024 .f32) (a10 : FVec Ideal Cert.RefMdgradIdeal.S1x1024 .f32) (a11 : FVec Ideal Cert.RefMdgradIdeal.S8192x1024 .f32) (j : Fin 1024) :
    refStats a0 a1 a2 a3 a4 a5 a6 a7 a8 a9 a10 a11 (ix2 2 j) = ∑ r : Fin 8192, refDu a0 a1 a2 a3 a4 a5 a6 a7 (ix2 r j) * (a8 (ix2 r j) * Ideal.rsqrt (Ideal.div (∑ k, a8 (ix2 r k) * a8 (ix2 r k)) (Ideal.ofBits .f32 0x44800000#32) + Ideal.ofBits .f32 0x358637BD#32) * a9 (ix2 0 j)) := by
  pointwise [refStats]
  refine Finset.sum_congr rfl fun r _ => ?_
  rw [mul_comm]

theorem refStats_rest (a0 : FVec Ideal Cert.RefMdgradIdeal.S8192x2048 .bf16) (a1 : FVec Ideal Cert.RefMdgradIdeal.S8192x512 .bf16) (a2 : FVec Ideal Cert.RefMdgradIdeal.S8192x512 .f32) (a3 : FVec Ideal Cert.RefMdgradIdeal.S8192x512 .f32) (a4 : FVec Ideal Cert.RefMdgradIdeal.S8192x512 .bf16) (a5 : FVec Ideal Cert.RefMdgradIdeal.S8192x1024 .bf16) (a6 : FVec Ideal Cert.RefMdgradIdeal.S8192x512 .bf16) (a7 : FVec Ideal Cert.RefMdgradIdeal.S5632x1024 .bf16) (a8 : FVec Ideal Cert.RefMdgradIdeal.S8192x1024 .f32) (a9 : FVec Ideal Cert.RefMdgradIdeal.S1x1024 .f32) (a10 : FVec Ideal Cert.RefMdgradIdeal.S1x1024 .f32) (a11 : FVec Ideal Cert.RefMdgradIdeal.S8192x1024 .f32) (i : Fin 8) (j : Fin 1024) (h0 : ¬ i.val = 0) (h1 : ¬ i.val = 1) (h2 : ¬ i.val = 2) :
    refStats a0 a1 a2 a3 a4 a5 a6 a7 a8 a9 a10 a11 (ix2 i j) = 0 := by
  pointwise [refStats]
  rw [dif_neg (by omega), dif_neg (by omega), dif_neg (by omega)]

theorem point_13_A (c : Dev nD) (t : Fin cfg0.N) (hA : t.val % 16 = 0) (y : S8x1024.Idx) :
    (outsAt0 m c t.val t.isLt).2 y = 0 + inc (du m c t) (iblk m c 8 t) (iblk m c 9 t) (iblk m c 10 t) y := by
  rw [outsAt0_A m c t hA]
  frame_out
  simp (disch := decide) only [↓View.readCov_skip, ↓View.readCov_fill]
  by_cases h0 : (y 0).val = 0
  · refine (Cert.Ret.canon_miss _ _ _ y (0 : Fin 2) (Or.inl (lt_of_eq_of_lt h0 (by decide : 0 < 2)))).trans ?_
    refine (Cert.Ret.canon_miss _ _ _ y (0 : Fin 2) (Or.inl (lt_of_eq_of_lt h0 (by decide : 0 < 1)))).trans ?_
    refine (Cert.Ret.canon_hit _ _ _ y (ix2 0 (y 1)) (Fin.forall_fin_two.mpr ⟨h0, (Nat.zero_add _).symm⟩)).trans ?_
    refine (pay1_at _ _ _ (du m c t) _ (iblk m c 9 t) _ rfl _ _).trans ?_
    unfold inc
    rw [if_pos h0]
    refine congrArg₂ (· + ·) ?_ rfl
    pointwise [View.ld, k0_pay10]
  by_cases h1 : (y 0).val = 1
  · refine (Cert.Ret.canon_miss _ _ _ y (0 : Fin 2) (Or.inl (lt_of_eq_of_lt h1 (by decide : 1 < 2)))).trans ?_
    refine (Cert.Ret.canon_hit _ _ _ y (ix2 0 (y 1)) (Fin.forall_fin_two.mpr ⟨h1, (Nat.zero_add _).symm⟩)).trans ?_
    refine (pay2_at (du m c t) _ _).trans ?_
    unfold inc
    rw [if_neg (by omega : ¬ (y 0).val = 0), if_pos h1]
    refine congrArg₂ (· + ·) ?_ rfl
    pointwise [View.ld, k0_pay10]
  by_cases h2 : (y 0).val = 2
  · refine (Cert.Ret.canon_hit _ _ _ y (ix2 0 (y 1)) (Fin.forall_fin_two.mpr ⟨h2, (Nat.zero_add _).symm⟩)).trans ?_
    refine (pay3_at (du m c t) _ _ (iblk m c 10 t) _ _).trans ?_
    unfold inc
    rw [if_neg (by omega : ¬ (y 0).val = 0), if_neg (by omega : ¬ (y 0).val = 1), if_pos h2]
    refine congrArg₂ (· + ·) ?_ rfl
    pointwise [View.ld, k0_pay10]
  refine (Cert.Ret.canon_miss _ _ _ y (0 : Fin 2) (Or.inr (by show 2 + 1 ≤ _; omega))).trans ?_
  refine (Cert.Ret.canon_miss _ _ _ y (0 : Fin 2) (Or.inr (by show 1 + 1 ≤ _; omega))).trans ?_
  refine (Cert.Ret.canon_miss _ _ _ y (0 : Fin 2) (Or.inr (by show 0 + 1 ≤ _; omega))).trans ?_
  refine (Cert.Ret.canon_hit _ _ _ y y (Fin.forall_fin_two.mpr ⟨(Nat.zero_add _).symm, (Nat.zero_add _).symm⟩)).trans ?_
  unfold inc
  rw [if_neg h0, if_neg h1, if_neg h2]
  pointwise [k0_pay10]

/-- A buffer whose first three rows were stored one at a time, at an element. -/
theorem read_rows {κ : Kind} {sp : Space} (v : View sig κ sp S8x1024 .f32) (f : v.ty.Contents (Elt Ideal)) (i0 i1 i2) (w0 w1 w2 : S1x1024.Idx → EReal) (y : S8x1024.Idx) :
    v.read (Elt Ideal) (v.writes (Elt Ideal) f [⟨Rect.unit (s := S8x1024) ![2, 0] ![1, 1024] i2, w2⟩, ⟨Rect.unit (s := S8x1024) ![1, 0] ![1, 1024] i1, w1⟩, ⟨Rect.unit (s := S8x1024) ![0, 0] ![1, 1024] i0, w0⟩]) y
      = if (y 0).val = 0 then w0 (ix2 0 (y 1)) else if (y 0).val = 1 then w1 (ix2 0 (y 1)) else if (y 0).val = 2 then w2 (ix2 0 (y 1)) else v.read (Elt Ideal) f y := by
  by_cases h0 : (y 0).val = 0
  · rw [if_pos h0]
    refine (View.read_writes_cons_rows_of_not_mem (o := 2) (W := 1) _ _ _ _ _ y rfl rfl (by omega)).trans ?_
    refine (View.read_writes_cons_rows_of_not_mem (o := 1) (W := 1) _ _ _ _ _ y rfl rfl (by omega)).trans ?_
    exact View.read_writes_cons_rows_of_mem (o := 0) _ _ _ _ _ y (ix2 0 (y 1)) rfl h0 rfl
  rw [if_neg h0]
  by_cases h1 : (y 0).val = 1
  · rw [if_pos h1]
    refine (View.read_writes_cons_rows_of_not_mem (o := 2) (W := 1) _ _ _ _ _ y rfl rfl (by omega)).trans ?_
    exact View.read_writes_cons_rows_of_mem (o := 1) _ _ _ _ _ y (ix2 0 (y 1)) rfl h1 rfl
  rw [if_neg h1]
  by_cases h2 : (y 0).val = 2
  · rw [if_pos h2]
    exact View.read_writes_cons_rows_of_mem (o := 2) _ _ _ _ _ y (ix2 0 (y 1)) rfl h2 rfl
  rw [if_neg h2]
  refine (View.read_writes_cons_rows_of_not_mem (o := 2) (W := 1) _ _ _ _ _ y rfl rfl (by omega)).trans ?_
  refine (View.read_writes_cons_rows_of_not_mem (o := 1) (W := 1) _ _ _ _ _ y rfl rfl (by omega)).trans ?_
  refine (View.read_writes_cons_rows_of_not_mem (o := 0) (W := 1) _ _ _ _ _ y rfl rfl (by omega)).trans ?_
  rw [View.writes_nil]

theorem point_13_B (c : Dev nD) (t : Fin cfg0.N) (hB : ¬ t.val % 16 = 0) (y : S8x1024.Idx) :
    (outsAt0 m c t.val t.isLt).2 y = (outsAt0 m c (t.val - 1) (lt_of_le_of_lt (Nat.sub_le _ _) t.isLt)).2 y + inc (du m c t) (iblk m c 8 t) (iblk m c 9 t) (iblk m c 10 t) y := by
  rw [outsAt0_B m c t hB]
  frame_out
  generalize (outsAt0 m c (t.val - 1) _).2 = p
  refine (read_rows _ _ _ _ _ _ _ _ y).trans ?_
  unfold inc
  by_cases h0 : (y 0).val = 0
  · rw [if_pos h0, if_pos h0]
    exact (pay1_at _ _ _ (du m c t) _ (iblk m c 9 t) _ rfl _ _).trans (congrArg₂ (· + ·) (Cert.DgradCall.ld_row p 0 _ y h0) rfl)
  rw [if_neg h0, if_neg h0]
  by_cases h1 : (y 0).val = 1
  · rw [if_pos h1, if_pos h1]
    exact (pay2_at (du m c t) _ _).trans (congrArg₂ (· + ·) (Cert.DgradCall.ld_row p 1 _ y h1) rfl)
  rw [if_neg h1, if_neg h1]
  by_cases h2 : (y 0).val = 2
  · rw [if_pos h2, if_pos h2]
    exact (pay3_at (du m c t) _ _ (iblk m c 10 t) _ _).trans (congrArg₂ (· + ·) (Cert.DgradCall.ld_row p 2 _ y h2) rfl)
  rw [if_neg h2, if_neg h2, add_zero]
  exact congrFun (Memref.IsWhole.read_unread _ p) y

theorem sum_inc (c : Dev nD) (j : S8x1024.Idx) :
    ∑ p : Fin 16, inc (du m c ⟨p.val, lt_of_lt_of_eq p.isLt N_0.symm⟩) (iblk m c 8 ⟨p.val, lt_of_lt_of_eq p.isLt N_0.symm⟩) (iblk m c 9 ⟨p.val, lt_of_lt_of_eq p.isLt N_0.symm⟩) (iblk m c 10 ⟨p.val, lt_of_lt_of_eq p.isLt N_0.symm⟩) j = refStats (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) j := by
  obtain ⟨i, q, rfl⟩ : ∃ i q, j = ix2 i q := ⟨j 0, j 1, (ix2_eta j).symm⟩
  unfold inc
  by_cases h0 : i = 0
  · subst h0
    rw [refStats_0]
    refine Eq.trans (Finset.sum_congr rfl fun p _ => if_pos rfl) ?_
    refine Fin.sum_mul_add_congr fun s k hl => ?_
    refine congrArg₂ (fun a b : EReal => a * b) (congrArg₂ (fun a b : EReal => a * b) (du_at m c ⟨s.val, lt_of_lt_of_eq s.isLt N_0.symm⟩ k q) ?_) ?_
    · blk_point [iblk, V, idx ⟨s.val, lt_of_lt_of_eq s.isLt N_0.symm⟩]
    · blk_point [iblk, V, idx ⟨s.val, lt_of_lt_of_eq s.isLt N_0.symm⟩]
  by_cases h1 : i = 1
  · subst h1
    rw [refStats_1]
    refine Eq.trans (Finset.sum_congr rfl fun p _ => (if_neg (by show ¬ (_ : ℕ) = _; exact of_decide_eq_true rfl)).trans (if_pos rfl)) ?_
    refine Fin.sum_mul_add_congr fun s k hl => ?_
    exact du_at m c ⟨s.val, lt_of_lt_of_eq s.isLt N_0.symm⟩ k q
  by_cases h2 : i = 2
  · subst h2
    rw [refStats_2]
    refine Eq.trans (Finset.sum_congr rfl fun p _ => (if_neg (by show ¬ (_ : ℕ) = _; exact of_decide_eq_true rfl)).trans ((if_neg (by show ¬ (_ : ℕ) = _; exact of_decide_eq_true rfl)).trans (if_pos rfl))) ?_
    refine Fin.sum_mul_add_congr fun s k hl => ?_
    refine congrArg₂ (fun a b : EReal => a * b) (du_at m c ⟨s.val, lt_of_lt_of_eq s.isLt N_0.symm⟩ k q) ?_
    · blk_point [iblk, V, idx ⟨s.val, lt_of_lt_of_eq s.isLt N_0.symm⟩]
  have g0 : ¬ i.val = 0 := fun h => h0 (Fin.ext h)
  have g1 : ¬ i.val = 1 := fun h => h1 (Fin.ext h)
  have g2 : ¬ i.val = 2 := fun h => h2 (Fin.ext h)
  rw [refStats_rest _ _ _ _ _ _ _ _ _ _ _ _ i q g0 g1 g2]
  exact Finset.sum_eq_zero fun p _ => (if_neg g0).trans ((if_neg g1).trans (if_neg g2))

theorem final_13 (c : Dev nD) : (dats m 0 c).arrAt 13 (cfgs 0).N = refStats (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_after_last 13 t0_15 (by decide +kernel) _ fun j => ?_
  blk_simp
  rw [after0_13, Pipeline.eq_sum_fin_of_reset_step_apply_last (fun n h => (outsAt0 m c n h).2) 16 (fun _ => 0) _
    (fun t h j => point_13_A m c t h j) (fun t h j => point_13_B m c t h j) (le_of_eq N_0) t0_15 rfl j, zero_add]
  exact sum_inc m c j

/-- The call computes what the reference computes. -/
theorem algebraic : Cert.algebraic_MdgradIdeal_RefMdgradIdeal_pre_finite_mdgrad := by
  intro m g m' g' hpre hagree
  refine ⟨fun c => refDh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)), fun c => refStats (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)), ?_, ?_⟩
  · refine (θ_run _ _ _).mono (fun r h c => ?_) (Cert.MdgradIdeal.Value.run_blocks m g)
    exact ⟨(h c).1.trans (final_12 m c (finite m hpre c)), (h c).2.1.trans (final_13 m c), (h c).2.2⟩
  · refine (θ_run _ _ _).mono (fun r h c => ?_) (Cert.RefMdgradIdeal.Value.run m' g')
    obtain ⟨e0, e1, e2, e3, e4, e5, e6, e7, e8, e9, e10, e11⟩ := hagree c
    refine ⟨(h c).1.trans ?_, (h c).2.1.trans ?_, (h c).2.2⟩
    · have k := congr (congr (congr (congr (congr (congr (congr (congr (congr (congr (congr (congrArg refDh e0) e1) e2) e3) e4) e5) e6) e7) e8) e9) e10) e11
      exact k
    · have k := congr (congr (congr (congr (congr (congr (congr (congr (congr (congr (congr (congrArg refStats e0) e1) e2) e3) e4) e5) e6) e7) e8) e9) e10) e11
      exact k

end Cert.MdgradCall

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Dact
public import proofs.«01_k».proof.Proof.Gen.Dact.Frame
public import proofs.«01_k».proof.Proof.Gen.DactIdeal
public import proofs.«01_k».proof.Proof.Gen.DactIdeal.Frame
public import proofs.«01_k».proof.Proof.Gen.DactIdeal.Value
public import proofs.«01_k».proof.Proof.Gen.RefDactIdeal
public import proofs.«01_k».proof.Proof.Gen.RefDactIdeal.Run
public import proofs.«01_k».proof.Proof.Gen.Dwd
public import proofs.«01_k».proof.Proof.Gen.Dwd.Frame
public import proofs.«01_k».proof.Proof.Gen.DwdIdeal
public import proofs.«01_k».proof.Proof.Gen.DwdIdeal.Frame
public import proofs.«01_k».proof.Proof.Gen.DwdIdeal.Value
public import proofs.«01_k».proof.Proof.Gen.RefDwdIdeal
public import proofs.«01_k».proof.Proof.Gen.RefDwdIdeal.Run
public import proofs.«01_k».proof.Proof.Gen.Dwg
public import proofs.«01_k».proof.Proof.Gen.Dwg.Frame
public import proofs.«01_k».proof.Proof.Gen.DwgIdeal
public import proofs.«01_k».proof.Proof.Gen.DwgIdeal.Frame
public import proofs.«01_k».proof.Proof.Gen.DwgIdeal.Value
public import proofs.«01_k».proof.Proof.Gen.RefDwgIdeal
public import proofs.«01_k».proof.Proof.Gen.RefDwgIdeal.Run
public import proofs.«01_k».proof.Proof.Gen.Dgrad
public import proofs.«01_k».proof.Proof.Gen.Dgrad.Frame
public import proofs.«01_k».proof.Proof.Gen.DgradIdeal
public import proofs.«01_k».proof.Proof.Gen.DgradIdeal.Frame
public import proofs.«01_k».proof.Proof.Gen.DgradIdeal.Value
public import proofs.«01_k».proof.Proof.Gen.RefDgradIdeal
public import proofs.«01_k».proof.Proof.Gen.RefDgradIdeal.Run
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.RefUpIdeal
public import proofs.«01_k».proof.Proof.Gen.RefUpIdeal.Run
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.RefDownIdeal
public import proofs.«01_k».proof.Proof.Gen.RefDownIdeal.Run
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.RefGateIdeal
public import proofs.«01_k».proof.Proof.Gen.RefGateIdeal.Run
public import proofs.«01_k».proof.Proof.Gen.Mgate
public import proofs.«01_k».proof.Proof.Gen.Mgate.Frame
public import proofs.«01_k».proof.Proof.Gen.MgateIdeal
public import proofs.«01_k».proof.Proof.Gen.MgateIdeal.Frame
public import proofs.«01_k».proof.Proof.Gen.MgateIdeal.Value
public import proofs.«01_k».proof.Proof.Gen.RefMgateIdeal
public import proofs.«01_k».proof.Proof.Gen.RefMgateIdeal.Run
public import proofs.«01_k».proof.Proof.Gen.Gnorm
public import proofs.«01_k».proof.Proof.Gen.Gnorm.Frame
public import proofs.«01_k».proof.Proof.Gen.GnormIdeal
public import proofs.«01_k».proof.Proof.Gen.GnormIdeal.Frame
public import proofs.«01_k».proof.Proof.Gen.GnormIdeal.Value
public import proofs.«01_k».proof.Proof.Gen.RefGnormIdeal
public import proofs.«01_k».proof.Proof.Gen.RefGnormIdeal.Run
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvIdeal.Value
public import proofs.«01_k».proof.Proof.Gen.RefConvIdeal
public import proofs.«01_k».proof.Proof.Gen.RefConvIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.RefProjIdeal
public import proofs.«01_k».proof.Proof.Gen.RefProjIdeal.Run
public import proofs.«01_k».proof.Proof.Gen.Dycat
public import proofs.«01_k».proof.Proof.Gen.Dycat.Frame
public import proofs.«01_k».proof.Proof.Gen.DycatIdeal
public import proofs.«01_k».proof.Proof.Gen.DycatIdeal.Frame
public import proofs.«01_k».proof.Proof.Gen.DycatIdeal.Value
public import proofs.«01_k».proof.Proof.Gen.RefDycatIdeal
public import proofs.«01_k».proof.Proof.Gen.RefDycatIdeal.Run
public import proofs.«01_k».proof.Proof.Gen.Mout
public import proofs.«01_k».proof.Proof.Gen.Mout.Frame
public import proofs.«01_k».proof.Proof.Gen.MoutIdeal
public import proofs.«01_k».proof.Proof.Gen.MoutIdeal.Frame
public import proofs.«01_k».proof.Proof.Gen.MoutIdeal.Value
public import proofs.«01_k».proof.Proof.Gen.RefMoutIdeal
public import proofs.«01_k».proof.Proof.Gen.RefMoutIdeal.Run
public import proofs.«01_k».proof.Proof.Gen.Dwout
public import proofs.«01_k».proof.Proof.Gen.Dwout.Frame
public import proofs.«01_k».proof.Proof.Gen.DwoutIdeal
public import proofs.«01_k».proof.Proof.Gen.DwoutIdeal.Frame
public import proofs.«01_k».proof.Proof.Gen.DwoutIdeal.Value
public import proofs.«01_k».proof.Proof.Gen.RefDwoutIdeal
public import proofs.«01_k».proof.Proof.Gen.RefDwoutIdeal.Run
public import proofs.«01_k».proof.Proof.Gen.Dwret
public import proofs.«01_k».proof.Proof.Gen.Dwret.Frame
public import proofs.«01_k».proof.Proof.Gen.DwretIdeal
public import proofs.«01_k».proof.Proof.Gen.DwretIdeal.Frame
public import proofs.«01_k».proof.Proof.Gen.DwretIdeal.Value
public import proofs.«01_k».proof.Proof.Gen.RefDwretIdeal
public import proofs.«01_k».proof.Proof.Gen.RefDwretIdeal.Run
public import proofs.«01_k».proof.Proof.Gen.Dwxbc
public import proofs.«01_k».proof.Proof.Gen.Dwxbc.Frame
public import proofs.«01_k».proof.Proof.Gen.DwxbcIdeal
public import proofs.«01_k».proof.Proof.Gen.DwxbcIdeal.Frame
public import proofs.«01_k».proof.Proof.Gen.DwxbcIdeal.Value
public import proofs.«01_k».proof.Proof.Gen.RefDwxbcIdeal
public import proofs.«01_k».proof.Proof.Gen.RefDwxbcIdeal.Run
public import proofs.«01_k».proof.Proof.Gen.Dwb
public import proofs.«01_k».proof.Proof.Gen.Dwb.Frame
public import proofs.«01_k».proof.Proof.Gen.DwbIdeal
public import proofs.«01_k».proof.Proof.Gen.DwbIdeal.Frame
public import proofs.«01_k».proof.Proof.Gen.DwbIdeal.Value
public import proofs.«01_k».proof.Proof.Gen.RefDwbIdeal
public import proofs.«01_k».proof.Proof.Gen.RefDwbIdeal.Run
public import proofs.«01_k».proof.Proof.Gen.Dwf
public import proofs.«01_k».proof.Proof.Gen.Dwf.Frame
public import proofs.«01_k».proof.Proof.Gen.DwfIdeal
public import proofs.«01_k».proof.Proof.Gen.DwfIdeal.Frame
public import proofs.«01_k».proof.Proof.Gen.DwfIdeal.Value
public import proofs.«01_k».proof.Proof.Gen.RefDwfIdeal
public import proofs.«01_k».proof.Proof.Gen.RefDwfIdeal.Run
public import proofs.«01_k».proof.Proof.Gen.Mdgrad
public import proofs.«01_k».proof.Proof.Gen.Mdgrad.Frame
public import proofs.«01_k».proof.Proof.Gen.MdgradIdeal
public import proofs.«01_k».proof.Proof.Gen.MdgradIdeal.Frame
public import proofs.«01_k».proof.Proof.Gen.MdgradIdeal.Value
public import proofs.«01_k».proof.Proof.Gen.RefMdgradIdeal
public import proofs.«01_k».proof.Proof.Gen.RefMdgradIdeal.Run
public import proofs.«01_k».proof.Proof.Gen.Pre_finite
public import proofs.«01_k».proof.Proof.Gen.Pre_finite_dact
public import proofs.«01_k».proof.Proof.Gen.Pre_finite_dgrad
public import proofs.«01_k».proof.Proof.Gen.Pre_finite_gnorm
public import proofs.«01_k».proof.Proof.Gen.Pre_finite_conv
public import proofs.«01_k».proof.Proof.Gen.Pre_finite_mdgrad
public import proofs.«01_k».proof.Proof.Final
public import proofs.«01_k».proof.Proof.DactValue
public import proofs.«01_k».proof.Proof.DwdValue
public import proofs.«01_k».proof.Proof.DwgValue
public import proofs.«01_k».proof.Proof.DgradValue
public import proofs.«01_k».proof.Proof.UpValue
public import proofs.«01_k».proof.Proof.DownValue
public import proofs.«01_k».proof.Proof.GateValue
public import proofs.«01_k».proof.Proof.MgateValue
public import proofs.«01_k».proof.Proof.GnormValue
public import proofs.«01_k».proof.Proof.ConvValue
public import proofs.«01_k».proof.Proof.ProjValue
public import proofs.«01_k».proof.Proof.DycatValue
public import proofs.«01_k».proof.Proof.MoutValue
public import proofs.«01_k».proof.Proof.DwoutValue
public import proofs.«01_k».proof.Proof.DwretValue
public import proofs.«01_k».proof.Proof.DwxbcValue
public import proofs.«01_k».proof.Proof.DwbValue
public import proofs.«01_k».proof.Proof.DwfValue
public import proofs.«01_k».proof.Proof.MdgradValue
public import Idealize.ShloMosaic.Lib.Quiescent
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Dact.Gen.facts, Cert.DactIdeal.Gen.facts, Cert.RefDactIdeal.Gen.facts, Cert.Dwd.Gen.facts, Cert.DwdIdeal.Gen.facts, Cert.RefDwdIdeal.Gen.facts, Cert.Dwg.Gen.facts, Cert.DwgIdeal.Gen.facts, Cert.RefDwgIdeal.Gen.facts, Cert.Dgrad.Gen.facts, Cert.DgradIdeal.Gen.facts, Cert.RefDgradIdeal.Gen.facts, Cert.Up.Gen.facts, Cert.UpIdeal.Gen.facts, Cert.RefUpIdeal.Gen.facts, Cert.Down.Gen.facts, Cert.DownIdeal.Gen.facts, Cert.RefDownIdeal.Gen.facts, Cert.Gate.Gen.facts, Cert.GateIdeal.Gen.facts, Cert.RefGateIdeal.Gen.facts, Cert.Mgate.Gen.facts, Cert.MgateIdeal.Gen.facts, Cert.RefMgateIdeal.Gen.facts, Cert.Gnorm.Gen.facts, Cert.GnormIdeal.Gen.facts, Cert.RefGnormIdeal.Gen.facts, Cert.Conv.Gen.facts, Cert.ConvIdeal.Gen.facts, Cert.RefConvIdeal.Gen.facts, Cert.Proj.Gen.facts, Cert.ProjIdeal.Gen.facts, Cert.RefProjIdeal.Gen.facts, Cert.Dycat.Gen.facts, Cert.DycatIdeal.Gen.facts, Cert.RefDycatIdeal.Gen.facts, Cert.Mout.Gen.facts, Cert.MoutIdeal.Gen.facts, Cert.RefMoutIdeal.Gen.facts, Cert.Dwout.Gen.facts, Cert.DwoutIdeal.Gen.facts, Cert.RefDwoutIdeal.Gen.facts, Cert.Dwret.Gen.facts, Cert.DwretIdeal.Gen.facts, Cert.RefDwretIdeal.Gen.facts, Cert.Dwxbc.Gen.facts, Cert.DwxbcIdeal.Gen.facts, Cert.RefDwxbcIdeal.Gen.facts, Cert.Dwb.Gen.facts, Cert.DwbIdeal.Gen.facts, Cert.RefDwbIdeal.Gen.facts, Cert.Dwf.Gen.facts, Cert.DwfIdeal.Gen.facts, Cert.RefDwfIdeal.Gen.facts, Cert.Mdgrad.Gen.facts, Cert.MdgradIdeal.Gen.facts, Cert.RefMdgradIdeal.Gen.facts, Cert.Pre_finite.Gen.facts, Cert.Pre_finite_dact.Gen.facts, Cert.Pre_finite_dgrad.Gen.facts, Cert.Pre_finite_gnorm.Gen.facts, Cert.Pre_finite_conv.Gen.facts, Cert.Pre_finite_mdgrad.Gen.facts,
  fun m g _ => Cert.Kernel.Gen.frame m g,
  fun m g _ => Cert.KernelIdeal.Gen.frame m g,
  fun m g _ => Cert.KernelIdeal.Gen.frame m g,
  fun m g _ => (θ_run _ _ _).mono (fun r h => ⟨fun c => (h c).2.2, sem_eq_zero_of_no_sems (by decide) r.2⟩) (Cert.ReferenceIdeal.Value.run m g),
  fun m g _ => (θ_run _ _ _).mono (fun r h => ⟨fun c => (h c).2.2, sem_eq_zero_of_no_sems (by decide) r.2⟩) (Cert.ReferenceIdeal.Value.run m g),
  fun m g _ => Cert.Dact.Gen.frame m g,
  fun m g _ => Cert.DactIdeal.Gen.frame m g,
  fun m g _ => Cert.DactIdeal.Gen.frame m g,
  fun m g _ => (θ_run _ _ _).mono (fun r h => ⟨fun c => (h c).2.2, sem_eq_zero_of_no_sems (by decide) r.2⟩) (Cert.RefDactIdeal.Value.run m g),
  fun m g _ => (θ_run _ _ _).mono (fun r h => ⟨fun c => (h c).2.2, sem_eq_zero_of_no_sems (by decide) r.2⟩) (Cert.RefDactIdeal.Value.run m g),
  fun m g _ => Cert.Dwd.Gen.frame m g,
  fun m g _ => Cert.DwdIdeal.Gen.frame m g,
  fun m g _ => (θ_run _ _ _).mono (fun r h => ⟨fun c => (h c).2, sem_eq_zero_of_no_sems (by decide) r.2⟩) (Cert.RefDwdIdeal.Value.run m g),
  fun m g _ => Cert.Dwg.Gen.frame m g,
  fun m g _ => Cert.DwgIdeal.Gen.frame m g,
  fun m g _ => (θ_run _ _ _).mono (fun r h => ⟨fun c => (h c).2, sem_eq_zero_of_no_sems (by decide) r.2⟩) (Cert.RefDwgIdeal.Value.run m g),
  fun m g _ => Cert.Dgrad.Gen.frame m g,
  fun m g _ => Cert.DgradIdeal.Gen.frame m g,
  fun m g _ => Cert.DgradIdeal.Gen.frame m g,
  fun m g _ => (θ_run _ _ _).mono (fun r h => ⟨fun c => (h c).2.2, sem_eq_zero_of_no_sems (by decide) r.2⟩) (Cert.RefDgradIdeal.Value.run m g),
  fun m g _ => (θ_run _ _ _).mono (fun r h => ⟨fun c => (h c).2.2, sem_eq_zero_of_no_sems (by decide) r.2⟩) (Cert.RefDgradIdeal.Value.run m g),
  fun m g _ => Cert.Up.Gen.frame m g,
  fun m g _ => Cert.UpIdeal.Gen.frame m g,
  fun m g _ => (θ_run _ _ _).mono (fun r h => ⟨fun c => (h c).2.2.2, sem_eq_zero_of_no_sems (by decide) r.2⟩) (Cert.RefUpIdeal.Value.run m g),
  fun m g _ => Cert.Down.Gen.frame m g,
  fun m g _ => Cert.DownIdeal.Gen.frame m g,
  fun m g _ => (θ_run _ _ _).mono (fun r h => ⟨fun c => (h c).2.2, sem_eq_zero_of_no_sems (by decide) r.2⟩) (Cert.RefDownIdeal.Value.run m g),
  fun m g _ => Cert.Gate.Gen.frame m g,
  fun m g _ => Cert.GateIdeal.Gen.frame m g,
  fun m g _ => (θ_run _ _ _).mono (fun r h => ⟨fun c => (h c).2.2, sem_eq_zero_of_no_sems (by decide) r.2⟩) (Cert.RefGateIdeal.Value.run m g),
  fun m g _ => Cert.Mgate.Gen.frame m g,
  fun m g _ => Cert.MgateIdeal.Gen.frame m g,
  fun m g _ => (θ_run _ _ _).mono (fun r h => ⟨fun c => (h c).2.2, sem_eq_zero_of_no_sems (by decide) r.2⟩) (Cert.RefMgateIdeal.Value.run m g),
  fun m g _ => Cert.Gnorm.Gen.frame m g,
  fun m g _ => Cert.GnormIdeal.Gen.frame m g,
  fun m g _ => Cert.GnormIdeal.Gen.frame m g,
  fun m g _ => (θ_run _ _ _).mono (fun r h => ⟨fun c => (h c).2.2.2, sem_eq_zero_of_no_sems (by decide) r.2⟩) (Cert.RefGnormIdeal.Value.run m g),
  fun m g _ => (θ_run _ _ _).mono (fun r h => ⟨fun c => (h c).2.2.2, sem_eq_zero_of_no_sems (by decide) r.2⟩) (Cert.RefGnormIdeal.Value.run m g),
  fun m g _ => Cert.Conv.Gen.frame m g,
  fun m g _ => Cert.ConvIdeal.Gen.frame m g,
  fun m g _ => Cert.ConvIdeal.Gen.frame m g,
  fun m g _ => (θ_run _ _ _).mono (fun r h => ⟨fun c => (h c).2.2, sem_eq_zero_of_no_sems (by decide) r.2⟩) (Cert.RefConvIdeal.Value.run m g),
  fun m g _ => (θ_run _ _ _).mono (fun r h => ⟨fun c => (h c).2.2, sem_eq_zero_of_no_sems (by decide) r.2⟩) (Cert.RefConvIdeal.Value.run m g),
  fun m g _ => Cert.Proj.Gen.frame m g,
  fun m g _ => Cert.ProjIdeal.Gen.frame m g,
  fun m g _ => (θ_run _ _ _).mono (fun r h => ⟨fun c => (h c).2, sem_eq_zero_of_no_sems (by decide) r.2⟩) (Cert.RefProjIdeal.Value.run m g),
  fun m g _ => Cert.Dycat.Gen.frame m g,
  fun m g _ => Cert.DycatIdeal.Gen.frame m g,
  fun m g _ => (θ_run _ _ _).mono (fun r h => ⟨fun c => (h c).2, sem_eq_zero_of_no_sems (by decide) r.2⟩) (Cert.RefDycatIdeal.Value.run m g),
  fun m g _ => Cert.Mout.Gen.frame m g,
  fun m g _ => Cert.MoutIdeal.Gen.frame m g,
  fun m g _ => (θ_run _ _ _).mono (fun r h => ⟨fun c => (h c).2.2, sem_eq_zero_of_no_sems (by decide) r.2⟩) (Cert.RefMoutIdeal.Value.run m g),
  fun m g _ => Cert.Dwout.Gen.frame m g,
  fun m g _ => Cert.DwoutIdeal.Gen.frame m g,
  fun m g _ => (θ_run _ _ _).mono (fun r h => ⟨fun c => (h c).2, sem_eq_zero_of_no_sems (by decide) r.2⟩) (Cert.RefDwoutIdeal.Value.run m g),
  fun m g _ => Cert.Dwret.Gen.frame m g,
  fun m g _ => Cert.DwretIdeal.Gen.frame m g,
  fun m g _ => (θ_run _ _ _).mono (fun r h => ⟨fun c => (h c).2, sem_eq_zero_of_no_sems (by decide) r.2⟩) (Cert.RefDwretIdeal.Value.run m g),
  fun m g _ => Cert.Dwxbc.Gen.frame m g,
  fun m g _ => Cert.DwxbcIdeal.Gen.frame m g,
  fun m g _ => (θ_run _ _ _).mono (fun r h => ⟨fun c => (h c).2, sem_eq_zero_of_no_sems (by decide) r.2⟩) (Cert.RefDwxbcIdeal.Value.run m g),
  fun m g _ => Cert.Dwb.Gen.frame m g,
  fun m g _ => Cert.DwbIdeal.Gen.frame m g,
  fun m g _ => (θ_run _ _ _).mono (fun r h => ⟨fun c => (h c).2, sem_eq_zero_of_no_sems (by decide) r.2⟩) (Cert.RefDwbIdeal.Value.run m g),
  fun m g _ => Cert.Dwf.Gen.frame m g,
  fun m g _ => Cert.DwfIdeal.Gen.frame m g,
  fun m g _ => (θ_run _ _ _).mono (fun r h => ⟨fun c => (h c).2, sem_eq_zero_of_no_sems (by decide) r.2⟩) (Cert.RefDwfIdeal.Value.run m g),
  fun m g _ => Cert.Mdgrad.Gen.frame m g,
  fun m g _ => Cert.MdgradIdeal.Gen.frame m g,
  fun m g _ => Cert.MdgradIdeal.Gen.frame m g,
  fun m g _ => (θ_run _ _ _).mono (fun r h => ⟨fun c => (h c).2.2, sem_eq_zero_of_no_sems (by decide) r.2⟩) (Cert.RefMdgradIdeal.Value.run m g),
  fun m g _ => (θ_run _ _ _).mono (fun r h => ⟨fun c => (h c).2.2, sem_eq_zero_of_no_sems (by decide) r.2⟩) (Cert.RefMdgradIdeal.Value.run m g),
  trivial,
  Cert.Ret.algebraic,
  trivial,
  Cert.DactCall.algebraic,
  trivial,
  Cert.DwdCall.algebraic,
  trivial,
  Cert.DwgCall.algebraic,
  trivial,
  Cert.DgradCall.algebraic,
  trivial,
  Cert.UpCall.algebraic,
  trivial,
  Cert.DownCall.algebraic,
  trivial,
  Cert.GateCall.algebraic,
  trivial,
  Cert.MgateCall.algebraic,
  trivial,
  Cert.GnormCall.algebraic,
  trivial,
  Cert.ConvCall.algebraic,
  trivial,
  Cert.ProjCall.algebraic,
  trivial,
  Cert.DycatCall.algebraic,
  trivial,
  Cert.MoutCall.algebraic,
  trivial,
  Cert.DwoutCall.algebraic,
  trivial,
  Cert.DwretCall.algebraic,
  trivial,
  Cert.DwxbcCall.algebraic,
  trivial,
  Cert.DwbCall.algebraic,
  trivial,
  Cert.DwfCall.algebraic,
  trivial,
  Cert.MdgradCall.algebraic⟩

end Cert.Proof

end
